-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8192x64x32 : Shape := ⟨3, ![8192, 64, 32]⟩
abbrev S128 : Shape := ⟨1, ![128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn_part1 {F : FTy → Type} [FloatOps F] (main_arg5 : IVec S128 32) (main_v12 : IVec S_ 1) (main_v14 : IVec S128 1) (main_v15 : IVec S128 32) : IVec S_ 1 :=
  let main_v16 : IVec S128 1 := cmpi .slt main_arg5 main_v15
  let main_v17 : IVec S128 1 := andi main_v14 main_v16
  let main_c_7 : IVec S_ 1 := constantI S_ 1 1#1
  let main_v18 : IVec S_ 1 := (fun x v => Host.reduce IntOp.andi x v reducesTo_S128_S_d0 h_S_) main_v17 main_c_7
  let main_v19 : IVec S_ 1 := andi main_v12 main_v18
  main_v19

def fn {F : FTy → Type} [FloatOps F] (main_arg0 : FVec F S8192x64x32 .f32) (main_arg1 : FVec F S8192x64x32 .f32) (main_arg2 : FVec F S128 .f32) (main_arg3 : IVec S128 32) (main_arg4 : IVec S128 32) (main_arg5 : IVec S128 32) : IVec S_ 1 :=
  let main_c : IVec S_ 32 := constantI S_ 32 0#32
  let main_v0 : IVec S128 32 := broadcastInDim S128 ![] bcast_S_S128 main_c
  let main_v1 : IVec S128 1 := cmpi .sge main_arg3 main_v0
  let main_c_0 : IVec S_ 32 := constantI S_ 32 64#32
  let main_v2 : IVec S128 32 := broadcastInDim S128 ![] bcast_S_S128 main_c_0
  let main_v3 : IVec S128 1 := cmpi .slt main_arg3 main_v2
  let main_v4 : IVec S128 1 := andi main_v1 main_v3
  let main_c_1 : IVec S_ 1 := constantI S_ 1 1#1
  let main_v5 : IVec S_ 1 := (fun x v => Host.reduce IntOp.andi x v reducesTo_S128_S_d0 h_S_) main_v4 main_c_1
  let main_c_2 : IVec S_ 32 := constantI S_ 32 0#32
  let main_v6 : IVec S128 32 := broadcastInDim S128 ![] bcast_S_S128 main_c_2
  let main_v7 : IVec S128 1 := cmpi .sge main_arg4 main_v6
  let main_c_3 : IVec S_ 32 := constantI S_ 32 64#32
  let main_v8 : IVec S128 32 := broadcastInDim S128 ![] bcast_S_S128 main_c_3
  let main_v9 : IVec S128 1 := cmpi .slt main_arg4 main_v8
  let main_v10 : IVec S128 1 := andi main_v7 main_v9
  let main_c_4 : IVec S_ 1 := constantI S_ 1 1#1
  let main_v11 : IVec S_ 1 := (fun x v => Host.reduce IntOp.andi x v reducesTo_S128_S_d0 h_S_) main_v10 main_c_4
  let main_v12 : IVec S_ 1 := andi main_v5 main_v11
  let main_c_5 : IVec S_ 32 := constantI S_ 32 0#32
  let main_v13 : IVec S128 32 := broadcastInDim S128 ![] bcast_S_S128 main_c_5
  let main_v14 : IVec S128 1 := cmpi .sge main_arg5 main_v13
  let main_c_6 : IVec S_ 32 := constantI S_ 32 64#32
  let main_v15 : IVec S128 32 := broadcastInDim S128 ![] bcast_S_S128 main_c_6
  fn_part1 (F := F) main_arg5 main_v12 main_v14 main_v15
-- ==== Kernel.lean ====
abbrev S8192x64x32 : Shape := ⟨3, ![8192, 64, 32]⟩
abbrev S128 : Shape := ⟨1, ![128]⟩
abbrev S8192x2048 : Shape := ⟨2, ![8192, 2048]⟩
abbrev S2048 : Shape := ⟨1, ![2048]⟩
abbrev S8x2048 : Shape := ⟨2, ![8, 2048]⟩
abbrev S_ : Shape := ⟨0, ![]⟩
abbrev S16 : Shape := ⟨1, ![16]⟩
abbrev S1 : Shape := ⟨1, ![1]⟩
abbrev S1x16 : Shape := ⟨2, ![1, 16]⟩

abbrev nBuf : Table → Nat
  | .hbm => 10
  | .local .scVector .vmem => 11
  | _ => 0

abbrev bufTy : (tb : Table) → Fin (nBuf tb) → BufTy
  | .hbm, ⟨0, _⟩ => ⟨S8192x64x32, .f32⟩
  | .hbm, ⟨1, _⟩ => ⟨S8192x64x32, .f32⟩
  | .hbm, ⟨2, _⟩ => ⟨S128, .f32⟩
  | .hbm, ⟨3, _⟩ => ⟨S128, .i32⟩
  | .hbm, ⟨4, _⟩ => ⟨S128, .i32⟩
  | .hbm, ⟨5, _⟩ => ⟨S128, .i32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x64x32, .f32⟩
  | .local .scVector .vmem, ⟨0, _⟩ => ⟨S128, .i32⟩
  | .local .scVector .vmem, ⟨1, _⟩ => ⟨S128, .i32⟩
  | .local .scVector .vmem, ⟨2, _⟩ => ⟨S128, .i32⟩
  | .local .scVector .vmem, ⟨3, _⟩ => ⟨S128, .f32⟩
  | .local .scVector .vmem, ⟨4, _⟩ => ⟨S2048, .f32⟩
  | .local .scVector .vmem, ⟨5, _⟩ => ⟨S8x2048, .f32⟩
  | .local .scVector .vmem, ⟨6, _⟩ => ⟨S8x2048, .f32⟩
  | .local .scVector .vmem, ⟨7, _⟩ => ⟨S8x2048, .f32⟩
  | .local .scVector .vmem, ⟨8, _⟩ => ⟨S8x2048, .f32⟩
  | .local .scVector .vmem, ⟨9, _⟩ => ⟨S8x2048, .f32⟩
  | .local .scVector .vmem, ⟨10, _⟩ => ⟨S8x2048, .f32⟩
  | _, _ => ⟨S8192x64x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v0_scv : Ref sig .scVector := ⟨.hbm, 6, rfl⟩
abbrev main_v1_scv : Ref sig .scVector := ⟨.hbm, 7, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_arg5_scv : Ref sig .scVector := ⟨.hbm, 5, rfl⟩
abbrev main_v2_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v1036 : BitVec 32 := Scalar.addi v2 c0_i32
  let c0_i32_54 : BitVec 32 := 0#32
  ![v1036.toNat, 0]
@[reducible] def k0_t1_loop : Scf.Loop 32 :=
  let c0_i32_63 : BitVec 32 := 0#32
  let c16_i32 : BitVec 32 := 16#32
  let v1046 : BitVec 32 := Scalar.addi c0_i32_63 c16_i32
  let c1_i32 : BitVec 32 := 1#32
  ⟨c0_i32_63, v1046, c1_i32⟩
@[reducible] def k0_t2_loop : Scf.Loop 32 :=
  let c0_i32_86 : BitVec 32 := 0#32
  let c128_i32 : BitVec 32 := 128#32
  let v1061 : BitVec 32 := Scalar.addi c0_i32_86 c128_i32
  let c1_i32_87 : BitVec 32 := 1#32
  ⟨c0_i32_86, v1061, c1_i32_87⟩
def k0_off2 (k0_t2 : Fin k0_t2_loop.trips) : Fin 2 → Nat :=
  let c0_i32_127 : BitVec 32 := 0#32
  let v1093 : Index := Scalar.indexCast c0_i32_127
  let c0_i32_86 : BitVec 32 := 0#32
  let c1_i32_87 : BitVec 32 := 1#32
  let arg28 : BitVec 32 := Scf.iv c0_i32_86 c1_i32_87 k0_t2
  let c16_i32_126 : BitVec 32 := 16#32
  let v1092 : BitVec 32 := Scalar.muli arg28 c16_i32_126
  let v1094 : Index := Scalar.indexCast v1092
  ![0, v1094.toNat]
def k0_off3 (k0_t2 : Fin k0_t2_loop.trips) : Fin 2 → Nat :=
  let c1_i32_129 : BitVec 32 := 1#32
  let v1099 : Index := Scalar.indexCast c1_i32_129
  let c0_i32_86 : BitVec 32 := 0#32
  let c1_i32_87 : BitVec 32 := 1#32
  let arg28 : BitVec 32 := Scf.iv c0_i32_86 c1_i32_87 k0_t2
  let c16_i32_128 : BitVec 32 := 16#32
  let v1098 : BitVec 32 := Scalar.muli arg28 c16_i32_128
  let v1100 : Index := Scalar.indexCast v1098
  ![1, v1100.toNat]
def k0_off4 (k0_t2 : Fin k0_t2_loop.trips) : Fin 2 → Nat :=
  let c2_i32_131 : BitVec 32 := 2#32
  let v1105 : Index := Scalar.indexCast c2_i32_131
  let c0_i32_86 : BitVec 32 := 0#32
  let c1_i32_87 : BitVec 32 := 1#32
  let arg28 : BitVec 32 := Scf.iv c0_i32_86 c1_i32_87 k0_t2
  let c16_i32_130 : BitVec 32 := 16#32
  let v1104 : BitVec 32 := Scalar.muli arg28 c16_i32_130
  let v1106 : Index := Scalar.indexCast v1104
  ![2, v1106.toNat]
def k0_off5 (k0_t2 : Fin k0_t2_loop.trips) : Fin 2 → Nat :=
  let c3_i32 : BitVec 32 := 3#32
  let v1111 : Index := Scalar.indexCast c3_i32
  let c0_i32_86 : BitVec 32 := 0#32
  let c1_i32_87 : BitVec 32 := 1#32
  let arg28 : BitVec 32 := Scf.iv c0_i32_86 c1_i32_87 k0_t2
  let c16_i32_132 : BitVec 32 := 16#32
  let v1110 : BitVec 32 := Scalar.muli arg28 c16_i32_132
  let v1112 : Index := Scalar.indexCast v1110
  ![3, v1112.toNat]
def k0_off6 (k0_t2 : Fin k0_t2_loop.trips) : Fin 2 → Nat :=
  let c4_i32 : BitVec 32 := 4#32
  let v1117 : Index := Scalar.indexCast c4_i32
  let c0_i32_86 : BitVec 32 := 0#32
  let c1_i32_87 : BitVec 32 := 1#32
  let arg28 : BitVec 32 := Scf.iv c0_i32_86 c1_i32_87 k0_t2
  let c16_i32_133 : BitVec 32 := 16#32
  let v1116 : BitVec 32 := Scalar.muli arg28 c16_i32_133
  let v1118 : Index := Scalar.indexCast v1116
  ![4, v1118.toNat]
def k0_off7 (k0_t2 : Fin k0_t2_loop.trips) : Fin 2 → Nat :=
  let c5_i32 : BitVec 32 := 5#32
  let v1123 : Index := Scalar.indexCast c5_i32
  let c0_i32_86 : BitVec 32 := 0#32
  let c1_i32_87 : BitVec 32 := 1#32
  let arg28 : BitVec 32 := Scf.iv c0_i32_86 c1_i32_87 k0_t2
  let c16_i32_134 : BitVec 32 := 16#32
  let v1122 : BitVec 32 := Scalar.muli arg28 c16_i32_134
  let v1124 : Index := Scalar.indexCast v1122
  ![5, v1124.toNat]
def k0_off8 (k0_t2 : Fin k0_t2_loop.trips) : Fin 2 → Nat :=
  let c6_i32 : BitVec 32 := 6#32
  let v1129 : Index := Scalar.indexCast c6_i32
  let c0_i32_86 : BitVec 32 := 0#32
  let c1_i32_87 : BitVec 32 := 1#32
  let arg28 : BitVec 32 := Scf.iv c0_i32_86 c1_i32_87 k0_t2
  let c16_i32_135 : BitVec 32 := 16#32
  let v1128 : BitVec 32 := Scalar.muli arg28 c16_i32_135
  let v1130 : Index := Scalar.indexCast v1128
  ![6, v1130.toNat]
def k0_off9 (k0_t2 : Fin k0_t2_loop.trips) : Fin 2 → Nat :=
  let c7_i32 : BitVec 32 := 7#32
  let v1135 : Index := Scalar.indexCast c7_i32
  let c0_i32_86 : BitVec 32 := 0#32
  let c1_i32_87 : BitVec 32 := 1#32
  let arg28 : BitVec 32 := Scf.iv c0_i32_86 c1_i32_87 k0_t2
  let c16_i32_136 : BitVec 32 := 16#32
  let v1134 : BitVec 32 := Scalar.muli arg28 c16_i32_136
  let v1136 : Index := Scalar.indexCast v1134
  ![7, v1136.toNat]
@[reducible] def k0_t3_loop : Scf.Loop 32 :=
  let c0_i32_90 : BitVec 32 := 0#32
  let c8_i32_91 : BitVec 32 := 8#32
  let v1063 : BitVec 32 := Scalar.addi c0_i32_90 c8_i32_91
  let c1_i32_92 : BitVec 32 := 1#32
  ⟨c0_i32_90, v1063, c1_i32_92⟩
def k0_off10 (k0_t3 : Fin k0_t3_loop.trips) : Fin 1 → Nat :=
  let c0_i32_90 : BitVec 32 := 0#32
  let c1_i32_92 : BitVec 32 := 1#32
  let arg28 : BitVec 32 := Scf.iv c0_i32_90 c1_i32_92 k0_t3
  let c16_i32_126 : BitVec 32 := 16#32
  let v1092 : BitVec 32 := Scalar.muli arg28 c16_i32_126
  let v1093 : Index := Scalar.indexCast v1092
  ![v1093.toNat]
def k0_off11 (k0_t3 : Fin k0_t3_loop.trips) : Fin 1 → Nat :=
  let c0_i32_90 : BitVec 32 := 0#32
  let c1_i32_92 : BitVec 32 := 1#32
  let arg28 : BitVec 32 := Scf.iv c0_i32_90 c1_i32_92 k0_t3
  let c16_i32_130 : BitVec 32 := 16#32
  let v1105 : BitVec 32 := Scalar.muli arg28 c16_i32_130
  let c0_i32_131 : BitVec 32 := 0#32
  let v1106 : BitVec 32 := Scalar.addi v1105 c0_i32_131
  let c16_i32_132 : BitVec 32 := 16#32
  let v1107 : BitVec 32 := Scalar.muli v1106 c16_i32_132
  let v1108 : Index := Scalar.indexCast v1107
  ![v1108.toNat]
def k0_off12 (v1097 : BitVec 32) (c0_i32_133 : BitVec 32) : Fin 2 → Nat :=
  let c0_i32_134 : BitVec 32 := 0#32
  let v1112 : Index := Scalar.indexCast c0_i32_134
  let c63_i32 : BitVec 32 := 63#32
  let v1098 : BitVec 32 := Scalar.andi v1097 c63_i32
  let c32_i32 : BitVec 32 := 32#32
  let v1099 : BitVec 32 := Scalar.muli v1098 c32_i32
  let v1111 : BitVec 32 := Scalar.addi v1099 c0_i32_133
  let v1113 : Index := Scalar.indexCast v1111
  ![0, v1113.toNat]

def k0_off13 (v1097 : BitVec 32) (c0_i32_137 : BitVec 32) : Fin 2 → Nat :=
  let c1_i32_138 : BitVec 32 := 1#32
  let v1122 : Index := Scalar.indexCast c1_i32_138
  let c63_i32 : BitVec 32 := 63#32
  let v1098 : BitVec 32 := Scalar.andi v1097 c63_i32
  let c32_i32 : BitVec 32 := 32#32
  let v1099 : BitVec 32 := Scalar.muli v1098 c32_i32
  let v1121 : BitVec 32 := Scalar.addi v1099 c0_i32_137
  let v1123 : Index := Scalar.indexCast v1121
  ![1, v1123.toNat]
def k0_off14 (v1097 : BitVec 32) (c0_i32_141 : BitVec 32) : Fin 2 → Nat :=
  let c2_i32_142 : BitVec 32 := 2#32
  let v1132 : Index := Scalar.indexCast c2_i32_142
  let c63_i32 : BitVec 32 := 63#32
  let v1098 : BitVec 32 := Scalar.andi v1097 c63_i32
  let c32_i32 : BitVec 32 := 32#32
  let v1099 : BitVec 32 := Scalar.muli v1098 c32_i32
  let v1131 : BitVec 32 := Scalar.addi v1099 c0_i32_141
  let v1133 : Index := Scalar.indexCast v1131
  ![2, v1133.toNat]
def k0_off15 (v1097 : BitVec 32) (c0_i32_145 : BitVec 32) : Fin 2 → Nat :=
  let c3_i32 : BitVec 32 := 3#32
  let v1142 : Index := Scalar.indexCast c3_i32
  let c63_i32 : BitVec 32 := 63#32
  let v1098 : BitVec 32 := Scalar.andi v1097 c63_i32
  let c32_i32 : BitVec 32 := 32#32
  let v1099 : BitVec 32 := Scalar.muli v1098 c32_i32
  let v1141 : BitVec 32 := Scalar.addi v1099 c0_i32_145
  let v1143 : Index := Scalar.indexCast v1141
  ![3, v1143.toNat]
def k0_off16 (v1097 : BitVec 32) (c0_i32_148 : BitVec 32) : Fin 2 → Nat :=
  let c4_i32 : BitVec 32 := 4#32
  let v1152 : Index := Scalar.indexCast c4_i32
  let c63_i32 : BitVec 32 := 63#32
  let v1098 : BitVec 32 := Scalar.andi v1097 c63_i32
  let c32_i32 : BitVec 32 := 32#32
  let v1099 : BitVec 32 := Scalar.muli v1098 c32_i32
  let v1151 : BitVec 32 := Scalar.addi v1099 c0_i32_148
  let v1153 : Index := Scalar.indexCast v1151
  ![4, v1153.toNat]
def k0_off17 (v1097 : BitVec 32) (c0_i32_151 : BitVec 32) : Fin 2 → Nat :=
  let c5_i32 : BitVec 32 := 5#32
  let v1162 : Index := Scalar.indexCast c5_i32
  let c63_i32 : BitVec 32 := 63#32
  let v1098 : BitVec 32 := Scalar.andi v1097 c63_i32
  let c32_i32 : BitVec 32 := 32#32
  let v1099 : BitVec 32 := Scalar.muli v1098 c32_i32
  let v1161 : BitVec 32 := Scalar.addi v1099 c0_i32_151
  let v1163 : Index := Scalar.indexCast v1161
  ![5, v1163.toNat]
def k0_off18 (v1097 : BitVec 32) (c0_i32_154 : BitVec 32) : Fin 2 → Nat :=
  let c6_i32_155 : BitVec 32 := 6#32
  let v1172 : Index := Scalar.indexCast c6_i32_155
  let c63_i32 : BitVec 32 := 63#32
  let v1098 : BitVec 32 := Scalar.andi v1097 c63_i32
  let c32_i32 : BitVec 32 := 32#32
  let v1099 : BitVec 32 := Scalar.muli v1098 c32_i32
  let v1171 : BitVec 32 := Scalar.addi v1099 c0_i32_154
  let v1173 : Index := Scalar.indexCast v1171
  ![6, v1173.toNat]
def k0_off19 (v1097 : BitVec 32) (c0_i32_158 : BitVec 32) : Fin 2 → Nat :=
  let c7_i32 : BitVec 32 := 7#32
  let v1182 : Index := Scalar.indexCast c7_i32
  let c63_i32 : BitVec 32 := 63#32
  let v1098 : BitVec 32 := Scalar.andi v1097 c63_i32
  let c32_i32 : BitVec 32 := 32#32
  let v1099 : BitVec 32 := Scalar.muli v1098 c32_i32
  let v1181 : BitVec 32 := Scalar.addi v1099 c0_i32_158
  let v1183 : Index := Scalar.indexCast v1181
  ![7, v1183.toNat]
def k0_off20 (v1097 : BitVec 32) (c0_i32_161 : BitVec 32) : Fin 2 → Nat :=
  let c0_i32_162 : BitVec 32 := 0#32
  let v1192 : Index := Scalar.indexCast c0_i32_162
  let c6_i32 : BitVec 32 := 6#32
  let v1100 : BitVec 32 := Scalar.shrsi v1097 c6_i32
  let c63_i32_127 : BitVec 32 := 63#32
  let v1101 : BitVec 32 := Scalar.andi v1100 c63_i32_127
  let c32_i32_128 : BitVec 32 := 32#32
  let v1102 : BitVec 32 := Scalar.muli v1101 c32_i32_128
  let v1191 : BitVec 32 := Scalar.addi v1102 c0_i32_161
  let v1193 : Index := Scalar.indexCast v1191
  ![0, v1193.toNat]
def k0_off21 (v1097 : BitVec 32) (c0_i32_165 : BitVec 32) : Fin 2 → Nat :=
  let c1_i32_166 : BitVec 32 := 1#32
  let v1202 : Index := Scalar.indexCast c1_i32_166
  let c6_i32 : BitVec 32 := 6#32
  let v1100 : BitVec 32 := Scalar.shrsi v1097 c6_i32
  let c63_i32_127 : BitVec 32 := 63#32
  let v1101 : BitVec 32 := Scalar.andi v1100 c63_i32_127
  let c32_i32_128 : BitVec 32 := 32#32
  let v1102 : BitVec 32 := Scalar.muli v1101 c32_i32_128
  let v1201 : BitVec 32 := Scalar.addi v1102 c0_i32_165
  let v1203 : Index := Scalar.indexCast v1201
  ![1, v1203.toNat]
def k0_off22 (v1097 : BitVec 32) (c0_i32_169 : BitVec 32) : Fin 2 → Nat :=
  let c2_i32_170 : BitVec 32 := 2#32
  let v1212 : Index := Scalar.indexCast c2_i32_170
  let c6_i32 : BitVec 32 := 6#32
  let v1100 : BitVec 32 := Scalar.shrsi v1097 c6_i32
  let c63_i32_127 : BitVec 32 := 63#32
  let v1101 : BitVec 32 := Scalar.andi v1100 c63_i32_127
  let c32_i32_128 : BitVec 32 := 32#32
  let v1102 : BitVec 32 := Scalar.muli v1101 c32_i32_128
  let v1211 : BitVec 32 := Scalar.addi v1102 c0_i32_169
  let v1213 : Index := Scalar.indexCast v1211
  ![2, v1213.toNat]
def k0_off23 (v1097 : BitVec 32) (c0_i32_173 : BitVec 32) : Fin 2 → Nat :=
  let c3_i32_174 : BitVec 32 := 3#32
  let v1222 : Index := Scalar.indexCast c3_i32_174
  let c6_i32 : BitVec 32 := 6#32
  let v1100 : BitVec 32 := Scalar.shrsi v1097 c6_i32
  let c63_i32_127 : BitVec 32 := 63#32
  let v1101 : BitVec 32 := Scalar.andi v1100 c63_i32_127
  let c32_i32_128 : BitVec 32 := 32#32
  let v1102 : BitVec 32 := Scalar.muli v1101 c32_i32_128
  let v1221 : BitVec 32 := Scalar.addi v1102 c0_i32_173
  let v1223 : Index := Scalar.indexCast v1221
  ![3, v1223.toNat]
def k0_off24 (v1097 : BitVec 32) (c0_i32_177 : BitVec 32) : Fin 2 → Nat :=
  let c4_i32_178 : BitVec 32 := 4#32
  let v1232 : Index := Scalar.indexCast c4_i32_178
  let c6_i32 : BitVec 32 := 6#32
  let v1100 : BitVec 32 := Scalar.shrsi v1097 c6_i32
  let c63_i32_127 : BitVec 32 := 63#32
  let v1101 : BitVec 32 := Scalar.andi v1100 c63_i32_127
  let c32_i32_128 : BitVec 32 := 32#32
  let v1102 : BitVec 32 := Scalar.muli v1101 c32_i32_128
  let v1231 : BitVec 32 := Scalar.addi v1102 c0_i32_177
  let v1233 : Index := Scalar.indexCast v1231
  ![4, v1233.toNat]
def k0_off25 (v1097 : BitVec 32) (c0_i32_181 : BitVec 32) : Fin 2 → Nat :=
  let c5_i32_182 : BitVec 32 := 5#32
  let v1242 : Index := Scalar.indexCast c5_i32_182
  let c6_i32 : BitVec 32 := 6#32
  let v1100 : BitVec 32 := Scalar.shrsi v1097 c6_i32
  let c63_i32_127 : BitVec 32 := 63#32
  let v1101 : BitVec 32 := Scalar.andi v1100 c63_i32_127
  let c32_i32_128 : BitVec 32 := 32#32
  let v1102 : BitVec 32 := Scalar.muli v1101 c32_i32_128
  let v1241 : BitVec 32 := Scalar.addi v1102 c0_i32_181
  let v1243 : Index := Scalar.indexCast v1241
  ![5, v1243.toNat]
def k0_off26 (v1097 : BitVec 32) (c0_i32_185 : BitVec 32) : Fin 2 → Nat :=
  let c6_i32_186 : BitVec 32 := 6#32
  let v1252 : Index := Scalar.indexCast c6_i32_186
  let c6_i32 : BitVec 32 := 6#32
  let v1100 : BitVec 32 := Scalar.shrsi v1097 c6_i32
  let c63_i32_127 : BitVec 32 := 63#32
  let v1101 : BitVec 32 := Scalar.andi v1100 c63_i32_127
  let c32_i32_128 : BitVec 32 := 32#32
  let v1102 : BitVec 32 := Scalar.muli v1101 c32_i32_128
  let v1251 : BitVec 32 := Scalar.addi v1102 c0_i32_185
  let v1253 : Index := Scalar.indexCast v1251
  ![6, v1253.toNat]
def k0_off27 (v1097 : BitVec 32) (c0_i32_189 : BitVec 32) : Fin 2 → Nat :=
  let c7_i32_190 : BitVec 32 := 7#32
  let v1262 : Index := Scalar.indexCast c7_i32_190
  let c6_i32 : BitVec 32 := 6#32
  let v1100 : BitVec 32 := Scalar.shrsi v1097 c6_i32
  let c63_i32_127 : BitVec 32 := 63#32
  let v1101 : BitVec 32 := Scalar.andi v1100 c63_i32_127
  let c32_i32_128 : BitVec 32 := 32#32
  let v1102 : BitVec 32 := Scalar.muli v1101 c32_i32_128
  let v1261 : BitVec 32 := Scalar.addi v1102 c0_i32_189
  let v1263 : Index := Scalar.indexCast v1261
  ![7, v1263.toNat]
def k0_off28 (v1097 : BitVec 32) (c0_i32_193 : BitVec 32) : Fin 2 → Nat :=
  let c0_i32_194 : BitVec 32 := 0#32
  let v1304 : Index := Scalar.indexCast c0_i32_194
  let c12_i32 : BitVec 32 := 12#32
  let v1103 : BitVec 32 := Scalar.shrsi v1097 c12_i32
  let c32_i32_129 : BitVec 32 := 32#32
  let v1104 : BitVec 32 := Scalar.muli v1103 c32_i32_129
  let v1303 : BitVec 32 := Scalar.addi v1104 c0_i32_193
  let v1305 : Index := Scalar.indexCast v1303
  ![0, v1305.toNat]
def k0_off29 (v1097 : BitVec 32) (c0_i32_201 : BitVec 32) : Fin 2 → Nat :=
  let c1_i32_202 : BitVec 32 := 1#32
  let v1328 : Index := Scalar.indexCast c1_i32_202
  let c12_i32 : BitVec 32 := 12#32
  let v1103 : BitVec 32 := Scalar.shrsi v1097 c12_i32
  let c32_i32_129 : BitVec 32 := 32#32
  let v1104 : BitVec 32 := Scalar.muli v1103 c32_i32_129
  let v1327 : BitVec 32 := Scalar.addi v1104 c0_i32_201
  let v1329 : Index := Scalar.indexCast v1327
  ![1, v1329.toNat]
def k0_off30 (v1097 : BitVec 32) (c0_i32_209 : BitVec 32) : Fin 2 → Nat :=
  let c2_i32_210 : BitVec 32 := 2#32
  let v1352 : Index := Scalar.indexCast c2_i32_210
  let c12_i32 : BitVec 32 := 12#32
  let v1103 : BitVec 32 := Scalar.shrsi v1097 c12_i32
  let c32_i32_129 : BitVec 32 := 32#32
  let v1104 : BitVec 32 := Scalar.muli v1103 c32_i32_129
  let v1351 : BitVec 32 := Scalar.addi v1104 c0_i32_209
  let v1353 : Index := Scalar.indexCast v1351
  ![2, v1353.toNat]
def k0_off31 (v1097 : BitVec 32) (c0_i32_217 : BitVec 32) : Fin 2 → Nat :=
  let c3_i32_218 : BitVec 32 := 3#32
  let v1376 : Index := Scalar.indexCast c3_i32_218
  let c12_i32 : BitVec 32 := 12#32
  let v1103 : BitVec 32 := Scalar.shrsi v1097 c12_i32
  let c32_i32_129 : BitVec 32 := 32#32
  let v1104 : BitVec 32 := Scalar.muli v1103 c32_i32_129
  let v1375 : BitVec 32 := Scalar.addi v1104 c0_i32_217
  let v1377 : Index := Scalar.indexCast v1375
  ![3, v1377.toNat]
def k0_off32 (v1097 : BitVec 32) (c0_i32_225 : BitVec 32) : Fin 2 → Nat :=
  let c4_i32_226 : BitVec 32 := 4#32
  let v1400 : Index := Scalar.indexCast c4_i32_226
  let c12_i32 : BitVec 32 := 12#32
  let v1103 : BitVec 32 := Scalar.shrsi v1097 c12_i32
  let c32_i32_129 : BitVec 32 := 32#32
  let v1104 : BitVec 32 := Scalar.muli v1103 c32_i32_129
  let v1399 : BitVec 32 := Scalar.addi v1104 c0_i32_225
  let v1401 : Index := Scalar.indexCast v1399
  ![4, v1401.toNat]
def k0_off33 (v1097 : BitVec 32) (c0_i32_233 : BitVec 32) : Fin 2 → Nat :=
  let c5_i32_234 : BitVec 32 := 5#32
  let v1424 : Index := Scalar.indexCast c5_i32_234
  let c12_i32 : BitVec 32 := 12#32
  let v1103 : BitVec 32 := Scalar.shrsi v1097 c12_i32
  let c32_i32_129 : BitVec 32 := 32#32
  let v1104 : BitVec 32 := Scalar.muli v1103 c32_i32_129
  let v1423 : BitVec 32 := Scalar.addi v1104 c0_i32_233
  let v1425 : Index := Scalar.indexCast v1423
  ![5, v1425.toNat]
def k0_off34 (v1097 : BitVec 32) (c0_i32_241 : BitVec 32) : Fin 2 → Nat :=
  let c6_i32_242 : BitVec 32 := 6#32
  let v1448 : Index := Scalar.indexCast c6_i32_242
  let c12_i32 : BitVec 32 := 12#32
  let v1103 : BitVec 32 := Scalar.shrsi v1097 c12_i32
  let c32_i32_129 : BitVec 32 := 32#32
  let v1104 : BitVec 32 := Scalar.muli v1103 c32_i32_129
  let v1447 : BitVec 32 := Scalar.addi v1104 c0_i32_241
  let v1449 : Index := Scalar.indexCast v1447
  ![6, v1449.toNat]
def k0_off35 (v1097 : BitVec 32) (c0_i32_249 : BitVec 32) : Fin 2 → Nat :=
  let c7_i32_250 : BitVec 32 := 7#32
  let v1472 : Index := Scalar.indexCast c7_i32_250
  let c12_i32 : BitVec 32 := 12#32
  let v1103 : BitVec 32 := Scalar.shrsi v1097 c12_i32
  let c32_i32_129 : BitVec 32 := 32#32
  let v1104 : BitVec 32 := Scalar.muli v1103 c32_i32_129
  let v1471 : BitVec 32 := Scalar.addi v1104 c0_i32_249
  let v1473 : Index := Scalar.indexCast v1471
  ![7, v1473.toNat]

def k0_chk1 (v1097 : BitVec 32) : Prop :=
  (∀ (r : Fin 2), ∀ a, (k0_off12 v1097 (BitVec.ofNat 32 (16 * r.val))) a + S1x16.size a ≤ S8x2048.size a) ∧
  (∀ (r : Fin 2), ∀ a, (k0_off13 v1097 (BitVec.ofNat 32 (16 * r.val))) a + S1x16.size a ≤ S8x2048.size a) ∧
  (∀ (r : Fin 2), ∀ a, (k0_off14 v1097 (BitVec.ofNat 32 (16 * r.val))) a + S1x16.size a ≤ S8x2048.size a) ∧
  (∀ (r : Fin 2), ∀ a, (k0_off15 v1097 (BitVec.ofNat 32 (16 * r.val))) a + S1x16.size a ≤ S8x2048.size a) ∧
  (∀ (r : Fin 2), ∀ a, (k0_off16 v1097 (BitVec.ofNat 32 (16 * r.val))) a + S1x16.size a ≤ S8x2048.size a) ∧
  (∀ (r : Fin 2), ∀ a, (k0_off17 v1097 (BitVec.ofNat 32 (16 * r.val))) a + S1x16.size a ≤ S8x2048.size a) ∧
  (∀ (r : Fin 2), ∀ a, (k0_off18 v1097 (BitVec.ofNat 32 (16 * r.val))) a + S1x16.size a ≤ S8x2048.size a) ∧
  (∀ (r : Fin 2), ∀ a, (k0_off19 v1097 (BitVec.ofNat 32 (16 * r.val))) a + S1x16.size a ≤ S8x2048.size a) ∧
  (∀ (r : Fin 2), ∀ a, (k0_off20 v1097 (BitVec.ofNat 32 (16 * r.val))) a + S1x16.size a ≤ S8x2048.size a) ∧
  (∀ (r : Fin 2), ∀ a, (k0_off21 v1097 (BitVec.ofNat 32 (16 * r.val))) a + S1x16.size a ≤ S8x2048.size a) ∧
  (∀ (r : Fin 2), ∀ a, (k0_off22 v1097 (BitVec.ofNat 32 (16 * r.val))) a + S1x16.size a ≤ S8x2048.size a) ∧
  (∀ (r : Fin 2), ∀ a, (k0_off23 v1097 (BitVec.ofNat 32 (16 * r.val))) a + S1x16.size a ≤ S8x2048.size a) ∧
  (∀ (r : Fin 2), ∀ a, (k0_off24 v1097 (BitVec.ofNat 32 (16 * r.val))) a + S1x16.size a ≤ S8x2048.size a) ∧
  (∀ (r : Fin 2), ∀ a, (k0_off25 v1097 (BitVec.ofNat 32 (16 * r.val))) a + S1x16.size a ≤ S8x2048.size a) ∧
  (∀ (r : Fin 2), ∀ a, (k0_off26 v1097 (BitVec.ofNat 32 (16 * r.val))) a + S1x16.size a ≤ S8x2048.size a) ∧
  (∀ (r : Fin 2), ∀ a, (k0_off27 v1097 (BitVec.ofNat 32 (16 * r.val))) a + S1x16.size a ≤ S8x2048.size a) ∧
  (∀ (r : Fin 2), ∀ a, (k0_off28 v1097 (BitVec.ofNat 32 (16 * r.val))) a + S1x16.size a ≤ S8x2048.size a) ∧
  (∀ (r : Fin 2), ∀ a, (k0_off29 v1097 (BitVec.ofNat 32 (16 * r.val))) a + S1x16.size a ≤ S8x2048.size a) ∧
  (∀ (r : Fin 2), ∀ a, (k0_off30 v1097 (BitVec.ofNat 32 (16 * r.val))) a + S1x16.size a ≤ S8x2048.size a) ∧
  (∀ (r : Fin 2), ∀ a, (k0_off31 v1097 (BitVec.ofNat 32 (16 * r.val))) a + S1x16.size a ≤ S8x2048.size a) ∧
  (∀ (r : Fin 2), ∀ a, (k0_off32 v1097 (BitVec.ofNat 32 (16 * r.val))) a + S1x16.size a ≤ S8x2048.size a) ∧
  (∀ (r : Fin 2), ∀ a, (k0_off33 v1097 (BitVec.ofNat 32 (16 * r.val))) a + S1x16.size a ≤ S8x2048.size a) ∧
  (∀ (r : Fin 2), ∀ a, (k0_off34 v1097 (BitVec.ofNat 32 (16 * r.val))) a + S1x16.size a ≤ S8x2048.size a) ∧
  (∀ (r : Fin 2), ∀ a, (k0_off35 v1097 (BitVec.ofNat 32 (16 * r.val))) a + S1x16.size a ≤ S8x2048.size a)
theorem k0_off12_inb : ∀ (v1097 : BitVec 32) (k0_hw1 : k0_chk1 v1097), ∀ (r : Fin 2), ∀ a, (k0_off12 v1097 (BitVec.ofNat 32 (16 * r.val))) a + S1x16.size a ≤ S8x2048.size a := fun v1097 k0_hw1 r => k0_hw1.1 r
theorem k0_off13_inb : ∀ (v1097 : BitVec 32) (k0_hw1 : k0_chk1 v1097), ∀ (r : Fin 2), ∀ a, (k0_off13 v1097 (BitVec.ofNat 32 (16 * r.val))) a + S1x16.size a ≤ S8x2048.size a := fun v1097 k0_hw1 r => k0_hw1.2.1 r
theorem k0_off14_inb : ∀ (v1097 : BitVec 32) (k0_hw1 : k0_chk1 v1097), ∀ (r : Fin 2), ∀ a, (k0_off14 v1097 (BitVec.ofNat 32 (16 * r.val))) a + S1x16.size a ≤ S8x2048.size a := fun v1097 k0_hw1 r => k0_hw1.2.2.1 r
theorem k0_off15_inb : ∀ (v1097 : BitVec 32) (k0_hw1 : k0_chk1 v1097), ∀ (r : Fin 2), ∀ a, (k0_off15 v1097 (BitVec.ofNat 32 (16 * r.val))) a + S1x16.size a ≤ S8x2048.size a := fun v1097 k0_hw1 r => k0_hw1.2.2.2.1 r
theorem k0_off16_inb : ∀ (v1097 : BitVec 32) (k0_hw1 : k0_chk1 v1097), ∀ (r : Fin 2), ∀ a, (k0_off16 v1097 (BitVec.ofNat 32 (16 * r.val))) a + S1x16.size a ≤ S8x2048.size a := fun v1097 k0_hw1 r => k0_hw1.2.2.2.2.1 r
theorem k0_off17_inb : ∀ (v1097 : BitVec 32) (k0_hw1 : k0_chk1 v1097), ∀ (r : Fin 2), ∀ a, (k0_off17 v1097 (BitVec.ofNat 32 (16 * r.val))) a + S1x16.size a ≤ S8x2048.size a := fun v1097 k0_hw1 r => k0_hw1.2.2.2.2.2.1 r
theorem k0_off18_inb : ∀ (v1097 : BitVec 32) (k0_hw1 : k0_chk1 v1097), ∀ (r : Fin 2), ∀ a, (k0_off18 v1097 (BitVec.ofNat 32 (16 * r.val))) a + S1x16.size a ≤ S8x2048.size a := fun v1097 k0_hw1 r => k0_hw1.2.2.2.2.2.2.1 r
theorem k0_off19_inb : ∀ (v1097 : BitVec 32) (k0_hw1 : k0_chk1 v1097), ∀ (r : Fin 2), ∀ a, (k0_off19 v1097 (BitVec.ofNat 32 (16 * r.val))) a + S1x16.size a ≤ S8x2048.size a := fun v1097 k0_hw1 r => k0_hw1.2.2.2.2.2.2.2.1 r
theorem k0_off20_inb : ∀ (v1097 : BitVec 32) (k0_hw1 : k0_chk1 v1097), ∀ (r : Fin 2), ∀ a, (k0_off20 v1097 (BitVec.ofNat 32 (16 * r.val))) a + S1x16.size a ≤ S8x2048.size a := fun v1097 k0_hw1 r => k0_hw1.2.2.2.2.2.2.2.2.1 r
theorem k0_off21_inb : ∀ (v1097 : BitVec 32) (k0_hw1 : k0_chk1 v1097), ∀ (r : Fin 2), ∀ a, (k0_off21 v1097 (BitVec.ofNat 32 (16 * r.val))) a + S1x16.size a ≤ S8x2048.size a := fun v1097 k0_hw1 r => k0_hw1.2.2.2.2.2.2.2.2.2.1 r
theorem k0_off22_inb : ∀ (v1097 : BitVec 32) (k0_hw1 : k0_chk1 v1097), ∀ (r : Fin 2), ∀ a, (k0_off22 v1097 (BitVec.ofNat 32 (16 * r.val))) a + S1x16.size a ≤ S8x2048.size a := fun v1097 k0_hw1 r => k0_hw1.2.2.2.2.2.2.2.2.2.2.1 r
theorem k0_off23_inb : ∀ (v1097 : BitVec 32) (k0_hw1 : k0_chk1 v1097), ∀ (r : Fin 2), ∀ a, (k0_off23 v1097 (BitVec.ofNat 32 (16 * r.val))) a + S1x16.size a ≤ S8x2048.size a := fun v1097 k0_hw1 r => k0_hw1.2.2.2.2.2.2.2.2.2.2.2.1 r
theorem k0_off24_inb : ∀ (v1097 : BitVec 32) (k0_hw1 : k0_chk1 v1097), ∀ (r : Fin 2), ∀ a, (k0_off24 v1097 (BitVec.ofNat 32 (16 * r.val))) a + S1x16.size a ≤ S8x2048.size a := fun v1097 k0_hw1 r => k0_hw1.2.2.2.2.2.2.2.2.2.2.2.2.1 r
theorem k0_off25_inb : ∀ (v1097 : BitVec 32) (k0_hw1 : k0_chk1 v1097), ∀ (r : Fin 2), ∀ a, (k0_off25 v1097 (BitVec.ofNat 32 (16 * r.val))) a + S1x16.size a ≤ S8x2048.size a := fun v1097 k0_hw1 r => k0_hw1.2.2.2.2.2.2.2.2.2.2.2.2.2.1 r
theorem k0_off26_inb : ∀ (v1097 : BitVec 32) (k0_hw1 : k0_chk1 v1097), ∀ (r : Fin 2), ∀ a, (k0_off26 v1097 (BitVec.ofNat 32 (16 * r.val))) a + S1x16.size a ≤ S8x2048.size a := fun v1097 k0_hw1 r => k0_hw1.2.2.2.2.2.2.2.2.2.2.2.2.2.2.1 r
theorem k0_off27_inb : ∀ (v1097 : BitVec 32) (k0_hw1 : k0_chk1 v1097), ∀ (r : Fin 2), ∀ a, (k0_off27 v1097 (BitVec.ofNat 32 (16 * r.val))) a + S1x16.size a ≤ S8x2048.size a := fun v1097 k0_hw1 r => k0_hw1.2.2.2.2.2.2.2.2.2.2.2.2.2.2.2.1 r
theorem k0_off28_inb : ∀ (v1097 : BitVec 32) (k0_hw1 : k0_chk1 v1097), ∀ (r : Fin 2), ∀ a, (k0_off28 v1097 (BitVec.ofNat 32 (16 * r.val))) a + S1x16.size a ≤ S8x2048.size a := fun v1097 k0_hw1 r => k0_hw1.2.2.2.2.2.2.2.2.2.2.2.2.2.2.2.2.1 r
theorem k0_off29_inb : ∀ (v1097 : BitVec 32) (k0_hw1 : k0_chk1 v1097), ∀ (r : Fin 2), ∀ a, (k0_off29 v1097 (BitVec.ofNat 32 (16 * r.val))) a + S1x16.size a ≤ S8x2048.size a := fun v1097 k0_hw1 r => k0_hw1.2.2.2.2.2.2.2.2.2.2.2.2.2.2.2.2.2.1 r
theorem k0_off30_inb : ∀ (v1097 : BitVec 32) (k0_hw1 : k0_chk1 v1097), ∀ (r : Fin 2), ∀ a, (k0_off30 v1097 (BitVec.ofNat 32 (16 * r.val))) a + S1x16.size a ≤ S8x2048.size a := fun v1097 k0_hw1 r => k0_hw1.2.2.2.2.2.2.2.2.2.2.2.2.2.2.2.2.2.2.1 r
theorem k0_off31_inb : ∀ (v1097 : BitVec 32) (k0_hw1 : k0_chk1 v1097), ∀ (r : Fin 2), ∀ a, (k0_off31 v1097 (BitVec.ofNat 32 (16 * r.val))) a + S1x16.size a ≤ S8x2048.size a := fun v1097 k0_hw1 r => k0_hw1.2.2.2.2.2.2.2.2.2.2.2.2.2.2.2.2.2.2.2.1 r
theorem k0_off32_inb : ∀ (v1097 : BitVec 32) (k0_hw1 : k0_chk1 v1097), ∀ (r : Fin 2), ∀ a, (k0_off32 v1097 (BitVec.ofNat 32 (16 * r.val))) a + S1x16.size a ≤ S8x2048.size a := fun v1097 k0_hw1 r => k0_hw1.2.2.2.2.2.2.2.2.2.2.2.2.2.2.2.2.2.2.2.2.1 r
theorem k0_off33_inb : ∀ (v1097 : BitVec 32) (k0_hw1 : k0_chk1 v1097), ∀ (r : Fin 2), ∀ a, (k0_off33 v1097 (BitVec.ofNat 32 (16 * r.val))) a + S1x16.size a ≤ S8x2048.size a := fun v1097 k0_hw1 r => k0_hw1.2.2.2.2.2.2.2.2.2.2.2.2.2.2.2.2.2.2.2.2.2.1 r
theorem k0_off34_inb : ∀ (v1097 : BitVec 32) (k0_hw1 : k0_chk1 v1097), ∀ (r : Fin 2), ∀ a, (k0_off34 v1097 (BitVec.ofNat 32 (16 * r.val))) a + S1x16.size a ≤ S8x2048.size a := fun v1097 k0_hw1 r => k0_hw1.2.2.2.2.2.2.2.2.2.2.2.2.2.2.2.2.2.2.2.2.2.2.1 r
theorem k0_off35_inb : ∀ (v1097 : BitVec 32) (k0_hw1 : k0_chk1 v1097), ∀ (r : Fin 2), ∀ a, (k0_off35 v1097 (BitVec.ofNat 32 (16 * r.val))) a + S1x16.size a ≤ S8x2048.size a := fun v1097 k0_hw1 r => k0_hw1.2.2.2.2.2.2.2.2.2.2.2.2.2.2.2.2.2.2.2.2.2.2.2 r

def k0_off36 (k0_t3 : Fin k0_t3_loop.trips) : Fin 1 → Nat :=
  let c0_i32_90 : BitVec 32 := 0#32
  let c1_i32_92 : BitVec 32 := 1#32
  let arg28 : BitVec 32 := Scf.iv c0_i32_90 c1_i32_92 k0_t3
  let c16_i32_264 : BitVec 32 := 16#32
  let v1504 : BitVec 32 := Scalar.muli arg28 c16_i32_264
  let c1_i32_265 : BitVec 32 := 1#32
  let v1505 : BitVec 32 := Scalar.addi v1504 c1_i32_265
  let c16_i32_266 : BitVec 32 := 16#32
  let v1506 : BitVec 32 := Scalar.muli v1505 c16_i32_266
  let v1507 : Index := Scalar.indexCast v1506
  ![v1507.toNat]
def k0_off37 (v1496 : BitVec 32) (c0_i32_267 : BitVec 32) : Fin 2 → Nat :=
  let c0_i32_268 : BitVec 32 := 0#32
  let v1511 : Index := Scalar.indexCast c0_i32_268
  let c63_i32_257 : BitVec 32 := 63#32
  let v1497 : BitVec 32 := Scalar.andi v1496 c63_i32_257
  let c32_i32_258 : BitVec 32 := 32#32
  let v1498 : BitVec 32 := Scalar.muli v1497 c32_i32_258
  let v1510 : BitVec 32 := Scalar.addi v1498 c0_i32_267
  let v1512 : Index := Scalar.indexCast v1510
  ![0, v1512.toNat]

def k0_off38 (v1496 : BitVec 32) (c0_i32_271 : BitVec 32) : Fin 2 → Nat :=
  let c1_i32_272 : BitVec 32 := 1#32
  let v1521 : Index := Scalar.indexCast c1_i32_272
  let c63_i32_257 : BitVec 32 := 63#32
  let v1497 : BitVec 32 := Scalar.andi v1496 c63_i32_257
  let c32_i32_258 : BitVec 32 := 32#32
  let v1498 : BitVec 32 := Scalar.muli v1497 c32_i32_258
  let v1520 : BitVec 32 := Scalar.addi v1498 c0_i32_271
  let v1522 : Index := Scalar.indexCast v1520
  ![1, v1522.toNat]
def k0_off39 (v1496 : BitVec 32) (c0_i32_275 : BitVec 32) : Fin 2 → Nat :=
  let c2_i32_276 : BitVec 32 := 2#32
  let v1531 : Index := Scalar.indexCast c2_i32_276
  let c63_i32_257 : BitVec 32 := 63#32
  let v1497 : BitVec 32 := Scalar.andi v1496 c63_i32_257
  let c32_i32_258 : BitVec 32 := 32#32
  let v1498 : BitVec 32 := Scalar.muli v1497 c32_i32_258
  let v1530 : BitVec 32 := Scalar.addi v1498 c0_i32_275
  let v1532 : Index := Scalar.indexCast v1530
  ![2, v1532.toNat]
def k0_off40 (v1496 : BitVec 32) (c0_i32_279 : BitVec 32) : Fin 2 → Nat :=
  let c3_i32_280 : BitVec 32 := 3#32
  let v1541 : Index := Scalar.indexCast c3_i32_280
  let c63_i32_257 : BitVec 32 := 63#32
  let v1497 : BitVec 32 := Scalar.andi v1496 c63_i32_257
  let c32_i32_258 : BitVec 32 := 32#32
  let v1498 : BitVec 32 := Scalar.muli v1497 c32_i32_258
  let v1540 : BitVec 32 := Scalar.addi v1498 c0_i32_279
  let v1542 : Index := Scalar.indexCast v1540
  ![3, v1542.toNat]
def k0_off41 (v1496 : BitVec 32) (c0_i32_283 : BitVec 32) : Fin 2 → Nat :=
  let c4_i32_284 : BitVec 32 := 4#32
  let v1551 : Index := Scalar.indexCast c4_i32_284
  let c63_i32_257 : BitVec 32 := 63#32
  let v1497 : BitVec 32 := Scalar.andi v1496 c63_i32_257
  let c32_i32_258 : BitVec 32 := 32#32
  let v1498 : BitVec 32 := Scalar.muli v1497 c32_i32_258
  let v1550 : BitVec 32 := Scalar.addi v1498 c0_i32_283
  let v1552 : Index := Scalar.indexCast v1550
  ![4, v1552.toNat]
def k0_off42 (v1496 : BitVec 32) (c0_i32_287 : BitVec 32) : Fin 2 → Nat :=
  let c5_i32_288 : BitVec 32 := 5#32
  let v1561 : Index := Scalar.indexCast c5_i32_288
  let c63_i32_257 : BitVec 32 := 63#32
  let v1497 : BitVec 32 := Scalar.andi v1496 c63_i32_257
  let c32_i32_258 : BitVec 32 := 32#32
  let v1498 : BitVec 32 := Scalar.muli v1497 c32_i32_258
  let v1560 : BitVec 32 := Scalar.addi v1498 c0_i32_287
  let v1562 : Index := Scalar.indexCast v1560
  ![5, v1562.toNat]
def k0_off43 (v1496 : BitVec 32) (c0_i32_291 : BitVec 32) : Fin 2 → Nat :=
  let c6_i32_292 : BitVec 32 := 6#32
  let v1571 : Index := Scalar.indexCast c6_i32_292
  let c63_i32_257 : BitVec 32 := 63#32
  let v1497 : BitVec 32 := Scalar.andi v1496 c63_i32_257
  let c32_i32_258 : BitVec 32 := 32#32
  let v1498 : BitVec 32 := Scalar.muli v1497 c32_i32_258
  let v1570 : BitVec 32 := Scalar.addi v1498 c0_i32_291
  let v1572 : Index := Scalar.indexCast v1570
  ![6, v1572.toNat]
def k0_off44 (v1496 : BitVec 32) (c0_i32_295 : BitVec 32) : Fin 2 → Nat :=
  let c7_i32_296 : BitVec 32 := 7#32
  let v1581 : Index := Scalar.indexCast c7_i32_296
  let c63_i32_257 : BitVec 32 := 63#32
  let v1497 : BitVec 32 := Scalar.andi v1496 c63_i32_257
  let c32_i32_258 : BitVec 32 := 32#32
  let v1498 : BitVec 32 := Scalar.muli v1497 c32_i32_258
  let v1580 : BitVec 32 := Scalar.addi v1498 c0_i32_295
  let v1582 : Index := Scalar.indexCast v1580
  ![7, v1582.toNat]
def k0_off45 (v1496 : BitVec 32) (c0_i32_299 : BitVec 32) : Fin 2 → Nat :=
  let c0_i32_300 : BitVec 32 := 0#32
  let v1591 : Index := Scalar.indexCast c0_i32_300
  let c6_i32_259 : BitVec 32 := 6#32
  let v1499 : BitVec 32 := Scalar.shrsi v1496 c6_i32_259
  let c63_i32_260 : BitVec 32 := 63#32
  let v1500 : BitVec 32 := Scalar.andi v1499 c63_i32_260
  let c32_i32_261 : BitVec 32 := 32#32
  let v1501 : BitVec 32 := Scalar.muli v1500 c32_i32_261
  let v1590 : BitVec 32 := Scalar.addi v1501 c0_i32_299
  let v1592 : Index := Scalar.indexCast v1590
  ![0, v1592.toNat]
def k0_off46 (v1496 : BitVec 32) (c0_i32_303 : BitVec 32) : Fin 2 → Nat :=
  let c1_i32_304 : BitVec 32 := 1#32
  let v1601 : Index := Scalar.indexCast c1_i32_304
  let c6_i32_259 : BitVec 32 := 6#32
  let v1499 : BitVec 32 := Scalar.shrsi v1496 c6_i32_259
  let c63_i32_260 : BitVec 32 := 63#32
  let v1500 : BitVec 32 := Scalar.andi v1499 c63_i32_260
  let c32_i32_261 : BitVec 32 := 32#32
  let v1501 : BitVec 32 := Scalar.muli v1500 c32_i32_261
  let v1600 : BitVec 32 := Scalar.addi v1501 c0_i32_303
  let v1602 : Index := Scalar.indexCast v1600
  ![1, v1602.toNat]
def k0_off47 (v1496 : BitVec 32) (c0_i32_307 : BitVec 32) : Fin 2 → Nat :=
  let c2_i32_308 : BitVec 32 := 2#32
  let v1611 : Index := Scalar.indexCast c2_i32_308
  let c6_i32_259 : BitVec 32 := 6#32
  let v1499 : BitVec 32 := Scalar.shrsi v1496 c6_i32_259
  let c63_i32_260 : BitVec 32 := 63#32
  let v1500 : BitVec 32 := Scalar.andi v1499 c63_i32_260
  let c32_i32_261 : BitVec 32 := 32#32
  let v1501 : BitVec 32 := Scalar.muli v1500 c32_i32_261
  let v1610 : BitVec 32 := Scalar.addi v1501 c0_i32_307
  let v1612 : Index := Scalar.indexCast v1610
  ![2, v1612.toNat]
def k0_off48 (v1496 : BitVec 32) (c0_i32_311 : BitVec 32) : Fin 2 → Nat :=
  let c3_i32_312 : BitVec 32 := 3#32
  let v1621 : Index := Scalar.indexCast c3_i32_312
  let c6_i32_259 : BitVec 32 := 6#32
  let v1499 : BitVec 32 := Scalar.shrsi v1496 c6_i32_259
  let c63_i32_260 : BitVec 32 := 63#32
  let v1500 : BitVec 32 := Scalar.andi v1499 c63_i32_260
  let c32_i32_261 : BitVec 32 := 32#32
  let v1501 : BitVec 32 := Scalar.muli v1500 c32_i32_261
  let v1620 : BitVec 32 := Scalar.addi v1501 c0_i32_311
  let v1622 : Index := Scalar.indexCast v1620
  ![3, v1622.toNat]
def k0_off49 (v1496 : BitVec 32) (c0_i32_315 : BitVec 32) : Fin 2 → Nat :=
  let c4_i32_316 : BitVec 32 := 4#32
  let v1631 : Index := Scalar.indexCast c4_i32_316
  let c6_i32_259 : BitVec 32 := 6#32
  let v1499 : BitVec 32 := Scalar.shrsi v1496 c6_i32_259
  let c63_i32_260 : BitVec 32 := 63#32
  let v1500 : BitVec 32 := Scalar.andi v1499 c63_i32_260
  let c32_i32_261 : BitVec 32 := 32#32
  let v1501 : BitVec 32 := Scalar.muli v1500 c32_i32_261
  let v1630 : BitVec 32 := Scalar.addi v1501 c0_i32_315
  let v1632 : Index := Scalar.indexCast v1630
  ![4, v1632.toNat]
def k0_off50 (v1496 : BitVec 32) (c0_i32_319 : BitVec 32) : Fin 2 → Nat :=
  let c5_i32_320 : BitVec 32 := 5#32
  let v1641 : Index := Scalar.indexCast c5_i32_320
  let c6_i32_259 : BitVec 32 := 6#32
  let v1499 : BitVec 32 := Scalar.shrsi v1496 c6_i32_259
  let c63_i32_260 : BitVec 32 := 63#32
  let v1500 : BitVec 32 := Scalar.andi v1499 c63_i32_260
  let c32_i32_261 : BitVec 32 := 32#32
  let v1501 : BitVec 32 := Scalar.muli v1500 c32_i32_261
  let v1640 : BitVec 32 := Scalar.addi v1501 c0_i32_319
  let v1642 : Index := Scalar.indexCast v1640
  ![5, v1642.toNat]
def k0_off51 (v1496 : BitVec 32) (c0_i32_323 : BitVec 32) : Fin 2 → Nat :=
  let c6_i32_324 : BitVec 32 := 6#32
  let v1651 : Index := Scalar.indexCast c6_i32_324
  let c6_i32_259 : BitVec 32 := 6#32
  let v1499 : BitVec 32 := Scalar.shrsi v1496 c6_i32_259
  let c63_i32_260 : BitVec 32 := 63#32
  let v1500 : BitVec 32 := Scalar.andi v1499 c63_i32_260
  let c32_i32_261 : BitVec 32 := 32#32
  let v1501 : BitVec 32 := Scalar.muli v1500 c32_i32_261
  let v1650 : BitVec 32 := Scalar.addi v1501 c0_i32_323
  let v1652 : Index := Scalar.indexCast v1650
  ![6, v1652.toNat]
def k0_off52 (v1496 : BitVec 32) (c0_i32_327 : BitVec 32) : Fin 2 → Nat :=
  let c7_i32_328 : BitVec 32 := 7#32
  let v1661 : Index := Scalar.indexCast c7_i32_328
  let c6_i32_259 : BitVec 32 := 6#32
  let v1499 : BitVec 32 := Scalar.shrsi v1496 c6_i32_259
  let c63_i32_260 : BitVec 32 := 63#32
  let v1500 : BitVec 32 := Scalar.andi v1499 c63_i32_260
  let c32_i32_261 : BitVec 32 := 32#32
  let v1501 : BitVec 32 := Scalar.muli v1500 c32_i32_261
  let v1660 : BitVec 32 := Scalar.addi v1501 c0_i32_327
  let v1662 : Index := Scalar.indexCast v1660
  ![7, v1662.toNat]
def k0_off53 (v1496 : BitVec 32) (c0_i32_331 : BitVec 32) : Fin 2 → Nat :=
  let c0_i32_332 : BitVec 32 := 0#32
  let v1703 : Index := Scalar.indexCast c0_i32_332
  let c12_i32_262 : BitVec 32 := 12#32
  let v1502 : BitVec 32 := Scalar.shrsi v1496 c12_i32_262
  let c32_i32_263 : BitVec 32 := 32#32
  let v1503 : BitVec 32 := Scalar.muli v1502 c32_i32_263
  let v1702 : BitVec 32 := Scalar.addi v1503 c0_i32_331
  let v1704 : Index := Scalar.indexCast v1702
  ![0, v1704.toNat]
def k0_off54 (v1496 : BitVec 32) (c0_i32_339 : BitVec 32) : Fin 2 → Nat :=
  let c1_i32_340 : BitVec 32 := 1#32
  let v1727 : Index := Scalar.indexCast c1_i32_340
  let c12_i32_262 : BitVec 32 := 12#32
  let v1502 : BitVec 32 := Scalar.shrsi v1496 c12_i32_262
  let c32_i32_263 : BitVec 32 := 32#32
  let v1503 : BitVec 32 := Scalar.muli v1502 c32_i32_263
  let v1726 : BitVec 32 := Scalar.addi v1503 c0_i32_339
  let v1728 : Index := Scalar.indexCast v1726
  ![1, v1728.toNat]
def k0_off55 (v1496 : BitVec 32) (c0_i32_347 : BitVec 32) : Fin 2 → Nat :=
  let c2_i32_348 : BitVec 32 := 2#32
  let v1751 : Index := Scalar.indexCast c2_i32_348
  let c12_i32_262 : BitVec 32 := 12#32
  let v1502 : BitVec 32 := Scalar.shrsi v1496 c12_i32_262
  let c32_i32_263 : BitVec 32 := 32#32
  let v1503 : BitVec 32 := Scalar.muli v1502 c32_i32_263
  let v1750 : BitVec 32 := Scalar.addi v1503 c0_i32_347
  let v1752 : Index := Scalar.indexCast v1750
  ![2, v1752.toNat]
def k0_off56 (v1496 : BitVec 32) (c0_i32_355 : BitVec 32) : Fin 2 → Nat :=
  let c3_i32_356 : BitVec 32 := 3#32
  let v1775 : Index := Scalar.indexCast c3_i32_356
  let c12_i32_262 : BitVec 32 := 12#32
  let v1502 : BitVec 32 := Scalar.shrsi v1496 c12_i32_262
  let c32_i32_263 : BitVec 32 := 32#32
  let v1503 : BitVec 32 := Scalar.muli v1502 c32_i32_263
  let v1774 : BitVec 32 := Scalar.addi v1503 c0_i32_355
  let v1776 : Index := Scalar.indexCast v1774
  ![3, v1776.toNat]
def k0_off57 (v1496 : BitVec 32) (c0_i32_363 : BitVec 32) : Fin 2 → Nat :=
  let c4_i32_364 : BitVec 32 := 4#32
  let v1799 : Index := Scalar.indexCast c4_i32_364
  let c12_i32_262 : BitVec 32 := 12#32
  let v1502 : BitVec 32 := Scalar.shrsi v1496 c12_i32_262
  let c32_i32_263 : BitVec 32 := 32#32
  let v1503 : BitVec 32 := Scalar.muli v1502 c32_i32_263
  let v1798 : BitVec 32 := Scalar.addi v1503 c0_i32_363
  let v1800 : Index := Scalar.indexCast v1798
  ![4, v1800.toNat]
def k0_off58 (v1496 : BitVec 32) (c0_i32_371 : BitVec 32) : Fin 2 → Nat :=
  let c5_i32_372 : BitVec 32 := 5#32
  let v1823 : Index := Scalar.indexCast c5_i32_372
  let c12_i32_262 : BitVec 32 := 12#32
  let v1502 : BitVec 32 := Scalar.shrsi v1496 c12_i32_262
  let c32_i32_263 : BitVec 32 := 32#32
  let v1503 : BitVec 32 := Scalar.muli v1502 c32_i32_263
  let v1822 : BitVec 32 := Scalar.addi v1503 c0_i32_371
  let v1824 : Index := Scalar.indexCast v1822
  ![5, v1824.toNat]
def k0_off59 (v1496 : BitVec 32) (c0_i32_379 : BitVec 32) : Fin 2 → Nat :=
  let c6_i32_380 : BitVec 32 := 6#32
  let v1847 : Index := Scalar.indexCast c6_i32_380
  let c12_i32_262 : BitVec 32 := 12#32
  let v1502 : BitVec 32 := Scalar.shrsi v1496 c12_i32_262
  let c32_i32_263 : BitVec 32 := 32#32
  let v1503 : BitVec 32 := Scalar.muli v1502 c32_i32_263
  let v1846 : BitVec 32 := Scalar.addi v1503 c0_i32_379
  let v1848 : Index := Scalar.indexCast v1846
  ![6, v1848.toNat]
def k0_off60 (v1496 : BitVec 32) (c0_i32_387 : BitVec 32) : Fin 2 → Nat :=
  let c7_i32_388 : BitVec 32 := 7#32
  let v1871 : Index := Scalar.indexCast c7_i32_388
  let c12_i32_262 : BitVec 32 := 12#32
  let v1502 : BitVec 32 := Scalar.shrsi v1496 c12_i32_262
  let c32_i32_263 : BitVec 32 := 32#32
  let v1503 : BitVec 32 := Scalar.muli v1502 c32_i32_263
  let v1870 : BitVec 32 := Scalar.addi v1503 c0_i32_387
  let v1872 : Index := Scalar.indexCast v1870
  ![7, v1872.toNat]

def k0_chk2 (v1496 : BitVec 32) : Prop :=
  (∀ (r : Fin 2), ∀ a, (k0_off37 v1496 (BitVec.ofNat 32 (16 * r.val))) a + S1x16.size a ≤ S8x2048.size a) ∧
  (∀ (r : Fin 2), ∀ a, (k0_off38 v1496 (BitVec.ofNat 32 (16 * r.val))) a + S1x16.size a ≤ S8x2048.size a) ∧
  (∀ (r : Fin 2), ∀ a, (k0_off39 v1496 (BitVec.ofNat 32 (16 * r.val))) a + S1x16.size a ≤ S8x2048.size a) ∧
  (∀ (r : Fin 2), ∀ a, (k0_off40 v1496 (BitVec.ofNat 32 (16 * r.val))) a + S1x16.size a ≤ S8x2048.size a) ∧
  (∀ (r : Fin 2), ∀ a, (k0_off41 v1496 (BitVec.ofNat 32 (16 * r.val))) a + S1x16.size a ≤ S8x2048.size a) ∧
  (∀ (r : Fin 2), ∀ a, (k0_off42 v1496 (BitVec.ofNat 32 (16 * r.val))) a + S1x16.size a ≤ S8x2048.size a) ∧
  (∀ (r : Fin 2), ∀ a, (k0_off43 v1496 (BitVec.ofNat 32 (16 * r.val))) a + S1x16.size a ≤ S8x2048.size a) ∧
  (∀ (r : Fin 2), ∀ a, (k0_off44 v1496 (BitVec.ofNat 32 (16 * r.val))) a + S1x16.size a ≤ S8x2048.size a) ∧
  (∀ (r : Fin 2), ∀ a, (k0_off45 v1496 (BitVec.ofNat 32 (16 * r.val))) a + S1x16.size a ≤ S8x2048.size a) ∧
  (∀ (r : Fin 2), ∀ a, (k0_off46 v1496 (BitVec.ofNat 32 (16 * r.val))) a + S1x16.size a ≤ S8x2048.size a) ∧
  (∀ (r : Fin 2), ∀ a, (k0_off47 v1496 (BitVec.ofNat 32 (16 * r.val))) a + S1x16.size a ≤ S8x2048.size a) ∧
  (∀ (r : Fin 2), ∀ a, (k0_off48 v1496 (BitVec.ofNat 32 (16 * r.val))) a + S1x16.size a ≤ S8x2048.size a) ∧
  (∀ (r : Fin 2), ∀ a, (k0_off49 v1496 (BitVec.ofNat 32 (16 * r.val))) a + S1x16.size a ≤ S8x2048.size a) ∧
  (∀ (r : Fin 2), ∀ a, (k0_off50 v1496 (BitVec.ofNat 32 (16 * r.val))) a + S1x16.size a ≤ S8x2048.size a) ∧
  (∀ (r : Fin 2), ∀ a, (k0_off51 v1496 (BitVec.ofNat 32 (16 * r.val))) a + S1x16.size a ≤ S8x2048.size a) ∧
  (∀ (r : Fin 2), ∀ a, (k0_off52 v1496 (BitVec.ofNat 32 (16 * r.val))) a + S1x16.size a ≤ S8x2048.size a) ∧
  (∀ (r : Fin 2), ∀ a, (k0_off53 v1496 (BitVec.ofNat 32 (16 * r.val))) a + S1x16.size a ≤ S8x2048.size a) ∧
  (∀ (r : Fin 2), ∀ a, (k0_off54 v1496 (BitVec.ofNat 32 (16 * r.val))) a + S1x16.size a ≤ S8x2048.size a) ∧
  (∀ (r : Fin 2), ∀ a, (k0_off55 v1496 (BitVec.ofNat 32 (16 * r.val))) a + S1x16.size a ≤ S8x2048.size a) ∧
  (∀ (r : Fin 2), ∀ a, (k0_off56 v1496 (BitVec.ofNat 32 (16 * r.val))) a + S1x16.size a ≤ S8x2048.size a) ∧
  (∀ (r : Fin 2), ∀ a, (k0_off57 v1496 (BitVec.ofNat 32 (16 * r.val))) a + S1x16.size a ≤ S8x2048.size a) ∧
  (∀ (r : Fin 2), ∀ a, (k0_off58 v1496 (BitVec.ofNat 32 (16 * r.val))) a + S1x16.size a ≤ S8x2048.size a) ∧
  (∀ (r : Fin 2), ∀ a, (k0_off59 v1496 (BitVec.ofNat 32 (16 * r.val))) a + S1x16.size a ≤ S8x2048.size a) ∧
  (∀ (r : Fin 2), ∀ a, (k0_off60 v1496 (BitVec.ofNat 32 (16 * r.val))) a + S1x16.size a ≤ S8x2048.size a)
theorem k0_off37_inb : ∀ (v1496 : BitVec 32) (k0_hw2 : k0_chk2 v1496), ∀ (r : Fin 2), ∀ a, (k0_off37 v1496 (BitVec.ofNat 32 (16 * r.val))) a + S1x16.size a ≤ S8x2048.size a := fun v1496 k0_hw2 r => k0_hw2.1 r
theorem k0_off38_inb : ∀ (v1496 : BitVec 32) (k0_hw2 : k0_chk2 v1496), ∀ (r : Fin 2), ∀ a, (k0_off38 v1496 (BitVec.ofNat 32 (16 * r.val))) a + S1x16.size a ≤ S8x2048.size a := fun v1496 k0_hw2 r => k0_hw2.2.1 r
theorem k0_off39_inb : ∀ (v1496 : BitVec 32) (k0_hw2 : k0_chk2 v1496), ∀ (r : Fin 2), ∀ a, (k0_off39 v1496 (BitVec.ofNat 32 (16 * r.val))) a + S1x16.size a ≤ S8x2048.size a := fun v1496 k0_hw2 r => k0_hw2.2.2.1 r
theorem k0_off40_inb : ∀ (v1496 : BitVec 32) (k0_hw2 : k0_chk2 v1496), ∀ (r : Fin 2), ∀ a, (k0_off40 v1496 (BitVec.ofNat 32 (16 * r.val))) a + S1x16.size a ≤ S8x2048.size a := fun v1496 k0_hw2 r => k0_hw2.2.2.2.1 r
theorem k0_off41_inb : ∀ (v1496 : BitVec 32) (k0_hw2 : k0_chk2 v1496), ∀ (r : Fin 2), ∀ a, (k0_off41 v1496 (BitVec.ofNat 32 (16 * r.val))) a + S1x16.size a ≤ S8x2048.size a := fun v1496 k0_hw2 r => k0_hw2.2.2.2.2.1 r
theorem k0_off42_inb : ∀ (v1496 : BitVec 32) (k0_hw2 : k0_chk2 v1496), ∀ (r : Fin 2), ∀ a, (k0_off42 v1496 (BitVec.ofNat 32 (16 * r.val))) a + S1x16.size a ≤ S8x2048.size a := fun v1496 k0_hw2 r => k0_hw2.2.2.2.2.2.1 r
theorem k0_off43_inb : ∀ (v1496 : BitVec 32) (k0_hw2 : k0_chk2 v1496), ∀ (r : Fin 2), ∀ a, (k0_off43 v1496 (BitVec.ofNat 32 (16 * r.val))) a + S1x16.size a ≤ S8x2048.size a := fun v1496 k0_hw2 r => k0_hw2.2.2.2.2.2.2.1 r
theorem k0_off44_inb : ∀ (v1496 : BitVec 32) (k0_hw2 : k0_chk2 v1496), ∀ (r : Fin 2), ∀ a, (k0_off44 v1496 (BitVec.ofNat 32 (16 * r.val))) a + S1x16.size a ≤ S8x2048.size a := fun v1496 k0_hw2 r => k0_hw2.2.2.2.2.2.2.2.1 r
theorem k0_off45_inb : ∀ (v1496 : BitVec 32) (k0_hw2 : k0_chk2 v1496), ∀ (r : Fin 2), ∀ a, (k0_off45 v1496 (BitVec.ofNat 32 (16 * r.val))) a + S1x16.size a ≤ S8x2048.size a := fun v1496 k0_hw2 r => k0_hw2.2.2.2.2.2.2.2.2.1 r
theorem k0_off46_inb : ∀ (v1496 : BitVec 32) (k0_hw2 : k0_chk2 v1496), ∀ (r : Fin 2), ∀ a, (k0_off46 v1496 (BitVec.ofNat 32 (16 * r.val))) a + S1x16.size a ≤ S8x2048.size a := fun v1496 k0_hw2 r => k0_hw2.2.2.2.2.2.2.2.2.2.1 r
theorem k0_off47_inb : ∀ (v1496 : BitVec 32) (k0_hw2 : k0_chk2 v1496), ∀ (r : Fin 2), ∀ a, (k0_off47 v1496 (BitVec.ofNat 32 (16 * r.val))) a + S1x16.size a ≤ S8x2048.size a := fun v1496 k0_hw2 r => k0_hw2.2.2.2.2.2.2.2.2.2.2.1 r
theorem k0_off48_inb : ∀ (v1496 : BitVec 32) (k0_hw2 : k0_chk2 v1496), ∀ (r : Fin 2), ∀ a, (k0_off48 v1496 (BitVec.ofNat 32 (16 * r.val))) a + S1x16.size a ≤ S8x2048.size a := fun v1496 k0_hw2 r => k0_hw2.2.2.2.2.2.2.2.2.2.2.2.1 r
theorem k0_off49_inb : ∀ (v1496 : BitVec 32) (k0_hw2 : k0_chk2 v1496), ∀ (r : Fin 2), ∀ a, (k0_off49 v1496 (BitVec.ofNat 32 (16 * r.val))) a + S1x16.size a ≤ S8x2048.size a := fun v1496 k0_hw2 r => k0_hw2.2.2.2.2.2.2.2.2.2.2.2.2.1 r
theorem k0_off50_inb : ∀ (v1496 : BitVec 32) (k0_hw2 : k0_chk2 v1496), ∀ (r : Fin 2), ∀ a, (k0_off50 v1496 (BitVec.ofNat 32 (16 * r.val))) a + S1x16.size a ≤ S8x2048.size a := fun v1496 k0_hw2 r => k0_hw2.2.2.2.2.2.2.2.2.2.2.2.2.2.1 r
theorem k0_off51_inb : ∀ (v1496 : BitVec 32) (k0_hw2 : k0_chk2 v1496), ∀ (r : Fin 2), ∀ a, (k0_off51 v1496 (BitVec.ofNat 32 (16 * r.val))) a + S1x16.size a ≤ S8x2048.size a := fun v1496 k0_hw2 r => k0_hw2.2.2.2.2.2.2.2.2.2.2.2.2.2.2.1 r
theorem k0_off52_inb : ∀ (v1496 : BitVec 32) (k0_hw2 : k0_chk2 v1496), ∀ (r : Fin 2), ∀ a, (k0_off52 v1496 (BitVec.ofNat 32 (16 * r.val))) a + S1x16.size a ≤ S8x2048.size a := fun v1496 k0_hw2 r => k0_hw2.2.2.2.2.2.2.2.2.2.2.2.2.2.2.2.1 r
theorem k0_off53_inb : ∀ (v1496 : BitVec 32) (k0_hw2 : k0_chk2 v1496), ∀ (r : Fin 2), ∀ a, (k0_off53 v1496 (BitVec.ofNat 32 (16 * r.val))) a + S1x16.size a ≤ S8x2048.size a := fun v1496 k0_hw2 r => k0_hw2.2.2.2.2.2.2.2.2.2.2.2.2.2.2.2.2.1 r
theorem k0_off54_inb : ∀ (v1496 : BitVec 32) (k0_hw2 : k0_chk2 v1496), ∀ (r : Fin 2), ∀ a, (k0_off54 v1496 (BitVec.ofNat 32 (16 * r.val))) a + S1x16.size a ≤ S8x2048.size a := fun v1496 k0_hw2 r => k0_hw2.2.2.2.2.2.2.2.2.2.2.2.2.2.2.2.2.2.1 r
theorem k0_off55_inb : ∀ (v1496 : BitVec 32) (k0_hw2 : k0_chk2 v1496), ∀ (r : Fin 2), ∀ a, (k0_off55 v1496 (BitVec.ofNat 32 (16 * r.val))) a + S1x16.size a ≤ S8x2048.size a := fun v1496 k0_hw2 r => k0_hw2.2.2.2.2.2.2.2.2.2.2.2.2.2.2.2.2.2.2.1 r
theorem k0_off56_inb : ∀ (v1496 : BitVec 32) (k0_hw2 : k0_chk2 v1496), ∀ (r : Fin 2), ∀ a, (k0_off56 v1496 (BitVec.ofNat 32 (16 * r.val))) a + S1x16.size a ≤ S8x2048.size a := fun v1496 k0_hw2 r => k0_hw2.2.2.2.2.2.2.2.2.2.2.2.2.2.2.2.2.2.2.2.1 r
theorem k0_off57_inb : ∀ (v1496 : BitVec 32) (k0_hw2 : k0_chk2 v1496), ∀ (r : Fin 2), ∀ a, (k0_off57 v1496 (BitVec.ofNat 32 (16 * r.val))) a + S1x16.size a ≤ S8x2048.size a := fun v1496 k0_hw2 r => k0_hw2.2.2.2.2.2.2.2.2.2.2.2.2.2.2.2.2.2.2.2.2.1 r
theorem k0_off58_inb : ∀ (v1496 : BitVec 32) (k0_hw2 : k0_chk2 v1496), ∀ (r : Fin 2), ∀ a, (k0_off58 v1496 (BitVec.ofNat 32 (16 * r.val))) a + S1x16.size a ≤ S8x2048.size a := fun v1496 k0_hw2 r => k0_hw2.2.2.2.2.2.2.2.2.2.2.2.2.2.2.2.2.2.2.2.2.2.1 r
theorem k0_off59_inb : ∀ (v1496 : BitVec 32) (k0_hw2 : k0_chk2 v1496), ∀ (r : Fin 2), ∀ a, (k0_off59 v1496 (BitVec.ofNat 32 (16 * r.val))) a + S1x16.size a ≤ S8x2048.size a := fun v1496 k0_hw2 r => k0_hw2.2.2.2.2.2.2.2.2.2.2.2.2.2.2.2.2.2.2.2.2.2.2.1 r
theorem k0_off60_inb : ∀ (v1496 : BitVec 32) (k0_hw2 : k0_chk2 v1496), ∀ (r : Fin 2), ∀ a, (k0_off60 v1496 (BitVec.ofNat 32 (16 * r.val))) a + S1x16.size a ≤ S8x2048.size a := fun v1496 k0_hw2 r => k0_hw2.2.2.2.2.2.2.2.2.2.2.2.2.2.2.2.2.2.2.2.2.2.2.2 r

def k0_off61 (k0_t3 : Fin k0_t3_loop.trips) : Fin 1 → Nat :=
  let c0_i32_90 : BitVec 32 := 0#32
  let c1_i32_92 : BitVec 32 := 1#32
  let arg28 : BitVec 32 := Scf.iv c0_i32_90 c1_i32_92 k0_t3
  let c16_i32_402 : BitVec 32 := 16#32
  let v1903 : BitVec 32 := Scalar.muli arg28 c16_i32_402
  let c2_i32_403 : BitVec 32 := 2#32
  let v1904 : BitVec 32 := Scalar.addi v1903 c2_i32_403
  let c16_i32_404 : BitVec 32 := 16#32
  let v1905 : BitVec 32 := Scalar.muli v1904 c16_i32_404
  let v1906 : Index := Scalar.indexCast v1905
  ![v1906.toNat]
def k0_off62 (v1895 : BitVec 32) (c0_i32_405 : BitVec 32) : Fin 2 → Nat :=
  let c0_i32_406 : BitVec 32 := 0#32
  let v1910 : Index := Scalar.indexCast c0_i32_406
  let c63_i32_395 : BitVec 32 := 63#32
  let v1896 : BitVec 32 := Scalar.andi v1895 c63_i32_395
  let c32_i32_396 : BitVec 32 := 32#32
  let v1897 : BitVec 32 := Scalar.muli v1896 c32_i32_396
  let v1909 : BitVec 32 := Scalar.addi v1897 c0_i32_405
  let v1911 : Index := Scalar.indexCast v1909
  ![0, v1911.toNat]

def k0_off63 (v1895 : BitVec 32) (c0_i32_409 : BitVec 32) : Fin 2 → Nat :=
  let c1_i32_410 : BitVec 32 := 1#32
  let v1920 : Index := Scalar.indexCast c1_i32_410
  let c63_i32_395 : BitVec 32 := 63#32
  let v1896 : BitVec 32 := Scalar.andi v1895 c63_i32_395
  let c32_i32_396 : BitVec 32 := 32#32
  let v1897 : BitVec 32 := Scalar.muli v1896 c32_i32_396
  let v1919 : BitVec 32 := Scalar.addi v1897 c0_i32_409
  let v1921 : Index := Scalar.indexCast v1919
  ![1, v1921.toNat]
def k0_off64 (v1895 : BitVec 32) (c0_i32_413 : BitVec 32) : Fin 2 → Nat :=
  let c2_i32_414 : BitVec 32 := 2#32
  let v1930 : Index := Scalar.indexCast c2_i32_414
  let c63_i32_395 : BitVec 32 := 63#32
  let v1896 : BitVec 32 := Scalar.andi v1895 c63_i32_395
  let c32_i32_396 : BitVec 32 := 32#32
  let v1897 : BitVec 32 := Scalar.muli v1896 c32_i32_396
  let v1929 : BitVec 32 := Scalar.addi v1897 c0_i32_413
  let v1931 : Index := Scalar.indexCast v1929
  ![2, v1931.toNat]
def k0_off65 (v1895 : BitVec 32) (c0_i32_417 : BitVec 32) : Fin 2 → Nat :=
  let c3_i32_418 : BitVec 32 := 3#32
  let v1940 : Index := Scalar.indexCast c3_i32_418
  let c63_i32_395 : BitVec 32 := 63#32
  let v1896 : BitVec 32 := Scalar.andi v1895 c63_i32_395
  let c32_i32_396 : BitVec 32 := 32#32
  let v1897 : BitVec 32 := Scalar.muli v1896 c32_i32_396
  let v1939 : BitVec 32 := Scalar.addi v1897 c0_i32_417
  let v1941 : Index := Scalar.indexCast v1939
  ![3, v1941.toNat]
def k0_off66 (v1895 : BitVec 32) (c0_i32_421 : BitVec 32) : Fin 2 → Nat :=
  let c4_i32_422 : BitVec 32 := 4#32
  let v1950 : Index := Scalar.indexCast c4_i32_422
  let c63_i32_395 : BitVec 32 := 63#32
  let v1896 : BitVec 32 := Scalar.andi v1895 c63_i32_395
  let c32_i32_396 : BitVec 32 := 32#32
  let v1897 : BitVec 32 := Scalar.muli v1896 c32_i32_396
  let v1949 : BitVec 32 := Scalar.addi v1897 c0_i32_421
  let v1951 : Index := Scalar.indexCast v1949
  ![4, v1951.toNat]
def k0_off67 (v1895 : BitVec 32) (c0_i32_425 : BitVec 32) : Fin 2 → Nat :=
  let c5_i32_426 : BitVec 32 := 5#32
  let v1960 : Index := Scalar.indexCast c5_i32_426
  let c63_i32_395 : BitVec 32 := 63#32
  let v1896 : BitVec 32 := Scalar.andi v1895 c63_i32_395
  let c32_i32_396 : BitVec 32 := 32#32
  let v1897 : BitVec 32 := Scalar.muli v1896 c32_i32_396
  let v1959 : BitVec 32 := Scalar.addi v1897 c0_i32_425
  let v1961 : Index := Scalar.indexCast v1959
  ![5, v1961.toNat]
def k0_off68 (v1895 : BitVec 32) (c0_i32_429 : BitVec 32) : Fin 2 → Nat :=
  let c6_i32_430 : BitVec 32 := 6#32
  let v1970 : Index := Scalar.indexCast c6_i32_430
  let c63_i32_395 : BitVec 32 := 63#32
  let v1896 : BitVec 32 := Scalar.andi v1895 c63_i32_395
  let c32_i32_396 : BitVec 32 := 32#32
  let v1897 : BitVec 32 := Scalar.muli v1896 c32_i32_396
  let v1969 : BitVec 32 := Scalar.addi v1897 c0_i32_429
  let v1971 : Index := Scalar.indexCast v1969
  ![6, v1971.toNat]
def k0_off69 (v1895 : BitVec 32) (c0_i32_433 : BitVec 32) : Fin 2 → Nat :=
  let c7_i32_434 : BitVec 32 := 7#32
  let v1980 : Index := Scalar.indexCast c7_i32_434
  let c63_i32_395 : BitVec 32 := 63#32
  let v1896 : BitVec 32 := Scalar.andi v1895 c63_i32_395
  let c32_i32_396 : BitVec 32 := 32#32
  let v1897 : BitVec 32 := Scalar.muli v1896 c32_i32_396
  let v1979 : BitVec 32 := Scalar.addi v1897 c0_i32_433
  let v1981 : Index := Scalar.indexCast v1979
  ![7, v1981.toNat]
def k0_off70 (v1895 : BitVec 32) (c0_i32_437 : BitVec 32) : Fin 2 → Nat :=
  let c0_i32_438 : BitVec 32 := 0#32
  let v1990 : Index := Scalar.indexCast c0_i32_438
  let c6_i32_397 : BitVec 32 := 6#32
  let v1898 : BitVec 32 := Scalar.shrsi v1895 c6_i32_397
  let c63_i32_398 : BitVec 32 := 63#32
  let v1899 : BitVec 32 := Scalar.andi v1898 c63_i32_398
  let c32_i32_399 : BitVec 32 := 32#32
  let v1900 : BitVec 32 := Scalar.muli v1899 c32_i32_399
  let v1989 : BitVec 32 := Scalar.addi v1900 c0_i32_437
  let v1991 : Index := Scalar.indexCast v1989
  ![0, v1991.toNat]
def k0_off71 (v1895 : BitVec 32) (c0_i32_441 : BitVec 32) : Fin 2 → Nat :=
  let c1_i32_442 : BitVec 32 := 1#32
  let v2000 : Index := Scalar.indexCast c1_i32_442
  let c6_i32_397 : BitVec 32 := 6#32
  let v1898 : BitVec 32 := Scalar.shrsi v1895 c6_i32_397
  let c63_i32_398 : BitVec 32 := 63#32
  let v1899 : BitVec 32 := Scalar.andi v1898 c63_i32_398
  let c32_i32_399 : BitVec 32 := 32#32
  let v1900 : BitVec 32 := Scalar.muli v1899 c32_i32_399
  let v1999 : BitVec 32 := Scalar.addi v1900 c0_i32_441
  let v2001 : Index := Scalar.indexCast v1999
  ![1, v2001.toNat]
def k0_off72 (v1895 : BitVec 32) (c0_i32_445 : BitVec 32) : Fin 2 → Nat :=
  let c2_i32_446 : BitVec 32 := 2#32
  let v2010 : Index := Scalar.indexCast c2_i32_446
  let c6_i32_397 : BitVec 32 := 6#32
  let v1898 : BitVec 32 := Scalar.shrsi v1895 c6_i32_397
  let c63_i32_398 : BitVec 32 := 63#32
  let v1899 : BitVec 32 := Scalar.andi v1898 c63_i32_398
  let c32_i32_399 : BitVec 32 := 32#32
  let v1900 : BitVec 32 := Scalar.muli v1899 c32_i32_399
  let v2009 : BitVec 32 := Scalar.addi v1900 c0_i32_445
  let v2011 : Index := Scalar.indexCast v2009
  ![2, v2011.toNat]
def k0_off73 (v1895 : BitVec 32) (c0_i32_449 : BitVec 32) : Fin 2 → Nat :=
  let c3_i32_450 : BitVec 32 := 3#32
  let v2020 : Index := Scalar.indexCast c3_i32_450
  let c6_i32_397 : BitVec 32 := 6#32
  let v1898 : BitVec 32 := Scalar.shrsi v1895 c6_i32_397
  let c63_i32_398 : BitVec 32 := 63#32
  let v1899 : BitVec 32 := Scalar.andi v1898 c63_i32_398
  let c32_i32_399 : BitVec 32 := 32#32
  let v1900 : BitVec 32 := Scalar.muli v1899 c32_i32_399
  let v2019 : BitVec 32 := Scalar.addi v1900 c0_i32_449
  let v2021 : Index := Scalar.indexCast v2019
  ![3, v2021.toNat]
def k0_off74 (v1895 : BitVec 32) (c0_i32_453 : BitVec 32) : Fin 2 → Nat :=
  let c4_i32_454 : BitVec 32 := 4#32
  let v2030 : Index := Scalar.indexCast c4_i32_454
  let c6_i32_397 : BitVec 32 := 6#32
  let v1898 : BitVec 32 := Scalar.shrsi v1895 c6_i32_397
  let c63_i32_398 : BitVec 32 := 63#32
  let v1899 : BitVec 32 := Scalar.andi v1898 c63_i32_398
  let c32_i32_399 : BitVec 32 := 32#32
  let v1900 : BitVec 32 := Scalar.muli v1899 c32_i32_399
  let v2029 : BitVec 32 := Scalar.addi v1900 c0_i32_453
  let v2031 : Index := Scalar.indexCast v2029
  ![4, v2031.toNat]
def k0_off75 (v1895 : BitVec 32) (c0_i32_457 : BitVec 32) : Fin 2 → Nat :=
  let c5_i32_458 : BitVec 32 := 5#32
  let v2040 : Index := Scalar.indexCast c5_i32_458
  let c6_i32_397 : BitVec 32 := 6#32
  let v1898 : BitVec 32 := Scalar.shrsi v1895 c6_i32_397
  let c63_i32_398 : BitVec 32 := 63#32
  let v1899 : BitVec 32 := Scalar.andi v1898 c63_i32_398
  let c32_i32_399 : BitVec 32 := 32#32
  let v1900 : BitVec 32 := Scalar.muli v1899 c32_i32_399
  let v2039 : BitVec 32 := Scalar.addi v1900 c0_i32_457
  let v2041 : Index := Scalar.indexCast v2039
  ![5, v2041.toNat]
def k0_off76 (v1895 : BitVec 32) (c0_i32_461 : BitVec 32) : Fin 2 → Nat :=
  let c6_i32_462 : BitVec 32 := 6#32
  let v2050 : Index := Scalar.indexCast c6_i32_462
  let c6_i32_397 : BitVec 32 := 6#32
  let v1898 : BitVec 32 := Scalar.shrsi v1895 c6_i32_397
  let c63_i32_398 : BitVec 32 := 63#32
  let v1899 : BitVec 32 := Scalar.andi v1898 c63_i32_398
  let c32_i32_399 : BitVec 32 := 32#32
  let v1900 : BitVec 32 := Scalar.muli v1899 c32_i32_399
  let v2049 : BitVec 32 := Scalar.addi v1900 c0_i32_461
  let v2051 : Index := Scalar.indexCast v2049
  ![6, v2051.toNat]
def k0_off77 (v1895 : BitVec 32) (c0_i32_465 : BitVec 32) : Fin 2 → Nat :=
  let c7_i32_466 : BitVec 32 := 7#32
  let v2060 : Index := Scalar.indexCast c7_i32_466
  let c6_i32_397 : BitVec 32 := 6#32
  let v1898 : BitVec 32 := Scalar.shrsi v1895 c6_i32_397
  let c63_i32_398 : BitVec 32 := 63#32
  let v1899 : BitVec 32 := Scalar.andi v1898 c63_i32_398
  let c32_i32_399 : BitVec 32 := 32#32
  let v1900 : BitVec 32 := Scalar.muli v1899 c32_i32_399
  let v2059 : BitVec 32 := Scalar.addi v1900 c0_i32_465
  let v2061 : Index := Scalar.indexCast v2059
  ![7, v2061.toNat]
def k0_off78 (v1895 : BitVec 32) (c0_i32_469 : BitVec 32) : Fin 2 → Nat :=
  let c0_i32_470 : BitVec 32 := 0#32
  let v2102 : Index := Scalar.indexCast c0_i32_470
  let c12_i32_400 : BitVec 32 := 12#32
  let v1901 : BitVec 32 := Scalar.shrsi v1895 c12_i32_400
  let c32_i32_401 : BitVec 32 := 32#32
  let v1902 : BitVec 32 := Scalar.muli v1901 c32_i32_401
  let v2101 : BitVec 32 := Scalar.addi v1902 c0_i32_469
  let v2103 : Index := Scalar.indexCast v2101
  ![0, v2103.toNat]
def k0_off79 (v1895 : BitVec 32) (c0_i32_477 : BitVec 32) : Fin 2 → Nat :=
  let c1_i32_478 : BitVec 32 := 1#32
  let v2126 : Index := Scalar.indexCast c1_i32_478
  let c12_i32_400 : BitVec 32 := 12#32
  let v1901 : BitVec 32 := Scalar.shrsi v1895 c12_i32_400
  let c32_i32_401 : BitVec 32 := 32#32
  let v1902 : BitVec 32 := Scalar.muli v1901 c32_i32_401
  let v2125 : BitVec 32 := Scalar.addi v1902 c0_i32_477
  let v2127 : Index := Scalar.indexCast v2125
  ![1, v2127.toNat]
def k0_off80 (v1895 : BitVec 32) (c0_i32_485 : BitVec 32) : Fin 2 → Nat :=
  let c2_i32_486 : BitVec 32 := 2#32
  let v2150 : Index := Scalar.indexCast c2_i32_486
  let c12_i32_400 : BitVec 32 := 12#32
  let v1901 : BitVec 32 := Scalar.shrsi v1895 c12_i32_400
  let c32_i32_401 : BitVec 32 := 32#32
  let v1902 : BitVec 32 := Scalar.muli v1901 c32_i32_401
  let v2149 : BitVec 32 := Scalar.addi v1902 c0_i32_485
  let v2151 : Index := Scalar.indexCast v2149
  ![2, v2151.toNat]
def k0_off81 (v1895 : BitVec 32) (c0_i32_493 : BitVec 32) : Fin 2 → Nat :=
  let c3_i32_494 : BitVec 32 := 3#32
  let v2174 : Index := Scalar.indexCast c3_i32_494
  let c12_i32_400 : BitVec 32 := 12#32
  let v1901 : BitVec 32 := Scalar.shrsi v1895 c12_i32_400
  let c32_i32_401 : BitVec 32 := 32#32
  let v1902 : BitVec 32 := Scalar.muli v1901 c32_i32_401
  let v2173 : BitVec 32 := Scalar.addi v1902 c0_i32_493
  let v2175 : Index := Scalar.indexCast v2173
  ![3, v2175.toNat]
def k0_off82 (v1895 : BitVec 32) (c0_i32_501 : BitVec 32) : Fin 2 → Nat :=
  let c4_i32_502 : BitVec 32 := 4#32
  let v2198 : Index := Scalar.indexCast c4_i32_502
  let c12_i32_400 : BitVec 32 := 12#32
  let v1901 : BitVec 32 := Scalar.shrsi v1895 c12_i32_400
  let c32_i32_401 : BitVec 32 := 32#32
  let v1902 : BitVec 32 := Scalar.muli v1901 c32_i32_401
  let v2197 : BitVec 32 := Scalar.addi v1902 c0_i32_501
  let v2199 : Index := Scalar.indexCast v2197
  ![4, v2199.toNat]
def k0_off83 (v1895 : BitVec 32) (c0_i32_509 : BitVec 32) : Fin 2 → Nat :=
  let c5_i32_510 : BitVec 32 := 5#32
  let v2222 : Index := Scalar.indexCast c5_i32_510
  let c12_i32_400 : BitVec 32 := 12#32
  let v1901 : BitVec 32 := Scalar.shrsi v1895 c12_i32_400
  let c32_i32_401 : BitVec 32 := 32#32
  let v1902 : BitVec 32 := Scalar.muli v1901 c32_i32_401
  let v2221 : BitVec 32 := Scalar.addi v1902 c0_i32_509
  let v2223 : Index := Scalar.indexCast v2221
  ![5, v2223.toNat]
def k0_off84 (v1895 : BitVec 32) (c0_i32_517 : BitVec 32) : Fin 2 → Nat :=
  let c6_i32_518 : BitVec 32 := 6#32
  let v2246 : Index := Scalar.indexCast c6_i32_518
  let c12_i32_400 : BitVec 32 := 12#32
  let v1901 : BitVec 32 := Scalar.shrsi v1895 c12_i32_400
  let c32_i32_401 : BitVec 32 := 32#32
  let v1902 : BitVec 32 := Scalar.muli v1901 c32_i32_401
  let v2245 : BitVec 32 := Scalar.addi v1902 c0_i32_517
  let v2247 : Index := Scalar.indexCast v2245
  ![6, v2247.toNat]
def k0_off85 (v1895 : BitVec 32) (c0_i32_525 : BitVec 32) : Fin 2 → Nat :=
  let c7_i32_526 : BitVec 32 := 7#32
  let v2270 : Index := Scalar.indexCast c7_i32_526
  let c12_i32_400 : BitVec 32 := 12#32
  let v1901 : BitVec 32 := Scalar.shrsi v1895 c12_i32_400
  let c32_i32_401 : BitVec 32 := 32#32
  let v1902 : BitVec 32 := Scalar.muli v1901 c32_i32_401
  let v2269 : BitVec 32 := Scalar.addi v1902 c0_i32_525
  let v2271 : Index := Scalar.indexCast v2269
  ![7, v2271.toNat]

def k0_chk3 (v1895 : BitVec 32) : Prop :=
  (∀ (r : Fin 2), ∀ a, (k0_off62 v1895 (BitVec.ofNat 32 (16 * r.val))) a + S1x16.size a ≤ S8x2048.size a) ∧
  (∀ (r : Fin 2), ∀ a, (k0_off63 v1895 (BitVec.ofNat 32 (16 * r.val))) a + S1x16.size a ≤ S8x2048.size a) ∧
  (∀ (r : Fin 2), ∀ a, (k0_off64 v1895 (BitVec.ofNat 32 (16 * r.val))) a + S1x16.size a ≤ S8x2048.size a) ∧
  (∀ (r : Fin 2), ∀ a, (k0_off65 v1895 (BitVec.ofNat 32 (16 * r.val))) a + S1x16.size a ≤ S8x2048.size a) ∧
  (∀ (r : Fin 2), ∀ a, (k0_off66 v1895 (BitVec.ofNat 32 (16 * r.val))) a + S1x16.size a ≤ S8x2048.size a) ∧
  (∀ (r : Fin 2), ∀ a, (k0_off67 v1895 (BitVec.ofNat 32 (16 * r.val))) a + S1x16.size a ≤ S8x2048.size a) ∧
  (∀ (r : Fin 2), ∀ a, (k0_off68 v1895 (BitVec.ofNat 32 (16 * r.val))) a + S1x16.size a ≤ S8x2048.size a) ∧
  (∀ (r : Fin 2), ∀ a, (k0_off69 v1895 (BitVec.ofNat 32 (16 * r.val))) a + S1x16.size a ≤ S8x2048.size a) ∧
  (∀ (r : Fin 2), ∀ a, (k0_off70 v1895 (BitVec.ofNat 32 (16 * r.val))) a + S1x16.size a ≤ S8x2048.size a) ∧
  (∀ (r : Fin 2), ∀ a, (k0_off71 v1895 (BitVec.ofNat 32 (16 * r.val))) a + S1x16.size a ≤ S8x2048.size a) ∧
  (∀ (r : Fin 2), ∀ a, (k0_off72 v1895 (BitVec.ofNat 32 (16 * r.val))) a + S1x16.size a ≤ S8x2048.size a) ∧
  (∀ (r : Fin 2), ∀ a, (k0_off73 v1895 (BitVec.ofNat 32 (16 * r.val))) a + S1x16.size a ≤ S8x2048.size a) ∧
  (∀ (r : Fin 2), ∀ a, (k0_off74 v1895 (BitVec.ofNat 32 (16 * r.val))) a + S1x16.size a ≤ S8x2048.size a) ∧
  (∀ (r : Fin 2), ∀ a, (k0_off75 v1895 (BitVec.ofNat 32 (16 * r.val))) a + S1x16.size a ≤ S8x2048.size a) ∧
  (∀ (r : Fin 2), ∀ a, (k0_off76 v1895 (BitVec.ofNat 32 (16 * r.val))) a + S1x16.size a ≤ S8x2048.size a) ∧
  (∀ (r : Fin 2), ∀ a, (k0_off77 v1895 (BitVec.ofNat 32 (16 * r.val))) a + S1x16.size a ≤ S8x2048.size a) ∧
  (∀ (r : Fin 2), ∀ a, (k0_off78 v1895 (BitVec.ofNat 32 (16 * r.val))) a + S1x16.size a ≤ S8x2048.size a) ∧
  (∀ (r : Fin 2), ∀ a, (k0_off79 v1895 (BitVec.ofNat 32 (16 * r.val))) a + S1x16.size a ≤ S8x2048.size a) ∧
  (∀ (r : Fin 2), ∀ a, (k0_off80 v1895 (BitVec.ofNat 32 (16 * r.val))) a + S1x16.size a ≤ S8x2048.size a) ∧
  (∀ (r : Fin 2), ∀ a, (k0_off81 v1895 (BitVec.ofNat 32 (16 * r.val))) a + S1x16.size a ≤ S8x2048.size a) ∧
  (∀ (r : Fin 2), ∀ a, (k0_off82 v1895 (BitVec.ofNat 32 (16 * r.val))) a + S1x16.size a ≤ S8x2048.size a) ∧
  (∀ (r : Fin 2), ∀ a, (k0_off83 v1895 (BitVec.ofNat 32 (16 * r.val))) a + S1x16.size a ≤ S8x2048.size a) ∧
  (∀ (r : Fin 2), ∀ a, (k0_off84 v1895 (BitVec.ofNat 32 (16 * r.val))) a + S1x16.size a ≤ S8x2048.size a) ∧
  (∀ (r : Fin 2), ∀ a, (k0_off85 v1895 (BitVec.ofNat 32 (16 * r.val))) a + S1x16.size a ≤ S8x2048.size a)
theorem k0_off62_inb : ∀ (v1895 : BitVec 32) (k0_hw3 : k0_chk3 v1895), ∀ (r : Fin 2), ∀ a, (k0_off62 v1895 (BitVec.ofNat 32 (16 * r.val))) a + S1x16.size a ≤ S8x2048.size a := fun v1895 k0_hw3 r => k0_hw3.1 r
theorem k0_off63_inb : ∀ (v1895 : BitVec 32) (k0_hw3 : k0_chk3 v1895), ∀ (r : Fin 2), ∀ a, (k0_off63 v1895 (BitVec.ofNat 32 (16 * r.val))) a + S1x16.size a ≤ S8x2048.size a := fun v1895 k0_hw3 r => k0_hw3.2.1 r
theorem k0_off64_inb : ∀ (v1895 : BitVec 32) (k0_hw3 : k0_chk3 v1895), ∀ (r : Fin 2), ∀ a, (k0_off64 v1895 (BitVec.ofNat 32 (16 * r.val))) a + S1x16.size a ≤ S8x2048.size a := fun v1895 k0_hw3 r => k0_hw3.2.2.1 r
theorem k0_off65_inb : ∀ (v1895 : BitVec 32) (k0_hw3 : k0_chk3 v1895), ∀ (r : Fin 2), ∀ a, (k0_off65 v1895 (BitVec.ofNat 32 (16 * r.val))) a + S1x16.size a ≤ S8x2048.size a := fun v1895 k0_hw3 r => k0_hw3.2.2.2.1 r
theorem k0_off66_inb : ∀ (v1895 : BitVec 32) (k0_hw3 : k0_chk3 v1895), ∀ (r : Fin 2), ∀ a, (k0_off66 v1895 (BitVec.ofNat 32 (16 * r.val))) a + S1x16.size a ≤ S8x2048.size a := fun v1895 k0_hw3 r => k0_hw3.2.2.2.2.1 r
theorem k0_off67_inb : ∀ (v1895 : BitVec 32) (k0_hw3 : k0_chk3 v1895), ∀ (r : Fin 2), ∀ a, (k0_off67 v1895 (BitVec.ofNat 32 (16 * r.val))) a + S1x16.size a ≤ S8x2048.size a := fun v1895 k0_hw3 r => k0_hw3.2.2.2.2.2.1 r
theorem k0_off68_inb : ∀ (v1895 : BitVec 32) (k0_hw3 : k0_chk3 v1895), ∀ (r : Fin 2), ∀ a, (k0_off68 v1895 (BitVec.ofNat 32 (16 * r.val))) a + S1x16.size a ≤ S8x2048.size a := fun v1895 k0_hw3 r => k0_hw3.2.2.2.2.2.2.1 r
theorem k0_off69_inb : ∀ (v1895 : BitVec 32) (k0_hw3 : k0_chk3 v1895), ∀ (r : Fin 2), ∀ a, (k0_off69 v1895 (BitVec.ofNat 32 (16 * r.val))) a + S1x16.size a ≤ S8x2048.size a := fun v1895 k0_hw3 r => k0_hw3.2.2.2.2.2.2.2.1 r
theorem k0_off70_inb : ∀ (v1895 : BitVec 32) (k0_hw3 : k0_chk3 v1895), ∀ (r : Fin 2), ∀ a, (k0_off70 v1895 (BitVec.ofNat 32 (16 * r.val))) a + S1x16.size a ≤ S8x2048.size a := fun v1895 k0_hw3 r => k0_hw3.2.2.2.2.2.2.2.2.1 r
theorem k0_off71_inb : ∀ (v1895 : BitVec 32) (k0_hw3 : k0_chk3 v1895), ∀ (r : Fin 2), ∀ a, (k0_off71 v1895 (BitVec.ofNat 32 (16 * r.val))) a + S1x16.size a ≤ S8x2048.size a := fun v1895 k0_hw3 r => k0_hw3.2.2.2.2.2.2.2.2.2.1 r
theorem k0_off72_inb : ∀ (v1895 : BitVec 32) (k0_hw3 : k0_chk3 v1895), ∀ (r : Fin 2), ∀ a, (k0_off72 v1895 (BitVec.ofNat 32 (16 * r.val))) a + S1x16.size a ≤ S8x2048.size a := fun v1895 k0_hw3 r => k0_hw3.2.2.2.2.2.2.2.2.2.2.1 r
theorem k0_off73_inb : ∀ (v1895 : BitVec 32) (k0_hw3 : k0_chk3 v1895), ∀ (r : Fin 2), ∀ a, (k0_off73 v1895 (BitVec.ofNat 32 (16 * r.val))) a + S1x16.size a ≤ S8x2048.size a := fun v1895 k0_hw3 r => k0_hw3.2.2.2.2.2.2.2.2.2.2.2.1 r
theorem k0_off74_inb : ∀ (v1895 : BitVec 32) (k0_hw3 : k0_chk3 v1895), ∀ (r : Fin 2), ∀ a, (k0_off74 v1895 (BitVec.ofNat 32 (16 * r.val))) a + S1x16.size a ≤ S8x2048.size a := fun v1895 k0_hw3 r => k0_hw3.2.2.2.2.2.2.2.2.2.2.2.2.1 r
theorem k0_off75_inb : ∀ (v1895 : BitVec 32) (k0_hw3 : k0_chk3 v1895), ∀ (r : Fin 2), ∀ a, (k0_off75 v1895 (BitVec.ofNat 32 (16 * r.val))) a + S1x16.size a ≤ S8x2048.size a := fun v1895 k0_hw3 r => k0_hw3.2.2.2.2.2.2.2.2.2.2.2.2.2.1 r
theorem k0_off76_inb : ∀ (v1895 : BitVec 32) (k0_hw3 : k0_chk3 v1895), ∀ (r : Fin 2), ∀ a, (k0_off76 v1895 (BitVec.ofNat 32 (16 * r.val))) a + S1x16.size a ≤ S8x2048.size a := fun v1895 k0_hw3 r => k0_hw3.2.2.2.2.2.2.2.2.2.2.2.2.2.2.1 r
theorem k0_off77_inb : ∀ (v1895 : BitVec 32) (k0_hw3 : k0_chk3 v1895), ∀ (r : Fin 2), ∀ a, (k0_off77 v1895 (BitVec.ofNat 32 (16 * r.val))) a + S1x16.size a ≤ S8x2048.size a := fun v1895 k0_hw3 r => k0_hw3.2.2.2.2.2.2.2.2.2.2.2.2.2.2.2.1 r
theorem k0_off78_inb : ∀ (v1895 : BitVec 32) (k0_hw3 : k0_chk3 v1895), ∀ (r : Fin 2), ∀ a, (k0_off78 v1895 (BitVec.ofNat 32 (16 * r.val))) a + S1x16.size a ≤ S8x2048.size a := fun v1895 k0_hw3 r => k0_hw3.2.2.2.2.2.2.2.2.2.2.2.2.2.2.2.2.1 r
theorem k0_off79_inb : ∀ (v1895 : BitVec 32) (k0_hw3 : k0_chk3 v1895), ∀ (r : Fin 2), ∀ a, (k0_off79 v1895 (BitVec.ofNat 32 (16 * r.val))) a + S1x16.size a ≤ S8x2048.size a := fun v1895 k0_hw3 r => k0_hw3.2.2.2.2.2.2.2.2.2.2.2.2.2.2.2.2.2.1 r
theorem k0_off80_inb : ∀ (v1895 : BitVec 32) (k0_hw3 : k0_chk3 v1895), ∀ (r : Fin 2), ∀ a, (k0_off80 v1895 (BitVec.ofNat 32 (16 * r.val))) a + S1x16.size a ≤ S8x2048.size a := fun v1895 k0_hw3 r => k0_hw3.2.2.2.2.2.2.2.2.2.2.2.2.2.2.2.2.2.2.1 r
theorem k0_off81_inb : ∀ (v1895 : BitVec 32) (k0_hw3 : k0_chk3 v1895), ∀ (r : Fin 2), ∀ a, (k0_off81 v1895 (BitVec.ofNat 32 (16 * r.val))) a + S1x16.size a ≤ S8x2048.size a := fun v1895 k0_hw3 r => k0_hw3.2.2.2.2.2.2.2.2.2.2.2.2.2.2.2.2.2.2.2.1 r
theorem k0_off82_inb : ∀ (v1895 : BitVec 32) (k0_hw3 : k0_chk3 v1895), ∀ (r : Fin 2), ∀ a, (k0_off82 v1895 (BitVec.ofNat 32 (16 * r.val))) a + S1x16.size a ≤ S8x2048.size a := fun v1895 k0_hw3 r => k0_hw3.2.2.2.2.2.2.2.2.2.2.2.2.2.2.2.2.2.2.2.2.1 r
theorem k0_off83_inb : ∀ (v1895 : BitVec 32) (k0_hw3 : k0_chk3 v1895), ∀ (r : Fin 2), ∀ a, (k0_off83 v1895 (BitVec.ofNat 32 (16 * r.val))) a + S1x16.size a ≤ S8x2048.size a := fun v1895 k0_hw3 r => k0_hw3.2.2.2.2.2.2.2.2.2.2.2.2.2.2.2.2.2.2.2.2.2.1 r
theorem k0_off84_inb : ∀ (v1895 : BitVec 32) (k0_hw3 : k0_chk3 v1895), ∀ (r : Fin 2), ∀ a, (k0_off84 v1895 (BitVec.ofNat 32 (16 * r.val))) a + S1x16.size a ≤ S8x2048.size a := fun v1895 k0_hw3 r => k0_hw3.2.2.2.2.2.2.2.2.2.2.2.2.2.2.2.2.2.2.2.2.2.2.1 r
theorem k0_off85_inb : ∀ (v1895 : BitVec 32) (k0_hw3 : k0_chk3 v1895), ∀ (r : Fin 2), ∀ a, (k0_off85 v1895 (BitVec.ofNat 32 (16 * r.val))) a + S1x16.size a ≤ S8x2048.size a := fun v1895 k0_hw3 r => k0_hw3.2.2.2.2.2.2.2.2.2.2.2.2.2.2.2.2.2.2.2.2.2.2.2 r

def k0_off86 (k0_t3 : Fin k0_t3_loop.trips) : Fin 1 → Nat :=
  let c0_i32_90 : BitVec 32 := 0#32
  let c1_i32_92 : BitVec 32 := 1#32
  let arg28 : BitVec 32 := Scf.iv c0_i32_90 c1_i32_92 k0_t3
  let c16_i32_540 : BitVec 32 := 16#32
  let v2302 : BitVec 32 := Scalar.muli arg28 c16_i32_540
  let c3_i32_541 : BitVec 32 := 3#32
  let v2303 : BitVec 32 := Scalar.addi v2302 c3_i32_541
  let c16_i32_542 : BitVec 32 := 16#32
  let v2304 : BitVec 32 := Scalar.muli v2303 c16_i32_542
  let v2305 : Index := Scalar.indexCast v2304
  ![v2305.toNat]
def k0_off87 (v2294 : BitVec 32) (c0_i32_543 : BitVec 32) : Fin 2 → Nat :=
  let c0_i32_544 : BitVec 32 := 0#32
  let v2309 : Index := Scalar.indexCast c0_i32_544
  let c63_i32_533 : BitVec 32 := 63#32
  let v2295 : BitVec 32 := Scalar.andi v2294 c63_i32_533
  let c32_i32_534 : BitVec 32 := 32#32
  let v2296 : BitVec 32 := Scalar.muli v2295 c32_i32_534
  let v2308 : BitVec 32 := Scalar.addi v2296 c0_i32_543
  let v2310 : Index := Scalar.indexCast v2308
  ![0, v2310.toNat]

def k0_off88 (v2294 : BitVec 32) (c0_i32_547 : BitVec 32) : Fin 2 → Nat :=
  let c1_i32_548 : BitVec 32 := 1#32
  let v2319 : Index := Scalar.indexCast c1_i32_548
  let c63_i32_533 : BitVec 32 := 63#32
  let v2295 : BitVec 32 := Scalar.andi v2294 c63_i32_533
  let c32_i32_534 : BitVec 32 := 32#32
  let v2296 : BitVec 32 := Scalar.muli v2295 c32_i32_534
  let v2318 : BitVec 32 := Scalar.addi v2296 c0_i32_547
  let v2320 : Index := Scalar.indexCast v2318
  ![1, v2320.toNat]
def k0_off89 (v2294 : BitVec 32) (c0_i32_551 : BitVec 32) : Fin 2 → Nat :=
  let c2_i32_552 : BitVec 32 := 2#32
  let v2329 : Index := Scalar.indexCast c2_i32_552
  let c63_i32_533 : BitVec 32 := 63#32
  let v2295 : BitVec 32 := Scalar.andi v2294 c63_i32_533
  let c32_i32_534 : BitVec 32 := 32#32
  let v2296 : BitVec 32 := Scalar.muli v2295 c32_i32_534
  let v2328 : BitVec 32 := Scalar.addi v2296 c0_i32_551
  let v2330 : Index := Scalar.indexCast v2328
  ![2, v2330.toNat]
def k0_off90 (v2294 : BitVec 32) (c0_i32_555 : BitVec 32) : Fin 2 → Nat :=
  let c3_i32_556 : BitVec 32 := 3#32
  let v2339 : Index := Scalar.indexCast c3_i32_556
  let c63_i32_533 : BitVec 32 := 63#32
  let v2295 : BitVec 32 := Scalar.andi v2294 c63_i32_533
  let c32_i32_534 : BitVec 32 := 32#32
  let v2296 : BitVec 32 := Scalar.muli v2295 c32_i32_534
  let v2338 : BitVec 32 := Scalar.addi v2296 c0_i32_555
  let v2340 : Index := Scalar.indexCast v2338
  ![3, v2340.toNat]
def k0_off91 (v2294 : BitVec 32) (c0_i32_559 : BitVec 32) : Fin 2 → Nat :=
  let c4_i32_560 : BitVec 32 := 4#32
  let v2349 : Index := Scalar.indexCast c4_i32_560
  let c63_i32_533 : BitVec 32 := 63#32
  let v2295 : BitVec 32 := Scalar.andi v2294 c63_i32_533
  let c32_i32_534 : BitVec 32 := 32#32
  let v2296 : BitVec 32 := Scalar.muli v2295 c32_i32_534
  let v2348 : BitVec 32 := Scalar.addi v2296 c0_i32_559
  let v2350 : Index := Scalar.indexCast v2348
  ![4, v2350.toNat]
def k0_off92 (v2294 : BitVec 32) (c0_i32_563 : BitVec 32) : Fin 2 → Nat :=
  let c5_i32_564 : BitVec 32 := 5#32
  let v2359 : Index := Scalar.indexCast c5_i32_564
  let c63_i32_533 : BitVec 32 := 63#32
  let v2295 : BitVec 32 := Scalar.andi v2294 c63_i32_533
  let c32_i32_534 : BitVec 32 := 32#32
  let v2296 : BitVec 32 := Scalar.muli v2295 c32_i32_534
  let v2358 : BitVec 32 := Scalar.addi v2296 c0_i32_563
  let v2360 : Index := Scalar.indexCast v2358
  ![5, v2360.toNat]
def k0_off93 (v2294 : BitVec 32) (c0_i32_567 : BitVec 32) : Fin 2 → Nat :=
  let c6_i32_568 : BitVec 32 := 6#32
  let v2369 : Index := Scalar.indexCast c6_i32_568
  let c63_i32_533 : BitVec 32 := 63#32
  let v2295 : BitVec 32 := Scalar.andi v2294 c63_i32_533
  let c32_i32_534 : BitVec 32 := 32#32
  let v2296 : BitVec 32 := Scalar.muli v2295 c32_i32_534
  let v2368 : BitVec 32 := Scalar.addi v2296 c0_i32_567
  let v2370 : Index := Scalar.indexCast v2368
  ![6, v2370.toNat]
def k0_off94 (v2294 : BitVec 32) (c0_i32_571 : BitVec 32) : Fin 2 → Nat :=
  let c7_i32_572 : BitVec 32 := 7#32
  let v2379 : Index := Scalar.indexCast c7_i32_572
  let c63_i32_533 : BitVec 32 := 63#32
  let v2295 : BitVec 32 := Scalar.andi v2294 c63_i32_533
  let c32_i32_534 : BitVec 32 := 32#32
  let v2296 : BitVec 32 := Scalar.muli v2295 c32_i32_534
  let v2378 : BitVec 32 := Scalar.addi v2296 c0_i32_571
  let v2380 : Index := Scalar.indexCast v2378
  ![7, v2380.toNat]
def k0_off95 (v2294 : BitVec 32) (c0_i32_575 : BitVec 32) : Fin 2 → Nat :=
  let c0_i32_576 : BitVec 32 := 0#32
  let v2389 : Index := Scalar.indexCast c0_i32_576
  let c6_i32_535 : BitVec 32 := 6#32
  let v2297 : BitVec 32 := Scalar.shrsi v2294 c6_i32_535
  let c63_i32_536 : BitVec 32 := 63#32
  let v2298 : BitVec 32 := Scalar.andi v2297 c63_i32_536
  let c32_i32_537 : BitVec 32 := 32#32
  let v2299 : BitVec 32 := Scalar.muli v2298 c32_i32_537
  let v2388 : BitVec 32 := Scalar.addi v2299 c0_i32_575
  let v2390 : Index := Scalar.indexCast v2388
  ![0, v2390.toNat]
def k0_off96 (v2294 : BitVec 32) (c0_i32_579 : BitVec 32) : Fin 2 → Nat :=
  let c1_i32_580 : BitVec 32 := 1#32
  let v2399 : Index := Scalar.indexCast c1_i32_580
  let c6_i32_535 : BitVec 32 := 6#32
  let v2297 : BitVec 32 := Scalar.shrsi v2294 c6_i32_535
  let c63_i32_536 : BitVec 32 := 63#32
  let v2298 : BitVec 32 := Scalar.andi v2297 c63_i32_536
  let c32_i32_537 : BitVec 32 := 32#32
  let v2299 : BitVec 32 := Scalar.muli v2298 c32_i32_537
  let v2398 : BitVec 32 := Scalar.addi v2299 c0_i32_579
  let v2400 : Index := Scalar.indexCast v2398
  ![1, v2400.toNat]
def k0_off97 (v2294 : BitVec 32) (c0_i32_583 : BitVec 32) : Fin 2 → Nat :=
  let c2_i32_584 : BitVec 32 := 2#32
  let v2409 : Index := Scalar.indexCast c2_i32_584
  let c6_i32_535 : BitVec 32 := 6#32
  let v2297 : BitVec 32 := Scalar.shrsi v2294 c6_i32_535
  let c63_i32_536 : BitVec 32 := 63#32
  let v2298 : BitVec 32 := Scalar.andi v2297 c63_i32_536
  let c32_i32_537 : BitVec 32 := 32#32
  let v2299 : BitVec 32 := Scalar.muli v2298 c32_i32_537
  let v2408 : BitVec 32 := Scalar.addi v2299 c0_i32_583
  let v2410 : Index := Scalar.indexCast v2408
  ![2, v2410.toNat]
def k0_off98 (v2294 : BitVec 32) (c0_i32_587 : BitVec 32) : Fin 2 → Nat :=
  let c3_i32_588 : BitVec 32 := 3#32
  let v2419 : Index := Scalar.indexCast c3_i32_588
  let c6_i32_535 : BitVec 32 := 6#32
  let v2297 : BitVec 32 := Scalar.shrsi v2294 c6_i32_535
  let c63_i32_536 : BitVec 32 := 63#32
  let v2298 : BitVec 32 := Scalar.andi v2297 c63_i32_536
  let c32_i32_537 : BitVec 32 := 32#32
  let v2299 : BitVec 32 := Scalar.muli v2298 c32_i32_537
  let v2418 : BitVec 32 := Scalar.addi v2299 c0_i32_587
  let v2420 : Index := Scalar.indexCast v2418
  ![3, v2420.toNat]
def k0_off99 (v2294 : BitVec 32) (c0_i32_591 : BitVec 32) : Fin 2 → Nat :=
  let c4_i32_592 : BitVec 32 := 4#32
  let v2429 : Index := Scalar.indexCast c4_i32_592
  let c6_i32_535 : BitVec 32 := 6#32
  let v2297 : BitVec 32 := Scalar.shrsi v2294 c6_i32_535
  let c63_i32_536 : BitVec 32 := 63#32
  let v2298 : BitVec 32 := Scalar.andi v2297 c63_i32_536
  let c32_i32_537 : BitVec 32 := 32#32
  let v2299 : BitVec 32 := Scalar.muli v2298 c32_i32_537
  let v2428 : BitVec 32 := Scalar.addi v2299 c0_i32_591
  let v2430 : Index := Scalar.indexCast v2428
  ![4, v2430.toNat]
def k0_off100 (v2294 : BitVec 32) (c0_i32_595 : BitVec 32) : Fin 2 → Nat :=
  let c5_i32_596 : BitVec 32 := 5#32
  let v2439 : Index := Scalar.indexCast c5_i32_596
  let c6_i32_535 : BitVec 32 := 6#32
  let v2297 : BitVec 32 := Scalar.shrsi v2294 c6_i32_535
  let c63_i32_536 : BitVec 32 := 63#32
  let v2298 : BitVec 32 := Scalar.andi v2297 c63_i32_536
  let c32_i32_537 : BitVec 32 := 32#32
  let v2299 : BitVec 32 := Scalar.muli v2298 c32_i32_537
  let v2438 : BitVec 32 := Scalar.addi v2299 c0_i32_595
  let v2440 : Index := Scalar.indexCast v2438
  ![5, v2440.toNat]
def k0_off101 (v2294 : BitVec 32) (c0_i32_599 : BitVec 32) : Fin 2 → Nat :=
  let c6_i32_600 : BitVec 32 := 6#32
  let v2449 : Index := Scalar.indexCast c6_i32_600
  let c6_i32_535 : BitVec 32 := 6#32
  let v2297 : BitVec 32 := Scalar.shrsi v2294 c6_i32_535
  let c63_i32_536 : BitVec 32 := 63#32
  let v2298 : BitVec 32 := Scalar.andi v2297 c63_i32_536
  let c32_i32_537 : BitVec 32 := 32#32
  let v2299 : BitVec 32 := Scalar.muli v2298 c32_i32_537
  let v2448 : BitVec 32 := Scalar.addi v2299 c0_i32_599
  let v2450 : Index := Scalar.indexCast v2448
  ![6, v2450.toNat]
def k0_off102 (v2294 : BitVec 32) (c0_i32_603 : BitVec 32) : Fin 2 → Nat :=
  let c7_i32_604 : BitVec 32 := 7#32
  let v2459 : Index := Scalar.indexCast c7_i32_604
  let c6_i32_535 : BitVec 32 := 6#32
  let v2297 : BitVec 32 := Scalar.shrsi v2294 c6_i32_535
  let c63_i32_536 : BitVec 32 := 63#32
  let v2298 : BitVec 32 := Scalar.andi v2297 c63_i32_536
  let c32_i32_537 : BitVec 32 := 32#32
  let v2299 : BitVec 32 := Scalar.muli v2298 c32_i32_537
  let v2458 : BitVec 32 := Scalar.addi v2299 c0_i32_603
  let v2460 : Index := Scalar.indexCast v2458
  ![7, v2460.toNat]
def k0_off103 (v2294 : BitVec 32) (c0_i32_607 : BitVec 32) : Fin 2 → Nat :=
  let c0_i32_608 : BitVec 32 := 0#32
  let v2501 : Index := Scalar.indexCast c0_i32_608
  let c12_i32_538 : BitVec 32 := 12#32
  let v2300 : BitVec 32 := Scalar.shrsi v2294 c12_i32_538
  let c32_i32_539 : BitVec 32 := 32#32
  let v2301 : BitVec 32 := Scalar.muli v2300 c32_i32_539
  let v2500 : BitVec 32 := Scalar.addi v2301 c0_i32_607
  let v2502 : Index := Scalar.indexCast v2500
  ![0, v2502.toNat]
def k0_off104 (v2294 : BitVec 32) (c0_i32_615 : BitVec 32) : Fin 2 → Nat :=
  let c1_i32_616 : BitVec 32 := 1#32
  let v2525 : Index := Scalar.indexCast c1_i32_616
  let c12_i32_538 : BitVec 32 := 12#32
  let v2300 : BitVec 32 := Scalar.shrsi v2294 c12_i32_538
  let c32_i32_539 : BitVec 32 := 32#32
  let v2301 : BitVec 32 := Scalar.muli v2300 c32_i32_539
  let v2524 : BitVec 32 := Scalar.addi v2301 c0_i32_615
  let v2526 : Index := Scalar.indexCast v2524
  ![1, v2526.toNat]
def k0_off105 (v2294 : BitVec 32) (c0_i32_623 : BitVec 32) : Fin 2 → Nat :=
  let c2_i32_624 : BitVec 32 := 2#32
  let v2549 : Index := Scalar.indexCast c2_i32_624
  let c12_i32_538 : BitVec 32 := 12#32
  let v2300 : BitVec 32 := Scalar.shrsi v2294 c12_i32_538
  let c32_i32_539 : BitVec 32 := 32#32
  let v2301 : BitVec 32 := Scalar.muli v2300 c32_i32_539
  let v2548 : BitVec 32 := Scalar.addi v2301 c0_i32_623
  let v2550 : Index := Scalar.indexCast v2548
  ![2, v2550.toNat]
def k0_off106 (v2294 : BitVec 32) (c0_i32_631 : BitVec 32) : Fin 2 → Nat :=
  let c3_i32_632 : BitVec 32 := 3#32
  let v2573 : Index := Scalar.indexCast c3_i32_632
  let c12_i32_538 : BitVec 32 := 12#32
  let v2300 : BitVec 32 := Scalar.shrsi v2294 c12_i32_538
  let c32_i32_539 : BitVec 32 := 32#32
  let v2301 : BitVec 32 := Scalar.muli v2300 c32_i32_539
  let v2572 : BitVec 32 := Scalar.addi v2301 c0_i32_631
  let v2574 : Index := Scalar.indexCast v2572
  ![3, v2574.toNat]
def k0_off107 (v2294 : BitVec 32) (c0_i32_639 : BitVec 32) : Fin 2 → Nat :=
  let c4_i32_640 : BitVec 32 := 4#32
  let v2597 : Index := Scalar.indexCast c4_i32_640
  let c12_i32_538 : BitVec 32 := 12#32
  let v2300 : BitVec 32 := Scalar.shrsi v2294 c12_i32_538
  let c32_i32_539 : BitVec 32 := 32#32
  let v2301 : BitVec 32 := Scalar.muli v2300 c32_i32_539
  let v2596 : BitVec 32 := Scalar.addi v2301 c0_i32_639
  let v2598 : Index := Scalar.indexCast v2596
  ![4, v2598.toNat]
def k0_off108 (v2294 : BitVec 32) (c0_i32_647 : BitVec 32) : Fin 2 → Nat :=
  let c5_i32_648 : BitVec 32 := 5#32
  let v2621 : Index := Scalar.indexCast c5_i32_648
  let c12_i32_538 : BitVec 32 := 12#32
  let v2300 : BitVec 32 := Scalar.shrsi v2294 c12_i32_538
  let c32_i32_539 : BitVec 32 := 32#32
  let v2301 : BitVec 32 := Scalar.muli v2300 c32_i32_539
  let v2620 : BitVec 32 := Scalar.addi v2301 c0_i32_647
  let v2622 : Index := Scalar.indexCast v2620
  ![5, v2622.toNat]
def k0_off109 (v2294 : BitVec 32) (c0_i32_655 : BitVec 32) : Fin 2 → Nat :=
  let c6_i32_656 : BitVec 32 := 6#32
  let v2645 : Index := Scalar.indexCast c6_i32_656
  let c12_i32_538 : BitVec 32 := 12#32
  let v2300 : BitVec 32 := Scalar.shrsi v2294 c12_i32_538
  let c32_i32_539 : BitVec 32 := 32#32
  let v2301 : BitVec 32 := Scalar.muli v2300 c32_i32_539
  let v2644 : BitVec 32 := Scalar.addi v2301 c0_i32_655
  let v2646 : Index := Scalar.indexCast v2644
  ![6, v2646.toNat]
def k0_off110 (v2294 : BitVec 32) (c0_i32_663 : BitVec 32) : Fin 2 → Nat :=
  let c7_i32_664 : BitVec 32 := 7#32
  let v2669 : Index := Scalar.indexCast c7_i32_664
  let c12_i32_538 : BitVec 32 := 12#32
  let v2300 : BitVec 32 := Scalar.shrsi v2294 c12_i32_538
  let c32_i32_539 : BitVec 32 := 32#32
  let v2301 : BitVec 32 := Scalar.muli v2300 c32_i32_539
  let v2668 : BitVec 32 := Scalar.addi v2301 c0_i32_663
  let v2670 : Index := Scalar.indexCast v2668
  ![7, v2670.toNat]

def k0_chk4 (v2294 : BitVec 32) : Prop :=
  (∀ (r : Fin 2), ∀ a, (k0_off87 v2294 (BitVec.ofNat 32 (16 * r.val))) a + S1x16.size a ≤ S8x2048.size a) ∧
  (∀ (r : Fin 2), ∀ a, (k0_off88 v2294 (BitVec.ofNat 32 (16 * r.val))) a + S1x16.size a ≤ S8x2048.size a) ∧
  (∀ (r : Fin 2), ∀ a, (k0_off89 v2294 (BitVec.ofNat 32 (16 * r.val))) a + S1x16.size a ≤ S8x2048.size a) ∧
  (∀ (r : Fin 2), ∀ a, (k0_off90 v2294 (BitVec.ofNat 32 (16 * r.val))) a + S1x16.size a ≤ S8x2048.size a) ∧
  (∀ (r : Fin 2), ∀ a, (k0_off91 v2294 (BitVec.ofNat 32 (16 * r.val))) a + S1x16.size a ≤ S8x2048.size a) ∧
  (∀ (r : Fin 2), ∀ a, (k0_off92 v2294 (BitVec.ofNat 32 (16 * r.val))) a + S1x16.size a ≤ S8x2048.size a) ∧
  (∀ (r : Fin 2), ∀ a, (k0_off93 v2294 (BitVec.ofNat 32 (16 * r.val))) a + S1x16.size a ≤ S8x2048.size a) ∧
  (∀ (r : Fin 2), ∀ a, (k0_off94 v2294 (BitVec.ofNat 32 (16 * r.val))) a + S1x16.size a ≤ S8x2048.size a) ∧
  (∀ (r : Fin 2), ∀ a, (k0_off95 v2294 (BitVec.ofNat 32 (16 * r.val))) a + S1x16.size a ≤ S8x2048.size a) ∧
  (∀ (r : Fin 2), ∀ a, (k0_off96 v2294 (BitVec.ofNat 32 (16 * r.val))) a + S1x16.size a ≤ S8x2048.size a) ∧
  (∀ (r : Fin 2), ∀ a, (k0_off97 v2294 (BitVec.ofNat 32 (16 * r.val))) a + S1x16.size a ≤ S8x2048.size a) ∧
  (∀ (r : Fin 2), ∀ a, (k0_off98 v2294 (BitVec.ofNat 32 (16 * r.val))) a + S1x16.size a ≤ S8x2048.size a) ∧
  (∀ (r : Fin 2), ∀ a, (k0_off99 v2294 (BitVec.ofNat 32 (16 * r.val))) a + S1x16.size a ≤ S8x2048.size a) ∧
  (∀ (r : Fin 2), ∀ a, (k0_off100 v2294 (BitVec.ofNat 32 (16 * r.val))) a + S1x16.size a ≤ S8x2048.size a) ∧
  (∀ (r : Fin 2), ∀ a, (k0_off101 v2294 (BitVec.ofNat 32 (16 * r.val))) a + S1x16.size a ≤ S8x2048.size a) ∧
  (∀ (r : Fin 2), ∀ a, (k0_off102 v2294 (BitVec.ofNat 32 (16 * r.val))) a + S1x16.size a ≤ S8x2048.size a) ∧
  (∀ (r : Fin 2), ∀ a, (k0_off103 v2294 (BitVec.ofNat 32 (16 * r.val))) a + S1x16.size a ≤ S8x2048.size a) ∧
  (∀ (r : Fin 2), ∀ a, (k0_off104 v2294 (BitVec.ofNat 32 (16 * r.val))) a + S1x16.size a ≤ S8x2048.size a) ∧
  (∀ (r : Fin 2), ∀ a, (k0_off105 v2294 (BitVec.ofNat 32 (16 * r.val))) a + S1x16.size a ≤ S8x2048.size a) ∧
  (∀ (r : Fin 2), ∀ a, (k0_off106 v2294 (BitVec.ofNat 32 (16 * r.val))) a + S1x16.size a ≤ S8x2048.size a) ∧
  (∀ (r : Fin 2), ∀ a, (k0_off107 v2294 (BitVec.ofNat 32 (16 * r.val))) a + S1x16.size a ≤ S8x2048.size a) ∧
  (∀ (r : Fin 2), ∀ a, (k0_off108 v2294 (BitVec.ofNat 32 (16 * r.val))) a + S1x16.size a ≤ S8x2048.size a) ∧
  (∀ (r : Fin 2), ∀ a, (k0_off109 v2294 (BitVec.ofNat 32 (16 * r.val))) a + S1x16.size a ≤ S8x2048.size a) ∧
  (∀ (r : Fin 2), ∀ a, (k0_off110 v2294 (BitVec.ofNat 32 (16 * r.val))) a + S1x16.size a ≤ S8x2048.size a)
theorem k0_off87_inb : ∀ (v2294 : BitVec 32) (k0_hw4 : k0_chk4 v2294), ∀ (r : Fin 2), ∀ a, (k0_off87 v2294 (BitVec.ofNat 32 (16 * r.val))) a + S1x16.size a ≤ S8x2048.size a := fun v2294 k0_hw4 r => k0_hw4.1 r
theorem k0_off88_inb : ∀ (v2294 : BitVec 32) (k0_hw4 : k0_chk4 v2294), ∀ (r : Fin 2), ∀ a, (k0_off88 v2294 (BitVec.ofNat 32 (16 * r.val))) a + S1x16.size a ≤ S8x2048.size a := fun v2294 k0_hw4 r => k0_hw4.2.1 r
theorem k0_off89_inb : ∀ (v2294 : BitVec 32) (k0_hw4 : k0_chk4 v2294), ∀ (r : Fin 2), ∀ a, (k0_off89 v2294 (BitVec.ofNat 32 (16 * r.val))) a + S1x16.size a ≤ S8x2048.size a := fun v2294 k0_hw4 r => k0_hw4.2.2.1 r
theorem k0_off90_inb : ∀ (v2294 : BitVec 32) (k0_hw4 : k0_chk4 v2294), ∀ (r : Fin 2), ∀ a, (k0_off90 v2294 (BitVec.ofNat 32 (16 * r.val))) a + S1x16.size a ≤ S8x2048.size a := fun v2294 k0_hw4 r => k0_hw4.2.2.2.1 r
theorem k0_off91_inb : ∀ (v2294 : BitVec 32) (k0_hw4 : k0_chk4 v2294), ∀ (r : Fin 2), ∀ a, (k0_off91 v2294 (BitVec.ofNat 32 (16 * r.val))) a + S1x16.size a ≤ S8x2048.size a := fun v2294 k0_hw4 r => k0_hw4.2.2.2.2.1 r
theorem k0_off92_inb : ∀ (v2294 : BitVec 32) (k0_hw4 : k0_chk4 v2294), ∀ (r : Fin 2), ∀ a, (k0_off92 v2294 (BitVec.ofNat 32 (16 * r.val))) a + S1x16.size a ≤ S8x2048.size a := fun v2294 k0_hw4 r => k0_hw4.2.2.2.2.2.1 r
theorem k0_off93_inb : ∀ (v2294 : BitVec 32) (k0_hw4 : k0_chk4 v2294), ∀ (r : Fin 2), ∀ a, (k0_off93 v2294 (BitVec.ofNat 32 (16 * r.val))) a + S1x16.size a ≤ S8x2048.size a := fun v2294 k0_hw4 r => k0_hw4.2.2.2.2.2.2.1 r
theorem k0_off94_inb : ∀ (v2294 : BitVec 32) (k0_hw4 : k0_chk4 v2294), ∀ (r : Fin 2), ∀ a, (k0_off94 v2294 (BitVec.ofNat 32 (16 * r.val))) a + S1x16.size a ≤ S8x2048.size a := fun v2294 k0_hw4 r => k0_hw4.2.2.2.2.2.2.2.1 r
theorem k0_off95_inb : ∀ (v2294 : BitVec 32) (k0_hw4 : k0_chk4 v2294), ∀ (r : Fin 2), ∀ a, (k0_off95 v2294 (BitVec.ofNat 32 (16 * r.val))) a + S1x16.size a ≤ S8x2048.size a := fun v2294 k0_hw4 r => k0_hw4.2.2.2.2.2.2.2.2.1 r
theorem k0_off96_inb : ∀ (v2294 : BitVec 32) (k0_hw4 : k0_chk4 v2294), ∀ (r : Fin 2), ∀ a, (k0_off96 v2294 (BitVec.ofNat 32 (16 * r.val))) a + S1x16.size a ≤ S8x2048.size a := fun v2294 k0_hw4 r => k0_hw4.2.2.2.2.2.2.2.2.2.1 r
theorem k0_off97_inb : ∀ (v2294 : BitVec 32) (k0_hw4 : k0_chk4 v2294), ∀ (r : Fin 2), ∀ a, (k0_off97 v2294 (BitVec.ofNat 32 (16 * r.val))) a + S1x16.size a ≤ S8x2048.size a := fun v2294 k0_hw4 r => k0_hw4.2.2.2.2.2.2.2.2.2.2.1 r
theorem k0_off98_inb : ∀ (v2294 : BitVec 32) (k0_hw4 : k0_chk4 v2294), ∀ (r : Fin 2), ∀ a, (k0_off98 v2294 (BitVec.ofNat 32 (16 * r.val))) a + S1x16.size a ≤ S8x2048.size a := fun v2294 k0_hw4 r => k0_hw4.2.2.2.2.2.2.2.2.2.2.2.1 r
theorem k0_off99_inb : ∀ (v2294 : BitVec 32) (k0_hw4 : k0_chk4 v2294), ∀ (r : Fin 2), ∀ a, (k0_off99 v2294 (BitVec.ofNat 32 (16 * r.val))) a + S1x16.size a ≤ S8x2048.size a := fun v2294 k0_hw4 r => k0_hw4.2.2.2.2.2.2.2.2.2.2.2.2.1 r
theorem k0_off100_inb : ∀ (v2294 : BitVec 32) (k0_hw4 : k0_chk4 v2294), ∀ (r : Fin 2), ∀ a, (k0_off100 v2294 (BitVec.ofNat 32 (16 * r.val))) a + S1x16.size a ≤ S8x2048.size a := fun v2294 k0_hw4 r => k0_hw4.2.2.2.2.2.2.2.2.2.2.2.2.2.1 r
theorem k0_off101_inb : ∀ (v2294 : BitVec 32) (k0_hw4 : k0_chk4 v2294), ∀ (r : Fin 2), ∀ a, (k0_off101 v2294 (BitVec.ofNat 32 (16 * r.val))) a + S1x16.size a ≤ S8x2048.size a := fun v2294 k0_hw4 r => k0_hw4.2.2.2.2.2.2.2.2.2.2.2.2.2.2.1 r
theorem k0_off102_inb : ∀ (v2294 : BitVec 32) (k0_hw4 : k0_chk4 v2294), ∀ (r : Fin 2), ∀ a, (k0_off102 v2294 (BitVec.ofNat 32 (16 * r.val))) a + S1x16.size a ≤ S8x2048.size a := fun v2294 k0_hw4 r => k0_hw4.2.2.2.2.2.2.2.2.2.2.2.2.2.2.2.1 r
theorem k0_off103_inb : ∀ (v2294 : BitVec 32) (k0_hw4 : k0_chk4 v2294), ∀ (r : Fin 2), ∀ a, (k0_off103 v2294 (BitVec.ofNat 32 (16 * r.val))) a + S1x16.size a ≤ S8x2048.size a := fun v2294 k0_hw4 r => k0_hw4.2.2.2.2.2.2.2.2.2.2.2.2.2.2.2.2.1 r
theorem k0_off104_inb : ∀ (v2294 : BitVec 32) (k0_hw4 : k0_chk4 v2294), ∀ (r : Fin 2), ∀ a, (k0_off104 v2294 (BitVec.ofNat 32 (16 * r.val))) a + S1x16.size a ≤ S8x2048.size a := fun v2294 k0_hw4 r => k0_hw4.2.2.2.2.2.2.2.2.2.2.2.2.2.2.2.2.2.1 r
theorem k0_off105_inb : ∀ (v2294 : BitVec 32) (k0_hw4 : k0_chk4 v2294), ∀ (r : Fin 2), ∀ a, (k0_off105 v2294 (BitVec.ofNat 32 (16 * r.val))) a + S1x16.size a ≤ S8x2048.size a := fun v2294 k0_hw4 r => k0_hw4.2.2.2.2.2.2.2.2.2.2.2.2.2.2.2.2.2.2.1 r
theorem k0_off106_inb : ∀ (v2294 : BitVec 32) (k0_hw4 : k0_chk4 v2294), ∀ (r : Fin 2), ∀ a, (k0_off106 v2294 (BitVec.ofNat 32 (16 * r.val))) a + S1x16.size a ≤ S8x2048.size a := fun v2294 k0_hw4 r => k0_hw4.2.2.2.2.2.2.2.2.2.2.2.2.2.2.2.2.2.2.2.1 r
theorem k0_off107_inb : ∀ (v2294 : BitVec 32) (k0_hw4 : k0_chk4 v2294), ∀ (r : Fin 2), ∀ a, (k0_off107 v2294 (BitVec.ofNat 32 (16 * r.val))) a + S1x16.size a ≤ S8x2048.size a := fun v2294 k0_hw4 r => k0_hw4.2.2.2.2.2.2.2.2.2.2.2.2.2.2.2.2.2.2.2.2.1 r
theorem k0_off108_inb : ∀ (v2294 : BitVec 32) (k0_hw4 : k0_chk4 v2294), ∀ (r : Fin 2), ∀ a, (k0_off108 v2294 (BitVec.ofNat 32 (16 * r.val))) a + S1x16.size a ≤ S8x2048.size a := fun v2294 k0_hw4 r => k0_hw4.2.2.2.2.2.2.2.2.2.2.2.2.2.2.2.2.2.2.2.2.2.1 r
theorem k0_off109_inb : ∀ (v2294 : BitVec 32) (k0_hw4 : k0_chk4 v2294), ∀ (r : Fin 2), ∀ a, (k0_off109 v2294 (BitVec.ofNat 32 (16 * r.val))) a + S1x16.size a ≤ S8x2048.size a := fun v2294 k0_hw4 r => k0_hw4.2.2.2.2.2.2.2.2.2.2.2.2.2.2.2.2.2.2.2.2.2.2.1 r
theorem k0_off110_inb : ∀ (v2294 : BitVec 32) (k0_hw4 : k0_chk4 v2294), ∀ (r : Fin 2), ∀ a, (k0_off110 v2294 (BitVec.ofNat 32 (16 * r.val))) a + S1x16.size a ≤ S8x2048.size a := fun v2294 k0_hw4 r => k0_hw4.2.2.2.2.2.2.2.2.2.2.2.2.2.2.2.2.2.2.2.2.2.2.2 r

def k0_off111 (k0_t3 : Fin k0_t3_loop.trips) : Fin 1 → Nat :=
  let c0_i32_90 : BitVec 32 := 0#32
  let c1_i32_92 : BitVec 32 := 1#32
  let arg28 : BitVec 32 := Scf.iv c0_i32_90 c1_i32_92 k0_t3
  let c16_i32_678 : BitVec 32 := 16#32
  let v2701 : BitVec 32 := Scalar.muli arg28 c16_i32_678
  let c4_i32_679 : BitVec 32 := 4#32
  let v2702 : BitVec 32 := Scalar.addi v2701 c4_i32_679
  let c16_i32_680 : BitVec 32 := 16#32
  let v2703 : BitVec 32 := Scalar.muli v2702 c16_i32_680
  let v2704 : Index := Scalar.indexCast v2703
  ![v2704.toNat]
def k0_off112 (v2693 : BitVec 32) (c0_i32_681 : BitVec 32) : Fin 2 → Nat :=
  let c0_i32_682 : BitVec 32 := 0#32
  let v2708 : Index := Scalar.indexCast c0_i32_682
  let c63_i32_671 : BitVec 32 := 63#32
  let v2694 : BitVec 32 := Scalar.andi v2693 c63_i32_671
  let c32_i32_672 : BitVec 32 := 32#32
  let v2695 : BitVec 32 := Scalar.muli v2694 c32_i32_672
  let v2707 : BitVec 32 := Scalar.addi v2695 c0_i32_681
  let v2709 : Index := Scalar.indexCast v2707
  ![0, v2709.toNat]

def k0_off113 (v2693 : BitVec 32) (c0_i32_685 : BitVec 32) : Fin 2 → Nat :=
  let c1_i32_686 : BitVec 32 := 1#32
  let v2718 : Index := Scalar.indexCast c1_i32_686
  let c63_i32_671 : BitVec 32 := 63#32
  let v2694 : BitVec 32 := Scalar.andi v2693 c63_i32_671
  let c32_i32_672 : BitVec 32 := 32#32
  let v2695 : BitVec 32 := Scalar.muli v2694 c32_i32_672
  let v2717 : BitVec 32 := Scalar.addi v2695 c0_i32_685
  let v2719 : Index := Scalar.indexCast v2717
  ![1, v2719.toNat]
def k0_off114 (v2693 : BitVec 32) (c0_i32_689 : BitVec 32) : Fin 2 → Nat :=
  let c2_i32_690 : BitVec 32 := 2#32
  let v2728 : Index := Scalar.indexCast c2_i32_690
  let c63_i32_671 : BitVec 32 := 63#32
  let v2694 : BitVec 32 := Scalar.andi v2693 c63_i32_671
  let c32_i32_672 : BitVec 32 := 32#32
  let v2695 : BitVec 32 := Scalar.muli v2694 c32_i32_672
  let v2727 : BitVec 32 := Scalar.addi v2695 c0_i32_689
  let v2729 : Index := Scalar.indexCast v2727
  ![2, v2729.toNat]
def k0_off115 (v2693 : BitVec 32) (c0_i32_693 : BitVec 32) : Fin 2 → Nat :=
  let c3_i32_694 : BitVec 32 := 3#32
  let v2738 : Index := Scalar.indexCast c3_i32_694
  let c63_i32_671 : BitVec 32 := 63#32
  let v2694 : BitVec 32 := Scalar.andi v2693 c63_i32_671
  let c32_i32_672 : BitVec 32 := 32#32
  let v2695 : BitVec 32 := Scalar.muli v2694 c32_i32_672
  let v2737 : BitVec 32 := Scalar.addi v2695 c0_i32_693
  let v2739 : Index := Scalar.indexCast v2737
  ![3, v2739.toNat]
def k0_off116 (v2693 : BitVec 32) (c0_i32_697 : BitVec 32) : Fin 2 → Nat :=
  let c4_i32_698 : BitVec 32 := 4#32
  let v2748 : Index := Scalar.indexCast c4_i32_698
  let c63_i32_671 : BitVec 32 := 63#32
  let v2694 : BitVec 32 := Scalar.andi v2693 c63_i32_671
  let c32_i32_672 : BitVec 32 := 32#32
  let v2695 : BitVec 32 := Scalar.muli v2694 c32_i32_672
  let v2747 : BitVec 32 := Scalar.addi v2695 c0_i32_697
  let v2749 : Index := Scalar.indexCast v2747
  ![4, v2749.toNat]
def k0_off117 (v2693 : BitVec 32) (c0_i32_701 : BitVec 32) : Fin 2 → Nat :=
  let c5_i32_702 : BitVec 32 := 5#32
  let v2758 : Index := Scalar.indexCast c5_i32_702
  let c63_i32_671 : BitVec 32 := 63#32
  let v2694 : BitVec 32 := Scalar.andi v2693 c63_i32_671
  let c32_i32_672 : BitVec 32 := 32#32
  let v2695 : BitVec 32 := Scalar.muli v2694 c32_i32_672
  let v2757 : BitVec 32 := Scalar.addi v2695 c0_i32_701
  let v2759 : Index := Scalar.indexCast v2757
  ![5, v2759.toNat]
def k0_off118 (v2693 : BitVec 32) (c0_i32_705 : BitVec 32) : Fin 2 → Nat :=
  let c6_i32_706 : BitVec 32 := 6#32
  let v2768 : Index := Scalar.indexCast c6_i32_706
  let c63_i32_671 : BitVec 32 := 63#32
  let v2694 : BitVec 32 := Scalar.andi v2693 c63_i32_671
  let c32_i32_672 : BitVec 32 := 32#32
  let v2695 : BitVec 32 := Scalar.muli v2694 c32_i32_672
  let v2767 : BitVec 32 := Scalar.addi v2695 c0_i32_705
  let v2769 : Index := Scalar.indexCast v2767
  ![6, v2769.toNat]
def k0_off119 (v2693 : BitVec 32) (c0_i32_709 : BitVec 32) : Fin 2 → Nat :=
  let c7_i32_710 : BitVec 32 := 7#32
  let v2778 : Index := Scalar.indexCast c7_i32_710
  let c63_i32_671 : BitVec 32 := 63#32
  let v2694 : BitVec 32 := Scalar.andi v2693 c63_i32_671
  let c32_i32_672 : BitVec 32 := 32#32
  let v2695 : BitVec 32 := Scalar.muli v2694 c32_i32_672
  let v2777 : BitVec 32 := Scalar.addi v2695 c0_i32_709
  let v2779 : Index := Scalar.indexCast v2777
  ![7, v2779.toNat]
def k0_off120 (v2693 : BitVec 32) (c0_i32_713 : BitVec 32) : Fin 2 → Nat :=
  let c0_i32_714 : BitVec 32 := 0#32
  let v2788 : Index := Scalar.indexCast c0_i32_714
  let c6_i32_673 : BitVec 32 := 6#32
  let v2696 : BitVec 32 := Scalar.shrsi v2693 c6_i32_673
  let c63_i32_674 : BitVec 32 := 63#32
  let v2697 : BitVec 32 := Scalar.andi v2696 c63_i32_674
  let c32_i32_675 : BitVec 32 := 32#32
  let v2698 : BitVec 32 := Scalar.muli v2697 c32_i32_675
  let v2787 : BitVec 32 := Scalar.addi v2698 c0_i32_713
  let v2789 : Index := Scalar.indexCast v2787
  ![0, v2789.toNat]
def k0_off121 (v2693 : BitVec 32) (c0_i32_717 : BitVec 32) : Fin 2 → Nat :=
  let c1_i32_718 : BitVec 32 := 1#32
  let v2798 : Index := Scalar.indexCast c1_i32_718
  let c6_i32_673 : BitVec 32 := 6#32
  let v2696 : BitVec 32 := Scalar.shrsi v2693 c6_i32_673
  let c63_i32_674 : BitVec 32 := 63#32
  let v2697 : BitVec 32 := Scalar.andi v2696 c63_i32_674
  let c32_i32_675 : BitVec 32 := 32#32
  let v2698 : BitVec 32 := Scalar.muli v2697 c32_i32_675
  let v2797 : BitVec 32 := Scalar.addi v2698 c0_i32_717
  let v2799 : Index := Scalar.indexCast v2797
  ![1, v2799.toNat]
def k0_off122 (v2693 : BitVec 32) (c0_i32_721 : BitVec 32) : Fin 2 → Nat :=
  let c2_i32_722 : BitVec 32 := 2#32
  let v2808 : Index := Scalar.indexCast c2_i32_722
  let c6_i32_673 : BitVec 32 := 6#32
  let v2696 : BitVec 32 := Scalar.shrsi v2693 c6_i32_673
  let c63_i32_674 : BitVec 32 := 63#32
  let v2697 : BitVec 32 := Scalar.andi v2696 c63_i32_674
  let c32_i32_675 : BitVec 32 := 32#32
  let v2698 : BitVec 32 := Scalar.muli v2697 c32_i32_675
  let v2807 : BitVec 32 := Scalar.addi v2698 c0_i32_721
  let v2809 : Index := Scalar.indexCast v2807
  ![2, v2809.toNat]
def k0_off123 (v2693 : BitVec 32) (c0_i32_725 : BitVec 32) : Fin 2 → Nat :=
  let c3_i32_726 : BitVec 32 := 3#32
  let v2818 : Index := Scalar.indexCast c3_i32_726
  let c6_i32_673 : BitVec 32 := 6#32
  let v2696 : BitVec 32 := Scalar.shrsi v2693 c6_i32_673
  let c63_i32_674 : BitVec 32 := 63#32
  let v2697 : BitVec 32 := Scalar.andi v2696 c63_i32_674
  let c32_i32_675 : BitVec 32 := 32#32
  let v2698 : BitVec 32 := Scalar.muli v2697 c32_i32_675
  let v2817 : BitVec 32 := Scalar.addi v2698 c0_i32_725
  let v2819 : Index := Scalar.indexCast v2817
  ![3, v2819.toNat]
def k0_off124 (v2693 : BitVec 32) (c0_i32_729 : BitVec 32) : Fin 2 → Nat :=
  let c4_i32_730 : BitVec 32 := 4#32
  let v2828 : Index := Scalar.indexCast c4_i32_730
  let c6_i32_673 : BitVec 32 := 6#32
  let v2696 : BitVec 32 := Scalar.shrsi v2693 c6_i32_673
  let c63_i32_674 : BitVec 32 := 63#32
  let v2697 : BitVec 32 := Scalar.andi v2696 c63_i32_674
  let c32_i32_675 : BitVec 32 := 32#32
  let v2698 : BitVec 32 := Scalar.muli v2697 c32_i32_675
  let v2827 : BitVec 32 := Scalar.addi v2698 c0_i32_729
  let v2829 : Index := Scalar.indexCast v2827
  ![4, v2829.toNat]
def k0_off125 (v2693 : BitVec 32) (c0_i32_733 : BitVec 32) : Fin 2 → Nat :=
  let c5_i32_734 : BitVec 32 := 5#32
  let v2838 : Index := Scalar.indexCast c5_i32_734
  let c6_i32_673 : BitVec 32 := 6#32
  let v2696 : BitVec 32 := Scalar.shrsi v2693 c6_i32_673
  let c63_i32_674 : BitVec 32 := 63#32
  let v2697 : BitVec 32 := Scalar.andi v2696 c63_i32_674
  let c32_i32_675 : BitVec 32 := 32#32
  let v2698 : BitVec 32 := Scalar.muli v2697 c32_i32_675
  let v2837 : BitVec 32 := Scalar.addi v2698 c0_i32_733
  let v2839 : Index := Scalar.indexCast v2837
  ![5, v2839.toNat]
def k0_off126 (v2693 : BitVec 32) (c0_i32_737 : BitVec 32) : Fin 2 → Nat :=
  let c6_i32_738 : BitVec 32 := 6#32
  let v2848 : Index := Scalar.indexCast c6_i32_738
  let c6_i32_673 : BitVec 32 := 6#32
  let v2696 : BitVec 32 := Scalar.shrsi v2693 c6_i32_673
  let c63_i32_674 : BitVec 32 := 63#32
  let v2697 : BitVec 32 := Scalar.andi v2696 c63_i32_674
  let c32_i32_675 : BitVec 32 := 32#32
  let v2698 : BitVec 32 := Scalar.muli v2697 c32_i32_675
  let v2847 : BitVec 32 := Scalar.addi v2698 c0_i32_737
  let v2849 : Index := Scalar.indexCast v2847
  ![6, v2849.toNat]
def k0_off127 (v2693 : BitVec 32) (c0_i32_741 : BitVec 32) : Fin 2 → Nat :=
  let c7_i32_742 : BitVec 32 := 7#32
  let v2858 : Index := Scalar.indexCast c7_i32_742
  let c6_i32_673 : BitVec 32 := 6#32
  let v2696 : BitVec 32 := Scalar.shrsi v2693 c6_i32_673
  let c63_i32_674 : BitVec 32 := 63#32
  let v2697 : BitVec 32 := Scalar.andi v2696 c63_i32_674
  let c32_i32_675 : BitVec 32 := 32#32
  let v2698 : BitVec 32 := Scalar.muli v2697 c32_i32_675
  let v2857 : BitVec 32 := Scalar.addi v2698 c0_i32_741
  let v2859 : Index := Scalar.indexCast v2857
  ![7, v2859.toNat]
def k0_off128 (v2693 : BitVec 32) (c0_i32_745 : BitVec 32) : Fin 2 → Nat :=
  let c0_i32_746 : BitVec 32 := 0#32
  let v2900 : Index := Scalar.indexCast c0_i32_746
  let c12_i32_676 : BitVec 32 := 12#32
  let v2699 : BitVec 32 := Scalar.shrsi v2693 c12_i32_676
  let c32_i32_677 : BitVec 32 := 32#32
  let v2700 : BitVec 32 := Scalar.muli v2699 c32_i32_677
  let v2899 : BitVec 32 := Scalar.addi v2700 c0_i32_745
  let v2901 : Index := Scalar.indexCast v2899
  ![0, v2901.toNat]
def k0_off129 (v2693 : BitVec 32) (c0_i32_753 : BitVec 32) : Fin 2 → Nat :=
  let c1_i32_754 : BitVec 32 := 1#32
  let v2924 : Index := Scalar.indexCast c1_i32_754
  let c12_i32_676 : BitVec 32 := 12#32
  let v2699 : BitVec 32 := Scalar.shrsi v2693 c12_i32_676
  let c32_i32_677 : BitVec 32 := 32#32
  let v2700 : BitVec 32 := Scalar.muli v2699 c32_i32_677
  let v2923 : BitVec 32 := Scalar.addi v2700 c0_i32_753
  let v2925 : Index := Scalar.indexCast v2923
  ![1, v2925.toNat]
def k0_off130 (v2693 : BitVec 32) (c0_i32_761 : BitVec 32) : Fin 2 → Nat :=
  let c2_i32_762 : BitVec 32 := 2#32
  let v2948 : Index := Scalar.indexCast c2_i32_762
  let c12_i32_676 : BitVec 32 := 12#32
  let v2699 : BitVec 32 := Scalar.shrsi v2693 c12_i32_676
  let c32_i32_677 : BitVec 32 := 32#32
  let v2700 : BitVec 32 := Scalar.muli v2699 c32_i32_677
  let v2947 : BitVec 32 := Scalar.addi v2700 c0_i32_761
  let v2949 : Index := Scalar.indexCast v2947
  ![2, v2949.toNat]
def k0_off131 (v2693 : BitVec 32) (c0_i32_769 : BitVec 32) : Fin 2 → Nat :=
  let c3_i32_770 : BitVec 32 := 3#32
  let v2972 : Index := Scalar.indexCast c3_i32_770
  let c12_i32_676 : BitVec 32 := 12#32
  let v2699 : BitVec 32 := Scalar.shrsi v2693 c12_i32_676
  let c32_i32_677 : BitVec 32 := 32#32
  let v2700 : BitVec 32 := Scalar.muli v2699 c32_i32_677
  let v2971 : BitVec 32 := Scalar.addi v2700 c0_i32_769
  let v2973 : Index := Scalar.indexCast v2971
  ![3, v2973.toNat]
def k0_off132 (v2693 : BitVec 32) (c0_i32_777 : BitVec 32) : Fin 2 → Nat :=
  let c4_i32_778 : BitVec 32 := 4#32
  let v2996 : Index := Scalar.indexCast c4_i32_778
  let c12_i32_676 : BitVec 32 := 12#32
  let v2699 : BitVec 32 := Scalar.shrsi v2693 c12_i32_676
  let c32_i32_677 : BitVec 32 := 32#32
  let v2700 : BitVec 32 := Scalar.muli v2699 c32_i32_677
  let v2995 : BitVec 32 := Scalar.addi v2700 c0_i32_777
  let v2997 : Index := Scalar.indexCast v2995
  ![4, v2997.toNat]
def k0_off133 (v2693 : BitVec 32) (c0_i32_785 : BitVec 32) : Fin 2 → Nat :=
  let c5_i32_786 : BitVec 32 := 5#32
  let v3020 : Index := Scalar.indexCast c5_i32_786
  let c12_i32_676 : BitVec 32 := 12#32
  let v2699 : BitVec 32 := Scalar.shrsi v2693 c12_i32_676
  let c32_i32_677 : BitVec 32 := 32#32
  let v2700 : BitVec 32 := Scalar.muli v2699 c32_i32_677
  let v3019 : BitVec 32 := Scalar.addi v2700 c0_i32_785
  let v3021 : Index := Scalar.indexCast v3019
  ![5, v3021.toNat]
def k0_off134 (v2693 : BitVec 32) (c0_i32_793 : BitVec 32) : Fin 2 → Nat :=
  let c6_i32_794 : BitVec 32 := 6#32
  let v3044 : Index := Scalar.indexCast c6_i32_794
  let c12_i32_676 : BitVec 32 := 12#32
  let v2699 : BitVec 32 := Scalar.shrsi v2693 c12_i32_676
  let c32_i32_677 : BitVec 32 := 32#32
  let v2700 : BitVec 32 := Scalar.muli v2699 c32_i32_677
  let v3043 : BitVec 32 := Scalar.addi v2700 c0_i32_793
  let v3045 : Index := Scalar.indexCast v3043
  ![6, v3045.toNat]
def k0_off135 (v2693 : BitVec 32) (c0_i32_801 : BitVec 32) : Fin 2 → Nat :=
  let c7_i32_802 : BitVec 32 := 7#32
  let v3068 : Index := Scalar.indexCast c7_i32_802
  let c12_i32_676 : BitVec 32 := 12#32
  let v2699 : BitVec 32 := Scalar.shrsi v2693 c12_i32_676
  let c32_i32_677 : BitVec 32 := 32#32
  let v2700 : BitVec 32 := Scalar.muli v2699 c32_i32_677
  let v3067 : BitVec 32 := Scalar.addi v2700 c0_i32_801
  let v3069 : Index := Scalar.indexCast v3067
  ![7, v3069.toNat]

def k0_chk5 (v2693 : BitVec 32) : Prop :=
  (∀ (r : Fin 2), ∀ a, (k0_off112 v2693 (BitVec.ofNat 32 (16 * r.val))) a + S1x16.size a ≤ S8x2048.size a) ∧
  (∀ (r : Fin 2), ∀ a, (k0_off113 v2693 (BitVec.ofNat 32 (16 * r.val))) a + S1x16.size a ≤ S8x2048.size a) ∧
  (∀ (r : Fin 2), ∀ a, (k0_off114 v2693 (BitVec.ofNat 32 (16 * r.val))) a + S1x16.size a ≤ S8x2048.size a) ∧
  (∀ (r : Fin 2), ∀ a, (k0_off115 v2693 (BitVec.ofNat 32 (16 * r.val))) a + S1x16.size a ≤ S8x2048.size a) ∧
  (∀ (r : Fin 2), ∀ a, (k0_off116 v2693 (BitVec.ofNat 32 (16 * r.val))) a + S1x16.size a ≤ S8x2048.size a) ∧
  (∀ (r : Fin 2), ∀ a, (k0_off117 v2693 (BitVec.ofNat 32 (16 * r.val))) a + S1x16.size a ≤ S8x2048.size a) ∧
  (∀ (r : Fin 2), ∀ a, (k0_off118 v2693 (BitVec.ofNat 32 (16 * r.val))) a + S1x16.size a ≤ S8x2048.size a) ∧
  (∀ (r : Fin 2), ∀ a, (k0_off119 v2693 (BitVec.ofNat 32 (16 * r.val))) a + S1x16.size a ≤ S8x2048.size a) ∧
  (∀ (r : Fin 2), ∀ a, (k0_off120 v2693 (BitVec.ofNat 32 (16 * r.val))) a + S1x16.size a ≤ S8x2048.size a) ∧
  (∀ (r : Fin 2), ∀ a, (k0_off121 v2693 (BitVec.ofNat 32 (16 * r.val))) a + S1x16.size a ≤ S8x2048.size a) ∧
  (∀ (r : Fin 2), ∀ a, (k0_off122 v2693 (BitVec.ofNat 32 (16 * r.val))) a + S1x16.size a ≤ S8x2048.size a) ∧
  (∀ (r : Fin 2), ∀ a, (k0_off123 v2693 (BitVec.ofNat 32 (16 * r.val))) a + S1x16.size a ≤ S8x2048.size a) ∧
  (∀ (r : Fin 2), ∀ a, (k0_off124 v2693 (BitVec.ofNat 32 (16 * r.val))) a + S1x16.size a ≤ S8x2048.size a) ∧
  (∀ (r : Fin 2), ∀ a, (k0_off125 v2693 (BitVec.ofNat 32 (16 * r.val))) a + S1x16.size a ≤ S8x2048.size a) ∧
  (∀ (r : Fin 2), ∀ a, (k0_off126 v2693 (BitVec.ofNat 32 (16 * r.val))) a + S1x16.size a ≤ S8x2048.size a) ∧
  (∀ (r : Fin 2), ∀ a, (k0_off127 v2693 (BitVec.ofNat 32 (16 * r.val))) a + S1x16.size a ≤ S8x2048.size a) ∧
  (∀ (r : Fin 2), ∀ a, (k0_off128 v2693 (BitVec.ofNat 32 (16 * r.val))) a + S1x16.size a ≤ S8x2048.size a) ∧
  (∀ (r : Fin 2), ∀ a, (k0_off129 v2693 (BitVec.ofNat 32 (16 * r.val))) a + S1x16.size a ≤ S8x2048.size a) ∧
  (∀ (r : Fin 2), ∀ a, (k0_off130 v2693 (BitVec.ofNat 32 (16 * r.val))) a + S1x16.size a ≤ S8x2048.size a) ∧
  (∀ (r : Fin 2), ∀ a, (k0_off131 v2693 (BitVec.ofNat 32 (16 * r.val))) a + S1x16.size a ≤ S8x2048.size a) ∧
  (∀ (r : Fin 2), ∀ a, (k0_off132 v2693 (BitVec.ofNat 32 (16 * r.val))) a + S1x16.size a ≤ S8x2048.size a) ∧
  (∀ (r : Fin 2), ∀ a, (k0_off133 v2693 (BitVec.ofNat 32 (16 * r.val))) a + S1x16.size a ≤ S8x2048.size a) ∧
  (∀ (r : Fin 2), ∀ a, (k0_off134 v2693 (BitVec.ofNat 32 (16 * r.val))) a + S1x16.size a ≤ S8x2048.size a) ∧
  (∀ (r : Fin 2), ∀ a, (k0_off135 v2693 (BitVec.ofNat 32 (16 * r.val))) a + S1x16.size a ≤ S8x2048.size a)
theorem k0_off112_inb : ∀ (v2693 : BitVec 32) (k0_hw5 : k0_chk5 v2693), ∀ (r : Fin 2), ∀ a, (k0_off112 v2693 (BitVec.ofNat 32 (16 * r.val))) a + S1x16.size a ≤ S8x2048.size a := fun v2693 k0_hw5 r => k0_hw5.1 r
theorem k0_off113_inb : ∀ (v2693 : BitVec 32) (k0_hw5 : k0_chk5 v2693), ∀ (r : Fin 2), ∀ a, (k0_off113 v2693 (BitVec.ofNat 32 (16 * r.val))) a + S1x16.size a ≤ S8x2048.size a := fun v2693 k0_hw5 r => k0_hw5.2.1 r
theorem k0_off114_inb : ∀ (v2693 : BitVec 32) (k0_hw5 : k0_chk5 v2693), ∀ (r : Fin 2), ∀ a, (k0_off114 v2693 (BitVec.ofNat 32 (16 * r.val))) a + S1x16.size a ≤ S8x2048.size a := fun v2693 k0_hw5 r => k0_hw5.2.2.1 r
theorem k0_off115_inb : ∀ (v2693 : BitVec 32) (k0_hw5 : k0_chk5 v2693), ∀ (r : Fin 2), ∀ a, (k0_off115 v2693 (BitVec.ofNat 32 (16 * r.val))) a + S1x16.size a ≤ S8x2048.size a := fun v2693 k0_hw5 r => k0_hw5.2.2.2.1 r
theorem k0_off116_inb : ∀ (v2693 : BitVec 32) (k0_hw5 : k0_chk5 v2693), ∀ (r : Fin 2), ∀ a, (k0_off116 v2693 (BitVec.ofNat 32 (16 * r.val))) a + S1x16.size a ≤ S8x2048.size a := fun v2693 k0_hw5 r => k0_hw5.2.2.2.2.1 r
theorem k0_off117_inb : ∀ (v2693 : BitVec 32) (k0_hw5 : k0_chk5 v2693), ∀ (r : Fin 2), ∀ a, (k0_off117 v2693 (BitVec.ofNat 32 (16 * r.val))) a + S1x16.size a ≤ S8x2048.size a := fun v2693 k0_hw5 r => k0_hw5.2.2.2.2.2.1 r
theorem k0_off118_inb : ∀ (v2693 : BitVec 32) (k0_hw5 : k0_chk5 v2693), ∀ (r : Fin 2), ∀ a, (k0_off118 v2693 (BitVec.ofNat 32 (16 * r.val))) a + S1x16.size a ≤ S8x2048.size a := fun v2693 k0_hw5 r => k0_hw5.2.2.2.2.2.2.1 r
theorem k0_off119_inb : ∀ (v2693 : BitVec 32) (k0_hw5 : k0_chk5 v2693), ∀ (r : Fin 2), ∀ a, (k0_off119 v2693 (BitVec.ofNat 32 (16 * r.val))) a + S1x16.size a ≤ S8x2048.size a := fun v2693 k0_hw5 r => k0_hw5.2.2.2.2.2.2.2.1 r
theorem k0_off120_inb : ∀ (v2693 : BitVec 32) (k0_hw5 : k0_chk5 v2693), ∀ (r : Fin 2), ∀ a, (k0_off120 v2693 (BitVec.ofNat 32 (16 * r.val))) a + S1x16.size a ≤ S8x2048.size a := fun v2693 k0_hw5 r => k0_hw5.2.2.2.2.2.2.2.2.1 r
theorem k0_off121_inb : ∀ (v2693 : BitVec 32) (k0_hw5 : k0_chk5 v2693), ∀ (r : Fin 2), ∀ a, (k0_off121 v2693 (BitVec.ofNat 32 (16 * r.val))) a + S1x16.size a ≤ S8x2048.size a := fun v2693 k0_hw5 r => k0_hw5.2.2.2.2.2.2.2.2.2.1 r
theorem k0_off122_inb : ∀ (v2693 : BitVec 32) (k0_hw5 : k0_chk5 v2693), ∀ (r : Fin 2), ∀ a, (k0_off122 v2693 (BitVec.ofNat 32 (16 * r.val))) a + S1x16.size a ≤ S8x2048.size a := fun v2693 k0_hw5 r => k0_hw5.2.2.2.2.2.2.2.2.2.2.1 r
theorem k0_off123_inb : ∀ (v2693 : BitVec 32) (k0_hw5 : k0_chk5 v2693), ∀ (r : Fin 2), ∀ a, (k0_off123 v2693 (BitVec.ofNat 32 (16 * r.val))) a + S1x16.size a ≤ S8x2048.size a := fun v2693 k0_hw5 r => k0_hw5.2.2.2.2.2.2.2.2.2.2.2.1 r
theorem k0_off124_inb : ∀ (v2693 : BitVec 32) (k0_hw5 : k0_chk5 v2693), ∀ (r : Fin 2), ∀ a, (k0_off124 v2693 (BitVec.ofNat 32 (16 * r.val))) a + S1x16.size a ≤ S8x2048.size a := fun v2693 k0_hw5 r => k0_hw5.2.2.2.2.2.2.2.2.2.2.2.2.1 r
theorem k0_off125_inb : ∀ (v2693 : BitVec 32) (k0_hw5 : k0_chk5 v2693), ∀ (r : Fin 2), ∀ a, (k0_off125 v2693 (BitVec.ofNat 32 (16 * r.val))) a + S1x16.size a ≤ S8x2048.size a := fun v2693 k0_hw5 r => k0_hw5.2.2.2.2.2.2.2.2.2.2.2.2.2.1 r
theorem k0_off126_inb : ∀ (v2693 : BitVec 32) (k0_hw5 : k0_chk5 v2693), ∀ (r : Fin 2), ∀ a, (k0_off126 v2693 (BitVec.ofNat 32 (16 * r.val))) a + S1x16.size a ≤ S8x2048.size a := fun v2693 k0_hw5 r => k0_hw5.2.2.2.2.2.2.2.2.2.2.2.2.2.2.1 r
theorem k0_off127_inb : ∀ (v2693 : BitVec 32) (k0_hw5 : k0_chk5 v2693), ∀ (r : Fin 2), ∀ a, (k0_off127 v2693 (BitVec.ofNat 32 (16 * r.val))) a + S1x16.size a ≤ S8x2048.size a := fun v2693 k0_hw5 r => k0_hw5.2.2.2.2.2.2.2.2.2.2.2.2.2.2.2.1 r
theorem k0_off128_inb : ∀ (v2693 : BitVec 32) (k0_hw5 : k0_chk5 v2693), ∀ (r : Fin 2), ∀ a, (k0_off128 v2693 (BitVec.ofNat 32 (16 * r.val))) a + S1x16.size a ≤ S8x2048.size a := fun v2693 k0_hw5 r => k0_hw5.2.2.2.2.2.2.2.2.2.2.2.2.2.2.2.2.1 r
theorem k0_off129_inb : ∀ (v2693 : BitVec 32) (k0_hw5 : k0_chk5 v2693), ∀ (r : Fin 2), ∀ a, (k0_off129 v2693 (BitVec.ofNat 32 (16 * r.val))) a + S1x16.size a ≤ S8x2048.size a := fun v2693 k0_hw5 r => k0_hw5.2.2.2.2.2.2.2.2.2.2.2.2.2.2.2.2.2.1 r
theorem k0_off130_inb : ∀ (v2693 : BitVec 32) (k0_hw5 : k0_chk5 v2693), ∀ (r : Fin 2), ∀ a, (k0_off130 v2693 (BitVec.ofNat 32 (16 * r.val))) a + S1x16.size a ≤ S8x2048.size a := fun v2693 k0_hw5 r => k0_hw5.2.2.2.2.2.2.2.2.2.2.2.2.2.2.2.2.2.2.1 r
theorem k0_off131_inb : ∀ (v2693 : BitVec 32) (k0_hw5 : k0_chk5 v2693), ∀ (r : Fin 2), ∀ a, (k0_off131 v2693 (BitVec.ofNat 32 (16 * r.val))) a + S1x16.size a ≤ S8x2048.size a := fun v2693 k0_hw5 r => k0_hw5.2.2.2.2.2.2.2.2.2.2.2.2.2.2.2.2.2.2.2.1 r
theorem k0_off132_inb : ∀ (v2693 : BitVec 32) (k0_hw5 : k0_chk5 v2693), ∀ (r : Fin 2), ∀ a, (k0_off132 v2693 (BitVec.ofNat 32 (16 * r.val))) a + S1x16.size a ≤ S8x2048.size a := fun v2693 k0_hw5 r => k0_hw5.2.2.2.2.2.2.2.2.2.2.2.2.2.2.2.2.2.2.2.2.1 r
theorem k0_off133_inb : ∀ (v2693 : BitVec 32) (k0_hw5 : k0_chk5 v2693), ∀ (r : Fin 2), ∀ a, (k0_off133 v2693 (BitVec.ofNat 32 (16 * r.val))) a + S1x16.size a ≤ S8x2048.size a := fun v2693 k0_hw5 r => k0_hw5.2.2.2.2.2.2.2.2.2.2.2.2.2.2.2.2.2.2.2.2.2.1 r
theorem k0_off134_inb : ∀ (v2693 : BitVec 32) (k0_hw5 : k0_chk5 v2693), ∀ (r : Fin 2), ∀ a, (k0_off134 v2693 (BitVec.ofNat 32 (16 * r.val))) a + S1x16.size a ≤ S8x2048.size a := fun v2693 k0_hw5 r => k0_hw5.2.2.2.2.2.2.2.2.2.2.2.2.2.2.2.2.2.2.2.2.2.2.1 r
theorem k0_off135_inb : ∀ (v2693 : BitVec 32) (k0_hw5 : k0_chk5 v2693), ∀ (r : Fin 2), ∀ a, (k0_off135 v2693 (BitVec.ofNat 32 (16 * r.val))) a + S1x16.size a ≤ S8x2048.size a := fun v2693 k0_hw5 r => k0_hw5.2.2.2.2.2.2.2.2.2.2.2.2.2.2.2.2.2.2.2.2.2.2.2 r

def k0_off136 (k0_t3 : Fin k0_t3_loop.trips) : Fin 1 → Nat :=
  let c0_i32_90 : BitVec 32 := 0#32
  let c1_i32_92 : BitVec 32 := 1#32
  let arg28 : BitVec 32 := Scf.iv c0_i32_90 c1_i32_92 k0_t3
  let c16_i32_816 : BitVec 32 := 16#32
  let v3100 : BitVec 32 := Scalar.muli arg28 c16_i32_816
  let c5_i32_817 : BitVec 32 := 5#32
  let v3101 : BitVec 32 := Scalar.addi v3100 c5_i32_817
  let c16_i32_818 : BitVec 32 := 16#32
  let v3102 : BitVec 32 := Scalar.muli v3101 c16_i32_818
  let v3103 : Index := Scalar.indexCast v3102
  ![v3103.toNat]
def k0_off137 (v3092 : BitVec 32) (c0_i32_819 : BitVec 32) : Fin 2 → Nat :=
  let c0_i32_820 : BitVec 32 := 0#32
  let v3107 : Index := Scalar.indexCast c0_i32_820
  let c63_i32_809 : BitVec 32 := 63#32
  let v3093 : BitVec 32 := Scalar.andi v3092 c63_i32_809
  let c32_i32_810 : BitVec 32 := 32#32
  let v3094 : BitVec 32 := Scalar.muli v3093 c32_i32_810
  let v3106 : BitVec 32 := Scalar.addi v3094 c0_i32_819
  let v3108 : Index := Scalar.indexCast v3106
  ![0, v3108.toNat]

def k0_off138 (v3092 : BitVec 32) (c0_i32_823 : BitVec 32) : Fin 2 → Nat :=
  let c1_i32_824 : BitVec 32 := 1#32
  let v3117 : Index := Scalar.indexCast c1_i32_824
  let c63_i32_809 : BitVec 32 := 63#32
  let v3093 : BitVec 32 := Scalar.andi v3092 c63_i32_809
  let c32_i32_810 : BitVec 32 := 32#32
  let v3094 : BitVec 32 := Scalar.muli v3093 c32_i32_810
  let v3116 : BitVec 32 := Scalar.addi v3094 c0_i32_823
  let v3118 : Index := Scalar.indexCast v3116
  ![1, v3118.toNat]
def k0_off139 (v3092 : BitVec 32) (c0_i32_827 : BitVec 32) : Fin 2 → Nat :=
  let c2_i32_828 : BitVec 32 := 2#32
  let v3127 : Index := Scalar.indexCast c2_i32_828
  let c63_i32_809 : BitVec 32 := 63#32
  let v3093 : BitVec 32 := Scalar.andi v3092 c63_i32_809
  let c32_i32_810 : BitVec 32 := 32#32
  let v3094 : BitVec 32 := Scalar.muli v3093 c32_i32_810
  let v3126 : BitVec 32 := Scalar.addi v3094 c0_i32_827
  let v3128 : Index := Scalar.indexCast v3126
  ![2, v3128.toNat]
def k0_off140 (v3092 : BitVec 32) (c0_i32_831 : BitVec 32) : Fin 2 → Nat :=
  let c3_i32_832 : BitVec 32 := 3#32
  let v3137 : Index := Scalar.indexCast c3_i32_832
  let c63_i32_809 : BitVec 32 := 63#32
  let v3093 : BitVec 32 := Scalar.andi v3092 c63_i32_809
  let c32_i32_810 : BitVec 32 := 32#32
  let v3094 : BitVec 32 := Scalar.muli v3093 c32_i32_810
  let v3136 : BitVec 32 := Scalar.addi v3094 c0_i32_831
  let v3138 : Index := Scalar.indexCast v3136
  ![3, v3138.toNat]
def k0_off141 (v3092 : BitVec 32) (c0_i32_835 : BitVec 32) : Fin 2 → Nat :=
  let c4_i32_836 : BitVec 32 := 4#32
  let v3147 : Index := Scalar.indexCast c4_i32_836
  let c63_i32_809 : BitVec 32 := 63#32
  let v3093 : BitVec 32 := Scalar.andi v3092 c63_i32_809
  let c32_i32_810 : BitVec 32 := 32#32
  let v3094 : BitVec 32 := Scalar.muli v3093 c32_i32_810
  let v3146 : BitVec 32 := Scalar.addi v3094 c0_i32_835
  let v3148 : Index := Scalar.indexCast v3146
  ![4, v3148.toNat]
def k0_off142 (v3092 : BitVec 32) (c0_i32_839 : BitVec 32) : Fin 2 → Nat :=
  let c5_i32_840 : BitVec 32 := 5#32
  let v3157 : Index := Scalar.indexCast c5_i32_840
  let c63_i32_809 : BitVec 32 := 63#32
  let v3093 : BitVec 32 := Scalar.andi v3092 c63_i32_809
  let c32_i32_810 : BitVec 32 := 32#32
  let v3094 : BitVec 32 := Scalar.muli v3093 c32_i32_810
  let v3156 : BitVec 32 := Scalar.addi v3094 c0_i32_839
  let v3158 : Index := Scalar.indexCast v3156
  ![5, v3158.toNat]
def k0_off143 (v3092 : BitVec 32) (c0_i32_843 : BitVec 32) : Fin 2 → Nat :=
  let c6_i32_844 : BitVec 32 := 6#32
  let v3167 : Index := Scalar.indexCast c6_i32_844
  let c63_i32_809 : BitVec 32 := 63#32
  let v3093 : BitVec 32 := Scalar.andi v3092 c63_i32_809
  let c32_i32_810 : BitVec 32 := 32#32
  let v3094 : BitVec 32 := Scalar.muli v3093 c32_i32_810
  let v3166 : BitVec 32 := Scalar.addi v3094 c0_i32_843
  let v3168 : Index := Scalar.indexCast v3166
  ![6, v3168.toNat]
def k0_off144 (v3092 : BitVec 32) (c0_i32_847 : BitVec 32) : Fin 2 → Nat :=
  let c7_i32_848 : BitVec 32 := 7#32
  let v3177 : Index := Scalar.indexCast c7_i32_848
  let c63_i32_809 : BitVec 32 := 63#32
  let v3093 : BitVec 32 := Scalar.andi v3092 c63_i32_809
  let c32_i32_810 : BitVec 32 := 32#32
  let v3094 : BitVec 32 := Scalar.muli v3093 c32_i32_810
  let v3176 : BitVec 32 := Scalar.addi v3094 c0_i32_847
  let v3178 : Index := Scalar.indexCast v3176
  ![7, v3178.toNat]
def k0_off145 (v3092 : BitVec 32) (c0_i32_851 : BitVec 32) : Fin 2 → Nat :=
  let c0_i32_852 : BitVec 32 := 0#32
  let v3187 : Index := Scalar.indexCast c0_i32_852
  let c6_i32_811 : BitVec 32 := 6#32
  let v3095 : BitVec 32 := Scalar.shrsi v3092 c6_i32_811
  let c63_i32_812 : BitVec 32 := 63#32
  let v3096 : BitVec 32 := Scalar.andi v3095 c63_i32_812
  let c32_i32_813 : BitVec 32 := 32#32
  let v3097 : BitVec 32 := Scalar.muli v3096 c32_i32_813
  let v3186 : BitVec 32 := Scalar.addi v3097 c0_i32_851
  let v3188 : Index := Scalar.indexCast v3186
  ![0, v3188.toNat]
def k0_off146 (v3092 : BitVec 32) (c0_i32_855 : BitVec 32) : Fin 2 → Nat :=
  let c1_i32_856 : BitVec 32 := 1#32
  let v3197 : Index := Scalar.indexCast c1_i32_856
  let c6_i32_811 : BitVec 32 := 6#32
  let v3095 : BitVec 32 := Scalar.shrsi v3092 c6_i32_811
  let c63_i32_812 : BitVec 32 := 63#32
  let v3096 : BitVec 32 := Scalar.andi v3095 c63_i32_812
  let c32_i32_813 : BitVec 32 := 32#32
  let v3097 : BitVec 32 := Scalar.muli v3096 c32_i32_813
  let v3196 : BitVec 32 := Scalar.addi v3097 c0_i32_855
  let v3198 : Index := Scalar.indexCast v3196
  ![1, v3198.toNat]
def k0_off147 (v3092 : BitVec 32) (c0_i32_859 : BitVec 32) : Fin 2 → Nat :=
  let c2_i32_860 : BitVec 32 := 2#32
  let v3207 : Index := Scalar.indexCast c2_i32_860
  let c6_i32_811 : BitVec 32 := 6#32
  let v3095 : BitVec 32 := Scalar.shrsi v3092 c6_i32_811
  let c63_i32_812 : BitVec 32 := 63#32
  let v3096 : BitVec 32 := Scalar.andi v3095 c63_i32_812
  let c32_i32_813 : BitVec 32 := 32#32
  let v3097 : BitVec 32 := Scalar.muli v3096 c32_i32_813
  let v3206 : BitVec 32 := Scalar.addi v3097 c0_i32_859
  let v3208 : Index := Scalar.indexCast v3206
  ![2, v3208.toNat]
def k0_off148 (v3092 : BitVec 32) (c0_i32_863 : BitVec 32) : Fin 2 → Nat :=
  let c3_i32_864 : BitVec 32 := 3#32
  let v3217 : Index := Scalar.indexCast c3_i32_864
  let c6_i32_811 : BitVec 32 := 6#32
  let v3095 : BitVec 32 := Scalar.shrsi v3092 c6_i32_811
  let c63_i32_812 : BitVec 32 := 63#32
  let v3096 : BitVec 32 := Scalar.andi v3095 c63_i32_812
  let c32_i32_813 : BitVec 32 := 32#32
  let v3097 : BitVec 32 := Scalar.muli v3096 c32_i32_813
  let v3216 : BitVec 32 := Scalar.addi v3097 c0_i32_863
  let v3218 : Index := Scalar.indexCast v3216
  ![3, v3218.toNat]
def k0_off149 (v3092 : BitVec 32) (c0_i32_867 : BitVec 32) : Fin 2 → Nat :=
  let c4_i32_868 : BitVec 32 := 4#32
  let v3227 : Index := Scalar.indexCast c4_i32_868
  let c6_i32_811 : BitVec 32 := 6#32
  let v3095 : BitVec 32 := Scalar.shrsi v3092 c6_i32_811
  let c63_i32_812 : BitVec 32 := 63#32
  let v3096 : BitVec 32 := Scalar.andi v3095 c63_i32_812
  let c32_i32_813 : BitVec 32 := 32#32
  let v3097 : BitVec 32 := Scalar.muli v3096 c32_i32_813
  let v3226 : BitVec 32 := Scalar.addi v3097 c0_i32_867
  let v3228 : Index := Scalar.indexCast v3226
  ![4, v3228.toNat]
def k0_off150 (v3092 : BitVec 32) (c0_i32_871 : BitVec 32) : Fin 2 → Nat :=
  let c5_i32_872 : BitVec 32 := 5#32
  let v3237 : Index := Scalar.indexCast c5_i32_872
  let c6_i32_811 : BitVec 32 := 6#32
  let v3095 : BitVec 32 := Scalar.shrsi v3092 c6_i32_811
  let c63_i32_812 : BitVec 32 := 63#32
  let v3096 : BitVec 32 := Scalar.andi v3095 c63_i32_812
  let c32_i32_813 : BitVec 32 := 32#32
  let v3097 : BitVec 32 := Scalar.muli v3096 c32_i32_813
  let v3236 : BitVec 32 := Scalar.addi v3097 c0_i32_871
  let v3238 : Index := Scalar.indexCast v3236
  ![5, v3238.toNat]
def k0_off151 (v3092 : BitVec 32) (c0_i32_875 : BitVec 32) : Fin 2 → Nat :=
  let c6_i32_876 : BitVec 32 := 6#32
  let v3247 : Index := Scalar.indexCast c6_i32_876
  let c6_i32_811 : BitVec 32 := 6#32
  let v3095 : BitVec 32 := Scalar.shrsi v3092 c6_i32_811
  let c63_i32_812 : BitVec 32 := 63#32
  let v3096 : BitVec 32 := Scalar.andi v3095 c63_i32_812
  let c32_i32_813 : BitVec 32 := 32#32
  let v3097 : BitVec 32 := Scalar.muli v3096 c32_i32_813
  let v3246 : BitVec 32 := Scalar.addi v3097 c0_i32_875
  let v3248 : Index := Scalar.indexCast v3246
  ![6, v3248.toNat]
def k0_off152 (v3092 : BitVec 32) (c0_i32_879 : BitVec 32) : Fin 2 → Nat :=
  let c7_i32_880 : BitVec 32 := 7#32
  let v3257 : Index := Scalar.indexCast c7_i32_880
  let c6_i32_811 : BitVec 32 := 6#32
  let v3095 : BitVec 32 := Scalar.shrsi v3092 c6_i32_811
  let c63_i32_812 : BitVec 32 := 63#32
  let v3096 : BitVec 32 := Scalar.andi v3095 c63_i32_812
  let c32_i32_813 : BitVec 32 := 32#32
  let v3097 : BitVec 32 := Scalar.muli v3096 c32_i32_813
  let v3256 : BitVec 32 := Scalar.addi v3097 c0_i32_879
  let v3258 : Index := Scalar.indexCast v3256
  ![7, v3258.toNat]
def k0_off153 (v3092 : BitVec 32) (c0_i32_883 : BitVec 32) : Fin 2 → Nat :=
  let c0_i32_884 : BitVec 32 := 0#32
  let v3299 : Index := Scalar.indexCast c0_i32_884
  let c12_i32_814 : BitVec 32 := 12#32
  let v3098 : BitVec 32 := Scalar.shrsi v3092 c12_i32_814
  let c32_i32_815 : BitVec 32 := 32#32
  let v3099 : BitVec 32 := Scalar.muli v3098 c32_i32_815
  let v3298 : BitVec 32 := Scalar.addi v3099 c0_i32_883
  let v3300 : Index := Scalar.indexCast v3298
  ![0, v3300.toNat]
def k0_off154 (v3092 : BitVec 32) (c0_i32_891 : BitVec 32) : Fin 2 → Nat :=
  let c1_i32_892 : BitVec 32 := 1#32
  let v3323 : Index := Scalar.indexCast c1_i32_892
  let c12_i32_814 : BitVec 32 := 12#32
  let v3098 : BitVec 32 := Scalar.shrsi v3092 c12_i32_814
  let c32_i32_815 : BitVec 32 := 32#32
  let v3099 : BitVec 32 := Scalar.muli v3098 c32_i32_815
  let v3322 : BitVec 32 := Scalar.addi v3099 c0_i32_891
  let v3324 : Index := Scalar.indexCast v3322
  ![1, v3324.toNat]
def k0_off155 (v3092 : BitVec 32) (c0_i32_899 : BitVec 32) : Fin 2 → Nat :=
  let c2_i32_900 : BitVec 32 := 2#32
  let v3347 : Index := Scalar.indexCast c2_i32_900
  let c12_i32_814 : BitVec 32 := 12#32
  let v3098 : BitVec 32 := Scalar.shrsi v3092 c12_i32_814
  let c32_i32_815 : BitVec 32 := 32#32
  let v3099 : BitVec 32 := Scalar.muli v3098 c32_i32_815
  let v3346 : BitVec 32 := Scalar.addi v3099 c0_i32_899
  let v3348 : Index := Scalar.indexCast v3346
  ![2, v3348.toNat]
def k0_off156 (v3092 : BitVec 32) (c0_i32_907 : BitVec 32) : Fin 2 → Nat :=
  let c3_i32_908 : BitVec 32 := 3#32
  let v3371 : Index := Scalar.indexCast c3_i32_908
  let c12_i32_814 : BitVec 32 := 12#32
  let v3098 : BitVec 32 := Scalar.shrsi v3092 c12_i32_814
  let c32_i32_815 : BitVec 32 := 32#32
  let v3099 : BitVec 32 := Scalar.muli v3098 c32_i32_815
  let v3370 : BitVec 32 := Scalar.addi v3099 c0_i32_907
  let v3372 : Index := Scalar.indexCast v3370
  ![3, v3372.toNat]
def k0_off157 (v3092 : BitVec 32) (c0_i32_915 : BitVec 32) : Fin 2 → Nat :=
  let c4_i32_916 : BitVec 32 := 4#32
  let v3395 : Index := Scalar.indexCast c4_i32_916
  let c12_i32_814 : BitVec 32 := 12#32
  let v3098 : BitVec 32 := Scalar.shrsi v3092 c12_i32_814
  let c32_i32_815 : BitVec 32 := 32#32
  let v3099 : BitVec 32 := Scalar.muli v3098 c32_i32_815
  let v3394 : BitVec 32 := Scalar.addi v3099 c0_i32_915
  let v3396 : Index := Scalar.indexCast v3394
  ![4, v3396.toNat]
def k0_off158 (v3092 : BitVec 32) (c0_i32_923 : BitVec 32) : Fin 2 → Nat :=
  let c5_i32_924 : BitVec 32 := 5#32
  let v3419 : Index := Scalar.indexCast c5_i32_924
  let c12_i32_814 : BitVec 32 := 12#32
  let v3098 : BitVec 32 := Scalar.shrsi v3092 c12_i32_814
  let c32_i32_815 : BitVec 32 := 32#32
  let v3099 : BitVec 32 := Scalar.muli v3098 c32_i32_815
  let v3418 : BitVec 32 := Scalar.addi v3099 c0_i32_923
  let v3420 : Index := Scalar.indexCast v3418
  ![5, v3420.toNat]
def k0_off159 (v3092 : BitVec 32) (c0_i32_931 : BitVec 32) : Fin 2 → Nat :=
  let c6_i32_932 : BitVec 32 := 6#32
  let v3443 : Index := Scalar.indexCast c6_i32_932
  let c12_i32_814 : BitVec 32 := 12#32
  let v3098 : BitVec 32 := Scalar.shrsi v3092 c12_i32_814
  let c32_i32_815 : BitVec 32 := 32#32
  let v3099 : BitVec 32 := Scalar.muli v3098 c32_i32_815
  let v3442 : BitVec 32 := Scalar.addi v3099 c0_i32_931
  let v3444 : Index := Scalar.indexCast v3442
  ![6, v3444.toNat]
def k0_off160 (v3092 : BitVec 32) (c0_i32_939 : BitVec 32) : Fin 2 → Nat :=
  let c7_i32_940 : BitVec 32 := 7#32
  let v3467 : Index := Scalar.indexCast c7_i32_940
  let c12_i32_814 : BitVec 32 := 12#32
  let v3098 : BitVec 32 := Scalar.shrsi v3092 c12_i32_814
  let c32_i32_815 : BitVec 32 := 32#32
  let v3099 : BitVec 32 := Scalar.muli v3098 c32_i32_815
  let v3466 : BitVec 32 := Scalar.addi v3099 c0_i32_939
  let v3468 : Index := Scalar.indexCast v3466
  ![7, v3468.toNat]

def k0_chk6 (v3092 : BitVec 32) : Prop :=
  (∀ (r : Fin 2), ∀ a, (k0_off137 v3092 (BitVec.ofNat 32 (16 * r.val))) a + S1x16.size a ≤ S8x2048.size a) ∧
  (∀ (r : Fin 2), ∀ a, (k0_off138 v3092 (BitVec.ofNat 32 (16 * r.val))) a + S1x16.size a ≤ S8x2048.size a) ∧
  (∀ (r : Fin 2), ∀ a, (k0_off139 v3092 (BitVec.ofNat 32 (16 * r.val))) a + S1x16.size a ≤ S8x2048.size a) ∧
  (∀ (r : Fin 2), ∀ a, (k0_off140 v3092 (BitVec.ofNat 32 (16 * r.val))) a + S1x16.size a ≤ S8x2048.size a) ∧
  (∀ (r : Fin 2), ∀ a, (k0_off141 v3092 (BitVec.ofNat 32 (16 * r.val))) a + S1x16.size a ≤ S8x2048.size a) ∧
  (∀ (r : Fin 2), ∀ a, (k0_off142 v3092 (BitVec.ofNat 32 (16 * r.val))) a + S1x16.size a ≤ S8x2048.size a) ∧
  (∀ (r : Fin 2), ∀ a, (k0_off143 v3092 (BitVec.ofNat 32 (16 * r.val))) a + S1x16.size a ≤ S8x2048.size a) ∧
  (∀ (r : Fin 2), ∀ a, (k0_off144 v3092 (BitVec.ofNat 32 (16 * r.val))) a + S1x16.size a ≤ S8x2048.size a) ∧
  (∀ (r : Fin 2), ∀ a, (k0_off145 v3092 (BitVec.ofNat 32 (16 * r.val))) a + S1x16.size a ≤ S8x2048.size a) ∧
  (∀ (r : Fin 2), ∀ a, (k0_off146 v3092 (BitVec.ofNat 32 (16 * r.val))) a + S1x16.size a ≤ S8x2048.size a) ∧
  (∀ (r : Fin 2), ∀ a, (k0_off147 v3092 (BitVec.ofNat 32 (16 * r.val))) a + S1x16.size a ≤ S8x2048.size a) ∧
  (∀ (r : Fin 2), ∀ a, (k0_off148 v3092 (BitVec.ofNat 32 (16 * r.val))) a + S1x16.size a ≤ S8x2048.size a) ∧
  (∀ (r : Fin 2), ∀ a, (k0_off149 v3092 (BitVec.ofNat 32 (16 * r.val))) a + S1x16.size a ≤ S8x2048.size a) ∧
  (∀ (r : Fin 2), ∀ a, (k0_off150 v3092 (BitVec.ofNat 32 (16 * r.val))) a + S1x16.size a ≤ S8x2048.size a) ∧
  (∀ (r : Fin 2), ∀ a, (k0_off151 v3092 (BitVec.ofNat 32 (16 * r.val))) a + S1x16.size a ≤ S8x2048.size a) ∧
  (∀ (r : Fin 2), ∀ a, (k0_off152 v3092 (BitVec.ofNat 32 (16 * r.val))) a + S1x16.size a ≤ S8x2048.size a) ∧
  (∀ (r : Fin 2), ∀ a, (k0_off153 v3092 (BitVec.ofNat 32 (16 * r.val))) a + S1x16.size a ≤ S8x2048.size a) ∧
  (∀ (r : Fin 2), ∀ a, (k0_off154 v3092 (BitVec.ofNat 32 (16 * r.val))) a + S1x16.size a ≤ S8x2048.size a) ∧
  (∀ (r : Fin 2), ∀ a, (k0_off155 v3092 (BitVec.ofNat 32 (16 * r.val))) a + S1x16.size a ≤ S8x2048.size a) ∧
  (∀ (r : Fin 2), ∀ a, (k0_off156 v3092 (BitVec.ofNat 32 (16 * r.val))) a + S1x16.size a ≤ S8x2048.size a) ∧
  (∀ (r : Fin 2), ∀ a, (k0_off157 v3092 (BitVec.ofNat 32 (16 * r.val))) a + S1x16.size a ≤ S8x2048.size a) ∧
  (∀ (r : Fin 2), ∀ a, (k0_off158 v3092 (BitVec.ofNat 32 (16 * r.val))) a + S1x16.size a ≤ S8x2048.size a) ∧
  (∀ (r : Fin 2), ∀ a, (k0_off159 v3092 (BitVec.ofNat 32 (16 * r.val))) a + S1x16.size a ≤ S8x2048.size a) ∧
  (∀ (r : Fin 2), ∀ a, (k0_off160 v3092 (BitVec.ofNat 32 (16 * r.val))) a + S1x16.size a ≤ S8x2048.size a)
theorem k0_off137_inb : ∀ (v3092 : BitVec 32) (k0_hw6 : k0_chk6 v3092), ∀ (r : Fin 2), ∀ a, (k0_off137 v3092 (BitVec.ofNat 32 (16 * r.val))) a + S1x16.size a ≤ S8x2048.size a := fun v3092 k0_hw6 r => k0_hw6.1 r
theorem k0_off138_inb : ∀ (v3092 : BitVec 32) (k0_hw6 : k0_chk6 v3092), ∀ (r : Fin 2), ∀ a, (k0_off138 v3092 (BitVec.ofNat 32 (16 * r.val))) a + S1x16.size a ≤ S8x2048.size a := fun v3092 k0_hw6 r => k0_hw6.2.1 r
theorem k0_off139_inb : ∀ (v3092 : BitVec 32) (k0_hw6 : k0_chk6 v3092), ∀ (r : Fin 2), ∀ a, (k0_off139 v3092 (BitVec.ofNat 32 (16 * r.val))) a + S1x16.size a ≤ S8x2048.size a := fun v3092 k0_hw6 r => k0_hw6.2.2.1 r
theorem k0_off140_inb : ∀ (v3092 : BitVec 32) (k0_hw6 : k0_chk6 v3092), ∀ (r : Fin 2), ∀ a, (k0_off140 v3092 (BitVec.ofNat 32 (16 * r.val))) a + S1x16.size a ≤ S8x2048.size a := fun v3092 k0_hw6 r => k0_hw6.2.2.2.1 r
theorem k0_off141_inb : ∀ (v3092 : BitVec 32) (k0_hw6 : k0_chk6 v3092), ∀ (r : Fin 2), ∀ a, (k0_off141 v3092 (BitVec.ofNat 32 (16 * r.val))) a + S1x16.size a ≤ S8x2048.size a := fun v3092 k0_hw6 r => k0_hw6.2.2.2.2.1 r
theorem k0_off142_inb : ∀ (v3092 : BitVec 32) (k0_hw6 : k0_chk6 v3092), ∀ (r : Fin 2), ∀ a, (k0_off142 v3092 (BitVec.ofNat 32 (16 * r.val))) a + S1x16.size a ≤ S8x2048.size a := fun v3092 k0_hw6 r => k0_hw6.2.2.2.2.2.1 r
theorem k0_off143_inb : ∀ (v3092 : BitVec 32) (k0_hw6 : k0_chk6 v3092), ∀ (r : Fin 2), ∀ a, (k0_off143 v3092 (BitVec.ofNat 32 (16 * r.val))) a + S1x16.size a ≤ S8x2048.size a := fun v3092 k0_hw6 r => k0_hw6.2.2.2.2.2.2.1 r
theorem k0_off144_inb : ∀ (v3092 : BitVec 32) (k0_hw6 : k0_chk6 v3092), ∀ (r : Fin 2), ∀ a, (k0_off144 v3092 (BitVec.ofNat 32 (16 * r.val))) a + S1x16.size a ≤ S8x2048.size a := fun v3092 k0_hw6 r => k0_hw6.2.2.2.2.2.2.2.1 r
theorem k0_off145_inb : ∀ (v3092 : BitVec 32) (k0_hw6 : k0_chk6 v3092), ∀ (r : Fin 2), ∀ a, (k0_off145 v3092 (BitVec.ofNat 32 (16 * r.val))) a + S1x16.size a ≤ S8x2048.size a := fun v3092 k0_hw6 r => k0_hw6.2.2.2.2.2.2.2.2.1 r
theorem k0_off146_inb : ∀ (v3092 : BitVec 32) (k0_hw6 : k0_chk6 v3092), ∀ (r : Fin 2), ∀ a, (k0_off146 v3092 (BitVec.ofNat 32 (16 * r.val))) a + S1x16.size a ≤ S8x2048.size a := fun v3092 k0_hw6 r => k0_hw6.2.2.2.2.2.2.2.2.2.1 r
theorem k0_off147_inb : ∀ (v3092 : BitVec 32) (k0_hw6 : k0_chk6 v3092), ∀ (r : Fin 2), ∀ a, (k0_off147 v3092 (BitVec.ofNat 32 (16 * r.val))) a + S1x16.size a ≤ S8x2048.size a := fun v3092 k0_hw6 r => k0_hw6.2.2.2.2.2.2.2.2.2.2.1 r
theorem k0_off148_inb : ∀ (v3092 : BitVec 32) (k0_hw6 : k0_chk6 v3092), ∀ (r : Fin 2), ∀ a, (k0_off148 v3092 (BitVec.ofNat 32 (16 * r.val))) a + S1x16.size a ≤ S8x2048.size a := fun v3092 k0_hw6 r => k0_hw6.2.2.2.2.2.2.2.2.2.2.2.1 r
theorem k0_off149_inb : ∀ (v3092 : BitVec 32) (k0_hw6 : k0_chk6 v3092), ∀ (r : Fin 2), ∀ a, (k0_off149 v3092 (BitVec.ofNat 32 (16 * r.val))) a + S1x16.size a ≤ S8x2048.size a := fun v3092 k0_hw6 r => k0_hw6.2.2.2.2.2.2.2.2.2.2.2.2.1 r
theorem k0_off150_inb : ∀ (v3092 : BitVec 32) (k0_hw6 : k0_chk6 v3092), ∀ (r : Fin 2), ∀ a, (k0_off150 v3092 (BitVec.ofNat 32 (16 * r.val))) a + S1x16.size a ≤ S8x2048.size a := fun v3092 k0_hw6 r => k0_hw6.2.2.2.2.2.2.2.2.2.2.2.2.2.1 r
theorem k0_off151_inb : ∀ (v3092 : BitVec 32) (k0_hw6 : k0_chk6 v3092), ∀ (r : Fin 2), ∀ a, (k0_off151 v3092 (BitVec.ofNat 32 (16 * r.val))) a + S1x16.size a ≤ S8x2048.size a := fun v3092 k0_hw6 r => k0_hw6.2.2.2.2.2.2.2.2.2.2.2.2.2.2.1 r
theorem k0_off152_inb : ∀ (v3092 : BitVec 32) (k0_hw6 : k0_chk6 v3092), ∀ (r : Fin 2), ∀ a, (k0_off152 v3092 (BitVec.ofNat 32 (16 * r.val))) a + S1x16.size a ≤ S8x2048.size a := fun v3092 k0_hw6 r => k0_hw6.2.2.2.2.2.2.2.2.2.2.2.2.2.2.2.1 r
theorem k0_off153_inb : ∀ (v3092 : BitVec 32) (k0_hw6 : k0_chk6 v3092), ∀ (r : Fin 2), ∀ a, (k0_off153 v3092 (BitVec.ofNat 32 (16 * r.val))) a + S1x16.size a ≤ S8x2048.size a := fun v3092 k0_hw6 r => k0_hw6.2.2.2.2.2.2.2.2.2.2.2.2.2.2.2.2.1 r
theorem k0_off154_inb : ∀ (v3092 : BitVec 32) (k0_hw6 : k0_chk6 v3092), ∀ (r : Fin 2), ∀ a, (k0_off154 v3092 (BitVec.ofNat 32 (16 * r.val))) a + S1x16.size a ≤ S8x2048.size a := fun v3092 k0_hw6 r => k0_hw6.2.2.2.2.2.2.2.2.2.2.2.2.2.2.2.2.2.1 r
theorem k0_off155_inb : ∀ (v3092 : BitVec 32) (k0_hw6 : k0_chk6 v3092), ∀ (r : Fin 2), ∀ a, (k0_off155 v3092 (BitVec.ofNat 32 (16 * r.val))) a + S1x16.size a ≤ S8x2048.size a := fun v3092 k0_hw6 r => k0_hw6.2.2.2.2.2.2.2.2.2.2.2.2.2.2.2.2.2.2.1 r
theorem k0_off156_inb : ∀ (v3092 : BitVec 32) (k0_hw6 : k0_chk6 v3092), ∀ (r : Fin 2), ∀ a, (k0_off156 v3092 (BitVec.ofNat 32 (16 * r.val))) a + S1x16.size a ≤ S8x2048.size a := fun v3092 k0_hw6 r => k0_hw6.2.2.2.2.2.2.2.2.2.2.2.2.2.2.2.2.2.2.2.1 r
theorem k0_off157_inb : ∀ (v3092 : BitVec 32) (k0_hw6 : k0_chk6 v3092), ∀ (r : Fin 2), ∀ a, (k0_off157 v3092 (BitVec.ofNat 32 (16 * r.val))) a + S1x16.size a ≤ S8x2048.size a := fun v3092 k0_hw6 r => k0_hw6.2.2.2.2.2.2.2.2.2.2.2.2.2.2.2.2.2.2.2.2.1 r
theorem k0_off158_inb : ∀ (v3092 : BitVec 32) (k0_hw6 : k0_chk6 v3092), ∀ (r : Fin 2), ∀ a, (k0_off158 v3092 (BitVec.ofNat 32 (16 * r.val))) a + S1x16.size a ≤ S8x2048.size a := fun v3092 k0_hw6 r => k0_hw6.2.2.2.2.2.2.2.2.2.2.2.2.2.2.2.2.2.2.2.2.2.1 r
theorem k0_off159_inb : ∀ (v3092 : BitVec 32) (k0_hw6 : k0_chk6 v3092), ∀ (r : Fin 2), ∀ a, (k0_off159 v3092 (BitVec.ofNat 32 (16 * r.val))) a + S1x16.size a ≤ S8x2048.size a := fun v3092 k0_hw6 r => k0_hw6.2.2.2.2.2.2.2.2.2.2.2.2.2.2.2.2.2.2.2.2.2.2.1 r
theorem k0_off160_inb : ∀ (v3092 : BitVec 32) (k0_hw6 : k0_chk6 v3092), ∀ (r : Fin 2), ∀ a, (k0_off160 v3092 (BitVec.ofNat 32 (16 * r.val))) a + S1x16.size a ≤ S8x2048.size a := fun v3092 k0_hw6 r => k0_hw6.2.2.2.2.2.2.2.2.2.2.2.2.2.2.2.2.2.2.2.2.2.2.2 r

def k0_off161 (k0_t3 : Fin k0_t3_loop.trips) : Fin 1 → Nat :=
  let c0_i32_90 : BitVec 32 := 0#32
  let c1_i32_92 : BitVec 32 := 1#32
  let arg28 : BitVec 32 := Scf.iv c0_i32_90 c1_i32_92 k0_t3
  let c16_i32_954 : BitVec 32 := 16#32
  let v3499 : BitVec 32 := Scalar.muli arg28 c16_i32_954
  let c6_i32_955 : BitVec 32 := 6#32
  let v3500 : BitVec 32 := Scalar.addi v3499 c6_i32_955
  let c16_i32_956 : BitVec 32 := 16#32
  let v3501 : BitVec 32 := Scalar.muli v3500 c16_i32_956
  let v3502 : Index := Scalar.indexCast v3501
  ![v3502.toNat]
def k0_off162 (v3491 : BitVec 32) (c0_i32_957 : BitVec 32) : Fin 2 → Nat :=
  let c0_i32_958 : BitVec 32 := 0#32
  let v3506 : Index := Scalar.indexCast c0_i32_958
  let c63_i32_947 : BitVec 32 := 63#32
  let v3492 : BitVec 32 := Scalar.andi v3491 c63_i32_947
  let c32_i32_948 : BitVec 32 := 32#32
  let v3493 : BitVec 32 := Scalar.muli v3492 c32_i32_948
  let v3505 : BitVec 32 := Scalar.addi v3493 c0_i32_957
  let v3507 : Index := Scalar.indexCast v3505
  ![0, v3507.toNat]

def k0_off163 (v3491 : BitVec 32) (c0_i32_961 : BitVec 32) : Fin 2 → Nat :=
  let c1_i32_962 : BitVec 32 := 1#32
  let v3516 : Index := Scalar.indexCast c1_i32_962
  let c63_i32_947 : BitVec 32 := 63#32
  let v3492 : BitVec 32 := Scalar.andi v3491 c63_i32_947
  let c32_i32_948 : BitVec 32 := 32#32
  let v3493 : BitVec 32 := Scalar.muli v3492 c32_i32_948
  let v3515 : BitVec 32 := Scalar.addi v3493 c0_i32_961
  let v3517 : Index := Scalar.indexCast v3515
  ![1, v3517.toNat]
def k0_off164 (v3491 : BitVec 32) (c0_i32_965 : BitVec 32) : Fin 2 → Nat :=
  let c2_i32_966 : BitVec 32 := 2#32
  let v3526 : Index := Scalar.indexCast c2_i32_966
  let c63_i32_947 : BitVec 32 := 63#32
  let v3492 : BitVec 32 := Scalar.andi v3491 c63_i32_947
  let c32_i32_948 : BitVec 32 := 32#32
  let v3493 : BitVec 32 := Scalar.muli v3492 c32_i32_948
  let v3525 : BitVec 32 := Scalar.addi v3493 c0_i32_965
  let v3527 : Index := Scalar.indexCast v3525
  ![2, v3527.toNat]
def k0_off165 (v3491 : BitVec 32) (c0_i32_969 : BitVec 32) : Fin 2 → Nat :=
  let c3_i32_970 : BitVec 32 := 3#32
  let v3536 : Index := Scalar.indexCast c3_i32_970
  let c63_i32_947 : BitVec 32 := 63#32
  let v3492 : BitVec 32 := Scalar.andi v3491 c63_i32_947
  let c32_i32_948 : BitVec 32 := 32#32
  let v3493 : BitVec 32 := Scalar.muli v3492 c32_i32_948
  let v3535 : BitVec 32 := Scalar.addi v3493 c0_i32_969
  let v3537 : Index := Scalar.indexCast v3535
  ![3, v3537.toNat]
def k0_off166 (v3491 : BitVec 32) (c0_i32_973 : BitVec 32) : Fin 2 → Nat :=
  let c4_i32_974 : BitVec 32 := 4#32
  let v3546 : Index := Scalar.indexCast c4_i32_974
  let c63_i32_947 : BitVec 32 := 63#32
  let v3492 : BitVec 32 := Scalar.andi v3491 c63_i32_947
  let c32_i32_948 : BitVec 32 := 32#32
  let v3493 : BitVec 32 := Scalar.muli v3492 c32_i32_948
  let v3545 : BitVec 32 := Scalar.addi v3493 c0_i32_973
  let v3547 : Index := Scalar.indexCast v3545
  ![4, v3547.toNat]
def k0_off167 (v3491 : BitVec 32) (c0_i32_977 : BitVec 32) : Fin 2 → Nat :=
  let c5_i32_978 : BitVec 32 := 5#32
  let v3556 : Index := Scalar.indexCast c5_i32_978
  let c63_i32_947 : BitVec 32 := 63#32
  let v3492 : BitVec 32 := Scalar.andi v3491 c63_i32_947
  let c32_i32_948 : BitVec 32 := 32#32
  let v3493 : BitVec 32 := Scalar.muli v3492 c32_i32_948
  let v3555 : BitVec 32 := Scalar.addi v3493 c0_i32_977
  let v3557 : Index := Scalar.indexCast v3555
  ![5, v3557.toNat]
def k0_off168 (v3491 : BitVec 32) (c0_i32_981 : BitVec 32) : Fin 2 → Nat :=
  let c6_i32_982 : BitVec 32 := 6#32
  let v3566 : Index := Scalar.indexCast c6_i32_982
  let c63_i32_947 : BitVec 32 := 63#32
  let v3492 : BitVec 32 := Scalar.andi v3491 c63_i32_947
  let c32_i32_948 : BitVec 32 := 32#32
  let v3493 : BitVec 32 := Scalar.muli v3492 c32_i32_948
  let v3565 : BitVec 32 := Scalar.addi v3493 c0_i32_981
  let v3567 : Index := Scalar.indexCast v3565
  ![6, v3567.toNat]
def k0_off169 (v3491 : BitVec 32) (c0_i32_985 : BitVec 32) : Fin 2 → Nat :=
  let c7_i32_986 : BitVec 32 := 7#32
  let v3576 : Index := Scalar.indexCast c7_i32_986
  let c63_i32_947 : BitVec 32 := 63#32
  let v3492 : BitVec 32 := Scalar.andi v3491 c63_i32_947
  let c32_i32_948 : BitVec 32 := 32#32
  let v3493 : BitVec 32 := Scalar.muli v3492 c32_i32_948
  let v3575 : BitVec 32 := Scalar.addi v3493 c0_i32_985
  let v3577 : Index := Scalar.indexCast v3575
  ![7, v3577.toNat]
def k0_off170 (v3491 : BitVec 32) (c0_i32_989 : BitVec 32) : Fin 2 → Nat :=
  let c0_i32_990 : BitVec 32 := 0#32
  let v3586 : Index := Scalar.indexCast c0_i32_990
  let c6_i32_949 : BitVec 32 := 6#32
  let v3494 : BitVec 32 := Scalar.shrsi v3491 c6_i32_949
  let c63_i32_950 : BitVec 32 := 63#32
  let v3495 : BitVec 32 := Scalar.andi v3494 c63_i32_950
  let c32_i32_951 : BitVec 32 := 32#32
  let v3496 : BitVec 32 := Scalar.muli v3495 c32_i32_951
  let v3585 : BitVec 32 := Scalar.addi v3496 c0_i32_989
  let v3587 : Index := Scalar.indexCast v3585
  ![0, v3587.toNat]
def k0_off171 (v3491 : BitVec 32) (c0_i32_993 : BitVec 32) : Fin 2 → Nat :=
  let c1_i32_994 : BitVec 32 := 1#32
  let v3596 : Index := Scalar.indexCast c1_i32_994
  let c6_i32_949 : BitVec 32 := 6#32
  let v3494 : BitVec 32 := Scalar.shrsi v3491 c6_i32_949
  let c63_i32_950 : BitVec 32 := 63#32
  let v3495 : BitVec 32 := Scalar.andi v3494 c63_i32_950
  let c32_i32_951 : BitVec 32 := 32#32
  let v3496 : BitVec 32 := Scalar.muli v3495 c32_i32_951
  let v3595 : BitVec 32 := Scalar.addi v3496 c0_i32_993
  let v3597 : Index := Scalar.indexCast v3595
  ![1, v3597.toNat]
def k0_off172 (v3491 : BitVec 32) (c0_i32_997 : BitVec 32) : Fin 2 → Nat :=
  let c2_i32_998 : BitVec 32 := 2#32
  let v3606 : Index := Scalar.indexCast c2_i32_998
  let c6_i32_949 : BitVec 32 := 6#32
  let v3494 : BitVec 32 := Scalar.shrsi v3491 c6_i32_949
  let c63_i32_950 : BitVec 32 := 63#32
  let v3495 : BitVec 32 := Scalar.andi v3494 c63_i32_950
  let c32_i32_951 : BitVec 32 := 32#32
  let v3496 : BitVec 32 := Scalar.muli v3495 c32_i32_951
  let v3605 : BitVec 32 := Scalar.addi v3496 c0_i32_997
  let v3607 : Index := Scalar.indexCast v3605
  ![2, v3607.toNat]
def k0_off173 (v3491 : BitVec 32) (c0_i32_1001 : BitVec 32) : Fin 2 → Nat :=
  let c3_i32_1002 : BitVec 32 := 3#32
  let v3616 : Index := Scalar.indexCast c3_i32_1002
  let c6_i32_949 : BitVec 32 := 6#32
  let v3494 : BitVec 32 := Scalar.shrsi v3491 c6_i32_949
  let c63_i32_950 : BitVec 32 := 63#32
  let v3495 : BitVec 32 := Scalar.andi v3494 c63_i32_950
  let c32_i32_951 : BitVec 32 := 32#32
  let v3496 : BitVec 32 := Scalar.muli v3495 c32_i32_951
  let v3615 : BitVec 32 := Scalar.addi v3496 c0_i32_1001
  let v3617 : Index := Scalar.indexCast v3615
  ![3, v3617.toNat]
def k0_off174 (v3491 : BitVec 32) (c0_i32_1005 : BitVec 32) : Fin 2 → Nat :=
  let c4_i32_1006 : BitVec 32 := 4#32
  let v3626 : Index := Scalar.indexCast c4_i32_1006
  let c6_i32_949 : BitVec 32 := 6#32
  let v3494 : BitVec 32 := Scalar.shrsi v3491 c6_i32_949
  let c63_i32_950 : BitVec 32 := 63#32
  let v3495 : BitVec 32 := Scalar.andi v3494 c63_i32_950
  let c32_i32_951 : BitVec 32 := 32#32
  let v3496 : BitVec 32 := Scalar.muli v3495 c32_i32_951
  let v3625 : BitVec 32 := Scalar.addi v3496 c0_i32_1005
  let v3627 : Index := Scalar.indexCast v3625
  ![4, v3627.toNat]
def k0_off175 (v3491 : BitVec 32) (c0_i32_1009 : BitVec 32) : Fin 2 → Nat :=
  let c5_i32_1010 : BitVec 32 := 5#32
  let v3636 : Index := Scalar.indexCast c5_i32_1010
  let c6_i32_949 : BitVec 32 := 6#32
  let v3494 : BitVec 32 := Scalar.shrsi v3491 c6_i32_949
  let c63_i32_950 : BitVec 32 := 63#32
  let v3495 : BitVec 32 := Scalar.andi v3494 c63_i32_950
  let c32_i32_951 : BitVec 32 := 32#32
  let v3496 : BitVec 32 := Scalar.muli v3495 c32_i32_951
  let v3635 : BitVec 32 := Scalar.addi v3496 c0_i32_1009
  let v3637 : Index := Scalar.indexCast v3635
  ![5, v3637.toNat]
def k0_off176 (v3491 : BitVec 32) (c0_i32_1013 : BitVec 32) : Fin 2 → Nat :=
  let c6_i32_1014 : BitVec 32 := 6#32
  let v3646 : Index := Scalar.indexCast c6_i32_1014
  let c6_i32_949 : BitVec 32 := 6#32
  let v3494 : BitVec 32 := Scalar.shrsi v3491 c6_i32_949
  let c63_i32_950 : BitVec 32 := 63#32
  let v3495 : BitVec 32 := Scalar.andi v3494 c63_i32_950
  let c32_i32_951 : BitVec 32 := 32#32
  let v3496 : BitVec 32 := Scalar.muli v3495 c32_i32_951
  let v3645 : BitVec 32 := Scalar.addi v3496 c0_i32_1013
  let v3647 : Index := Scalar.indexCast v3645
  ![6, v3647.toNat]
def k0_off177 (v3491 : BitVec 32) (c0_i32_1017 : BitVec 32) : Fin 2 → Nat :=
  let c7_i32_1018 : BitVec 32 := 7#32
  let v3656 : Index := Scalar.indexCast c7_i32_1018
  let c6_i32_949 : BitVec 32 := 6#32
  let v3494 : BitVec 32 := Scalar.shrsi v3491 c6_i32_949
  let c63_i32_950 : BitVec 32 := 63#32
  let v3495 : BitVec 32 := Scalar.andi v3494 c63_i32_950
  let c32_i32_951 : BitVec 32 := 32#32
  let v3496 : BitVec 32 := Scalar.muli v3495 c32_i32_951
  let v3655 : BitVec 32 := Scalar.addi v3496 c0_i32_1017
  let v3657 : Index := Scalar.indexCast v3655
  ![7, v3657.toNat]
def k0_off178 (v3491 : BitVec 32) (c0_i32_1021 : BitVec 32) : Fin 2 → Nat :=
  let c0_i32_1022 : BitVec 32 := 0#32
  let v3698 : Index := Scalar.indexCast c0_i32_1022
  let c12_i32_952 : BitVec 32 := 12#32
  let v3497 : BitVec 32 := Scalar.shrsi v3491 c12_i32_952
  let c32_i32_953 : BitVec 32 := 32#32
  let v3498 : BitVec 32 := Scalar.muli v3497 c32_i32_953
  let v3697 : BitVec 32 := Scalar.addi v3498 c0_i32_1021
  let v3699 : Index := Scalar.indexCast v3697
  ![0, v3699.toNat]
def k0_off179 (v3491 : BitVec 32) (c0_i32_1029 : BitVec 32) : Fin 2 → Nat :=
  let c1_i32_1030 : BitVec 32 := 1#32
  let v3722 : Index := Scalar.indexCast c1_i32_1030
  let c12_i32_952 : BitVec 32 := 12#32
  let v3497 : BitVec 32 := Scalar.shrsi v3491 c12_i32_952
  let c32_i32_953 : BitVec 32 := 32#32
  let v3498 : BitVec 32 := Scalar.muli v3497 c32_i32_953
  let v3721 : BitVec 32 := Scalar.addi v3498 c0_i32_1029
  let v3723 : Index := Scalar.indexCast v3721
  ![1, v3723.toNat]
def k0_off180 (v3491 : BitVec 32) (c0_i32_1037 : BitVec 32) : Fin 2 → Nat :=
  let c2_i32_1038 : BitVec 32 := 2#32
  let v3746 : Index := Scalar.indexCast c2_i32_1038
  let c12_i32_952 : BitVec 32 := 12#32
  let v3497 : BitVec 32 := Scalar.shrsi v3491 c12_i32_952
  let c32_i32_953 : BitVec 32 := 32#32
  let v3498 : BitVec 32 := Scalar.muli v3497 c32_i32_953
  let v3745 : BitVec 32 := Scalar.addi v3498 c0_i32_1037
  let v3747 : Index := Scalar.indexCast v3745
  ![2, v3747.toNat]
def k0_off181 (v3491 : BitVec 32) (c0_i32_1045 : BitVec 32) : Fin 2 → Nat :=
  let c3_i32_1046 : BitVec 32 := 3#32
  let v3770 : Index := Scalar.indexCast c3_i32_1046
  let c12_i32_952 : BitVec 32 := 12#32
  let v3497 : BitVec 32 := Scalar.shrsi v3491 c12_i32_952
  let c32_i32_953 : BitVec 32 := 32#32
  let v3498 : BitVec 32 := Scalar.muli v3497 c32_i32_953
  let v3769 : BitVec 32 := Scalar.addi v3498 c0_i32_1045
  let v3771 : Index := Scalar.indexCast v3769
  ![3, v3771.toNat]
def k0_off182 (v3491 : BitVec 32) (c0_i32_1053 : BitVec 32) : Fin 2 → Nat :=
  let c4_i32_1054 : BitVec 32 := 4#32
  let v3794 : Index := Scalar.indexCast c4_i32_1054
  let c12_i32_952 : BitVec 32 := 12#32
  let v3497 : BitVec 32 := Scalar.shrsi v3491 c12_i32_952
  let c32_i32_953 : BitVec 32 := 32#32
  let v3498 : BitVec 32 := Scalar.muli v3497 c32_i32_953
  let v3793 : BitVec 32 := Scalar.addi v3498 c0_i32_1053
  let v3795 : Index := Scalar.indexCast v3793
  ![4, v3795.toNat]
def k0_off183 (v3491 : BitVec 32) (c0_i32_1061 : BitVec 32) : Fin 2 → Nat :=
  let c5_i32_1062 : BitVec 32 := 5#32
  let v3818 : Index := Scalar.indexCast c5_i32_1062
  let c12_i32_952 : BitVec 32 := 12#32
  let v3497 : BitVec 32 := Scalar.shrsi v3491 c12_i32_952
  let c32_i32_953 : BitVec 32 := 32#32
  let v3498 : BitVec 32 := Scalar.muli v3497 c32_i32_953
  let v3817 : BitVec 32 := Scalar.addi v3498 c0_i32_1061
  let v3819 : Index := Scalar.indexCast v3817
  ![5, v3819.toNat]
def k0_off184 (v3491 : BitVec 32) (c0_i32_1069 : BitVec 32) : Fin 2 → Nat :=
  let c6_i32_1070 : BitVec 32 := 6#32
  let v3842 : Index := Scalar.indexCast c6_i32_1070
  let c12_i32_952 : BitVec 32 := 12#32
  let v3497 : BitVec 32 := Scalar.shrsi v3491 c12_i32_952
  let c32_i32_953 : BitVec 32 := 32#32
  let v3498 : BitVec 32 := Scalar.muli v3497 c32_i32_953
  let v3841 : BitVec 32 := Scalar.addi v3498 c0_i32_1069
  let v3843 : Index := Scalar.indexCast v3841
  ![6, v3843.toNat]
def k0_off185 (v3491 : BitVec 32) (c0_i32_1077 : BitVec 32) : Fin 2 → Nat :=
  let c7_i32_1078 : BitVec 32 := 7#32
  let v3866 : Index := Scalar.indexCast c7_i32_1078
  let c12_i32_952 : BitVec 32 := 12#32
  let v3497 : BitVec 32 := Scalar.shrsi v3491 c12_i32_952
  let c32_i32_953 : BitVec 32 := 32#32
  let v3498 : BitVec 32 := Scalar.muli v3497 c32_i32_953
  let v3865 : BitVec 32 := Scalar.addi v3498 c0_i32_1077
  let v3867 : Index := Scalar.indexCast v3865
  ![7, v3867.toNat]

def k0_chk7 (v3491 : BitVec 32) : Prop :=
  (∀ (r : Fin 2), ∀ a, (k0_off162 v3491 (BitVec.ofNat 32 (16 * r.val))) a + S1x16.size a ≤ S8x2048.size a) ∧
  (∀ (r : Fin 2), ∀ a, (k0_off163 v3491 (BitVec.ofNat 32 (16 * r.val))) a + S1x16.size a ≤ S8x2048.size a) ∧
  (∀ (r : Fin 2), ∀ a, (k0_off164 v3491 (BitVec.ofNat 32 (16 * r.val))) a + S1x16.size a ≤ S8x2048.size a) ∧
  (∀ (r : Fin 2), ∀ a, (k0_off165 v3491 (BitVec.ofNat 32 (16 * r.val))) a + S1x16.size a ≤ S8x2048.size a) ∧
  (∀ (r : Fin 2), ∀ a, (k0_off166 v3491 (BitVec.ofNat 32 (16 * r.val))) a + S1x16.size a ≤ S8x2048.size a) ∧
  (∀ (r : Fin 2), ∀ a, (k0_off167 v3491 (BitVec.ofNat 32 (16 * r.val))) a + S1x16.size a ≤ S8x2048.size a) ∧
  (∀ (r : Fin 2), ∀ a, (k0_off168 v3491 (BitVec.ofNat 32 (16 * r.val))) a + S1x16.size a ≤ S8x2048.size a) ∧
  (∀ (r : Fin 2), ∀ a, (k0_off169 v3491 (BitVec.ofNat 32 (16 * r.val))) a + S1x16.size a ≤ S8x2048.size a) ∧
  (∀ (r : Fin 2), ∀ a, (k0_off170 v3491 (BitVec.ofNat 32 (16 * r.val))) a + S1x16.size a ≤ S8x2048.size a) ∧
  (∀ (r : Fin 2), ∀ a, (k0_off171 v3491 (BitVec.ofNat 32 (16 * r.val))) a + S1x16.size a ≤ S8x2048.size a) ∧
  (∀ (r : Fin 2), ∀ a, (k0_off172 v3491 (BitVec.ofNat 32 (16 * r.val))) a + S1x16.size a ≤ S8x2048.size a) ∧
  (∀ (r : Fin 2), ∀ a, (k0_off173 v3491 (BitVec.ofNat 32 (16 * r.val))) a + S1x16.size a ≤ S8x2048.size a) ∧
  (∀ (r : Fin 2), ∀ a, (k0_off174 v3491 (BitVec.ofNat 32 (16 * r.val))) a + S1x16.size a ≤ S8x2048.size a) ∧
  (∀ (r : Fin 2), ∀ a, (k0_off175 v3491 (BitVec.ofNat 32 (16 * r.val))) a + S1x16.size a ≤ S8x2048.size a) ∧
  (∀ (r : Fin 2), ∀ a, (k0_off176 v3491 (BitVec.ofNat 32 (16 * r.val))) a + S1x16.size a ≤ S8x2048.size a) ∧
  (∀ (r : Fin 2), ∀ a, (k0_off177 v3491 (BitVec.ofNat 32 (16 * r.val))) a + S1x16.size a ≤ S8x2048.size a) ∧
  (∀ (r : Fin 2), ∀ a, (k0_off178 v3491 (BitVec.ofNat 32 (16 * r.val))) a + S1x16.size a ≤ S8x2048.size a) ∧
  (∀ (r : Fin 2), ∀ a, (k0_off179 v3491 (BitVec.ofNat 32 (16 * r.val))) a + S1x16.size a ≤ S8x2048.size a) ∧
  (∀ (r : Fin 2), ∀ a, (k0_off180 v3491 (BitVec.ofNat 32 (16 * r.val))) a + S1x16.size a ≤ S8x2048.size a) ∧
  (∀ (r : Fin 2), ∀ a, (k0_off181 v3491 (BitVec.ofNat 32 (16 * r.val))) a + S1x16.size a ≤ S8x2048.size a) ∧
  (∀ (r : Fin 2), ∀ a, (k0_off182 v3491 (BitVec.ofNat 32 (16 * r.val))) a + S1x16.size a ≤ S8x2048.size a) ∧
  (∀ (r : Fin 2), ∀ a, (k0_off183 v3491 (BitVec.ofNat 32 (16 * r.val))) a + S1x16.size a ≤ S8x2048.size a) ∧
  (∀ (r : Fin 2), ∀ a, (k0_off184 v3491 (BitVec.ofNat 32 (16 * r.val))) a + S1x16.size a ≤ S8x2048.size a) ∧
  (∀ (r : Fin 2), ∀ a, (k0_off185 v3491 (BitVec.ofNat 32 (16 * r.val))) a + S1x16.size a ≤ S8x2048.size a)
theorem k0_off162_inb : ∀ (v3491 : BitVec 32) (k0_hw7 : k0_chk7 v3491), ∀ (r : Fin 2), ∀ a, (k0_off162 v3491 (BitVec.ofNat 32 (16 * r.val))) a + S1x16.size a ≤ S8x2048.size a := fun v3491 k0_hw7 r => k0_hw7.1 r
theorem k0_off163_inb : ∀ (v3491 : BitVec 32) (k0_hw7 : k0_chk7 v3491), ∀ (r : Fin 2), ∀ a, (k0_off163 v3491 (BitVec.ofNat 32 (16 * r.val))) a + S1x16.size a ≤ S8x2048.size a := fun v3491 k0_hw7 r => k0_hw7.2.1 r
theorem k0_off164_inb : ∀ (v3491 : BitVec 32) (k0_hw7 : k0_chk7 v3491), ∀ (r : Fin 2), ∀ a, (k0_off164 v3491 (BitVec.ofNat 32 (16 * r.val))) a + S1x16.size a ≤ S8x2048.size a := fun v3491 k0_hw7 r => k0_hw7.2.2.1 r
theorem k0_off165_inb : ∀ (v3491 : BitVec 32) (k0_hw7 : k0_chk7 v3491), ∀ (r : Fin 2), ∀ a, (k0_off165 v3491 (BitVec.ofNat 32 (16 * r.val))) a + S1x16.size a ≤ S8x2048.size a := fun v3491 k0_hw7 r => k0_hw7.2.2.2.1 r
theorem k0_off166_inb : ∀ (v3491 : BitVec 32) (k0_hw7 : k0_chk7 v3491), ∀ (r : Fin 2), ∀ a, (k0_off166 v3491 (BitVec.ofNat 32 (16 * r.val))) a + S1x16.size a ≤ S8x2048.size a := fun v3491 k0_hw7 r => k0_hw7.2.2.2.2.1 r
theorem k0_off167_inb : ∀ (v3491 : BitVec 32) (k0_hw7 : k0_chk7 v3491), ∀ (r : Fin 2), ∀ a, (k0_off167 v3491 (BitVec.ofNat 32 (16 * r.val))) a + S1x16.size a ≤ S8x2048.size a := fun v3491 k0_hw7 r => k0_hw7.2.2.2.2.2.1 r
theorem k0_off168_inb : ∀ (v3491 : BitVec 32) (k0_hw7 : k0_chk7 v3491), ∀ (r : Fin 2), ∀ a, (k0_off168 v3491 (BitVec.ofNat 32 (16 * r.val))) a + S1x16.size a ≤ S8x2048.size a := fun v3491 k0_hw7 r => k0_hw7.2.2.2.2.2.2.1 r
theorem k0_off169_inb : ∀ (v3491 : BitVec 32) (k0_hw7 : k0_chk7 v3491), ∀ (r : Fin 2), ∀ a, (k0_off169 v3491 (BitVec.ofNat 32 (16 * r.val))) a + S1x16.size a ≤ S8x2048.size a := fun v3491 k0_hw7 r => k0_hw7.2.2.2.2.2.2.2.1 r
theorem k0_off170_inb : ∀ (v3491 : BitVec 32) (k0_hw7 : k0_chk7 v3491), ∀ (r : Fin 2), ∀ a, (k0_off170 v3491 (BitVec.ofNat 32 (16 * r.val))) a + S1x16.size a ≤ S8x2048.size a := fun v3491 k0_hw7 r => k0_hw7.2.2.2.2.2.2.2.2.1 r
theorem k0_off171_inb : ∀ (v3491 : BitVec 32) (k0_hw7 : k0_chk7 v3491), ∀ (r : Fin 2), ∀ a, (k0_off171 v3491 (BitVec.ofNat 32 (16 * r.val))) a + S1x16.size a ≤ S8x2048.size a := fun v3491 k0_hw7 r => k0_hw7.2.2.2.2.2.2.2.2.2.1 r
theorem k0_off172_inb : ∀ (v3491 : BitVec 32) (k0_hw7 : k0_chk7 v3491), ∀ (r : Fin 2), ∀ a, (k0_off172 v3491 (BitVec.ofNat 32 (16 * r.val))) a + S1x16.size a ≤ S8x2048.size a := fun v3491 k0_hw7 r => k0_hw7.2.2.2.2.2.2.2.2.2.2.1 r
theorem k0_off173_inb : ∀ (v3491 : BitVec 32) (k0_hw7 : k0_chk7 v3491), ∀ (r : Fin 2), ∀ a, (k0_off173 v3491 (BitVec.ofNat 32 (16 * r.val))) a + S1x16.size a ≤ S8x2048.size a := fun v3491 k0_hw7 r => k0_hw7.2.2.2.2.2.2.2.2.2.2.2.1 r
theorem k0_off174_inb : ∀ (v3491 : BitVec 32) (k0_hw7 : k0_chk7 v3491), ∀ (r : Fin 2), ∀ a, (k0_off174 v3491 (BitVec.ofNat 32 (16 * r.val))) a + S1x16.size a ≤ S8x2048.size a := fun v3491 k0_hw7 r => k0_hw7.2.2.2.2.2.2.2.2.2.2.2.2.1 r
theorem k0_off175_inb : ∀ (v3491 : BitVec 32) (k0_hw7 : k0_chk7 v3491), ∀ (r : Fin 2), ∀ a, (k0_off175 v3491 (BitVec.ofNat 32 (16 * r.val))) a + S1x16.size a ≤ S8x2048.size a := fun v3491 k0_hw7 r => k0_hw7.2.2.2.2.2.2.2.2.2.2.2.2.2.1 r
theorem k0_off176_inb : ∀ (v3491 : BitVec 32) (k0_hw7 : k0_chk7 v3491), ∀ (r : Fin 2), ∀ a, (k0_off176 v3491 (BitVec.ofNat 32 (16 * r.val))) a + S1x16.size a ≤ S8x2048.size a := fun v3491 k0_hw7 r => k0_hw7.2.2.2.2.2.2.2.2.2.2.2.2.2.2.1 r
theorem k0_off177_inb : ∀ (v3491 : BitVec 32) (k0_hw7 : k0_chk7 v3491), ∀ (r : Fin 2), ∀ a, (k0_off177 v3491 (BitVec.ofNat 32 (16 * r.val))) a + S1x16.size a ≤ S8x2048.size a := fun v3491 k0_hw7 r => k0_hw7.2.2.2.2.2.2.2.2.2.2.2.2.2.2.2.1 r
theorem k0_off178_inb : ∀ (v3491 : BitVec 32) (k0_hw7 : k0_chk7 v3491), ∀ (r : Fin 2), ∀ a, (k0_off178 v3491 (BitVec.ofNat 32 (16 * r.val))) a + S1x16.size a ≤ S8x2048.size a := fun v3491 k0_hw7 r => k0_hw7.2.2.2.2.2.2.2.2.2.2.2.2.2.2.2.2.1 r
theorem k0_off179_inb : ∀ (v3491 : BitVec 32) (k0_hw7 : k0_chk7 v3491), ∀ (r : Fin 2), ∀ a, (k0_off179 v3491 (BitVec.ofNat 32 (16 * r.val))) a + S1x16.size a ≤ S8x2048.size a := fun v3491 k0_hw7 r => k0_hw7.2.2.2.2.2.2.2.2.2.2.2.2.2.2.2.2.2.1 r
theorem k0_off180_inb : ∀ (v3491 : BitVec 32) (k0_hw7 : k0_chk7 v3491), ∀ (r : Fin 2), ∀ a, (k0_off180 v3491 (BitVec.ofNat 32 (16 * r.val))) a + S1x16.size a ≤ S8x2048.size a := fun v3491 k0_hw7 r => k0_hw7.2.2.2.2.2.2.2.2.2.2.2.2.2.2.2.2.2.2.1 r
theorem k0_off181_inb : ∀ (v3491 : BitVec 32) (k0_hw7 : k0_chk7 v3491), ∀ (r : Fin 2), ∀ a, (k0_off181 v3491 (BitVec.ofNat 32 (16 * r.val))) a + S1x16.size a ≤ S8x2048.size a := fun v3491 k0_hw7 r => k0_hw7.2.2.2.2.2.2.2.2.2.2.2.2.2.2.2.2.2.2.2.1 r
theorem k0_off182_inb : ∀ (v3491 : BitVec 32) (k0_hw7 : k0_chk7 v3491), ∀ (r : Fin 2), ∀ a, (k0_off182 v3491 (BitVec.ofNat 32 (16 * r.val))) a + S1x16.size a ≤ S8x2048.size a := fun v3491 k0_hw7 r => k0_hw7.2.2.2.2.2.2.2.2.2.2.2.2.2.2.2.2.2.2.2.2.1 r
theorem k0_off183_inb : ∀ (v3491 : BitVec 32) (k0_hw7 : k0_chk7 v3491), ∀ (r : Fin 2), ∀ a, (k0_off183 v3491 (BitVec.ofNat 32 (16 * r.val))) a + S1x16.size a ≤ S8x2048.size a := fun v3491 k0_hw7 r => k0_hw7.2.2.2.2.2.2.2.2.2.2.2.2.2.2.2.2.2.2.2.2.2.1 r
theorem k0_off184_inb : ∀ (v3491 : BitVec 32) (k0_hw7 : k0_chk7 v3491), ∀ (r : Fin 2), ∀ a, (k0_off184 v3491 (BitVec.ofNat 32 (16 * r.val))) a + S1x16.size a ≤ S8x2048.size a := fun v3491 k0_hw7 r => k0_hw7.2.2.2.2.2.2.2.2.2.2.2.2.2.2.2.2.2.2.2.2.2.2.1 r
theorem k0_off185_inb : ∀ (v3491 : BitVec 32) (k0_hw7 : k0_chk7 v3491), ∀ (r : Fin 2), ∀ a, (k0_off185 v3491 (BitVec.ofNat 32 (16 * r.val))) a + S1x16.size a ≤ S8x2048.size a := fun v3491 k0_hw7 r => k0_hw7.2.2.2.2.2.2.2.2.2.2.2.2.2.2.2.2.2.2.2.2.2.2.2 r

def k0_off186 (k0_t3 : Fin k0_t3_loop.trips) : Fin 1 → Nat :=
  let c0_i32_90 : BitVec 32 := 0#32
  let c1_i32_92 : BitVec 32 := 1#32
  let arg28 : BitVec 32 := Scf.iv c0_i32_90 c1_i32_92 k0_t3
  let c16_i32_1092 : BitVec 32 := 16#32
  let v3898 : BitVec 32 := Scalar.muli arg28 c16_i32_1092
  let c7_i32_1093 : BitVec 32 := 7#32
  let v3899 : BitVec 32 := Scalar.addi v3898 c7_i32_1093
  let c16_i32_1094 : BitVec 32 := 16#32
  let v3900 : BitVec 32 := Scalar.muli v3899 c16_i32_1094
  let v3901 : Index := Scalar.indexCast v3900
  ![v3901.toNat]
def k0_off187 (v3890 : BitVec 32) (c0_i32_1095 : BitVec 32) : Fin 2 → Nat :=
  let c0_i32_1096 : BitVec 32 := 0#32
  let v3905 : Index := Scalar.indexCast c0_i32_1096
  let c63_i32_1085 : BitVec 32 := 63#32
  let v3891 : BitVec 32 := Scalar.andi v3890 c63_i32_1085
  let c32_i32_1086 : BitVec 32 := 32#32
  let v3892 : BitVec 32 := Scalar.muli v3891 c32_i32_1086
  let v3904 : BitVec 32 := Scalar.addi v3892 c0_i32_1095
  let v3906 : Index := Scalar.indexCast v3904
  ![0, v3906.toNat]

def k0_off188 (v3890 : BitVec 32) (c0_i32_1099 : BitVec 32) : Fin 2 → Nat :=
  let c1_i32_1100 : BitVec 32 := 1#32
  let v3915 : Index := Scalar.indexCast c1_i32_1100
  let c63_i32_1085 : BitVec 32 := 63#32
  let v3891 : BitVec 32 := Scalar.andi v3890 c63_i32_1085
  let c32_i32_1086 : BitVec 32 := 32#32
  let v3892 : BitVec 32 := Scalar.muli v3891 c32_i32_1086
  let v3914 : BitVec 32 := Scalar.addi v3892 c0_i32_1099
  let v3916 : Index := Scalar.indexCast v3914
  ![1, v3916.toNat]
def k0_off189 (v3890 : BitVec 32) (c0_i32_1103 : BitVec 32) : Fin 2 → Nat :=
  let c2_i32_1104 : BitVec 32 := 2#32
  let v3925 : Index := Scalar.indexCast c2_i32_1104
  let c63_i32_1085 : BitVec 32 := 63#32
  let v3891 : BitVec 32 := Scalar.andi v3890 c63_i32_1085
  let c32_i32_1086 : BitVec 32 := 32#32
  let v3892 : BitVec 32 := Scalar.muli v3891 c32_i32_1086
  let v3924 : BitVec 32 := Scalar.addi v3892 c0_i32_1103
  let v3926 : Index := Scalar.indexCast v3924
  ![2, v3926.toNat]
def k0_off190 (v3890 : BitVec 32) (c0_i32_1107 : BitVec 32) : Fin 2 → Nat :=
  let c3_i32_1108 : BitVec 32 := 3#32
  let v3935 : Index := Scalar.indexCast c3_i32_1108
  let c63_i32_1085 : BitVec 32 := 63#32
  let v3891 : BitVec 32 := Scalar.andi v3890 c63_i32_1085
  let c32_i32_1086 : BitVec 32 := 32#32
  let v3892 : BitVec 32 := Scalar.muli v3891 c32_i32_1086
  let v3934 : BitVec 32 := Scalar.addi v3892 c0_i32_1107
  let v3936 : Index := Scalar.indexCast v3934
  ![3, v3936.toNat]
def k0_off191 (v3890 : BitVec 32) (c0_i32_1111 : BitVec 32) : Fin 2 → Nat :=
  let c4_i32_1112 : BitVec 32 := 4#32
  let v3945 : Index := Scalar.indexCast c4_i32_1112
  let c63_i32_1085 : BitVec 32 := 63#32
  let v3891 : BitVec 32 := Scalar.andi v3890 c63_i32_1085
  let c32_i32_1086 : BitVec 32 := 32#32
  let v3892 : BitVec 32 := Scalar.muli v3891 c32_i32_1086
  let v3944 : BitVec 32 := Scalar.addi v3892 c0_i32_1111
  let v3946 : Index := Scalar.indexCast v3944
  ![4, v3946.toNat]
def k0_off192 (v3890 : BitVec 32) (c0_i32_1115 : BitVec 32) : Fin 2 → Nat :=
  let c5_i32_1116 : BitVec 32 := 5#32
  let v3955 : Index := Scalar.indexCast c5_i32_1116
  let c63_i32_1085 : BitVec 32 := 63#32
  let v3891 : BitVec 32 := Scalar.andi v3890 c63_i32_1085
  let c32_i32_1086 : BitVec 32 := 32#32
  let v3892 : BitVec 32 := Scalar.muli v3891 c32_i32_1086
  let v3954 : BitVec 32 := Scalar.addi v3892 c0_i32_1115
  let v3956 : Index := Scalar.indexCast v3954
  ![5, v3956.toNat]
def k0_off193 (v3890 : BitVec 32) (c0_i32_1119 : BitVec 32) : Fin 2 → Nat :=
  let c6_i32_1120 : BitVec 32 := 6#32
  let v3965 : Index := Scalar.indexCast c6_i32_1120
  let c63_i32_1085 : BitVec 32 := 63#32
  let v3891 : BitVec 32 := Scalar.andi v3890 c63_i32_1085
  let c32_i32_1086 : BitVec 32 := 32#32
  let v3892 : BitVec 32 := Scalar.muli v3891 c32_i32_1086
  let v3964 : BitVec 32 := Scalar.addi v3892 c0_i32_1119
  let v3966 : Index := Scalar.indexCast v3964
  ![6, v3966.toNat]
def k0_off194 (v3890 : BitVec 32) (c0_i32_1123 : BitVec 32) : Fin 2 → Nat :=
  let c7_i32_1124 : BitVec 32 := 7#32
  let v3975 : Index := Scalar.indexCast c7_i32_1124
  let c63_i32_1085 : BitVec 32 := 63#32
  let v3891 : BitVec 32 := Scalar.andi v3890 c63_i32_1085
  let c32_i32_1086 : BitVec 32 := 32#32
  let v3892 : BitVec 32 := Scalar.muli v3891 c32_i32_1086
  let v3974 : BitVec 32 := Scalar.addi v3892 c0_i32_1123
  let v3976 : Index := Scalar.indexCast v3974
  ![7, v3976.toNat]
def k0_off195 (v3890 : BitVec 32) (c0_i32_1127 : BitVec 32) : Fin 2 → Nat :=
  let c0_i32_1128 : BitVec 32 := 0#32
  let v3985 : Index := Scalar.indexCast c0_i32_1128
  let c6_i32_1087 : BitVec 32 := 6#32
  let v3893 : BitVec 32 := Scalar.shrsi v3890 c6_i32_1087
  let c63_i32_1088 : BitVec 32 := 63#32
  let v3894 : BitVec 32 := Scalar.andi v3893 c63_i32_1088
  let c32_i32_1089 : BitVec 32 := 32#32
  let v3895 : BitVec 32 := Scalar.muli v3894 c32_i32_1089
  let v3984 : BitVec 32 := Scalar.addi v3895 c0_i32_1127
  let v3986 : Index := Scalar.indexCast v3984
  ![0, v3986.toNat]
def k0_off196 (v3890 : BitVec 32) (c0_i32_1131 : BitVec 32) : Fin 2 → Nat :=
  let c1_i32_1132 : BitVec 32 := 1#32
  let v3995 : Index := Scalar.indexCast c1_i32_1132
  let c6_i32_1087 : BitVec 32 := 6#32
  let v3893 : BitVec 32 := Scalar.shrsi v3890 c6_i32_1087
  let c63_i32_1088 : BitVec 32 := 63#32
  let v3894 : BitVec 32 := Scalar.andi v3893 c63_i32_1088
  let c32_i32_1089 : BitVec 32 := 32#32
  let v3895 : BitVec 32 := Scalar.muli v3894 c32_i32_1089
  let v3994 : BitVec 32 := Scalar.addi v3895 c0_i32_1131
  let v3996 : Index := Scalar.indexCast v3994
  ![1, v3996.toNat]
def k0_off197 (v3890 : BitVec 32) (c0_i32_1135 : BitVec 32) : Fin 2 → Nat :=
  let c2_i32_1136 : BitVec 32 := 2#32
  let v4005 : Index := Scalar.indexCast c2_i32_1136
  let c6_i32_1087 : BitVec 32 := 6#32
  let v3893 : BitVec 32 := Scalar.shrsi v3890 c6_i32_1087
  let c63_i32_1088 : BitVec 32 := 63#32
  let v3894 : BitVec 32 := Scalar.andi v3893 c63_i32_1088
  let c32_i32_1089 : BitVec 32 := 32#32
  let v3895 : BitVec 32 := Scalar.muli v3894 c32_i32_1089
  let v4004 : BitVec 32 := Scalar.addi v3895 c0_i32_1135
  let v4006 : Index := Scalar.indexCast v4004
  ![2, v4006.toNat]
def k0_off198 (v3890 : BitVec 32) (c0_i32_1139 : BitVec 32) : Fin 2 → Nat :=
  let c3_i32_1140 : BitVec 32 := 3#32
  let v4015 : Index := Scalar.indexCast c3_i32_1140
  let c6_i32_1087 : BitVec 32 := 6#32
  let v3893 : BitVec 32 := Scalar.shrsi v3890 c6_i32_1087
  let c63_i32_1088 : BitVec 32 := 63#32
  let v3894 : BitVec 32 := Scalar.andi v3893 c63_i32_1088
  let c32_i32_1089 : BitVec 32 := 32#32
  let v3895 : BitVec 32 := Scalar.muli v3894 c32_i32_1089
  let v4014 : BitVec 32 := Scalar.addi v3895 c0_i32_1139
  let v4016 : Index := Scalar.indexCast v4014
  ![3, v4016.toNat]
def k0_off199 (v3890 : BitVec 32) (c0_i32_1143 : BitVec 32) : Fin 2 → Nat :=
  let c4_i32_1144 : BitVec 32 := 4#32
  let v4025 : Index := Scalar.indexCast c4_i32_1144
  let c6_i32_1087 : BitVec 32 := 6#32
  let v3893 : BitVec 32 := Scalar.shrsi v3890 c6_i32_1087
  let c63_i32_1088 : BitVec 32 := 63#32
  let v3894 : BitVec 32 := Scalar.andi v3893 c63_i32_1088
  let c32_i32_1089 : BitVec 32 := 32#32
  let v3895 : BitVec 32 := Scalar.muli v3894 c32_i32_1089
  let v4024 : BitVec 32 := Scalar.addi v3895 c0_i32_1143
  let v4026 : Index := Scalar.indexCast v4024
  ![4, v4026.toNat]
def k0_off200 (v3890 : BitVec 32) (c0_i32_1147 : BitVec 32) : Fin 2 → Nat :=
  let c5_i32_1148 : BitVec 32 := 5#32
  let v4035 : Index := Scalar.indexCast c5_i32_1148
  let c6_i32_1087 : BitVec 32 := 6#32
  let v3893 : BitVec 32 := Scalar.shrsi v3890 c6_i32_1087
  let c63_i32_1088 : BitVec 32 := 63#32
  let v3894 : BitVec 32 := Scalar.andi v3893 c63_i32_1088
  let c32_i32_1089 : BitVec 32 := 32#32
  let v3895 : BitVec 32 := Scalar.muli v3894 c32_i32_1089
  let v4034 : BitVec 32 := Scalar.addi v3895 c0_i32_1147
  let v4036 : Index := Scalar.indexCast v4034
  ![5, v4036.toNat]
def k0_off201 (v3890 : BitVec 32) (c0_i32_1151 : BitVec 32) : Fin 2 → Nat :=
  let c6_i32_1152 : BitVec 32 := 6#32
  let v4045 : Index := Scalar.indexCast c6_i32_1152
  let c6_i32_1087 : BitVec 32 := 6#32
  let v3893 : BitVec 32 := Scalar.shrsi v3890 c6_i32_1087
  let c63_i32_1088 : BitVec 32 := 63#32
  let v3894 : BitVec 32 := Scalar.andi v3893 c63_i32_1088
  let c32_i32_1089 : BitVec 32 := 32#32
  let v3895 : BitVec 32 := Scalar.muli v3894 c32_i32_1089
  let v4044 : BitVec 32 := Scalar.addi v3895 c0_i32_1151
  let v4046 : Index := Scalar.indexCast v4044
  ![6, v4046.toNat]
def k0_off202 (v3890 : BitVec 32) (c0_i32_1155 : BitVec 32) : Fin 2 → Nat :=
  let c7_i32_1156 : BitVec 32 := 7#32
  let v4055 : Index := Scalar.indexCast c7_i32_1156
  let c6_i32_1087 : BitVec 32 := 6#32
  let v3893 : BitVec 32 := Scalar.shrsi v3890 c6_i32_1087
  let c63_i32_1088 : BitVec 32 := 63#32
  let v3894 : BitVec 32 := Scalar.andi v3893 c63_i32_1088
  let c32_i32_1089 : BitVec 32 := 32#32
  let v3895 : BitVec 32 := Scalar.muli v3894 c32_i32_1089
  let v4054 : BitVec 32 := Scalar.addi v3895 c0_i32_1155
  let v4056 : Index := Scalar.indexCast v4054
  ![7, v4056.toNat]
def k0_off203 (v3890 : BitVec 32) (c0_i32_1159 : BitVec 32) : Fin 2 → Nat :=
  let c0_i32_1160 : BitVec 32 := 0#32
  let v4097 : Index := Scalar.indexCast c0_i32_1160
  let c12_i32_1090 : BitVec 32 := 12#32
  let v3896 : BitVec 32 := Scalar.shrsi v3890 c12_i32_1090
  let c32_i32_1091 : BitVec 32 := 32#32
  let v3897 : BitVec 32 := Scalar.muli v3896 c32_i32_1091
  let v4096 : BitVec 32 := Scalar.addi v3897 c0_i32_1159
  let v4098 : Index := Scalar.indexCast v4096
  ![0, v4098.toNat]
def k0_off204 (v3890 : BitVec 32) (c0_i32_1167 : BitVec 32) : Fin 2 → Nat :=
  let c1_i32_1168 : BitVec 32 := 1#32
  let v4121 : Index := Scalar.indexCast c1_i32_1168
  let c12_i32_1090 : BitVec 32 := 12#32
  let v3896 : BitVec 32 := Scalar.shrsi v3890 c12_i32_1090
  let c32_i32_1091 : BitVec 32 := 32#32
  let v3897 : BitVec 32 := Scalar.muli v3896 c32_i32_1091
  let v4120 : BitVec 32 := Scalar.addi v3897 c0_i32_1167
  let v4122 : Index := Scalar.indexCast v4120
  ![1, v4122.toNat]
def k0_off205 (v3890 : BitVec 32) (c0_i32_1175 : BitVec 32) : Fin 2 → Nat :=
  let c2_i32_1176 : BitVec 32 := 2#32
  let v4145 : Index := Scalar.indexCast c2_i32_1176
  let c12_i32_1090 : BitVec 32 := 12#32
  let v3896 : BitVec 32 := Scalar.shrsi v3890 c12_i32_1090
  let c32_i32_1091 : BitVec 32 := 32#32
  let v3897 : BitVec 32 := Scalar.muli v3896 c32_i32_1091
  let v4144 : BitVec 32 := Scalar.addi v3897 c0_i32_1175
  let v4146 : Index := Scalar.indexCast v4144
  ![2, v4146.toNat]
def k0_off206 (v3890 : BitVec 32) (c0_i32_1183 : BitVec 32) : Fin 2 → Nat :=
  let c3_i32_1184 : BitVec 32 := 3#32
  let v4169 : Index := Scalar.indexCast c3_i32_1184
  let c12_i32_1090 : BitVec 32 := 12#32
  let v3896 : BitVec 32 := Scalar.shrsi v3890 c12_i32_1090
  let c32_i32_1091 : BitVec 32 := 32#32
  let v3897 : BitVec 32 := Scalar.muli v3896 c32_i32_1091
  let v4168 : BitVec 32 := Scalar.addi v3897 c0_i32_1183
  let v4170 : Index := Scalar.indexCast v4168
  ![3, v4170.toNat]
def k0_off207 (v3890 : BitVec 32) (c0_i32_1191 : BitVec 32) : Fin 2 → Nat :=
  let c4_i32_1192 : BitVec 32 := 4#32
  let v4193 : Index := Scalar.indexCast c4_i32_1192
  let c12_i32_1090 : BitVec 32 := 12#32
  let v3896 : BitVec 32 := Scalar.shrsi v3890 c12_i32_1090
  let c32_i32_1091 : BitVec 32 := 32#32
  let v3897 : BitVec 32 := Scalar.muli v3896 c32_i32_1091
  let v4192 : BitVec 32 := Scalar.addi v3897 c0_i32_1191
  let v4194 : Index := Scalar.indexCast v4192
  ![4, v4194.toNat]
def k0_off208 (v3890 : BitVec 32) (c0_i32_1199 : BitVec 32) : Fin 2 → Nat :=
  let c5_i32_1200 : BitVec 32 := 5#32
  let v4217 : Index := Scalar.indexCast c5_i32_1200
  let c12_i32_1090 : BitVec 32 := 12#32
  let v3896 : BitVec 32 := Scalar.shrsi v3890 c12_i32_1090
  let c32_i32_1091 : BitVec 32 := 32#32
  let v3897 : BitVec 32 := Scalar.muli v3896 c32_i32_1091
  let v4216 : BitVec 32 := Scalar.addi v3897 c0_i32_1199
  let v4218 : Index := Scalar.indexCast v4216
  ![5, v4218.toNat]
def k0_off209 (v3890 : BitVec 32) (c0_i32_1207 : BitVec 32) : Fin 2 → Nat :=
  let c6_i32_1208 : BitVec 32 := 6#32
  let v4241 : Index := Scalar.indexCast c6_i32_1208
  let c12_i32_1090 : BitVec 32 := 12#32
  let v3896 : BitVec 32 := Scalar.shrsi v3890 c12_i32_1090
  let c32_i32_1091 : BitVec 32 := 32#32
  let v3897 : BitVec 32 := Scalar.muli v3896 c32_i32_1091
  let v4240 : BitVec 32 := Scalar.addi v3897 c0_i32_1207
  let v4242 : Index := Scalar.indexCast v4240
  ![6, v4242.toNat]
def k0_off210 (v3890 : BitVec 32) (c0_i32_1215 : BitVec 32) : Fin 2 → Nat :=
  let c7_i32_1216 : BitVec 32 := 7#32
  let v4265 : Index := Scalar.indexCast c7_i32_1216
  let c12_i32_1090 : BitVec 32 := 12#32
  let v3896 : BitVec 32 := Scalar.shrsi v3890 c12_i32_1090
  let c32_i32_1091 : BitVec 32 := 32#32
  let v3897 : BitVec 32 := Scalar.muli v3896 c32_i32_1091
  let v4264 : BitVec 32 := Scalar.addi v3897 c0_i32_1215
  let v4266 : Index := Scalar.indexCast v4264
  ![7, v4266.toNat]

def k0_chk8 (v3890 : BitVec 32) : Prop :=
  (∀ (r : Fin 2), ∀ a, (k0_off187 v3890 (BitVec.ofNat 32 (16 * r.val))) a + S1x16.size a ≤ S8x2048.size a) ∧
  (∀ (r : Fin 2), ∀ a, (k0_off188 v3890 (BitVec.ofNat 32 (16 * r.val))) a + S1x16.size a ≤ S8x2048.size a) ∧
  (∀ (r : Fin 2), ∀ a, (k0_off189 v3890 (BitVec.ofNat 32 (16 * r.val))) a + S1x16.size a ≤ S8x2048.size a) ∧
  (∀ (r : Fin 2), ∀ a, (k0_off190 v3890 (BitVec.ofNat 32 (16 * r.val))) a + S1x16.size a ≤ S8x2048.size a) ∧
  (∀ (r : Fin 2), ∀ a, (k0_off191 v3890 (BitVec.ofNat 32 (16 * r.val))) a + S1x16.size a ≤ S8x2048.size a) ∧
  (∀ (r : Fin 2), ∀ a, (k0_off192 v3890 (BitVec.ofNat 32 (16 * r.val))) a + S1x16.size a ≤ S8x2048.size a) ∧
  (∀ (r : Fin 2), ∀ a, (k0_off193 v3890 (BitVec.ofNat 32 (16 * r.val))) a + S1x16.size a ≤ S8x2048.size a) ∧
  (∀ (r : Fin 2), ∀ a, (k0_off194 v3890 (BitVec.ofNat 32 (16 * r.val))) a + S1x16.size a ≤ S8x2048.size a) ∧
  (∀ (r : Fin 2), ∀ a, (k0_off195 v3890 (BitVec.ofNat 32 (16 * r.val))) a + S1x16.size a ≤ S8x2048.size a) ∧
  (∀ (r : Fin 2), ∀ a, (k0_off196 v3890 (BitVec.ofNat 32 (16 * r.val))) a + S1x16.size a ≤ S8x2048.size a) ∧
  (∀ (r : Fin 2), ∀ a, (k0_off197 v3890 (BitVec.ofNat 32 (16 * r.val))) a + S1x16.size a ≤ S8x2048.size a) ∧
  (∀ (r : Fin 2), ∀ a, (k0_off198 v3890 (BitVec.ofNat 32 (16 * r.val))) a + S1x16.size a ≤ S8x2048.size a) ∧
  (∀ (r : Fin 2), ∀ a, (k0_off199 v3890 (BitVec.ofNat 32 (16 * r.val))) a + S1x16.size a ≤ S8x2048.size a) ∧
  (∀ (r : Fin 2), ∀ a, (k0_off200 v3890 (BitVec.ofNat 32 (16 * r.val))) a + S1x16.size a ≤ S8x2048.size a) ∧
  (∀ (r : Fin 2), ∀ a, (k0_off201 v3890 (BitVec.ofNat 32 (16 * r.val))) a + S1x16.size a ≤ S8x2048.size a) ∧
  (∀ (r : Fin 2), ∀ a, (k0_off202 v3890 (BitVec.ofNat 32 (16 * r.val))) a + S1x16.size a ≤ S8x2048.size a) ∧
  (∀ (r : Fin 2), ∀ a, (k0_off203 v3890 (BitVec.ofNat 32 (16 * r.val))) a + S1x16.size a ≤ S8x2048.size a) ∧
  (∀ (r : Fin 2), ∀ a, (k0_off204 v3890 (BitVec.ofNat 32 (16 * r.val))) a + S1x16.size a ≤ S8x2048.size a) ∧
  (∀ (r : Fin 2), ∀ a, (k0_off205 v3890 (BitVec.ofNat 32 (16 * r.val))) a + S1x16.size a ≤ S8x2048.size a) ∧
  (∀ (r : Fin 2), ∀ a, (k0_off206 v3890 (BitVec.ofNat 32 (16 * r.val))) a + S1x16.size a ≤ S8x2048.size a) ∧
  (∀ (r : Fin 2), ∀ a, (k0_off207 v3890 (BitVec.ofNat 32 (16 * r.val))) a + S1x16.size a ≤ S8x2048.size a) ∧
  (∀ (r : Fin 2), ∀ a, (k0_off208 v3890 (BitVec.ofNat 32 (16 * r.val))) a + S1x16.size a ≤ S8x2048.size a) ∧
  (∀ (r : Fin 2), ∀ a, (k0_off209 v3890 (BitVec.ofNat 32 (16 * r.val))) a + S1x16.size a ≤ S8x2048.size a) ∧
  (∀ (r : Fin 2), ∀ a, (k0_off210 v3890 (BitVec.ofNat 32 (16 * r.val))) a + S1x16.size a ≤ S8x2048.size a)
theorem k0_off187_inb : ∀ (v3890 : BitVec 32) (k0_hw8 : k0_chk8 v3890), ∀ (r : Fin 2), ∀ a, (k0_off187 v3890 (BitVec.ofNat 32 (16 * r.val))) a + S1x16.size a ≤ S8x2048.size a := fun v3890 k0_hw8 r => k0_hw8.1 r
theorem k0_off188_inb : ∀ (v3890 : BitVec 32) (k0_hw8 : k0_chk8 v3890), ∀ (r : Fin 2), ∀ a, (k0_off188 v3890 (BitVec.ofNat 32 (16 * r.val))) a + S1x16.size a ≤ S8x2048.size a := fun v3890 k0_hw8 r => k0_hw8.2.1 r
theorem k0_off189_inb : ∀ (v3890 : BitVec 32) (k0_hw8 : k0_chk8 v3890), ∀ (r : Fin 2), ∀ a, (k0_off189 v3890 (BitVec.ofNat 32 (16 * r.val))) a + S1x16.size a ≤ S8x2048.size a := fun v3890 k0_hw8 r => k0_hw8.2.2.1 r
theorem k0_off190_inb : ∀ (v3890 : BitVec 32) (k0_hw8 : k0_chk8 v3890), ∀ (r : Fin 2), ∀ a, (k0_off190 v3890 (BitVec.ofNat 32 (16 * r.val))) a + S1x16.size a ≤ S8x2048.size a := fun v3890 k0_hw8 r => k0_hw8.2.2.2.1 r
theorem k0_off191_inb : ∀ (v3890 : BitVec 32) (k0_hw8 : k0_chk8 v3890), ∀ (r : Fin 2), ∀ a, (k0_off191 v3890 (BitVec.ofNat 32 (16 * r.val))) a + S1x16.size a ≤ S8x2048.size a := fun v3890 k0_hw8 r => k0_hw8.2.2.2.2.1 r
theorem k0_off192_inb : ∀ (v3890 : BitVec 32) (k0_hw8 : k0_chk8 v3890), ∀ (r : Fin 2), ∀ a, (k0_off192 v3890 (BitVec.ofNat 32 (16 * r.val))) a + S1x16.size a ≤ S8x2048.size a := fun v3890 k0_hw8 r => k0_hw8.2.2.2.2.2.1 r
theorem k0_off193_inb : ∀ (v3890 : BitVec 32) (k0_hw8 : k0_chk8 v3890), ∀ (r : Fin 2), ∀ a, (k0_off193 v3890 (BitVec.ofNat 32 (16 * r.val))) a + S1x16.size a ≤ S8x2048.size a := fun v3890 k0_hw8 r => k0_hw8.2.2.2.2.2.2.1 r
theorem k0_off194_inb : ∀ (v3890 : BitVec 32) (k0_hw8 : k0_chk8 v3890), ∀ (r : Fin 2), ∀ a, (k0_off194 v3890 (BitVec.ofNat 32 (16 * r.val))) a + S1x16.size a ≤ S8x2048.size a := fun v3890 k0_hw8 r => k0_hw8.2.2.2.2.2.2.2.1 r
theorem k0_off195_inb : ∀ (v3890 : BitVec 32) (k0_hw8 : k0_chk8 v3890), ∀ (r : Fin 2), ∀ a, (k0_off195 v3890 (BitVec.ofNat 32 (16 * r.val))) a + S1x16.size a ≤ S8x2048.size a := fun v3890 k0_hw8 r => k0_hw8.2.2.2.2.2.2.2.2.1 r
theorem k0_off196_inb : ∀ (v3890 : BitVec 32) (k0_hw8 : k0_chk8 v3890), ∀ (r : Fin 2), ∀ a, (k0_off196 v3890 (BitVec.ofNat 32 (16 * r.val))) a + S1x16.size a ≤ S8x2048.size a := fun v3890 k0_hw8 r => k0_hw8.2.2.2.2.2.2.2.2.2.1 r
theorem k0_off197_inb : ∀ (v3890 : BitVec 32) (k0_hw8 : k0_chk8 v3890), ∀ (r : Fin 2), ∀ a, (k0_off197 v3890 (BitVec.ofNat 32 (16 * r.val))) a + S1x16.size a ≤ S8x2048.size a := fun v3890 k0_hw8 r => k0_hw8.2.2.2.2.2.2.2.2.2.2.1 r
theorem k0_off198_inb : ∀ (v3890 : BitVec 32) (k0_hw8 : k0_chk8 v3890), ∀ (r : Fin 2), ∀ a, (k0_off198 v3890 (BitVec.ofNat 32 (16 * r.val))) a + S1x16.size a ≤ S8x2048.size a := fun v3890 k0_hw8 r => k0_hw8.2.2.2.2.2.2.2.2.2.2.2.1 r
theorem k0_off199_inb : ∀ (v3890 : BitVec 32) (k0_hw8 : k0_chk8 v3890), ∀ (r : Fin 2), ∀ a, (k0_off199 v3890 (BitVec.ofNat 32 (16 * r.val))) a + S1x16.size a ≤ S8x2048.size a := fun v3890 k0_hw8 r => k0_hw8.2.2.2.2.2.2.2.2.2.2.2.2.1 r
theorem k0_off200_inb : ∀ (v3890 : BitVec 32) (k0_hw8 : k0_chk8 v3890), ∀ (r : Fin 2), ∀ a, (k0_off200 v3890 (BitVec.ofNat 32 (16 * r.val))) a + S1x16.size a ≤ S8x2048.size a := fun v3890 k0_hw8 r => k0_hw8.2.2.2.2.2.2.2.2.2.2.2.2.2.1 r
theorem k0_off201_inb : ∀ (v3890 : BitVec 32) (k0_hw8 : k0_chk8 v3890), ∀ (r : Fin 2), ∀ a, (k0_off201 v3890 (BitVec.ofNat 32 (16 * r.val))) a + S1x16.size a ≤ S8x2048.size a := fun v3890 k0_hw8 r => k0_hw8.2.2.2.2.2.2.2.2.2.2.2.2.2.2.1 r
theorem k0_off202_inb : ∀ (v3890 : BitVec 32) (k0_hw8 : k0_chk8 v3890), ∀ (r : Fin 2), ∀ a, (k0_off202 v3890 (BitVec.ofNat 32 (16 * r.val))) a + S1x16.size a ≤ S8x2048.size a := fun v3890 k0_hw8 r => k0_hw8.2.2.2.2.2.2.2.2.2.2.2.2.2.2.2.1 r
theorem k0_off203_inb : ∀ (v3890 : BitVec 32) (k0_hw8 : k0_chk8 v3890), ∀ (r : Fin 2), ∀ a, (k0_off203 v3890 (BitVec.ofNat 32 (16 * r.val))) a + S1x16.size a ≤ S8x2048.size a := fun v3890 k0_hw8 r => k0_hw8.2.2.2.2.2.2.2.2.2.2.2.2.2.2.2.2.1 r
theorem k0_off204_inb : ∀ (v3890 : BitVec 32) (k0_hw8 : k0_chk8 v3890), ∀ (r : Fin 2), ∀ a, (k0_off204 v3890 (BitVec.ofNat 32 (16 * r.val))) a + S1x16.size a ≤ S8x2048.size a := fun v3890 k0_hw8 r => k0_hw8.2.2.2.2.2.2.2.2.2.2.2.2.2.2.2.2.2.1 r
theorem k0_off205_inb : ∀ (v3890 : BitVec 32) (k0_hw8 : k0_chk8 v3890), ∀ (r : Fin 2), ∀ a, (k0_off205 v3890 (BitVec.ofNat 32 (16 * r.val))) a + S1x16.size a ≤ S8x2048.size a := fun v3890 k0_hw8 r => k0_hw8.2.2.2.2.2.2.2.2.2.2.2.2.2.2.2.2.2.2.1 r
theorem k0_off206_inb : ∀ (v3890 : BitVec 32) (k0_hw8 : k0_chk8 v3890), ∀ (r : Fin 2), ∀ a, (k0_off206 v3890 (BitVec.ofNat 32 (16 * r.val))) a + S1x16.size a ≤ S8x2048.size a := fun v3890 k0_hw8 r => k0_hw8.2.2.2.2.2.2.2.2.2.2.2.2.2.2.2.2.2.2.2.1 r
theorem k0_off207_inb : ∀ (v3890 : BitVec 32) (k0_hw8 : k0_chk8 v3890), ∀ (r : Fin 2), ∀ a, (k0_off207 v3890 (BitVec.ofNat 32 (16 * r.val))) a + S1x16.size a ≤ S8x2048.size a := fun v3890 k0_hw8 r => k0_hw8.2.2.2.2.2.2.2.2.2.2.2.2.2.2.2.2.2.2.2.2.1 r
theorem k0_off208_inb : ∀ (v3890 : BitVec 32) (k0_hw8 : k0_chk8 v3890), ∀ (r : Fin 2), ∀ a, (k0_off208 v3890 (BitVec.ofNat 32 (16 * r.val))) a + S1x16.size a ≤ S8x2048.size a := fun v3890 k0_hw8 r => k0_hw8.2.2.2.2.2.2.2.2.2.2.2.2.2.2.2.2.2.2.2.2.2.1 r
theorem k0_off209_inb : ∀ (v3890 : BitVec 32) (k0_hw8 : k0_chk8 v3890), ∀ (r : Fin 2), ∀ a, (k0_off209 v3890 (BitVec.ofNat 32 (16 * r.val))) a + S1x16.size a ≤ S8x2048.size a := fun v3890 k0_hw8 r => k0_hw8.2.2.2.2.2.2.2.2.2.2.2.2.2.2.2.2.2.2.2.2.2.2.1 r
theorem k0_off210_inb : ∀ (v3890 : BitVec 32) (k0_hw8 : k0_chk8 v3890), ∀ (r : Fin 2), ∀ a, (k0_off210 v3890 (BitVec.ofNat 32 (16 * r.val))) a + S1x16.size a ≤ S8x2048.size a := fun v3890 k0_hw8 r => k0_hw8.2.2.2.2.2.2.2.2.2.2.2.2.2.2.2.2.2.2.2.2.2.2.2 r

def k0_off211 (k0_t3 : Fin k0_t3_loop.trips) : Fin 1 → Nat :=
  let c0_i32_90 : BitVec 32 := 0#32
  let c1_i32_92 : BitVec 32 := 1#32
  let arg28 : BitVec 32 := Scf.iv c0_i32_90 c1_i32_92 k0_t3
  let c16_i32_1230 : BitVec 32 := 16#32
  let v4297 : BitVec 32 := Scalar.muli arg28 c16_i32_1230
  let c8_i32_1231 : BitVec 32 := 8#32
  let v4298 : BitVec 32 := Scalar.addi v4297 c8_i32_1231
  let c16_i32_1232 : BitVec 32 := 16#32
  let v4299 : BitVec 32 := Scalar.muli v4298 c16_i32_1232
  let v4300 : Index := Scalar.indexCast v4299
  ![v4300.toNat]
def k0_off212 (v4289 : BitVec 32) (c0_i32_1233 : BitVec 32) : Fin 2 → Nat :=
  let c0_i32_1234 : BitVec 32 := 0#32
  let v4304 : Index := Scalar.indexCast c0_i32_1234
  let c63_i32_1223 : BitVec 32 := 63#32
  let v4290 : BitVec 32 := Scalar.andi v4289 c63_i32_1223
  let c32_i32_1224 : BitVec 32 := 32#32
  let v4291 : BitVec 32 := Scalar.muli v4290 c32_i32_1224
  let v4303 : BitVec 32 := Scalar.addi v4291 c0_i32_1233
  let v4305 : Index := Scalar.indexCast v4303
  ![0, v4305.toNat]

def k0_off213 (v4289 : BitVec 32) (c0_i32_1237 : BitVec 32) : Fin 2 → Nat :=
  let c1_i32_1238 : BitVec 32 := 1#32
  let v4314 : Index := Scalar.indexCast c1_i32_1238
  let c63_i32_1223 : BitVec 32 := 63#32
  let v4290 : BitVec 32 := Scalar.andi v4289 c63_i32_1223
  let c32_i32_1224 : BitVec 32 := 32#32
  let v4291 : BitVec 32 := Scalar.muli v4290 c32_i32_1224
  let v4313 : BitVec 32 := Scalar.addi v4291 c0_i32_1237
  let v4315 : Index := Scalar.indexCast v4313
  ![1, v4315.toNat]
def k0_off214 (v4289 : BitVec 32) (c0_i32_1241 : BitVec 32) : Fin 2 → Nat :=
  let c2_i32_1242 : BitVec 32 := 2#32
  let v4324 : Index := Scalar.indexCast c2_i32_1242
  let c63_i32_1223 : BitVec 32 := 63#32
  let v4290 : BitVec 32 := Scalar.andi v4289 c63_i32_1223
  let c32_i32_1224 : BitVec 32 := 32#32
  let v4291 : BitVec 32 := Scalar.muli v4290 c32_i32_1224
  let v4323 : BitVec 32 := Scalar.addi v4291 c0_i32_1241
  let v4325 : Index := Scalar.indexCast v4323
  ![2, v4325.toNat]
def k0_off215 (v4289 : BitVec 32) (c0_i32_1245 : BitVec 32) : Fin 2 → Nat :=
  let c3_i32_1246 : BitVec 32 := 3#32
  let v4334 : Index := Scalar.indexCast c3_i32_1246
  let c63_i32_1223 : BitVec 32 := 63#32
  let v4290 : BitVec 32 := Scalar.andi v4289 c63_i32_1223
  let c32_i32_1224 : BitVec 32 := 32#32
  let v4291 : BitVec 32 := Scalar.muli v4290 c32_i32_1224
  let v4333 : BitVec 32 := Scalar.addi v4291 c0_i32_1245
  let v4335 : Index := Scalar.indexCast v4333
  ![3, v4335.toNat]
def k0_off216 (v4289 : BitVec 32) (c0_i32_1249 : BitVec 32) : Fin 2 → Nat :=
  let c4_i32_1250 : BitVec 32 := 4#32
  let v4344 : Index := Scalar.indexCast c4_i32_1250
  let c63_i32_1223 : BitVec 32 := 63#32
  let v4290 : BitVec 32 := Scalar.andi v4289 c63_i32_1223
  let c32_i32_1224 : BitVec 32 := 32#32
  let v4291 : BitVec 32 := Scalar.muli v4290 c32_i32_1224
  let v4343 : BitVec 32 := Scalar.addi v4291 c0_i32_1249
  let v4345 : Index := Scalar.indexCast v4343
  ![4, v4345.toNat]
def k0_off217 (v4289 : BitVec 32) (c0_i32_1253 : BitVec 32) : Fin 2 → Nat :=
  let c5_i32_1254 : BitVec 32 := 5#32
  let v4354 : Index := Scalar.indexCast c5_i32_1254
  let c63_i32_1223 : BitVec 32 := 63#32
  let v4290 : BitVec 32 := Scalar.andi v4289 c63_i32_1223
  let c32_i32_1224 : BitVec 32 := 32#32
  let v4291 : BitVec 32 := Scalar.muli v4290 c32_i32_1224
  let v4353 : BitVec 32 := Scalar.addi v4291 c0_i32_1253
  let v4355 : Index := Scalar.indexCast v4353
  ![5, v4355.toNat]
def k0_off218 (v4289 : BitVec 32) (c0_i32_1257 : BitVec 32) : Fin 2 → Nat :=
  let c6_i32_1258 : BitVec 32 := 6#32
  let v4364 : Index := Scalar.indexCast c6_i32_1258
  let c63_i32_1223 : BitVec 32 := 63#32
  let v4290 : BitVec 32 := Scalar.andi v4289 c63_i32_1223
  let c32_i32_1224 : BitVec 32 := 32#32
  let v4291 : BitVec 32 := Scalar.muli v4290 c32_i32_1224
  let v4363 : BitVec 32 := Scalar.addi v4291 c0_i32_1257
  let v4365 : Index := Scalar.indexCast v4363
  ![6, v4365.toNat]
def k0_off219 (v4289 : BitVec 32) (c0_i32_1261 : BitVec 32) : Fin 2 → Nat :=
  let c7_i32_1262 : BitVec 32 := 7#32
  let v4374 : Index := Scalar.indexCast c7_i32_1262
  let c63_i32_1223 : BitVec 32 := 63#32
  let v4290 : BitVec 32 := Scalar.andi v4289 c63_i32_1223
  let c32_i32_1224 : BitVec 32 := 32#32
  let v4291 : BitVec 32 := Scalar.muli v4290 c32_i32_1224
  let v4373 : BitVec 32 := Scalar.addi v4291 c0_i32_1261
  let v4375 : Index := Scalar.indexCast v4373
  ![7, v4375.toNat]
def k0_off220 (v4289 : BitVec 32) (c0_i32_1265 : BitVec 32) : Fin 2 → Nat :=
  let c0_i32_1266 : BitVec 32 := 0#32
  let v4384 : Index := Scalar.indexCast c0_i32_1266
  let c6_i32_1225 : BitVec 32 := 6#32
  let v4292 : BitVec 32 := Scalar.shrsi v4289 c6_i32_1225
  let c63_i32_1226 : BitVec 32 := 63#32
  let v4293 : BitVec 32 := Scalar.andi v4292 c63_i32_1226
  let c32_i32_1227 : BitVec 32 := 32#32
  let v4294 : BitVec 32 := Scalar.muli v4293 c32_i32_1227
  let v4383 : BitVec 32 := Scalar.addi v4294 c0_i32_1265
  let v4385 : Index := Scalar.indexCast v4383
  ![0, v4385.toNat]
def k0_off221 (v4289 : BitVec 32) (c0_i32_1269 : BitVec 32) : Fin 2 → Nat :=
  let c1_i32_1270 : BitVec 32 := 1#32
  let v4394 : Index := Scalar.indexCast c1_i32_1270
  let c6_i32_1225 : BitVec 32 := 6#32
  let v4292 : BitVec 32 := Scalar.shrsi v4289 c6_i32_1225
  let c63_i32_1226 : BitVec 32 := 63#32
  let v4293 : BitVec 32 := Scalar.andi v4292 c63_i32_1226
  let c32_i32_1227 : BitVec 32 := 32#32
  let v4294 : BitVec 32 := Scalar.muli v4293 c32_i32_1227
  let v4393 : BitVec 32 := Scalar.addi v4294 c0_i32_1269
  let v4395 : Index := Scalar.indexCast v4393
  ![1, v4395.toNat]
def k0_off222 (v4289 : BitVec 32) (c0_i32_1273 : BitVec 32) : Fin 2 → Nat :=
  let c2_i32_1274 : BitVec 32 := 2#32
  let v4404 : Index := Scalar.indexCast c2_i32_1274
  let c6_i32_1225 : BitVec 32 := 6#32
  let v4292 : BitVec 32 := Scalar.shrsi v4289 c6_i32_1225
  let c63_i32_1226 : BitVec 32 := 63#32
  let v4293 : BitVec 32 := Scalar.andi v4292 c63_i32_1226
  let c32_i32_1227 : BitVec 32 := 32#32
  let v4294 : BitVec 32 := Scalar.muli v4293 c32_i32_1227
  let v4403 : BitVec 32 := Scalar.addi v4294 c0_i32_1273
  let v4405 : Index := Scalar.indexCast v4403
  ![2, v4405.toNat]
def k0_off223 (v4289 : BitVec 32) (c0_i32_1277 : BitVec 32) : Fin 2 → Nat :=
  let c3_i32_1278 : BitVec 32 := 3#32
  let v4414 : Index := Scalar.indexCast c3_i32_1278
  let c6_i32_1225 : BitVec 32 := 6#32
  let v4292 : BitVec 32 := Scalar.shrsi v4289 c6_i32_1225
  let c63_i32_1226 : BitVec 32 := 63#32
  let v4293 : BitVec 32 := Scalar.andi v4292 c63_i32_1226
  let c32_i32_1227 : BitVec 32 := 32#32
  let v4294 : BitVec 32 := Scalar.muli v4293 c32_i32_1227
  let v4413 : BitVec 32 := Scalar.addi v4294 c0_i32_1277
  let v4415 : Index := Scalar.indexCast v4413
  ![3, v4415.toNat]
def k0_off224 (v4289 : BitVec 32) (c0_i32_1281 : BitVec 32) : Fin 2 → Nat :=
  let c4_i32_1282 : BitVec 32 := 4#32
  let v4424 : Index := Scalar.indexCast c4_i32_1282
  let c6_i32_1225 : BitVec 32 := 6#32
  let v4292 : BitVec 32 := Scalar.shrsi v4289 c6_i32_1225
  let c63_i32_1226 : BitVec 32 := 63#32
  let v4293 : BitVec 32 := Scalar.andi v4292 c63_i32_1226
  let c32_i32_1227 : BitVec 32 := 32#32
  let v4294 : BitVec 32 := Scalar.muli v4293 c32_i32_1227
  let v4423 : BitVec 32 := Scalar.addi v4294 c0_i32_1281
  let v4425 : Index := Scalar.indexCast v4423
  ![4, v4425.toNat]
def k0_off225 (v4289 : BitVec 32) (c0_i32_1285 : BitVec 32) : Fin 2 → Nat :=
  let c5_i32_1286 : BitVec 32 := 5#32
  let v4434 : Index := Scalar.indexCast c5_i32_1286
  let c6_i32_1225 : BitVec 32 := 6#32
  let v4292 : BitVec 32 := Scalar.shrsi v4289 c6_i32_1225
  let c63_i32_1226 : BitVec 32 := 63#32
  let v4293 : BitVec 32 := Scalar.andi v4292 c63_i32_1226
  let c32_i32_1227 : BitVec 32 := 32#32
  let v4294 : BitVec 32 := Scalar.muli v4293 c32_i32_1227
  let v4433 : BitVec 32 := Scalar.addi v4294 c0_i32_1285
  let v4435 : Index := Scalar.indexCast v4433
  ![5, v4435.toNat]
def k0_off226 (v4289 : BitVec 32) (c0_i32_1289 : BitVec 32) : Fin 2 → Nat :=
  let c6_i32_1290 : BitVec 32 := 6#32
  let v4444 : Index := Scalar.indexCast c6_i32_1290
  let c6_i32_1225 : BitVec 32 := 6#32
  let v4292 : BitVec 32 := Scalar.shrsi v4289 c6_i32_1225
  let c63_i32_1226 : BitVec 32 := 63#32
  let v4293 : BitVec 32 := Scalar.andi v4292 c63_i32_1226
  let c32_i32_1227 : BitVec 32 := 32#32
  let v4294 : BitVec 32 := Scalar.muli v4293 c32_i32_1227
  let v4443 : BitVec 32 := Scalar.addi v4294 c0_i32_1289
  let v4445 : Index := Scalar.indexCast v4443
  ![6, v4445.toNat]
def k0_off227 (v4289 : BitVec 32) (c0_i32_1293 : BitVec 32) : Fin 2 → Nat :=
  let c7_i32_1294 : BitVec 32 := 7#32
  let v4454 : Index := Scalar.indexCast c7_i32_1294
  let c6_i32_1225 : BitVec 32 := 6#32
  let v4292 : BitVec 32 := Scalar.shrsi v4289 c6_i32_1225
  let c63_i32_1226 : BitVec 32 := 63#32
  let v4293 : BitVec 32 := Scalar.andi v4292 c63_i32_1226
  let c32_i32_1227 : BitVec 32 := 32#32
  let v4294 : BitVec 32 := Scalar.muli v4293 c32_i32_1227
  let v4453 : BitVec 32 := Scalar.addi v4294 c0_i32_1293
  let v4455 : Index := Scalar.indexCast v4453
  ![7, v4455.toNat]
def k0_off228 (v4289 : BitVec 32) (c0_i32_1297 : BitVec 32) : Fin 2 → Nat :=
  let c0_i32_1298 : BitVec 32 := 0#32
  let v4496 : Index := Scalar.indexCast c0_i32_1298
  let c12_i32_1228 : BitVec 32 := 12#32
  let v4295 : BitVec 32 := Scalar.shrsi v4289 c12_i32_1228
  let c32_i32_1229 : BitVec 32 := 32#32
  let v4296 : BitVec 32 := Scalar.muli v4295 c32_i32_1229
  let v4495 : BitVec 32 := Scalar.addi v4296 c0_i32_1297
  let v4497 : Index := Scalar.indexCast v4495
  ![0, v4497.toNat]
def k0_off229 (v4289 : BitVec 32) (c0_i32_1305 : BitVec 32) : Fin 2 → Nat :=
  let c1_i32_1306 : BitVec 32 := 1#32
  let v4520 : Index := Scalar.indexCast c1_i32_1306
  let c12_i32_1228 : BitVec 32 := 12#32
  let v4295 : BitVec 32 := Scalar.shrsi v4289 c12_i32_1228
  let c32_i32_1229 : BitVec 32 := 32#32
  let v4296 : BitVec 32 := Scalar.muli v4295 c32_i32_1229
  let v4519 : BitVec 32 := Scalar.addi v4296 c0_i32_1305
  let v4521 : Index := Scalar.indexCast v4519
  ![1, v4521.toNat]
def k0_off230 (v4289 : BitVec 32) (c0_i32_1313 : BitVec 32) : Fin 2 → Nat :=
  let c2_i32_1314 : BitVec 32 := 2#32
  let v4544 : Index := Scalar.indexCast c2_i32_1314
  let c12_i32_1228 : BitVec 32 := 12#32
  let v4295 : BitVec 32 := Scalar.shrsi v4289 c12_i32_1228
  let c32_i32_1229 : BitVec 32 := 32#32
  let v4296 : BitVec 32 := Scalar.muli v4295 c32_i32_1229
  let v4543 : BitVec 32 := Scalar.addi v4296 c0_i32_1313
  let v4545 : Index := Scalar.indexCast v4543
  ![2, v4545.toNat]
def k0_off231 (v4289 : BitVec 32) (c0_i32_1321 : BitVec 32) : Fin 2 → Nat :=
  let c3_i32_1322 : BitVec 32 := 3#32
  let v4568 : Index := Scalar.indexCast c3_i32_1322
  let c12_i32_1228 : BitVec 32 := 12#32
  let v4295 : BitVec 32 := Scalar.shrsi v4289 c12_i32_1228
  let c32_i32_1229 : BitVec 32 := 32#32
  let v4296 : BitVec 32 := Scalar.muli v4295 c32_i32_1229
  let v4567 : BitVec 32 := Scalar.addi v4296 c0_i32_1321
  let v4569 : Index := Scalar.indexCast v4567
  ![3, v4569.toNat]
def k0_off232 (v4289 : BitVec 32) (c0_i32_1329 : BitVec 32) : Fin 2 → Nat :=
  let c4_i32_1330 : BitVec 32 := 4#32
  let v4592 : Index := Scalar.indexCast c4_i32_1330
  let c12_i32_1228 : BitVec 32 := 12#32
  let v4295 : BitVec 32 := Scalar.shrsi v4289 c12_i32_1228
  let c32_i32_1229 : BitVec 32 := 32#32
  let v4296 : BitVec 32 := Scalar.muli v4295 c32_i32_1229
  let v4591 : BitVec 32 := Scalar.addi v4296 c0_i32_1329
  let v4593 : Index := Scalar.indexCast v4591
  ![4, v4593.toNat]
def k0_off233 (v4289 : BitVec 32) (c0_i32_1337 : BitVec 32) : Fin 2 → Nat :=
  let c5_i32_1338 : BitVec 32 := 5#32
  let v4616 : Index := Scalar.indexCast c5_i32_1338
  let c12_i32_1228 : BitVec 32 := 12#32
  let v4295 : BitVec 32 := Scalar.shrsi v4289 c12_i32_1228
  let c32_i32_1229 : BitVec 32 := 32#32
  let v4296 : BitVec 32 := Scalar.muli v4295 c32_i32_1229
  let v4615 : BitVec 32 := Scalar.addi v4296 c0_i32_1337
  let v4617 : Index := Scalar.indexCast v4615
  ![5, v4617.toNat]
def k0_off234 (v4289 : BitVec 32) (c0_i32_1345 : BitVec 32) : Fin 2 → Nat :=
  let c6_i32_1346 : BitVec 32 := 6#32
  let v4640 : Index := Scalar.indexCast c6_i32_1346
  let c12_i32_1228 : BitVec 32 := 12#32
  let v4295 : BitVec 32 := Scalar.shrsi v4289 c12_i32_1228
  let c32_i32_1229 : BitVec 32 := 32#32
  let v4296 : BitVec 32 := Scalar.muli v4295 c32_i32_1229
  let v4639 : BitVec 32 := Scalar.addi v4296 c0_i32_1345
  let v4641 : Index := Scalar.indexCast v4639
  ![6, v4641.toNat]
def k0_off235 (v4289 : BitVec 32) (c0_i32_1353 : BitVec 32) : Fin 2 → Nat :=
  let c7_i32_1354 : BitVec 32 := 7#32
  let v4664 : Index := Scalar.indexCast c7_i32_1354
  let c12_i32_1228 : BitVec 32 := 12#32
  let v4295 : BitVec 32 := Scalar.shrsi v4289 c12_i32_1228
  let c32_i32_1229 : BitVec 32 := 32#32
  let v4296 : BitVec 32 := Scalar.muli v4295 c32_i32_1229
  let v4663 : BitVec 32 := Scalar.addi v4296 c0_i32_1353
  let v4665 : Index := Scalar.indexCast v4663
  ![7, v4665.toNat]

def k0_chk9 (v4289 : BitVec 32) : Prop :=
  (∀ (r : Fin 2), ∀ a, (k0_off212 v4289 (BitVec.ofNat 32 (16 * r.val))) a + S1x16.size a ≤ S8x2048.size a) ∧
  (∀ (r : Fin 2), ∀ a, (k0_off213 v4289 (BitVec.ofNat 32 (16 * r.val))) a + S1x16.size a ≤ S8x2048.size a) ∧
  (∀ (r : Fin 2), ∀ a, (k0_off214 v4289 (BitVec.ofNat 32 (16 * r.val))) a + S1x16.size a ≤ S8x2048.size a) ∧
  (∀ (r : Fin 2), ∀ a, (k0_off215 v4289 (BitVec.ofNat 32 (16 * r.val))) a + S1x16.size a ≤ S8x2048.size a) ∧
  (∀ (r : Fin 2), ∀ a, (k0_off216 v4289 (BitVec.ofNat 32 (16 * r.val))) a + S1x16.size a ≤ S8x2048.size a) ∧
  (∀ (r : Fin 2), ∀ a, (k0_off217 v4289 (BitVec.ofNat 32 (16 * r.val))) a + S1x16.size a ≤ S8x2048.size a) ∧
  (∀ (r : Fin 2), ∀ a, (k0_off218 v4289 (BitVec.ofNat 32 (16 * r.val))) a + S1x16.size a ≤ S8x2048.size a) ∧
  (∀ (r : Fin 2), ∀ a, (k0_off219 v4289 (BitVec.ofNat 32 (16 * r.val))) a + S1x16.size a ≤ S8x2048.size a) ∧
  (∀ (r : Fin 2), ∀ a, (k0_off220 v4289 (BitVec.ofNat 32 (16 * r.val))) a + S1x16.size a ≤ S8x2048.size a) ∧
  (∀ (r : Fin 2), ∀ a, (k0_off221 v4289 (BitVec.ofNat 32 (16 * r.val))) a + S1x16.size a ≤ S8x2048.size a) ∧
  (∀ (r : Fin 2), ∀ a, (k0_off222 v4289 (BitVec.ofNat 32 (16 * r.val))) a + S1x16.size a ≤ S8x2048.size a) ∧
  (∀ (r : Fin 2), ∀ a, (k0_off223 v4289 (BitVec.ofNat 32 (16 * r.val))) a + S1x16.size a ≤ S8x2048.size a) ∧
  (∀ (r : Fin 2), ∀ a, (k0_off224 v4289 (BitVec.ofNat 32 (16 * r.val))) a + S1x16.size a ≤ S8x2048.size a) ∧
  (∀ (r : Fin 2), ∀ a, (k0_off225 v4289 (BitVec.ofNat 32 (16 * r.val))) a + S1x16.size a ≤ S8x2048.size a) ∧
  (∀ (r : Fin 2), ∀ a, (k0_off226 v4289 (BitVec.ofNat 32 (16 * r.val))) a + S1x16.size a ≤ S8x2048.size a) ∧
  (∀ (r : Fin 2), ∀ a, (k0_off227 v4289 (BitVec.ofNat 32 (16 * r.val))) a + S1x16.size a ≤ S8x2048.size a) ∧
  (∀ (r : Fin 2), ∀ a, (k0_off228 v4289 (BitVec.ofNat 32 (16 * r.val))) a + S1x16.size a ≤ S8x2048.size a) ∧
  (∀ (r : Fin 2), ∀ a, (k0_off229 v4289 (BitVec.ofNat 32 (16 * r.val))) a + S1x16.size a ≤ S8x2048.size a) ∧
  (∀ (r : Fin 2), ∀ a, (k0_off230 v4289 (BitVec.ofNat 32 (16 * r.val))) a + S1x16.size a ≤ S8x2048.size a) ∧
  (∀ (r : Fin 2), ∀ a, (k0_off231 v4289 (BitVec.ofNat 32 (16 * r.val))) a + S1x16.size a ≤ S8x2048.size a) ∧
  (∀ (r : Fin 2), ∀ a, (k0_off232 v4289 (BitVec.ofNat 32 (16 * r.val))) a + S1x16.size a ≤ S8x2048.size a) ∧
  (∀ (r : Fin 2), ∀ a, (k0_off233 v4289 (BitVec.ofNat 32 (16 * r.val))) a + S1x16.size a ≤ S8x2048.size a) ∧
  (∀ (r : Fin 2), ∀ a, (k0_off234 v4289 (BitVec.ofNat 32 (16 * r.val))) a + S1x16.size a ≤ S8x2048.size a) ∧
  (∀ (r : Fin 2), ∀ a, (k0_off235 v4289 (BitVec.ofNat 32 (16 * r.val))) a + S1x16.size a ≤ S8x2048.size a)
theorem k0_off212_inb : ∀ (v4289 : BitVec 32) (k0_hw9 : k0_chk9 v4289), ∀ (r : Fin 2), ∀ a, (k0_off212 v4289 (BitVec.ofNat 32 (16 * r.val))) a + S1x16.size a ≤ S8x2048.size a := fun v4289 k0_hw9 r => k0_hw9.1 r
theorem k0_off213_inb : ∀ (v4289 : BitVec 32) (k0_hw9 : k0_chk9 v4289), ∀ (r : Fin 2), ∀ a, (k0_off213 v4289 (BitVec.ofNat 32 (16 * r.val))) a + S1x16.size a ≤ S8x2048.size a := fun v4289 k0_hw9 r => k0_hw9.2.1 r
theorem k0_off214_inb : ∀ (v4289 : BitVec 32) (k0_hw9 : k0_chk9 v4289), ∀ (r : Fin 2), ∀ a, (k0_off214 v4289 (BitVec.ofNat 32 (16 * r.val))) a + S1x16.size a ≤ S8x2048.size a := fun v4289 k0_hw9 r => k0_hw9.2.2.1 r
theorem k0_off215_inb : ∀ (v4289 : BitVec 32) (k0_hw9 : k0_chk9 v4289), ∀ (r : Fin 2), ∀ a, (k0_off215 v4289 (BitVec.ofNat 32 (16 * r.val))) a + S1x16.size a ≤ S8x2048.size a := fun v4289 k0_hw9 r => k0_hw9.2.2.2.1 r
theorem k0_off216_inb : ∀ (v4289 : BitVec 32) (k0_hw9 : k0_chk9 v4289), ∀ (r : Fin 2), ∀ a, (k0_off216 v4289 (BitVec.ofNat 32 (16 * r.val))) a + S1x16.size a ≤ S8x2048.size a := fun v4289 k0_hw9 r => k0_hw9.2.2.2.2.1 r
theorem k0_off217_inb : ∀ (v4289 : BitVec 32) (k0_hw9 : k0_chk9 v4289), ∀ (r : Fin 2), ∀ a, (k0_off217 v4289 (BitVec.ofNat 32 (16 * r.val))) a + S1x16.size a ≤ S8x2048.size a := fun v4289 k0_hw9 r => k0_hw9.2.2.2.2.2.1 r
theorem k0_off218_inb : ∀ (v4289 : BitVec 32) (k0_hw9 : k0_chk9 v4289), ∀ (r : Fin 2), ∀ a, (k0_off218 v4289 (BitVec.ofNat 32 (16 * r.val))) a + S1x16.size a ≤ S8x2048.size a := fun v4289 k0_hw9 r => k0_hw9.2.2.2.2.2.2.1 r
theorem k0_off219_inb : ∀ (v4289 : BitVec 32) (k0_hw9 : k0_chk9 v4289), ∀ (r : Fin 2), ∀ a, (k0_off219 v4289 (BitVec.ofNat 32 (16 * r.val))) a + S1x16.size a ≤ S8x2048.size a := fun v4289 k0_hw9 r => k0_hw9.2.2.2.2.2.2.2.1 r
theorem k0_off220_inb : ∀ (v4289 : BitVec 32) (k0_hw9 : k0_chk9 v4289), ∀ (r : Fin 2), ∀ a, (k0_off220 v4289 (BitVec.ofNat 32 (16 * r.val))) a + S1x16.size a ≤ S8x2048.size a := fun v4289 k0_hw9 r => k0_hw9.2.2.2.2.2.2.2.2.1 r
theorem k0_off221_inb : ∀ (v4289 : BitVec 32) (k0_hw9 : k0_chk9 v4289), ∀ (r : Fin 2), ∀ a, (k0_off221 v4289 (BitVec.ofNat 32 (16 * r.val))) a + S1x16.size a ≤ S8x2048.size a := fun v4289 k0_hw9 r => k0_hw9.2.2.2.2.2.2.2.2.2.1 r
theorem k0_off222_inb : ∀ (v4289 : BitVec 32) (k0_hw9 : k0_chk9 v4289), ∀ (r : Fin 2), ∀ a, (k0_off222 v4289 (BitVec.ofNat 32 (16 * r.val))) a + S1x16.size a ≤ S8x2048.size a := fun v4289 k0_hw9 r => k0_hw9.2.2.2.2.2.2.2.2.2.2.1 r
theorem k0_off223_inb : ∀ (v4289 : BitVec 32) (k0_hw9 : k0_chk9 v4289), ∀ (r : Fin 2), ∀ a, (k0_off223 v4289 (BitVec.ofNat 32 (16 * r.val))) a + S1x16.size a ≤ S8x2048.size a := fun v4289 k0_hw9 r => k0_hw9.2.2.2.2.2.2.2.2.2.2.2.1 r
theorem k0_off224_inb : ∀ (v4289 : BitVec 32) (k0_hw9 : k0_chk9 v4289), ∀ (r : Fin 2), ∀ a, (k0_off224 v4289 (BitVec.ofNat 32 (16 * r.val))) a + S1x16.size a ≤ S8x2048.size a := fun v4289 k0_hw9 r => k0_hw9.2.2.2.2.2.2.2.2.2.2.2.2.1 r
theorem k0_off225_inb : ∀ (v4289 : BitVec 32) (k0_hw9 : k0_chk9 v4289), ∀ (r : Fin 2), ∀ a, (k0_off225 v4289 (BitVec.ofNat 32 (16 * r.val))) a + S1x16.size a ≤ S8x2048.size a := fun v4289 k0_hw9 r => k0_hw9.2.2.2.2.2.2.2.2.2.2.2.2.2.1 r
theorem k0_off226_inb : ∀ (v4289 : BitVec 32) (k0_hw9 : k0_chk9 v4289), ∀ (r : Fin 2), ∀ a, (k0_off226 v4289 (BitVec.ofNat 32 (16 * r.val))) a + S1x16.size a ≤ S8x2048.size a := fun v4289 k0_hw9 r => k0_hw9.2.2.2.2.2.2.2.2.2.2.2.2.2.2.1 r
theorem k0_off227_inb : ∀ (v4289 : BitVec 32) (k0_hw9 : k0_chk9 v4289), ∀ (r : Fin 2), ∀ a, (k0_off227 v4289 (BitVec.ofNat 32 (16 * r.val))) a + S1x16.size a ≤ S8x2048.size a := fun v4289 k0_hw9 r => k0_hw9.2.2.2.2.2.2.2.2.2.2.2.2.2.2.2.1 r
theorem k0_off228_inb : ∀ (v4289 : BitVec 32) (k0_hw9 : k0_chk9 v4289), ∀ (r : Fin 2), ∀ a, (k0_off228 v4289 (BitVec.ofNat 32 (16 * r.val))) a + S1x16.size a ≤ S8x2048.size a := fun v4289 k0_hw9 r => k0_hw9.2.2.2.2.2.2.2.2.2.2.2.2.2.2.2.2.1 r
theorem k0_off229_inb : ∀ (v4289 : BitVec 32) (k0_hw9 : k0_chk9 v4289), ∀ (r : Fin 2), ∀ a, (k0_off229 v4289 (BitVec.ofNat 32 (16 * r.val))) a + S1x16.size a ≤ S8x2048.size a := fun v4289 k0_hw9 r => k0_hw9.2.2.2.2.2.2.2.2.2.2.2.2.2.2.2.2.2.1 r
theorem k0_off230_inb : ∀ (v4289 : BitVec 32) (k0_hw9 : k0_chk9 v4289), ∀ (r : Fin 2), ∀ a, (k0_off230 v4289 (BitVec.ofNat 32 (16 * r.val))) a + S1x16.size a ≤ S8x2048.size a := fun v4289 k0_hw9 r => k0_hw9.2.2.2.2.2.2.2.2.2.2.2.2.2.2.2.2.2.2.1 r
theorem k0_off231_inb : ∀ (v4289 : BitVec 32) (k0_hw9 : k0_chk9 v4289), ∀ (r : Fin 2), ∀ a, (k0_off231 v4289 (BitVec.ofNat 32 (16 * r.val))) a + S1x16.size a ≤ S8x2048.size a := fun v4289 k0_hw9 r => k0_hw9.2.2.2.2.2.2.2.2.2.2.2.2.2.2.2.2.2.2.2.1 r
theorem k0_off232_inb : ∀ (v4289 : BitVec 32) (k0_hw9 : k0_chk9 v4289), ∀ (r : Fin 2), ∀ a, (k0_off232 v4289 (BitVec.ofNat 32 (16 * r.val))) a + S1x16.size a ≤ S8x2048.size a := fun v4289 k0_hw9 r => k0_hw9.2.2.2.2.2.2.2.2.2.2.2.2.2.2.2.2.2.2.2.2.1 r
theorem k0_off233_inb : ∀ (v4289 : BitVec 32) (k0_hw9 : k0_chk9 v4289), ∀ (r : Fin 2), ∀ a, (k0_off233 v4289 (BitVec.ofNat 32 (16 * r.val))) a + S1x16.size a ≤ S8x2048.size a := fun v4289 k0_hw9 r => k0_hw9.2.2.2.2.2.2.2.2.2.2.2.2.2.2.2.2.2.2.2.2.2.1 r
theorem k0_off234_inb : ∀ (v4289 : BitVec 32) (k0_hw9 : k0_chk9 v4289), ∀ (r : Fin 2), ∀ a, (k0_off234 v4289 (BitVec.ofNat 32 (16 * r.val))) a + S1x16.size a ≤ S8x2048.size a := fun v4289 k0_hw9 r => k0_hw9.2.2.2.2.2.2.2.2.2.2.2.2.2.2.2.2.2.2.2.2.2.2.1 r
theorem k0_off235_inb : ∀ (v4289 : BitVec 32) (k0_hw9 : k0_chk9 v4289), ∀ (r : Fin 2), ∀ a, (k0_off235 v4289 (BitVec.ofNat 32 (16 * r.val))) a + S1x16.size a ≤ S8x2048.size a := fun v4289 k0_hw9 r => k0_hw9.2.2.2.2.2.2.2.2.2.2.2.2.2.2.2.2.2.2.2.2.2.2.2 r

def k0_off236 (k0_t3 : Fin k0_t3_loop.trips) : Fin 1 → Nat :=
  let c0_i32_90 : BitVec 32 := 0#32
  let c1_i32_92 : BitVec 32 := 1#32
  let arg28 : BitVec 32 := Scf.iv c0_i32_90 c1_i32_92 k0_t3
  let c16_i32_1368 : BitVec 32 := 16#32
  let v4696 : BitVec 32 := Scalar.muli arg28 c16_i32_1368
  let c9_i32 : BitVec 32 := 9#32
  let v4697 : BitVec 32 := Scalar.addi v4696 c9_i32
  let c16_i32_1369 : BitVec 32 := 16#32
  let v4698 : BitVec 32 := Scalar.muli v4697 c16_i32_1369
  let v4699 : Index := Scalar.indexCast v4698
  ![v4699.toNat]
def k0_off237 (v4688 : BitVec 32) (c0_i32_1370 : BitVec 32) : Fin 2 → Nat :=
  let c0_i32_1371 : BitVec 32 := 0#32
  let v4703 : Index := Scalar.indexCast c0_i32_1371
  let c63_i32_1361 : BitVec 32 := 63#32
  let v4689 : BitVec 32 := Scalar.andi v4688 c63_i32_1361
  let c32_i32_1362 : BitVec 32 := 32#32
  let v4690 : BitVec 32 := Scalar.muli v4689 c32_i32_1362
  let v4702 : BitVec 32 := Scalar.addi v4690 c0_i32_1370
  let v4704 : Index := Scalar.indexCast v4702
  ![0, v4704.toNat]

def k0_off238 (v4688 : BitVec 32) (c0_i32_1374 : BitVec 32) : Fin 2 → Nat :=
  let c1_i32_1375 : BitVec 32 := 1#32
  let v4713 : Index := Scalar.indexCast c1_i32_1375
  let c63_i32_1361 : BitVec 32 := 63#32
  let v4689 : BitVec 32 := Scalar.andi v4688 c63_i32_1361
  let c32_i32_1362 : BitVec 32 := 32#32
  let v4690 : BitVec 32 := Scalar.muli v4689 c32_i32_1362
  let v4712 : BitVec 32 := Scalar.addi v4690 c0_i32_1374
  let v4714 : Index := Scalar.indexCast v4712
  ![1, v4714.toNat]
def k0_off239 (v4688 : BitVec 32) (c0_i32_1378 : BitVec 32) : Fin 2 → Nat :=
  let c2_i32_1379 : BitVec 32 := 2#32
  let v4723 : Index := Scalar.indexCast c2_i32_1379
  let c63_i32_1361 : BitVec 32 := 63#32
  let v4689 : BitVec 32 := Scalar.andi v4688 c63_i32_1361
  let c32_i32_1362 : BitVec 32 := 32#32
  let v4690 : BitVec 32 := Scalar.muli v4689 c32_i32_1362
  let v4722 : BitVec 32 := Scalar.addi v4690 c0_i32_1378
  let v4724 : Index := Scalar.indexCast v4722
  ![2, v4724.toNat]
def k0_off240 (v4688 : BitVec 32) (c0_i32_1382 : BitVec 32) : Fin 2 → Nat :=
  let c3_i32_1383 : BitVec 32 := 3#32
  let v4733 : Index := Scalar.indexCast c3_i32_1383
  let c63_i32_1361 : BitVec 32 := 63#32
  let v4689 : BitVec 32 := Scalar.andi v4688 c63_i32_1361
  let c32_i32_1362 : BitVec 32 := 32#32
  let v4690 : BitVec 32 := Scalar.muli v4689 c32_i32_1362
  let v4732 : BitVec 32 := Scalar.addi v4690 c0_i32_1382
  let v4734 : Index := Scalar.indexCast v4732
  ![3, v4734.toNat]
def k0_off241 (v4688 : BitVec 32) (c0_i32_1386 : BitVec 32) : Fin 2 → Nat :=
  let c4_i32_1387 : BitVec 32 := 4#32
  let v4743 : Index := Scalar.indexCast c4_i32_1387
  let c63_i32_1361 : BitVec 32 := 63#32
  let v4689 : BitVec 32 := Scalar.andi v4688 c63_i32_1361
  let c32_i32_1362 : BitVec 32 := 32#32
  let v4690 : BitVec 32 := Scalar.muli v4689 c32_i32_1362
  let v4742 : BitVec 32 := Scalar.addi v4690 c0_i32_1386
  let v4744 : Index := Scalar.indexCast v4742
  ![4, v4744.toNat]
def k0_off242 (v4688 : BitVec 32) (c0_i32_1390 : BitVec 32) : Fin 2 → Nat :=
  let c5_i32_1391 : BitVec 32 := 5#32
  let v4753 : Index := Scalar.indexCast c5_i32_1391
  let c63_i32_1361 : BitVec 32 := 63#32
  let v4689 : BitVec 32 := Scalar.andi v4688 c63_i32_1361
  let c32_i32_1362 : BitVec 32 := 32#32
  let v4690 : BitVec 32 := Scalar.muli v4689 c32_i32_1362
  let v4752 : BitVec 32 := Scalar.addi v4690 c0_i32_1390
  let v4754 : Index := Scalar.indexCast v4752
  ![5, v4754.toNat]
def k0_off243 (v4688 : BitVec 32) (c0_i32_1394 : BitVec 32) : Fin 2 → Nat :=
  let c6_i32_1395 : BitVec 32 := 6#32
  let v4763 : Index := Scalar.indexCast c6_i32_1395
  let c63_i32_1361 : BitVec 32 := 63#32
  let v4689 : BitVec 32 := Scalar.andi v4688 c63_i32_1361
  let c32_i32_1362 : BitVec 32 := 32#32
  let v4690 : BitVec 32 := Scalar.muli v4689 c32_i32_1362
  let v4762 : BitVec 32 := Scalar.addi v4690 c0_i32_1394
  let v4764 : Index := Scalar.indexCast v4762
  ![6, v4764.toNat]
def k0_off244 (v4688 : BitVec 32) (c0_i32_1398 : BitVec 32) : Fin 2 → Nat :=
  let c7_i32_1399 : BitVec 32 := 7#32
  let v4773 : Index := Scalar.indexCast c7_i32_1399
  let c63_i32_1361 : BitVec 32 := 63#32
  let v4689 : BitVec 32 := Scalar.andi v4688 c63_i32_1361
  let c32_i32_1362 : BitVec 32 := 32#32
  let v4690 : BitVec 32 := Scalar.muli v4689 c32_i32_1362
  let v4772 : BitVec 32 := Scalar.addi v4690 c0_i32_1398
  let v4774 : Index := Scalar.indexCast v4772
  ![7, v4774.toNat]
def k0_off245 (v4688 : BitVec 32) (c0_i32_1402 : BitVec 32) : Fin 2 → Nat :=
  let c0_i32_1403 : BitVec 32 := 0#32
  let v4783 : Index := Scalar.indexCast c0_i32_1403
  let c6_i32_1363 : BitVec 32 := 6#32
  let v4691 : BitVec 32 := Scalar.shrsi v4688 c6_i32_1363
  let c63_i32_1364 : BitVec 32 := 63#32
  let v4692 : BitVec 32 := Scalar.andi v4691 c63_i32_1364
  let c32_i32_1365 : BitVec 32 := 32#32
  let v4693 : BitVec 32 := Scalar.muli v4692 c32_i32_1365
  let v4782 : BitVec 32 := Scalar.addi v4693 c0_i32_1402
  let v4784 : Index := Scalar.indexCast v4782
  ![0, v4784.toNat]
def k0_off246 (v4688 : BitVec 32) (c0_i32_1406 : BitVec 32) : Fin 2 → Nat :=
  let c1_i32_1407 : BitVec 32 := 1#32
  let v4793 : Index := Scalar.indexCast c1_i32_1407
  let c6_i32_1363 : BitVec 32 := 6#32
  let v4691 : BitVec 32 := Scalar.shrsi v4688 c6_i32_1363
  let c63_i32_1364 : BitVec 32 := 63#32
  let v4692 : BitVec 32 := Scalar.andi v4691 c63_i32_1364
  let c32_i32_1365 : BitVec 32 := 32#32
  let v4693 : BitVec 32 := Scalar.muli v4692 c32_i32_1365
  let v4792 : BitVec 32 := Scalar.addi v4693 c0_i32_1406
  let v4794 : Index := Scalar.indexCast v4792
  ![1, v4794.toNat]
def k0_off247 (v4688 : BitVec 32) (c0_i32_1410 : BitVec 32) : Fin 2 → Nat :=
  let c2_i32_1411 : BitVec 32 := 2#32
  let v4803 : Index := Scalar.indexCast c2_i32_1411
  let c6_i32_1363 : BitVec 32 := 6#32
  let v4691 : BitVec 32 := Scalar.shrsi v4688 c6_i32_1363
  let c63_i32_1364 : BitVec 32 := 63#32
  let v4692 : BitVec 32 := Scalar.andi v4691 c63_i32_1364
  let c32_i32_1365 : BitVec 32 := 32#32
  let v4693 : BitVec 32 := Scalar.muli v4692 c32_i32_1365
  let v4802 : BitVec 32 := Scalar.addi v4693 c0_i32_1410
  let v4804 : Index := Scalar.indexCast v4802
  ![2, v4804.toNat]
def k0_off248 (v4688 : BitVec 32) (c0_i32_1414 : BitVec 32) : Fin 2 → Nat :=
  let c3_i32_1415 : BitVec 32 := 3#32
  let v4813 : Index := Scalar.indexCast c3_i32_1415
  let c6_i32_1363 : BitVec 32 := 6#32
  let v4691 : BitVec 32 := Scalar.shrsi v4688 c6_i32_1363
  let c63_i32_1364 : BitVec 32 := 63#32
  let v4692 : BitVec 32 := Scalar.andi v4691 c63_i32_1364
  let c32_i32_1365 : BitVec 32 := 32#32
  let v4693 : BitVec 32 := Scalar.muli v4692 c32_i32_1365
  let v4812 : BitVec 32 := Scalar.addi v4693 c0_i32_1414
  let v4814 : Index := Scalar.indexCast v4812
  ![3, v4814.toNat]
def k0_off249 (v4688 : BitVec 32) (c0_i32_1418 : BitVec 32) : Fin 2 → Nat :=
  let c4_i32_1419 : BitVec 32 := 4#32
  let v4823 : Index := Scalar.indexCast c4_i32_1419
  let c6_i32_1363 : BitVec 32 := 6#32
  let v4691 : BitVec 32 := Scalar.shrsi v4688 c6_i32_1363
  let c63_i32_1364 : BitVec 32 := 63#32
  let v4692 : BitVec 32 := Scalar.andi v4691 c63_i32_1364
  let c32_i32_1365 : BitVec 32 := 32#32
  let v4693 : BitVec 32 := Scalar.muli v4692 c32_i32_1365
  let v4822 : BitVec 32 := Scalar.addi v4693 c0_i32_1418
  let v4824 : Index := Scalar.indexCast v4822
  ![4, v4824.toNat]
def k0_off250 (v4688 : BitVec 32) (c0_i32_1422 : BitVec 32) : Fin 2 → Nat :=
  let c5_i32_1423 : BitVec 32 := 5#32
  let v4833 : Index := Scalar.indexCast c5_i32_1423
  let c6_i32_1363 : BitVec 32 := 6#32
  let v4691 : BitVec 32 := Scalar.shrsi v4688 c6_i32_1363
  let c63_i32_1364 : BitVec 32 := 63#32
  let v4692 : BitVec 32 := Scalar.andi v4691 c63_i32_1364
  let c32_i32_1365 : BitVec 32 := 32#32
  let v4693 : BitVec 32 := Scalar.muli v4692 c32_i32_1365
  let v4832 : BitVec 32 := Scalar.addi v4693 c0_i32_1422
  let v4834 : Index := Scalar.indexCast v4832
  ![5, v4834.toNat]
def k0_off251 (v4688 : BitVec 32) (c0_i32_1426 : BitVec 32) : Fin 2 → Nat :=
  let c6_i32_1427 : BitVec 32 := 6#32
  let v4843 : Index := Scalar.indexCast c6_i32_1427
  let c6_i32_1363 : BitVec 32 := 6#32
  let v4691 : BitVec 32 := Scalar.shrsi v4688 c6_i32_1363
  let c63_i32_1364 : BitVec 32 := 63#32
  let v4692 : BitVec 32 := Scalar.andi v4691 c63_i32_1364
  let c32_i32_1365 : BitVec 32 := 32#32
  let v4693 : BitVec 32 := Scalar.muli v4692 c32_i32_1365
  let v4842 : BitVec 32 := Scalar.addi v4693 c0_i32_1426
  let v4844 : Index := Scalar.indexCast v4842
  ![6, v4844.toNat]
def k0_off252 (v4688 : BitVec 32) (c0_i32_1430 : BitVec 32) : Fin 2 → Nat :=
  let c7_i32_1431 : BitVec 32 := 7#32
  let v4853 : Index := Scalar.indexCast c7_i32_1431
  let c6_i32_1363 : BitVec 32 := 6#32
  let v4691 : BitVec 32 := Scalar.shrsi v4688 c6_i32_1363
  let c63_i32_1364 : BitVec 32 := 63#32
  let v4692 : BitVec 32 := Scalar.andi v4691 c63_i32_1364
  let c32_i32_1365 : BitVec 32 := 32#32
  let v4693 : BitVec 32 := Scalar.muli v4692 c32_i32_1365
  let v4852 : BitVec 32 := Scalar.addi v4693 c0_i32_1430
  let v4854 : Index := Scalar.indexCast v4852
  ![7, v4854.toNat]
def k0_off253 (v4688 : BitVec 32) (c0_i32_1434 : BitVec 32) : Fin 2 → Nat :=
  let c0_i32_1435 : BitVec 32 := 0#32
  let v4895 : Index := Scalar.indexCast c0_i32_1435
  let c12_i32_1366 : BitVec 32 := 12#32
  let v4694 : BitVec 32 := Scalar.shrsi v4688 c12_i32_1366
  let c32_i32_1367 : BitVec 32 := 32#32
  let v4695 : BitVec 32 := Scalar.muli v4694 c32_i32_1367
  let v4894 : BitVec 32 := Scalar.addi v4695 c0_i32_1434
  let v4896 : Index := Scalar.indexCast v4894
  ![0, v4896.toNat]
def k0_off254 (v4688 : BitVec 32) (c0_i32_1442 : BitVec 32) : Fin 2 → Nat :=
  let c1_i32_1443 : BitVec 32 := 1#32
  let v4919 : Index := Scalar.indexCast c1_i32_1443
  let c12_i32_1366 : BitVec 32 := 12#32
  let v4694 : BitVec 32 := Scalar.shrsi v4688 c12_i32_1366
  let c32_i32_1367 : BitVec 32 := 32#32
  let v4695 : BitVec 32 := Scalar.muli v4694 c32_i32_1367
  let v4918 : BitVec 32 := Scalar.addi v4695 c0_i32_1442
  let v4920 : Index := Scalar.indexCast v4918
  ![1, v4920.toNat]
def k0_off255 (v4688 : BitVec 32) (c0_i32_1450 : BitVec 32) : Fin 2 → Nat :=
  let c2_i32_1451 : BitVec 32 := 2#32
  let v4943 : Index := Scalar.indexCast c2_i32_1451
  let c12_i32_1366 : BitVec 32 := 12#32
  let v4694 : BitVec 32 := Scalar.shrsi v4688 c12_i32_1366
  let c32_i32_1367 : BitVec 32 := 32#32
  let v4695 : BitVec 32 := Scalar.muli v4694 c32_i32_1367
  let v4942 : BitVec 32 := Scalar.addi v4695 c0_i32_1450
  let v4944 : Index := Scalar.indexCast v4942
  ![2, v4944.toNat]
def k0_off256 (v4688 : BitVec 32) (c0_i32_1458 : BitVec 32) : Fin 2 → Nat :=
  let c3_i32_1459 : BitVec 32 := 3#32
  let v4967 : Index := Scalar.indexCast c3_i32_1459
  let c12_i32_1366 : BitVec 32 := 12#32
  let v4694 : BitVec 32 := Scalar.shrsi v4688 c12_i32_1366
  let c32_i32_1367 : BitVec 32 := 32#32
  let v4695 : BitVec 32 := Scalar.muli v4694 c32_i32_1367
  let v4966 : BitVec 32 := Scalar.addi v4695 c0_i32_1458
  let v4968 : Index := Scalar.indexCast v4966
  ![3, v4968.toNat]
def k0_off257 (v4688 : BitVec 32) (c0_i32_1466 : BitVec 32) : Fin 2 → Nat :=
  let c4_i32_1467 : BitVec 32 := 4#32
  let v4991 : Index := Scalar.indexCast c4_i32_1467
  let c12_i32_1366 : BitVec 32 := 12#32
  let v4694 : BitVec 32 := Scalar.shrsi v4688 c12_i32_1366
  let c32_i32_1367 : BitVec 32 := 32#32
  let v4695 : BitVec 32 := Scalar.muli v4694 c32_i32_1367
  let v4990 : BitVec 32 := Scalar.addi v4695 c0_i32_1466
  let v4992 : Index := Scalar.indexCast v4990
  ![4, v4992.toNat]
def k0_off258 (v4688 : BitVec 32) (c0_i32_1474 : BitVec 32) : Fin 2 → Nat :=
  let c5_i32_1475 : BitVec 32 := 5#32
  let v5015 : Index := Scalar.indexCast c5_i32_1475
  let c12_i32_1366 : BitVec 32 := 12#32
  let v4694 : BitVec 32 := Scalar.shrsi v4688 c12_i32_1366
  let c32_i32_1367 : BitVec 32 := 32#32
  let v4695 : BitVec 32 := Scalar.muli v4694 c32_i32_1367
  let v5014 : BitVec 32 := Scalar.addi v4695 c0_i32_1474
  let v5016 : Index := Scalar.indexCast v5014
  ![5, v5016.toNat]
def k0_off259 (v4688 : BitVec 32) (c0_i32_1482 : BitVec 32) : Fin 2 → Nat :=
  let c6_i32_1483 : BitVec 32 := 6#32
  let v5039 : Index := Scalar.indexCast c6_i32_1483
  let c12_i32_1366 : BitVec 32 := 12#32
  let v4694 : BitVec 32 := Scalar.shrsi v4688 c12_i32_1366
  let c32_i32_1367 : BitVec 32 := 32#32
  let v4695 : BitVec 32 := Scalar.muli v4694 c32_i32_1367
  let v5038 : BitVec 32 := Scalar.addi v4695 c0_i32_1482
  let v5040 : Index := Scalar.indexCast v5038
  ![6, v5040.toNat]
def k0_off260 (v4688 : BitVec 32) (c0_i32_1490 : BitVec 32) : Fin 2 → Nat :=
  let c7_i32_1491 : BitVec 32 := 7#32
  let v5063 : Index := Scalar.indexCast c7_i32_1491
  let c12_i32_1366 : BitVec 32 := 12#32
  let v4694 : BitVec 32 := Scalar.shrsi v4688 c12_i32_1366
  let c32_i32_1367 : BitVec 32 := 32#32
  let v4695 : BitVec 32 := Scalar.muli v4694 c32_i32_1367
  let v5062 : BitVec 32 := Scalar.addi v4695 c0_i32_1490
  let v5064 : Index := Scalar.indexCast v5062
  ![7, v5064.toNat]

def k0_chk10 (v4688 : BitVec 32) : Prop :=
  (∀ (r : Fin 2), ∀ a, (k0_off237 v4688 (BitVec.ofNat 32 (16 * r.val))) a + S1x16.size a ≤ S8x2048.size a) ∧
  (∀ (r : Fin 2), ∀ a, (k0_off238 v4688 (BitVec.ofNat 32 (16 * r.val))) a + S1x16.size a ≤ S8x2048.size a) ∧
  (∀ (r : Fin 2), ∀ a, (k0_off239 v4688 (BitVec.ofNat 32 (16 * r.val))) a + S1x16.size a ≤ S8x2048.size a) ∧
  (∀ (r : Fin 2), ∀ a, (k0_off240 v4688 (BitVec.ofNat 32 (16 * r.val))) a + S1x16.size a ≤ S8x2048.size a) ∧
  (∀ (r : Fin 2), ∀ a, (k0_off241 v4688 (BitVec.ofNat 32 (16 * r.val))) a + S1x16.size a ≤ S8x2048.size a) ∧
  (∀ (r : Fin 2), ∀ a, (k0_off242 v4688 (BitVec.ofNat 32 (16 * r.val))) a + S1x16.size a ≤ S8x2048.size a) ∧
  (∀ (r : Fin 2), ∀ a, (k0_off243 v4688 (BitVec.ofNat 32 (16 * r.val))) a + S1x16.size a ≤ S8x2048.size a) ∧
  (∀ (r : Fin 2), ∀ a, (k0_off244 v4688 (BitVec.ofNat 32 (16 * r.val))) a + S1x16.size a ≤ S8x2048.size a) ∧
  (∀ (r : Fin 2), ∀ a, (k0_off245 v4688 (BitVec.ofNat 32 (16 * r.val))) a + S1x16.size a ≤ S8x2048.size a) ∧
  (∀ (r : Fin 2), ∀ a, (k0_off246 v4688 (BitVec.ofNat 32 (16 * r.val))) a + S1x16.size a ≤ S8x2048.size a) ∧
  (∀ (r : Fin 2), ∀ a, (k0_off247 v4688 (BitVec.ofNat 32 (16 * r.val))) a + S1x16.size a ≤ S8x2048.size a) ∧
  (∀ (r : Fin 2), ∀ a, (k0_off248 v4688 (BitVec.ofNat 32 (16 * r.val))) a + S1x16.size a ≤ S8x2048.size a) ∧
  (∀ (r : Fin 2), ∀ a, (k0_off249 v4688 (BitVec.ofNat 32 (16 * r.val))) a + S1x16.size a ≤ S8x2048.size a) ∧
  (∀ (r : Fin 2), ∀ a, (k0_off250 v4688 (BitVec.ofNat 32 (16 * r.val))) a + S1x16.size a ≤ S8x2048.size a) ∧
  (∀ (r : Fin 2), ∀ a, (k0_off251 v4688 (BitVec.ofNat 32 (16 * r.val))) a + S1x16.size a ≤ S8x2048.size a) ∧
  (∀ (r : Fin 2), ∀ a, (k0_off252 v4688 (BitVec.ofNat 32 (16 * r.val))) a + S1x16.size a ≤ S8x2048.size a) ∧
  (∀ (r : Fin 2), ∀ a, (k0_off253 v4688 (BitVec.ofNat 32 (16 * r.val))) a + S1x16.size a ≤ S8x2048.size a) ∧
  (∀ (r : Fin 2), ∀ a, (k0_off254 v4688 (BitVec.ofNat 32 (16 * r.val))) a + S1x16.size a ≤ S8x2048.size a) ∧
  (∀ (r : Fin 2), ∀ a, (k0_off255 v4688 (BitVec.ofNat 32 (16 * r.val))) a + S1x16.size a ≤ S8x2048.size a) ∧
  (∀ (r : Fin 2), ∀ a, (k0_off256 v4688 (BitVec.ofNat 32 (16 * r.val))) a + S1x16.size a ≤ S8x2048.size a) ∧
  (∀ (r : Fin 2), ∀ a, (k0_off257 v4688 (BitVec.ofNat 32 (16 * r.val))) a + S1x16.size a ≤ S8x2048.size a) ∧
  (∀ (r : Fin 2), ∀ a, (k0_off258 v4688 (BitVec.ofNat 32 (16 * r.val))) a + S1x16.size a ≤ S8x2048.size a) ∧
  (∀ (r : Fin 2), ∀ a, (k0_off259 v4688 (BitVec.ofNat 32 (16 * r.val))) a + S1x16.size a ≤ S8x2048.size a) ∧
  (∀ (r : Fin 2), ∀ a, (k0_off260 v4688 (BitVec.ofNat 32 (16 * r.val))) a + S1x16.size a ≤ S8x2048.size a)
theorem k0_off237_inb : ∀ (v4688 : BitVec 32) (k0_hw10 : k0_chk10 v4688), ∀ (r : Fin 2), ∀ a, (k0_off237 v4688 (BitVec.ofNat 32 (16 * r.val))) a + S1x16.size a ≤ S8x2048.size a := fun v4688 k0_hw10 r => k0_hw10.1 r
theorem k0_off238_inb : ∀ (v4688 : BitVec 32) (k0_hw10 : k0_chk10 v4688), ∀ (r : Fin 2), ∀ a, (k0_off238 v4688 (BitVec.ofNat 32 (16 * r.val))) a + S1x16.size a ≤ S8x2048.size a := fun v4688 k0_hw10 r => k0_hw10.2.1 r
theorem k0_off239_inb : ∀ (v4688 : BitVec 32) (k0_hw10 : k0_chk10 v4688), ∀ (r : Fin 2), ∀ a, (k0_off239 v4688 (BitVec.ofNat 32 (16 * r.val))) a + S1x16.size a ≤ S8x2048.size a := fun v4688 k0_hw10 r => k0_hw10.2.2.1 r
theorem k0_off240_inb : ∀ (v4688 : BitVec 32) (k0_hw10 : k0_chk10 v4688), ∀ (r : Fin 2), ∀ a, (k0_off240 v4688 (BitVec.ofNat 32 (16 * r.val))) a + S1x16.size a ≤ S8x2048.size a := fun v4688 k0_hw10 r => k0_hw10.2.2.2.1 r
theorem k0_off241_inb : ∀ (v4688 : BitVec 32) (k0_hw10 : k0_chk10 v4688), ∀ (r : Fin 2), ∀ a, (k0_off241 v4688 (BitVec.ofNat 32 (16 * r.val))) a + S1x16.size a ≤ S8x2048.size a := fun v4688 k0_hw10 r => k0_hw10.2.2.2.2.1 r
theorem k0_off242_inb : ∀ (v4688 : BitVec 32) (k0_hw10 : k0_chk10 v4688), ∀ (r : Fin 2), ∀ a, (k0_off242 v4688 (BitVec.ofNat 32 (16 * r.val))) a + S1x16.size a ≤ S8x2048.size a := fun v4688 k0_hw10 r => k0_hw10.2.2.2.2.2.1 r
theorem k0_off243_inb : ∀ (v4688 : BitVec 32) (k0_hw10 : k0_chk10 v4688), ∀ (r : Fin 2), ∀ a, (k0_off243 v4688 (BitVec.ofNat 32 (16 * r.val))) a + S1x16.size a ≤ S8x2048.size a := fun v4688 k0_hw10 r => k0_hw10.2.2.2.2.2.2.1 r
theorem k0_off244_inb : ∀ (v4688 : BitVec 32) (k0_hw10 : k0_chk10 v4688), ∀ (r : Fin 2), ∀ a, (k0_off244 v4688 (BitVec.ofNat 32 (16 * r.val))) a + S1x16.size a ≤ S8x2048.size a := fun v4688 k0_hw10 r => k0_hw10.2.2.2.2.2.2.2.1 r
theorem k0_off245_inb : ∀ (v4688 : BitVec 32) (k0_hw10 : k0_chk10 v4688), ∀ (r : Fin 2), ∀ a, (k0_off245 v4688 (BitVec.ofNat 32 (16 * r.val))) a + S1x16.size a ≤ S8x2048.size a := fun v4688 k0_hw10 r => k0_hw10.2.2.2.2.2.2.2.2.1 r
theorem k0_off246_inb : ∀ (v4688 : BitVec 32) (k0_hw10 : k0_chk10 v4688), ∀ (r : Fin 2), ∀ a, (k0_off246 v4688 (BitVec.ofNat 32 (16 * r.val))) a + S1x16.size a ≤ S8x2048.size a := fun v4688 k0_hw10 r => k0_hw10.2.2.2.2.2.2.2.2.2.1 r
theorem k0_off247_inb : ∀ (v4688 : BitVec 32) (k0_hw10 : k0_chk10 v4688), ∀ (r : Fin 2), ∀ a, (k0_off247 v4688 (BitVec.ofNat 32 (16 * r.val))) a + S1x16.size a ≤ S8x2048.size a := fun v4688 k0_hw10 r => k0_hw10.2.2.2.2.2.2.2.2.2.2.1 r
theorem k0_off248_inb : ∀ (v4688 : BitVec 32) (k0_hw10 : k0_chk10 v4688), ∀ (r : Fin 2), ∀ a, (k0_off248 v4688 (BitVec.ofNat 32 (16 * r.val))) a + S1x16.size a ≤ S8x2048.size a := fun v4688 k0_hw10 r => k0_hw10.2.2.2.2.2.2.2.2.2.2.2.1 r
theorem k0_off249_inb : ∀ (v4688 : BitVec 32) (k0_hw10 : k0_chk10 v4688), ∀ (r : Fin 2), ∀ a, (k0_off249 v4688 (BitVec.ofNat 32 (16 * r.val))) a + S1x16.size a ≤ S8x2048.size a := fun v4688 k0_hw10 r => k0_hw10.2.2.2.2.2.2.2.2.2.2.2.2.1 r
theorem k0_off250_inb : ∀ (v4688 : BitVec 32) (k0_hw10 : k0_chk10 v4688), ∀ (r : Fin 2), ∀ a, (k0_off250 v4688 (BitVec.ofNat 32 (16 * r.val))) a + S1x16.size a ≤ S8x2048.size a := fun v4688 k0_hw10 r => k0_hw10.2.2.2.2.2.2.2.2.2.2.2.2.2.1 r
theorem k0_off251_inb : ∀ (v4688 : BitVec 32) (k0_hw10 : k0_chk10 v4688), ∀ (r : Fin 2), ∀ a, (k0_off251 v4688 (BitVec.ofNat 32 (16 * r.val))) a + S1x16.size a ≤ S8x2048.size a := fun v4688 k0_hw10 r => k0_hw10.2.2.2.2.2.2.2.2.2.2.2.2.2.2.1 r
theorem k0_off252_inb : ∀ (v4688 : BitVec 32) (k0_hw10 : k0_chk10 v4688), ∀ (r : Fin 2), ∀ a, (k0_off252 v4688 (BitVec.ofNat 32 (16 * r.val))) a + S1x16.size a ≤ S8x2048.size a := fun v4688 k0_hw10 r => k0_hw10.2.2.2.2.2.2.2.2.2.2.2.2.2.2.2.1 r
theorem k0_off253_inb : ∀ (v4688 : BitVec 32) (k0_hw10 : k0_chk10 v4688), ∀ (r : Fin 2), ∀ a, (k0_off253 v4688 (BitVec.ofNat 32 (16 * r.val))) a + S1x16.size a ≤ S8x2048.size a := fun v4688 k0_hw10 r => k0_hw10.2.2.2.2.2.2.2.2.2.2.2.2.2.2.2.2.1 r
theorem k0_off254_inb : ∀ (v4688 : BitVec 32) (k0_hw10 : k0_chk10 v4688), ∀ (r : Fin 2), ∀ a, (k0_off254 v4688 (BitVec.ofNat 32 (16 * r.val))) a + S1x16.size a ≤ S8x2048.size a := fun v4688 k0_hw10 r => k0_hw10.2.2.2.2.2.2.2.2.2.2.2.2.2.2.2.2.2.1 r
theorem k0_off255_inb : ∀ (v4688 : BitVec 32) (k0_hw10 : k0_chk10 v4688), ∀ (r : Fin 2), ∀ a, (k0_off255 v4688 (BitVec.ofNat 32 (16 * r.val))) a + S1x16.size a ≤ S8x2048.size a := fun v4688 k0_hw10 r => k0_hw10.2.2.2.2.2.2.2.2.2.2.2.2.2.2.2.2.2.2.1 r
theorem k0_off256_inb : ∀ (v4688 : BitVec 32) (k0_hw10 : k0_chk10 v4688), ∀ (r : Fin 2), ∀ a, (k0_off256 v4688 (BitVec.ofNat 32 (16 * r.val))) a + S1x16.size a ≤ S8x2048.size a := fun v4688 k0_hw10 r => k0_hw10.2.2.2.2.2.2.2.2.2.2.2.2.2.2.2.2.2.2.2.1 r
theorem k0_off257_inb : ∀ (v4688 : BitVec 32) (k0_hw10 : k0_chk10 v4688), ∀ (r : Fin 2), ∀ a, (k0_off257 v4688 (BitVec.ofNat 32 (16 * r.val))) a + S1x16.size a ≤ S8x2048.size a := fun v4688 k0_hw10 r => k0_hw10.2.2.2.2.2.2.2.2.2.2.2.2.2.2.2.2.2.2.2.2.1 r
theorem k0_off258_inb : ∀ (v4688 : BitVec 32) (k0_hw10 : k0_chk10 v4688), ∀ (r : Fin 2), ∀ a, (k0_off258 v4688 (BitVec.ofNat 32 (16 * r.val))) a + S1x16.size a ≤ S8x2048.size a := fun v4688 k0_hw10 r => k0_hw10.2.2.2.2.2.2.2.2.2.2.2.2.2.2.2.2.2.2.2.2.2.1 r
theorem k0_off259_inb : ∀ (v4688 : BitVec 32) (k0_hw10 : k0_chk10 v4688), ∀ (r : Fin 2), ∀ a, (k0_off259 v4688 (BitVec.ofNat 32 (16 * r.val))) a + S1x16.size a ≤ S8x2048.size a := fun v4688 k0_hw10 r => k0_hw10.2.2.2.2.2.2.2.2.2.2.2.2.2.2.2.2.2.2.2.2.2.2.1 r
theorem k0_off260_inb : ∀ (v4688 : BitVec 32) (k0_hw10 : k0_chk10 v4688), ∀ (r : Fin 2), ∀ a, (k0_off260 v4688 (BitVec.ofNat 32 (16 * r.val))) a + S1x16.size a ≤ S8x2048.size a := fun v4688 k0_hw10 r => k0_hw10.2.2.2.2.2.2.2.2.2.2.2.2.2.2.2.2.2.2.2.2.2.2.2 r

def k0_off261 (k0_t3 : Fin k0_t3_loop.trips) : Fin 1 → Nat :=
  let c0_i32_90 : BitVec 32 := 0#32
  let c1_i32_92 : BitVec 32 := 1#32
  let arg28 : BitVec 32 := Scf.iv c0_i32_90 c1_i32_92 k0_t3
  let c16_i32_1505 : BitVec 32 := 16#32
  let v5095 : BitVec 32 := Scalar.muli arg28 c16_i32_1505
  let c10_i32 : BitVec 32 := 10#32
  let v5096 : BitVec 32 := Scalar.addi v5095 c10_i32
  let c16_i32_1506 : BitVec 32 := 16#32
  let v5097 : BitVec 32 := Scalar.muli v5096 c16_i32_1506
  let v5098 : Index := Scalar.indexCast v5097
  ![v5098.toNat]
def k0_off262 (v5087 : BitVec 32) (c0_i32_1507 : BitVec 32) : Fin 2 → Nat :=
  let c0_i32_1508 : BitVec 32 := 0#32
  let v5102 : Index := Scalar.indexCast c0_i32_1508
  let c63_i32_1498 : BitVec 32 := 63#32
  let v5088 : BitVec 32 := Scalar.andi v5087 c63_i32_1498
  let c32_i32_1499 : BitVec 32 := 32#32
  let v5089 : BitVec 32 := Scalar.muli v5088 c32_i32_1499
  let v5101 : BitVec 32 := Scalar.addi v5089 c0_i32_1507
  let v5103 : Index := Scalar.indexCast v5101
  ![0, v5103.toNat]

def k0_off263 (v5087 : BitVec 32) (c0_i32_1511 : BitVec 32) : Fin 2 → Nat :=
  let c1_i32_1512 : BitVec 32 := 1#32
  let v5112 : Index := Scalar.indexCast c1_i32_1512
  let c63_i32_1498 : BitVec 32 := 63#32
  let v5088 : BitVec 32 := Scalar.andi v5087 c63_i32_1498
  let c32_i32_1499 : BitVec 32 := 32#32
  let v5089 : BitVec 32 := Scalar.muli v5088 c32_i32_1499
  let v5111 : BitVec 32 := Scalar.addi v5089 c0_i32_1511
  let v5113 : Index := Scalar.indexCast v5111
  ![1, v5113.toNat]
def k0_off264 (v5087 : BitVec 32) (c0_i32_1515 : BitVec 32) : Fin 2 → Nat :=
  let c2_i32_1516 : BitVec 32 := 2#32
  let v5122 : Index := Scalar.indexCast c2_i32_1516
  let c63_i32_1498 : BitVec 32 := 63#32
  let v5088 : BitVec 32 := Scalar.andi v5087 c63_i32_1498
  let c32_i32_1499 : BitVec 32 := 32#32
  let v5089 : BitVec 32 := Scalar.muli v5088 c32_i32_1499
  let v5121 : BitVec 32 := Scalar.addi v5089 c0_i32_1515
  let v5123 : Index := Scalar.indexCast v5121
  ![2, v5123.toNat]
def k0_off265 (v5087 : BitVec 32) (c0_i32_1519 : BitVec 32) : Fin 2 → Nat :=
  let c3_i32_1520 : BitVec 32 := 3#32
  let v5132 : Index := Scalar.indexCast c3_i32_1520
  let c63_i32_1498 : BitVec 32 := 63#32
  let v5088 : BitVec 32 := Scalar.andi v5087 c63_i32_1498
  let c32_i32_1499 : BitVec 32 := 32#32
  let v5089 : BitVec 32 := Scalar.muli v5088 c32_i32_1499
  let v5131 : BitVec 32 := Scalar.addi v5089 c0_i32_1519
  let v5133 : Index := Scalar.indexCast v5131
  ![3, v5133.toNat]
def k0_off266 (v5087 : BitVec 32) (c0_i32_1523 : BitVec 32) : Fin 2 → Nat :=
  let c4_i32_1524 : BitVec 32 := 4#32
  let v5142 : Index := Scalar.indexCast c4_i32_1524
  let c63_i32_1498 : BitVec 32 := 63#32
  let v5088 : BitVec 32 := Scalar.andi v5087 c63_i32_1498
  let c32_i32_1499 : BitVec 32 := 32#32
  let v5089 : BitVec 32 := Scalar.muli v5088 c32_i32_1499
  let v5141 : BitVec 32 := Scalar.addi v5089 c0_i32_1523
  let v5143 : Index := Scalar.indexCast v5141
  ![4, v5143.toNat]
def k0_off267 (v5087 : BitVec 32) (c0_i32_1527 : BitVec 32) : Fin 2 → Nat :=
  let c5_i32_1528 : BitVec 32 := 5#32
  let v5152 : Index := Scalar.indexCast c5_i32_1528
  let c63_i32_1498 : BitVec 32 := 63#32
  let v5088 : BitVec 32 := Scalar.andi v5087 c63_i32_1498
  let c32_i32_1499 : BitVec 32 := 32#32
  let v5089 : BitVec 32 := Scalar.muli v5088 c32_i32_1499
  let v5151 : BitVec 32 := Scalar.addi v5089 c0_i32_1527
  let v5153 : Index := Scalar.indexCast v5151
  ![5, v5153.toNat]
def k0_off268 (v5087 : BitVec 32) (c0_i32_1531 : BitVec 32) : Fin 2 → Nat :=
  let c6_i32_1532 : BitVec 32 := 6#32
  let v5162 : Index := Scalar.indexCast c6_i32_1532
  let c63_i32_1498 : BitVec 32 := 63#32
  let v5088 : BitVec 32 := Scalar.andi v5087 c63_i32_1498
  let c32_i32_1499 : BitVec 32 := 32#32
  let v5089 : BitVec 32 := Scalar.muli v5088 c32_i32_1499
  let v5161 : BitVec 32 := Scalar.addi v5089 c0_i32_1531
  let v5163 : Index := Scalar.indexCast v5161
  ![6, v5163.toNat]
def k0_off269 (v5087 : BitVec 32) (c0_i32_1535 : BitVec 32) : Fin 2 → Nat :=
  let c7_i32_1536 : BitVec 32 := 7#32
  let v5172 : Index := Scalar.indexCast c7_i32_1536
  let c63_i32_1498 : BitVec 32 := 63#32
  let v5088 : BitVec 32 := Scalar.andi v5087 c63_i32_1498
  let c32_i32_1499 : BitVec 32 := 32#32
  let v5089 : BitVec 32 := Scalar.muli v5088 c32_i32_1499
  let v5171 : BitVec 32 := Scalar.addi v5089 c0_i32_1535
  let v5173 : Index := Scalar.indexCast v5171
  ![7, v5173.toNat]
def k0_off270 (v5087 : BitVec 32) (c0_i32_1539 : BitVec 32) : Fin 2 → Nat :=
  let c0_i32_1540 : BitVec 32 := 0#32
  let v5182 : Index := Scalar.indexCast c0_i32_1540
  let c6_i32_1500 : BitVec 32 := 6#32
  let v5090 : BitVec 32 := Scalar.shrsi v5087 c6_i32_1500
  let c63_i32_1501 : BitVec 32 := 63#32
  let v5091 : BitVec 32 := Scalar.andi v5090 c63_i32_1501
  let c32_i32_1502 : BitVec 32 := 32#32
  let v5092 : BitVec 32 := Scalar.muli v5091 c32_i32_1502
  let v5181 : BitVec 32 := Scalar.addi v5092 c0_i32_1539
  let v5183 : Index := Scalar.indexCast v5181
  ![0, v5183.toNat]
def k0_off271 (v5087 : BitVec 32) (c0_i32_1543 : BitVec 32) : Fin 2 → Nat :=
  let c1_i32_1544 : BitVec 32 := 1#32
  let v5192 : Index := Scalar.indexCast c1_i32_1544
  let c6_i32_1500 : BitVec 32 := 6#32
  let v5090 : BitVec 32 := Scalar.shrsi v5087 c6_i32_1500
  let c63_i32_1501 : BitVec 32 := 63#32
  let v5091 : BitVec 32 := Scalar.andi v5090 c63_i32_1501
  let c32_i32_1502 : BitVec 32 := 32#32
  let v5092 : BitVec 32 := Scalar.muli v5091 c32_i32_1502
  let v5191 : BitVec 32 := Scalar.addi v5092 c0_i32_1543
  let v5193 : Index := Scalar.indexCast v5191
  ![1, v5193.toNat]
def k0_off272 (v5087 : BitVec 32) (c0_i32_1547 : BitVec 32) : Fin 2 → Nat :=
  let c2_i32_1548 : BitVec 32 := 2#32
  let v5202 : Index := Scalar.indexCast c2_i32_1548
  let c6_i32_1500 : BitVec 32 := 6#32
  let v5090 : BitVec 32 := Scalar.shrsi v5087 c6_i32_1500
  let c63_i32_1501 : BitVec 32 := 63#32
  let v5091 : BitVec 32 := Scalar.andi v5090 c63_i32_1501
  let c32_i32_1502 : BitVec 32 := 32#32
  let v5092 : BitVec 32 := Scalar.muli v5091 c32_i32_1502
  let v5201 : BitVec 32 := Scalar.addi v5092 c0_i32_1547
  let v5203 : Index := Scalar.indexCast v5201
  ![2, v5203.toNat]
def k0_off273 (v5087 : BitVec 32) (c0_i32_1551 : BitVec 32) : Fin 2 → Nat :=
  let c3_i32_1552 : BitVec 32 := 3#32
  let v5212 : Index := Scalar.indexCast c3_i32_1552
  let c6_i32_1500 : BitVec 32 := 6#32
  let v5090 : BitVec 32 := Scalar.shrsi v5087 c6_i32_1500
  let c63_i32_1501 : BitVec 32 := 63#32
  let v5091 : BitVec 32 := Scalar.andi v5090 c63_i32_1501
  let c32_i32_1502 : BitVec 32 := 32#32
  let v5092 : BitVec 32 := Scalar.muli v5091 c32_i32_1502
  let v5211 : BitVec 32 := Scalar.addi v5092 c0_i32_1551
  let v5213 : Index := Scalar.indexCast v5211
  ![3, v5213.toNat]
def k0_off274 (v5087 : BitVec 32) (c0_i32_1555 : BitVec 32) : Fin 2 → Nat :=
  let c4_i32_1556 : BitVec 32 := 4#32
  let v5222 : Index := Scalar.indexCast c4_i32_1556
  let c6_i32_1500 : BitVec 32 := 6#32
  let v5090 : BitVec 32 := Scalar.shrsi v5087 c6_i32_1500
  let c63_i32_1501 : BitVec 32 := 63#32
  let v5091 : BitVec 32 := Scalar.andi v5090 c63_i32_1501
  let c32_i32_1502 : BitVec 32 := 32#32
  let v5092 : BitVec 32 := Scalar.muli v5091 c32_i32_1502
  let v5221 : BitVec 32 := Scalar.addi v5092 c0_i32_1555
  let v5223 : Index := Scalar.indexCast v5221
  ![4, v5223.toNat]
def k0_off275 (v5087 : BitVec 32) (c0_i32_1559 : BitVec 32) : Fin 2 → Nat :=
  let c5_i32_1560 : BitVec 32 := 5#32
  let v5232 : Index := Scalar.indexCast c5_i32_1560
  let c6_i32_1500 : BitVec 32 := 6#32
  let v5090 : BitVec 32 := Scalar.shrsi v5087 c6_i32_1500
  let c63_i32_1501 : BitVec 32 := 63#32
  let v5091 : BitVec 32 := Scalar.andi v5090 c63_i32_1501
  let c32_i32_1502 : BitVec 32 := 32#32
  let v5092 : BitVec 32 := Scalar.muli v5091 c32_i32_1502
  let v5231 : BitVec 32 := Scalar.addi v5092 c0_i32_1559
  let v5233 : Index := Scalar.indexCast v5231
  ![5, v5233.toNat]
def k0_off276 (v5087 : BitVec 32) (c0_i32_1563 : BitVec 32) : Fin 2 → Nat :=
  let c6_i32_1564 : BitVec 32 := 6#32
  let v5242 : Index := Scalar.indexCast c6_i32_1564
  let c6_i32_1500 : BitVec 32 := 6#32
  let v5090 : BitVec 32 := Scalar.shrsi v5087 c6_i32_1500
  let c63_i32_1501 : BitVec 32 := 63#32
  let v5091 : BitVec 32 := Scalar.andi v5090 c63_i32_1501
  let c32_i32_1502 : BitVec 32 := 32#32
  let v5092 : BitVec 32 := Scalar.muli v5091 c32_i32_1502
  let v5241 : BitVec 32 := Scalar.addi v5092 c0_i32_1563
  let v5243 : Index := Scalar.indexCast v5241
  ![6, v5243.toNat]
def k0_off277 (v5087 : BitVec 32) (c0_i32_1567 : BitVec 32) : Fin 2 → Nat :=
  let c7_i32_1568 : BitVec 32 := 7#32
  let v5252 : Index := Scalar.indexCast c7_i32_1568
  let c6_i32_1500 : BitVec 32 := 6#32
  let v5090 : BitVec 32 := Scalar.shrsi v5087 c6_i32_1500
  let c63_i32_1501 : BitVec 32 := 63#32
  let v5091 : BitVec 32 := Scalar.andi v5090 c63_i32_1501
  let c32_i32_1502 : BitVec 32 := 32#32
  let v5092 : BitVec 32 := Scalar.muli v5091 c32_i32_1502
  let v5251 : BitVec 32 := Scalar.addi v5092 c0_i32_1567
  let v5253 : Index := Scalar.indexCast v5251
  ![7, v5253.toNat]
def k0_off278 (v5087 : BitVec 32) (c0_i32_1571 : BitVec 32) : Fin 2 → Nat :=
  let c0_i32_1572 : BitVec 32 := 0#32
  let v5294 : Index := Scalar.indexCast c0_i32_1572
  let c12_i32_1503 : BitVec 32 := 12#32
  let v5093 : BitVec 32 := Scalar.shrsi v5087 c12_i32_1503
  let c32_i32_1504 : BitVec 32 := 32#32
  let v5094 : BitVec 32 := Scalar.muli v5093 c32_i32_1504
  let v5293 : BitVec 32 := Scalar.addi v5094 c0_i32_1571
  let v5295 : Index := Scalar.indexCast v5293
  ![0, v5295.toNat]
def k0_off279 (v5087 : BitVec 32) (c0_i32_1579 : BitVec 32) : Fin 2 → Nat :=
  let c1_i32_1580 : BitVec 32 := 1#32
  let v5318 : Index := Scalar.indexCast c1_i32_1580
  let c12_i32_1503 : BitVec 32 := 12#32
  let v5093 : BitVec 32 := Scalar.shrsi v5087 c12_i32_1503
  let c32_i32_1504 : BitVec 32 := 32#32
  let v5094 : BitVec 32 := Scalar.muli v5093 c32_i32_1504
  let v5317 : BitVec 32 := Scalar.addi v5094 c0_i32_1579
  let v5319 : Index := Scalar.indexCast v5317
  ![1, v5319.toNat]
def k0_off280 (v5087 : BitVec 32) (c0_i32_1587 : BitVec 32) : Fin 2 → Nat :=
  let c2_i32_1588 : BitVec 32 := 2#32
  let v5342 : Index := Scalar.indexCast c2_i32_1588
  let c12_i32_1503 : BitVec 32 := 12#32
  let v5093 : BitVec 32 := Scalar.shrsi v5087 c12_i32_1503
  let c32_i32_1504 : BitVec 32 := 32#32
  let v5094 : BitVec 32 := Scalar.muli v5093 c32_i32_1504
  let v5341 : BitVec 32 := Scalar.addi v5094 c0_i32_1587
  let v5343 : Index := Scalar.indexCast v5341
  ![2, v5343.toNat]
def k0_off281 (v5087 : BitVec 32) (c0_i32_1595 : BitVec 32) : Fin 2 → Nat :=
  let c3_i32_1596 : BitVec 32 := 3#32
  let v5366 : Index := Scalar.indexCast c3_i32_1596
  let c12_i32_1503 : BitVec 32 := 12#32
  let v5093 : BitVec 32 := Scalar.shrsi v5087 c12_i32_1503
  let c32_i32_1504 : BitVec 32 := 32#32
  let v5094 : BitVec 32 := Scalar.muli v5093 c32_i32_1504
  let v5365 : BitVec 32 := Scalar.addi v5094 c0_i32_1595
  let v5367 : Index := Scalar.indexCast v5365
  ![3, v5367.toNat]
def k0_off282 (v5087 : BitVec 32) (c0_i32_1603 : BitVec 32) : Fin 2 → Nat :=
  let c4_i32_1604 : BitVec 32 := 4#32
  let v5390 : Index := Scalar.indexCast c4_i32_1604
  let c12_i32_1503 : BitVec 32 := 12#32
  let v5093 : BitVec 32 := Scalar.shrsi v5087 c12_i32_1503
  let c32_i32_1504 : BitVec 32 := 32#32
  let v5094 : BitVec 32 := Scalar.muli v5093 c32_i32_1504
  let v5389 : BitVec 32 := Scalar.addi v5094 c0_i32_1603
  let v5391 : Index := Scalar.indexCast v5389
  ![4, v5391.toNat]
def k0_off283 (v5087 : BitVec 32) (c0_i32_1611 : BitVec 32) : Fin 2 → Nat :=
  let c5_i32_1612 : BitVec 32 := 5#32
  let v5414 : Index := Scalar.indexCast c5_i32_1612
  let c12_i32_1503 : BitVec 32 := 12#32
  let v5093 : BitVec 32 := Scalar.shrsi v5087 c12_i32_1503
  let c32_i32_1504 : BitVec 32 := 32#32
  let v5094 : BitVec 32 := Scalar.muli v5093 c32_i32_1504
  let v5413 : BitVec 32 := Scalar.addi v5094 c0_i32_1611
  let v5415 : Index := Scalar.indexCast v5413
  ![5, v5415.toNat]
def k0_off284 (v5087 : BitVec 32) (c0_i32_1619 : BitVec 32) : Fin 2 → Nat :=
  let c6_i32_1620 : BitVec 32 := 6#32
  let v5438 : Index := Scalar.indexCast c6_i32_1620
  let c12_i32_1503 : BitVec 32 := 12#32
  let v5093 : BitVec 32 := Scalar.shrsi v5087 c12_i32_1503
  let c32_i32_1504 : BitVec 32 := 32#32
  let v5094 : BitVec 32 := Scalar.muli v5093 c32_i32_1504
  let v5437 : BitVec 32 := Scalar.addi v5094 c0_i32_1619
  let v5439 : Index := Scalar.indexCast v5437
  ![6, v5439.toNat]
def k0_off285 (v5087 : BitVec 32) (c0_i32_1627 : BitVec 32) : Fin 2 → Nat :=
  let c7_i32_1628 : BitVec 32 := 7#32
  let v5462 : Index := Scalar.indexCast c7_i32_1628
  let c12_i32_1503 : BitVec 32 := 12#32
  let v5093 : BitVec 32 := Scalar.shrsi v5087 c12_i32_1503
  let c32_i32_1504 : BitVec 32 := 32#32
  let v5094 : BitVec 32 := Scalar.muli v5093 c32_i32_1504
  let v5461 : BitVec 32 := Scalar.addi v5094 c0_i32_1627
  let v5463 : Index := Scalar.indexCast v5461
  ![7, v5463.toNat]

def k0_chk11 (v5087 : BitVec 32) : Prop :=
  (∀ (r : Fin 2), ∀ a, (k0_off262 v5087 (BitVec.ofNat 32 (16 * r.val))) a + S1x16.size a ≤ S8x2048.size a) ∧
  (∀ (r : Fin 2), ∀ a, (k0_off263 v5087 (BitVec.ofNat 32 (16 * r.val))) a + S1x16.size a ≤ S8x2048.size a) ∧
  (∀ (r : Fin 2), ∀ a, (k0_off264 v5087 (BitVec.ofNat 32 (16 * r.val))) a + S1x16.size a ≤ S8x2048.size a) ∧
  (∀ (r : Fin 2), ∀ a, (k0_off265 v5087 (BitVec.ofNat 32 (16 * r.val))) a + S1x16.size a ≤ S8x2048.size a) ∧
  (∀ (r : Fin 2), ∀ a, (k0_off266 v5087 (BitVec.ofNat 32 (16 * r.val))) a + S1x16.size a ≤ S8x2048.size a) ∧
  (∀ (r : Fin 2), ∀ a, (k0_off267 v5087 (BitVec.ofNat 32 (16 * r.val))) a + S1x16.size a ≤ S8x2048.size a) ∧
  (∀ (r : Fin 2), ∀ a, (k0_off268 v5087 (BitVec.ofNat 32 (16 * r.val))) a + S1x16.size a ≤ S8x2048.size a) ∧
  (∀ (r : Fin 2), ∀ a, (k0_off269 v5087 (BitVec.ofNat 32 (16 * r.val))) a + S1x16.size a ≤ S8x2048.size a) ∧
  (∀ (r : Fin 2), ∀ a, (k0_off270 v5087 (BitVec.ofNat 32 (16 * r.val))) a + S1x16.size a ≤ S8x2048.size a) ∧
  (∀ (r : Fin 2), ∀ a, (k0_off271 v5087 (BitVec.ofNat 32 (16 * r.val))) a + S1x16.size a ≤ S8x2048.size a) ∧
  (∀ (r : Fin 2), ∀ a, (k0_off272 v5087 (BitVec.ofNat 32 (16 * r.val))) a + S1x16.size a ≤ S8x2048.size a) ∧
  (∀ (r : Fin 2), ∀ a, (k0_off273 v5087 (BitVec.ofNat 32 (16 * r.val))) a + S1x16.size a ≤ S8x2048.size a) ∧
  (∀ (r : Fin 2), ∀ a, (k0_off274 v5087 (BitVec.ofNat 32 (16 * r.val))) a + S1x16.size a ≤ S8x2048.size a) ∧
  (∀ (r : Fin 2), ∀ a, (k0_off275 v5087 (BitVec.ofNat 32 (16 * r.val))) a + S1x16.size a ≤ S8x2048.size a) ∧
  (∀ (r : Fin 2), ∀ a, (k0_off276 v5087 (BitVec.ofNat 32 (16 * r.val))) a + S1x16.size a ≤ S8x2048.size a) ∧
  (∀ (r : Fin 2), ∀ a, (k0_off277 v5087 (BitVec.ofNat 32 (16 * r.val))) a + S1x16.size a ≤ S8x2048.size a) ∧
  (∀ (r : Fin 2), ∀ a, (k0_off278 v5087 (BitVec.ofNat 32 (16 * r.val))) a + S1x16.size a ≤ S8x2048.size a) ∧
  (∀ (r : Fin 2), ∀ a, (k0_off279 v5087 (BitVec.ofNat 32 (16 * r.val))) a + S1x16.size a ≤ S8x2048.size a) ∧
  (∀ (r : Fin 2), ∀ a, (k0_off280 v5087 (BitVec.ofNat 32 (16 * r.val))) a + S1x16.size a ≤ S8x2048.size a) ∧
  (∀ (r : Fin 2), ∀ a, (k0_off281 v5087 (BitVec.ofNat 32 (16 * r.val))) a + S1x16.size a ≤ S8x2048.size a) ∧
  (∀ (r : Fin 2), ∀ a, (k0_off282 v5087 (BitVec.ofNat 32 (16 * r.val))) a + S1x16.size a ≤ S8x2048.size a) ∧
  (∀ (r : Fin 2), ∀ a, (k0_off283 v5087 (BitVec.ofNat 32 (16 * r.val))) a + S1x16.size a ≤ S8x2048.size a) ∧
  (∀ (r : Fin 2), ∀ a, (k0_off284 v5087 (BitVec.ofNat 32 (16 * r.val))) a + S1x16.size a ≤ S8x2048.size a) ∧
  (∀ (r : Fin 2), ∀ a, (k0_off285 v5087 (BitVec.ofNat 32 (16 * r.val))) a + S1x16.size a ≤ S8x2048.size a)
theorem k0_off262_inb : ∀ (v5087 : BitVec 32) (k0_hw11 : k0_chk11 v5087), ∀ (r : Fin 2), ∀ a, (k0_off262 v5087 (BitVec.ofNat 32 (16 * r.val))) a + S1x16.size a ≤ S8x2048.size a := fun v5087 k0_hw11 r => k0_hw11.1 r
theorem k0_off263_inb : ∀ (v5087 : BitVec 32) (k0_hw11 : k0_chk11 v5087), ∀ (r : Fin 2), ∀ a, (k0_off263 v5087 (BitVec.ofNat 32 (16 * r.val))) a + S1x16.size a ≤ S8x2048.size a := fun v5087 k0_hw11 r => k0_hw11.2.1 r
theorem k0_off264_inb : ∀ (v5087 : BitVec 32) (k0_hw11 : k0_chk11 v5087), ∀ (r : Fin 2), ∀ a, (k0_off264 v5087 (BitVec.ofNat 32 (16 * r.val))) a + S1x16.size a ≤ S8x2048.size a := fun v5087 k0_hw11 r => k0_hw11.2.2.1 r
theorem k0_off265_inb : ∀ (v5087 : BitVec 32) (k0_hw11 : k0_chk11 v5087), ∀ (r : Fin 2), ∀ a, (k0_off265 v5087 (BitVec.ofNat 32 (16 * r.val))) a + S1x16.size a ≤ S8x2048.size a := fun v5087 k0_hw11 r => k0_hw11.2.2.2.1 r
theorem k0_off266_inb : ∀ (v5087 : BitVec 32) (k0_hw11 : k0_chk11 v5087), ∀ (r : Fin 2), ∀ a, (k0_off266 v5087 (BitVec.ofNat 32 (16 * r.val))) a + S1x16.size a ≤ S8x2048.size a := fun v5087 k0_hw11 r => k0_hw11.2.2.2.2.1 r
theorem k0_off267_inb : ∀ (v5087 : BitVec 32) (k0_hw11 : k0_chk11 v5087), ∀ (r : Fin 2), ∀ a, (k0_off267 v5087 (BitVec.ofNat 32 (16 * r.val))) a + S1x16.size a ≤ S8x2048.size a := fun v5087 k0_hw11 r => k0_hw11.2.2.2.2.2.1 r
theorem k0_off268_inb : ∀ (v5087 : BitVec 32) (k0_hw11 : k0_chk11 v5087), ∀ (r : Fin 2), ∀ a, (k0_off268 v5087 (BitVec.ofNat 32 (16 * r.val))) a + S1x16.size a ≤ S8x2048.size a := fun v5087 k0_hw11 r => k0_hw11.2.2.2.2.2.2.1 r
theorem k0_off269_inb : ∀ (v5087 : BitVec 32) (k0_hw11 : k0_chk11 v5087), ∀ (r : Fin 2), ∀ a, (k0_off269 v5087 (BitVec.ofNat 32 (16 * r.val))) a + S1x16.size a ≤ S8x2048.size a := fun v5087 k0_hw11 r => k0_hw11.2.2.2.2.2.2.2.1 r
theorem k0_off270_inb : ∀ (v5087 : BitVec 32) (k0_hw11 : k0_chk11 v5087), ∀ (r : Fin 2), ∀ a, (k0_off270 v5087 (BitVec.ofNat 32 (16 * r.val))) a + S1x16.size a ≤ S8x2048.size a := fun v5087 k0_hw11 r => k0_hw11.2.2.2.2.2.2.2.2.1 r
theorem k0_off271_inb : ∀ (v5087 : BitVec 32) (k0_hw11 : k0_chk11 v5087), ∀ (r : Fin 2), ∀ a, (k0_off271 v5087 (BitVec.ofNat 32 (16 * r.val))) a + S1x16.size a ≤ S8x2048.size a := fun v5087 k0_hw11 r => k0_hw11.2.2.2.2.2.2.2.2.2.1 r
theorem k0_off272_inb : ∀ (v5087 : BitVec 32) (k0_hw11 : k0_chk11 v5087), ∀ (r : Fin 2), ∀ a, (k0_off272 v5087 (BitVec.ofNat 32 (16 * r.val))) a + S1x16.size a ≤ S8x2048.size a := fun v5087 k0_hw11 r => k0_hw11.2.2.2.2.2.2.2.2.2.2.1 r
theorem k0_off273_inb : ∀ (v5087 : BitVec 32) (k0_hw11 : k0_chk11 v5087), ∀ (r : Fin 2), ∀ a, (k0_off273 v5087 (BitVec.ofNat 32 (16 * r.val))) a + S1x16.size a ≤ S8x2048.size a := fun v5087 k0_hw11 r => k0_hw11.2.2.2.2.2.2.2.2.2.2.2.1 r
theorem k0_off274_inb : ∀ (v5087 : BitVec 32) (k0_hw11 : k0_chk11 v5087), ∀ (r : Fin 2), ∀ a, (k0_off274 v5087 (BitVec.ofNat 32 (16 * r.val))) a + S1x16.size a ≤ S8x2048.size a := fun v5087 k0_hw11 r => k0_hw11.2.2.2.2.2.2.2.2.2.2.2.2.1 r
theorem k0_off275_inb : ∀ (v5087 : BitVec 32) (k0_hw11 : k0_chk11 v5087), ∀ (r : Fin 2), ∀ a, (k0_off275 v5087 (BitVec.ofNat 32 (16 * r.val))) a + S1x16.size a ≤ S8x2048.size a := fun v5087 k0_hw11 r => k0_hw11.2.2.2.2.2.2.2.2.2.2.2.2.2.1 r
theorem k0_off276_inb : ∀ (v5087 : BitVec 32) (k0_hw11 : k0_chk11 v5087), ∀ (r : Fin 2), ∀ a, (k0_off276 v5087 (BitVec.ofNat 32 (16 * r.val))) a + S1x16.size a ≤ S8x2048.size a := fun v5087 k0_hw11 r => k0_hw11.2.2.2.2.2.2.2.2.2.2.2.2.2.2.1 r
theorem k0_off277_inb : ∀ (v5087 : BitVec 32) (k0_hw11 : k0_chk11 v5087), ∀ (r : Fin 2), ∀ a, (k0_off277 v5087 (BitVec.ofNat 32 (16 * r.val))) a + S1x16.size a ≤ S8x2048.size a := fun v5087 k0_hw11 r => k0_hw11.2.2.2.2.2.2.2.2.2.2.2.2.2.2.2.1 r
theorem k0_off278_inb : ∀ (v5087 : BitVec 32) (k0_hw11 : k0_chk11 v5087), ∀ (r : Fin 2), ∀ a, (k0_off278 v5087 (BitVec.ofNat 32 (16 * r.val))) a + S1x16.size a ≤ S8x2048.size a := fun v5087 k0_hw11 r => k0_hw11.2.2.2.2.2.2.2.2.2.2.2.2.2.2.2.2.1 r
theorem k0_off279_inb : ∀ (v5087 : BitVec 32) (k0_hw11 : k0_chk11 v5087), ∀ (r : Fin 2), ∀ a, (k0_off279 v5087 (BitVec.ofNat 32 (16 * r.val))) a + S1x16.size a ≤ S8x2048.size a := fun v5087 k0_hw11 r => k0_hw11.2.2.2.2.2.2.2.2.2.2.2.2.2.2.2.2.2.1 r
theorem k0_off280_inb : ∀ (v5087 : BitVec 32) (k0_hw11 : k0_chk11 v5087), ∀ (r : Fin 2), ∀ a, (k0_off280 v5087 (BitVec.ofNat 32 (16 * r.val))) a + S1x16.size a ≤ S8x2048.size a := fun v5087 k0_hw11 r => k0_hw11.2.2.2.2.2.2.2.2.2.2.2.2.2.2.2.2.2.2.1 r
theorem k0_off281_inb : ∀ (v5087 : BitVec 32) (k0_hw11 : k0_chk11 v5087), ∀ (r : Fin 2), ∀ a, (k0_off281 v5087 (BitVec.ofNat 32 (16 * r.val))) a + S1x16.size a ≤ S8x2048.size a := fun v5087 k0_hw11 r => k0_hw11.2.2.2.2.2.2.2.2.2.2.2.2.2.2.2.2.2.2.2.1 r
theorem k0_off282_inb : ∀ (v5087 : BitVec 32) (k0_hw11 : k0_chk11 v5087), ∀ (r : Fin 2), ∀ a, (k0_off282 v5087 (BitVec.ofNat 32 (16 * r.val))) a + S1x16.size a ≤ S8x2048.size a := fun v5087 k0_hw11 r => k0_hw11.2.2.2.2.2.2.2.2.2.2.2.2.2.2.2.2.2.2.2.2.1 r
theorem k0_off283_inb : ∀ (v5087 : BitVec 32) (k0_hw11 : k0_chk11 v5087), ∀ (r : Fin 2), ∀ a, (k0_off283 v5087 (BitVec.ofNat 32 (16 * r.val))) a + S1x16.size a ≤ S8x2048.size a := fun v5087 k0_hw11 r => k0_hw11.2.2.2.2.2.2.2.2.2.2.2.2.2.2.2.2.2.2.2.2.2.1 r
theorem k0_off284_inb : ∀ (v5087 : BitVec 32) (k0_hw11 : k0_chk11 v5087), ∀ (r : Fin 2), ∀ a, (k0_off284 v5087 (BitVec.ofNat 32 (16 * r.val))) a + S1x16.size a ≤ S8x2048.size a := fun v5087 k0_hw11 r => k0_hw11.2.2.2.2.2.2.2.2.2.2.2.2.2.2.2.2.2.2.2.2.2.2.1 r
theorem k0_off285_inb : ∀ (v5087 : BitVec 32) (k0_hw11 : k0_chk11 v5087), ∀ (r : Fin 2), ∀ a, (k0_off285 v5087 (BitVec.ofNat 32 (16 * r.val))) a + S1x16.size a ≤ S8x2048.size a := fun v5087 k0_hw11 r => k0_hw11.2.2.2.2.2.2.2.2.2.2.2.2.2.2.2.2.2.2.2.2.2.2.2 r

def k0_off286 (k0_t3 : Fin k0_t3_loop.trips) : Fin 1 → Nat :=
  let c0_i32_90 : BitVec 32 := 0#32
  let c1_i32_92 : BitVec 32 := 1#32
  let arg28 : BitVec 32 := Scf.iv c0_i32_90 c1_i32_92 k0_t3
  let c16_i32_1642 : BitVec 32 := 16#32
  let v5494 : BitVec 32 := Scalar.muli arg28 c16_i32_1642
  let c11_i32 : BitVec 32 := 11#32
  let v5495 : BitVec 32 := Scalar.addi v5494 c11_i32
  let c16_i32_1643 : BitVec 32 := 16#32
  let v5496 : BitVec 32 := Scalar.muli v5495 c16_i32_1643
  let v5497 : Index := Scalar.indexCast v5496
  ![v5497.toNat]
def k0_off287 (v5486 : BitVec 32) (c0_i32_1644 : BitVec 32) : Fin 2 → Nat :=
  let c0_i32_1645 : BitVec 32 := 0#32
  let v5501 : Index := Scalar.indexCast c0_i32_1645
  let c63_i32_1635 : BitVec 32 := 63#32
  let v5487 : BitVec 32 := Scalar.andi v5486 c63_i32_1635
  let c32_i32_1636 : BitVec 32 := 32#32
  let v5488 : BitVec 32 := Scalar.muli v5487 c32_i32_1636
  let v5500 : BitVec 32 := Scalar.addi v5488 c0_i32_1644
  let v5502 : Index := Scalar.indexCast v5500
  ![0, v5502.toNat]

def k0_off288 (v5486 : BitVec 32) (c0_i32_1648 : BitVec 32) : Fin 2 → Nat :=
  let c1_i32_1649 : BitVec 32 := 1#32
  let v5511 : Index := Scalar.indexCast c1_i32_1649
  let c63_i32_1635 : BitVec 32 := 63#32
  let v5487 : BitVec 32 := Scalar.andi v5486 c63_i32_1635
  let c32_i32_1636 : BitVec 32 := 32#32
  let v5488 : BitVec 32 := Scalar.muli v5487 c32_i32_1636
  let v5510 : BitVec 32 := Scalar.addi v5488 c0_i32_1648
  let v5512 : Index := Scalar.indexCast v5510
  ![1, v5512.toNat]
def k0_off289 (v5486 : BitVec 32) (c0_i32_1652 : BitVec 32) : Fin 2 → Nat :=
  let c2_i32_1653 : BitVec 32 := 2#32
  let v5521 : Index := Scalar.indexCast c2_i32_1653
  let c63_i32_1635 : BitVec 32 := 63#32
  let v5487 : BitVec 32 := Scalar.andi v5486 c63_i32_1635
  let c32_i32_1636 : BitVec 32 := 32#32
  let v5488 : BitVec 32 := Scalar.muli v5487 c32_i32_1636
  let v5520 : BitVec 32 := Scalar.addi v5488 c0_i32_1652
  let v5522 : Index := Scalar.indexCast v5520
  ![2, v5522.toNat]
def k0_off290 (v5486 : BitVec 32) (c0_i32_1656 : BitVec 32) : Fin 2 → Nat :=
  let c3_i32_1657 : BitVec 32 := 3#32
  let v5531 : Index := Scalar.indexCast c3_i32_1657
  let c63_i32_1635 : BitVec 32 := 63#32
  let v5487 : BitVec 32 := Scalar.andi v5486 c63_i32_1635
  let c32_i32_1636 : BitVec 32 := 32#32
  let v5488 : BitVec 32 := Scalar.muli v5487 c32_i32_1636
  let v5530 : BitVec 32 := Scalar.addi v5488 c0_i32_1656
  let v5532 : Index := Scalar.indexCast v5530
  ![3, v5532.toNat]
def k0_off291 (v5486 : BitVec 32) (c0_i32_1660 : BitVec 32) : Fin 2 → Nat :=
  let c4_i32_1661 : BitVec 32 := 4#32
  let v5541 : Index := Scalar.indexCast c4_i32_1661
  let c63_i32_1635 : BitVec 32 := 63#32
  let v5487 : BitVec 32 := Scalar.andi v5486 c63_i32_1635
  let c32_i32_1636 : BitVec 32 := 32#32
  let v5488 : BitVec 32 := Scalar.muli v5487 c32_i32_1636
  let v5540 : BitVec 32 := Scalar.addi v5488 c0_i32_1660
  let v5542 : Index := Scalar.indexCast v5540
  ![4, v5542.toNat]
def k0_off292 (v5486 : BitVec 32) (c0_i32_1664 : BitVec 32) : Fin 2 → Nat :=
  let c5_i32_1665 : BitVec 32 := 5#32
  let v5551 : Index := Scalar.indexCast c5_i32_1665
  let c63_i32_1635 : BitVec 32 := 63#32
  let v5487 : BitVec 32 := Scalar.andi v5486 c63_i32_1635
  let c32_i32_1636 : BitVec 32 := 32#32
  let v5488 : BitVec 32 := Scalar.muli v5487 c32_i32_1636
  let v5550 : BitVec 32 := Scalar.addi v5488 c0_i32_1664
  let v5552 : Index := Scalar.indexCast v5550
  ![5, v5552.toNat]
def k0_off293 (v5486 : BitVec 32) (c0_i32_1668 : BitVec 32) : Fin 2 → Nat :=
  let c6_i32_1669 : BitVec 32 := 6#32
  let v5561 : Index := Scalar.indexCast c6_i32_1669
  let c63_i32_1635 : BitVec 32 := 63#32
  let v5487 : BitVec 32 := Scalar.andi v5486 c63_i32_1635
  let c32_i32_1636 : BitVec 32 := 32#32
  let v5488 : BitVec 32 := Scalar.muli v5487 c32_i32_1636
  let v5560 : BitVec 32 := Scalar.addi v5488 c0_i32_1668
  let v5562 : Index := Scalar.indexCast v5560
  ![6, v5562.toNat]
def k0_off294 (v5486 : BitVec 32) (c0_i32_1672 : BitVec 32) : Fin 2 → Nat :=
  let c7_i32_1673 : BitVec 32 := 7#32
  let v5571 : Index := Scalar.indexCast c7_i32_1673
  let c63_i32_1635 : BitVec 32 := 63#32
  let v5487 : BitVec 32 := Scalar.andi v5486 c63_i32_1635
  let c32_i32_1636 : BitVec 32 := 32#32
  let v5488 : BitVec 32 := Scalar.muli v5487 c32_i32_1636
  let v5570 : BitVec 32 := Scalar.addi v5488 c0_i32_1672
  let v5572 : Index := Scalar.indexCast v5570
  ![7, v5572.toNat]
def k0_off295 (v5486 : BitVec 32) (c0_i32_1676 : BitVec 32) : Fin 2 → Nat :=
  let c0_i32_1677 : BitVec 32 := 0#32
  let v5581 : Index := Scalar.indexCast c0_i32_1677
  let c6_i32_1637 : BitVec 32 := 6#32
  let v5489 : BitVec 32 := Scalar.shrsi v5486 c6_i32_1637
  let c63_i32_1638 : BitVec 32 := 63#32
  let v5490 : BitVec 32 := Scalar.andi v5489 c63_i32_1638
  let c32_i32_1639 : BitVec 32 := 32#32
  let v5491 : BitVec 32 := Scalar.muli v5490 c32_i32_1639
  let v5580 : BitVec 32 := Scalar.addi v5491 c0_i32_1676
  let v5582 : Index := Scalar.indexCast v5580
  ![0, v5582.toNat]
def k0_off296 (v5486 : BitVec 32) (c0_i32_1680 : BitVec 32) : Fin 2 → Nat :=
  let c1_i32_1681 : BitVec 32 := 1#32
  let v5591 : Index := Scalar.indexCast c1_i32_1681
  let c6_i32_1637 : BitVec 32 := 6#32
  let v5489 : BitVec 32 := Scalar.shrsi v5486 c6_i32_1637
  let c63_i32_1638 : BitVec 32 := 63#32
  let v5490 : BitVec 32 := Scalar.andi v5489 c63_i32_1638
  let c32_i32_1639 : BitVec 32 := 32#32
  let v5491 : BitVec 32 := Scalar.muli v5490 c32_i32_1639
  let v5590 : BitVec 32 := Scalar.addi v5491 c0_i32_1680
  let v5592 : Index := Scalar.indexCast v5590
  ![1, v5592.toNat]
def k0_off297 (v5486 : BitVec 32) (c0_i32_1684 : BitVec 32) : Fin 2 → Nat :=
  let c2_i32_1685 : BitVec 32 := 2#32
  let v5601 : Index := Scalar.indexCast c2_i32_1685
  let c6_i32_1637 : BitVec 32 := 6#32
  let v5489 : BitVec 32 := Scalar.shrsi v5486 c6_i32_1637
  let c63_i32_1638 : BitVec 32 := 63#32
  let v5490 : BitVec 32 := Scalar.andi v5489 c63_i32_1638
  let c32_i32_1639 : BitVec 32 := 32#32
  let v5491 : BitVec 32 := Scalar.muli v5490 c32_i32_1639
  let v5600 : BitVec 32 := Scalar.addi v5491 c0_i32_1684
  let v5602 : Index := Scalar.indexCast v5600
  ![2, v5602.toNat]
def k0_off298 (v5486 : BitVec 32) (c0_i32_1688 : BitVec 32) : Fin 2 → Nat :=
  let c3_i32_1689 : BitVec 32 := 3#32
  let v5611 : Index := Scalar.indexCast c3_i32_1689
  let c6_i32_1637 : BitVec 32 := 6#32
  let v5489 : BitVec 32 := Scalar.shrsi v5486 c6_i32_1637
  let c63_i32_1638 : BitVec 32 := 63#32
  let v5490 : BitVec 32 := Scalar.andi v5489 c63_i32_1638
  let c32_i32_1639 : BitVec 32 := 32#32
  let v5491 : BitVec 32 := Scalar.muli v5490 c32_i32_1639
  let v5610 : BitVec 32 := Scalar.addi v5491 c0_i32_1688
  let v5612 : Index := Scalar.indexCast v5610
  ![3, v5612.toNat]
def k0_off299 (v5486 : BitVec 32) (c0_i32_1692 : BitVec 32) : Fin 2 → Nat :=
  let c4_i32_1693 : BitVec 32 := 4#32
  let v5621 : Index := Scalar.indexCast c4_i32_1693
  let c6_i32_1637 : BitVec 32 := 6#32
  let v5489 : BitVec 32 := Scalar.shrsi v5486 c6_i32_1637
  let c63_i32_1638 : BitVec 32 := 63#32
  let v5490 : BitVec 32 := Scalar.andi v5489 c63_i32_1638
  let c32_i32_1639 : BitVec 32 := 32#32
  let v5491 : BitVec 32 := Scalar.muli v5490 c32_i32_1639
  let v5620 : BitVec 32 := Scalar.addi v5491 c0_i32_1692
  let v5622 : Index := Scalar.indexCast v5620
  ![4, v5622.toNat]
def k0_off300 (v5486 : BitVec 32) (c0_i32_1696 : BitVec 32) : Fin 2 → Nat :=
  let c5_i32_1697 : BitVec 32 := 5#32
  let v5631 : Index := Scalar.indexCast c5_i32_1697
  let c6_i32_1637 : BitVec 32 := 6#32
  let v5489 : BitVec 32 := Scalar.shrsi v5486 c6_i32_1637
  let c63_i32_1638 : BitVec 32 := 63#32
  let v5490 : BitVec 32 := Scalar.andi v5489 c63_i32_1638
  let c32_i32_1639 : BitVec 32 := 32#32
  let v5491 : BitVec 32 := Scalar.muli v5490 c32_i32_1639
  let v5630 : BitVec 32 := Scalar.addi v5491 c0_i32_1696
  let v5632 : Index := Scalar.indexCast v5630
  ![5, v5632.toNat]
def k0_off301 (v5486 : BitVec 32) (c0_i32_1700 : BitVec 32) : Fin 2 → Nat :=
  let c6_i32_1701 : BitVec 32 := 6#32
  let v5641 : Index := Scalar.indexCast c6_i32_1701
  let c6_i32_1637 : BitVec 32 := 6#32
  let v5489 : BitVec 32 := Scalar.shrsi v5486 c6_i32_1637
  let c63_i32_1638 : BitVec 32 := 63#32
  let v5490 : BitVec 32 := Scalar.andi v5489 c63_i32_1638
  let c32_i32_1639 : BitVec 32 := 32#32
  let v5491 : BitVec 32 := Scalar.muli v5490 c32_i32_1639
  let v5640 : BitVec 32 := Scalar.addi v5491 c0_i32_1700
  let v5642 : Index := Scalar.indexCast v5640
  ![6, v5642.toNat]
def k0_off302 (v5486 : BitVec 32) (c0_i32_1704 : BitVec 32) : Fin 2 → Nat :=
  let c7_i32_1705 : BitVec 32 := 7#32
  let v5651 : Index := Scalar.indexCast c7_i32_1705
  let c6_i32_1637 : BitVec 32 := 6#32
  let v5489 : BitVec 32 := Scalar.shrsi v5486 c6_i32_1637
  let c63_i32_1638 : BitVec 32 := 63#32
  let v5490 : BitVec 32 := Scalar.andi v5489 c63_i32_1638
  let c32_i32_1639 : BitVec 32 := 32#32
  let v5491 : BitVec 32 := Scalar.muli v5490 c32_i32_1639
  let v5650 : BitVec 32 := Scalar.addi v5491 c0_i32_1704
  let v5652 : Index := Scalar.indexCast v5650
  ![7, v5652.toNat]
def k0_off303 (v5486 : BitVec 32) (c0_i32_1708 : BitVec 32) : Fin 2 → Nat :=
  let c0_i32_1709 : BitVec 32 := 0#32
  let v5693 : Index := Scalar.indexCast c0_i32_1709
  let c12_i32_1640 : BitVec 32 := 12#32
  let v5492 : BitVec 32 := Scalar.shrsi v5486 c12_i32_1640
  let c32_i32_1641 : BitVec 32 := 32#32
  let v5493 : BitVec 32 := Scalar.muli v5492 c32_i32_1641
  let v5692 : BitVec 32 := Scalar.addi v5493 c0_i32_1708
  let v5694 : Index := Scalar.indexCast v5692
  ![0, v5694.toNat]
def k0_off304 (v5486 : BitVec 32) (c0_i32_1716 : BitVec 32) : Fin 2 → Nat :=
  let c1_i32_1717 : BitVec 32 := 1#32
  let v5717 : Index := Scalar.indexCast c1_i32_1717
  let c12_i32_1640 : BitVec 32 := 12#32
  let v5492 : BitVec 32 := Scalar.shrsi v5486 c12_i32_1640
  let c32_i32_1641 : BitVec 32 := 32#32
  let v5493 : BitVec 32 := Scalar.muli v5492 c32_i32_1641
  let v5716 : BitVec 32 := Scalar.addi v5493 c0_i32_1716
  let v5718 : Index := Scalar.indexCast v5716
  ![1, v5718.toNat]
def k0_off305 (v5486 : BitVec 32) (c0_i32_1724 : BitVec 32) : Fin 2 → Nat :=
  let c2_i32_1725 : BitVec 32 := 2#32
  let v5741 : Index := Scalar.indexCast c2_i32_1725
  let c12_i32_1640 : BitVec 32 := 12#32
  let v5492 : BitVec 32 := Scalar.shrsi v5486 c12_i32_1640
  let c32_i32_1641 : BitVec 32 := 32#32
  let v5493 : BitVec 32 := Scalar.muli v5492 c32_i32_1641
  let v5740 : BitVec 32 := Scalar.addi v5493 c0_i32_1724
  let v5742 : Index := Scalar.indexCast v5740
  ![2, v5742.toNat]
def k0_off306 (v5486 : BitVec 32) (c0_i32_1732 : BitVec 32) : Fin 2 → Nat :=
  let c3_i32_1733 : BitVec 32 := 3#32
  let v5765 : Index := Scalar.indexCast c3_i32_1733
  let c12_i32_1640 : BitVec 32 := 12#32
  let v5492 : BitVec 32 := Scalar.shrsi v5486 c12_i32_1640
  let c32_i32_1641 : BitVec 32 := 32#32
  let v5493 : BitVec 32 := Scalar.muli v5492 c32_i32_1641
  let v5764 : BitVec 32 := Scalar.addi v5493 c0_i32_1732
  let v5766 : Index := Scalar.indexCast v5764
  ![3, v5766.toNat]
def k0_off307 (v5486 : BitVec 32) (c0_i32_1740 : BitVec 32) : Fin 2 → Nat :=
  let c4_i32_1741 : BitVec 32 := 4#32
  let v5789 : Index := Scalar.indexCast c4_i32_1741
  let c12_i32_1640 : BitVec 32 := 12#32
  let v5492 : BitVec 32 := Scalar.shrsi v5486 c12_i32_1640
  let c32_i32_1641 : BitVec 32 := 32#32
  let v5493 : BitVec 32 := Scalar.muli v5492 c32_i32_1641
  let v5788 : BitVec 32 := Scalar.addi v5493 c0_i32_1740
  let v5790 : Index := Scalar.indexCast v5788
  ![4, v5790.toNat]
def k0_off308 (v5486 : BitVec 32) (c0_i32_1748 : BitVec 32) : Fin 2 → Nat :=
  let c5_i32_1749 : BitVec 32 := 5#32
  let v5813 : Index := Scalar.indexCast c5_i32_1749
  let c12_i32_1640 : BitVec 32 := 12#32
  let v5492 : BitVec 32 := Scalar.shrsi v5486 c12_i32_1640
  let c32_i32_1641 : BitVec 32 := 32#32
  let v5493 : BitVec 32 := Scalar.muli v5492 c32_i32_1641
  let v5812 : BitVec 32 := Scalar.addi v5493 c0_i32_1748
  let v5814 : Index := Scalar.indexCast v5812
  ![5, v5814.toNat]
def k0_off309 (v5486 : BitVec 32) (c0_i32_1756 : BitVec 32) : Fin 2 → Nat :=
  let c6_i32_1757 : BitVec 32 := 6#32
  let v5837 : Index := Scalar.indexCast c6_i32_1757
  let c12_i32_1640 : BitVec 32 := 12#32
  let v5492 : BitVec 32 := Scalar.shrsi v5486 c12_i32_1640
  let c32_i32_1641 : BitVec 32 := 32#32
  let v5493 : BitVec 32 := Scalar.muli v5492 c32_i32_1641
  let v5836 : BitVec 32 := Scalar.addi v5493 c0_i32_1756
  let v5838 : Index := Scalar.indexCast v5836
  ![6, v5838.toNat]
def k0_off310 (v5486 : BitVec 32) (c0_i32_1764 : BitVec 32) : Fin 2 → Nat :=
  let c7_i32_1765 : BitVec 32 := 7#32
  let v5861 : Index := Scalar.indexCast c7_i32_1765
  let c12_i32_1640 : BitVec 32 := 12#32
  let v5492 : BitVec 32 := Scalar.shrsi v5486 c12_i32_1640
  let c32_i32_1641 : BitVec 32 := 32#32
  let v5493 : BitVec 32 := Scalar.muli v5492 c32_i32_1641
  let v5860 : BitVec 32 := Scalar.addi v5493 c0_i32_1764
  let v5862 : Index := Scalar.indexCast v5860
  ![7, v5862.toNat]

def k0_chk12 (v5486 : BitVec 32) : Prop :=
  (∀ (r : Fin 2), ∀ a, (k0_off287 v5486 (BitVec.ofNat 32 (16 * r.val))) a + S1x16.size a ≤ S8x2048.size a) ∧
  (∀ (r : Fin 2), ∀ a, (k0_off288 v5486 (BitVec.ofNat 32 (16 * r.val))) a + S1x16.size a ≤ S8x2048.size a) ∧
  (∀ (r : Fin 2), ∀ a, (k0_off289 v5486 (BitVec.ofNat 32 (16 * r.val))) a + S1x16.size a ≤ S8x2048.size a) ∧
  (∀ (r : Fin 2), ∀ a, (k0_off290 v5486 (BitVec.ofNat 32 (16 * r.val))) a + S1x16.size a ≤ S8x2048.size a) ∧
  (∀ (r : Fin 2), ∀ a, (k0_off291 v5486 (BitVec.ofNat 32 (16 * r.val))) a + S1x16.size a ≤ S8x2048.size a) ∧
  (∀ (r : Fin 2), ∀ a, (k0_off292 v5486 (BitVec.ofNat 32 (16 * r.val))) a + S1x16.size a ≤ S8x2048.size a) ∧
  (∀ (r : Fin 2), ∀ a, (k0_off293 v5486 (BitVec.ofNat 32 (16 * r.val))) a + S1x16.size a ≤ S8x2048.size a) ∧
  (∀ (r : Fin 2), ∀ a, (k0_off294 v5486 (BitVec.ofNat 32 (16 * r.val))) a + S1x16.size a ≤ S8x2048.size a) ∧
  (∀ (r : Fin 2), ∀ a, (k0_off295 v5486 (BitVec.ofNat 32 (16 * r.val))) a + S1x16.size a ≤ S8x2048.size a) ∧
  (∀ (r : Fin 2), ∀ a, (k0_off296 v5486 (BitVec.ofNat 32 (16 * r.val))) a + S1x16.size a ≤ S8x2048.size a) ∧
  (∀ (r : Fin 2), ∀ a, (k0_off297 v5486 (BitVec.ofNat 32 (16 * r.val))) a + S1x16.size a ≤ S8x2048.size a) ∧
  (∀ (r : Fin 2), ∀ a, (k0_off298 v5486 (BitVec.ofNat 32 (16 * r.val))) a + S1x16.size a ≤ S8x2048.size a) ∧
  (∀ (r : Fin 2), ∀ a, (k0_off299 v5486 (BitVec.ofNat 32 (16 * r.val))) a + S1x16.size a ≤ S8x2048.size a) ∧
  (∀ (r : Fin 2), ∀ a, (k0_off300 v5486 (BitVec.ofNat 32 (16 * r.val))) a + S1x16.size a ≤ S8x2048.size a) ∧
  (∀ (r : Fin 2), ∀ a, (k0_off301 v5486 (BitVec.ofNat 32 (16 * r.val))) a + S1x16.size a ≤ S8x2048.size a) ∧
  (∀ (r : Fin 2), ∀ a, (k0_off302 v5486 (BitVec.ofNat 32 (16 * r.val))) a + S1x16.size a ≤ S8x2048.size a) ∧
  (∀ (r : Fin 2), ∀ a, (k0_off303 v5486 (BitVec.ofNat 32 (16 * r.val))) a + S1x16.size a ≤ S8x2048.size a) ∧
  (∀ (r : Fin 2), ∀ a, (k0_off304 v5486 (BitVec.ofNat 32 (16 * r.val))) a + S1x16.size a ≤ S8x2048.size a) ∧
  (∀ (r : Fin 2), ∀ a, (k0_off305 v5486 (BitVec.ofNat 32 (16 * r.val))) a + S1x16.size a ≤ S8x2048.size a) ∧
  (∀ (r : Fin 2), ∀ a, (k0_off306 v5486 (BitVec.ofNat 32 (16 * r.val))) a + S1x16.size a ≤ S8x2048.size a) ∧
  (∀ (r : Fin 2), ∀ a, (k0_off307 v5486 (BitVec.ofNat 32 (16 * r.val))) a + S1x16.size a ≤ S8x2048.size a) ∧
  (∀ (r : Fin 2), ∀ a, (k0_off308 v5486 (BitVec.ofNat 32 (16 * r.val))) a + S1x16.size a ≤ S8x2048.size a) ∧
  (∀ (r : Fin 2), ∀ a, (k0_off309 v5486 (BitVec.ofNat 32 (16 * r.val))) a + S1x16.size a ≤ S8x2048.size a) ∧
  (∀ (r : Fin 2), ∀ a, (k0_off310 v5486 (BitVec.ofNat 32 (16 * r.val))) a + S1x16.size a ≤ S8x2048.size a)
theorem k0_off287_inb : ∀ (v5486 : BitVec 32) (k0_hw12 : k0_chk12 v5486), ∀ (r : Fin 2), ∀ a, (k0_off287 v5486 (BitVec.ofNat 32 (16 * r.val))) a + S1x16.size a ≤ S8x2048.size a := fun v5486 k0_hw12 r => k0_hw12.1 r
theorem k0_off288_inb : ∀ (v5486 : BitVec 32) (k0_hw12 : k0_chk12 v5486), ∀ (r : Fin 2), ∀ a, (k0_off288 v5486 (BitVec.ofNat 32 (16 * r.val))) a + S1x16.size a ≤ S8x2048.size a := fun v5486 k0_hw12 r => k0_hw12.2.1 r
theorem k0_off289_inb : ∀ (v5486 : BitVec 32) (k0_hw12 : k0_chk12 v5486), ∀ (r : Fin 2), ∀ a, (k0_off289 v5486 (BitVec.ofNat 32 (16 * r.val))) a + S1x16.size a ≤ S8x2048.size a := fun v5486 k0_hw12 r => k0_hw12.2.2.1 r
theorem k0_off290_inb : ∀ (v5486 : BitVec 32) (k0_hw12 : k0_chk12 v5486), ∀ (r : Fin 2), ∀ a, (k0_off290 v5486 (BitVec.ofNat 32 (16 * r.val))) a + S1x16.size a ≤ S8x2048.size a := fun v5486 k0_hw12 r => k0_hw12.2.2.2.1 r
theorem k0_off291_inb : ∀ (v5486 : BitVec 32) (k0_hw12 : k0_chk12 v5486), ∀ (r : Fin 2), ∀ a, (k0_off291 v5486 (BitVec.ofNat 32 (16 * r.val))) a + S1x16.size a ≤ S8x2048.size a := fun v5486 k0_hw12 r => k0_hw12.2.2.2.2.1 r
theorem k0_off292_inb : ∀ (v5486 : BitVec 32) (k0_hw12 : k0_chk12 v5486), ∀ (r : Fin 2), ∀ a, (k0_off292 v5486 (BitVec.ofNat 32 (16 * r.val))) a + S1x16.size a ≤ S8x2048.size a := fun v5486 k0_hw12 r => k0_hw12.2.2.2.2.2.1 r
theorem k0_off293_inb : ∀ (v5486 : BitVec 32) (k0_hw12 : k0_chk12 v5486), ∀ (r : Fin 2), ∀ a, (k0_off293 v5486 (BitVec.ofNat 32 (16 * r.val))) a + S1x16.size a ≤ S8x2048.size a := fun v5486 k0_hw12 r => k0_hw12.2.2.2.2.2.2.1 r
theorem k0_off294_inb : ∀ (v5486 : BitVec 32) (k0_hw12 : k0_chk12 v5486), ∀ (r : Fin 2), ∀ a, (k0_off294 v5486 (BitVec.ofNat 32 (16 * r.val))) a + S1x16.size a ≤ S8x2048.size a := fun v5486 k0_hw12 r => k0_hw12.2.2.2.2.2.2.2.1 r
theorem k0_off295_inb : ∀ (v5486 : BitVec 32) (k0_hw12 : k0_chk12 v5486), ∀ (r : Fin 2), ∀ a, (k0_off295 v5486 (BitVec.ofNat 32 (16 * r.val))) a + S1x16.size a ≤ S8x2048.size a := fun v5486 k0_hw12 r => k0_hw12.2.2.2.2.2.2.2.2.1 r
theorem k0_off296_inb : ∀ (v5486 : BitVec 32) (k0_hw12 : k0_chk12 v5486), ∀ (r : Fin 2), ∀ a, (k0_off296 v5486 (BitVec.ofNat 32 (16 * r.val))) a + S1x16.size a ≤ S8x2048.size a := fun v5486 k0_hw12 r => k0_hw12.2.2.2.2.2.2.2.2.2.1 r
theorem k0_off297_inb : ∀ (v5486 : BitVec 32) (k0_hw12 : k0_chk12 v5486), ∀ (r : Fin 2), ∀ a, (k0_off297 v5486 (BitVec.ofNat 32 (16 * r.val))) a + S1x16.size a ≤ S8x2048.size a := fun v5486 k0_hw12 r => k0_hw12.2.2.2.2.2.2.2.2.2.2.1 r
theorem k0_off298_inb : ∀ (v5486 : BitVec 32) (k0_hw12 : k0_chk12 v5486), ∀ (r : Fin 2), ∀ a, (k0_off298 v5486 (BitVec.ofNat 32 (16 * r.val))) a + S1x16.size a ≤ S8x2048.size a := fun v5486 k0_hw12 r => k0_hw12.2.2.2.2.2.2.2.2.2.2.2.1 r
theorem k0_off299_inb : ∀ (v5486 : BitVec 32) (k0_hw12 : k0_chk12 v5486), ∀ (r : Fin 2), ∀ a, (k0_off299 v5486 (BitVec.ofNat 32 (16 * r.val))) a + S1x16.size a ≤ S8x2048.size a := fun v5486 k0_hw12 r => k0_hw12.2.2.2.2.2.2.2.2.2.2.2.2.1 r
theorem k0_off300_inb : ∀ (v5486 : BitVec 32) (k0_hw12 : k0_chk12 v5486), ∀ (r : Fin 2), ∀ a, (k0_off300 v5486 (BitVec.ofNat 32 (16 * r.val))) a + S1x16.size a ≤ S8x2048.size a := fun v5486 k0_hw12 r => k0_hw12.2.2.2.2.2.2.2.2.2.2.2.2.2.1 r
theorem k0_off301_inb : ∀ (v5486 : BitVec 32) (k0_hw12 : k0_chk12 v5486), ∀ (r : Fin 2), ∀ a, (k0_off301 v5486 (BitVec.ofNat 32 (16 * r.val))) a + S1x16.size a ≤ S8x2048.size a := fun v5486 k0_hw12 r => k0_hw12.2.2.2.2.2.2.2.2.2.2.2.2.2.2.1 r
theorem k0_off302_inb : ∀ (v5486 : BitVec 32) (k0_hw12 : k0_chk12 v5486), ∀ (r : Fin 2), ∀ a, (k0_off302 v5486 (BitVec.ofNat 32 (16 * r.val))) a + S1x16.size a ≤ S8x2048.size a := fun v5486 k0_hw12 r => k0_hw12.2.2.2.2.2.2.2.2.2.2.2.2.2.2.2.1 r
theorem k0_off303_inb : ∀ (v5486 : BitVec 32) (k0_hw12 : k0_chk12 v5486), ∀ (r : Fin 2), ∀ a, (k0_off303 v5486 (BitVec.ofNat 32 (16 * r.val))) a + S1x16.size a ≤ S8x2048.size a := fun v5486 k0_hw12 r => k0_hw12.2.2.2.2.2.2.2.2.2.2.2.2.2.2.2.2.1 r
theorem k0_off304_inb : ∀ (v5486 : BitVec 32) (k0_hw12 : k0_chk12 v5486), ∀ (r : Fin 2), ∀ a, (k0_off304 v5486 (BitVec.ofNat 32 (16 * r.val))) a + S1x16.size a ≤ S8x2048.size a := fun v5486 k0_hw12 r => k0_hw12.2.2.2.2.2.2.2.2.2.2.2.2.2.2.2.2.2.1 r
theorem k0_off305_inb : ∀ (v5486 : BitVec 32) (k0_hw12 : k0_chk12 v5486), ∀ (r : Fin 2), ∀ a, (k0_off305 v5486 (BitVec.ofNat 32 (16 * r.val))) a + S1x16.size a ≤ S8x2048.size a := fun v5486 k0_hw12 r => k0_hw12.2.2.2.2.2.2.2.2.2.2.2.2.2.2.2.2.2.2.1 r
theorem k0_off306_inb : ∀ (v5486 : BitVec 32) (k0_hw12 : k0_chk12 v5486), ∀ (r : Fin 2), ∀ a, (k0_off306 v5486 (BitVec.ofNat 32 (16 * r.val))) a + S1x16.size a ≤ S8x2048.size a := fun v5486 k0_hw12 r => k0_hw12.2.2.2.2.2.2.2.2.2.2.2.2.2.2.2.2.2.2.2.1 r
theorem k0_off307_inb : ∀ (v5486 : BitVec 32) (k0_hw12 : k0_chk12 v5486), ∀ (r : Fin 2), ∀ a, (k0_off307 v5486 (BitVec.ofNat 32 (16 * r.val))) a + S1x16.size a ≤ S8x2048.size a := fun v5486 k0_hw12 r => k0_hw12.2.2.2.2.2.2.2.2.2.2.2.2.2.2.2.2.2.2.2.2.1 r
theorem k0_off308_inb : ∀ (v5486 : BitVec 32) (k0_hw12 : k0_chk12 v5486), ∀ (r : Fin 2), ∀ a, (k0_off308 v5486 (BitVec.ofNat 32 (16 * r.val))) a + S1x16.size a ≤ S8x2048.size a := fun v5486 k0_hw12 r => k0_hw12.2.2.2.2.2.2.2.2.2.2.2.2.2.2.2.2.2.2.2.2.2.1 r
theorem k0_off309_inb : ∀ (v5486 : BitVec 32) (k0_hw12 : k0_chk12 v5486), ∀ (r : Fin 2), ∀ a, (k0_off309 v5486 (BitVec.ofNat 32 (16 * r.val))) a + S1x16.size a ≤ S8x2048.size a := fun v5486 k0_hw12 r => k0_hw12.2.2.2.2.2.2.2.2.2.2.2.2.2.2.2.2.2.2.2.2.2.2.1 r
theorem k0_off310_inb : ∀ (v5486 : BitVec 32) (k0_hw12 : k0_chk12 v5486), ∀ (r : Fin 2), ∀ a, (k0_off310 v5486 (BitVec.ofNat 32 (16 * r.val))) a + S1x16.size a ≤ S8x2048.size a := fun v5486 k0_hw12 r => k0_hw12.2.2.2.2.2.2.2.2.2.2.2.2.2.2.2.2.2.2.2.2.2.2.2 r

def k0_off311 (k0_t3 : Fin k0_t3_loop.trips) : Fin 1 → Nat :=
  let c0_i32_90 : BitVec 32 := 0#32
  let c1_i32_92 : BitVec 32 := 1#32
  let arg28 : BitVec 32 := Scf.iv c0_i32_90 c1_i32_92 k0_t3
  let c16_i32_1779 : BitVec 32 := 16#32
  let v5893 : BitVec 32 := Scalar.muli arg28 c16_i32_1779
  let c12_i32_1780 : BitVec 32 := 12#32
  let v5894 : BitVec 32 := Scalar.addi v5893 c12_i32_1780
  let c16_i32_1781 : BitVec 32 := 16#32
  let v5895 : BitVec 32 := Scalar.muli v5894 c16_i32_1781
  let v5896 : Index := Scalar.indexCast v5895
  ![v5896.toNat]
def k0_off312 (v5885 : BitVec 32) (c0_i32_1782 : BitVec 32) : Fin 2 → Nat :=
  let c0_i32_1783 : BitVec 32 := 0#32
  let v5900 : Index := Scalar.indexCast c0_i32_1783
  let c63_i32_1772 : BitVec 32 := 63#32
  let v5886 : BitVec 32 := Scalar.andi v5885 c63_i32_1772
  let c32_i32_1773 : BitVec 32 := 32#32
  let v5887 : BitVec 32 := Scalar.muli v5886 c32_i32_1773
  let v5899 : BitVec 32 := Scalar.addi v5887 c0_i32_1782
  let v5901 : Index := Scalar.indexCast v5899
  ![0, v5901.toNat]

def k0_off313 (v5885 : BitVec 32) (c0_i32_1786 : BitVec 32) : Fin 2 → Nat :=
  let c1_i32_1787 : BitVec 32 := 1#32
  let v5910 : Index := Scalar.indexCast c1_i32_1787
  let c63_i32_1772 : BitVec 32 := 63#32
  let v5886 : BitVec 32 := Scalar.andi v5885 c63_i32_1772
  let c32_i32_1773 : BitVec 32 := 32#32
  let v5887 : BitVec 32 := Scalar.muli v5886 c32_i32_1773
  let v5909 : BitVec 32 := Scalar.addi v5887 c0_i32_1786
  let v5911 : Index := Scalar.indexCast v5909
  ![1, v5911.toNat]
def k0_off314 (v5885 : BitVec 32) (c0_i32_1790 : BitVec 32) : Fin 2 → Nat :=
  let c2_i32_1791 : BitVec 32 := 2#32
  let v5920 : Index := Scalar.indexCast c2_i32_1791
  let c63_i32_1772 : BitVec 32 := 63#32
  let v5886 : BitVec 32 := Scalar.andi v5885 c63_i32_1772
  let c32_i32_1773 : BitVec 32 := 32#32
  let v5887 : BitVec 32 := Scalar.muli v5886 c32_i32_1773
  let v5919 : BitVec 32 := Scalar.addi v5887 c0_i32_1790
  let v5921 : Index := Scalar.indexCast v5919
  ![2, v5921.toNat]
def k0_off315 (v5885 : BitVec 32) (c0_i32_1794 : BitVec 32) : Fin 2 → Nat :=
  let c3_i32_1795 : BitVec 32 := 3#32
  let v5930 : Index := Scalar.indexCast c3_i32_1795
  let c63_i32_1772 : BitVec 32 := 63#32
  let v5886 : BitVec 32 := Scalar.andi v5885 c63_i32_1772
  let c32_i32_1773 : BitVec 32 := 32#32
  let v5887 : BitVec 32 := Scalar.muli v5886 c32_i32_1773
  let v5929 : BitVec 32 := Scalar.addi v5887 c0_i32_1794
  let v5931 : Index := Scalar.indexCast v5929
  ![3, v5931.toNat]
def k0_off316 (v5885 : BitVec 32) (c0_i32_1798 : BitVec 32) : Fin 2 → Nat :=
  let c4_i32_1799 : BitVec 32 := 4#32
  let v5940 : Index := Scalar.indexCast c4_i32_1799
  let c63_i32_1772 : BitVec 32 := 63#32
  let v5886 : BitVec 32 := Scalar.andi v5885 c63_i32_1772
  let c32_i32_1773 : BitVec 32 := 32#32
  let v5887 : BitVec 32 := Scalar.muli v5886 c32_i32_1773
  let v5939 : BitVec 32 := Scalar.addi v5887 c0_i32_1798
  let v5941 : Index := Scalar.indexCast v5939
  ![4, v5941.toNat]
def k0_off317 (v5885 : BitVec 32) (c0_i32_1802 : BitVec 32) : Fin 2 → Nat :=
  let c5_i32_1803 : BitVec 32 := 5#32
  let v5950 : Index := Scalar.indexCast c5_i32_1803
  let c63_i32_1772 : BitVec 32 := 63#32
  let v5886 : BitVec 32 := Scalar.andi v5885 c63_i32_1772
  let c32_i32_1773 : BitVec 32 := 32#32
  let v5887 : BitVec 32 := Scalar.muli v5886 c32_i32_1773
  let v5949 : BitVec 32 := Scalar.addi v5887 c0_i32_1802
  let v5951 : Index := Scalar.indexCast v5949
  ![5, v5951.toNat]
def k0_off318 (v5885 : BitVec 32) (c0_i32_1806 : BitVec 32) : Fin 2 → Nat :=
  let c6_i32_1807 : BitVec 32 := 6#32
  let v5960 : Index := Scalar.indexCast c6_i32_1807
  let c63_i32_1772 : BitVec 32 := 63#32
  let v5886 : BitVec 32 := Scalar.andi v5885 c63_i32_1772
  let c32_i32_1773 : BitVec 32 := 32#32
  let v5887 : BitVec 32 := Scalar.muli v5886 c32_i32_1773
  let v5959 : BitVec 32 := Scalar.addi v5887 c0_i32_1806
  let v5961 : Index := Scalar.indexCast v5959
  ![6, v5961.toNat]
def k0_off319 (v5885 : BitVec 32) (c0_i32_1810 : BitVec 32) : Fin 2 → Nat :=
  let c7_i32_1811 : BitVec 32 := 7#32
  let v5970 : Index := Scalar.indexCast c7_i32_1811
  let c63_i32_1772 : BitVec 32 := 63#32
  let v5886 : BitVec 32 := Scalar.andi v5885 c63_i32_1772
  let c32_i32_1773 : BitVec 32 := 32#32
  let v5887 : BitVec 32 := Scalar.muli v5886 c32_i32_1773
  let v5969 : BitVec 32 := Scalar.addi v5887 c0_i32_1810
  let v5971 : Index := Scalar.indexCast v5969
  ![7, v5971.toNat]
def k0_off320 (v5885 : BitVec 32) (c0_i32_1814 : BitVec 32) : Fin 2 → Nat :=
  let c0_i32_1815 : BitVec 32 := 0#32
  let v5980 : Index := Scalar.indexCast c0_i32_1815
  let c6_i32_1774 : BitVec 32 := 6#32
  let v5888 : BitVec 32 := Scalar.shrsi v5885 c6_i32_1774
  let c63_i32_1775 : BitVec 32 := 63#32
  let v5889 : BitVec 32 := Scalar.andi v5888 c63_i32_1775
  let c32_i32_1776 : BitVec 32 := 32#32
  let v5890 : BitVec 32 := Scalar.muli v5889 c32_i32_1776
  let v5979 : BitVec 32 := Scalar.addi v5890 c0_i32_1814
  let v5981 : Index := Scalar.indexCast v5979
  ![0, v5981.toNat]
def k0_off321 (v5885 : BitVec 32) (c0_i32_1818 : BitVec 32) : Fin 2 → Nat :=
  let c1_i32_1819 : BitVec 32 := 1#32
  let v5990 : Index := Scalar.indexCast c1_i32_1819
  let c6_i32_1774 : BitVec 32 := 6#32
  let v5888 : BitVec 32 := Scalar.shrsi v5885 c6_i32_1774
  let c63_i32_1775 : BitVec 32 := 63#32
  let v5889 : BitVec 32 := Scalar.andi v5888 c63_i32_1775
  let c32_i32_1776 : BitVec 32 := 32#32
  let v5890 : BitVec 32 := Scalar.muli v5889 c32_i32_1776
  let v5989 : BitVec 32 := Scalar.addi v5890 c0_i32_1818
  let v5991 : Index := Scalar.indexCast v5989
  ![1, v5991.toNat]
def k0_off322 (v5885 : BitVec 32) (c0_i32_1822 : BitVec 32) : Fin 2 → Nat :=
  let c2_i32_1823 : BitVec 32 := 2#32
  let v6000 : Index := Scalar.indexCast c2_i32_1823
  let c6_i32_1774 : BitVec 32 := 6#32
  let v5888 : BitVec 32 := Scalar.shrsi v5885 c6_i32_1774
  let c63_i32_1775 : BitVec 32 := 63#32
  let v5889 : BitVec 32 := Scalar.andi v5888 c63_i32_1775
  let c32_i32_1776 : BitVec 32 := 32#32
  let v5890 : BitVec 32 := Scalar.muli v5889 c32_i32_1776
  let v5999 : BitVec 32 := Scalar.addi v5890 c0_i32_1822
  let v6001 : Index := Scalar.indexCast v5999
  ![2, v6001.toNat]
def k0_off323 (v5885 : BitVec 32) (c0_i32_1826 : BitVec 32) : Fin 2 → Nat :=
  let c3_i32_1827 : BitVec 32 := 3#32
  let v6010 : Index := Scalar.indexCast c3_i32_1827
  let c6_i32_1774 : BitVec 32 := 6#32
  let v5888 : BitVec 32 := Scalar.shrsi v5885 c6_i32_1774
  let c63_i32_1775 : BitVec 32 := 63#32
  let v5889 : BitVec 32 := Scalar.andi v5888 c63_i32_1775
  let c32_i32_1776 : BitVec 32 := 32#32
  let v5890 : BitVec 32 := Scalar.muli v5889 c32_i32_1776
  let v6009 : BitVec 32 := Scalar.addi v5890 c0_i32_1826
  let v6011 : Index := Scalar.indexCast v6009
  ![3, v6011.toNat]
def k0_off324 (v5885 : BitVec 32) (c0_i32_1830 : BitVec 32) : Fin 2 → Nat :=
  let c4_i32_1831 : BitVec 32 := 4#32
  let v6020 : Index := Scalar.indexCast c4_i32_1831
  let c6_i32_1774 : BitVec 32 := 6#32
  let v5888 : BitVec 32 := Scalar.shrsi v5885 c6_i32_1774
  let c63_i32_1775 : BitVec 32 := 63#32
  let v5889 : BitVec 32 := Scalar.andi v5888 c63_i32_1775
  let c32_i32_1776 : BitVec 32 := 32#32
  let v5890 : BitVec 32 := Scalar.muli v5889 c32_i32_1776
  let v6019 : BitVec 32 := Scalar.addi v5890 c0_i32_1830
  let v6021 : Index := Scalar.indexCast v6019
  ![4, v6021.toNat]
def k0_off325 (v5885 : BitVec 32) (c0_i32_1834 : BitVec 32) : Fin 2 → Nat :=
  let c5_i32_1835 : BitVec 32 := 5#32
  let v6030 : Index := Scalar.indexCast c5_i32_1835
  let c6_i32_1774 : BitVec 32 := 6#32
  let v5888 : BitVec 32 := Scalar.shrsi v5885 c6_i32_1774
  let c63_i32_1775 : BitVec 32 := 63#32
  let v5889 : BitVec 32 := Scalar.andi v5888 c63_i32_1775
  let c32_i32_1776 : BitVec 32 := 32#32
  let v5890 : BitVec 32 := Scalar.muli v5889 c32_i32_1776
  let v6029 : BitVec 32 := Scalar.addi v5890 c0_i32_1834
  let v6031 : Index := Scalar.indexCast v6029
  ![5, v6031.toNat]
def k0_off326 (v5885 : BitVec 32) (c0_i32_1838 : BitVec 32) : Fin 2 → Nat :=
  let c6_i32_1839 : BitVec 32 := 6#32
  let v6040 : Index := Scalar.indexCast c6_i32_1839
  let c6_i32_1774 : BitVec 32 := 6#32
  let v5888 : BitVec 32 := Scalar.shrsi v5885 c6_i32_1774
  let c63_i32_1775 : BitVec 32 := 63#32
  let v5889 : BitVec 32 := Scalar.andi v5888 c63_i32_1775
  let c32_i32_1776 : BitVec 32 := 32#32
  let v5890 : BitVec 32 := Scalar.muli v5889 c32_i32_1776
  let v6039 : BitVec 32 := Scalar.addi v5890 c0_i32_1838
  let v6041 : Index := Scalar.indexCast v6039
  ![6, v6041.toNat]
def k0_off327 (v5885 : BitVec 32) (c0_i32_1842 : BitVec 32) : Fin 2 → Nat :=
  let c7_i32_1843 : BitVec 32 := 7#32
  let v6050 : Index := Scalar.indexCast c7_i32_1843
  let c6_i32_1774 : BitVec 32 := 6#32
  let v5888 : BitVec 32 := Scalar.shrsi v5885 c6_i32_1774
  let c63_i32_1775 : BitVec 32 := 63#32
  let v5889 : BitVec 32 := Scalar.andi v5888 c63_i32_1775
  let c32_i32_1776 : BitVec 32 := 32#32
  let v5890 : BitVec 32 := Scalar.muli v5889 c32_i32_1776
  let v6049 : BitVec 32 := Scalar.addi v5890 c0_i32_1842
  let v6051 : Index := Scalar.indexCast v6049
  ![7, v6051.toNat]
def k0_off328 (v5885 : BitVec 32) (c0_i32_1846 : BitVec 32) : Fin 2 → Nat :=
  let c0_i32_1847 : BitVec 32 := 0#32
  let v6092 : Index := Scalar.indexCast c0_i32_1847
  let c12_i32_1777 : BitVec 32 := 12#32
  let v5891 : BitVec 32 := Scalar.shrsi v5885 c12_i32_1777
  let c32_i32_1778 : BitVec 32 := 32#32
  let v5892 : BitVec 32 := Scalar.muli v5891 c32_i32_1778
  let v6091 : BitVec 32 := Scalar.addi v5892 c0_i32_1846
  let v6093 : Index := Scalar.indexCast v6091
  ![0, v6093.toNat]
def k0_off329 (v5885 : BitVec 32) (c0_i32_1854 : BitVec 32) : Fin 2 → Nat :=
  let c1_i32_1855 : BitVec 32 := 1#32
  let v6116 : Index := Scalar.indexCast c1_i32_1855
  let c12_i32_1777 : BitVec 32 := 12#32
  let v5891 : BitVec 32 := Scalar.shrsi v5885 c12_i32_1777
  let c32_i32_1778 : BitVec 32 := 32#32
  let v5892 : BitVec 32 := Scalar.muli v5891 c32_i32_1778
  let v6115 : BitVec 32 := Scalar.addi v5892 c0_i32_1854
  let v6117 : Index := Scalar.indexCast v6115
  ![1, v6117.toNat]
def k0_off330 (v5885 : BitVec 32) (c0_i32_1862 : BitVec 32) : Fin 2 → Nat :=
  let c2_i32_1863 : BitVec 32 := 2#32
  let v6140 : Index := Scalar.indexCast c2_i32_1863
  let c12_i32_1777 : BitVec 32 := 12#32
  let v5891 : BitVec 32 := Scalar.shrsi v5885 c12_i32_1777
  let c32_i32_1778 : BitVec 32 := 32#32
  let v5892 : BitVec 32 := Scalar.muli v5891 c32_i32_1778
  let v6139 : BitVec 32 := Scalar.addi v5892 c0_i32_1862
  let v6141 : Index := Scalar.indexCast v6139
  ![2, v6141.toNat]
def k0_off331 (v5885 : BitVec 32) (c0_i32_1870 : BitVec 32) : Fin 2 → Nat :=
  let c3_i32_1871 : BitVec 32 := 3#32
  let v6164 : Index := Scalar.indexCast c3_i32_1871
  let c12_i32_1777 : BitVec 32 := 12#32
  let v5891 : BitVec 32 := Scalar.shrsi v5885 c12_i32_1777
  let c32_i32_1778 : BitVec 32 := 32#32
  let v5892 : BitVec 32 := Scalar.muli v5891 c32_i32_1778
  let v6163 : BitVec 32 := Scalar.addi v5892 c0_i32_1870
  let v6165 : Index := Scalar.indexCast v6163
  ![3, v6165.toNat]
def k0_off332 (v5885 : BitVec 32) (c0_i32_1878 : BitVec 32) : Fin 2 → Nat :=
  let c4_i32_1879 : BitVec 32 := 4#32
  let v6188 : Index := Scalar.indexCast c4_i32_1879
  let c12_i32_1777 : BitVec 32 := 12#32
  let v5891 : BitVec 32 := Scalar.shrsi v5885 c12_i32_1777
  let c32_i32_1778 : BitVec 32 := 32#32
  let v5892 : BitVec 32 := Scalar.muli v5891 c32_i32_1778
  let v6187 : BitVec 32 := Scalar.addi v5892 c0_i32_1878
  let v6189 : Index := Scalar.indexCast v6187
  ![4, v6189.toNat]
def k0_off333 (v5885 : BitVec 32) (c0_i32_1886 : BitVec 32) : Fin 2 → Nat :=
  let c5_i32_1887 : BitVec 32 := 5#32
  let v6212 : Index := Scalar.indexCast c5_i32_1887
  let c12_i32_1777 : BitVec 32 := 12#32
  let v5891 : BitVec 32 := Scalar.shrsi v5885 c12_i32_1777
  let c32_i32_1778 : BitVec 32 := 32#32
  let v5892 : BitVec 32 := Scalar.muli v5891 c32_i32_1778
  let v6211 : BitVec 32 := Scalar.addi v5892 c0_i32_1886
  let v6213 : Index := Scalar.indexCast v6211
  ![5, v6213.toNat]
def k0_off334 (v5885 : BitVec 32) (c0_i32_1894 : BitVec 32) : Fin 2 → Nat :=
  let c6_i32_1895 : BitVec 32 := 6#32
  let v6236 : Index := Scalar.indexCast c6_i32_1895
  let c12_i32_1777 : BitVec 32 := 12#32
  let v5891 : BitVec 32 := Scalar.shrsi v5885 c12_i32_1777
  let c32_i32_1778 : BitVec 32 := 32#32
  let v5892 : BitVec 32 := Scalar.muli v5891 c32_i32_1778
  let v6235 : BitVec 32 := Scalar.addi v5892 c0_i32_1894
  let v6237 : Index := Scalar.indexCast v6235
  ![6, v6237.toNat]
def k0_off335 (v5885 : BitVec 32) (c0_i32_1902 : BitVec 32) : Fin 2 → Nat :=
  let c7_i32_1903 : BitVec 32 := 7#32
  let v6260 : Index := Scalar.indexCast c7_i32_1903
  let c12_i32_1777 : BitVec 32 := 12#32
  let v5891 : BitVec 32 := Scalar.shrsi v5885 c12_i32_1777
  let c32_i32_1778 : BitVec 32 := 32#32
  let v5892 : BitVec 32 := Scalar.muli v5891 c32_i32_1778
  let v6259 : BitVec 32 := Scalar.addi v5892 c0_i32_1902
  let v6261 : Index := Scalar.indexCast v6259
  ![7, v6261.toNat]

def k0_chk13 (v5885 : BitVec 32) : Prop :=
  (∀ (r : Fin 2), ∀ a, (k0_off312 v5885 (BitVec.ofNat 32 (16 * r.val))) a + S1x16.size a ≤ S8x2048.size a) ∧
  (∀ (r : Fin 2), ∀ a, (k0_off313 v5885 (BitVec.ofNat 32 (16 * r.val))) a + S1x16.size a ≤ S8x2048.size a) ∧
  (∀ (r : Fin 2), ∀ a, (k0_off314 v5885 (BitVec.ofNat 32 (16 * r.val))) a + S1x16.size a ≤ S8x2048.size a) ∧
  (∀ (r : Fin 2), ∀ a, (k0_off315 v5885 (BitVec.ofNat 32 (16 * r.val))) a + S1x16.size a ≤ S8x2048.size a) ∧
  (∀ (r : Fin 2), ∀ a, (k0_off316 v5885 (BitVec.ofNat 32 (16 * r.val))) a + S1x16.size a ≤ S8x2048.size a) ∧
  (∀ (r : Fin 2), ∀ a, (k0_off317 v5885 (BitVec.ofNat 32 (16 * r.val))) a + S1x16.size a ≤ S8x2048.size a) ∧
  (∀ (r : Fin 2), ∀ a, (k0_off318 v5885 (BitVec.ofNat 32 (16 * r.val))) a + S1x16.size a ≤ S8x2048.size a) ∧
  (∀ (r : Fin 2), ∀ a, (k0_off319 v5885 (BitVec.ofNat 32 (16 * r.val))) a + S1x16.size a ≤ S8x2048.size a) ∧
  (∀ (r : Fin 2), ∀ a, (k0_off320 v5885 (BitVec.ofNat 32 (16 * r.val))) a + S1x16.size a ≤ S8x2048.size a) ∧
  (∀ (r : Fin 2), ∀ a, (k0_off321 v5885 (BitVec.ofNat 32 (16 * r.val))) a + S1x16.size a ≤ S8x2048.size a) ∧
  (∀ (r : Fin 2), ∀ a, (k0_off322 v5885 (BitVec.ofNat 32 (16 * r.val))) a + S1x16.size a ≤ S8x2048.size a) ∧
  (∀ (r : Fin 2), ∀ a, (k0_off323 v5885 (BitVec.ofNat 32 (16 * r.val))) a + S1x16.size a ≤ S8x2048.size a) ∧
  (∀ (r : Fin 2), ∀ a, (k0_off324 v5885 (BitVec.ofNat 32 (16 * r.val))) a + S1x16.size a ≤ S8x2048.size a) ∧
  (∀ (r : Fin 2), ∀ a, (k0_off325 v5885 (BitVec.ofNat 32 (16 * r.val))) a + S1x16.size a ≤ S8x2048.size a) ∧
  (∀ (r : Fin 2), ∀ a, (k0_off326 v5885 (BitVec.ofNat 32 (16 * r.val))) a + S1x16.size a ≤ S8x2048.size a) ∧
  (∀ (r : Fin 2), ∀ a, (k0_off327 v5885 (BitVec.ofNat 32 (16 * r.val))) a + S1x16.size a ≤ S8x2048.size a) ∧
  (∀ (r : Fin 2), ∀ a, (k0_off328 v5885 (BitVec.ofNat 32 (16 * r.val))) a + S1x16.size a ≤ S8x2048.size a) ∧
  (∀ (r : Fin 2), ∀ a, (k0_off329 v5885 (BitVec.ofNat 32 (16 * r.val))) a + S1x16.size a ≤ S8x2048.size a) ∧
  (∀ (r : Fin 2), ∀ a, (k0_off330 v5885 (BitVec.ofNat 32 (16 * r.val))) a + S1x16.size a ≤ S8x2048.size a) ∧
  (∀ (r : Fin 2), ∀ a, (k0_off331 v5885 (BitVec.ofNat 32 (16 * r.val))) a + S1x16.size a ≤ S8x2048.size a) ∧
  (∀ (r : Fin 2), ∀ a, (k0_off332 v5885 (BitVec.ofNat 32 (16 * r.val))) a + S1x16.size a ≤ S8x2048.size a) ∧
  (∀ (r : Fin 2), ∀ a, (k0_off333 v5885 (BitVec.ofNat 32 (16 * r.val))) a + S1x16.size a ≤ S8x2048.size a) ∧
  (∀ (r : Fin 2), ∀ a, (k0_off334 v5885 (BitVec.ofNat 32 (16 * r.val))) a + S1x16.size a ≤ S8x2048.size a) ∧
  (∀ (r : Fin 2), ∀ a, (k0_off335 v5885 (BitVec.ofNat 32 (16 * r.val))) a + S1x16.size a ≤ S8x2048.size a)
theorem k0_off312_inb : ∀ (v5885 : BitVec 32) (k0_hw13 : k0_chk13 v5885), ∀ (r : Fin 2), ∀ a, (k0_off312 v5885 (BitVec.ofNat 32 (16 * r.val))) a + S1x16.size a ≤ S8x2048.size a := fun v5885 k0_hw13 r => k0_hw13.1 r
theorem k0_off313_inb : ∀ (v5885 : BitVec 32) (k0_hw13 : k0_chk13 v5885), ∀ (r : Fin 2), ∀ a, (k0_off313 v5885 (BitVec.ofNat 32 (16 * r.val))) a + S1x16.size a ≤ S8x2048.size a := fun v5885 k0_hw13 r => k0_hw13.2.1 r
theorem k0_off314_inb : ∀ (v5885 : BitVec 32) (k0_hw13 : k0_chk13 v5885), ∀ (r : Fin 2), ∀ a, (k0_off314 v5885 (BitVec.ofNat 32 (16 * r.val))) a + S1x16.size a ≤ S8x2048.size a := fun v5885 k0_hw13 r => k0_hw13.2.2.1 r
theorem k0_off315_inb : ∀ (v5885 : BitVec 32) (k0_hw13 : k0_chk13 v5885), ∀ (r : Fin 2), ∀ a, (k0_off315 v5885 (BitVec.ofNat 32 (16 * r.val))) a + S1x16.size a ≤ S8x2048.size a := fun v5885 k0_hw13 r => k0_hw13.2.2.2.1 r
theorem k0_off316_inb : ∀ (v5885 : BitVec 32) (k0_hw13 : k0_chk13 v5885), ∀ (r : Fin 2), ∀ a, (k0_off316 v5885 (BitVec.ofNat 32 (16 * r.val))) a + S1x16.size a ≤ S8x2048.size a := fun v5885 k0_hw13 r => k0_hw13.2.2.2.2.1 r
theorem k0_off317_inb : ∀ (v5885 : BitVec 32) (k0_hw13 : k0_chk13 v5885), ∀ (r : Fin 2), ∀ a, (k0_off317 v5885 (BitVec.ofNat 32 (16 * r.val))) a + S1x16.size a ≤ S8x2048.size a := fun v5885 k0_hw13 r => k0_hw13.2.2.2.2.2.1 r
theorem k0_off318_inb : ∀ (v5885 : BitVec 32) (k0_hw13 : k0_chk13 v5885), ∀ (r : Fin 2), ∀ a, (k0_off318 v5885 (BitVec.ofNat 32 (16 * r.val))) a + S1x16.size a ≤ S8x2048.size a := fun v5885 k0_hw13 r => k0_hw13.2.2.2.2.2.2.1 r
theorem k0_off319_inb : ∀ (v5885 : BitVec 32) (k0_hw13 : k0_chk13 v5885), ∀ (r : Fin 2), ∀ a, (k0_off319 v5885 (BitVec.ofNat 32 (16 * r.val))) a + S1x16.size a ≤ S8x2048.size a := fun v5885 k0_hw13 r => k0_hw13.2.2.2.2.2.2.2.1 r
theorem k0_off320_inb : ∀ (v5885 : BitVec 32) (k0_hw13 : k0_chk13 v5885), ∀ (r : Fin 2), ∀ a, (k0_off320 v5885 (BitVec.ofNat 32 (16 * r.val))) a + S1x16.size a ≤ S8x2048.size a := fun v5885 k0_hw13 r => k0_hw13.2.2.2.2.2.2.2.2.1 r
theorem k0_off321_inb : ∀ (v5885 : BitVec 32) (k0_hw13 : k0_chk13 v5885), ∀ (r : Fin 2), ∀ a, (k0_off321 v5885 (BitVec.ofNat 32 (16 * r.val))) a + S1x16.size a ≤ S8x2048.size a := fun v5885 k0_hw13 r => k0_hw13.2.2.2.2.2.2.2.2.2.1 r
theorem k0_off322_inb : ∀ (v5885 : BitVec 32) (k0_hw13 : k0_chk13 v5885), ∀ (r : Fin 2), ∀ a, (k0_off322 v5885 (BitVec.ofNat 32 (16 * r.val))) a + S1x16.size a ≤ S8x2048.size a := fun v5885 k0_hw13 r => k0_hw13.2.2.2.2.2.2.2.2.2.2.1 r
theorem k0_off323_inb : ∀ (v5885 : BitVec 32) (k0_hw13 : k0_chk13 v5885), ∀ (r : Fin 2), ∀ a, (k0_off323 v5885 (BitVec.ofNat 32 (16 * r.val))) a + S1x16.size a ≤ S8x2048.size a := fun v5885 k0_hw13 r => k0_hw13.2.2.2.2.2.2.2.2.2.2.2.1 r
theorem k0_off324_inb : ∀ (v5885 : BitVec 32) (k0_hw13 : k0_chk13 v5885), ∀ (r : Fin 2), ∀ a, (k0_off324 v5885 (BitVec.ofNat 32 (16 * r.val))) a + S1x16.size a ≤ S8x2048.size a := fun v5885 k0_hw13 r => k0_hw13.2.2.2.2.2.2.2.2.2.2.2.2.1 r
theorem k0_off325_inb : ∀ (v5885 : BitVec 32) (k0_hw13 : k0_chk13 v5885), ∀ (r : Fin 2), ∀ a, (k0_off325 v5885 (BitVec.ofNat 32 (16 * r.val))) a + S1x16.size a ≤ S8x2048.size a := fun v5885 k0_hw13 r => k0_hw13.2.2.2.2.2.2.2.2.2.2.2.2.2.1 r
theorem k0_off326_inb : ∀ (v5885 : BitVec 32) (k0_hw13 : k0_chk13 v5885), ∀ (r : Fin 2), ∀ a, (k0_off326 v5885 (BitVec.ofNat 32 (16 * r.val))) a + S1x16.size a ≤ S8x2048.size a := fun v5885 k0_hw13 r => k0_hw13.2.2.2.2.2.2.2.2.2.2.2.2.2.2.1 r
theorem k0_off327_inb : ∀ (v5885 : BitVec 32) (k0_hw13 : k0_chk13 v5885), ∀ (r : Fin 2), ∀ a, (k0_off327 v5885 (BitVec.ofNat 32 (16 * r.val))) a + S1x16.size a ≤ S8x2048.size a := fun v5885 k0_hw13 r => k0_hw13.2.2.2.2.2.2.2.2.2.2.2.2.2.2.2.1 r
theorem k0_off328_inb : ∀ (v5885 : BitVec 32) (k0_hw13 : k0_chk13 v5885), ∀ (r : Fin 2), ∀ a, (k0_off328 v5885 (BitVec.ofNat 32 (16 * r.val))) a + S1x16.size a ≤ S8x2048.size a := fun v5885 k0_hw13 r => k0_hw13.2.2.2.2.2.2.2.2.2.2.2.2.2.2.2.2.1 r
theorem k0_off329_inb : ∀ (v5885 : BitVec 32) (k0_hw13 : k0_chk13 v5885), ∀ (r : Fin 2), ∀ a, (k0_off329 v5885 (BitVec.ofNat 32 (16 * r.val))) a + S1x16.size a ≤ S8x2048.size a := fun v5885 k0_hw13 r => k0_hw13.2.2.2.2.2.2.2.2.2.2.2.2.2.2.2.2.2.1 r
theorem k0_off330_inb : ∀ (v5885 : BitVec 32) (k0_hw13 : k0_chk13 v5885), ∀ (r : Fin 2), ∀ a, (k0_off330 v5885 (BitVec.ofNat 32 (16 * r.val))) a + S1x16.size a ≤ S8x2048.size a := fun v5885 k0_hw13 r => k0_hw13.2.2.2.2.2.2.2.2.2.2.2.2.2.2.2.2.2.2.1 r
theorem k0_off331_inb : ∀ (v5885 : BitVec 32) (k0_hw13 : k0_chk13 v5885), ∀ (r : Fin 2), ∀ a, (k0_off331 v5885 (BitVec.ofNat 32 (16 * r.val))) a + S1x16.size a ≤ S8x2048.size a := fun v5885 k0_hw13 r => k0_hw13.2.2.2.2.2.2.2.2.2.2.2.2.2.2.2.2.2.2.2.1 r
theorem k0_off332_inb : ∀ (v5885 : BitVec 32) (k0_hw13 : k0_chk13 v5885), ∀ (r : Fin 2), ∀ a, (k0_off332 v5885 (BitVec.ofNat 32 (16 * r.val))) a + S1x16.size a ≤ S8x2048.size a := fun v5885 k0_hw13 r => k0_hw13.2.2.2.2.2.2.2.2.2.2.2.2.2.2.2.2.2.2.2.2.1 r
theorem k0_off333_inb : ∀ (v5885 : BitVec 32) (k0_hw13 : k0_chk13 v5885), ∀ (r : Fin 2), ∀ a, (k0_off333 v5885 (BitVec.ofNat 32 (16 * r.val))) a + S1x16.size a ≤ S8x2048.size a := fun v5885 k0_hw13 r => k0_hw13.2.2.2.2.2.2.2.2.2.2.2.2.2.2.2.2.2.2.2.2.2.1 r
theorem k0_off334_inb : ∀ (v5885 : BitVec 32) (k0_hw13 : k0_chk13 v5885), ∀ (r : Fin 2), ∀ a, (k0_off334 v5885 (BitVec.ofNat 32 (16 * r.val))) a + S1x16.size a ≤ S8x2048.size a := fun v5885 k0_hw13 r => k0_hw13.2.2.2.2.2.2.2.2.2.2.2.2.2.2.2.2.2.2.2.2.2.2.1 r
theorem k0_off335_inb : ∀ (v5885 : BitVec 32) (k0_hw13 : k0_chk13 v5885), ∀ (r : Fin 2), ∀ a, (k0_off335 v5885 (BitVec.ofNat 32 (16 * r.val))) a + S1x16.size a ≤ S8x2048.size a := fun v5885 k0_hw13 r => k0_hw13.2.2.2.2.2.2.2.2.2.2.2.2.2.2.2.2.2.2.2.2.2.2.2 r

def k0_off336 (k0_t3 : Fin k0_t3_loop.trips) : Fin 1 → Nat :=
  let c0_i32_90 : BitVec 32 := 0#32
  let c1_i32_92 : BitVec 32 := 1#32
  let arg28 : BitVec 32 := Scf.iv c0_i32_90 c1_i32_92 k0_t3
  let c16_i32_1917 : BitVec 32 := 16#32
  let v6292 : BitVec 32 := Scalar.muli arg28 c16_i32_1917
  let c13_i32 : BitVec 32 := 13#32
  let v6293 : BitVec 32 := Scalar.addi v6292 c13_i32
  let c16_i32_1918 : BitVec 32 := 16#32
  let v6294 : BitVec 32 := Scalar.muli v6293 c16_i32_1918
  let v6295 : Index := Scalar.indexCast v6294
  ![v6295.toNat]
def k0_off337 (v6284 : BitVec 32) (c0_i32_1919 : BitVec 32) : Fin 2 → Nat :=
  let c0_i32_1920 : BitVec 32 := 0#32
  let v6299 : Index := Scalar.indexCast c0_i32_1920
  let c63_i32_1910 : BitVec 32 := 63#32
  let v6285 : BitVec 32 := Scalar.andi v6284 c63_i32_1910
  let c32_i32_1911 : BitVec 32 := 32#32
  let v6286 : BitVec 32 := Scalar.muli v6285 c32_i32_1911
  let v6298 : BitVec 32 := Scalar.addi v6286 c0_i32_1919
  let v6300 : Index := Scalar.indexCast v6298
  ![0, v6300.toNat]

def k0_off338 (v6284 : BitVec 32) (c0_i32_1923 : BitVec 32) : Fin 2 → Nat :=
  let c1_i32_1924 : BitVec 32 := 1#32
  let v6309 : Index := Scalar.indexCast c1_i32_1924
  let c63_i32_1910 : BitVec 32 := 63#32
  let v6285 : BitVec 32 := Scalar.andi v6284 c63_i32_1910
  let c32_i32_1911 : BitVec 32 := 32#32
  let v6286 : BitVec 32 := Scalar.muli v6285 c32_i32_1911
  let v6308 : BitVec 32 := Scalar.addi v6286 c0_i32_1923
  let v6310 : Index := Scalar.indexCast v6308
  ![1, v6310.toNat]
def k0_off339 (v6284 : BitVec 32) (c0_i32_1927 : BitVec 32) : Fin 2 → Nat :=
  let c2_i32_1928 : BitVec 32 := 2#32
  let v6319 : Index := Scalar.indexCast c2_i32_1928
  let c63_i32_1910 : BitVec 32 := 63#32
  let v6285 : BitVec 32 := Scalar.andi v6284 c63_i32_1910
  let c32_i32_1911 : BitVec 32 := 32#32
  let v6286 : BitVec 32 := Scalar.muli v6285 c32_i32_1911
  let v6318 : BitVec 32 := Scalar.addi v6286 c0_i32_1927
  let v6320 : Index := Scalar.indexCast v6318
  ![2, v6320.toNat]
def k0_off340 (v6284 : BitVec 32) (c0_i32_1931 : BitVec 32) : Fin 2 → Nat :=
  let c3_i32_1932 : BitVec 32 := 3#32
  let v6329 : Index := Scalar.indexCast c3_i32_1932
  let c63_i32_1910 : BitVec 32 := 63#32
  let v6285 : BitVec 32 := Scalar.andi v6284 c63_i32_1910
  let c32_i32_1911 : BitVec 32 := 32#32
  let v6286 : BitVec 32 := Scalar.muli v6285 c32_i32_1911
  let v6328 : BitVec 32 := Scalar.addi v6286 c0_i32_1931
  let v6330 : Index := Scalar.indexCast v6328
  ![3, v6330.toNat]
def k0_off341 (v6284 : BitVec 32) (c0_i32_1935 : BitVec 32) : Fin 2 → Nat :=
  let c4_i32_1936 : BitVec 32 := 4#32
  let v6339 : Index := Scalar.indexCast c4_i32_1936
  let c63_i32_1910 : BitVec 32 := 63#32
  let v6285 : BitVec 32 := Scalar.andi v6284 c63_i32_1910
  let c32_i32_1911 : BitVec 32 := 32#32
  let v6286 : BitVec 32 := Scalar.muli v6285 c32_i32_1911
  let v6338 : BitVec 32 := Scalar.addi v6286 c0_i32_1935
  let v6340 : Index := Scalar.indexCast v6338
  ![4, v6340.toNat]
def k0_off342 (v6284 : BitVec 32) (c0_i32_1939 : BitVec 32) : Fin 2 → Nat :=
  let c5_i32_1940 : BitVec 32 := 5#32
  let v6349 : Index := Scalar.indexCast c5_i32_1940
  let c63_i32_1910 : BitVec 32 := 63#32
  let v6285 : BitVec 32 := Scalar.andi v6284 c63_i32_1910
  let c32_i32_1911 : BitVec 32 := 32#32
  let v6286 : BitVec 32 := Scalar.muli v6285 c32_i32_1911
  let v6348 : BitVec 32 := Scalar.addi v6286 c0_i32_1939
  let v6350 : Index := Scalar.indexCast v6348
  ![5, v6350.toNat]
def k0_off343 (v6284 : BitVec 32) (c0_i32_1943 : BitVec 32) : Fin 2 → Nat :=
  let c6_i32_1944 : BitVec 32 := 6#32
  let v6359 : Index := Scalar.indexCast c6_i32_1944
  let c63_i32_1910 : BitVec 32 := 63#32
  let v6285 : BitVec 32 := Scalar.andi v6284 c63_i32_1910
  let c32_i32_1911 : BitVec 32 := 32#32
  let v6286 : BitVec 32 := Scalar.muli v6285 c32_i32_1911
  let v6358 : BitVec 32 := Scalar.addi v6286 c0_i32_1943
  let v6360 : Index := Scalar.indexCast v6358
  ![6, v6360.toNat]
def k0_off344 (v6284 : BitVec 32) (c0_i32_1947 : BitVec 32) : Fin 2 → Nat :=
  let c7_i32_1948 : BitVec 32 := 7#32
  let v6369 : Index := Scalar.indexCast c7_i32_1948
  let c63_i32_1910 : BitVec 32 := 63#32
  let v6285 : BitVec 32 := Scalar.andi v6284 c63_i32_1910
  let c32_i32_1911 : BitVec 32 := 32#32
  let v6286 : BitVec 32 := Scalar.muli v6285 c32_i32_1911
  let v6368 : BitVec 32 := Scalar.addi v6286 c0_i32_1947
  let v6370 : Index := Scalar.indexCast v6368
  ![7, v6370.toNat]
def k0_off345 (v6284 : BitVec 32) (c0_i32_1951 : BitVec 32) : Fin 2 → Nat :=
  let c0_i32_1952 : BitVec 32 := 0#32
  let v6379 : Index := Scalar.indexCast c0_i32_1952
  let c6_i32_1912 : BitVec 32 := 6#32
  let v6287 : BitVec 32 := Scalar.shrsi v6284 c6_i32_1912
  let c63_i32_1913 : BitVec 32 := 63#32
  let v6288 : BitVec 32 := Scalar.andi v6287 c63_i32_1913
  let c32_i32_1914 : BitVec 32 := 32#32
  let v6289 : BitVec 32 := Scalar.muli v6288 c32_i32_1914
  let v6378 : BitVec 32 := Scalar.addi v6289 c0_i32_1951
  let v6380 : Index := Scalar.indexCast v6378
  ![0, v6380.toNat]
def k0_off346 (v6284 : BitVec 32) (c0_i32_1955 : BitVec 32) : Fin 2 → Nat :=
  let c1_i32_1956 : BitVec 32 := 1#32
  let v6389 : Index := Scalar.indexCast c1_i32_1956
  let c6_i32_1912 : BitVec 32 := 6#32
  let v6287 : BitVec 32 := Scalar.shrsi v6284 c6_i32_1912
  let c63_i32_1913 : BitVec 32 := 63#32
  let v6288 : BitVec 32 := Scalar.andi v6287 c63_i32_1913
  let c32_i32_1914 : BitVec 32 := 32#32
  let v6289 : BitVec 32 := Scalar.muli v6288 c32_i32_1914
  let v6388 : BitVec 32 := Scalar.addi v6289 c0_i32_1955
  let v6390 : Index := Scalar.indexCast v6388
  ![1, v6390.toNat]
def k0_off347 (v6284 : BitVec 32) (c0_i32_1959 : BitVec 32) : Fin 2 → Nat :=
  let c2_i32_1960 : BitVec 32 := 2#32
  let v6399 : Index := Scalar.indexCast c2_i32_1960
  let c6_i32_1912 : BitVec 32 := 6#32
  let v6287 : BitVec 32 := Scalar.shrsi v6284 c6_i32_1912
  let c63_i32_1913 : BitVec 32 := 63#32
  let v6288 : BitVec 32 := Scalar.andi v6287 c63_i32_1913
  let c32_i32_1914 : BitVec 32 := 32#32
  let v6289 : BitVec 32 := Scalar.muli v6288 c32_i32_1914
  let v6398 : BitVec 32 := Scalar.addi v6289 c0_i32_1959
  let v6400 : Index := Scalar.indexCast v6398
  ![2, v6400.toNat]
def k0_off348 (v6284 : BitVec 32) (c0_i32_1963 : BitVec 32) : Fin 2 → Nat :=
  let c3_i32_1964 : BitVec 32 := 3#32
  let v6409 : Index := Scalar.indexCast c3_i32_1964
  let c6_i32_1912 : BitVec 32 := 6#32
  let v6287 : BitVec 32 := Scalar.shrsi v6284 c6_i32_1912
  let c63_i32_1913 : BitVec 32 := 63#32
  let v6288 : BitVec 32 := Scalar.andi v6287 c63_i32_1913
  let c32_i32_1914 : BitVec 32 := 32#32
  let v6289 : BitVec 32 := Scalar.muli v6288 c32_i32_1914
  let v6408 : BitVec 32 := Scalar.addi v6289 c0_i32_1963
  let v6410 : Index := Scalar.indexCast v6408
  ![3, v6410.toNat]
def k0_off349 (v6284 : BitVec 32) (c0_i32_1967 : BitVec 32) : Fin 2 → Nat :=
  let c4_i32_1968 : BitVec 32 := 4#32
  let v6419 : Index := Scalar.indexCast c4_i32_1968
  let c6_i32_1912 : BitVec 32 := 6#32
  let v6287 : BitVec 32 := Scalar.shrsi v6284 c6_i32_1912
  let c63_i32_1913 : BitVec 32 := 63#32
  let v6288 : BitVec 32 := Scalar.andi v6287 c63_i32_1913
  let c32_i32_1914 : BitVec 32 := 32#32
  let v6289 : BitVec 32 := Scalar.muli v6288 c32_i32_1914
  let v6418 : BitVec 32 := Scalar.addi v6289 c0_i32_1967
  let v6420 : Index := Scalar.indexCast v6418
  ![4, v6420.toNat]
def k0_off350 (v6284 : BitVec 32) (c0_i32_1971 : BitVec 32) : Fin 2 → Nat :=
  let c5_i32_1972 : BitVec 32 := 5#32
  let v6429 : Index := Scalar.indexCast c5_i32_1972
  let c6_i32_1912 : BitVec 32 := 6#32
  let v6287 : BitVec 32 := Scalar.shrsi v6284 c6_i32_1912
  let c63_i32_1913 : BitVec 32 := 63#32
  let v6288 : BitVec 32 := Scalar.andi v6287 c63_i32_1913
  let c32_i32_1914 : BitVec 32 := 32#32
  let v6289 : BitVec 32 := Scalar.muli v6288 c32_i32_1914
  let v6428 : BitVec 32 := Scalar.addi v6289 c0_i32_1971
  let v6430 : Index := Scalar.indexCast v6428
  ![5, v6430.toNat]
def k0_off351 (v6284 : BitVec 32) (c0_i32_1975 : BitVec 32) : Fin 2 → Nat :=
  let c6_i32_1976 : BitVec 32 := 6#32
  let v6439 : Index := Scalar.indexCast c6_i32_1976
  let c6_i32_1912 : BitVec 32 := 6#32
  let v6287 : BitVec 32 := Scalar.shrsi v6284 c6_i32_1912
  let c63_i32_1913 : BitVec 32 := 63#32
  let v6288 : BitVec 32 := Scalar.andi v6287 c63_i32_1913
  let c32_i32_1914 : BitVec 32 := 32#32
  let v6289 : BitVec 32 := Scalar.muli v6288 c32_i32_1914
  let v6438 : BitVec 32 := Scalar.addi v6289 c0_i32_1975
  let v6440 : Index := Scalar.indexCast v6438
  ![6, v6440.toNat]
def k0_off352 (v6284 : BitVec 32) (c0_i32_1979 : BitVec 32) : Fin 2 → Nat :=
  let c7_i32_1980 : BitVec 32 := 7#32
  let v6449 : Index := Scalar.indexCast c7_i32_1980
  let c6_i32_1912 : BitVec 32 := 6#32
  let v6287 : BitVec 32 := Scalar.shrsi v6284 c6_i32_1912
  let c63_i32_1913 : BitVec 32 := 63#32
  let v6288 : BitVec 32 := Scalar.andi v6287 c63_i32_1913
  let c32_i32_1914 : BitVec 32 := 32#32
  let v6289 : BitVec 32 := Scalar.muli v6288 c32_i32_1914
  let v6448 : BitVec 32 := Scalar.addi v6289 c0_i32_1979
  let v6450 : Index := Scalar.indexCast v6448
  ![7, v6450.toNat]
def k0_off353 (v6284 : BitVec 32) (c0_i32_1983 : BitVec 32) : Fin 2 → Nat :=
  let c0_i32_1984 : BitVec 32 := 0#32
  let v6491 : Index := Scalar.indexCast c0_i32_1984
  let c12_i32_1915 : BitVec 32 := 12#32
  let v6290 : BitVec 32 := Scalar.shrsi v6284 c12_i32_1915
  let c32_i32_1916 : BitVec 32 := 32#32
  let v6291 : BitVec 32 := Scalar.muli v6290 c32_i32_1916
  let v6490 : BitVec 32 := Scalar.addi v6291 c0_i32_1983
  let v6492 : Index := Scalar.indexCast v6490
  ![0, v6492.toNat]
def k0_off354 (v6284 : BitVec 32) (c0_i32_1991 : BitVec 32) : Fin 2 → Nat :=
  let c1_i32_1992 : BitVec 32 := 1#32
  let v6515 : Index := Scalar.indexCast c1_i32_1992
  let c12_i32_1915 : BitVec 32 := 12#32
  let v6290 : BitVec 32 := Scalar.shrsi v6284 c12_i32_1915
  let c32_i32_1916 : BitVec 32 := 32#32
  let v6291 : BitVec 32 := Scalar.muli v6290 c32_i32_1916
  let v6514 : BitVec 32 := Scalar.addi v6291 c0_i32_1991
  let v6516 : Index := Scalar.indexCast v6514
  ![1, v6516.toNat]
def k0_off355 (v6284 : BitVec 32) (c0_i32_1999 : BitVec 32) : Fin 2 → Nat :=
  let c2_i32_2000 : BitVec 32 := 2#32
  let v6539 : Index := Scalar.indexCast c2_i32_2000
  let c12_i32_1915 : BitVec 32 := 12#32
  let v6290 : BitVec 32 := Scalar.shrsi v6284 c12_i32_1915
  let c32_i32_1916 : BitVec 32 := 32#32
  let v6291 : BitVec 32 := Scalar.muli v6290 c32_i32_1916
  let v6538 : BitVec 32 := Scalar.addi v6291 c0_i32_1999
  let v6540 : Index := Scalar.indexCast v6538
  ![2, v6540.toNat]
def k0_off356 (v6284 : BitVec 32) (c0_i32_2007 : BitVec 32) : Fin 2 → Nat :=
  let c3_i32_2008 : BitVec 32 := 3#32
  let v6563 : Index := Scalar.indexCast c3_i32_2008
  let c12_i32_1915 : BitVec 32 := 12#32
  let v6290 : BitVec 32 := Scalar.shrsi v6284 c12_i32_1915
  let c32_i32_1916 : BitVec 32 := 32#32
  let v6291 : BitVec 32 := Scalar.muli v6290 c32_i32_1916
  let v6562 : BitVec 32 := Scalar.addi v6291 c0_i32_2007
  let v6564 : Index := Scalar.indexCast v6562
  ![3, v6564.toNat]
def k0_off357 (v6284 : BitVec 32) (c0_i32_2015 : BitVec 32) : Fin 2 → Nat :=
  let c4_i32_2016 : BitVec 32 := 4#32
  let v6587 : Index := Scalar.indexCast c4_i32_2016
  let c12_i32_1915 : BitVec 32 := 12#32
  let v6290 : BitVec 32 := Scalar.shrsi v6284 c12_i32_1915
  let c32_i32_1916 : BitVec 32 := 32#32
  let v6291 : BitVec 32 := Scalar.muli v6290 c32_i32_1916
  let v6586 : BitVec 32 := Scalar.addi v6291 c0_i32_2015
  let v6588 : Index := Scalar.indexCast v6586
  ![4, v6588.toNat]
def k0_off358 (v6284 : BitVec 32) (c0_i32_2023 : BitVec 32) : Fin 2 → Nat :=
  let c5_i32_2024 : BitVec 32 := 5#32
  let v6611 : Index := Scalar.indexCast c5_i32_2024
  let c12_i32_1915 : BitVec 32 := 12#32
  let v6290 : BitVec 32 := Scalar.shrsi v6284 c12_i32_1915
  let c32_i32_1916 : BitVec 32 := 32#32
  let v6291 : BitVec 32 := Scalar.muli v6290 c32_i32_1916
  let v6610 : BitVec 32 := Scalar.addi v6291 c0_i32_2023
  let v6612 : Index := Scalar.indexCast v6610
  ![5, v6612.toNat]
def k0_off359 (v6284 : BitVec 32) (c0_i32_2031 : BitVec 32) : Fin 2 → Nat :=
  let c6_i32_2032 : BitVec 32 := 6#32
  let v6635 : Index := Scalar.indexCast c6_i32_2032
  let c12_i32_1915 : BitVec 32 := 12#32
  let v6290 : BitVec 32 := Scalar.shrsi v6284 c12_i32_1915
  let c32_i32_1916 : BitVec 32 := 32#32
  let v6291 : BitVec 32 := Scalar.muli v6290 c32_i32_1916
  let v6634 : BitVec 32 := Scalar.addi v6291 c0_i32_2031
  let v6636 : Index := Scalar.indexCast v6634
  ![6, v6636.toNat]
def k0_off360 (v6284 : BitVec 32) (c0_i32_2039 : BitVec 32) : Fin 2 → Nat :=
  let c7_i32_2040 : BitVec 32 := 7#32
  let v6659 : Index := Scalar.indexCast c7_i32_2040
  let c12_i32_1915 : BitVec 32 := 12#32
  let v6290 : BitVec 32 := Scalar.shrsi v6284 c12_i32_1915
  let c32_i32_1916 : BitVec 32 := 32#32
  let v6291 : BitVec 32 := Scalar.muli v6290 c32_i32_1916
  let v6658 : BitVec 32 := Scalar.addi v6291 c0_i32_2039
  let v6660 : Index := Scalar.indexCast v6658
  ![7, v6660.toNat]

def k0_chk14 (v6284 : BitVec 32) : Prop :=
  (∀ (r : Fin 2), ∀ a, (k0_off337 v6284 (BitVec.ofNat 32 (16 * r.val))) a + S1x16.size a ≤ S8x2048.size a) ∧
  (∀ (r : Fin 2), ∀ a, (k0_off338 v6284 (BitVec.ofNat 32 (16 * r.val))) a + S1x16.size a ≤ S8x2048.size a) ∧
  (∀ (r : Fin 2), ∀ a, (k0_off339 v6284 (BitVec.ofNat 32 (16 * r.val))) a + S1x16.size a ≤ S8x2048.size a) ∧
  (∀ (r : Fin 2), ∀ a, (k0_off340 v6284 (BitVec.ofNat 32 (16 * r.val))) a + S1x16.size a ≤ S8x2048.size a) ∧
  (∀ (r : Fin 2), ∀ a, (k0_off341 v6284 (BitVec.ofNat 32 (16 * r.val))) a + S1x16.size a ≤ S8x2048.size a) ∧
  (∀ (r : Fin 2), ∀ a, (k0_off342 v6284 (BitVec.ofNat 32 (16 * r.val))) a + S1x16.size a ≤ S8x2048.size a) ∧
  (∀ (r : Fin 2), ∀ a, (k0_off343 v6284 (BitVec.ofNat 32 (16 * r.val))) a + S1x16.size a ≤ S8x2048.size a) ∧
  (∀ (r : Fin 2), ∀ a, (k0_off344 v6284 (BitVec.ofNat 32 (16 * r.val))) a + S1x16.size a ≤ S8x2048.size a) ∧
  (∀ (r : Fin 2), ∀ a, (k0_off345 v6284 (BitVec.ofNat 32 (16 * r.val))) a + S1x16.size a ≤ S8x2048.size a) ∧
  (∀ (r : Fin 2), ∀ a, (k0_off346 v6284 (BitVec.ofNat 32 (16 * r.val))) a + S1x16.size a ≤ S8x2048.size a) ∧
  (∀ (r : Fin 2), ∀ a, (k0_off347 v6284 (BitVec.ofNat 32 (16 * r.val))) a + S1x16.size a ≤ S8x2048.size a) ∧
  (∀ (r : Fin 2), ∀ a, (k0_off348 v6284 (BitVec.ofNat 32 (16 * r.val))) a + S1x16.size a ≤ S8x2048.size a) ∧
  (∀ (r : Fin 2), ∀ a, (k0_off349 v6284 (BitVec.ofNat 32 (16 * r.val))) a + S1x16.size a ≤ S8x2048.size a) ∧
  (∀ (r : Fin 2), ∀ a, (k0_off350 v6284 (BitVec.ofNat 32 (16 * r.val))) a + S1x16.size a ≤ S8x2048.size a) ∧
  (∀ (r : Fin 2), ∀ a, (k0_off351 v6284 (BitVec.ofNat 32 (16 * r.val))) a + S1x16.size a ≤ S8x2048.size a) ∧
  (∀ (r : Fin 2), ∀ a, (k0_off352 v6284 (BitVec.ofNat 32 (16 * r.val))) a + S1x16.size a ≤ S8x2048.size a) ∧
  (∀ (r : Fin 2), ∀ a, (k0_off353 v6284 (BitVec.ofNat 32 (16 * r.val))) a + S1x16.size a ≤ S8x2048.size a) ∧
  (∀ (r : Fin 2), ∀ a, (k0_off354 v6284 (BitVec.ofNat 32 (16 * r.val))) a + S1x16.size a ≤ S8x2048.size a) ∧
  (∀ (r : Fin 2), ∀ a, (k0_off355 v6284 (BitVec.ofNat 32 (16 * r.val))) a + S1x16.size a ≤ S8x2048.size a) ∧
  (∀ (r : Fin 2), ∀ a, (k0_off356 v6284 (BitVec.ofNat 32 (16 * r.val))) a + S1x16.size a ≤ S8x2048.size a) ∧
  (∀ (r : Fin 2), ∀ a, (k0_off357 v6284 (BitVec.ofNat 32 (16 * r.val))) a + S1x16.size a ≤ S8x2048.size a) ∧
  (∀ (r : Fin 2), ∀ a, (k0_off358 v6284 (BitVec.ofNat 32 (16 * r.val))) a + S1x16.size a ≤ S8x2048.size a) ∧
  (∀ (r : Fin 2), ∀ a, (k0_off359 v6284 (BitVec.ofNat 32 (16 * r.val))) a + S1x16.size a ≤ S8x2048.size a) ∧
  (∀ (r : Fin 2), ∀ a, (k0_off360 v6284 (BitVec.ofNat 32 (16 * r.val))) a + S1x16.size a ≤ S8x2048.size a)
theorem k0_off337_inb : ∀ (v6284 : BitVec 32) (k0_hw14 : k0_chk14 v6284), ∀ (r : Fin 2), ∀ a, (k0_off337 v6284 (BitVec.ofNat 32 (16 * r.val))) a + S1x16.size a ≤ S8x2048.size a := fun v6284 k0_hw14 r => k0_hw14.1 r
theorem k0_off338_inb : ∀ (v6284 : BitVec 32) (k0_hw14 : k0_chk14 v6284), ∀ (r : Fin 2), ∀ a, (k0_off338 v6284 (BitVec.ofNat 32 (16 * r.val))) a + S1x16.size a ≤ S8x2048.size a := fun v6284 k0_hw14 r => k0_hw14.2.1 r
theorem k0_off339_inb : ∀ (v6284 : BitVec 32) (k0_hw14 : k0_chk14 v6284), ∀ (r : Fin 2), ∀ a, (k0_off339 v6284 (BitVec.ofNat 32 (16 * r.val))) a + S1x16.size a ≤ S8x2048.size a := fun v6284 k0_hw14 r => k0_hw14.2.2.1 r
theorem k0_off340_inb : ∀ (v6284 : BitVec 32) (k0_hw14 : k0_chk14 v6284), ∀ (r : Fin 2), ∀ a, (k0_off340 v6284 (BitVec.ofNat 32 (16 * r.val))) a + S1x16.size a ≤ S8x2048.size a := fun v6284 k0_hw14 r => k0_hw14.2.2.2.1 r
theorem k0_off341_inb : ∀ (v6284 : BitVec 32) (k0_hw14 : k0_chk14 v6284), ∀ (r : Fin 2), ∀ a, (k0_off341 v6284 (BitVec.ofNat 32 (16 * r.val))) a + S1x16.size a ≤ S8x2048.size a := fun v6284 k0_hw14 r => k0_hw14.2.2.2.2.1 r
theorem k0_off342_inb : ∀ (v6284 : BitVec 32) (k0_hw14 : k0_chk14 v6284), ∀ (r : Fin 2), ∀ a, (k0_off342 v6284 (BitVec.ofNat 32 (16 * r.val))) a + S1x16.size a ≤ S8x2048.size a := fun v6284 k0_hw14 r => k0_hw14.2.2.2.2.2.1 r
theorem k0_off343_inb : ∀ (v6284 : BitVec 32) (k0_hw14 : k0_chk14 v6284), ∀ (r : Fin 2), ∀ a, (k0_off343 v6284 (BitVec.ofNat 32 (16 * r.val))) a + S1x16.size a ≤ S8x2048.size a := fun v6284 k0_hw14 r => k0_hw14.2.2.2.2.2.2.1 r
theorem k0_off344_inb : ∀ (v6284 : BitVec 32) (k0_hw14 : k0_chk14 v6284), ∀ (r : Fin 2), ∀ a, (k0_off344 v6284 (BitVec.ofNat 32 (16 * r.val))) a + S1x16.size a ≤ S8x2048.size a := fun v6284 k0_hw14 r => k0_hw14.2.2.2.2.2.2.2.1 r
theorem k0_off345_inb : ∀ (v6284 : BitVec 32) (k0_hw14 : k0_chk14 v6284), ∀ (r : Fin 2), ∀ a, (k0_off345 v6284 (BitVec.ofNat 32 (16 * r.val))) a + S1x16.size a ≤ S8x2048.size a := fun v6284 k0_hw14 r => k0_hw14.2.2.2.2.2.2.2.2.1 r
theorem k0_off346_inb : ∀ (v6284 : BitVec 32) (k0_hw14 : k0_chk14 v6284), ∀ (r : Fin 2), ∀ a, (k0_off346 v6284 (BitVec.ofNat 32 (16 * r.val))) a + S1x16.size a ≤ S8x2048.size a := fun v6284 k0_hw14 r => k0_hw14.2.2.2.2.2.2.2.2.2.1 r
theorem k0_off347_inb : ∀ (v6284 : BitVec 32) (k0_hw14 : k0_chk14 v6284), ∀ (r : Fin 2), ∀ a, (k0_off347 v6284 (BitVec.ofNat 32 (16 * r.val))) a + S1x16.size a ≤ S8x2048.size a := fun v6284 k0_hw14 r => k0_hw14.2.2.2.2.2.2.2.2.2.2.1 r
theorem k0_off348_inb : ∀ (v6284 : BitVec 32) (k0_hw14 : k0_chk14 v6284), ∀ (r : Fin 2), ∀ a, (k0_off348 v6284 (BitVec.ofNat 32 (16 * r.val))) a + S1x16.size a ≤ S8x2048.size a := fun v6284 k0_hw14 r => k0_hw14.2.2.2.2.2.2.2.2.2.2.2.1 r
theorem k0_off349_inb : ∀ (v6284 : BitVec 32) (k0_hw14 : k0_chk14 v6284), ∀ (r : Fin 2), ∀ a, (k0_off349 v6284 (BitVec.ofNat 32 (16 * r.val))) a + S1x16.size a ≤ S8x2048.size a := fun v6284 k0_hw14 r => k0_hw14.2.2.2.2.2.2.2.2.2.2.2.2.1 r
theorem k0_off350_inb : ∀ (v6284 : BitVec 32) (k0_hw14 : k0_chk14 v6284), ∀ (r : Fin 2), ∀ a, (k0_off350 v6284 (BitVec.ofNat 32 (16 * r.val))) a + S1x16.size a ≤ S8x2048.size a := fun v6284 k0_hw14 r => k0_hw14.2.2.2.2.2.2.2.2.2.2.2.2.2.1 r
theorem k0_off351_inb : ∀ (v6284 : BitVec 32) (k0_hw14 : k0_chk14 v6284), ∀ (r : Fin 2), ∀ a, (k0_off351 v6284 (BitVec.ofNat 32 (16 * r.val))) a + S1x16.size a ≤ S8x2048.size a := fun v6284 k0_hw14 r => k0_hw14.2.2.2.2.2.2.2.2.2.2.2.2.2.2.1 r
theorem k0_off352_inb : ∀ (v6284 : BitVec 32) (k0_hw14 : k0_chk14 v6284), ∀ (r : Fin 2), ∀ a, (k0_off352 v6284 (BitVec.ofNat 32 (16 * r.val))) a + S1x16.size a ≤ S8x2048.size a := fun v6284 k0_hw14 r => k0_hw14.2.2.2.2.2.2.2.2.2.2.2.2.2.2.2.1 r
theorem k0_off353_inb : ∀ (v6284 : BitVec 32) (k0_hw14 : k0_chk14 v6284), ∀ (r : Fin 2), ∀ a, (k0_off353 v6284 (BitVec.ofNat 32 (16 * r.val))) a + S1x16.size a ≤ S8x2048.size a := fun v6284 k0_hw14 r => k0_hw14.2.2.2.2.2.2.2.2.2.2.2.2.2.2.2.2.1 r
theorem k0_off354_inb : ∀ (v6284 : BitVec 32) (k0_hw14 : k0_chk14 v6284), ∀ (r : Fin 2), ∀ a, (k0_off354 v6284 (BitVec.ofNat 32 (16 * r.val))) a + S1x16.size a ≤ S8x2048.size a := fun v6284 k0_hw14 r => k0_hw14.2.2.2.2.2.2.2.2.2.2.2.2.2.2.2.2.2.1 r
theorem k0_off355_inb : ∀ (v6284 : BitVec 32) (k0_hw14 : k0_chk14 v6284), ∀ (r : Fin 2), ∀ a, (k0_off355 v6284 (BitVec.ofNat 32 (16 * r.val))) a + S1x16.size a ≤ S8x2048.size a := fun v6284 k0_hw14 r => k0_hw14.2.2.2.2.2.2.2.2.2.2.2.2.2.2.2.2.2.2.1 r
theorem k0_off356_inb : ∀ (v6284 : BitVec 32) (k0_hw14 : k0_chk14 v6284), ∀ (r : Fin 2), ∀ a, (k0_off356 v6284 (BitVec.ofNat 32 (16 * r.val))) a + S1x16.size a ≤ S8x2048.size a := fun v6284 k0_hw14 r => k0_hw14.2.2.2.2.2.2.2.2.2.2.2.2.2.2.2.2.2.2.2.1 r
theorem k0_off357_inb : ∀ (v6284 : BitVec 32) (k0_hw14 : k0_chk14 v6284), ∀ (r : Fin 2), ∀ a, (k0_off357 v6284 (BitVec.ofNat 32 (16 * r.val))) a + S1x16.size a ≤ S8x2048.size a := fun v6284 k0_hw14 r => k0_hw14.2.2.2.2.2.2.2.2.2.2.2.2.2.2.2.2.2.2.2.2.1 r
theorem k0_off358_inb : ∀ (v6284 : BitVec 32) (k0_hw14 : k0_chk14 v6284), ∀ (r : Fin 2), ∀ a, (k0_off358 v6284 (BitVec.ofNat 32 (16 * r.val))) a + S1x16.size a ≤ S8x2048.size a := fun v6284 k0_hw14 r => k0_hw14.2.2.2.2.2.2.2.2.2.2.2.2.2.2.2.2.2.2.2.2.2.1 r
theorem k0_off359_inb : ∀ (v6284 : BitVec 32) (k0_hw14 : k0_chk14 v6284), ∀ (r : Fin 2), ∀ a, (k0_off359 v6284 (BitVec.ofNat 32 (16 * r.val))) a + S1x16.size a ≤ S8x2048.size a := fun v6284 k0_hw14 r => k0_hw14.2.2.2.2.2.2.2.2.2.2.2.2.2.2.2.2.2.2.2.2.2.2.1 r
theorem k0_off360_inb : ∀ (v6284 : BitVec 32) (k0_hw14 : k0_chk14 v6284), ∀ (r : Fin 2), ∀ a, (k0_off360 v6284 (BitVec.ofNat 32 (16 * r.val))) a + S1x16.size a ≤ S8x2048.size a := fun v6284 k0_hw14 r => k0_hw14.2.2.2.2.2.2.2.2.2.2.2.2.2.2.2.2.2.2.2.2.2.2.2 r

def k0_off361 (k0_t3 : Fin k0_t3_loop.trips) : Fin 1 → Nat :=
  let c0_i32_90 : BitVec 32 := 0#32
  let c1_i32_92 : BitVec 32 := 1#32
  let arg28 : BitVec 32 := Scf.iv c0_i32_90 c1_i32_92 k0_t3
  let c16_i32_2054 : BitVec 32 := 16#32
  let v6691 : BitVec 32 := Scalar.muli arg28 c16_i32_2054
  let c14_i32_2055 : BitVec 32 := 14#32
  let v6692 : BitVec 32 := Scalar.addi v6691 c14_i32_2055
  let c16_i32_2056 : BitVec 32 := 16#32
  let v6693 : BitVec 32 := Scalar.muli v6692 c16_i32_2056
  let v6694 : Index := Scalar.indexCast v6693
  ![v6694.toNat]
def k0_off362 (v6683 : BitVec 32) (c0_i32_2057 : BitVec 32) : Fin 2 → Nat :=
  let c0_i32_2058 : BitVec 32 := 0#32
  let v6698 : Index := Scalar.indexCast c0_i32_2058
  let c63_i32_2047 : BitVec 32 := 63#32
  let v6684 : BitVec 32 := Scalar.andi v6683 c63_i32_2047
  let c32_i32_2048 : BitVec 32 := 32#32
  let v6685 : BitVec 32 := Scalar.muli v6684 c32_i32_2048
  let v6697 : BitVec 32 := Scalar.addi v6685 c0_i32_2057
  let v6699 : Index := Scalar.indexCast v6697
  ![0, v6699.toNat]

def k0_off363 (v6683 : BitVec 32) (c0_i32_2061 : BitVec 32) : Fin 2 → Nat :=
  let c1_i32_2062 : BitVec 32 := 1#32
  let v6708 : Index := Scalar.indexCast c1_i32_2062
  let c63_i32_2047 : BitVec 32 := 63#32
  let v6684 : BitVec 32 := Scalar.andi v6683 c63_i32_2047
  let c32_i32_2048 : BitVec 32 := 32#32
  let v6685 : BitVec 32 := Scalar.muli v6684 c32_i32_2048
  let v6707 : BitVec 32 := Scalar.addi v6685 c0_i32_2061
  let v6709 : Index := Scalar.indexCast v6707
  ![1, v6709.toNat]
def k0_off364 (v6683 : BitVec 32) (c0_i32_2065 : BitVec 32) : Fin 2 → Nat :=
  let c2_i32_2066 : BitVec 32 := 2#32
  let v6718 : Index := Scalar.indexCast c2_i32_2066
  let c63_i32_2047 : BitVec 32 := 63#32
  let v6684 : BitVec 32 := Scalar.andi v6683 c63_i32_2047
  let c32_i32_2048 : BitVec 32 := 32#32
  let v6685 : BitVec 32 := Scalar.muli v6684 c32_i32_2048
  let v6717 : BitVec 32 := Scalar.addi v6685 c0_i32_2065
  let v6719 : Index := Scalar.indexCast v6717
  ![2, v6719.toNat]
def k0_off365 (v6683 : BitVec 32) (c0_i32_2069 : BitVec 32) : Fin 2 → Nat :=
  let c3_i32_2070 : BitVec 32 := 3#32
  let v6728 : Index := Scalar.indexCast c3_i32_2070
  let c63_i32_2047 : BitVec 32 := 63#32
  let v6684 : BitVec 32 := Scalar.andi v6683 c63_i32_2047
  let c32_i32_2048 : BitVec 32 := 32#32
  let v6685 : BitVec 32 := Scalar.muli v6684 c32_i32_2048
  let v6727 : BitVec 32 := Scalar.addi v6685 c0_i32_2069
  let v6729 : Index := Scalar.indexCast v6727
  ![3, v6729.toNat]
def k0_off366 (v6683 : BitVec 32) (c0_i32_2073 : BitVec 32) : Fin 2 → Nat :=
  let c4_i32_2074 : BitVec 32 := 4#32
  let v6738 : Index := Scalar.indexCast c4_i32_2074
  let c63_i32_2047 : BitVec 32 := 63#32
  let v6684 : BitVec 32 := Scalar.andi v6683 c63_i32_2047
  let c32_i32_2048 : BitVec 32 := 32#32
  let v6685 : BitVec 32 := Scalar.muli v6684 c32_i32_2048
  let v6737 : BitVec 32 := Scalar.addi v6685 c0_i32_2073
  let v6739 : Index := Scalar.indexCast v6737
  ![4, v6739.toNat]
def k0_off367 (v6683 : BitVec 32) (c0_i32_2077 : BitVec 32) : Fin 2 → Nat :=
  let c5_i32_2078 : BitVec 32 := 5#32
  let v6748 : Index := Scalar.indexCast c5_i32_2078
  let c63_i32_2047 : BitVec 32 := 63#32
  let v6684 : BitVec 32 := Scalar.andi v6683 c63_i32_2047
  let c32_i32_2048 : BitVec 32 := 32#32
  let v6685 : BitVec 32 := Scalar.muli v6684 c32_i32_2048
  let v6747 : BitVec 32 := Scalar.addi v6685 c0_i32_2077
  let v6749 : Index := Scalar.indexCast v6747
  ![5, v6749.toNat]
def k0_off368 (v6683 : BitVec 32) (c0_i32_2081 : BitVec 32) : Fin 2 → Nat :=
  let c6_i32_2082 : BitVec 32 := 6#32
  let v6758 : Index := Scalar.indexCast c6_i32_2082
  let c63_i32_2047 : BitVec 32 := 63#32
  let v6684 : BitVec 32 := Scalar.andi v6683 c63_i32_2047
  let c32_i32_2048 : BitVec 32 := 32#32
  let v6685 : BitVec 32 := Scalar.muli v6684 c32_i32_2048
  let v6757 : BitVec 32 := Scalar.addi v6685 c0_i32_2081
  let v6759 : Index := Scalar.indexCast v6757
  ![6, v6759.toNat]
def k0_off369 (v6683 : BitVec 32) (c0_i32_2085 : BitVec 32) : Fin 2 → Nat :=
  let c7_i32_2086 : BitVec 32 := 7#32
  let v6768 : Index := Scalar.indexCast c7_i32_2086
  let c63_i32_2047 : BitVec 32 := 63#32
  let v6684 : BitVec 32 := Scalar.andi v6683 c63_i32_2047
  let c32_i32_2048 : BitVec 32 := 32#32
  let v6685 : BitVec 32 := Scalar.muli v6684 c32_i32_2048
  let v6767 : BitVec 32 := Scalar.addi v6685 c0_i32_2085
  let v6769 : Index := Scalar.indexCast v6767
  ![7, v6769.toNat]
def k0_off370 (v6683 : BitVec 32) (c0_i32_2089 : BitVec 32) : Fin 2 → Nat :=
  let c0_i32_2090 : BitVec 32 := 0#32
  let v6778 : Index := Scalar.indexCast c0_i32_2090
  let c6_i32_2049 : BitVec 32 := 6#32
  let v6686 : BitVec 32 := Scalar.shrsi v6683 c6_i32_2049
  let c63_i32_2050 : BitVec 32 := 63#32
  let v6687 : BitVec 32 := Scalar.andi v6686 c63_i32_2050
  let c32_i32_2051 : BitVec 32 := 32#32
  let v6688 : BitVec 32 := Scalar.muli v6687 c32_i32_2051
  let v6777 : BitVec 32 := Scalar.addi v6688 c0_i32_2089
  let v6779 : Index := Scalar.indexCast v6777
  ![0, v6779.toNat]
def k0_off371 (v6683 : BitVec 32) (c0_i32_2093 : BitVec 32) : Fin 2 → Nat :=
  let c1_i32_2094 : BitVec 32 := 1#32
  let v6788 : Index := Scalar.indexCast c1_i32_2094
  let c6_i32_2049 : BitVec 32 := 6#32
  let v6686 : BitVec 32 := Scalar.shrsi v6683 c6_i32_2049
  let c63_i32_2050 : BitVec 32 := 63#32
  let v6687 : BitVec 32 := Scalar.andi v6686 c63_i32_2050
  let c32_i32_2051 : BitVec 32 := 32#32
  let v6688 : BitVec 32 := Scalar.muli v6687 c32_i32_2051
  let v6787 : BitVec 32 := Scalar.addi v6688 c0_i32_2093
  let v6789 : Index := Scalar.indexCast v6787
  ![1, v6789.toNat]
def k0_off372 (v6683 : BitVec 32) (c0_i32_2097 : BitVec 32) : Fin 2 → Nat :=
  let c2_i32_2098 : BitVec 32 := 2#32
  let v6798 : Index := Scalar.indexCast c2_i32_2098
  let c6_i32_2049 : BitVec 32 := 6#32
  let v6686 : BitVec 32 := Scalar.shrsi v6683 c6_i32_2049
  let c63_i32_2050 : BitVec 32 := 63#32
  let v6687 : BitVec 32 := Scalar.andi v6686 c63_i32_2050
  let c32_i32_2051 : BitVec 32 := 32#32
  let v6688 : BitVec 32 := Scalar.muli v6687 c32_i32_2051
  let v6797 : BitVec 32 := Scalar.addi v6688 c0_i32_2097
  let v6799 : Index := Scalar.indexCast v6797
  ![2, v6799.toNat]
def k0_off373 (v6683 : BitVec 32) (c0_i32_2101 : BitVec 32) : Fin 2 → Nat :=
  let c3_i32_2102 : BitVec 32 := 3#32
  let v6808 : Index := Scalar.indexCast c3_i32_2102
  let c6_i32_2049 : BitVec 32 := 6#32
  let v6686 : BitVec 32 := Scalar.shrsi v6683 c6_i32_2049
  let c63_i32_2050 : BitVec 32 := 63#32
  let v6687 : BitVec 32 := Scalar.andi v6686 c63_i32_2050
  let c32_i32_2051 : BitVec 32 := 32#32
  let v6688 : BitVec 32 := Scalar.muli v6687 c32_i32_2051
  let v6807 : BitVec 32 := Scalar.addi v6688 c0_i32_2101
  let v6809 : Index := Scalar.indexCast v6807
  ![3, v6809.toNat]
def k0_off374 (v6683 : BitVec 32) (c0_i32_2105 : BitVec 32) : Fin 2 → Nat :=
  let c4_i32_2106 : BitVec 32 := 4#32
  let v6818 : Index := Scalar.indexCast c4_i32_2106
  let c6_i32_2049 : BitVec 32 := 6#32
  let v6686 : BitVec 32 := Scalar.shrsi v6683 c6_i32_2049
  let c63_i32_2050 : BitVec 32 := 63#32
  let v6687 : BitVec 32 := Scalar.andi v6686 c63_i32_2050
  let c32_i32_2051 : BitVec 32 := 32#32
  let v6688 : BitVec 32 := Scalar.muli v6687 c32_i32_2051
  let v6817 : BitVec 32 := Scalar.addi v6688 c0_i32_2105
  let v6819 : Index := Scalar.indexCast v6817
  ![4, v6819.toNat]
def k0_off375 (v6683 : BitVec 32) (c0_i32_2109 : BitVec 32) : Fin 2 → Nat :=
  let c5_i32_2110 : BitVec 32 := 5#32
  let v6828 : Index := Scalar.indexCast c5_i32_2110
  let c6_i32_2049 : BitVec 32 := 6#32
  let v6686 : BitVec 32 := Scalar.shrsi v6683 c6_i32_2049
  let c63_i32_2050 : BitVec 32 := 63#32
  let v6687 : BitVec 32 := Scalar.andi v6686 c63_i32_2050
  let c32_i32_2051 : BitVec 32 := 32#32
  let v6688 : BitVec 32 := Scalar.muli v6687 c32_i32_2051
  let v6827 : BitVec 32 := Scalar.addi v6688 c0_i32_2109
  let v6829 : Index := Scalar.indexCast v6827
  ![5, v6829.toNat]
def k0_off376 (v6683 : BitVec 32) (c0_i32_2113 : BitVec 32) : Fin 2 → Nat :=
  let c6_i32_2114 : BitVec 32 := 6#32
  let v6838 : Index := Scalar.indexCast c6_i32_2114
  let c6_i32_2049 : BitVec 32 := 6#32
  let v6686 : BitVec 32 := Scalar.shrsi v6683 c6_i32_2049
  let c63_i32_2050 : BitVec 32 := 63#32
  let v6687 : BitVec 32 := Scalar.andi v6686 c63_i32_2050
  let c32_i32_2051 : BitVec 32 := 32#32
  let v6688 : BitVec 32 := Scalar.muli v6687 c32_i32_2051
  let v6837 : BitVec 32 := Scalar.addi v6688 c0_i32_2113
  let v6839 : Index := Scalar.indexCast v6837
  ![6, v6839.toNat]
def k0_off377 (v6683 : BitVec 32) (c0_i32_2117 : BitVec 32) : Fin 2 → Nat :=
  let c7_i32_2118 : BitVec 32 := 7#32
  let v6848 : Index := Scalar.indexCast c7_i32_2118
  let c6_i32_2049 : BitVec 32 := 6#32
  let v6686 : BitVec 32 := Scalar.shrsi v6683 c6_i32_2049
  let c63_i32_2050 : BitVec 32 := 63#32
  let v6687 : BitVec 32 := Scalar.andi v6686 c63_i32_2050
  let c32_i32_2051 : BitVec 32 := 32#32
  let v6688 : BitVec 32 := Scalar.muli v6687 c32_i32_2051
  let v6847 : BitVec 32 := Scalar.addi v6688 c0_i32_2117
  let v6849 : Index := Scalar.indexCast v6847
  ![7, v6849.toNat]
def k0_off378 (v6683 : BitVec 32) (c0_i32_2121 : BitVec 32) : Fin 2 → Nat :=
  let c0_i32_2122 : BitVec 32 := 0#32
  let v6890 : Index := Scalar.indexCast c0_i32_2122
  let c12_i32_2052 : BitVec 32 := 12#32
  let v6689 : BitVec 32 := Scalar.shrsi v6683 c12_i32_2052
  let c32_i32_2053 : BitVec 32 := 32#32
  let v6690 : BitVec 32 := Scalar.muli v6689 c32_i32_2053
  let v6889 : BitVec 32 := Scalar.addi v6690 c0_i32_2121
  let v6891 : Index := Scalar.indexCast v6889
  ![0, v6891.toNat]
def k0_off379 (v6683 : BitVec 32) (c0_i32_2129 : BitVec 32) : Fin 2 → Nat :=
  let c1_i32_2130 : BitVec 32 := 1#32
  let v6914 : Index := Scalar.indexCast c1_i32_2130
  let c12_i32_2052 : BitVec 32 := 12#32
  let v6689 : BitVec 32 := Scalar.shrsi v6683 c12_i32_2052
  let c32_i32_2053 : BitVec 32 := 32#32
  let v6690 : BitVec 32 := Scalar.muli v6689 c32_i32_2053
  let v6913 : BitVec 32 := Scalar.addi v6690 c0_i32_2129
  let v6915 : Index := Scalar.indexCast v6913
  ![1, v6915.toNat]
def k0_off380 (v6683 : BitVec 32) (c0_i32_2137 : BitVec 32) : Fin 2 → Nat :=
  let c2_i32_2138 : BitVec 32 := 2#32
  let v6938 : Index := Scalar.indexCast c2_i32_2138
  let c12_i32_2052 : BitVec 32 := 12#32
  let v6689 : BitVec 32 := Scalar.shrsi v6683 c12_i32_2052
  let c32_i32_2053 : BitVec 32 := 32#32
  let v6690 : BitVec 32 := Scalar.muli v6689 c32_i32_2053
  let v6937 : BitVec 32 := Scalar.addi v6690 c0_i32_2137
  let v6939 : Index := Scalar.indexCast v6937
  ![2, v6939.toNat]
def k0_off381 (v6683 : BitVec 32) (c0_i32_2145 : BitVec 32) : Fin 2 → Nat :=
  let c3_i32_2146 : BitVec 32 := 3#32
  let v6962 : Index := Scalar.indexCast c3_i32_2146
  let c12_i32_2052 : BitVec 32 := 12#32
  let v6689 : BitVec 32 := Scalar.shrsi v6683 c12_i32_2052
  let c32_i32_2053 : BitVec 32 := 32#32
  let v6690 : BitVec 32 := Scalar.muli v6689 c32_i32_2053
  let v6961 : BitVec 32 := Scalar.addi v6690 c0_i32_2145
  let v6963 : Index := Scalar.indexCast v6961
  ![3, v6963.toNat]
def k0_off382 (v6683 : BitVec 32) (c0_i32_2153 : BitVec 32) : Fin 2 → Nat :=
  let c4_i32_2154 : BitVec 32 := 4#32
  let v6986 : Index := Scalar.indexCast c4_i32_2154
  let c12_i32_2052 : BitVec 32 := 12#32
  let v6689 : BitVec 32 := Scalar.shrsi v6683 c12_i32_2052
  let c32_i32_2053 : BitVec 32 := 32#32
  let v6690 : BitVec 32 := Scalar.muli v6689 c32_i32_2053
  let v6985 : BitVec 32 := Scalar.addi v6690 c0_i32_2153
  let v6987 : Index := Scalar.indexCast v6985
  ![4, v6987.toNat]
def k0_off383 (v6683 : BitVec 32) (c0_i32_2161 : BitVec 32) : Fin 2 → Nat :=
  let c5_i32_2162 : BitVec 32 := 5#32
  let v7010 : Index := Scalar.indexCast c5_i32_2162
  let c12_i32_2052 : BitVec 32 := 12#32
  let v6689 : BitVec 32 := Scalar.shrsi v6683 c12_i32_2052
  let c32_i32_2053 : BitVec 32 := 32#32
  let v6690 : BitVec 32 := Scalar.muli v6689 c32_i32_2053
  let v7009 : BitVec 32 := Scalar.addi v6690 c0_i32_2161
  let v7011 : Index := Scalar.indexCast v7009
  ![5, v7011.toNat]
def k0_off384 (v6683 : BitVec 32) (c0_i32_2169 : BitVec 32) : Fin 2 → Nat :=
  let c6_i32_2170 : BitVec 32 := 6#32
  let v7034 : Index := Scalar.indexCast c6_i32_2170
  let c12_i32_2052 : BitVec 32 := 12#32
  let v6689 : BitVec 32 := Scalar.shrsi v6683 c12_i32_2052
  let c32_i32_2053 : BitVec 32 := 32#32
  let v6690 : BitVec 32 := Scalar.muli v6689 c32_i32_2053
  let v7033 : BitVec 32 := Scalar.addi v6690 c0_i32_2169
  let v7035 : Index := Scalar.indexCast v7033
  ![6, v7035.toNat]
def k0_off385 (v6683 : BitVec 32) (c0_i32_2177 : BitVec 32) : Fin 2 → Nat :=
  let c7_i32_2178 : BitVec 32 := 7#32
  let v7058 : Index := Scalar.indexCast c7_i32_2178
  let c12_i32_2052 : BitVec 32 := 12#32
  let v6689 : BitVec 32 := Scalar.shrsi v6683 c12_i32_2052
  let c32_i32_2053 : BitVec 32 := 32#32
  let v6690 : BitVec 32 := Scalar.muli v6689 c32_i32_2053
  let v7057 : BitVec 32 := Scalar.addi v6690 c0_i32_2177
  let v7059 : Index := Scalar.indexCast v7057
  ![7, v7059.toNat]

def k0_chk15 (v6683 : BitVec 32) : Prop :=
  (∀ (r : Fin 2), ∀ a, (k0_off362 v6683 (BitVec.ofNat 32 (16 * r.val))) a + S1x16.size a ≤ S8x2048.size a) ∧
  (∀ (r : Fin 2), ∀ a, (k0_off363 v6683 (BitVec.ofNat 32 (16 * r.val))) a + S1x16.size a ≤ S8x2048.size a) ∧
  (∀ (r : Fin 2), ∀ a, (k0_off364 v6683 (BitVec.ofNat 32 (16 * r.val))) a + S1x16.size a ≤ S8x2048.size a) ∧
  (∀ (r : Fin 2), ∀ a, (k0_off365 v6683 (BitVec.ofNat 32 (16 * r.val))) a + S1x16.size a ≤ S8x2048.size a) ∧
  (∀ (r : Fin 2), ∀ a, (k0_off366 v6683 (BitVec.ofNat 32 (16 * r.val))) a + S1x16.size a ≤ S8x2048.size a) ∧
  (∀ (r : Fin 2), ∀ a, (k0_off367 v6683 (BitVec.ofNat 32 (16 * r.val))) a + S1x16.size a ≤ S8x2048.size a) ∧
  (∀ (r : Fin 2), ∀ a, (k0_off368 v6683 (BitVec.ofNat 32 (16 * r.val))) a + S1x16.size a ≤ S8x2048.size a) ∧
  (∀ (r : Fin 2), ∀ a, (k0_off369 v6683 (BitVec.ofNat 32 (16 * r.val))) a + S1x16.size a ≤ S8x2048.size a) ∧
  (∀ (r : Fin 2), ∀ a, (k0_off370 v6683 (BitVec.ofNat 32 (16 * r.val))) a + S1x16.size a ≤ S8x2048.size a) ∧
  (∀ (r : Fin 2), ∀ a, (k0_off371 v6683 (BitVec.ofNat 32 (16 * r.val))) a + S1x16.size a ≤ S8x2048.size a) ∧
  (∀ (r : Fin 2), ∀ a, (k0_off372 v6683 (BitVec.ofNat 32 (16 * r.val))) a + S1x16.size a ≤ S8x2048.size a) ∧
  (∀ (r : Fin 2), ∀ a, (k0_off373 v6683 (BitVec.ofNat 32 (16 * r.val))) a + S1x16.size a ≤ S8x2048.size a) ∧
  (∀ (r : Fin 2), ∀ a, (k0_off374 v6683 (BitVec.ofNat 32 (16 * r.val))) a + S1x16.size a ≤ S8x2048.size a) ∧
  (∀ (r : Fin 2), ∀ a, (k0_off375 v6683 (BitVec.ofNat 32 (16 * r.val))) a + S1x16.size a ≤ S8x2048.size a) ∧
  (∀ (r : Fin 2), ∀ a, (k0_off376 v6683 (BitVec.ofNat 32 (16 * r.val))) a + S1x16.size a ≤ S8x2048.size a) ∧
  (∀ (r : Fin 2), ∀ a, (k0_off377 v6683 (BitVec.ofNat 32 (16 * r.val))) a + S1x16.size a ≤ S8x2048.size a) ∧
  (∀ (r : Fin 2), ∀ a, (k0_off378 v6683 (BitVec.ofNat 32 (16 * r.val))) a + S1x16.size a ≤ S8x2048.size a) ∧
  (∀ (r : Fin 2), ∀ a, (k0_off379 v6683 (BitVec.ofNat 32 (16 * r.val))) a + S1x16.size a ≤ S8x2048.size a) ∧
  (∀ (r : Fin 2), ∀ a, (k0_off380 v6683 (BitVec.ofNat 32 (16 * r.val))) a + S1x16.size a ≤ S8x2048.size a) ∧
  (∀ (r : Fin 2), ∀ a, (k0_off381 v6683 (BitVec.ofNat 32 (16 * r.val))) a + S1x16.size a ≤ S8x2048.size a) ∧
  (∀ (r : Fin 2), ∀ a, (k0_off382 v6683 (BitVec.ofNat 32 (16 * r.val))) a + S1x16.size a ≤ S8x2048.size a) ∧
  (∀ (r : Fin 2), ∀ a, (k0_off383 v6683 (BitVec.ofNat 32 (16 * r.val))) a + S1x16.size a ≤ S8x2048.size a) ∧
  (∀ (r : Fin 2), ∀ a, (k0_off384 v6683 (BitVec.ofNat 32 (16 * r.val))) a + S1x16.size a ≤ S8x2048.size a) ∧
  (∀ (r : Fin 2), ∀ a, (k0_off385 v6683 (BitVec.ofNat 32 (16 * r.val))) a + S1x16.size a ≤ S8x2048.size a)
theorem k0_off362_inb : ∀ (v6683 : BitVec 32) (k0_hw15 : k0_chk15 v6683), ∀ (r : Fin 2), ∀ a, (k0_off362 v6683 (BitVec.ofNat 32 (16 * r.val))) a + S1x16.size a ≤ S8x2048.size a := fun v6683 k0_hw15 r => k0_hw15.1 r
theorem k0_off363_inb : ∀ (v6683 : BitVec 32) (k0_hw15 : k0_chk15 v6683), ∀ (r : Fin 2), ∀ a, (k0_off363 v6683 (BitVec.ofNat 32 (16 * r.val))) a + S1x16.size a ≤ S8x2048.size a := fun v6683 k0_hw15 r => k0_hw15.2.1 r
theorem k0_off364_inb : ∀ (v6683 : BitVec 32) (k0_hw15 : k0_chk15 v6683), ∀ (r : Fin 2), ∀ a, (k0_off364 v6683 (BitVec.ofNat 32 (16 * r.val))) a + S1x16.size a ≤ S8x2048.size a := fun v6683 k0_hw15 r => k0_hw15.2.2.1 r
theorem k0_off365_inb : ∀ (v6683 : BitVec 32) (k0_hw15 : k0_chk15 v6683), ∀ (r : Fin 2), ∀ a, (k0_off365 v6683 (BitVec.ofNat 32 (16 * r.val))) a + S1x16.size a ≤ S8x2048.size a := fun v6683 k0_hw15 r => k0_hw15.2.2.2.1 r
theorem k0_off366_inb : ∀ (v6683 : BitVec 32) (k0_hw15 : k0_chk15 v6683), ∀ (r : Fin 2), ∀ a, (k0_off366 v6683 (BitVec.ofNat 32 (16 * r.val))) a + S1x16.size a ≤ S8x2048.size a := fun v6683 k0_hw15 r => k0_hw15.2.2.2.2.1 r
theorem k0_off367_inb : ∀ (v6683 : BitVec 32) (k0_hw15 : k0_chk15 v6683), ∀ (r : Fin 2), ∀ a, (k0_off367 v6683 (BitVec.ofNat 32 (16 * r.val))) a + S1x16.size a ≤ S8x2048.size a := fun v6683 k0_hw15 r => k0_hw15.2.2.2.2.2.1 r
theorem k0_off368_inb : ∀ (v6683 : BitVec 32) (k0_hw15 : k0_chk15 v6683), ∀ (r : Fin 2), ∀ a, (k0_off368 v6683 (BitVec.ofNat 32 (16 * r.val))) a + S1x16.size a ≤ S8x2048.size a := fun v6683 k0_hw15 r => k0_hw15.2.2.2.2.2.2.1 r
theorem k0_off369_inb : ∀ (v6683 : BitVec 32) (k0_hw15 : k0_chk15 v6683), ∀ (r : Fin 2), ∀ a, (k0_off369 v6683 (BitVec.ofNat 32 (16 * r.val))) a + S1x16.size a ≤ S8x2048.size a := fun v6683 k0_hw15 r => k0_hw15.2.2.2.2.2.2.2.1 r
theorem k0_off370_inb : ∀ (v6683 : BitVec 32) (k0_hw15 : k0_chk15 v6683), ∀ (r : Fin 2), ∀ a, (k0_off370 v6683 (BitVec.ofNat 32 (16 * r.val))) a + S1x16.size a ≤ S8x2048.size a := fun v6683 k0_hw15 r => k0_hw15.2.2.2.2.2.2.2.2.1 r
theorem k0_off371_inb : ∀ (v6683 : BitVec 32) (k0_hw15 : k0_chk15 v6683), ∀ (r : Fin 2), ∀ a, (k0_off371 v6683 (BitVec.ofNat 32 (16 * r.val))) a + S1x16.size a ≤ S8x2048.size a := fun v6683 k0_hw15 r => k0_hw15.2.2.2.2.2.2.2.2.2.1 r
theorem k0_off372_inb : ∀ (v6683 : BitVec 32) (k0_hw15 : k0_chk15 v6683), ∀ (r : Fin 2), ∀ a, (k0_off372 v6683 (BitVec.ofNat 32 (16 * r.val))) a + S1x16.size a ≤ S8x2048.size a := fun v6683 k0_hw15 r => k0_hw15.2.2.2.2.2.2.2.2.2.2.1 r
theorem k0_off373_inb : ∀ (v6683 : BitVec 32) (k0_hw15 : k0_chk15 v6683), ∀ (r : Fin 2), ∀ a, (k0_off373 v6683 (BitVec.ofNat 32 (16 * r.val))) a + S1x16.size a ≤ S8x2048.size a := fun v6683 k0_hw15 r => k0_hw15.2.2.2.2.2.2.2.2.2.2.2.1 r
theorem k0_off374_inb : ∀ (v6683 : BitVec 32) (k0_hw15 : k0_chk15 v6683), ∀ (r : Fin 2), ∀ a, (k0_off374 v6683 (BitVec.ofNat 32 (16 * r.val))) a + S1x16.size a ≤ S8x2048.size a := fun v6683 k0_hw15 r => k0_hw15.2.2.2.2.2.2.2.2.2.2.2.2.1 r
theorem k0_off375_inb : ∀ (v6683 : BitVec 32) (k0_hw15 : k0_chk15 v6683), ∀ (r : Fin 2), ∀ a, (k0_off375 v6683 (BitVec.ofNat 32 (16 * r.val))) a + S1x16.size a ≤ S8x2048.size a := fun v6683 k0_hw15 r => k0_hw15.2.2.2.2.2.2.2.2.2.2.2.2.2.1 r
theorem k0_off376_inb : ∀ (v6683 : BitVec 32) (k0_hw15 : k0_chk15 v6683), ∀ (r : Fin 2), ∀ a, (k0_off376 v6683 (BitVec.ofNat 32 (16 * r.val))) a + S1x16.size a ≤ S8x2048.size a := fun v6683 k0_hw15 r => k0_hw15.2.2.2.2.2.2.2.2.2.2.2.2.2.2.1 r
theorem k0_off377_inb : ∀ (v6683 : BitVec 32) (k0_hw15 : k0_chk15 v6683), ∀ (r : Fin 2), ∀ a, (k0_off377 v6683 (BitVec.ofNat 32 (16 * r.val))) a + S1x16.size a ≤ S8x2048.size a := fun v6683 k0_hw15 r => k0_hw15.2.2.2.2.2.2.2.2.2.2.2.2.2.2.2.1 r
theorem k0_off378_inb : ∀ (v6683 : BitVec 32) (k0_hw15 : k0_chk15 v6683), ∀ (r : Fin 2), ∀ a, (k0_off378 v6683 (BitVec.ofNat 32 (16 * r.val))) a + S1x16.size a ≤ S8x2048.size a := fun v6683 k0_hw15 r => k0_hw15.2.2.2.2.2.2.2.2.2.2.2.2.2.2.2.2.1 r
theorem k0_off379_inb : ∀ (v6683 : BitVec 32) (k0_hw15 : k0_chk15 v6683), ∀ (r : Fin 2), ∀ a, (k0_off379 v6683 (BitVec.ofNat 32 (16 * r.val))) a + S1x16.size a ≤ S8x2048.size a := fun v6683 k0_hw15 r => k0_hw15.2.2.2.2.2.2.2.2.2.2.2.2.2.2.2.2.2.1 r
theorem k0_off380_inb : ∀ (v6683 : BitVec 32) (k0_hw15 : k0_chk15 v6683), ∀ (r : Fin 2), ∀ a, (k0_off380 v6683 (BitVec.ofNat 32 (16 * r.val))) a + S1x16.size a ≤ S8x2048.size a := fun v6683 k0_hw15 r => k0_hw15.2.2.2.2.2.2.2.2.2.2.2.2.2.2.2.2.2.2.1 r
theorem k0_off381_inb : ∀ (v6683 : BitVec 32) (k0_hw15 : k0_chk15 v6683), ∀ (r : Fin 2), ∀ a, (k0_off381 v6683 (BitVec.ofNat 32 (16 * r.val))) a + S1x16.size a ≤ S8x2048.size a := fun v6683 k0_hw15 r => k0_hw15.2.2.2.2.2.2.2.2.2.2.2.2.2.2.2.2.2.2.2.1 r
theorem k0_off382_inb : ∀ (v6683 : BitVec 32) (k0_hw15 : k0_chk15 v6683), ∀ (r : Fin 2), ∀ a, (k0_off382 v6683 (BitVec.ofNat 32 (16 * r.val))) a + S1x16.size a ≤ S8x2048.size a := fun v6683 k0_hw15 r => k0_hw15.2.2.2.2.2.2.2.2.2.2.2.2.2.2.2.2.2.2.2.2.1 r
theorem k0_off383_inb : ∀ (v6683 : BitVec 32) (k0_hw15 : k0_chk15 v6683), ∀ (r : Fin 2), ∀ a, (k0_off383 v6683 (BitVec.ofNat 32 (16 * r.val))) a + S1x16.size a ≤ S8x2048.size a := fun v6683 k0_hw15 r => k0_hw15.2.2.2.2.2.2.2.2.2.2.2.2.2.2.2.2.2.2.2.2.2.1 r
theorem k0_off384_inb : ∀ (v6683 : BitVec 32) (k0_hw15 : k0_chk15 v6683), ∀ (r : Fin 2), ∀ a, (k0_off384 v6683 (BitVec.ofNat 32 (16 * r.val))) a + S1x16.size a ≤ S8x2048.size a := fun v6683 k0_hw15 r => k0_hw15.2.2.2.2.2.2.2.2.2.2.2.2.2.2.2.2.2.2.2.2.2.2.1 r
theorem k0_off385_inb : ∀ (v6683 : BitVec 32) (k0_hw15 : k0_chk15 v6683), ∀ (r : Fin 2), ∀ a, (k0_off385 v6683 (BitVec.ofNat 32 (16 * r.val))) a + S1x16.size a ≤ S8x2048.size a := fun v6683 k0_hw15 r => k0_hw15.2.2.2.2.2.2.2.2.2.2.2.2.2.2.2.2.2.2.2.2.2.2.2 r

def k0_off386 (k0_t3 : Fin k0_t3_loop.trips) : Fin 1 → Nat :=
  let c0_i32_90 : BitVec 32 := 0#32
  let c1_i32_92 : BitVec 32 := 1#32
  let arg28 : BitVec 32 := Scf.iv c0_i32_90 c1_i32_92 k0_t3
  let c16_i32_2192 : BitVec 32 := 16#32
  let v7090 : BitVec 32 := Scalar.muli arg28 c16_i32_2192
  let c15_i32 : BitVec 32 := 15#32
  let v7091 : BitVec 32 := Scalar.addi v7090 c15_i32
  let c16_i32_2193 : BitVec 32 := 16#32
  let v7092 : BitVec 32 := Scalar.muli v7091 c16_i32_2193
  let v7093 : Index := Scalar.indexCast v7092
  ![v7093.toNat]
def k0_off387 (v7082 : BitVec 32) (c0_i32_2194 : BitVec 32) : Fin 2 → Nat :=
  let c0_i32_2195 : BitVec 32 := 0#32
  let v7097 : Index := Scalar.indexCast c0_i32_2195
  let c63_i32_2185 : BitVec 32 := 63#32
  let v7083 : BitVec 32 := Scalar.andi v7082 c63_i32_2185
  let c32_i32_2186 : BitVec 32 := 32#32
  let v7084 : BitVec 32 := Scalar.muli v7083 c32_i32_2186
  let v7096 : BitVec 32 := Scalar.addi v7084 c0_i32_2194
  let v7098 : Index := Scalar.indexCast v7096
  ![0, v7098.toNat]

def k0_off388 (v7082 : BitVec 32) (c0_i32_2198 : BitVec 32) : Fin 2 → Nat :=
  let c1_i32_2199 : BitVec 32 := 1#32
  let v7107 : Index := Scalar.indexCast c1_i32_2199
  let c63_i32_2185 : BitVec 32 := 63#32
  let v7083 : BitVec 32 := Scalar.andi v7082 c63_i32_2185
  let c32_i32_2186 : BitVec 32 := 32#32
  let v7084 : BitVec 32 := Scalar.muli v7083 c32_i32_2186
  let v7106 : BitVec 32 := Scalar.addi v7084 c0_i32_2198
  let v7108 : Index := Scalar.indexCast v7106
  ![1, v7108.toNat]
def k0_off389 (v7082 : BitVec 32) (c0_i32_2202 : BitVec 32) : Fin 2 → Nat :=
  let c2_i32_2203 : BitVec 32 := 2#32
  let v7117 : Index := Scalar.indexCast c2_i32_2203
  let c63_i32_2185 : BitVec 32 := 63#32
  let v7083 : BitVec 32 := Scalar.andi v7082 c63_i32_2185
  let c32_i32_2186 : BitVec 32 := 32#32
  let v7084 : BitVec 32 := Scalar.muli v7083 c32_i32_2186
  let v7116 : BitVec 32 := Scalar.addi v7084 c0_i32_2202
  let v7118 : Index := Scalar.indexCast v7116
  ![2, v7118.toNat]
def k0_off390 (v7082 : BitVec 32) (c0_i32_2206 : BitVec 32) : Fin 2 → Nat :=
  let c3_i32_2207 : BitVec 32 := 3#32
  let v7127 : Index := Scalar.indexCast c3_i32_2207
  let c63_i32_2185 : BitVec 32 := 63#32
  let v7083 : BitVec 32 := Scalar.andi v7082 c63_i32_2185
  let c32_i32_2186 : BitVec 32 := 32#32
  let v7084 : BitVec 32 := Scalar.muli v7083 c32_i32_2186
  let v7126 : BitVec 32 := Scalar.addi v7084 c0_i32_2206
  let v7128 : Index := Scalar.indexCast v7126
  ![3, v7128.toNat]
def k0_off391 (v7082 : BitVec 32) (c0_i32_2210 : BitVec 32) : Fin 2 → Nat :=
  let c4_i32_2211 : BitVec 32 := 4#32
  let v7137 : Index := Scalar.indexCast c4_i32_2211
  let c63_i32_2185 : BitVec 32 := 63#32
  let v7083 : BitVec 32 := Scalar.andi v7082 c63_i32_2185
  let c32_i32_2186 : BitVec 32 := 32#32
  let v7084 : BitVec 32 := Scalar.muli v7083 c32_i32_2186
  let v7136 : BitVec 32 := Scalar.addi v7084 c0_i32_2210
  let v7138 : Index := Scalar.indexCast v7136
  ![4, v7138.toNat]
def k0_off392 (v7082 : BitVec 32) (c0_i32_2214 : BitVec 32) : Fin 2 → Nat :=
  let c5_i32_2215 : BitVec 32 := 5#32
  let v7147 : Index := Scalar.indexCast c5_i32_2215
  let c63_i32_2185 : BitVec 32 := 63#32
  let v7083 : BitVec 32 := Scalar.andi v7082 c63_i32_2185
  let c32_i32_2186 : BitVec 32 := 32#32
  let v7084 : BitVec 32 := Scalar.muli v7083 c32_i32_2186
  let v7146 : BitVec 32 := Scalar.addi v7084 c0_i32_2214
  let v7148 : Index := Scalar.indexCast v7146
  ![5, v7148.toNat]
def k0_off393 (v7082 : BitVec 32) (c0_i32_2218 : BitVec 32) : Fin 2 → Nat :=
  let c6_i32_2219 : BitVec 32 := 6#32
  let v7157 : Index := Scalar.indexCast c6_i32_2219
  let c63_i32_2185 : BitVec 32 := 63#32
  let v7083 : BitVec 32 := Scalar.andi v7082 c63_i32_2185
  let c32_i32_2186 : BitVec 32 := 32#32
  let v7084 : BitVec 32 := Scalar.muli v7083 c32_i32_2186
  let v7156 : BitVec 32 := Scalar.addi v7084 c0_i32_2218
  let v7158 : Index := Scalar.indexCast v7156
  ![6, v7158.toNat]
def k0_off394 (v7082 : BitVec 32) (c0_i32_2222 : BitVec 32) : Fin 2 → Nat :=
  let c7_i32_2223 : BitVec 32 := 7#32
  let v7167 : Index := Scalar.indexCast c7_i32_2223
  let c63_i32_2185 : BitVec 32 := 63#32
  let v7083 : BitVec 32 := Scalar.andi v7082 c63_i32_2185
  let c32_i32_2186 : BitVec 32 := 32#32
  let v7084 : BitVec 32 := Scalar.muli v7083 c32_i32_2186
  let v7166 : BitVec 32 := Scalar.addi v7084 c0_i32_2222
  let v7168 : Index := Scalar.indexCast v7166
  ![7, v7168.toNat]
def k0_off395 (v7082 : BitVec 32) (c0_i32_2226 : BitVec 32) : Fin 2 → Nat :=
  let c0_i32_2227 : BitVec 32 := 0#32
  let v7177 : Index := Scalar.indexCast c0_i32_2227
  let c6_i32_2187 : BitVec 32 := 6#32
  let v7085 : BitVec 32 := Scalar.shrsi v7082 c6_i32_2187
  let c63_i32_2188 : BitVec 32 := 63#32
  let v7086 : BitVec 32 := Scalar.andi v7085 c63_i32_2188
  let c32_i32_2189 : BitVec 32 := 32#32
  let v7087 : BitVec 32 := Scalar.muli v7086 c32_i32_2189
  let v7176 : BitVec 32 := Scalar.addi v7087 c0_i32_2226
  let v7178 : Index := Scalar.indexCast v7176
  ![0, v7178.toNat]
def k0_off396 (v7082 : BitVec 32) (c0_i32_2230 : BitVec 32) : Fin 2 → Nat :=
  let c1_i32_2231 : BitVec 32 := 1#32
  let v7187 : Index := Scalar.indexCast c1_i32_2231
  let c6_i32_2187 : BitVec 32 := 6#32
  let v7085 : BitVec 32 := Scalar.shrsi v7082 c6_i32_2187
  let c63_i32_2188 : BitVec 32 := 63#32
  let v7086 : BitVec 32 := Scalar.andi v7085 c63_i32_2188
  let c32_i32_2189 : BitVec 32 := 32#32
  let v7087 : BitVec 32 := Scalar.muli v7086 c32_i32_2189
  let v7186 : BitVec 32 := Scalar.addi v7087 c0_i32_2230
  let v7188 : Index := Scalar.indexCast v7186
  ![1, v7188.toNat]
def k0_off397 (v7082 : BitVec 32) (c0_i32_2234 : BitVec 32) : Fin 2 → Nat :=
  let c2_i32_2235 : BitVec 32 := 2#32
  let v7197 : Index := Scalar.indexCast c2_i32_2235
  let c6_i32_2187 : BitVec 32 := 6#32
  let v7085 : BitVec 32 := Scalar.shrsi v7082 c6_i32_2187
  let c63_i32_2188 : BitVec 32 := 63#32
  let v7086 : BitVec 32 := Scalar.andi v7085 c63_i32_2188
  let c32_i32_2189 : BitVec 32 := 32#32
  let v7087 : BitVec 32 := Scalar.muli v7086 c32_i32_2189
  let v7196 : BitVec 32 := Scalar.addi v7087 c0_i32_2234
  let v7198 : Index := Scalar.indexCast v7196
  ![2, v7198.toNat]
def k0_off398 (v7082 : BitVec 32) (c0_i32_2238 : BitVec 32) : Fin 2 → Nat :=
  let c3_i32_2239 : BitVec 32 := 3#32
  let v7207 : Index := Scalar.indexCast c3_i32_2239
  let c6_i32_2187 : BitVec 32 := 6#32
  let v7085 : BitVec 32 := Scalar.shrsi v7082 c6_i32_2187
  let c63_i32_2188 : BitVec 32 := 63#32
  let v7086 : BitVec 32 := Scalar.andi v7085 c63_i32_2188
  let c32_i32_2189 : BitVec 32 := 32#32
  let v7087 : BitVec 32 := Scalar.muli v7086 c32_i32_2189
  let v7206 : BitVec 32 := Scalar.addi v7087 c0_i32_2238
  let v7208 : Index := Scalar.indexCast v7206
  ![3, v7208.toNat]
def k0_off399 (v7082 : BitVec 32) (c0_i32_2242 : BitVec 32) : Fin 2 → Nat :=
  let c4_i32_2243 : BitVec 32 := 4#32
  let v7217 : Index := Scalar.indexCast c4_i32_2243
  let c6_i32_2187 : BitVec 32 := 6#32
  let v7085 : BitVec 32 := Scalar.shrsi v7082 c6_i32_2187
  let c63_i32_2188 : BitVec 32 := 63#32
  let v7086 : BitVec 32 := Scalar.andi v7085 c63_i32_2188
  let c32_i32_2189 : BitVec 32 := 32#32
  let v7087 : BitVec 32 := Scalar.muli v7086 c32_i32_2189
  let v7216 : BitVec 32 := Scalar.addi v7087 c0_i32_2242
  let v7218 : Index := Scalar.indexCast v7216
  ![4, v7218.toNat]
def k0_off400 (v7082 : BitVec 32) (c0_i32_2246 : BitVec 32) : Fin 2 → Nat :=
  let c5_i32_2247 : BitVec 32 := 5#32
  let v7227 : Index := Scalar.indexCast c5_i32_2247
  let c6_i32_2187 : BitVec 32 := 6#32
  let v7085 : BitVec 32 := Scalar.shrsi v7082 c6_i32_2187
  let c63_i32_2188 : BitVec 32 := 63#32
  let v7086 : BitVec 32 := Scalar.andi v7085 c63_i32_2188
  let c32_i32_2189 : BitVec 32 := 32#32
  let v7087 : BitVec 32 := Scalar.muli v7086 c32_i32_2189
  let v7226 : BitVec 32 := Scalar.addi v7087 c0_i32_2246
  let v7228 : Index := Scalar.indexCast v7226
  ![5, v7228.toNat]
def k0_off401 (v7082 : BitVec 32) (c0_i32_2250 : BitVec 32) : Fin 2 → Nat :=
  let c6_i32_2251 : BitVec 32 := 6#32
  let v7237 : Index := Scalar.indexCast c6_i32_2251
  let c6_i32_2187 : BitVec 32 := 6#32
  let v7085 : BitVec 32 := Scalar.shrsi v7082 c6_i32_2187
  let c63_i32_2188 : BitVec 32 := 63#32
  let v7086 : BitVec 32 := Scalar.andi v7085 c63_i32_2188
  let c32_i32_2189 : BitVec 32 := 32#32
  let v7087 : BitVec 32 := Scalar.muli v7086 c32_i32_2189
  let v7236 : BitVec 32 := Scalar.addi v7087 c0_i32_2250
  let v7238 : Index := Scalar.indexCast v7236
  ![6, v7238.toNat]
def k0_off402 (v7082 : BitVec 32) (c0_i32_2254 : BitVec 32) : Fin 2 → Nat :=
  let c7_i32_2255 : BitVec 32 := 7#32
  let v7247 : Index := Scalar.indexCast c7_i32_2255
  let c6_i32_2187 : BitVec 32 := 6#32
  let v7085 : BitVec 32 := Scalar.shrsi v7082 c6_i32_2187
  let c63_i32_2188 : BitVec 32 := 63#32
  let v7086 : BitVec 32 := Scalar.andi v7085 c63_i32_2188
  let c32_i32_2189 : BitVec 32 := 32#32
  let v7087 : BitVec 32 := Scalar.muli v7086 c32_i32_2189
  let v7246 : BitVec 32 := Scalar.addi v7087 c0_i32_2254
  let v7248 : Index := Scalar.indexCast v7246
  ![7, v7248.toNat]
def k0_off403 (v7082 : BitVec 32) (c0_i32_2258 : BitVec 32) : Fin 2 → Nat :=
  let c0_i32_2259 : BitVec 32 := 0#32
  let v7289 : Index := Scalar.indexCast c0_i32_2259
  let c12_i32_2190 : BitVec 32 := 12#32
  let v7088 : BitVec 32 := Scalar.shrsi v7082 c12_i32_2190
  let c32_i32_2191 : BitVec 32 := 32#32
  let v7089 : BitVec 32 := Scalar.muli v7088 c32_i32_2191
  let v7288 : BitVec 32 := Scalar.addi v7089 c0_i32_2258
  let v7290 : Index := Scalar.indexCast v7288
  ![0, v7290.toNat]
def k0_off404 (v7082 : BitVec 32) (c0_i32_2266 : BitVec 32) : Fin 2 → Nat :=
  let c1_i32_2267 : BitVec 32 := 1#32
  let v7313 : Index := Scalar.indexCast c1_i32_2267
  let c12_i32_2190 : BitVec 32 := 12#32
  let v7088 : BitVec 32 := Scalar.shrsi v7082 c12_i32_2190
  let c32_i32_2191 : BitVec 32 := 32#32
  let v7089 : BitVec 32 := Scalar.muli v7088 c32_i32_2191
  let v7312 : BitVec 32 := Scalar.addi v7089 c0_i32_2266
  let v7314 : Index := Scalar.indexCast v7312
  ![1, v7314.toNat]
def k0_off405 (v7082 : BitVec 32) (c0_i32_2274 : BitVec 32) : Fin 2 → Nat :=
  let c2_i32_2275 : BitVec 32 := 2#32
  let v7337 : Index := Scalar.indexCast c2_i32_2275
  let c12_i32_2190 : BitVec 32 := 12#32
  let v7088 : BitVec 32 := Scalar.shrsi v7082 c12_i32_2190
  let c32_i32_2191 : BitVec 32 := 32#32
  let v7089 : BitVec 32 := Scalar.muli v7088 c32_i32_2191
  let v7336 : BitVec 32 := Scalar.addi v7089 c0_i32_2274
  let v7338 : Index := Scalar.indexCast v7336
  ![2, v7338.toNat]
def k0_off406 (v7082 : BitVec 32) (c0_i32_2282 : BitVec 32) : Fin 2 → Nat :=
  let c3_i32_2283 : BitVec 32 := 3#32
  let v7361 : Index := Scalar.indexCast c3_i32_2283
  let c12_i32_2190 : BitVec 32 := 12#32
  let v7088 : BitVec 32 := Scalar.shrsi v7082 c12_i32_2190
  let c32_i32_2191 : BitVec 32 := 32#32
  let v7089 : BitVec 32 := Scalar.muli v7088 c32_i32_2191
  let v7360 : BitVec 32 := Scalar.addi v7089 c0_i32_2282
  let v7362 : Index := Scalar.indexCast v7360
  ![3, v7362.toNat]
def k0_off407 (v7082 : BitVec 32) (c0_i32_2290 : BitVec 32) : Fin 2 → Nat :=
  let c4_i32_2291 : BitVec 32 := 4#32
  let v7385 : Index := Scalar.indexCast c4_i32_2291
  let c12_i32_2190 : BitVec 32 := 12#32
  let v7088 : BitVec 32 := Scalar.shrsi v7082 c12_i32_2190
  let c32_i32_2191 : BitVec 32 := 32#32
  let v7089 : BitVec 32 := Scalar.muli v7088 c32_i32_2191
  let v7384 : BitVec 32 := Scalar.addi v7089 c0_i32_2290
  let v7386 : Index := Scalar.indexCast v7384
  ![4, v7386.toNat]
def k0_off408 (v7082 : BitVec 32) (c0_i32_2298 : BitVec 32) : Fin 2 → Nat :=
  let c5_i32_2299 : BitVec 32 := 5#32
  let v7409 : Index := Scalar.indexCast c5_i32_2299
  let c12_i32_2190 : BitVec 32 := 12#32
  let v7088 : BitVec 32 := Scalar.shrsi v7082 c12_i32_2190
  let c32_i32_2191 : BitVec 32 := 32#32
  let v7089 : BitVec 32 := Scalar.muli v7088 c32_i32_2191
  let v7408 : BitVec 32 := Scalar.addi v7089 c0_i32_2298
  let v7410 : Index := Scalar.indexCast v7408
  ![5, v7410.toNat]
def k0_off409 (v7082 : BitVec 32) (c0_i32_2306 : BitVec 32) : Fin 2 → Nat :=
  let c6_i32_2307 : BitVec 32 := 6#32
  let v7433 : Index := Scalar.indexCast c6_i32_2307
  let c12_i32_2190 : BitVec 32 := 12#32
  let v7088 : BitVec 32 := Scalar.shrsi v7082 c12_i32_2190
  let c32_i32_2191 : BitVec 32 := 32#32
  let v7089 : BitVec 32 := Scalar.muli v7088 c32_i32_2191
  let v7432 : BitVec 32 := Scalar.addi v7089 c0_i32_2306
  let v7434 : Index := Scalar.indexCast v7432
  ![6, v7434.toNat]
def k0_off410 (v7082 : BitVec 32) (c0_i32_2314 : BitVec 32) : Fin 2 → Nat :=
  let c7_i32_2315 : BitVec 32 := 7#32
  let v7457 : Index := Scalar.indexCast c7_i32_2315
  let c12_i32_2190 : BitVec 32 := 12#32
  let v7088 : BitVec 32 := Scalar.shrsi v7082 c12_i32_2190
  let c32_i32_2191 : BitVec 32 := 32#32
  let v7089 : BitVec 32 := Scalar.muli v7088 c32_i32_2191
  let v7456 : BitVec 32 := Scalar.addi v7089 c0_i32_2314
  let v7458 : Index := Scalar.indexCast v7456
  ![7, v7458.toNat]

def k0_chk16 (v7082 : BitVec 32) : Prop :=
  (∀ (r : Fin 2), ∀ a, (k0_off387 v7082 (BitVec.ofNat 32 (16 * r.val))) a + S1x16.size a ≤ S8x2048.size a) ∧
  (∀ (r : Fin 2), ∀ a, (k0_off388 v7082 (BitVec.ofNat 32 (16 * r.val))) a + S1x16.size a ≤ S8x2048.size a) ∧
  (∀ (r : Fin 2), ∀ a, (k0_off389 v7082 (BitVec.ofNat 32 (16 * r.val))) a + S1x16.size a ≤ S8x2048.size a) ∧
  (∀ (r : Fin 2), ∀ a, (k0_off390 v7082 (BitVec.ofNat 32 (16 * r.val))) a + S1x16.size a ≤ S8x2048.size a) ∧
  (∀ (r : Fin 2), ∀ a, (k0_off391 v7082 (BitVec.ofNat 32 (16 * r.val))) a + S1x16.size a ≤ S8x2048.size a) ∧
  (∀ (r : Fin 2), ∀ a, (k0_off392 v7082 (BitVec.ofNat 32 (16 * r.val))) a + S1x16.size a ≤ S8x2048.size a) ∧
  (∀ (r : Fin 2), ∀ a, (k0_off393 v7082 (BitVec.ofNat 32 (16 * r.val))) a + S1x16.size a ≤ S8x2048.size a) ∧
  (∀ (r : Fin 2), ∀ a, (k0_off394 v7082 (BitVec.ofNat 32 (16 * r.val))) a + S1x16.size a ≤ S8x2048.size a) ∧
  (∀ (r : Fin 2), ∀ a, (k0_off395 v7082 (BitVec.ofNat 32 (16 * r.val))) a + S1x16.size a ≤ S8x2048.size a) ∧
  (∀ (r : Fin 2), ∀ a, (k0_off396 v7082 (BitVec.ofNat 32 (16 * r.val))) a + S1x16.size a ≤ S8x2048.size a) ∧
  (∀ (r : Fin 2), ∀ a, (k0_off397 v7082 (BitVec.ofNat 32 (16 * r.val))) a + S1x16.size a ≤ S8x2048.size a) ∧
  (∀ (r : Fin 2), ∀ a, (k0_off398 v7082 (BitVec.ofNat 32 (16 * r.val))) a + S1x16.size a ≤ S8x2048.size a) ∧
  (∀ (r : Fin 2), ∀ a, (k0_off399 v7082 (BitVec.ofNat 32 (16 * r.val))) a + S1x16.size a ≤ S8x2048.size a) ∧
  (∀ (r : Fin 2), ∀ a, (k0_off400 v7082 (BitVec.ofNat 32 (16 * r.val))) a + S1x16.size a ≤ S8x2048.size a) ∧
  (∀ (r : Fin 2), ∀ a, (k0_off401 v7082 (BitVec.ofNat 32 (16 * r.val))) a + S1x16.size a ≤ S8x2048.size a) ∧
  (∀ (r : Fin 2), ∀ a, (k0_off402 v7082 (BitVec.ofNat 32 (16 * r.val))) a + S1x16.size a ≤ S8x2048.size a) ∧
  (∀ (r : Fin 2), ∀ a, (k0_off403 v7082 (BitVec.ofNat 32 (16 * r.val))) a + S1x16.size a ≤ S8x2048.size a) ∧
  (∀ (r : Fin 2), ∀ a, (k0_off404 v7082 (BitVec.ofNat 32 (16 * r.val))) a + S1x16.size a ≤ S8x2048.size a) ∧
  (∀ (r : Fin 2), ∀ a, (k0_off405 v7082 (BitVec.ofNat 32 (16 * r.val))) a + S1x16.size a ≤ S8x2048.size a) ∧
  (∀ (r : Fin 2), ∀ a, (k0_off406 v7082 (BitVec.ofNat 32 (16 * r.val))) a + S1x16.size a ≤ S8x2048.size a) ∧
  (∀ (r : Fin 2), ∀ a, (k0_off407 v7082 (BitVec.ofNat 32 (16 * r.val))) a + S1x16.size a ≤ S8x2048.size a) ∧
  (∀ (r : Fin 2), ∀ a, (k0_off408 v7082 (BitVec.ofNat 32 (16 * r.val))) a + S1x16.size a ≤ S8x2048.size a) ∧
  (∀ (r : Fin 2), ∀ a, (k0_off409 v7082 (BitVec.ofNat 32 (16 * r.val))) a + S1x16.size a ≤ S8x2048.size a) ∧
  (∀ (r : Fin 2), ∀ a, (k0_off410 v7082 (BitVec.ofNat 32 (16 * r.val))) a + S1x16.size a ≤ S8x2048.size a)
theorem k0_off387_inb : ∀ (v7082 : BitVec 32) (k0_hw16 : k0_chk16 v7082), ∀ (r : Fin 2), ∀ a, (k0_off387 v7082 (BitVec.ofNat 32 (16 * r.val))) a + S1x16.size a ≤ S8x2048.size a := fun v7082 k0_hw16 r => k0_hw16.1 r
theorem k0_off388_inb : ∀ (v7082 : BitVec 32) (k0_hw16 : k0_chk16 v7082), ∀ (r : Fin 2), ∀ a, (k0_off388 v7082 (BitVec.ofNat 32 (16 * r.val))) a + S1x16.size a ≤ S8x2048.size a := fun v7082 k0_hw16 r => k0_hw16.2.1 r
theorem k0_off389_inb : ∀ (v7082 : BitVec 32) (k0_hw16 : k0_chk16 v7082), ∀ (r : Fin 2), ∀ a, (k0_off389 v7082 (BitVec.ofNat 32 (16 * r.val))) a + S1x16.size a ≤ S8x2048.size a := fun v7082 k0_hw16 r => k0_hw16.2.2.1 r
theorem k0_off390_inb : ∀ (v7082 : BitVec 32) (k0_hw16 : k0_chk16 v7082), ∀ (r : Fin 2), ∀ a, (k0_off390 v7082 (BitVec.ofNat 32 (16 * r.val))) a + S1x16.size a ≤ S8x2048.size a := fun v7082 k0_hw16 r => k0_hw16.2.2.2.1 r
theorem k0_off391_inb : ∀ (v7082 : BitVec 32) (k0_hw16 : k0_chk16 v7082), ∀ (r : Fin 2), ∀ a, (k0_off391 v7082 (BitVec.ofNat 32 (16 * r.val))) a + S1x16.size a ≤ S8x2048.size a := fun v7082 k0_hw16 r => k0_hw16.2.2.2.2.1 r
theorem k0_off392_inb : ∀ (v7082 : BitVec 32) (k0_hw16 : k0_chk16 v7082), ∀ (r : Fin 2), ∀ a, (k0_off392 v7082 (BitVec.ofNat 32 (16 * r.val))) a + S1x16.size a ≤ S8x2048.size a := fun v7082 k0_hw16 r => k0_hw16.2.2.2.2.2.1 r
theorem k0_off393_inb : ∀ (v7082 : BitVec 32) (k0_hw16 : k0_chk16 v7082), ∀ (r : Fin 2), ∀ a, (k0_off393 v7082 (BitVec.ofNat 32 (16 * r.val))) a + S1x16.size a ≤ S8x2048.size a := fun v7082 k0_hw16 r => k0_hw16.2.2.2.2.2.2.1 r
theorem k0_off394_inb : ∀ (v7082 : BitVec 32) (k0_hw16 : k0_chk16 v7082), ∀ (r : Fin 2), ∀ a, (k0_off394 v7082 (BitVec.ofNat 32 (16 * r.val))) a + S1x16.size a ≤ S8x2048.size a := fun v7082 k0_hw16 r => k0_hw16.2.2.2.2.2.2.2.1 r
theorem k0_off395_inb : ∀ (v7082 : BitVec 32) (k0_hw16 : k0_chk16 v7082), ∀ (r : Fin 2), ∀ a, (k0_off395 v7082 (BitVec.ofNat 32 (16 * r.val))) a + S1x16.size a ≤ S8x2048.size a := fun v7082 k0_hw16 r => k0_hw16.2.2.2.2.2.2.2.2.1 r
theorem k0_off396_inb : ∀ (v7082 : BitVec 32) (k0_hw16 : k0_chk16 v7082), ∀ (r : Fin 2), ∀ a, (k0_off396 v7082 (BitVec.ofNat 32 (16 * r.val))) a + S1x16.size a ≤ S8x2048.size a := fun v7082 k0_hw16 r => k0_hw16.2.2.2.2.2.2.2.2.2.1 r
theorem k0_off397_inb : ∀ (v7082 : BitVec 32) (k0_hw16 : k0_chk16 v7082), ∀ (r : Fin 2), ∀ a, (k0_off397 v7082 (BitVec.ofNat 32 (16 * r.val))) a + S1x16.size a ≤ S8x2048.size a := fun v7082 k0_hw16 r => k0_hw16.2.2.2.2.2.2.2.2.2.2.1 r
theorem k0_off398_inb : ∀ (v7082 : BitVec 32) (k0_hw16 : k0_chk16 v7082), ∀ (r : Fin 2), ∀ a, (k0_off398 v7082 (BitVec.ofNat 32 (16 * r.val))) a + S1x16.size a ≤ S8x2048.size a := fun v7082 k0_hw16 r => k0_hw16.2.2.2.2.2.2.2.2.2.2.2.1 r
theorem k0_off399_inb : ∀ (v7082 : BitVec 32) (k0_hw16 : k0_chk16 v7082), ∀ (r : Fin 2), ∀ a, (k0_off399 v7082 (BitVec.ofNat 32 (16 * r.val))) a + S1x16.size a ≤ S8x2048.size a := fun v7082 k0_hw16 r => k0_hw16.2.2.2.2.2.2.2.2.2.2.2.2.1 r
theorem k0_off400_inb : ∀ (v7082 : BitVec 32) (k0_hw16 : k0_chk16 v7082), ∀ (r : Fin 2), ∀ a, (k0_off400 v7082 (BitVec.ofNat 32 (16 * r.val))) a + S1x16.size a ≤ S8x2048.size a := fun v7082 k0_hw16 r => k0_hw16.2.2.2.2.2.2.2.2.2.2.2.2.2.1 r
theorem k0_off401_inb : ∀ (v7082 : BitVec 32) (k0_hw16 : k0_chk16 v7082), ∀ (r : Fin 2), ∀ a, (k0_off401 v7082 (BitVec.ofNat 32 (16 * r.val))) a + S1x16.size a ≤ S8x2048.size a := fun v7082 k0_hw16 r => k0_hw16.2.2.2.2.2.2.2.2.2.2.2.2.2.2.1 r
theorem k0_off402_inb : ∀ (v7082 : BitVec 32) (k0_hw16 : k0_chk16 v7082), ∀ (r : Fin 2), ∀ a, (k0_off402 v7082 (BitVec.ofNat 32 (16 * r.val))) a + S1x16.size a ≤ S8x2048.size a := fun v7082 k0_hw16 r => k0_hw16.2.2.2.2.2.2.2.2.2.2.2.2.2.2.2.1 r
theorem k0_off403_inb : ∀ (v7082 : BitVec 32) (k0_hw16 : k0_chk16 v7082), ∀ (r : Fin 2), ∀ a, (k0_off403 v7082 (BitVec.ofNat 32 (16 * r.val))) a + S1x16.size a ≤ S8x2048.size a := fun v7082 k0_hw16 r => k0_hw16.2.2.2.2.2.2.2.2.2.2.2.2.2.2.2.2.1 r
theorem k0_off404_inb : ∀ (v7082 : BitVec 32) (k0_hw16 : k0_chk16 v7082), ∀ (r : Fin 2), ∀ a, (k0_off404 v7082 (BitVec.ofNat 32 (16 * r.val))) a + S1x16.size a ≤ S8x2048.size a := fun v7082 k0_hw16 r => k0_hw16.2.2.2.2.2.2.2.2.2.2.2.2.2.2.2.2.2.1 r
theorem k0_off405_inb : ∀ (v7082 : BitVec 32) (k0_hw16 : k0_chk16 v7082), ∀ (r : Fin 2), ∀ a, (k0_off405 v7082 (BitVec.ofNat 32 (16 * r.val))) a + S1x16.size a ≤ S8x2048.size a := fun v7082 k0_hw16 r => k0_hw16.2.2.2.2.2.2.2.2.2.2.2.2.2.2.2.2.2.2.1 r
theorem k0_off406_inb : ∀ (v7082 : BitVec 32) (k0_hw16 : k0_chk16 v7082), ∀ (r : Fin 2), ∀ a, (k0_off406 v7082 (BitVec.ofNat 32 (16 * r.val))) a + S1x16.size a ≤ S8x2048.size a := fun v7082 k0_hw16 r => k0_hw16.2.2.2.2.2.2.2.2.2.2.2.2.2.2.2.2.2.2.2.1 r
theorem k0_off407_inb : ∀ (v7082 : BitVec 32) (k0_hw16 : k0_chk16 v7082), ∀ (r : Fin 2), ∀ a, (k0_off407 v7082 (BitVec.ofNat 32 (16 * r.val))) a + S1x16.size a ≤ S8x2048.size a := fun v7082 k0_hw16 r => k0_hw16.2.2.2.2.2.2.2.2.2.2.2.2.2.2.2.2.2.2.2.2.1 r
theorem k0_off408_inb : ∀ (v7082 : BitVec 32) (k0_hw16 : k0_chk16 v7082), ∀ (r : Fin 2), ∀ a, (k0_off408 v7082 (BitVec.ofNat 32 (16 * r.val))) a + S1x16.size a ≤ S8x2048.size a := fun v7082 k0_hw16 r => k0_hw16.2.2.2.2.2.2.2.2.2.2.2.2.2.2.2.2.2.2.2.2.2.1 r
theorem k0_off409_inb : ∀ (v7082 : BitVec 32) (k0_hw16 : k0_chk16 v7082), ∀ (r : Fin 2), ∀ a, (k0_off409 v7082 (BitVec.ofNat 32 (16 * r.val))) a + S1x16.size a ≤ S8x2048.size a := fun v7082 k0_hw16 r => k0_hw16.2.2.2.2.2.2.2.2.2.2.2.2.2.2.2.2.2.2.2.2.2.2.1 r
theorem k0_off410_inb : ∀ (v7082 : BitVec 32) (k0_hw16 : k0_chk16 v7082), ∀ (r : Fin 2), ∀ a, (k0_off410 v7082 (BitVec.ofNat 32 (16 * r.val))) a + S1x16.size a ≤ S8x2048.size a := fun v7082 k0_hw16 r => k0_hw16.2.2.2.2.2.2.2.2.2.2.2.2.2.2.2.2.2.2.2.2.2.2.2 r

def k0_off411 (i : grid0.Coords) (k0_t1 : Fin k0_t1_loop.trips) (c0_i32_74 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_73 : BitVec 32 := 2#32
  let c0_i32_63 : BitVec 32 := 0#32
  let c1_i32 : BitVec 32 := 1#32
  let arg26 : BitVec 32 := Scf.iv c0_i32_63 c1_i32 k0_t1
  let v1052 : BitVec 32 := Scalar.muli c2_i32_73 arg26
  let v1053 : BitVec 32 := Scalar.addi v1052 c0_i32_74
  let c8_i32_94 : BitVec 32 := 8#32
  let v1065 : BitVec 32 := Scalar.muli v1053 c8_i32_94
  let v1066 : BitVec 32 := Scalar.addi v2 v1065
  let c0_i32_95 : BitVec 32 := 0#32
  ![v1066.toNat, 0]
def k0_cond2 (k0_t1 : Fin k0_t1_loop.trips) : BitVec 1 :=
  let c0_i32_63 : BitVec 32 := 0#32
  let c1_i32 : BitVec 32 := 1#32
  let arg26 : BitVec 32 := Scf.iv c0_i32_63 c1_i32 k0_t1
  let c14_i32 : BitVec 32 := 14#32
  let v1069 : BitVec 1 := Scalar.cmpi .sle arg26 c14_i32
  let v1070 : BitVec 32 := Scalar.extui v1069
  let c0_i32_97 : BitVec 32 := 0#32
  let v1071 : BitVec 1 := Scalar.cmpi .ne v1070 c0_i32_97
  v1071

def k0_off412 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_73 : BitVec 32 := 2#32
  let c0_i32_63 : BitVec 32 := 0#32
  let c1_i32 : BitVec 32 := 1#32
  let arg26 : BitVec 32 := Scf.iv c0_i32_63 c1_i32 k0_t1
  let v1052 : BitVec 32 := Scalar.muli c2_i32_73 arg26
  let c0_i32_74 : BitVec 32 := 0#32
  let v1053 : BitVec 32 := Scalar.addi v1052 c0_i32_74
  let c2_i32_126 : BitVec 32 := 2#32
  let v1092 : BitVec 32 := Scalar.addi v1053 c2_i32_126
  let c8_i32_127 : BitVec 32 := 8#32
  let v1093 : BitVec 32 := Scalar.muli v1092 c8_i32_127
  let v1094 : BitVec 32 := Scalar.addi v2 v1093
  let c0_i32_128 : BitVec 32 := 0#32
  ![v1094.toNat, 0]
@[reducible] def k0_t4_loop : Scf.Loop 32 :=
  let c0_i32_111 : BitVec 32 := 0#32
  let c128_i32_112 : BitVec 32 := 128#32
  let v1081 : BitVec 32 := Scalar.addi c0_i32_111 c128_i32_112
  let c1_i32_113 : BitVec 32 := 1#32
  ⟨c0_i32_111, v1081, c1_i32_113⟩
def k0_off413 (k0_t4 : Fin k0_t4_loop.trips) : Fin 2 → Nat :=
  let c0_i32_127 : BitVec 32 := 0#32
  let v1093 : Index := Scalar.indexCast c0_i32_127
  let c0_i32_111 : BitVec 32 := 0#32
  let c1_i32_113 : BitVec 32 := 1#32
  let arg28 : BitVec 32 := Scf.iv c0_i32_111 c1_i32_113 k0_t4
  let c16_i32_126 : BitVec 32 := 16#32
  let v1092 : BitVec 32 := Scalar.muli arg28 c16_i32_126
  let v1094 : Index := Scalar.indexCast v1092
  ![0, v1094.toNat]
def k0_off414 (k0_t4 : Fin k0_t4_loop.trips) : Fin 2 → Nat :=
  let c1_i32_129 : BitVec 32 := 1#32
  let v1099 : Index := Scalar.indexCast c1_i32_129
  let c0_i32_111 : BitVec 32 := 0#32
  let c1_i32_113 : BitVec 32 := 1#32
  let arg28 : BitVec 32 := Scf.iv c0_i32_111 c1_i32_113 k0_t4
  let c16_i32_128 : BitVec 32 := 16#32
  let v1098 : BitVec 32 := Scalar.muli arg28 c16_i32_128
  let v1100 : Index := Scalar.indexCast v1098
  ![1, v1100.toNat]
def k0_off415 (k0_t4 : Fin k0_t4_loop.trips) : Fin 2 → Nat :=
  let c2_i32_131 : BitVec 32 := 2#32
  let v1105 : Index := Scalar.indexCast c2_i32_131
  let c0_i32_111 : BitVec 32 := 0#32
  let c1_i32_113 : BitVec 32 := 1#32
  let arg28 : BitVec 32 := Scf.iv c0_i32_111 c1_i32_113 k0_t4
  let c16_i32_130 : BitVec 32 := 16#32
  let v1104 : BitVec 32 := Scalar.muli arg28 c16_i32_130
  let v1106 : Index := Scalar.indexCast v1104
  ![2, v1106.toNat]
def k0_off416 (k0_t4 : Fin k0_t4_loop.trips) : Fin 2 → Nat :=
  let c3_i32 : BitVec 32 := 3#32
  let v1111 : Index := Scalar.indexCast c3_i32
  let c0_i32_111 : BitVec 32 := 0#32
  let c1_i32_113 : BitVec 32 := 1#32
  let arg28 : BitVec 32 := Scf.iv c0_i32_111 c1_i32_113 k0_t4
  let c16_i32_132 : BitVec 32 := 16#32
  let v1110 : BitVec 32 := Scalar.muli arg28 c16_i32_132
  let v1112 : Index := Scalar.indexCast v1110
  ![3, v1112.toNat]
def k0_off417 (k0_t4 : Fin k0_t4_loop.trips) : Fin 2 → Nat :=
  let c4_i32 : BitVec 32 := 4#32
  let v1117 : Index := Scalar.indexCast c4_i32
  let c0_i32_111 : BitVec 32 := 0#32
  let c1_i32_113 : BitVec 32 := 1#32
  let arg28 : BitVec 32 := Scf.iv c0_i32_111 c1_i32_113 k0_t4
  let c16_i32_133 : BitVec 32 := 16#32
  let v1116 : BitVec 32 := Scalar.muli arg28 c16_i32_133
  let v1118 : Index := Scalar.indexCast v1116
  ![4, v1118.toNat]
def k0_off418 (k0_t4 : Fin k0_t4_loop.trips) : Fin 2 → Nat :=
  let c5_i32 : BitVec 32 := 5#32
  let v1123 : Index := Scalar.indexCast c5_i32
  let c0_i32_111 : BitVec 32 := 0#32
  let c1_i32_113 : BitVec 32 := 1#32
  let arg28 : BitVec 32 := Scf.iv c0_i32_111 c1_i32_113 k0_t4
  let c16_i32_134 : BitVec 32 := 16#32
  let v1122 : BitVec 32 := Scalar.muli arg28 c16_i32_134
  let v1124 : Index := Scalar.indexCast v1122
  ![5, v1124.toNat]
def k0_off419 (k0_t4 : Fin k0_t4_loop.trips) : Fin 2 → Nat :=
  let c6_i32 : BitVec 32 := 6#32
  let v1129 : Index := Scalar.indexCast c6_i32
  let c0_i32_111 : BitVec 32 := 0#32
  let c1_i32_113 : BitVec 32 := 1#32
  let arg28 : BitVec 32 := Scf.iv c0_i32_111 c1_i32_113 k0_t4
  let c16_i32_135 : BitVec 32 := 16#32
  let v1128 : BitVec 32 := Scalar.muli arg28 c16_i32_135
  let v1130 : Index := Scalar.indexCast v1128
  ![6, v1130.toNat]
def k0_off420 (k0_t4 : Fin k0_t4_loop.trips) : Fin 2 → Nat :=
  let c7_i32 : BitVec 32 := 7#32
  let v1135 : Index := Scalar.indexCast c7_i32
  let c0_i32_111 : BitVec 32 := 0#32
  let c1_i32_113 : BitVec 32 := 1#32
  let arg28 : BitVec 32 := Scf.iv c0_i32_111 c1_i32_113 k0_t4
  let c16_i32_136 : BitVec 32 := 16#32
  let v1134 : BitVec 32 := Scalar.muli arg28 c16_i32_136
  let v1136 : Index := Scalar.indexCast v1134
  ![7, v1136.toNat]
@[reducible] def k0_t5_loop : Scf.Loop 32 :=
  let c0_i32_116 : BitVec 32 := 0#32
  let c8_i32_117 : BitVec 32 := 8#32
  let v1083 : BitVec 32 := Scalar.addi c0_i32_116 c8_i32_117
  let c1_i32_118 : BitVec 32 := 1#32
  ⟨c0_i32_116, v1083, c1_i32_118⟩
def k0_off421 (k0_t5 : Fin k0_t5_loop.trips) : Fin 1 → Nat :=
  let c0_i32_116 : BitVec 32 := 0#32
  let c1_i32_118 : BitVec 32 := 1#32
  let arg28 : BitVec 32 := Scf.iv c0_i32_116 c1_i32_118 k0_t5
  let c16_i32_126 : BitVec 32 := 16#32
  let v1092 : BitVec 32 := Scalar.muli arg28 c16_i32_126
  let v1093 : Index := Scalar.indexCast v1092
  ![v1093.toNat]
def k0_off422 (k0_t5 : Fin k0_t5_loop.trips) : Fin 1 → Nat :=
  let c0_i32_116 : BitVec 32 := 0#32
  let c1_i32_118 : BitVec 32 := 1#32
  let arg28 : BitVec 32 := Scf.iv c0_i32_116 c1_i32_118 k0_t5
  let c16_i32_130 : BitVec 32 := 16#32
  let v1105 : BitVec 32 := Scalar.muli arg28 c16_i32_130
  let c0_i32_131 : BitVec 32 := 0#32
  let v1106 : BitVec 32 := Scalar.addi v1105 c0_i32_131
  let c16_i32_132 : BitVec 32 := 16#32
  let v1107 : BitVec 32 := Scalar.muli v1106 c16_i32_132
  let v1108 : Index := Scalar.indexCast v1107
  ![v1108.toNat]
def k0_off423 (v1097 : BitVec 32) (c0_i32_133 : BitVec 32) : Fin 2 → Nat :=
  let c0_i32_134 : BitVec 32 := 0#32
  let v1112 : Index := Scalar.indexCast c0_i32_134
  let c63_i32 : BitVec 32 := 63#32
  let v1098 : BitVec 32 := Scalar.andi v1097 c63_i32
  let c32_i32 : BitVec 32 := 32#32
  let v1099 : BitVec 32 := Scalar.muli v1098 c32_i32
  let v1111 : BitVec 32 := Scalar.addi v1099 c0_i32_133
  let v1113 : Index := Scalar.indexCast v1111
  ![0, v1113.toNat]

def k0_off424 (v1097 : BitVec 32) (c0_i32_137 : BitVec 32) : Fin 2 → Nat :=
  let c1_i32_138 : BitVec 32 := 1#32
  let v1122 : Index := Scalar.indexCast c1_i32_138
  let c63_i32 : BitVec 32 := 63#32
  let v1098 : BitVec 32 := Scalar.andi v1097 c63_i32
  let c32_i32 : BitVec 32 := 32#32
  let v1099 : BitVec 32 := Scalar.muli v1098 c32_i32
  let v1121 : BitVec 32 := Scalar.addi v1099 c0_i32_137
  let v1123 : Index := Scalar.indexCast v1121
  ![1, v1123.toNat]
def k0_off425 (v1097 : BitVec 32) (c0_i32_141 : BitVec 32) : Fin 2 → Nat :=
  let c2_i32_142 : BitVec 32 := 2#32
  let v1132 : Index := Scalar.indexCast c2_i32_142
  let c63_i32 : BitVec 32 := 63#32
  let v1098 : BitVec 32 := Scalar.andi v1097 c63_i32
  let c32_i32 : BitVec 32 := 32#32
  let v1099 : BitVec 32 := Scalar.muli v1098 c32_i32
  let v1131 : BitVec 32 := Scalar.addi v1099 c0_i32_141
  let v1133 : Index := Scalar.indexCast v1131
  ![2, v1133.toNat]
def k0_off426 (v1097 : BitVec 32) (c0_i32_145 : BitVec 32) : Fin 2 → Nat :=
  let c3_i32 : BitVec 32 := 3#32
  let v1142 : Index := Scalar.indexCast c3_i32
  let c63_i32 : BitVec 32 := 63#32
  let v1098 : BitVec 32 := Scalar.andi v1097 c63_i32
  let c32_i32 : BitVec 32 := 32#32
  let v1099 : BitVec 32 := Scalar.muli v1098 c32_i32
  let v1141 : BitVec 32 := Scalar.addi v1099 c0_i32_145
  let v1143 : Index := Scalar.indexCast v1141
  ![3, v1143.toNat]
def k0_off427 (v1097 : BitVec 32) (c0_i32_148 : BitVec 32) : Fin 2 → Nat :=
  let c4_i32 : BitVec 32 := 4#32
  let v1152 : Index := Scalar.indexCast c4_i32
  let c63_i32 : BitVec 32 := 63#32
  let v1098 : BitVec 32 := Scalar.andi v1097 c63_i32
  let c32_i32 : BitVec 32 := 32#32
  let v1099 : BitVec 32 := Scalar.muli v1098 c32_i32
  let v1151 : BitVec 32 := Scalar.addi v1099 c0_i32_148
  let v1153 : Index := Scalar.indexCast v1151
  ![4, v1153.toNat]
def k0_off428 (v1097 : BitVec 32) (c0_i32_151 : BitVec 32) : Fin 2 → Nat :=
  let c5_i32 : BitVec 32 := 5#32
  let v1162 : Index := Scalar.indexCast c5_i32
  let c63_i32 : BitVec 32 := 63#32
  let v1098 : BitVec 32 := Scalar.andi v1097 c63_i32
  let c32_i32 : BitVec 32 := 32#32
  let v1099 : BitVec 32 := Scalar.muli v1098 c32_i32
  let v1161 : BitVec 32 := Scalar.addi v1099 c0_i32_151
  let v1163 : Index := Scalar.indexCast v1161
  ![5, v1163.toNat]
def k0_off429 (v1097 : BitVec 32) (c0_i32_154 : BitVec 32) : Fin 2 → Nat :=
  let c6_i32_155 : BitVec 32 := 6#32
  let v1172 : Index := Scalar.indexCast c6_i32_155
  let c63_i32 : BitVec 32 := 63#32
  let v1098 : BitVec 32 := Scalar.andi v1097 c63_i32
  let c32_i32 : BitVec 32 := 32#32
  let v1099 : BitVec 32 := Scalar.muli v1098 c32_i32
  let v1171 : BitVec 32 := Scalar.addi v1099 c0_i32_154
  let v1173 : Index := Scalar.indexCast v1171
  ![6, v1173.toNat]
def k0_off430 (v1097 : BitVec 32) (c0_i32_158 : BitVec 32) : Fin 2 → Nat :=
  let c7_i32 : BitVec 32 := 7#32
  let v1182 : Index := Scalar.indexCast c7_i32
  let c63_i32 : BitVec 32 := 63#32
  let v1098 : BitVec 32 := Scalar.andi v1097 c63_i32
  let c32_i32 : BitVec 32 := 32#32
  let v1099 : BitVec 32 := Scalar.muli v1098 c32_i32
  let v1181 : BitVec 32 := Scalar.addi v1099 c0_i32_158
  let v1183 : Index := Scalar.indexCast v1181
  ![7, v1183.toNat]
def k0_off431 (v1097 : BitVec 32) (c0_i32_161 : BitVec 32) : Fin 2 → Nat :=
  let c0_i32_162 : BitVec 32 := 0#32
  let v1192 : Index := Scalar.indexCast c0_i32_162
  let c6_i32 : BitVec 32 := 6#32
  let v1100 : BitVec 32 := Scalar.shrsi v1097 c6_i32
  let c63_i32_127 : BitVec 32 := 63#32
  let v1101 : BitVec 32 := Scalar.andi v1100 c63_i32_127
  let c32_i32_128 : BitVec 32 := 32#32
  let v1102 : BitVec 32 := Scalar.muli v1101 c32_i32_128
  let v1191 : BitVec 32 := Scalar.addi v1102 c0_i32_161
  let v1193 : Index := Scalar.indexCast v1191
  ![0, v1193.toNat]
def k0_off432 (v1097 : BitVec 32) (c0_i32_165 : BitVec 32) : Fin 2 → Nat :=
  let c1_i32_166 : BitVec 32 := 1#32
  let v1202 : Index := Scalar.indexCast c1_i32_166
  let c6_i32 : BitVec 32 := 6#32
  let v1100 : BitVec 32 := Scalar.shrsi v1097 c6_i32
  let c63_i32_127 : BitVec 32 := 63#32
  let v1101 : BitVec 32 := Scalar.andi v1100 c63_i32_127
  let c32_i32_128 : BitVec 32 := 32#32
  let v1102 : BitVec 32 := Scalar.muli v1101 c32_i32_128
  let v1201 : BitVec 32 := Scalar.addi v1102 c0_i32_165
  let v1203 : Index := Scalar.indexCast v1201
  ![1, v1203.toNat]
def k0_off433 (v1097 : BitVec 32) (c0_i32_169 : BitVec 32) : Fin 2 → Nat :=
  let c2_i32_170 : BitVec 32 := 2#32
  let v1212 : Index := Scalar.indexCast c2_i32_170
  let c6_i32 : BitVec 32 := 6#32
  let v1100 : BitVec 32 := Scalar.shrsi v1097 c6_i32
  let c63_i32_127 : BitVec 32 := 63#32
  let v1101 : BitVec 32 := Scalar.andi v1100 c63_i32_127
  let c32_i32_128 : BitVec 32 := 32#32
  let v1102 : BitVec 32 := Scalar.muli v1101 c32_i32_128
  let v1211 : BitVec 32 := Scalar.addi v1102 c0_i32_169
  let v1213 : Index := Scalar.indexCast v1211
  ![2, v1213.toNat]
def k0_off434 (v1097 : BitVec 32) (c0_i32_173 : BitVec 32) : Fin 2 → Nat :=
  let c3_i32_174 : BitVec 32 := 3#32
  let v1222 : Index := Scalar.indexCast c3_i32_174
  let c6_i32 : BitVec 32 := 6#32
  let v1100 : BitVec 32 := Scalar.shrsi v1097 c6_i32
  let c63_i32_127 : BitVec 32 := 63#32
  let v1101 : BitVec 32 := Scalar.andi v1100 c63_i32_127
  let c32_i32_128 : BitVec 32 := 32#32
  let v1102 : BitVec 32 := Scalar.muli v1101 c32_i32_128
  let v1221 : BitVec 32 := Scalar.addi v1102 c0_i32_173
  let v1223 : Index := Scalar.indexCast v1221
  ![3, v1223.toNat]
def k0_off435 (v1097 : BitVec 32) (c0_i32_177 : BitVec 32) : Fin 2 → Nat :=
  let c4_i32_178 : BitVec 32 := 4#32
  let v1232 : Index := Scalar.indexCast c4_i32_178
  let c6_i32 : BitVec 32 := 6#32
  let v1100 : BitVec 32 := Scalar.shrsi v1097 c6_i32
  let c63_i32_127 : BitVec 32 := 63#32
  let v1101 : BitVec 32 := Scalar.andi v1100 c63_i32_127
  let c32_i32_128 : BitVec 32 := 32#32
  let v1102 : BitVec 32 := Scalar.muli v1101 c32_i32_128
  let v1231 : BitVec 32 := Scalar.addi v1102 c0_i32_177
  let v1233 : Index := Scalar.indexCast v1231
  ![4, v1233.toNat]
def k0_off436 (v1097 : BitVec 32) (c0_i32_181 : BitVec 32) : Fin 2 → Nat :=
  let c5_i32_182 : BitVec 32 := 5#32
  let v1242 : Index := Scalar.indexCast c5_i32_182
  let c6_i32 : BitVec 32 := 6#32
  let v1100 : BitVec 32 := Scalar.shrsi v1097 c6_i32
  let c63_i32_127 : BitVec 32 := 63#32
  let v1101 : BitVec 32 := Scalar.andi v1100 c63_i32_127
  let c32_i32_128 : BitVec 32 := 32#32
  let v1102 : BitVec 32 := Scalar.muli v1101 c32_i32_128
  let v1241 : BitVec 32 := Scalar.addi v1102 c0_i32_181
  let v1243 : Index := Scalar.indexCast v1241
  ![5, v1243.toNat]
def k0_off437 (v1097 : BitVec 32) (c0_i32_185 : BitVec 32) : Fin 2 → Nat :=
  let c6_i32_186 : BitVec 32 := 6#32
  let v1252 : Index := Scalar.indexCast c6_i32_186
  let c6_i32 : BitVec 32 := 6#32
  let v1100 : BitVec 32 := Scalar.shrsi v1097 c6_i32
  let c63_i32_127 : BitVec 32 := 63#32
  let v1101 : BitVec 32 := Scalar.andi v1100 c63_i32_127
  let c32_i32_128 : BitVec 32 := 32#32
  let v1102 : BitVec 32 := Scalar.muli v1101 c32_i32_128
  let v1251 : BitVec 32 := Scalar.addi v1102 c0_i32_185
  let v1253 : Index := Scalar.indexCast v1251
  ![6, v1253.toNat]
def k0_off438 (v1097 : BitVec 32) (c0_i32_189 : BitVec 32) : Fin 2 → Nat :=
  let c7_i32_190 : BitVec 32 := 7#32
  let v1262 : Index := Scalar.indexCast c7_i32_190
  let c6_i32 : BitVec 32 := 6#32
  let v1100 : BitVec 32 := Scalar.shrsi v1097 c6_i32
  let c63_i32_127 : BitVec 32 := 63#32
  let v1101 : BitVec 32 := Scalar.andi v1100 c63_i32_127
  let c32_i32_128 : BitVec 32 := 32#32
  let v1102 : BitVec 32 := Scalar.muli v1101 c32_i32_128
  let v1261 : BitVec 32 := Scalar.addi v1102 c0_i32_189
  let v1263 : Index := Scalar.indexCast v1261
  ![7, v1263.toNat]
def k0_off439 (v1097 : BitVec 32) (c0_i32_193 : BitVec 32) : Fin 2 → Nat :=
  let c0_i32_194 : BitVec 32 := 0#32
  let v1304 : Index := Scalar.indexCast c0_i32_194
  let c12_i32 : BitVec 32 := 12#32
  let v1103 : BitVec 32 := Scalar.shrsi v1097 c12_i32
  let c32_i32_129 : BitVec 32 := 32#32
  let v1104 : BitVec 32 := Scalar.muli v1103 c32_i32_129
  let v1303 : BitVec 32 := Scalar.addi v1104 c0_i32_193
  let v1305 : Index := Scalar.indexCast v1303
  ![0, v1305.toNat]
def k0_off440 (v1097 : BitVec 32) (c0_i32_201 : BitVec 32) : Fin 2 → Nat :=
  let c1_i32_202 : BitVec 32 := 1#32
  let v1328 : Index := Scalar.indexCast c1_i32_202
  let c12_i32 : BitVec 32 := 12#32
  let v1103 : BitVec 32 := Scalar.shrsi v1097 c12_i32
  let c32_i32_129 : BitVec 32 := 32#32
  let v1104 : BitVec 32 := Scalar.muli v1103 c32_i32_129
  let v1327 : BitVec 32 := Scalar.addi v1104 c0_i32_201
  let v1329 : Index := Scalar.indexCast v1327
  ![1, v1329.toNat]
def k0_off441 (v1097 : BitVec 32) (c0_i32_209 : BitVec 32) : Fin 2 → Nat :=
  let c2_i32_210 : BitVec 32 := 2#32
  let v1352 : Index := Scalar.indexCast c2_i32_210
  let c12_i32 : BitVec 32 := 12#32
  let v1103 : BitVec 32 := Scalar.shrsi v1097 c12_i32
  let c32_i32_129 : BitVec 32 := 32#32
  let v1104 : BitVec 32 := Scalar.muli v1103 c32_i32_129
  let v1351 : BitVec 32 := Scalar.addi v1104 c0_i32_209
  let v1353 : Index := Scalar.indexCast v1351
  ![2, v1353.toNat]
def k0_off442 (v1097 : BitVec 32) (c0_i32_217 : BitVec 32) : Fin 2 → Nat :=
  let c3_i32_218 : BitVec 32 := 3#32
  let v1376 : Index := Scalar.indexCast c3_i32_218
  let c12_i32 : BitVec 32 := 12#32
  let v1103 : BitVec 32 := Scalar.shrsi v1097 c12_i32
  let c32_i32_129 : BitVec 32 := 32#32
  let v1104 : BitVec 32 := Scalar.muli v1103 c32_i32_129
  let v1375 : BitVec 32 := Scalar.addi v1104 c0_i32_217
  let v1377 : Index := Scalar.indexCast v1375
  ![3, v1377.toNat]
def k0_off443 (v1097 : BitVec 32) (c0_i32_225 : BitVec 32) : Fin 2 → Nat :=
  let c4_i32_226 : BitVec 32 := 4#32
  let v1400 : Index := Scalar.indexCast c4_i32_226
  let c12_i32 : BitVec 32 := 12#32
  let v1103 : BitVec 32 := Scalar.shrsi v1097 c12_i32
  let c32_i32_129 : BitVec 32 := 32#32
  let v1104 : BitVec 32 := Scalar.muli v1103 c32_i32_129
  let v1399 : BitVec 32 := Scalar.addi v1104 c0_i32_225
  let v1401 : Index := Scalar.indexCast v1399
  ![4, v1401.toNat]
def k0_off444 (v1097 : BitVec 32) (c0_i32_233 : BitVec 32) : Fin 2 → Nat :=
  let c5_i32_234 : BitVec 32 := 5#32
  let v1424 : Index := Scalar.indexCast c5_i32_234
  let c12_i32 : BitVec 32 := 12#32
  let v1103 : BitVec 32 := Scalar.shrsi v1097 c12_i32
  let c32_i32_129 : BitVec 32 := 32#32
  let v1104 : BitVec 32 := Scalar.muli v1103 c32_i32_129
  let v1423 : BitVec 32 := Scalar.addi v1104 c0_i32_233
  let v1425 : Index := Scalar.indexCast v1423
  ![5, v1425.toNat]
def k0_off445 (v1097 : BitVec 32) (c0_i32_241 : BitVec 32) : Fin 2 → Nat :=
  let c6_i32_242 : BitVec 32 := 6#32
  let v1448 : Index := Scalar.indexCast c6_i32_242
  let c12_i32 : BitVec 32 := 12#32
  let v1103 : BitVec 32 := Scalar.shrsi v1097 c12_i32
  let c32_i32_129 : BitVec 32 := 32#32
  let v1104 : BitVec 32 := Scalar.muli v1103 c32_i32_129
  let v1447 : BitVec 32 := Scalar.addi v1104 c0_i32_241
  let v1449 : Index := Scalar.indexCast v1447
  ![6, v1449.toNat]
def k0_off446 (v1097 : BitVec 32) (c0_i32_249 : BitVec 32) : Fin 2 → Nat :=
  let c7_i32_250 : BitVec 32 := 7#32
  let v1472 : Index := Scalar.indexCast c7_i32_250
  let c12_i32 : BitVec 32 := 12#32
  let v1103 : BitVec 32 := Scalar.shrsi v1097 c12_i32
  let c32_i32_129 : BitVec 32 := 32#32
  let v1104 : BitVec 32 := Scalar.muli v1103 c32_i32_129
  let v1471 : BitVec 32 := Scalar.addi v1104 c0_i32_249
  let v1473 : Index := Scalar.indexCast v1471
  ![7, v1473.toNat]

def k0_chk17 (v1097 : BitVec 32) : Prop :=
  (∀ (r : Fin 2), ∀ a, (k0_off423 v1097 (BitVec.ofNat 32 (16 * r.val))) a + S1x16.size a ≤ S8x2048.size a) ∧
  (∀ (r : Fin 2), ∀ a, (k0_off424 v1097 (BitVec.ofNat 32 (16 * r.val))) a + S1x16.size a ≤ S8x2048.size a) ∧
  (∀ (r : Fin 2), ∀ a, (k0_off425 v1097 (BitVec.ofNat 32 (16 * r.val))) a + S1x16.size a ≤ S8x2048.size a) ∧
  (∀ (r : Fin 2), ∀ a, (k0_off426 v1097 (BitVec.ofNat 32 (16 * r.val))) a + S1x16.size a ≤ S8x2048.size a) ∧
  (∀ (r : Fin 2), ∀ a, (k0_off427 v1097 (BitVec.ofNat 32 (16 * r.val))) a + S1x16.size a ≤ S8x2048.size a) ∧
  (∀ (r : Fin 2), ∀ a, (k0_off428 v1097 (BitVec.ofNat 32 (16 * r.val))) a + S1x16.size a ≤ S8x2048.size a) ∧
  (∀ (r : Fin 2), ∀ a, (k0_off429 v1097 (BitVec.ofNat 32 (16 * r.val))) a + S1x16.size a ≤ S8x2048.size a) ∧
  (∀ (r : Fin 2), ∀ a, (k0_off430 v1097 (BitVec.ofNat 32 (16 * r.val))) a + S1x16.size a ≤ S8x2048.size a) ∧
  (∀ (r : Fin 2), ∀ a, (k0_off431 v1097 (BitVec.ofNat 32 (16 * r.val))) a + S1x16.size a ≤ S8x2048.size a) ∧
  (∀ (r : Fin 2), ∀ a, (k0_off432 v1097 (BitVec.ofNat 32 (16 * r.val))) a + S1x16.size a ≤ S8x2048.size a) ∧
  (∀ (r : Fin 2), ∀ a, (k0_off433 v1097 (BitVec.ofNat 32 (16 * r.val))) a + S1x16.size a ≤ S8x2048.size a) ∧
  (∀ (r : Fin 2), ∀ a, (k0_off434 v1097 (BitVec.ofNat 32 (16 * r.val))) a + S1x16.size a ≤ S8x2048.size a) ∧
  (∀ (r : Fin 2), ∀ a, (k0_off435 v1097 (BitVec.ofNat 32 (16 * r.val))) a + S1x16.size a ≤ S8x2048.size a) ∧
  (∀ (r : Fin 2), ∀ a, (k0_off436 v1097 (BitVec.ofNat 32 (16 * r.val))) a + S1x16.size a ≤ S8x2048.size a) ∧
  (∀ (r : Fin 2), ∀ a, (k0_off437 v1097 (BitVec.ofNat 32 (16 * r.val))) a + S1x16.size a ≤ S8x2048.size a) ∧
  (∀ (r : Fin 2), ∀ a, (k0_off438 v1097 (BitVec.ofNat 32 (16 * r.val))) a + S1x16.size a ≤ S8x2048.size a) ∧
  (∀ (r : Fin 2), ∀ a, (k0_off439 v1097 (BitVec.ofNat 32 (16 * r.val))) a + S1x16.size a ≤ S8x2048.size a) ∧
  (∀ (r : Fin 2), ∀ a, (k0_off440 v1097 (BitVec.ofNat 32 (16 * r.val))) a + S1x16.size a ≤ S8x2048.size a) ∧
  (∀ (r : Fin 2), ∀ a, (k0_off441 v1097 (BitVec.ofNat 32 (16 * r.val))) a + S1x16.size a ≤ S8x2048.size a) ∧
  (∀ (r : Fin 2), ∀ a, (k0_off442 v1097 (BitVec.ofNat 32 (16 * r.val))) a + S1x16.size a ≤ S8x2048.size a) ∧
  (∀ (r : Fin 2), ∀ a, (k0_off443 v1097 (BitVec.ofNat 32 (16 * r.val))) a + S1x16.size a ≤ S8x2048.size a) ∧
  (∀ (r : Fin 2), ∀ a, (k0_off444 v1097 (BitVec.ofNat 32 (16 * r.val))) a + S1x16.size a ≤ S8x2048.size a) ∧
  (∀ (r : Fin 2), ∀ a, (k0_off445 v1097 (BitVec.ofNat 32 (16 * r.val))) a + S1x16.size a ≤ S8x2048.size a) ∧
  (∀ (r : Fin 2), ∀ a, (k0_off446 v1097 (BitVec.ofNat 32 (16 * r.val))) a + S1x16.size a ≤ S8x2048.size a)
theorem k0_off423_inb : ∀ (v1097 : BitVec 32) (k0_hw17 : k0_chk17 v1097), ∀ (r : Fin 2), ∀ a, (k0_off423 v1097 (BitVec.ofNat 32 (16 * r.val))) a + S1x16.size a ≤ S8x2048.size a := fun v1097 k0_hw17 r => k0_hw17.1 r
theorem k0_off424_inb : ∀ (v1097 : BitVec 32) (k0_hw17 : k0_chk17 v1097), ∀ (r : Fin 2), ∀ a, (k0_off424 v1097 (BitVec.ofNat 32 (16 * r.val))) a + S1x16.size a ≤ S8x2048.size a := fun v1097 k0_hw17 r => k0_hw17.2.1 r
theorem k0_off425_inb : ∀ (v1097 : BitVec 32) (k0_hw17 : k0_chk17 v1097), ∀ (r : Fin 2), ∀ a, (k0_off425 v1097 (BitVec.ofNat 32 (16 * r.val))) a + S1x16.size a ≤ S8x2048.size a := fun v1097 k0_hw17 r => k0_hw17.2.2.1 r
theorem k0_off426_inb : ∀ (v1097 : BitVec 32) (k0_hw17 : k0_chk17 v1097), ∀ (r : Fin 2), ∀ a, (k0_off426 v1097 (BitVec.ofNat 32 (16 * r.val))) a + S1x16.size a ≤ S8x2048.size a := fun v1097 k0_hw17 r => k0_hw17.2.2.2.1 r
theorem k0_off427_inb : ∀ (v1097 : BitVec 32) (k0_hw17 : k0_chk17 v1097), ∀ (r : Fin 2), ∀ a, (k0_off427 v1097 (BitVec.ofNat 32 (16 * r.val))) a + S1x16.size a ≤ S8x2048.size a := fun v1097 k0_hw17 r => k0_hw17.2.2.2.2.1 r
theorem k0_off428_inb : ∀ (v1097 : BitVec 32) (k0_hw17 : k0_chk17 v1097), ∀ (r : Fin 2), ∀ a, (k0_off428 v1097 (BitVec.ofNat 32 (16 * r.val))) a + S1x16.size a ≤ S8x2048.size a := fun v1097 k0_hw17 r => k0_hw17.2.2.2.2.2.1 r
theorem k0_off429_inb : ∀ (v1097 : BitVec 32) (k0_hw17 : k0_chk17 v1097), ∀ (r : Fin 2), ∀ a, (k0_off429 v1097 (BitVec.ofNat 32 (16 * r.val))) a + S1x16.size a ≤ S8x2048.size a := fun v1097 k0_hw17 r => k0_hw17.2.2.2.2.2.2.1 r
theorem k0_off430_inb : ∀ (v1097 : BitVec 32) (k0_hw17 : k0_chk17 v1097), ∀ (r : Fin 2), ∀ a, (k0_off430 v1097 (BitVec.ofNat 32 (16 * r.val))) a + S1x16.size a ≤ S8x2048.size a := fun v1097 k0_hw17 r => k0_hw17.2.2.2.2.2.2.2.1 r
theorem k0_off431_inb : ∀ (v1097 : BitVec 32) (k0_hw17 : k0_chk17 v1097), ∀ (r : Fin 2), ∀ a, (k0_off431 v1097 (BitVec.ofNat 32 (16 * r.val))) a + S1x16.size a ≤ S8x2048.size a := fun v1097 k0_hw17 r => k0_hw17.2.2.2.2.2.2.2.2.1 r
theorem k0_off432_inb : ∀ (v1097 : BitVec 32) (k0_hw17 : k0_chk17 v1097), ∀ (r : Fin 2), ∀ a, (k0_off432 v1097 (BitVec.ofNat 32 (16 * r.val))) a + S1x16.size a ≤ S8x2048.size a := fun v1097 k0_hw17 r => k0_hw17.2.2.2.2.2.2.2.2.2.1 r
theorem k0_off433_inb : ∀ (v1097 : BitVec 32) (k0_hw17 : k0_chk17 v1097), ∀ (r : Fin 2), ∀ a, (k0_off433 v1097 (BitVec.ofNat 32 (16 * r.val))) a + S1x16.size a ≤ S8x2048.size a := fun v1097 k0_hw17 r => k0_hw17.2.2.2.2.2.2.2.2.2.2.1 r
theorem k0_off434_inb : ∀ (v1097 : BitVec 32) (k0_hw17 : k0_chk17 v1097), ∀ (r : Fin 2), ∀ a, (k0_off434 v1097 (BitVec.ofNat 32 (16 * r.val))) a + S1x16.size a ≤ S8x2048.size a := fun v1097 k0_hw17 r => k0_hw17.2.2.2.2.2.2.2.2.2.2.2.1 r
theorem k0_off435_inb : ∀ (v1097 : BitVec 32) (k0_hw17 : k0_chk17 v1097), ∀ (r : Fin 2), ∀ a, (k0_off435 v1097 (BitVec.ofNat 32 (16 * r.val))) a + S1x16.size a ≤ S8x2048.size a := fun v1097 k0_hw17 r => k0_hw17.2.2.2.2.2.2.2.2.2.2.2.2.1 r
theorem k0_off436_inb : ∀ (v1097 : BitVec 32) (k0_hw17 : k0_chk17 v1097), ∀ (r : Fin 2), ∀ a, (k0_off436 v1097 (BitVec.ofNat 32 (16 * r.val))) a + S1x16.size a ≤ S8x2048.size a := fun v1097 k0_hw17 r => k0_hw17.2.2.2.2.2.2.2.2.2.2.2.2.2.1 r
theorem k0_off437_inb : ∀ (v1097 : BitVec 32) (k0_hw17 : k0_chk17 v1097), ∀ (r : Fin 2), ∀ a, (k0_off437 v1097 (BitVec.ofNat 32 (16 * r.val))) a + S1x16.size a ≤ S8x2048.size a := fun v1097 k0_hw17 r => k0_hw17.2.2.2.2.2.2.2.2.2.2.2.2.2.2.1 r
theorem k0_off438_inb : ∀ (v1097 : BitVec 32) (k0_hw17 : k0_chk17 v1097), ∀ (r : Fin 2), ∀ a, (k0_off438 v1097 (BitVec.ofNat 32 (16 * r.val))) a + S1x16.size a ≤ S8x2048.size a := fun v1097 k0_hw17 r => k0_hw17.2.2.2.2.2.2.2.2.2.2.2.2.2.2.2.1 r
theorem k0_off439_inb : ∀ (v1097 : BitVec 32) (k0_hw17 : k0_chk17 v1097), ∀ (r : Fin 2), ∀ a, (k0_off439 v1097 (BitVec.ofNat 32 (16 * r.val))) a + S1x16.size a ≤ S8x2048.size a := fun v1097 k0_hw17 r => k0_hw17.2.2.2.2.2.2.2.2.2.2.2.2.2.2.2.2.1 r
theorem k0_off440_inb : ∀ (v1097 : BitVec 32) (k0_hw17 : k0_chk17 v1097), ∀ (r : Fin 2), ∀ a, (k0_off440 v1097 (BitVec.ofNat 32 (16 * r.val))) a + S1x16.size a ≤ S8x2048.size a := fun v1097 k0_hw17 r => k0_hw17.2.2.2.2.2.2.2.2.2.2.2.2.2.2.2.2.2.1 r
theorem k0_off441_inb : ∀ (v1097 : BitVec 32) (k0_hw17 : k0_chk17 v1097), ∀ (r : Fin 2), ∀ a, (k0_off441 v1097 (BitVec.ofNat 32 (16 * r.val))) a + S1x16.size a ≤ S8x2048.size a := fun v1097 k0_hw17 r => k0_hw17.2.2.2.2.2.2.2.2.2.2.2.2.2.2.2.2.2.2.1 r
theorem k0_off442_inb : ∀ (v1097 : BitVec 32) (k0_hw17 : k0_chk17 v1097), ∀ (r : Fin 2), ∀ a, (k0_off442 v1097 (BitVec.ofNat 32 (16 * r.val))) a + S1x16.size a ≤ S8x2048.size a := fun v1097 k0_hw17 r => k0_hw17.2.2.2.2.2.2.2.2.2.2.2.2.2.2.2.2.2.2.2.1 r
theorem k0_off443_inb : ∀ (v1097 : BitVec 32) (k0_hw17 : k0_chk17 v1097), ∀ (r : Fin 2), ∀ a, (k0_off443 v1097 (BitVec.ofNat 32 (16 * r.val))) a + S1x16.size a ≤ S8x2048.size a := fun v1097 k0_hw17 r => k0_hw17.2.2.2.2.2.2.2.2.2.2.2.2.2.2.2.2.2.2.2.2.1 r
theorem k0_off444_inb : ∀ (v1097 : BitVec 32) (k0_hw17 : k0_chk17 v1097), ∀ (r : Fin 2), ∀ a, (k0_off444 v1097 (BitVec.ofNat 32 (16 * r.val))) a + S1x16.size a ≤ S8x2048.size a := fun v1097 k0_hw17 r => k0_hw17.2.2.2.2.2.2.2.2.2.2.2.2.2.2.2.2.2.2.2.2.2.1 r
theorem k0_off445_inb : ∀ (v1097 : BitVec 32) (k0_hw17 : k0_chk17 v1097), ∀ (r : Fin 2), ∀ a, (k0_off445 v1097 (BitVec.ofNat 32 (16 * r.val))) a + S1x16.size a ≤ S8x2048.size a := fun v1097 k0_hw17 r => k0_hw17.2.2.2.2.2.2.2.2.2.2.2.2.2.2.2.2.2.2.2.2.2.2.1 r
theorem k0_off446_inb : ∀ (v1097 : BitVec 32) (k0_hw17 : k0_chk17 v1097), ∀ (r : Fin 2), ∀ a, (k0_off446 v1097 (BitVec.ofNat 32 (16 * r.val))) a + S1x16.size a ≤ S8x2048.size a := fun v1097 k0_hw17 r => k0_hw17.2.2.2.2.2.2.2.2.2.2.2.2.2.2.2.2.2.2.2.2.2.2.2 r

def k0_off447 (k0_t5 : Fin k0_t5_loop.trips) : Fin 1 → Nat :=
  let c0_i32_116 : BitVec 32 := 0#32
  let c1_i32_118 : BitVec 32 := 1#32
  let arg28 : BitVec 32 := Scf.iv c0_i32_116 c1_i32_118 k0_t5
  let c16_i32_264 : BitVec 32 := 16#32
  let v1504 : BitVec 32 := Scalar.muli arg28 c16_i32_264
  let c1_i32_265 : BitVec 32 := 1#32
  let v1505 : BitVec 32 := Scalar.addi v1504 c1_i32_265
  let c16_i32_266 : BitVec 32 := 16#32
  let v1506 : BitVec 32 := Scalar.muli v1505 c16_i32_266
  let v1507 : Index := Scalar.indexCast v1506
  ![v1507.toNat]
def k0_off448 (v1496 : BitVec 32) (c0_i32_267 : BitVec 32) : Fin 2 → Nat :=
  let c0_i32_268 : BitVec 32 := 0#32
  let v1511 : Index := Scalar.indexCast c0_i32_268
  let c63_i32_257 : BitVec 32 := 63#32
  let v1497 : BitVec 32 := Scalar.andi v1496 c63_i32_257
  let c32_i32_258 : BitVec 32 := 32#32
  let v1498 : BitVec 32 := Scalar.muli v1497 c32_i32_258
  let v1510 : BitVec 32 := Scalar.addi v1498 c0_i32_267
  let v1512 : Index := Scalar.indexCast v1510
  ![0, v1512.toNat]

def k0_off449 (v1496 : BitVec 32) (c0_i32_271 : BitVec 32) : Fin 2 → Nat :=
  let c1_i32_272 : BitVec 32 := 1#32
  let v1521 : Index := Scalar.indexCast c1_i32_272
  let c63_i32_257 : BitVec 32 := 63#32
  let v1497 : BitVec 32 := Scalar.andi v1496 c63_i32_257
  let c32_i32_258 : BitVec 32 := 32#32
  let v1498 : BitVec 32 := Scalar.muli v1497 c32_i32_258
  let v1520 : BitVec 32 := Scalar.addi v1498 c0_i32_271
  let v1522 : Index := Scalar.indexCast v1520
  ![1, v1522.toNat]
def k0_off450 (v1496 : BitVec 32) (c0_i32_275 : BitVec 32) : Fin 2 → Nat :=
  let c2_i32_276 : BitVec 32 := 2#32
  let v1531 : Index := Scalar.indexCast c2_i32_276
  let c63_i32_257 : BitVec 32 := 63#32
  let v1497 : BitVec 32 := Scalar.andi v1496 c63_i32_257
  let c32_i32_258 : BitVec 32 := 32#32
  let v1498 : BitVec 32 := Scalar.muli v1497 c32_i32_258
  let v1530 : BitVec 32 := Scalar.addi v1498 c0_i32_275
  let v1532 : Index := Scalar.indexCast v1530
  ![2, v1532.toNat]
def k0_off451 (v1496 : BitVec 32) (c0_i32_279 : BitVec 32) : Fin 2 → Nat :=
  let c3_i32_280 : BitVec 32 := 3#32
  let v1541 : Index := Scalar.indexCast c3_i32_280
  let c63_i32_257 : BitVec 32 := 63#32
  let v1497 : BitVec 32 := Scalar.andi v1496 c63_i32_257
  let c32_i32_258 : BitVec 32 := 32#32
  let v1498 : BitVec 32 := Scalar.muli v1497 c32_i32_258
  let v1540 : BitVec 32 := Scalar.addi v1498 c0_i32_279
  let v1542 : Index := Scalar.indexCast v1540
  ![3, v1542.toNat]
def k0_off452 (v1496 : BitVec 32) (c0_i32_283 : BitVec 32) : Fin 2 → Nat :=
  let c4_i32_284 : BitVec 32 := 4#32
  let v1551 : Index := Scalar.indexCast c4_i32_284
  let c63_i32_257 : BitVec 32 := 63#32
  let v1497 : BitVec 32 := Scalar.andi v1496 c63_i32_257
  let c32_i32_258 : BitVec 32 := 32#32
  let v1498 : BitVec 32 := Scalar.muli v1497 c32_i32_258
  let v1550 : BitVec 32 := Scalar.addi v1498 c0_i32_283
  let v1552 : Index := Scalar.indexCast v1550
  ![4, v1552.toNat]
def k0_off453 (v1496 : BitVec 32) (c0_i32_287 : BitVec 32) : Fin 2 → Nat :=
  let c5_i32_288 : BitVec 32 := 5#32
  let v1561 : Index := Scalar.indexCast c5_i32_288
  let c63_i32_257 : BitVec 32 := 63#32
  let v1497 : BitVec 32 := Scalar.andi v1496 c63_i32_257
  let c32_i32_258 : BitVec 32 := 32#32
  let v1498 : BitVec 32 := Scalar.muli v1497 c32_i32_258
  let v1560 : BitVec 32 := Scalar.addi v1498 c0_i32_287
  let v1562 : Index := Scalar.indexCast v1560
  ![5, v1562.toNat]
def k0_off454 (v1496 : BitVec 32) (c0_i32_291 : BitVec 32) : Fin 2 → Nat :=
  let c6_i32_292 : BitVec 32 := 6#32
  let v1571 : Index := Scalar.indexCast c6_i32_292
  let c63_i32_257 : BitVec 32 := 63#32
  let v1497 : BitVec 32 := Scalar.andi v1496 c63_i32_257
  let c32_i32_258 : BitVec 32 := 32#32
  let v1498 : BitVec 32 := Scalar.muli v1497 c32_i32_258
  let v1570 : BitVec 32 := Scalar.addi v1498 c0_i32_291
  let v1572 : Index := Scalar.indexCast v1570
  ![6, v1572.toNat]
def k0_off455 (v1496 : BitVec 32) (c0_i32_295 : BitVec 32) : Fin 2 → Nat :=
  let c7_i32_296 : BitVec 32 := 7#32
  let v1581 : Index := Scalar.indexCast c7_i32_296
  let c63_i32_257 : BitVec 32 := 63#32
  let v1497 : BitVec 32 := Scalar.andi v1496 c63_i32_257
  let c32_i32_258 : BitVec 32 := 32#32
  let v1498 : BitVec 32 := Scalar.muli v1497 c32_i32_258
  let v1580 : BitVec 32 := Scalar.addi v1498 c0_i32_295
  let v1582 : Index := Scalar.indexCast v1580
  ![7, v1582.toNat]
def k0_off456 (v1496 : BitVec 32) (c0_i32_299 : BitVec 32) : Fin 2 → Nat :=
  let c0_i32_300 : BitVec 32 := 0#32
  let v1591 : Index := Scalar.indexCast c0_i32_300
  let c6_i32_259 : BitVec 32 := 6#32
  let v1499 : BitVec 32 := Scalar.shrsi v1496 c6_i32_259
  let c63_i32_260 : BitVec 32 := 63#32
  let v1500 : BitVec 32 := Scalar.andi v1499 c63_i32_260
  let c32_i32_261 : BitVec 32 := 32#32
  let v1501 : BitVec 32 := Scalar.muli v1500 c32_i32_261
  let v1590 : BitVec 32 := Scalar.addi v1501 c0_i32_299
  let v1592 : Index := Scalar.indexCast v1590
  ![0, v1592.toNat]
def k0_off457 (v1496 : BitVec 32) (c0_i32_303 : BitVec 32) : Fin 2 → Nat :=
  let c1_i32_304 : BitVec 32 := 1#32
  let v1601 : Index := Scalar.indexCast c1_i32_304
  let c6_i32_259 : BitVec 32 := 6#32
  let v1499 : BitVec 32 := Scalar.shrsi v1496 c6_i32_259
  let c63_i32_260 : BitVec 32 := 63#32
  let v1500 : BitVec 32 := Scalar.andi v1499 c63_i32_260
  let c32_i32_261 : BitVec 32 := 32#32
  let v1501 : BitVec 32 := Scalar.muli v1500 c32_i32_261
  let v1600 : BitVec 32 := Scalar.addi v1501 c0_i32_303
  let v1602 : Index := Scalar.indexCast v1600
  ![1, v1602.toNat]
def k0_off458 (v1496 : BitVec 32) (c0_i32_307 : BitVec 32) : Fin 2 → Nat :=
  let c2_i32_308 : BitVec 32 := 2#32
  let v1611 : Index := Scalar.indexCast c2_i32_308
  let c6_i32_259 : BitVec 32 := 6#32
  let v1499 : BitVec 32 := Scalar.shrsi v1496 c6_i32_259
  let c63_i32_260 : BitVec 32 := 63#32
  let v1500 : BitVec 32 := Scalar.andi v1499 c63_i32_260
  let c32_i32_261 : BitVec 32 := 32#32
  let v1501 : BitVec 32 := Scalar.muli v1500 c32_i32_261
  let v1610 : BitVec 32 := Scalar.addi v1501 c0_i32_307
  let v1612 : Index := Scalar.indexCast v1610
  ![2, v1612.toNat]
def k0_off459 (v1496 : BitVec 32) (c0_i32_311 : BitVec 32) : Fin 2 → Nat :=
  let c3_i32_312 : BitVec 32 := 3#32
  let v1621 : Index := Scalar.indexCast c3_i32_312
  let c6_i32_259 : BitVec 32 := 6#32
  let v1499 : BitVec 32 := Scalar.shrsi v1496 c6_i32_259
  let c63_i32_260 : BitVec 32 := 63#32
  let v1500 : BitVec 32 := Scalar.andi v1499 c63_i32_260
  let c32_i32_261 : BitVec 32 := 32#32
  let v1501 : BitVec 32 := Scalar.muli v1500 c32_i32_261
  let v1620 : BitVec 32 := Scalar.addi v1501 c0_i32_311
  let v1622 : Index := Scalar.indexCast v1620
  ![3, v1622.toNat]
def k0_off460 (v1496 : BitVec 32) (c0_i32_315 : BitVec 32) : Fin 2 → Nat :=
  let c4_i32_316 : BitVec 32 := 4#32
  let v1631 : Index := Scalar.indexCast c4_i32_316
  let c6_i32_259 : BitVec 32 := 6#32
  let v1499 : BitVec 32 := Scalar.shrsi v1496 c6_i32_259
  let c63_i32_260 : BitVec 32 := 63#32
  let v1500 : BitVec 32 := Scalar.andi v1499 c63_i32_260
  let c32_i32_261 : BitVec 32 := 32#32
  let v1501 : BitVec 32 := Scalar.muli v1500 c32_i32_261
  let v1630 : BitVec 32 := Scalar.addi v1501 c0_i32_315
  let v1632 : Index := Scalar.indexCast v1630
  ![4, v1632.toNat]
def k0_off461 (v1496 : BitVec 32) (c0_i32_319 : BitVec 32) : Fin 2 → Nat :=
  let c5_i32_320 : BitVec 32 := 5#32
  let v1641 : Index := Scalar.indexCast c5_i32_320
  let c6_i32_259 : BitVec 32 := 6#32
  let v1499 : BitVec 32 := Scalar.shrsi v1496 c6_i32_259
  let c63_i32_260 : BitVec 32 := 63#32
  let v1500 : BitVec 32 := Scalar.andi v1499 c63_i32_260
  let c32_i32_261 : BitVec 32 := 32#32
  let v1501 : BitVec 32 := Scalar.muli v1500 c32_i32_261
  let v1640 : BitVec 32 := Scalar.addi v1501 c0_i32_319
  let v1642 : Index := Scalar.indexCast v1640
  ![5, v1642.toNat]
def k0_off462 (v1496 : BitVec 32) (c0_i32_323 : BitVec 32) : Fin 2 → Nat :=
  let c6_i32_324 : BitVec 32 := 6#32
  let v1651 : Index := Scalar.indexCast c6_i32_324
  let c6_i32_259 : BitVec 32 := 6#32
  let v1499 : BitVec 32 := Scalar.shrsi v1496 c6_i32_259
  let c63_i32_260 : BitVec 32 := 63#32
  let v1500 : BitVec 32 := Scalar.andi v1499 c63_i32_260
  let c32_i32_261 : BitVec 32 := 32#32
  let v1501 : BitVec 32 := Scalar.muli v1500 c32_i32_261
  let v1650 : BitVec 32 := Scalar.addi v1501 c0_i32_323
  let v1652 : Index := Scalar.indexCast v1650
  ![6, v1652.toNat]
def k0_off463 (v1496 : BitVec 32) (c0_i32_327 : BitVec 32) : Fin 2 → Nat :=
  let c7_i32_328 : BitVec 32 := 7#32
  let v1661 : Index := Scalar.indexCast c7_i32_328
  let c6_i32_259 : BitVec 32 := 6#32
  let v1499 : BitVec 32 := Scalar.shrsi v1496 c6_i32_259
  let c63_i32_260 : BitVec 32 := 63#32
  let v1500 : BitVec 32 := Scalar.andi v1499 c63_i32_260
  let c32_i32_261 : BitVec 32 := 32#32
  let v1501 : BitVec 32 := Scalar.muli v1500 c32_i32_261
  let v1660 : BitVec 32 := Scalar.addi v1501 c0_i32_327
  let v1662 : Index := Scalar.indexCast v1660
  ![7, v1662.toNat]
def k0_off464 (v1496 : BitVec 32) (c0_i32_331 : BitVec 32) : Fin 2 → Nat :=
  let c0_i32_332 : BitVec 32 := 0#32
  let v1703 : Index := Scalar.indexCast c0_i32_332
  let c12_i32_262 : BitVec 32 := 12#32
  let v1502 : BitVec 32 := Scalar.shrsi v1496 c12_i32_262
  let c32_i32_263 : BitVec 32 := 32#32
  let v1503 : BitVec 32 := Scalar.muli v1502 c32_i32_263
  let v1702 : BitVec 32 := Scalar.addi v1503 c0_i32_331
  let v1704 : Index := Scalar.indexCast v1702
  ![0, v1704.toNat]
def k0_off465 (v1496 : BitVec 32) (c0_i32_339 : BitVec 32) : Fin 2 → Nat :=
  let c1_i32_340 : BitVec 32 := 1#32
  let v1727 : Index := Scalar.indexCast c1_i32_340
  let c12_i32_262 : BitVec 32 := 12#32
  let v1502 : BitVec 32 := Scalar.shrsi v1496 c12_i32_262
  let c32_i32_263 : BitVec 32 := 32#32
  let v1503 : BitVec 32 := Scalar.muli v1502 c32_i32_263
  let v1726 : BitVec 32 := Scalar.addi v1503 c0_i32_339
  let v1728 : Index := Scalar.indexCast v1726
  ![1, v1728.toNat]
def k0_off466 (v1496 : BitVec 32) (c0_i32_347 : BitVec 32) : Fin 2 → Nat :=
  let c2_i32_348 : BitVec 32 := 2#32
  let v1751 : Index := Scalar.indexCast c2_i32_348
  let c12_i32_262 : BitVec 32 := 12#32
  let v1502 : BitVec 32 := Scalar.shrsi v1496 c12_i32_262
  let c32_i32_263 : BitVec 32 := 32#32
  let v1503 : BitVec 32 := Scalar.muli v1502 c32_i32_263
  let v1750 : BitVec 32 := Scalar.addi v1503 c0_i32_347
  let v1752 : Index := Scalar.indexCast v1750
  ![2, v1752.toNat]
def k0_off467 (v1496 : BitVec 32) (c0_i32_355 : BitVec 32) : Fin 2 → Nat :=
  let c3_i32_356 : BitVec 32 := 3#32
  let v1775 : Index := Scalar.indexCast c3_i32_356
  let c12_i32_262 : BitVec 32 := 12#32
  let v1502 : BitVec 32 := Scalar.shrsi v1496 c12_i32_262
  let c32_i32_263 : BitVec 32 := 32#32
  let v1503 : BitVec 32 := Scalar.muli v1502 c32_i32_263
  let v1774 : BitVec 32 := Scalar.addi v1503 c0_i32_355
  let v1776 : Index := Scalar.indexCast v1774
  ![3, v1776.toNat]
def k0_off468 (v1496 : BitVec 32) (c0_i32_363 : BitVec 32) : Fin 2 → Nat :=
  let c4_i32_364 : BitVec 32 := 4#32
  let v1799 : Index := Scalar.indexCast c4_i32_364
  let c12_i32_262 : BitVec 32 := 12#32
  let v1502 : BitVec 32 := Scalar.shrsi v1496 c12_i32_262
  let c32_i32_263 : BitVec 32 := 32#32
  let v1503 : BitVec 32 := Scalar.muli v1502 c32_i32_263
  let v1798 : BitVec 32 := Scalar.addi v1503 c0_i32_363
  let v1800 : Index := Scalar.indexCast v1798
  ![4, v1800.toNat]
def k0_off469 (v1496 : BitVec 32) (c0_i32_371 : BitVec 32) : Fin 2 → Nat :=
  let c5_i32_372 : BitVec 32 := 5#32
  let v1823 : Index := Scalar.indexCast c5_i32_372
  let c12_i32_262 : BitVec 32 := 12#32
  let v1502 : BitVec 32 := Scalar.shrsi v1496 c12_i32_262
  let c32_i32_263 : BitVec 32 := 32#32
  let v1503 : BitVec 32 := Scalar.muli v1502 c32_i32_263
  let v1822 : BitVec 32 := Scalar.addi v1503 c0_i32_371
  let v1824 : Index := Scalar.indexCast v1822
  ![5, v1824.toNat]
def k0_off470 (v1496 : BitVec 32) (c0_i32_379 : BitVec 32) : Fin 2 → Nat :=
  let c6_i32_380 : BitVec 32 := 6#32
  let v1847 : Index := Scalar.indexCast c6_i32_380
  let c12_i32_262 : BitVec 32 := 12#32
  let v1502 : BitVec 32 := Scalar.shrsi v1496 c12_i32_262
  let c32_i32_263 : BitVec 32 := 32#32
  let v1503 : BitVec 32 := Scalar.muli v1502 c32_i32_263
  let v1846 : BitVec 32 := Scalar.addi v1503 c0_i32_379
  let v1848 : Index := Scalar.indexCast v1846
  ![6, v1848.toNat]
def k0_off471 (v1496 : BitVec 32) (c0_i32_387 : BitVec 32) : Fin 2 → Nat :=
  let c7_i32_388 : BitVec 32 := 7#32
  let v1871 : Index := Scalar.indexCast c7_i32_388
  let c12_i32_262 : BitVec 32 := 12#32
  let v1502 : BitVec 32 := Scalar.shrsi v1496 c12_i32_262
  let c32_i32_263 : BitVec 32 := 32#32
  let v1503 : BitVec 32 := Scalar.muli v1502 c32_i32_263
  let v1870 : BitVec 32 := Scalar.addi v1503 c0_i32_387
  let v1872 : Index := Scalar.indexCast v1870
  ![7, v1872.toNat]

def k0_chk18 (v1496 : BitVec 32) : Prop :=
  (∀ (r : Fin 2), ∀ a, (k0_off448 v1496 (BitVec.ofNat 32 (16 * r.val))) a + S1x16.size a ≤ S8x2048.size a) ∧
  (∀ (r : Fin 2), ∀ a, (k0_off449 v1496 (BitVec.ofNat 32 (16 * r.val))) a + S1x16.size a ≤ S8x2048.size a) ∧
  (∀ (r : Fin 2), ∀ a, (k0_off450 v1496 (BitVec.ofNat 32 (16 * r.val))) a + S1x16.size a ≤ S8x2048.size a) ∧
  (∀ (r : Fin 2), ∀ a, (k0_off451 v1496 (BitVec.ofNat 32 (16 * r.val))) a + S1x16.size a ≤ S8x2048.size a) ∧
  (∀ (r : Fin 2), ∀ a, (k0_off452 v1496 (BitVec.ofNat 32 (16 * r.val))) a + S1x16.size a ≤ S8x2048.size a) ∧
  (∀ (r : Fin 2), ∀ a, (k0_off453 v1496 (BitVec.ofNat 32 (16 * r.val))) a + S1x16.size a ≤ S8x2048.size a) ∧
  (∀ (r : Fin 2), ∀ a, (k0_off454 v1496 (BitVec.ofNat 32 (16 * r.val))) a + S1x16.size a ≤ S8x2048.size a) ∧
  (∀ (r : Fin 2), ∀ a, (k0_off455 v1496 (BitVec.ofNat 32 (16 * r.val))) a + S1x16.size a ≤ S8x2048.size a) ∧
  (∀ (r : Fin 2), ∀ a, (k0_off456 v1496 (BitVec.ofNat 32 (16 * r.val))) a + S1x16.size a ≤ S8x2048.size a) ∧
  (∀ (r : Fin 2), ∀ a, (k0_off457 v1496 (BitVec.ofNat 32 (16 * r.val))) a + S1x16.size a ≤ S8x2048.size a) ∧
  (∀ (r : Fin 2), ∀ a, (k0_off458 v1496 (BitVec.ofNat 32 (16 * r.val))) a + S1x16.size a ≤ S8x2048.size a) ∧
  (∀ (r : Fin 2), ∀ a, (k0_off459 v1496 (BitVec.ofNat 32 (16 * r.val))) a + S1x16.size a ≤ S8x2048.size a) ∧
  (∀ (r : Fin 2), ∀ a, (k0_off460 v1496 (BitVec.ofNat 32 (16 * r.val))) a + S1x16.size a ≤ S8x2048.size a) ∧
  (∀ (r : Fin 2), ∀ a, (k0_off461 v1496 (BitVec.ofNat 32 (16 * r.val))) a + S1x16.size a ≤ S8x2048.size a) ∧
  (∀ (r : Fin 2), ∀ a, (k0_off462 v1496 (BitVec.ofNat 32 (16 * r.val))) a + S1x16.size a ≤ S8x2048.size a) ∧
  (∀ (r : Fin 2), ∀ a, (k0_off463 v1496 (BitVec.ofNat 32 (16 * r.val))) a + S1x16.size a ≤ S8x2048.size a) ∧
  (∀ (r : Fin 2), ∀ a, (k0_off464 v1496 (BitVec.ofNat 32 (16 * r.val))) a + S1x16.size a ≤ S8x2048.size a) ∧
  (∀ (r : Fin 2), ∀ a, (k0_off465 v1496 (BitVec.ofNat 32 (16 * r.val))) a + S1x16.size a ≤ S8x2048.size a) ∧
  (∀ (r : Fin 2), ∀ a, (k0_off466 v1496 (BitVec.ofNat 32 (16 * r.val))) a + S1x16.size a ≤ S8x2048.size a) ∧
  (∀ (r : Fin 2), ∀ a, (k0_off467 v1496 (BitVec.ofNat 32 (16 * r.val))) a + S1x16.size a ≤ S8x2048.size a) ∧
  (∀ (r : Fin 2), ∀ a, (k0_off468 v1496 (BitVec.ofNat 32 (16 * r.val))) a + S1x16.size a ≤ S8x2048.size a) ∧
  (∀ (r : Fin 2), ∀ a, (k0_off469 v1496 (BitVec.ofNat 32 (16 * r.val))) a + S1x16.size a ≤ S8x2048.size a) ∧
  (∀ (r : Fin 2), ∀ a, (k0_off470 v1496 (BitVec.ofNat 32 (16 * r.val))) a + S1x16.size a ≤ S8x2048.size a) ∧
  (∀ (r : Fin 2), ∀ a, (k0_off471 v1496 (BitVec.ofNat 32 (16 * r.val))) a + S1x16.size a ≤ S8x2048.size a)
theorem k0_off448_inb : ∀ (v1496 : BitVec 32) (k0_hw18 : k0_chk18 v1496), ∀ (r : Fin 2), ∀ a, (k0_off448 v1496 (BitVec.ofNat 32 (16 * r.val))) a + S1x16.size a ≤ S8x2048.size a := fun v1496 k0_hw18 r => k0_hw18.1 r
theorem k0_off449_inb : ∀ (v1496 : BitVec 32) (k0_hw18 : k0_chk18 v1496), ∀ (r : Fin 2), ∀ a, (k0_off449 v1496 (BitVec.ofNat 32 (16 * r.val))) a + S1x16.size a ≤ S8x2048.size a := fun v1496 k0_hw18 r => k0_hw18.2.1 r
theorem k0_off450_inb : ∀ (v1496 : BitVec 32) (k0_hw18 : k0_chk18 v1496), ∀ (r : Fin 2), ∀ a, (k0_off450 v1496 (BitVec.ofNat 32 (16 * r.val))) a + S1x16.size a ≤ S8x2048.size a := fun v1496 k0_hw18 r => k0_hw18.2.2.1 r
theorem k0_off451_inb : ∀ (v1496 : BitVec 32) (k0_hw18 : k0_chk18 v1496), ∀ (r : Fin 2), ∀ a, (k0_off451 v1496 (BitVec.ofNat 32 (16 * r.val))) a + S1x16.size a ≤ S8x2048.size a := fun v1496 k0_hw18 r => k0_hw18.2.2.2.1 r
theorem k0_off452_inb : ∀ (v1496 : BitVec 32) (k0_hw18 : k0_chk18 v1496), ∀ (r : Fin 2), ∀ a, (k0_off452 v1496 (BitVec.ofNat 32 (16 * r.val))) a + S1x16.size a ≤ S8x2048.size a := fun v1496 k0_hw18 r => k0_hw18.2.2.2.2.1 r
theorem k0_off453_inb : ∀ (v1496 : BitVec 32) (k0_hw18 : k0_chk18 v1496), ∀ (r : Fin 2), ∀ a, (k0_off453 v1496 (BitVec.ofNat 32 (16 * r.val))) a + S1x16.size a ≤ S8x2048.size a := fun v1496 k0_hw18 r => k0_hw18.2.2.2.2.2.1 r
theorem k0_off454_inb : ∀ (v1496 : BitVec 32) (k0_hw18 : k0_chk18 v1496), ∀ (r : Fin 2), ∀ a, (k0_off454 v1496 (BitVec.ofNat 32 (16 * r.val))) a + S1x16.size a ≤ S8x2048.size a := fun v1496 k0_hw18 r => k0_hw18.2.2.2.2.2.2.1 r
theorem k0_off455_inb : ∀ (v1496 : BitVec 32) (k0_hw18 : k0_chk18 v1496), ∀ (r : Fin 2), ∀ a, (k0_off455 v1496 (BitVec.ofNat 32 (16 * r.val))) a + S1x16.size a ≤ S8x2048.size a := fun v1496 k0_hw18 r => k0_hw18.2.2.2.2.2.2.2.1 r
theorem k0_off456_inb : ∀ (v1496 : BitVec 32) (k0_hw18 : k0_chk18 v1496), ∀ (r : Fin 2), ∀ a, (k0_off456 v1496 (BitVec.ofNat 32 (16 * r.val))) a + S1x16.size a ≤ S8x2048.size a := fun v1496 k0_hw18 r => k0_hw18.2.2.2.2.2.2.2.2.1 r
theorem k0_off457_inb : ∀ (v1496 : BitVec 32) (k0_hw18 : k0_chk18 v1496), ∀ (r : Fin 2), ∀ a, (k0_off457 v1496 (BitVec.ofNat 32 (16 * r.val))) a + S1x16.size a ≤ S8x2048.size a := fun v1496 k0_hw18 r => k0_hw18.2.2.2.2.2.2.2.2.2.1 r
theorem k0_off458_inb : ∀ (v1496 : BitVec 32) (k0_hw18 : k0_chk18 v1496), ∀ (r : Fin 2), ∀ a, (k0_off458 v1496 (BitVec.ofNat 32 (16 * r.val))) a + S1x16.size a ≤ S8x2048.size a := fun v1496 k0_hw18 r => k0_hw18.2.2.2.2.2.2.2.2.2.2.1 r
theorem k0_off459_inb : ∀ (v1496 : BitVec 32) (k0_hw18 : k0_chk18 v1496), ∀ (r : Fin 2), ∀ a, (k0_off459 v1496 (BitVec.ofNat 32 (16 * r.val))) a + S1x16.size a ≤ S8x2048.size a := fun v1496 k0_hw18 r => k0_hw18.2.2.2.2.2.2.2.2.2.2.2.1 r
theorem k0_off460_inb : ∀ (v1496 : BitVec 32) (k0_hw18 : k0_chk18 v1496), ∀ (r : Fin 2), ∀ a, (k0_off460 v1496 (BitVec.ofNat 32 (16 * r.val))) a + S1x16.size a ≤ S8x2048.size a := fun v1496 k0_hw18 r => k0_hw18.2.2.2.2.2.2.2.2.2.2.2.2.1 r
theorem k0_off461_inb : ∀ (v1496 : BitVec 32) (k0_hw18 : k0_chk18 v1496), ∀ (r : Fin 2), ∀ a, (k0_off461 v1496 (BitVec.ofNat 32 (16 * r.val))) a + S1x16.size a ≤ S8x2048.size a := fun v1496 k0_hw18 r => k0_hw18.2.2.2.2.2.2.2.2.2.2.2.2.2.1 r
theorem k0_off462_inb : ∀ (v1496 : BitVec 32) (k0_hw18 : k0_chk18 v1496), ∀ (r : Fin 2), ∀ a, (k0_off462 v1496 (BitVec.ofNat 32 (16 * r.val))) a + S1x16.size a ≤ S8x2048.size a := fun v1496 k0_hw18 r => k0_hw18.2.2.2.2.2.2.2.2.2.2.2.2.2.2.1 r
theorem k0_off463_inb : ∀ (v1496 : BitVec 32) (k0_hw18 : k0_chk18 v1496), ∀ (r : Fin 2), ∀ a, (k0_off463 v1496 (BitVec.ofNat 32 (16 * r.val))) a + S1x16.size a ≤ S8x2048.size a := fun v1496 k0_hw18 r => k0_hw18.2.2.2.2.2.2.2.2.2.2.2.2.2.2.2.1 r
theorem k0_off464_inb : ∀ (v1496 : BitVec 32) (k0_hw18 : k0_chk18 v1496), ∀ (r : Fin 2), ∀ a, (k0_off464 v1496 (BitVec.ofNat 32 (16 * r.val))) a + S1x16.size a ≤ S8x2048.size a := fun v1496 k0_hw18 r => k0_hw18.2.2.2.2.2.2.2.2.2.2.2.2.2.2.2.2.1 r
theorem k0_off465_inb : ∀ (v1496 : BitVec 32) (k0_hw18 : k0_chk18 v1496), ∀ (r : Fin 2), ∀ a, (k0_off465 v1496 (BitVec.ofNat 32 (16 * r.val))) a + S1x16.size a ≤ S8x2048.size a := fun v1496 k0_hw18 r => k0_hw18.2.2.2.2.2.2.2.2.2.2.2.2.2.2.2.2.2.1 r
theorem k0_off466_inb : ∀ (v1496 : BitVec 32) (k0_hw18 : k0_chk18 v1496), ∀ (r : Fin 2), ∀ a, (k0_off466 v1496 (BitVec.ofNat 32 (16 * r.val))) a + S1x16.size a ≤ S8x2048.size a := fun v1496 k0_hw18 r => k0_hw18.2.2.2.2.2.2.2.2.2.2.2.2.2.2.2.2.2.2.1 r
theorem k0_off467_inb : ∀ (v1496 : BitVec 32) (k0_hw18 : k0_chk18 v1496), ∀ (r : Fin 2), ∀ a, (k0_off467 v1496 (BitVec.ofNat 32 (16 * r.val))) a + S1x16.size a ≤ S8x2048.size a := fun v1496 k0_hw18 r => k0_hw18.2.2.2.2.2.2.2.2.2.2.2.2.2.2.2.2.2.2.2.1 r
theorem k0_off468_inb : ∀ (v1496 : BitVec 32) (k0_hw18 : k0_chk18 v1496), ∀ (r : Fin 2), ∀ a, (k0_off468 v1496 (BitVec.ofNat 32 (16 * r.val))) a + S1x16.size a ≤ S8x2048.size a := fun v1496 k0_hw18 r => k0_hw18.2.2.2.2.2.2.2.2.2.2.2.2.2.2.2.2.2.2.2.2.1 r
theorem k0_off469_inb : ∀ (v1496 : BitVec 32) (k0_hw18 : k0_chk18 v1496), ∀ (r : Fin 2), ∀ a, (k0_off469 v1496 (BitVec.ofNat 32 (16 * r.val))) a + S1x16.size a ≤ S8x2048.size a := fun v1496 k0_hw18 r => k0_hw18.2.2.2.2.2.2.2.2.2.2.2.2.2.2.2.2.2.2.2.2.2.1 r
theorem k0_off470_inb : ∀ (v1496 : BitVec 32) (k0_hw18 : k0_chk18 v1496), ∀ (r : Fin 2), ∀ a, (k0_off470 v1496 (BitVec.ofNat 32 (16 * r.val))) a + S1x16.size a ≤ S8x2048.size a := fun v1496 k0_hw18 r => k0_hw18.2.2.2.2.2.2.2.2.2.2.2.2.2.2.2.2.2.2.2.2.2.2.1 r
theorem k0_off471_inb : ∀ (v1496 : BitVec 32) (k0_hw18 : k0_chk18 v1496), ∀ (r : Fin 2), ∀ a, (k0_off471 v1496 (BitVec.ofNat 32 (16 * r.val))) a + S1x16.size a ≤ S8x2048.size a := fun v1496 k0_hw18 r => k0_hw18.2.2.2.2.2.2.2.2.2.2.2.2.2.2.2.2.2.2.2.2.2.2.2 r

def k0_off472 (k0_t5 : Fin k0_t5_loop.trips) : Fin 1 → Nat :=
  let c0_i32_116 : BitVec 32 := 0#32
  let c1_i32_118 : BitVec 32 := 1#32
  let arg28 : BitVec 32 := Scf.iv c0_i32_116 c1_i32_118 k0_t5
  let c16_i32_402 : BitVec 32 := 16#32
  let v1903 : BitVec 32 := Scalar.muli arg28 c16_i32_402
  let c2_i32_403 : BitVec 32 := 2#32
  let v1904 : BitVec 32 := Scalar.addi v1903 c2_i32_403
  let c16_i32_404 : BitVec 32 := 16#32
  let v1905 : BitVec 32 := Scalar.muli v1904 c16_i32_404
  let v1906 : Index := Scalar.indexCast v1905
  ![v1906.toNat]
def k0_off473 (v1895 : BitVec 32) (c0_i32_405 : BitVec 32) : Fin 2 → Nat :=
  let c0_i32_406 : BitVec 32 := 0#32
  let v1910 : Index := Scalar.indexCast c0_i32_406
  let c63_i32_395 : BitVec 32 := 63#32
  let v1896 : BitVec 32 := Scalar.andi v1895 c63_i32_395
  let c32_i32_396 : BitVec 32 := 32#32
  let v1897 : BitVec 32 := Scalar.muli v1896 c32_i32_396
  let v1909 : BitVec 32 := Scalar.addi v1897 c0_i32_405
  let v1911 : Index := Scalar.indexCast v1909
  ![0, v1911.toNat]

def k0_off474 (v1895 : BitVec 32) (c0_i32_409 : BitVec 32) : Fin 2 → Nat :=
  let c1_i32_410 : BitVec 32 := 1#32
  let v1920 : Index := Scalar.indexCast c1_i32_410
  let c63_i32_395 : BitVec 32 := 63#32
  let v1896 : BitVec 32 := Scalar.andi v1895 c63_i32_395
  let c32_i32_396 : BitVec 32 := 32#32
  let v1897 : BitVec 32 := Scalar.muli v1896 c32_i32_396
  let v1919 : BitVec 32 := Scalar.addi v1897 c0_i32_409
  let v1921 : Index := Scalar.indexCast v1919
  ![1, v1921.toNat]
def k0_off475 (v1895 : BitVec 32) (c0_i32_413 : BitVec 32) : Fin 2 → Nat :=
  let c2_i32_414 : BitVec 32 := 2#32
  let v1930 : Index := Scalar.indexCast c2_i32_414
  let c63_i32_395 : BitVec 32 := 63#32
  let v1896 : BitVec 32 := Scalar.andi v1895 c63_i32_395
  let c32_i32_396 : BitVec 32 := 32#32
  let v1897 : BitVec 32 := Scalar.muli v1896 c32_i32_396
  let v1929 : BitVec 32 := Scalar.addi v1897 c0_i32_413
  let v1931 : Index := Scalar.indexCast v1929
  ![2, v1931.toNat]
def k0_off476 (v1895 : BitVec 32) (c0_i32_417 : BitVec 32) : Fin 2 → Nat :=
  let c3_i32_418 : BitVec 32 := 3#32
  let v1940 : Index := Scalar.indexCast c3_i32_418
  let c63_i32_395 : BitVec 32 := 63#32
  let v1896 : BitVec 32 := Scalar.andi v1895 c63_i32_395
  let c32_i32_396 : BitVec 32 := 32#32
  let v1897 : BitVec 32 := Scalar.muli v1896 c32_i32_396
  let v1939 : BitVec 32 := Scalar.addi v1897 c0_i32_417
  let v1941 : Index := Scalar.indexCast v1939
  ![3, v1941.toNat]
def k0_off477 (v1895 : BitVec 32) (c0_i32_421 : BitVec 32) : Fin 2 → Nat :=
  let c4_i32_422 : BitVec 32 := 4#32
  let v1950 : Index := Scalar.indexCast c4_i32_422
  let c63_i32_395 : BitVec 32 := 63#32
  let v1896 : BitVec 32 := Scalar.andi v1895 c63_i32_395
  let c32_i32_396 : BitVec 32 := 32#32
  let v1897 : BitVec 32 := Scalar.muli v1896 c32_i32_396
  let v1949 : BitVec 32 := Scalar.addi v1897 c0_i32_421
  let v1951 : Index := Scalar.indexCast v1949
  ![4, v1951.toNat]
def k0_off478 (v1895 : BitVec 32) (c0_i32_425 : BitVec 32) : Fin 2 → Nat :=
  let c5_i32_426 : BitVec 32 := 5#32
  let v1960 : Index := Scalar.indexCast c5_i32_426
  let c63_i32_395 : BitVec 32 := 63#32
  let v1896 : BitVec 32 := Scalar.andi v1895 c63_i32_395
  let c32_i32_396 : BitVec 32 := 32#32
  let v1897 : BitVec 32 := Scalar.muli v1896 c32_i32_396
  let v1959 : BitVec 32 := Scalar.addi v1897 c0_i32_425
  let v1961 : Index := Scalar.indexCast v1959
  ![5, v1961.toNat]
def k0_off479 (v1895 : BitVec 32) (c0_i32_429 : BitVec 32) : Fin 2 → Nat :=
  let c6_i32_430 : BitVec 32 := 6#32
  let v1970 : Index := Scalar.indexCast c6_i32_430
  let c63_i32_395 : BitVec 32 := 63#32
  let v1896 : BitVec 32 := Scalar.andi v1895 c63_i32_395
  let c32_i32_396 : BitVec 32 := 32#32
  let v1897 : BitVec 32 := Scalar.muli v1896 c32_i32_396
  let v1969 : BitVec 32 := Scalar.addi v1897 c0_i32_429
  let v1971 : Index := Scalar.indexCast v1969
  ![6, v1971.toNat]
def k0_off480 (v1895 : BitVec 32) (c0_i32_433 : BitVec 32) : Fin 2 → Nat :=
  let c7_i32_434 : BitVec 32 := 7#32
  let v1980 : Index := Scalar.indexCast c7_i32_434
  let c63_i32_395 : BitVec 32 := 63#32
  let v1896 : BitVec 32 := Scalar.andi v1895 c63_i32_395
  let c32_i32_396 : BitVec 32 := 32#32
  let v1897 : BitVec 32 := Scalar.muli v1896 c32_i32_396
  let v1979 : BitVec 32 := Scalar.addi v1897 c0_i32_433
  let v1981 : Index := Scalar.indexCast v1979
  ![7, v1981.toNat]
def k0_off481 (v1895 : BitVec 32) (c0_i32_437 : BitVec 32) : Fin 2 → Nat :=
  let c0_i32_438 : BitVec 32 := 0#32
  let v1990 : Index := Scalar.indexCast c0_i32_438
  let c6_i32_397 : BitVec 32 := 6#32
  let v1898 : BitVec 32 := Scalar.shrsi v1895 c6_i32_397
  let c63_i32_398 : BitVec 32 := 63#32
  let v1899 : BitVec 32 := Scalar.andi v1898 c63_i32_398
  let c32_i32_399 : BitVec 32 := 32#32
  let v1900 : BitVec 32 := Scalar.muli v1899 c32_i32_399
  let v1989 : BitVec 32 := Scalar.addi v1900 c0_i32_437
  let v1991 : Index := Scalar.indexCast v1989
  ![0, v1991.toNat]
def k0_off482 (v1895 : BitVec 32) (c0_i32_441 : BitVec 32) : Fin 2 → Nat :=
  let c1_i32_442 : BitVec 32 := 1#32
  let v2000 : Index := Scalar.indexCast c1_i32_442
  let c6_i32_397 : BitVec 32 := 6#32
  let v1898 : BitVec 32 := Scalar.shrsi v1895 c6_i32_397
  let c63_i32_398 : BitVec 32 := 63#32
  let v1899 : BitVec 32 := Scalar.andi v1898 c63_i32_398
  let c32_i32_399 : BitVec 32 := 32#32
  let v1900 : BitVec 32 := Scalar.muli v1899 c32_i32_399
  let v1999 : BitVec 32 := Scalar.addi v1900 c0_i32_441
  let v2001 : Index := Scalar.indexCast v1999
  ![1, v2001.toNat]
def k0_off483 (v1895 : BitVec 32) (c0_i32_445 : BitVec 32) : Fin 2 → Nat :=
  let c2_i32_446 : BitVec 32 := 2#32
  let v2010 : Index := Scalar.indexCast c2_i32_446
  let c6_i32_397 : BitVec 32 := 6#32
  let v1898 : BitVec 32 := Scalar.shrsi v1895 c6_i32_397
  let c63_i32_398 : BitVec 32 := 63#32
  let v1899 : BitVec 32 := Scalar.andi v1898 c63_i32_398
  let c32_i32_399 : BitVec 32 := 32#32
  let v1900 : BitVec 32 := Scalar.muli v1899 c32_i32_399
  let v2009 : BitVec 32 := Scalar.addi v1900 c0_i32_445
  let v2011 : Index := Scalar.indexCast v2009
  ![2, v2011.toNat]
def k0_off484 (v1895 : BitVec 32) (c0_i32_449 : BitVec 32) : Fin 2 → Nat :=
  let c3_i32_450 : BitVec 32 := 3#32
  let v2020 : Index := Scalar.indexCast c3_i32_450
  let c6_i32_397 : BitVec 32 := 6#32
  let v1898 : BitVec 32 := Scalar.shrsi v1895 c6_i32_397
  let c63_i32_398 : BitVec 32 := 63#32
  let v1899 : BitVec 32 := Scalar.andi v1898 c63_i32_398
  let c32_i32_399 : BitVec 32 := 32#32
  let v1900 : BitVec 32 := Scalar.muli v1899 c32_i32_399
  let v2019 : BitVec 32 := Scalar.addi v1900 c0_i32_449
  let v2021 : Index := Scalar.indexCast v2019
  ![3, v2021.toNat]
def k0_off485 (v1895 : BitVec 32) (c0_i32_453 : BitVec 32) : Fin 2 → Nat :=
  let c4_i32_454 : BitVec 32 := 4#32
  let v2030 : Index := Scalar.indexCast c4_i32_454
  let c6_i32_397 : BitVec 32 := 6#32
  let v1898 : BitVec 32 := Scalar.shrsi v1895 c6_i32_397
  let c63_i32_398 : BitVec 32 := 63#32
  let v1899 : BitVec 32 := Scalar.andi v1898 c63_i32_398
  let c32_i32_399 : BitVec 32 := 32#32
  let v1900 : BitVec 32 := Scalar.muli v1899 c32_i32_399
  let v2029 : BitVec 32 := Scalar.addi v1900 c0_i32_453
  let v2031 : Index := Scalar.indexCast v2029
  ![4, v2031.toNat]
def k0_off486 (v1895 : BitVec 32) (c0_i32_457 : BitVec 32) : Fin 2 → Nat :=
  let c5_i32_458 : BitVec 32 := 5#32
  let v2040 : Index := Scalar.indexCast c5_i32_458
  let c6_i32_397 : BitVec 32 := 6#32
  let v1898 : BitVec 32 := Scalar.shrsi v1895 c6_i32_397
  let c63_i32_398 : BitVec 32 := 63#32
  let v1899 : BitVec 32 := Scalar.andi v1898 c63_i32_398
  let c32_i32_399 : BitVec 32 := 32#32
  let v1900 : BitVec 32 := Scalar.muli v1899 c32_i32_399
  let v2039 : BitVec 32 := Scalar.addi v1900 c0_i32_457
  let v2041 : Index := Scalar.indexCast v2039
  ![5, v2041.toNat]
def k0_off487 (v1895 : BitVec 32) (c0_i32_461 : BitVec 32) : Fin 2 → Nat :=
  let c6_i32_462 : BitVec 32 := 6#32
  let v2050 : Index := Scalar.indexCast c6_i32_462
  let c6_i32_397 : BitVec 32 := 6#32
  let v1898 : BitVec 32 := Scalar.shrsi v1895 c6_i32_397
  let c63_i32_398 : BitVec 32 := 63#32
  let v1899 : BitVec 32 := Scalar.andi v1898 c63_i32_398
  let c32_i32_399 : BitVec 32 := 32#32
  let v1900 : BitVec 32 := Scalar.muli v1899 c32_i32_399
  let v2049 : BitVec 32 := Scalar.addi v1900 c0_i32_461
  let v2051 : Index := Scalar.indexCast v2049
  ![6, v2051.toNat]
def k0_off488 (v1895 : BitVec 32) (c0_i32_465 : BitVec 32) : Fin 2 → Nat :=
  let c7_i32_466 : BitVec 32 := 7#32
  let v2060 : Index := Scalar.indexCast c7_i32_466
  let c6_i32_397 : BitVec 32 := 6#32
  let v1898 : BitVec 32 := Scalar.shrsi v1895 c6_i32_397
  let c63_i32_398 : BitVec 32 := 63#32
  let v1899 : BitVec 32 := Scalar.andi v1898 c63_i32_398
  let c32_i32_399 : BitVec 32 := 32#32
  let v1900 : BitVec 32 := Scalar.muli v1899 c32_i32_399
  let v2059 : BitVec 32 := Scalar.addi v1900 c0_i32_465
  let v2061 : Index := Scalar.indexCast v2059
  ![7, v2061.toNat]
def k0_off489 (v1895 : BitVec 32) (c0_i32_469 : BitVec 32) : Fin 2 → Nat :=
  let c0_i32_470 : BitVec 32 := 0#32
  let v2102 : Index := Scalar.indexCast c0_i32_470
  let c12_i32_400 : BitVec 32 := 12#32
  let v1901 : BitVec 32 := Scalar.shrsi v1895 c12_i32_400
  let c32_i32_401 : BitVec 32 := 32#32
  let v1902 : BitVec 32 := Scalar.muli v1901 c32_i32_401
  let v2101 : BitVec 32 := Scalar.addi v1902 c0_i32_469
  let v2103 : Index := Scalar.indexCast v2101
  ![0, v2103.toNat]
def k0_off490 (v1895 : BitVec 32) (c0_i32_477 : BitVec 32) : Fin 2 → Nat :=
  let c1_i32_478 : BitVec 32 := 1#32
  let v2126 : Index := Scalar.indexCast c1_i32_478
  let c12_i32_400 : BitVec 32 := 12#32
  let v1901 : BitVec 32 := Scalar.shrsi v1895 c12_i32_400
  let c32_i32_401 : BitVec 32 := 32#32
  let v1902 : BitVec 32 := Scalar.muli v1901 c32_i32_401
  let v2125 : BitVec 32 := Scalar.addi v1902 c0_i32_477
  let v2127 : Index := Scalar.indexCast v2125
  ![1, v2127.toNat]
def k0_off491 (v1895 : BitVec 32) (c0_i32_485 : BitVec 32) : Fin 2 → Nat :=
  let c2_i32_486 : BitVec 32 := 2#32
  let v2150 : Index := Scalar.indexCast c2_i32_486
  let c12_i32_400 : BitVec 32 := 12#32
  let v1901 : BitVec 32 := Scalar.shrsi v1895 c12_i32_400
  let c32_i32_401 : BitVec 32 := 32#32
  let v1902 : BitVec 32 := Scalar.muli v1901 c32_i32_401
  let v2149 : BitVec 32 := Scalar.addi v1902 c0_i32_485
  let v2151 : Index := Scalar.indexCast v2149
  ![2, v2151.toNat]
def k0_off492 (v1895 : BitVec 32) (c0_i32_493 : BitVec 32) : Fin 2 → Nat :=
  let c3_i32_494 : BitVec 32 := 3#32
  let v2174 : Index := Scalar.indexCast c3_i32_494
  let c12_i32_400 : BitVec 32 := 12#32
  let v1901 : BitVec 32 := Scalar.shrsi v1895 c12_i32_400
  let c32_i32_401 : BitVec 32 := 32#32
  let v1902 : BitVec 32 := Scalar.muli v1901 c32_i32_401
  let v2173 : BitVec 32 := Scalar.addi v1902 c0_i32_493
  let v2175 : Index := Scalar.indexCast v2173
  ![3, v2175.toNat]
def k0_off493 (v1895 : BitVec 32) (c0_i32_501 : BitVec 32) : Fin 2 → Nat :=
  let c4_i32_502 : BitVec 32 := 4#32
  let v2198 : Index := Scalar.indexCast c4_i32_502
  let c12_i32_400 : BitVec 32 := 12#32
  let v1901 : BitVec 32 := Scalar.shrsi v1895 c12_i32_400
  let c32_i32_401 : BitVec 32 := 32#32
  let v1902 : BitVec 32 := Scalar.muli v1901 c32_i32_401
  let v2197 : BitVec 32 := Scalar.addi v1902 c0_i32_501
  let v2199 : Index := Scalar.indexCast v2197
  ![4, v2199.toNat]
def k0_off494 (v1895 : BitVec 32) (c0_i32_509 : BitVec 32) : Fin 2 → Nat :=
  let c5_i32_510 : BitVec 32 := 5#32
  let v2222 : Index := Scalar.indexCast c5_i32_510
  let c12_i32_400 : BitVec 32 := 12#32
  let v1901 : BitVec 32 := Scalar.shrsi v1895 c12_i32_400
  let c32_i32_401 : BitVec 32 := 32#32
  let v1902 : BitVec 32 := Scalar.muli v1901 c32_i32_401
  let v2221 : BitVec 32 := Scalar.addi v1902 c0_i32_509
  let v2223 : Index := Scalar.indexCast v2221
  ![5, v2223.toNat]
def k0_off495 (v1895 : BitVec 32) (c0_i32_517 : BitVec 32) : Fin 2 → Nat :=
  let c6_i32_518 : BitVec 32 := 6#32
  let v2246 : Index := Scalar.indexCast c6_i32_518
  let c12_i32_400 : BitVec 32 := 12#32
  let v1901 : BitVec 32 := Scalar.shrsi v1895 c12_i32_400
  let c32_i32_401 : BitVec 32 := 32#32
  let v1902 : BitVec 32 := Scalar.muli v1901 c32_i32_401
  let v2245 : BitVec 32 := Scalar.addi v1902 c0_i32_517
  let v2247 : Index := Scalar.indexCast v2245
  ![6, v2247.toNat]
def k0_off496 (v1895 : BitVec 32) (c0_i32_525 : BitVec 32) : Fin 2 → Nat :=
  let c7_i32_526 : BitVec 32 := 7#32
  let v2270 : Index := Scalar.indexCast c7_i32_526
  let c12_i32_400 : BitVec 32 := 12#32
  let v1901 : BitVec 32 := Scalar.shrsi v1895 c12_i32_400
  let c32_i32_401 : BitVec 32 := 32#32
  let v1902 : BitVec 32 := Scalar.muli v1901 c32_i32_401
  let v2269 : BitVec 32 := Scalar.addi v1902 c0_i32_525
  let v2271 : Index := Scalar.indexCast v2269
  ![7, v2271.toNat]

def k0_chk19 (v1895 : BitVec 32) : Prop :=
  (∀ (r : Fin 2), ∀ a, (k0_off473 v1895 (BitVec.ofNat 32 (16 * r.val))) a + S1x16.size a ≤ S8x2048.size a) ∧
  (∀ (r : Fin 2), ∀ a, (k0_off474 v1895 (BitVec.ofNat 32 (16 * r.val))) a + S1x16.size a ≤ S8x2048.size a) ∧
  (∀ (r : Fin 2), ∀ a, (k0_off475 v1895 (BitVec.ofNat 32 (16 * r.val))) a + S1x16.size a ≤ S8x2048.size a) ∧
  (∀ (r : Fin 2), ∀ a, (k0_off476 v1895 (BitVec.ofNat 32 (16 * r.val))) a + S1x16.size a ≤ S8x2048.size a) ∧
  (∀ (r : Fin 2), ∀ a, (k0_off477 v1895 (BitVec.ofNat 32 (16 * r.val))) a + S1x16.size a ≤ S8x2048.size a) ∧
  (∀ (r : Fin 2), ∀ a, (k0_off478 v1895 (BitVec.ofNat 32 (16 * r.val))) a + S1x16.size a ≤ S8x2048.size a) ∧
  (∀ (r : Fin 2), ∀ a, (k0_off479 v1895 (BitVec.ofNat 32 (16 * r.val))) a + S1x16.size a ≤ S8x2048.size a) ∧
  (∀ (r : Fin 2), ∀ a, (k0_off480 v1895 (BitVec.ofNat 32 (16 * r.val))) a + S1x16.size a ≤ S8x2048.size a) ∧
  (∀ (r : Fin 2), ∀ a, (k0_off481 v1895 (BitVec.ofNat 32 (16 * r.val))) a + S1x16.size a ≤ S8x2048.size a) ∧
  (∀ (r : Fin 2), ∀ a, (k0_off482 v1895 (BitVec.ofNat 32 (16 * r.val))) a + S1x16.size a ≤ S8x2048.size a) ∧
  (∀ (r : Fin 2), ∀ a, (k0_off483 v1895 (BitVec.ofNat 32 (16 * r.val))) a + S1x16.size a ≤ S8x2048.size a) ∧
  (∀ (r : Fin 2), ∀ a, (k0_off484 v1895 (BitVec.ofNat 32 (16 * r.val))) a + S1x16.size a ≤ S8x2048.size a) ∧
  (∀ (r : Fin 2), ∀ a, (k0_off485 v1895 (BitVec.ofNat 32 (16 * r.val))) a + S1x16.size a ≤ S8x2048.size a) ∧
  (∀ (r : Fin 2), ∀ a, (k0_off486 v1895 (BitVec.ofNat 32 (16 * r.val))) a + S1x16.size a ≤ S8x2048.size a) ∧
  (∀ (r : Fin 2), ∀ a, (k0_off487 v1895 (BitVec.ofNat 32 (16 * r.val))) a + S1x16.size a ≤ S8x2048.size a) ∧
  (∀ (r : Fin 2), ∀ a, (k0_off488 v1895 (BitVec.ofNat 32 (16 * r.val))) a + S1x16.size a ≤ S8x2048.size a) ∧
  (∀ (r : Fin 2), ∀ a, (k0_off489 v1895 (BitVec.ofNat 32 (16 * r.val))) a + S1x16.size a ≤ S8x2048.size a) ∧
  (∀ (r : Fin 2), ∀ a, (k0_off490 v1895 (BitVec.ofNat 32 (16 * r.val))) a + S1x16.size a ≤ S8x2048.size a) ∧
  (∀ (r : Fin 2), ∀ a, (k0_off491 v1895 (BitVec.ofNat 32 (16 * r.val))) a + S1x16.size a ≤ S8x2048.size a) ∧
  (∀ (r : Fin 2), ∀ a, (k0_off492 v1895 (BitVec.ofNat 32 (16 * r.val))) a + S1x16.size a ≤ S8x2048.size a) ∧
  (∀ (r : Fin 2), ∀ a, (k0_off493 v1895 (BitVec.ofNat 32 (16 * r.val))) a + S1x16.size a ≤ S8x2048.size a) ∧
  (∀ (r : Fin 2), ∀ a, (k0_off494 v1895 (BitVec.ofNat 32 (16 * r.val))) a + S1x16.size a ≤ S8x2048.size a) ∧
  (∀ (r : Fin 2), ∀ a, (k0_off495 v1895 (BitVec.ofNat 32 (16 * r.val))) a + S1x16.size a ≤ S8x2048.size a) ∧
  (∀ (r : Fin 2), ∀ a, (k0_off496 v1895 (BitVec.ofNat 32 (16 * r.val))) a + S1x16.size a ≤ S8x2048.size a)
theorem k0_off473_inb : ∀ (v1895 : BitVec 32) (k0_hw19 : k0_chk19 v1895), ∀ (r : Fin 2), ∀ a, (k0_off473 v1895 (BitVec.ofNat 32 (16 * r.val))) a + S1x16.size a ≤ S8x2048.size a := fun v1895 k0_hw19 r => k0_hw19.1 r
theorem k0_off474_inb : ∀ (v1895 : BitVec 32) (k0_hw19 : k0_chk19 v1895), ∀ (r : Fin 2), ∀ a, (k0_off474 v1895 (BitVec.ofNat 32 (16 * r.val))) a + S1x16.size a ≤ S8x2048.size a := fun v1895 k0_hw19 r => k0_hw19.2.1 r
theorem k0_off475_inb : ∀ (v1895 : BitVec 32) (k0_hw19 : k0_chk19 v1895), ∀ (r : Fin 2), ∀ a, (k0_off475 v1895 (BitVec.ofNat 32 (16 * r.val))) a + S1x16.size a ≤ S8x2048.size a := fun v1895 k0_hw19 r => k0_hw19.2.2.1 r
theorem k0_off476_inb : ∀ (v1895 : BitVec 32) (k0_hw19 : k0_chk19 v1895), ∀ (r : Fin 2), ∀ a, (k0_off476 v1895 (BitVec.ofNat 32 (16 * r.val))) a + S1x16.size a ≤ S8x2048.size a := fun v1895 k0_hw19 r => k0_hw19.2.2.2.1 r
theorem k0_off477_inb : ∀ (v1895 : BitVec 32) (k0_hw19 : k0_chk19 v1895), ∀ (r : Fin 2), ∀ a, (k0_off477 v1895 (BitVec.ofNat 32 (16 * r.val))) a + S1x16.size a ≤ S8x2048.size a := fun v1895 k0_hw19 r => k0_hw19.2.2.2.2.1 r
theorem k0_off478_inb : ∀ (v1895 : BitVec 32) (k0_hw19 : k0_chk19 v1895), ∀ (r : Fin 2), ∀ a, (k0_off478 v1895 (BitVec.ofNat 32 (16 * r.val))) a + S1x16.size a ≤ S8x2048.size a := fun v1895 k0_hw19 r => k0_hw19.2.2.2.2.2.1 r
theorem k0_off479_inb : ∀ (v1895 : BitVec 32) (k0_hw19 : k0_chk19 v1895), ∀ (r : Fin 2), ∀ a, (k0_off479 v1895 (BitVec.ofNat 32 (16 * r.val))) a + S1x16.size a ≤ S8x2048.size a := fun v1895 k0_hw19 r => k0_hw19.2.2.2.2.2.2.1 r
theorem k0_off480_inb : ∀ (v1895 : BitVec 32) (k0_hw19 : k0_chk19 v1895), ∀ (r : Fin 2), ∀ a, (k0_off480 v1895 (BitVec.ofNat 32 (16 * r.val))) a + S1x16.size a ≤ S8x2048.size a := fun v1895 k0_hw19 r => k0_hw19.2.2.2.2.2.2.2.1 r
theorem k0_off481_inb : ∀ (v1895 : BitVec 32) (k0_hw19 : k0_chk19 v1895), ∀ (r : Fin 2), ∀ a, (k0_off481 v1895 (BitVec.ofNat 32 (16 * r.val))) a + S1x16.size a ≤ S8x2048.size a := fun v1895 k0_hw19 r => k0_hw19.2.2.2.2.2.2.2.2.1 r
theorem k0_off482_inb : ∀ (v1895 : BitVec 32) (k0_hw19 : k0_chk19 v1895), ∀ (r : Fin 2), ∀ a, (k0_off482 v1895 (BitVec.ofNat 32 (16 * r.val))) a + S1x16.size a ≤ S8x2048.size a := fun v1895 k0_hw19 r => k0_hw19.2.2.2.2.2.2.2.2.2.1 r
theorem k0_off483_inb : ∀ (v1895 : BitVec 32) (k0_hw19 : k0_chk19 v1895), ∀ (r : Fin 2), ∀ a, (k0_off483 v1895 (BitVec.ofNat 32 (16 * r.val))) a + S1x16.size a ≤ S8x2048.size a := fun v1895 k0_hw19 r => k0_hw19.2.2.2.2.2.2.2.2.2.2.1 r
theorem k0_off484_inb : ∀ (v1895 : BitVec 32) (k0_hw19 : k0_chk19 v1895), ∀ (r : Fin 2), ∀ a, (k0_off484 v1895 (BitVec.ofNat 32 (16 * r.val))) a + S1x16.size a ≤ S8x2048.size a := fun v1895 k0_hw19 r => k0_hw19.2.2.2.2.2.2.2.2.2.2.2.1 r
theorem k0_off485_inb : ∀ (v1895 : BitVec 32) (k0_hw19 : k0_chk19 v1895), ∀ (r : Fin 2), ∀ a, (k0_off485 v1895 (BitVec.ofNat 32 (16 * r.val))) a + S1x16.size a ≤ S8x2048.size a := fun v1895 k0_hw19 r => k0_hw19.2.2.2.2.2.2.2.2.2.2.2.2.1 r
theorem k0_off486_inb : ∀ (v1895 : BitVec 32) (k0_hw19 : k0_chk19 v1895), ∀ (r : Fin 2), ∀ a, (k0_off486 v1895 (BitVec.ofNat 32 (16 * r.val))) a + S1x16.size a ≤ S8x2048.size a := fun v1895 k0_hw19 r => k0_hw19.2.2.2.2.2.2.2.2.2.2.2.2.2.1 r
theorem k0_off487_inb : ∀ (v1895 : BitVec 32) (k0_hw19 : k0_chk19 v1895), ∀ (r : Fin 2), ∀ a, (k0_off487 v1895 (BitVec.ofNat 32 (16 * r.val))) a + S1x16.size a ≤ S8x2048.size a := fun v1895 k0_hw19 r => k0_hw19.2.2.2.2.2.2.2.2.2.2.2.2.2.2.1 r
theorem k0_off488_inb : ∀ (v1895 : BitVec 32) (k0_hw19 : k0_chk19 v1895), ∀ (r : Fin 2), ∀ a, (k0_off488 v1895 (BitVec.ofNat 32 (16 * r.val))) a + S1x16.size a ≤ S8x2048.size a := fun v1895 k0_hw19 r => k0_hw19.2.2.2.2.2.2.2.2.2.2.2.2.2.2.2.1 r
theorem k0_off489_inb : ∀ (v1895 : BitVec 32) (k0_hw19 : k0_chk19 v1895), ∀ (r : Fin 2), ∀ a, (k0_off489 v1895 (BitVec.ofNat 32 (16 * r.val))) a + S1x16.size a ≤ S8x2048.size a := fun v1895 k0_hw19 r => k0_hw19.2.2.2.2.2.2.2.2.2.2.2.2.2.2.2.2.1 r
theorem k0_off490_inb : ∀ (v1895 : BitVec 32) (k0_hw19 : k0_chk19 v1895), ∀ (r : Fin 2), ∀ a, (k0_off490 v1895 (BitVec.ofNat 32 (16 * r.val))) a + S1x16.size a ≤ S8x2048.size a := fun v1895 k0_hw19 r => k0_hw19.2.2.2.2.2.2.2.2.2.2.2.2.2.2.2.2.2.1 r
theorem k0_off491_inb : ∀ (v1895 : BitVec 32) (k0_hw19 : k0_chk19 v1895), ∀ (r : Fin 2), ∀ a, (k0_off491 v1895 (BitVec.ofNat 32 (16 * r.val))) a + S1x16.size a ≤ S8x2048.size a := fun v1895 k0_hw19 r => k0_hw19.2.2.2.2.2.2.2.2.2.2.2.2.2.2.2.2.2.2.1 r
theorem k0_off492_inb : ∀ (v1895 : BitVec 32) (k0_hw19 : k0_chk19 v1895), ∀ (r : Fin 2), ∀ a, (k0_off492 v1895 (BitVec.ofNat 32 (16 * r.val))) a + S1x16.size a ≤ S8x2048.size a := fun v1895 k0_hw19 r => k0_hw19.2.2.2.2.2.2.2.2.2.2.2.2.2.2.2.2.2.2.2.1 r
theorem k0_off493_inb : ∀ (v1895 : BitVec 32) (k0_hw19 : k0_chk19 v1895), ∀ (r : Fin 2), ∀ a, (k0_off493 v1895 (BitVec.ofNat 32 (16 * r.val))) a + S1x16.size a ≤ S8x2048.size a := fun v1895 k0_hw19 r => k0_hw19.2.2.2.2.2.2.2.2.2.2.2.2.2.2.2.2.2.2.2.2.1 r
theorem k0_off494_inb : ∀ (v1895 : BitVec 32) (k0_hw19 : k0_chk19 v1895), ∀ (r : Fin 2), ∀ a, (k0_off494 v1895 (BitVec.ofNat 32 (16 * r.val))) a + S1x16.size a ≤ S8x2048.size a := fun v1895 k0_hw19 r => k0_hw19.2.2.2.2.2.2.2.2.2.2.2.2.2.2.2.2.2.2.2.2.2.1 r
theorem k0_off495_inb : ∀ (v1895 : BitVec 32) (k0_hw19 : k0_chk19 v1895), ∀ (r : Fin 2), ∀ a, (k0_off495 v1895 (BitVec.ofNat 32 (16 * r.val))) a + S1x16.size a ≤ S8x2048.size a := fun v1895 k0_hw19 r => k0_hw19.2.2.2.2.2.2.2.2.2.2.2.2.2.2.2.2.2.2.2.2.2.2.1 r
theorem k0_off496_inb : ∀ (v1895 : BitVec 32) (k0_hw19 : k0_chk19 v1895), ∀ (r : Fin 2), ∀ a, (k0_off496 v1895 (BitVec.ofNat 32 (16 * r.val))) a + S1x16.size a ≤ S8x2048.size a := fun v1895 k0_hw19 r => k0_hw19.2.2.2.2.2.2.2.2.2.2.2.2.2.2.2.2.2.2.2.2.2.2.2 r

def k0_off497 (k0_t5 : Fin k0_t5_loop.trips) : Fin 1 → Nat :=
  let c0_i32_116 : BitVec 32 := 0#32
  let c1_i32_118 : BitVec 32 := 1#32
  let arg28 : BitVec 32 := Scf.iv c0_i32_116 c1_i32_118 k0_t5
  let c16_i32_540 : BitVec 32 := 16#32
  let v2302 : BitVec 32 := Scalar.muli arg28 c16_i32_540
  let c3_i32_541 : BitVec 32 := 3#32
  let v2303 : BitVec 32 := Scalar.addi v2302 c3_i32_541
  let c16_i32_542 : BitVec 32 := 16#32
  let v2304 : BitVec 32 := Scalar.muli v2303 c16_i32_542
  let v2305 : Index := Scalar.indexCast v2304
  ![v2305.toNat]
def k0_off498 (v2294 : BitVec 32) (c0_i32_543 : BitVec 32) : Fin 2 → Nat :=
  let c0_i32_544 : BitVec 32 := 0#32
  let v2309 : Index := Scalar.indexCast c0_i32_544
  let c63_i32_533 : BitVec 32 := 63#32
  let v2295 : BitVec 32 := Scalar.andi v2294 c63_i32_533
  let c32_i32_534 : BitVec 32 := 32#32
  let v2296 : BitVec 32 := Scalar.muli v2295 c32_i32_534
  let v2308 : BitVec 32 := Scalar.addi v2296 c0_i32_543
  let v2310 : Index := Scalar.indexCast v2308
  ![0, v2310.toNat]

def k0_off499 (v2294 : BitVec 32) (c0_i32_547 : BitVec 32) : Fin 2 → Nat :=
  let c1_i32_548 : BitVec 32 := 1#32
  let v2319 : Index := Scalar.indexCast c1_i32_548
  let c63_i32_533 : BitVec 32 := 63#32
  let v2295 : BitVec 32 := Scalar.andi v2294 c63_i32_533
  let c32_i32_534 : BitVec 32 := 32#32
  let v2296 : BitVec 32 := Scalar.muli v2295 c32_i32_534
  let v2318 : BitVec 32 := Scalar.addi v2296 c0_i32_547
  let v2320 : Index := Scalar.indexCast v2318
  ![1, v2320.toNat]
def k0_off500 (v2294 : BitVec 32) (c0_i32_551 : BitVec 32) : Fin 2 → Nat :=
  let c2_i32_552 : BitVec 32 := 2#32
  let v2329 : Index := Scalar.indexCast c2_i32_552
  let c63_i32_533 : BitVec 32 := 63#32
  let v2295 : BitVec 32 := Scalar.andi v2294 c63_i32_533
  let c32_i32_534 : BitVec 32 := 32#32
  let v2296 : BitVec 32 := Scalar.muli v2295 c32_i32_534
  let v2328 : BitVec 32 := Scalar.addi v2296 c0_i32_551
  let v2330 : Index := Scalar.indexCast v2328
  ![2, v2330.toNat]
def k0_off501 (v2294 : BitVec 32) (c0_i32_555 : BitVec 32) : Fin 2 → Nat :=
  let c3_i32_556 : BitVec 32 := 3#32
  let v2339 : Index := Scalar.indexCast c3_i32_556
  let c63_i32_533 : BitVec 32 := 63#32
  let v2295 : BitVec 32 := Scalar.andi v2294 c63_i32_533
  let c32_i32_534 : BitVec 32 := 32#32
  let v2296 : BitVec 32 := Scalar.muli v2295 c32_i32_534
  let v2338 : BitVec 32 := Scalar.addi v2296 c0_i32_555
  let v2340 : Index := Scalar.indexCast v2338
  ![3, v2340.toNat]
def k0_off502 (v2294 : BitVec 32) (c0_i32_559 : BitVec 32) : Fin 2 → Nat :=
  let c4_i32_560 : BitVec 32 := 4#32
  let v2349 : Index := Scalar.indexCast c4_i32_560
  let c63_i32_533 : BitVec 32 := 63#32
  let v2295 : BitVec 32 := Scalar.andi v2294 c63_i32_533
  let c32_i32_534 : BitVec 32 := 32#32
  let v2296 : BitVec 32 := Scalar.muli v2295 c32_i32_534
  let v2348 : BitVec 32 := Scalar.addi v2296 c0_i32_559
  let v2350 : Index := Scalar.indexCast v2348
  ![4, v2350.toNat]
def k0_off503 (v2294 : BitVec 32) (c0_i32_563 : BitVec 32) : Fin 2 → Nat :=
  let c5_i32_564 : BitVec 32 := 5#32
  let v2359 : Index := Scalar.indexCast c5_i32_564
  let c63_i32_533 : BitVec 32 := 63#32
  let v2295 : BitVec 32 := Scalar.andi v2294 c63_i32_533
  let c32_i32_534 : BitVec 32 := 32#32
  let v2296 : BitVec 32 := Scalar.muli v2295 c32_i32_534
  let v2358 : BitVec 32 := Scalar.addi v2296 c0_i32_563
  let v2360 : Index := Scalar.indexCast v2358
  ![5, v2360.toNat]
def k0_off504 (v2294 : BitVec 32) (c0_i32_567 : BitVec 32) : Fin 2 → Nat :=
  let c6_i32_568 : BitVec 32 := 6#32
  let v2369 : Index := Scalar.indexCast c6_i32_568
  let c63_i32_533 : BitVec 32 := 63#32
  let v2295 : BitVec 32 := Scalar.andi v2294 c63_i32_533
  let c32_i32_534 : BitVec 32 := 32#32
  let v2296 : BitVec 32 := Scalar.muli v2295 c32_i32_534
  let v2368 : BitVec 32 := Scalar.addi v2296 c0_i32_567
  let v2370 : Index := Scalar.indexCast v2368
  ![6, v2370.toNat]
def k0_off505 (v2294 : BitVec 32) (c0_i32_571 : BitVec 32) : Fin 2 → Nat :=
  let c7_i32_572 : BitVec 32 := 7#32
  let v2379 : Index := Scalar.indexCast c7_i32_572
  let c63_i32_533 : BitVec 32 := 63#32
  let v2295 : BitVec 32 := Scalar.andi v2294 c63_i32_533
  let c32_i32_534 : BitVec 32 := 32#32
  let v2296 : BitVec 32 := Scalar.muli v2295 c32_i32_534
  let v2378 : BitVec 32 := Scalar.addi v2296 c0_i32_571
  let v2380 : Index := Scalar.indexCast v2378
  ![7, v2380.toNat]
def k0_off506 (v2294 : BitVec 32) (c0_i32_575 : BitVec 32) : Fin 2 → Nat :=
  let c0_i32_576 : BitVec 32 := 0#32
  let v2389 : Index := Scalar.indexCast c0_i32_576
  let c6_i32_535 : BitVec 32 := 6#32
  let v2297 : BitVec 32 := Scalar.shrsi v2294 c6_i32_535
  let c63_i32_536 : BitVec 32 := 63#32
  let v2298 : BitVec 32 := Scalar.andi v2297 c63_i32_536
  let c32_i32_537 : BitVec 32 := 32#32
  let v2299 : BitVec 32 := Scalar.muli v2298 c32_i32_537
  let v2388 : BitVec 32 := Scalar.addi v2299 c0_i32_575
  let v2390 : Index := Scalar.indexCast v2388
  ![0, v2390.toNat]
def k0_off507 (v2294 : BitVec 32) (c0_i32_579 : BitVec 32) : Fin 2 → Nat :=
  let c1_i32_580 : BitVec 32 := 1#32
  let v2399 : Index := Scalar.indexCast c1_i32_580
  let c6_i32_535 : BitVec 32 := 6#32
  let v2297 : BitVec 32 := Scalar.shrsi v2294 c6_i32_535
  let c63_i32_536 : BitVec 32 := 63#32
  let v2298 : BitVec 32 := Scalar.andi v2297 c63_i32_536
  let c32_i32_537 : BitVec 32 := 32#32
  let v2299 : BitVec 32 := Scalar.muli v2298 c32_i32_537
  let v2398 : BitVec 32 := Scalar.addi v2299 c0_i32_579
  let v2400 : Index := Scalar.indexCast v2398
  ![1, v2400.toNat]
def k0_off508 (v2294 : BitVec 32) (c0_i32_583 : BitVec 32) : Fin 2 → Nat :=
  let c2_i32_584 : BitVec 32 := 2#32
  let v2409 : Index := Scalar.indexCast c2_i32_584
  let c6_i32_535 : BitVec 32 := 6#32
  let v2297 : BitVec 32 := Scalar.shrsi v2294 c6_i32_535
  let c63_i32_536 : BitVec 32 := 63#32
  let v2298 : BitVec 32 := Scalar.andi v2297 c63_i32_536
  let c32_i32_537 : BitVec 32 := 32#32
  let v2299 : BitVec 32 := Scalar.muli v2298 c32_i32_537
  let v2408 : BitVec 32 := Scalar.addi v2299 c0_i32_583
  let v2410 : Index := Scalar.indexCast v2408
  ![2, v2410.toNat]
def k0_off509 (v2294 : BitVec 32) (c0_i32_587 : BitVec 32) : Fin 2 → Nat :=
  let c3_i32_588 : BitVec 32 := 3#32
  let v2419 : Index := Scalar.indexCast c3_i32_588
  let c6_i32_535 : BitVec 32 := 6#32
  let v2297 : BitVec 32 := Scalar.shrsi v2294 c6_i32_535
  let c63_i32_536 : BitVec 32 := 63#32
  let v2298 : BitVec 32 := Scalar.andi v2297 c63_i32_536
  let c32_i32_537 : BitVec 32 := 32#32
  let v2299 : BitVec 32 := Scalar.muli v2298 c32_i32_537
  let v2418 : BitVec 32 := Scalar.addi v2299 c0_i32_587
  let v2420 : Index := Scalar.indexCast v2418
  ![3, v2420.toNat]
def k0_off510 (v2294 : BitVec 32) (c0_i32_591 : BitVec 32) : Fin 2 → Nat :=
  let c4_i32_592 : BitVec 32 := 4#32
  let v2429 : Index := Scalar.indexCast c4_i32_592
  let c6_i32_535 : BitVec 32 := 6#32
  let v2297 : BitVec 32 := Scalar.shrsi v2294 c6_i32_535
  let c63_i32_536 : BitVec 32 := 63#32
  let v2298 : BitVec 32 := Scalar.andi v2297 c63_i32_536
  let c32_i32_537 : BitVec 32 := 32#32
  let v2299 : BitVec 32 := Scalar.muli v2298 c32_i32_537
  let v2428 : BitVec 32 := Scalar.addi v2299 c0_i32_591
  let v2430 : Index := Scalar.indexCast v2428
  ![4, v2430.toNat]
def k0_off511 (v2294 : BitVec 32) (c0_i32_595 : BitVec 32) : Fin 2 → Nat :=
  let c5_i32_596 : BitVec 32 := 5#32
  let v2439 : Index := Scalar.indexCast c5_i32_596
  let c6_i32_535 : BitVec 32 := 6#32
  let v2297 : BitVec 32 := Scalar.shrsi v2294 c6_i32_535
  let c63_i32_536 : BitVec 32 := 63#32
  let v2298 : BitVec 32 := Scalar.andi v2297 c63_i32_536
  let c32_i32_537 : BitVec 32 := 32#32
  let v2299 : BitVec 32 := Scalar.muli v2298 c32_i32_537
  let v2438 : BitVec 32 := Scalar.addi v2299 c0_i32_595
  let v2440 : Index := Scalar.indexCast v2438
  ![5, v2440.toNat]
def k0_off512 (v2294 : BitVec 32) (c0_i32_599 : BitVec 32) : Fin 2 → Nat :=
  let c6_i32_600 : BitVec 32 := 6#32
  let v2449 : Index := Scalar.indexCast c6_i32_600
  let c6_i32_535 : BitVec 32 := 6#32
  let v2297 : BitVec 32 := Scalar.shrsi v2294 c6_i32_535
  let c63_i32_536 : BitVec 32 := 63#32
  let v2298 : BitVec 32 := Scalar.andi v2297 c63_i32_536
  let c32_i32_537 : BitVec 32 := 32#32
  let v2299 : BitVec 32 := Scalar.muli v2298 c32_i32_537
  let v2448 : BitVec 32 := Scalar.addi v2299 c0_i32_599
  let v2450 : Index := Scalar.indexCast v2448
  ![6, v2450.toNat]
def k0_off513 (v2294 : BitVec 32) (c0_i32_603 : BitVec 32) : Fin 2 → Nat :=
  let c7_i32_604 : BitVec 32 := 7#32
  let v2459 : Index := Scalar.indexCast c7_i32_604
  let c6_i32_535 : BitVec 32 := 6#32
  let v2297 : BitVec 32 := Scalar.shrsi v2294 c6_i32_535
  let c63_i32_536 : BitVec 32 := 63#32
  let v2298 : BitVec 32 := Scalar.andi v2297 c63_i32_536
  let c32_i32_537 : BitVec 32 := 32#32
  let v2299 : BitVec 32 := Scalar.muli v2298 c32_i32_537
  let v2458 : BitVec 32 := Scalar.addi v2299 c0_i32_603
  let v2460 : Index := Scalar.indexCast v2458
  ![7, v2460.toNat]
def k0_off514 (v2294 : BitVec 32) (c0_i32_607 : BitVec 32) : Fin 2 → Nat :=
  let c0_i32_608 : BitVec 32 := 0#32
  let v2501 : Index := Scalar.indexCast c0_i32_608
  let c12_i32_538 : BitVec 32 := 12#32
  let v2300 : BitVec 32 := Scalar.shrsi v2294 c12_i32_538
  let c32_i32_539 : BitVec 32 := 32#32
  let v2301 : BitVec 32 := Scalar.muli v2300 c32_i32_539
  let v2500 : BitVec 32 := Scalar.addi v2301 c0_i32_607
  let v2502 : Index := Scalar.indexCast v2500
  ![0, v2502.toNat]
def k0_off515 (v2294 : BitVec 32) (c0_i32_615 : BitVec 32) : Fin 2 → Nat :=
  let c1_i32_616 : BitVec 32 := 1#32
  let v2525 : Index := Scalar.indexCast c1_i32_616
  let c12_i32_538 : BitVec 32 := 12#32
  let v2300 : BitVec 32 := Scalar.shrsi v2294 c12_i32_538
  let c32_i32_539 : BitVec 32 := 32#32
  let v2301 : BitVec 32 := Scalar.muli v2300 c32_i32_539
  let v2524 : BitVec 32 := Scalar.addi v2301 c0_i32_615
  let v2526 : Index := Scalar.indexCast v2524
  ![1, v2526.toNat]
def k0_off516 (v2294 : BitVec 32) (c0_i32_623 : BitVec 32) : Fin 2 → Nat :=
  let c2_i32_624 : BitVec 32 := 2#32
  let v2549 : Index := Scalar.indexCast c2_i32_624
  let c12_i32_538 : BitVec 32 := 12#32
  let v2300 : BitVec 32 := Scalar.shrsi v2294 c12_i32_538
  let c32_i32_539 : BitVec 32 := 32#32
  let v2301 : BitVec 32 := Scalar.muli v2300 c32_i32_539
  let v2548 : BitVec 32 := Scalar.addi v2301 c0_i32_623
  let v2550 : Index := Scalar.indexCast v2548
  ![2, v2550.toNat]
def k0_off517 (v2294 : BitVec 32) (c0_i32_631 : BitVec 32) : Fin 2 → Nat :=
  let c3_i32_632 : BitVec 32 := 3#32
  let v2573 : Index := Scalar.indexCast c3_i32_632
  let c12_i32_538 : BitVec 32 := 12#32
  let v2300 : BitVec 32 := Scalar.shrsi v2294 c12_i32_538
  let c32_i32_539 : BitVec 32 := 32#32
  let v2301 : BitVec 32 := Scalar.muli v2300 c32_i32_539
  let v2572 : BitVec 32 := Scalar.addi v2301 c0_i32_631
  let v2574 : Index := Scalar.indexCast v2572
  ![3, v2574.toNat]
def k0_off518 (v2294 : BitVec 32) (c0_i32_639 : BitVec 32) : Fin 2 → Nat :=
  let c4_i32_640 : BitVec 32 := 4#32
  let v2597 : Index := Scalar.indexCast c4_i32_640
  let c12_i32_538 : BitVec 32 := 12#32
  let v2300 : BitVec 32 := Scalar.shrsi v2294 c12_i32_538
  let c32_i32_539 : BitVec 32 := 32#32
  let v2301 : BitVec 32 := Scalar.muli v2300 c32_i32_539
  let v2596 : BitVec 32 := Scalar.addi v2301 c0_i32_639
  let v2598 : Index := Scalar.indexCast v2596
  ![4, v2598.toNat]
def k0_off519 (v2294 : BitVec 32) (c0_i32_647 : BitVec 32) : Fin 2 → Nat :=
  let c5_i32_648 : BitVec 32 := 5#32
  let v2621 : Index := Scalar.indexCast c5_i32_648
  let c12_i32_538 : BitVec 32 := 12#32
  let v2300 : BitVec 32 := Scalar.shrsi v2294 c12_i32_538
  let c32_i32_539 : BitVec 32 := 32#32
  let v2301 : BitVec 32 := Scalar.muli v2300 c32_i32_539
  let v2620 : BitVec 32 := Scalar.addi v2301 c0_i32_647
  let v2622 : Index := Scalar.indexCast v2620
  ![5, v2622.toNat]
def k0_off520 (v2294 : BitVec 32) (c0_i32_655 : BitVec 32) : Fin 2 → Nat :=
  let c6_i32_656 : BitVec 32 := 6#32
  let v2645 : Index := Scalar.indexCast c6_i32_656
  let c12_i32_538 : BitVec 32 := 12#32
  let v2300 : BitVec 32 := Scalar.shrsi v2294 c12_i32_538
  let c32_i32_539 : BitVec 32 := 32#32
  let v2301 : BitVec 32 := Scalar.muli v2300 c32_i32_539
  let v2644 : BitVec 32 := Scalar.addi v2301 c0_i32_655
  let v2646 : Index := Scalar.indexCast v2644
  ![6, v2646.toNat]
def k0_off521 (v2294 : BitVec 32) (c0_i32_663 : BitVec 32) : Fin 2 → Nat :=
  let c7_i32_664 : BitVec 32 := 7#32
  let v2669 : Index := Scalar.indexCast c7_i32_664
  let c12_i32_538 : BitVec 32 := 12#32
  let v2300 : BitVec 32 := Scalar.shrsi v2294 c12_i32_538
  let c32_i32_539 : BitVec 32 := 32#32
  let v2301 : BitVec 32 := Scalar.muli v2300 c32_i32_539
  let v2668 : BitVec 32 := Scalar.addi v2301 c0_i32_663
  let v2670 : Index := Scalar.indexCast v2668
  ![7, v2670.toNat]

def k0_chk20 (v2294 : BitVec 32) : Prop :=
  (∀ (r : Fin 2), ∀ a, (k0_off498 v2294 (BitVec.ofNat 32 (16 * r.val))) a + S1x16.size a ≤ S8x2048.size a) ∧
  (∀ (r : Fin 2), ∀ a, (k0_off499 v2294 (BitVec.ofNat 32 (16 * r.val))) a + S1x16.size a ≤ S8x2048.size a) ∧
  (∀ (r : Fin 2), ∀ a, (k0_off500 v2294 (BitVec.ofNat 32 (16 * r.val))) a + S1x16.size a ≤ S8x2048.size a) ∧
  (∀ (r : Fin 2), ∀ a, (k0_off501 v2294 (BitVec.ofNat 32 (16 * r.val))) a + S1x16.size a ≤ S8x2048.size a) ∧
  (∀ (r : Fin 2), ∀ a, (k0_off502 v2294 (BitVec.ofNat 32 (16 * r.val))) a + S1x16.size a ≤ S8x2048.size a) ∧
  (∀ (r : Fin 2), ∀ a, (k0_off503 v2294 (BitVec.ofNat 32 (16 * r.val))) a + S1x16.size a ≤ S8x2048.size a) ∧
  (∀ (r : Fin 2), ∀ a, (k0_off504 v2294 (BitVec.ofNat 32 (16 * r.val))) a + S1x16.size a ≤ S8x2048.size a) ∧
  (∀ (r : Fin 2), ∀ a, (k0_off505 v2294 (BitVec.ofNat 32 (16 * r.val))) a + S1x16.size a ≤ S8x2048.size a) ∧
  (∀ (r : Fin 2), ∀ a, (k0_off506 v2294 (BitVec.ofNat 32 (16 * r.val))) a + S1x16.size a ≤ S8x2048.size a) ∧
  (∀ (r : Fin 2), ∀ a, (k0_off507 v2294 (BitVec.ofNat 32 (16 * r.val))) a + S1x16.size a ≤ S8x2048.size a) ∧
  (∀ (r : Fin 2), ∀ a, (k0_off508 v2294 (BitVec.ofNat 32 (16 * r.val))) a + S1x16.size a ≤ S8x2048.size a) ∧
  (∀ (r : Fin 2), ∀ a, (k0_off509 v2294 (BitVec.ofNat 32 (16 * r.val))) a + S1x16.size a ≤ S8x2048.size a) ∧
  (∀ (r : Fin 2), ∀ a, (k0_off510 v2294 (BitVec.ofNat 32 (16 * r.val))) a + S1x16.size a ≤ S8x2048.size a) ∧
  (∀ (r : Fin 2), ∀ a, (k0_off511 v2294 (BitVec.ofNat 32 (16 * r.val))) a + S1x16.size a ≤ S8x2048.size a) ∧
  (∀ (r : Fin 2), ∀ a, (k0_off512 v2294 (BitVec.ofNat 32 (16 * r.val))) a + S1x16.size a ≤ S8x2048.size a) ∧
  (∀ (r : Fin 2), ∀ a, (k0_off513 v2294 (BitVec.ofNat 32 (16 * r.val))) a + S1x16.size a ≤ S8x2048.size a) ∧
  (∀ (r : Fin 2), ∀ a, (k0_off514 v2294 (BitVec.ofNat 32 (16 * r.val))) a + S1x16.size a ≤ S8x2048.size a) ∧
  (∀ (r : Fin 2), ∀ a, (k0_off515 v2294 (BitVec.ofNat 32 (16 * r.val))) a + S1x16.size a ≤ S8x2048.size a) ∧
  (∀ (r : Fin 2), ∀ a, (k0_off516 v2294 (BitVec.ofNat 32 (16 * r.val))) a + S1x16.size a ≤ S8x2048.size a) ∧
  (∀ (r : Fin 2), ∀ a, (k0_off517 v2294 (BitVec.ofNat 32 (16 * r.val))) a + S1x16.size a ≤ S8x2048.size a) ∧
  (∀ (r : Fin 2), ∀ a, (k0_off518 v2294 (BitVec.ofNat 32 (16 * r.val))) a + S1x16.size a ≤ S8x2048.size a) ∧
  (∀ (r : Fin 2), ∀ a, (k0_off519 v2294 (BitVec.ofNat 32 (16 * r.val))) a + S1x16.size a ≤ S8x2048.size a) ∧
  (∀ (r : Fin 2), ∀ a, (k0_off520 v2294 (BitVec.ofNat 32 (16 * r.val))) a + S1x16.size a ≤ S8x2048.size a) ∧
  (∀ (r : Fin 2), ∀ a, (k0_off521 v2294 (BitVec.ofNat 32 (16 * r.val))) a + S1x16.size a ≤ S8x2048.size a)
theorem k0_off498_inb : ∀ (v2294 : BitVec 32) (k0_hw20 : k0_chk20 v2294), ∀ (r : Fin 2), ∀ a, (k0_off498 v2294 (BitVec.ofNat 32 (16 * r.val))) a + S1x16.size a ≤ S8x2048.size a := fun v2294 k0_hw20 r => k0_hw20.1 r
theorem k0_off499_inb : ∀ (v2294 : BitVec 32) (k0_hw20 : k0_chk20 v2294), ∀ (r : Fin 2), ∀ a, (k0_off499 v2294 (BitVec.ofNat 32 (16 * r.val))) a + S1x16.size a ≤ S8x2048.size a := fun v2294 k0_hw20 r => k0_hw20.2.1 r
theorem k0_off500_inb : ∀ (v2294 : BitVec 32) (k0_hw20 : k0_chk20 v2294), ∀ (r : Fin 2), ∀ a, (k0_off500 v2294 (BitVec.ofNat 32 (16 * r.val))) a + S1x16.size a ≤ S8x2048.size a := fun v2294 k0_hw20 r => k0_hw20.2.2.1 r
theorem k0_off501_inb : ∀ (v2294 : BitVec 32) (k0_hw20 : k0_chk20 v2294), ∀ (r : Fin 2), ∀ a, (k0_off501 v2294 (BitVec.ofNat 32 (16 * r.val))) a + S1x16.size a ≤ S8x2048.size a := fun v2294 k0_hw20 r => k0_hw20.2.2.2.1 r
theorem k0_off502_inb : ∀ (v2294 : BitVec 32) (k0_hw20 : k0_chk20 v2294), ∀ (r : Fin 2), ∀ a, (k0_off502 v2294 (BitVec.ofNat 32 (16 * r.val))) a + S1x16.size a ≤ S8x2048.size a := fun v2294 k0_hw20 r => k0_hw20.2.2.2.2.1 r
theorem k0_off503_inb : ∀ (v2294 : BitVec 32) (k0_hw20 : k0_chk20 v2294), ∀ (r : Fin 2), ∀ a, (k0_off503 v2294 (BitVec.ofNat 32 (16 * r.val))) a + S1x16.size a ≤ S8x2048.size a := fun v2294 k0_hw20 r => k0_hw20.2.2.2.2.2.1 r
theorem k0_off504_inb : ∀ (v2294 : BitVec 32) (k0_hw20 : k0_chk20 v2294), ∀ (r : Fin 2), ∀ a, (k0_off504 v2294 (BitVec.ofNat 32 (16 * r.val))) a + S1x16.size a ≤ S8x2048.size a := fun v2294 k0_hw20 r => k0_hw20.2.2.2.2.2.2.1 r
theorem k0_off505_inb : ∀ (v2294 : BitVec 32) (k0_hw20 : k0_chk20 v2294), ∀ (r : Fin 2), ∀ a, (k0_off505 v2294 (BitVec.ofNat 32 (16 * r.val))) a + S1x16.size a ≤ S8x2048.size a := fun v2294 k0_hw20 r => k0_hw20.2.2.2.2.2.2.2.1 r
theorem k0_off506_inb : ∀ (v2294 : BitVec 32) (k0_hw20 : k0_chk20 v2294), ∀ (r : Fin 2), ∀ a, (k0_off506 v2294 (BitVec.ofNat 32 (16 * r.val))) a + S1x16.size a ≤ S8x2048.size a := fun v2294 k0_hw20 r => k0_hw20.2.2.2.2.2.2.2.2.1 r
theorem k0_off507_inb : ∀ (v2294 : BitVec 32) (k0_hw20 : k0_chk20 v2294), ∀ (r : Fin 2), ∀ a, (k0_off507 v2294 (BitVec.ofNat 32 (16 * r.val))) a + S1x16.size a ≤ S8x2048.size a := fun v2294 k0_hw20 r => k0_hw20.2.2.2.2.2.2.2.2.2.1 r
theorem k0_off508_inb : ∀ (v2294 : BitVec 32) (k0_hw20 : k0_chk20 v2294), ∀ (r : Fin 2), ∀ a, (k0_off508 v2294 (BitVec.ofNat 32 (16 * r.val))) a + S1x16.size a ≤ S8x2048.size a := fun v2294 k0_hw20 r => k0_hw20.2.2.2.2.2.2.2.2.2.2.1 r
theorem k0_off509_inb : ∀ (v2294 : BitVec 32) (k0_hw20 : k0_chk20 v2294), ∀ (r : Fin 2), ∀ a, (k0_off509 v2294 (BitVec.ofNat 32 (16 * r.val))) a + S1x16.size a ≤ S8x2048.size a := fun v2294 k0_hw20 r => k0_hw20.2.2.2.2.2.2.2.2.2.2.2.1 r
theorem k0_off510_inb : ∀ (v2294 : BitVec 32) (k0_hw20 : k0_chk20 v2294), ∀ (r : Fin 2), ∀ a, (k0_off510 v2294 (BitVec.ofNat 32 (16 * r.val))) a + S1x16.size a ≤ S8x2048.size a := fun v2294 k0_hw20 r => k0_hw20.2.2.2.2.2.2.2.2.2.2.2.2.1 r
theorem k0_off511_inb : ∀ (v2294 : BitVec 32) (k0_hw20 : k0_chk20 v2294), ∀ (r : Fin 2), ∀ a, (k0_off511 v2294 (BitVec.ofNat 32 (16 * r.val))) a + S1x16.size a ≤ S8x2048.size a := fun v2294 k0_hw20 r => k0_hw20.2.2.2.2.2.2.2.2.2.2.2.2.2.1 r
theorem k0_off512_inb : ∀ (v2294 : BitVec 32) (k0_hw20 : k0_chk20 v2294), ∀ (r : Fin 2), ∀ a, (k0_off512 v2294 (BitVec.ofNat 32 (16 * r.val))) a + S1x16.size a ≤ S8x2048.size a := fun v2294 k0_hw20 r => k0_hw20.2.2.2.2.2.2.2.2.2.2.2.2.2.2.1 r
theorem k0_off513_inb : ∀ (v2294 : BitVec 32) (k0_hw20 : k0_chk20 v2294), ∀ (r : Fin 2), ∀ a, (k0_off513 v2294 (BitVec.ofNat 32 (16 * r.val))) a + S1x16.size a ≤ S8x2048.size a := fun v2294 k0_hw20 r => k0_hw20.2.2.2.2.2.2.2.2.2.2.2.2.2.2.2.1 r
theorem k0_off514_inb : ∀ (v2294 : BitVec 32) (k0_hw20 : k0_chk20 v2294), ∀ (r : Fin 2), ∀ a, (k0_off514 v2294 (BitVec.ofNat 32 (16 * r.val))) a + S1x16.size a ≤ S8x2048.size a := fun v2294 k0_hw20 r => k0_hw20.2.2.2.2.2.2.2.2.2.2.2.2.2.2.2.2.1 r
theorem k0_off515_inb : ∀ (v2294 : BitVec 32) (k0_hw20 : k0_chk20 v2294), ∀ (r : Fin 2), ∀ a, (k0_off515 v2294 (BitVec.ofNat 32 (16 * r.val))) a + S1x16.size a ≤ S8x2048.size a := fun v2294 k0_hw20 r => k0_hw20.2.2.2.2.2.2.2.2.2.2.2.2.2.2.2.2.2.1 r
theorem k0_off516_inb : ∀ (v2294 : BitVec 32) (k0_hw20 : k0_chk20 v2294), ∀ (r : Fin 2), ∀ a, (k0_off516 v2294 (BitVec.ofNat 32 (16 * r.val))) a + S1x16.size a ≤ S8x2048.size a := fun v2294 k0_hw20 r => k0_hw20.2.2.2.2.2.2.2.2.2.2.2.2.2.2.2.2.2.2.1 r
theorem k0_off517_inb : ∀ (v2294 : BitVec 32) (k0_hw20 : k0_chk20 v2294), ∀ (r : Fin 2), ∀ a, (k0_off517 v2294 (BitVec.ofNat 32 (16 * r.val))) a + S1x16.size a ≤ S8x2048.size a := fun v2294 k0_hw20 r => k0_hw20.2.2.2.2.2.2.2.2.2.2.2.2.2.2.2.2.2.2.2.1 r
theorem k0_off518_inb : ∀ (v2294 : BitVec 32) (k0_hw20 : k0_chk20 v2294), ∀ (r : Fin 2), ∀ a, (k0_off518 v2294 (BitVec.ofNat 32 (16 * r.val))) a + S1x16.size a ≤ S8x2048.size a := fun v2294 k0_hw20 r => k0_hw20.2.2.2.2.2.2.2.2.2.2.2.2.2.2.2.2.2.2.2.2.1 r
theorem k0_off519_inb : ∀ (v2294 : BitVec 32) (k0_hw20 : k0_chk20 v2294), ∀ (r : Fin 2), ∀ a, (k0_off519 v2294 (BitVec.ofNat 32 (16 * r.val))) a + S1x16.size a ≤ S8x2048.size a := fun v2294 k0_hw20 r => k0_hw20.2.2.2.2.2.2.2.2.2.2.2.2.2.2.2.2.2.2.2.2.2.1 r
theorem k0_off520_inb : ∀ (v2294 : BitVec 32) (k0_hw20 : k0_chk20 v2294), ∀ (r : Fin 2), ∀ a, (k0_off520 v2294 (BitVec.ofNat 32 (16 * r.val))) a + S1x16.size a ≤ S8x2048.size a := fun v2294 k0_hw20 r => k0_hw20.2.2.2.2.2.2.2.2.2.2.2.2.2.2.2.2.2.2.2.2.2.2.1 r
theorem k0_off521_inb : ∀ (v2294 : BitVec 32) (k0_hw20 : k0_chk20 v2294), ∀ (r : Fin 2), ∀ a, (k0_off521 v2294 (BitVec.ofNat 32 (16 * r.val))) a + S1x16.size a ≤ S8x2048.size a := fun v2294 k0_hw20 r => k0_hw20.2.2.2.2.2.2.2.2.2.2.2.2.2.2.2.2.2.2.2.2.2.2.2 r

def k0_off522 (k0_t5 : Fin k0_t5_loop.trips) : Fin 1 → Nat :=
  let c0_i32_116 : BitVec 32 := 0#32
  let c1_i32_118 : BitVec 32 := 1#32
  let arg28 : BitVec 32 := Scf.iv c0_i32_116 c1_i32_118 k0_t5
  let c16_i32_678 : BitVec 32 := 16#32
  let v2701 : BitVec 32 := Scalar.muli arg28 c16_i32_678
  let c4_i32_679 : BitVec 32 := 4#32
  let v2702 : BitVec 32 := Scalar.addi v2701 c4_i32_679
  let c16_i32_680 : BitVec 32 := 16#32
  let v2703 : BitVec 32 := Scalar.muli v2702 c16_i32_680
  let v2704 : Index := Scalar.indexCast v2703
  ![v2704.toNat]
def k0_off523 (v2693 : BitVec 32) (c0_i32_681 : BitVec 32) : Fin 2 → Nat :=
  let c0_i32_682 : BitVec 32 := 0#32
  let v2708 : Index := Scalar.indexCast c0_i32_682
  let c63_i32_671 : BitVec 32 := 63#32
  let v2694 : BitVec 32 := Scalar.andi v2693 c63_i32_671
  let c32_i32_672 : BitVec 32 := 32#32
  let v2695 : BitVec 32 := Scalar.muli v2694 c32_i32_672
  let v2707 : BitVec 32 := Scalar.addi v2695 c0_i32_681
  let v2709 : Index := Scalar.indexCast v2707
  ![0, v2709.toNat]

def k0_off524 (v2693 : BitVec 32) (c0_i32_685 : BitVec 32) : Fin 2 → Nat :=
  let c1_i32_686 : BitVec 32 := 1#32
  let v2718 : Index := Scalar.indexCast c1_i32_686
  let c63_i32_671 : BitVec 32 := 63#32
  let v2694 : BitVec 32 := Scalar.andi v2693 c63_i32_671
  let c32_i32_672 : BitVec 32 := 32#32
  let v2695 : BitVec 32 := Scalar.muli v2694 c32_i32_672
  let v2717 : BitVec 32 := Scalar.addi v2695 c0_i32_685
  let v2719 : Index := Scalar.indexCast v2717
  ![1, v2719.toNat]
def k0_off525 (v2693 : BitVec 32) (c0_i32_689 : BitVec 32) : Fin 2 → Nat :=
  let c2_i32_690 : BitVec 32 := 2#32
  let v2728 : Index := Scalar.indexCast c2_i32_690
  let c63_i32_671 : BitVec 32 := 63#32
  let v2694 : BitVec 32 := Scalar.andi v2693 c63_i32_671
  let c32_i32_672 : BitVec 32 := 32#32
  let v2695 : BitVec 32 := Scalar.muli v2694 c32_i32_672
  let v2727 : BitVec 32 := Scalar.addi v2695 c0_i32_689
  let v2729 : Index := Scalar.indexCast v2727
  ![2, v2729.toNat]
def k0_off526 (v2693 : BitVec 32) (c0_i32_693 : BitVec 32) : Fin 2 → Nat :=
  let c3_i32_694 : BitVec 32 := 3#32
  let v2738 : Index := Scalar.indexCast c3_i32_694
  let c63_i32_671 : BitVec 32 := 63#32
  let v2694 : BitVec 32 := Scalar.andi v2693 c63_i32_671
  let c32_i32_672 : BitVec 32 := 32#32
  let v2695 : BitVec 32 := Scalar.muli v2694 c32_i32_672
  let v2737 : BitVec 32 := Scalar.addi v2695 c0_i32_693
  let v2739 : Index := Scalar.indexCast v2737
  ![3, v2739.toNat]
def k0_off527 (v2693 : BitVec 32) (c0_i32_697 : BitVec 32) : Fin 2 → Nat :=
  let c4_i32_698 : BitVec 32 := 4#32
  let v2748 : Index := Scalar.indexCast c4_i32_698
  let c63_i32_671 : BitVec 32 := 63#32
  let v2694 : BitVec 32 := Scalar.andi v2693 c63_i32_671
  let c32_i32_672 : BitVec 32 := 32#32
  let v2695 : BitVec 32 := Scalar.muli v2694 c32_i32_672
  let v2747 : BitVec 32 := Scalar.addi v2695 c0_i32_697
  let v2749 : Index := Scalar.indexCast v2747
  ![4, v2749.toNat]
def k0_off528 (v2693 : BitVec 32) (c0_i32_701 : BitVec 32) : Fin 2 → Nat :=
  let c5_i32_702 : BitVec 32 := 5#32
  let v2758 : Index := Scalar.indexCast c5_i32_702
  let c63_i32_671 : BitVec 32 := 63#32
  let v2694 : BitVec 32 := Scalar.andi v2693 c63_i32_671
  let c32_i32_672 : BitVec 32 := 32#32
  let v2695 : BitVec 32 := Scalar.muli v2694 c32_i32_672
  let v2757 : BitVec 32 := Scalar.addi v2695 c0_i32_701
  let v2759 : Index := Scalar.indexCast v2757
  ![5, v2759.toNat]
def k0_off529 (v2693 : BitVec 32) (c0_i32_705 : BitVec 32) : Fin 2 → Nat :=
  let c6_i32_706 : BitVec 32 := 6#32
  let v2768 : Index := Scalar.indexCast c6_i32_706
  let c63_i32_671 : BitVec 32 := 63#32
  let v2694 : BitVec 32 := Scalar.andi v2693 c63_i32_671
  let c32_i32_672 : BitVec 32 := 32#32
  let v2695 : BitVec 32 := Scalar.muli v2694 c32_i32_672
  let v2767 : BitVec 32 := Scalar.addi v2695 c0_i32_705
  let v2769 : Index := Scalar.indexCast v2767
  ![6, v2769.toNat]
def k0_off530 (v2693 : BitVec 32) (c0_i32_709 : BitVec 32) : Fin 2 → Nat :=
  let c7_i32_710 : BitVec 32 := 7#32
  let v2778 : Index := Scalar.indexCast c7_i32_710
  let c63_i32_671 : BitVec 32 := 63#32
  let v2694 : BitVec 32 := Scalar.andi v2693 c63_i32_671
  let c32_i32_672 : BitVec 32 := 32#32
  let v2695 : BitVec 32 := Scalar.muli v2694 c32_i32_672
  let v2777 : BitVec 32 := Scalar.addi v2695 c0_i32_709
  let v2779 : Index := Scalar.indexCast v2777
  ![7, v2779.toNat]
def k0_off531 (v2693 : BitVec 32) (c0_i32_713 : BitVec 32) : Fin 2 → Nat :=
  let c0_i32_714 : BitVec 32 := 0#32
  let v2788 : Index := Scalar.indexCast c0_i32_714
  let c6_i32_673 : BitVec 32 := 6#32
  let v2696 : BitVec 32 := Scalar.shrsi v2693 c6_i32_673
  let c63_i32_674 : BitVec 32 := 63#32
  let v2697 : BitVec 32 := Scalar.andi v2696 c63_i32_674
  let c32_i32_675 : BitVec 32 := 32#32
  let v2698 : BitVec 32 := Scalar.muli v2697 c32_i32_675
  let v2787 : BitVec 32 := Scalar.addi v2698 c0_i32_713
  let v2789 : Index := Scalar.indexCast v2787
  ![0, v2789.toNat]
def k0_off532 (v2693 : BitVec 32) (c0_i32_717 : BitVec 32) : Fin 2 → Nat :=
  let c1_i32_718 : BitVec 32 := 1#32
  let v2798 : Index := Scalar.indexCast c1_i32_718
  let c6_i32_673 : BitVec 32 := 6#32
  let v2696 : BitVec 32 := Scalar.shrsi v2693 c6_i32_673
  let c63_i32_674 : BitVec 32 := 63#32
  let v2697 : BitVec 32 := Scalar.andi v2696 c63_i32_674
  let c32_i32_675 : BitVec 32 := 32#32
  let v2698 : BitVec 32 := Scalar.muli v2697 c32_i32_675
  let v2797 : BitVec 32 := Scalar.addi v2698 c0_i32_717
  let v2799 : Index := Scalar.indexCast v2797
  ![1, v2799.toNat]
def k0_off533 (v2693 : BitVec 32) (c0_i32_721 : BitVec 32) : Fin 2 → Nat :=
  let c2_i32_722 : BitVec 32 := 2#32
  let v2808 : Index := Scalar.indexCast c2_i32_722
  let c6_i32_673 : BitVec 32 := 6#32
  let v2696 : BitVec 32 := Scalar.shrsi v2693 c6_i32_673
  let c63_i32_674 : BitVec 32 := 63#32
  let v2697 : BitVec 32 := Scalar.andi v2696 c63_i32_674
  let c32_i32_675 : BitVec 32 := 32#32
  let v2698 : BitVec 32 := Scalar.muli v2697 c32_i32_675
  let v2807 : BitVec 32 := Scalar.addi v2698 c0_i32_721
  let v2809 : Index := Scalar.indexCast v2807
  ![2, v2809.toNat]
def k0_off534 (v2693 : BitVec 32) (c0_i32_725 : BitVec 32) : Fin 2 → Nat :=
  let c3_i32_726 : BitVec 32 := 3#32
  let v2818 : Index := Scalar.indexCast c3_i32_726
  let c6_i32_673 : BitVec 32 := 6#32
  let v2696 : BitVec 32 := Scalar.shrsi v2693 c6_i32_673
  let c63_i32_674 : BitVec 32 := 63#32
  let v2697 : BitVec 32 := Scalar.andi v2696 c63_i32_674
  let c32_i32_675 : BitVec 32 := 32#32
  let v2698 : BitVec 32 := Scalar.muli v2697 c32_i32_675
  let v2817 : BitVec 32 := Scalar.addi v2698 c0_i32_725
  let v2819 : Index := Scalar.indexCast v2817
  ![3, v2819.toNat]
def k0_off535 (v2693 : BitVec 32) (c0_i32_729 : BitVec 32) : Fin 2 → Nat :=
  let c4_i32_730 : BitVec 32 := 4#32
  let v2828 : Index := Scalar.indexCast c4_i32_730
  let c6_i32_673 : BitVec 32 := 6#32
  let v2696 : BitVec 32 := Scalar.shrsi v2693 c6_i32_673
  let c63_i32_674 : BitVec 32 := 63#32
  let v2697 : BitVec 32 := Scalar.andi v2696 c63_i32_674
  let c32_i32_675 : BitVec 32 := 32#32
  let v2698 : BitVec 32 := Scalar.muli v2697 c32_i32_675
  let v2827 : BitVec 32 := Scalar.addi v2698 c0_i32_729
  let v2829 : Index := Scalar.indexCast v2827
  ![4, v2829.toNat]
def k0_off536 (v2693 : BitVec 32) (c0_i32_733 : BitVec 32) : Fin 2 → Nat :=
  let c5_i32_734 : BitVec 32 := 5#32
  let v2838 : Index := Scalar.indexCast c5_i32_734
  let c6_i32_673 : BitVec 32 := 6#32
  let v2696 : BitVec 32 := Scalar.shrsi v2693 c6_i32_673
  let c63_i32_674 : BitVec 32 := 63#32
  let v2697 : BitVec 32 := Scalar.andi v2696 c63_i32_674
  let c32_i32_675 : BitVec 32 := 32#32
  let v2698 : BitVec 32 := Scalar.muli v2697 c32_i32_675
  let v2837 : BitVec 32 := Scalar.addi v2698 c0_i32_733
  let v2839 : Index := Scalar.indexCast v2837
  ![5, v2839.toNat]
def k0_off537 (v2693 : BitVec 32) (c0_i32_737 : BitVec 32) : Fin 2 → Nat :=
  let c6_i32_738 : BitVec 32 := 6#32
  let v2848 : Index := Scalar.indexCast c6_i32_738
  let c6_i32_673 : BitVec 32 := 6#32
  let v2696 : BitVec 32 := Scalar.shrsi v2693 c6_i32_673
  let c63_i32_674 : BitVec 32 := 63#32
  let v2697 : BitVec 32 := Scalar.andi v2696 c63_i32_674
  let c32_i32_675 : BitVec 32 := 32#32
  let v2698 : BitVec 32 := Scalar.muli v2697 c32_i32_675
  let v2847 : BitVec 32 := Scalar.addi v2698 c0_i32_737
  let v2849 : Index := Scalar.indexCast v2847
  ![6, v2849.toNat]
def k0_off538 (v2693 : BitVec 32) (c0_i32_741 : BitVec 32) : Fin 2 → Nat :=
  let c7_i32_742 : BitVec 32 := 7#32
  let v2858 : Index := Scalar.indexCast c7_i32_742
  let c6_i32_673 : BitVec 32 := 6#32
  let v2696 : BitVec 32 := Scalar.shrsi v2693 c6_i32_673
  let c63_i32_674 : BitVec 32 := 63#32
  let v2697 : BitVec 32 := Scalar.andi v2696 c63_i32_674
  let c32_i32_675 : BitVec 32 := 32#32
  let v2698 : BitVec 32 := Scalar.muli v2697 c32_i32_675
  let v2857 : BitVec 32 := Scalar.addi v2698 c0_i32_741
  let v2859 : Index := Scalar.indexCast v2857
  ![7, v2859.toNat]
def k0_off539 (v2693 : BitVec 32) (c0_i32_745 : BitVec 32) : Fin 2 → Nat :=
  let c0_i32_746 : BitVec 32 := 0#32
  let v2900 : Index := Scalar.indexCast c0_i32_746
  let c12_i32_676 : BitVec 32 := 12#32
  let v2699 : BitVec 32 := Scalar.shrsi v2693 c12_i32_676
  let c32_i32_677 : BitVec 32 := 32#32
  let v2700 : BitVec 32 := Scalar.muli v2699 c32_i32_677
  let v2899 : BitVec 32 := Scalar.addi v2700 c0_i32_745
  let v2901 : Index := Scalar.indexCast v2899
  ![0, v2901.toNat]
def k0_off540 (v2693 : BitVec 32) (c0_i32_753 : BitVec 32) : Fin 2 → Nat :=
  let c1_i32_754 : BitVec 32 := 1#32
  let v2924 : Index := Scalar.indexCast c1_i32_754
  let c12_i32_676 : BitVec 32 := 12#32
  let v2699 : BitVec 32 := Scalar.shrsi v2693 c12_i32_676
  let c32_i32_677 : BitVec 32 := 32#32
  let v2700 : BitVec 32 := Scalar.muli v2699 c32_i32_677
  let v2923 : BitVec 32 := Scalar.addi v2700 c0_i32_753
  let v2925 : Index := Scalar.indexCast v2923
  ![1, v2925.toNat]
def k0_off541 (v2693 : BitVec 32) (c0_i32_761 : BitVec 32) : Fin 2 → Nat :=
  let c2_i32_762 : BitVec 32 := 2#32
  let v2948 : Index := Scalar.indexCast c2_i32_762
  let c12_i32_676 : BitVec 32 := 12#32
  let v2699 : BitVec 32 := Scalar.shrsi v2693 c12_i32_676
  let c32_i32_677 : BitVec 32 := 32#32
  let v2700 : BitVec 32 := Scalar.muli v2699 c32_i32_677
  let v2947 : BitVec 32 := Scalar.addi v2700 c0_i32_761
  let v2949 : Index := Scalar.indexCast v2947
  ![2, v2949.toNat]
def k0_off542 (v2693 : BitVec 32) (c0_i32_769 : BitVec 32) : Fin 2 → Nat :=
  let c3_i32_770 : BitVec 32 := 3#32
  let v2972 : Index := Scalar.indexCast c3_i32_770
  let c12_i32_676 : BitVec 32 := 12#32
  let v2699 : BitVec 32 := Scalar.shrsi v2693 c12_i32_676
  let c32_i32_677 : BitVec 32 := 32#32
  let v2700 : BitVec 32 := Scalar.muli v2699 c32_i32_677
  let v2971 : BitVec 32 := Scalar.addi v2700 c0_i32_769
  let v2973 : Index := Scalar.indexCast v2971
  ![3, v2973.toNat]
def k0_off543 (v2693 : BitVec 32) (c0_i32_777 : BitVec 32) : Fin 2 → Nat :=
  let c4_i32_778 : BitVec 32 := 4#32
  let v2996 : Index := Scalar.indexCast c4_i32_778
  let c12_i32_676 : BitVec 32 := 12#32
  let v2699 : BitVec 32 := Scalar.shrsi v2693 c12_i32_676
  let c32_i32_677 : BitVec 32 := 32#32
  let v2700 : BitVec 32 := Scalar.muli v2699 c32_i32_677
  let v2995 : BitVec 32 := Scalar.addi v2700 c0_i32_777
  let v2997 : Index := Scalar.indexCast v2995
  ![4, v2997.toNat]
def k0_off544 (v2693 : BitVec 32) (c0_i32_785 : BitVec 32) : Fin 2 → Nat :=
  let c5_i32_786 : BitVec 32 := 5#32
  let v3020 : Index := Scalar.indexCast c5_i32_786
  let c12_i32_676 : BitVec 32 := 12#32
  let v2699 : BitVec 32 := Scalar.shrsi v2693 c12_i32_676
  let c32_i32_677 : BitVec 32 := 32#32
  let v2700 : BitVec 32 := Scalar.muli v2699 c32_i32_677
  let v3019 : BitVec 32 := Scalar.addi v2700 c0_i32_785
  let v3021 : Index := Scalar.indexCast v3019
  ![5, v3021.toNat]
def k0_off545 (v2693 : BitVec 32) (c0_i32_793 : BitVec 32) : Fin 2 → Nat :=
  let c6_i32_794 : BitVec 32 := 6#32
  let v3044 : Index := Scalar.indexCast c6_i32_794
  let c12_i32_676 : BitVec 32 := 12#32
  let v2699 : BitVec 32 := Scalar.shrsi v2693 c12_i32_676
  let c32_i32_677 : BitVec 32 := 32#32
  let v2700 : BitVec 32 := Scalar.muli v2699 c32_i32_677
  let v3043 : BitVec 32 := Scalar.addi v2700 c0_i32_793
  let v3045 : Index := Scalar.indexCast v3043
  ![6, v3045.toNat]
def k0_off546 (v2693 : BitVec 32) (c0_i32_801 : BitVec 32) : Fin 2 → Nat :=
  let c7_i32_802 : BitVec 32 := 7#32
  let v3068 : Index := Scalar.indexCast c7_i32_802
  let c12_i32_676 : BitVec 32 := 12#32
  let v2699 : BitVec 32 := Scalar.shrsi v2693 c12_i32_676
  let c32_i32_677 : BitVec 32 := 32#32
  let v2700 : BitVec 32 := Scalar.muli v2699 c32_i32_677
  let v3067 : BitVec 32 := Scalar.addi v2700 c0_i32_801
  let v3069 : Index := Scalar.indexCast v3067
  ![7, v3069.toNat]

def k0_chk21 (v2693 : BitVec 32) : Prop :=
  (∀ (r : Fin 2), ∀ a, (k0_off523 v2693 (BitVec.ofNat 32 (16 * r.val))) a + S1x16.size a ≤ S8x2048.size a) ∧
  (∀ (r : Fin 2), ∀ a, (k0_off524 v2693 (BitVec.ofNat 32 (16 * r.val))) a + S1x16.size a ≤ S8x2048.size a) ∧
  (∀ (r : Fin 2), ∀ a, (k0_off525 v2693 (BitVec.ofNat 32 (16 * r.val))) a + S1x16.size a ≤ S8x2048.size a) ∧
  (∀ (r : Fin 2), ∀ a, (k0_off526 v2693 (BitVec.ofNat 32 (16 * r.val))) a + S1x16.size a ≤ S8x2048.size a) ∧
  (∀ (r : Fin 2), ∀ a, (k0_off527 v2693 (BitVec.ofNat 32 (16 * r.val))) a + S1x16.size a ≤ S8x2048.size a) ∧
  (∀ (r : Fin 2), ∀ a, (k0_off528 v2693 (BitVec.ofNat 32 (16 * r.val))) a + S1x16.size a ≤ S8x2048.size a) ∧
  (∀ (r : Fin 2), ∀ a, (k0_off529 v2693 (BitVec.ofNat 32 (16 * r.val))) a + S1x16.size a ≤ S8x2048.size a) ∧
  (∀ (r : Fin 2), ∀ a, (k0_off530 v2693 (BitVec.ofNat 32 (16 * r.val))) a + S1x16.size a ≤ S8x2048.size a) ∧
  (∀ (r : Fin 2), ∀ a, (k0_off531 v2693 (BitVec.ofNat 32 (16 * r.val))) a + S1x16.size a ≤ S8x2048.size a) ∧
  (∀ (r : Fin 2), ∀ a, (k0_off532 v2693 (BitVec.ofNat 32 (16 * r.val))) a + S1x16.size a ≤ S8x2048.size a) ∧
  (∀ (r : Fin 2), ∀ a, (k0_off533 v2693 (BitVec.ofNat 32 (16 * r.val))) a + S1x16.size a ≤ S8x2048.size a) ∧
  (∀ (r : Fin 2), ∀ a, (k0_off534 v2693 (BitVec.ofNat 32 (16 * r.val))) a + S1x16.size a ≤ S8x2048.size a) ∧
  (∀ (r : Fin 2), ∀ a, (k0_off535 v2693 (BitVec.ofNat 32 (16 * r.val))) a + S1x16.size a ≤ S8x2048.size a) ∧
  (∀ (r : Fin 2), ∀ a, (k0_off536 v2693 (BitVec.ofNat 32 (16 * r.val))) a + S1x16.size a ≤ S8x2048.size a) ∧
  (∀ (r : Fin 2), ∀ a, (k0_off537 v2693 (BitVec.ofNat 32 (16 * r.val))) a + S1x16.size a ≤ S8x2048.size a) ∧
  (∀ (r : Fin 2), ∀ a, (k0_off538 v2693 (BitVec.ofNat 32 (16 * r.val))) a + S1x16.size a ≤ S8x2048.size a) ∧
  (∀ (r : Fin 2), ∀ a, (k0_off539 v2693 (BitVec.ofNat 32 (16 * r.val))) a + S1x16.size a ≤ S8x2048.size a) ∧
  (∀ (r : Fin 2), ∀ a, (k0_off540 v2693 (BitVec.ofNat 32 (16 * r.val))) a + S1x16.size a ≤ S8x2048.size a) ∧
  (∀ (r : Fin 2), ∀ a, (k0_off541 v2693 (BitVec.ofNat 32 (16 * r.val))) a + S1x16.size a ≤ S8x2048.size a) ∧
  (∀ (r : Fin 2), ∀ a, (k0_off542 v2693 (BitVec.ofNat 32 (16 * r.val))) a + S1x16.size a ≤ S8x2048.size a) ∧
  (∀ (r : Fin 2), ∀ a, (k0_off543 v2693 (BitVec.ofNat 32 (16 * r.val))) a + S1x16.size a ≤ S8x2048.size a) ∧
  (∀ (r : Fin 2), ∀ a, (k0_off544 v2693 (BitVec.ofNat 32 (16 * r.val))) a + S1x16.size a ≤ S8x2048.size a) ∧
  (∀ (r : Fin 2), ∀ a, (k0_off545 v2693 (BitVec.ofNat 32 (16 * r.val))) a + S1x16.size a ≤ S8x2048.size a) ∧
  (∀ (r : Fin 2), ∀ a, (k0_off546 v2693 (BitVec.ofNat 32 (16 * r.val))) a + S1x16.size a ≤ S8x2048.size a)
theorem k0_off523_inb : ∀ (v2693 : BitVec 32) (k0_hw21 : k0_chk21 v2693), ∀ (r : Fin 2), ∀ a, (k0_off523 v2693 (BitVec.ofNat 32 (16 * r.val))) a + S1x16.size a ≤ S8x2048.size a := fun v2693 k0_hw21 r => k0_hw21.1 r
theorem k0_off524_inb : ∀ (v2693 : BitVec 32) (k0_hw21 : k0_chk21 v2693), ∀ (r : Fin 2), ∀ a, (k0_off524 v2693 (BitVec.ofNat 32 (16 * r.val))) a + S1x16.size a ≤ S8x2048.size a := fun v2693 k0_hw21 r => k0_hw21.2.1 r
theorem k0_off525_inb : ∀ (v2693 : BitVec 32) (k0_hw21 : k0_chk21 v2693), ∀ (r : Fin 2), ∀ a, (k0_off525 v2693 (BitVec.ofNat 32 (16 * r.val))) a + S1x16.size a ≤ S8x2048.size a := fun v2693 k0_hw21 r => k0_hw21.2.2.1 r
theorem k0_off526_inb : ∀ (v2693 : BitVec 32) (k0_hw21 : k0_chk21 v2693), ∀ (r : Fin 2), ∀ a, (k0_off526 v2693 (BitVec.ofNat 32 (16 * r.val))) a + S1x16.size a ≤ S8x2048.size a := fun v2693 k0_hw21 r => k0_hw21.2.2.2.1 r
theorem k0_off527_inb : ∀ (v2693 : BitVec 32) (k0_hw21 : k0_chk21 v2693), ∀ (r : Fin 2), ∀ a, (k0_off527 v2693 (BitVec.ofNat 32 (16 * r.val))) a + S1x16.size a ≤ S8x2048.size a := fun v2693 k0_hw21 r => k0_hw21.2.2.2.2.1 r
theorem k0_off528_inb : ∀ (v2693 : BitVec 32) (k0_hw21 : k0_chk21 v2693), ∀ (r : Fin 2), ∀ a, (k0_off528 v2693 (BitVec.ofNat 32 (16 * r.val))) a + S1x16.size a ≤ S8x2048.size a := fun v2693 k0_hw21 r => k0_hw21.2.2.2.2.2.1 r
theorem k0_off529_inb : ∀ (v2693 : BitVec 32) (k0_hw21 : k0_chk21 v2693), ∀ (r : Fin 2), ∀ a, (k0_off529 v2693 (BitVec.ofNat 32 (16 * r.val))) a + S1x16.size a ≤ S8x2048.size a := fun v2693 k0_hw21 r => k0_hw21.2.2.2.2.2.2.1 r
theorem k0_off530_inb : ∀ (v2693 : BitVec 32) (k0_hw21 : k0_chk21 v2693), ∀ (r : Fin 2), ∀ a, (k0_off530 v2693 (BitVec.ofNat 32 (16 * r.val))) a + S1x16.size a ≤ S8x2048.size a := fun v2693 k0_hw21 r => k0_hw21.2.2.2.2.2.2.2.1 r
theorem k0_off531_inb : ∀ (v2693 : BitVec 32) (k0_hw21 : k0_chk21 v2693), ∀ (r : Fin 2), ∀ a, (k0_off531 v2693 (BitVec.ofNat 32 (16 * r.val))) a + S1x16.size a ≤ S8x2048.size a := fun v2693 k0_hw21 r => k0_hw21.2.2.2.2.2.2.2.2.1 r
theorem k0_off532_inb : ∀ (v2693 : BitVec 32) (k0_hw21 : k0_chk21 v2693), ∀ (r : Fin 2), ∀ a, (k0_off532 v2693 (BitVec.ofNat 32 (16 * r.val))) a + S1x16.size a ≤ S8x2048.size a := fun v2693 k0_hw21 r => k0_hw21.2.2.2.2.2.2.2.2.2.1 r
theorem k0_off533_inb : ∀ (v2693 : BitVec 32) (k0_hw21 : k0_chk21 v2693), ∀ (r : Fin 2), ∀ a, (k0_off533 v2693 (BitVec.ofNat 32 (16 * r.val))) a + S1x16.size a ≤ S8x2048.size a := fun v2693 k0_hw21 r => k0_hw21.2.2.2.2.2.2.2.2.2.2.1 r
theorem k0_off534_inb : ∀ (v2693 : BitVec 32) (k0_hw21 : k0_chk21 v2693), ∀ (r : Fin 2), ∀ a, (k0_off534 v2693 (BitVec.ofNat 32 (16 * r.val))) a + S1x16.size a ≤ S8x2048.size a := fun v2693 k0_hw21 r => k0_hw21.2.2.2.2.2.2.2.2.2.2.2.1 r
theorem k0_off535_inb : ∀ (v2693 : BitVec 32) (k0_hw21 : k0_chk21 v2693), ∀ (r : Fin 2), ∀ a, (k0_off535 v2693 (BitVec.ofNat 32 (16 * r.val))) a + S1x16.size a ≤ S8x2048.size a := fun v2693 k0_hw21 r => k0_hw21.2.2.2.2.2.2.2.2.2.2.2.2.1 r
theorem k0_off536_inb : ∀ (v2693 : BitVec 32) (k0_hw21 : k0_chk21 v2693), ∀ (r : Fin 2), ∀ a, (k0_off536 v2693 (BitVec.ofNat 32 (16 * r.val))) a + S1x16.size a ≤ S8x2048.size a := fun v2693 k0_hw21 r => k0_hw21.2.2.2.2.2.2.2.2.2.2.2.2.2.1 r
theorem k0_off537_inb : ∀ (v2693 : BitVec 32) (k0_hw21 : k0_chk21 v2693), ∀ (r : Fin 2), ∀ a, (k0_off537 v2693 (BitVec.ofNat 32 (16 * r.val))) a + S1x16.size a ≤ S8x2048.size a := fun v2693 k0_hw21 r => k0_hw21.2.2.2.2.2.2.2.2.2.2.2.2.2.2.1 r
theorem k0_off538_inb : ∀ (v2693 : BitVec 32) (k0_hw21 : k0_chk21 v2693), ∀ (r : Fin 2), ∀ a, (k0_off538 v2693 (BitVec.ofNat 32 (16 * r.val))) a + S1x16.size a ≤ S8x2048.size a := fun v2693 k0_hw21 r => k0_hw21.2.2.2.2.2.2.2.2.2.2.2.2.2.2.2.1 r
theorem k0_off539_inb : ∀ (v2693 : BitVec 32) (k0_hw21 : k0_chk21 v2693), ∀ (r : Fin 2), ∀ a, (k0_off539 v2693 (BitVec.ofNat 32 (16 * r.val))) a + S1x16.size a ≤ S8x2048.size a := fun v2693 k0_hw21 r => k0_hw21.2.2.2.2.2.2.2.2.2.2.2.2.2.2.2.2.1 r
theorem k0_off540_inb : ∀ (v2693 : BitVec 32) (k0_hw21 : k0_chk21 v2693), ∀ (r : Fin 2), ∀ a, (k0_off540 v2693 (BitVec.ofNat 32 (16 * r.val))) a + S1x16.size a ≤ S8x2048.size a := fun v2693 k0_hw21 r => k0_hw21.2.2.2.2.2.2.2.2.2.2.2.2.2.2.2.2.2.1 r
theorem k0_off541_inb : ∀ (v2693 : BitVec 32) (k0_hw21 : k0_chk21 v2693), ∀ (r : Fin 2), ∀ a, (k0_off541 v2693 (BitVec.ofNat 32 (16 * r.val))) a + S1x16.size a ≤ S8x2048.size a := fun v2693 k0_hw21 r => k0_hw21.2.2.2.2.2.2.2.2.2.2.2.2.2.2.2.2.2.2.1 r
theorem k0_off542_inb : ∀ (v2693 : BitVec 32) (k0_hw21 : k0_chk21 v2693), ∀ (r : Fin 2), ∀ a, (k0_off542 v2693 (BitVec.ofNat 32 (16 * r.val))) a + S1x16.size a ≤ S8x2048.size a := fun v2693 k0_hw21 r => k0_hw21.2.2.2.2.2.2.2.2.2.2.2.2.2.2.2.2.2.2.2.1 r
theorem k0_off543_inb : ∀ (v2693 : BitVec 32) (k0_hw21 : k0_chk21 v2693), ∀ (r : Fin 2), ∀ a, (k0_off543 v2693 (BitVec.ofNat 32 (16 * r.val))) a + S1x16.size a ≤ S8x2048.size a := fun v2693 k0_hw21 r => k0_hw21.2.2.2.2.2.2.2.2.2.2.2.2.2.2.2.2.2.2.2.2.1 r
theorem k0_off544_inb : ∀ (v2693 : BitVec 32) (k0_hw21 : k0_chk21 v2693), ∀ (r : Fin 2), ∀ a, (k0_off544 v2693 (BitVec.ofNat 32 (16 * r.val))) a + S1x16.size a ≤ S8x2048.size a := fun v2693 k0_hw21 r => k0_hw21.2.2.2.2.2.2.2.2.2.2.2.2.2.2.2.2.2.2.2.2.2.1 r
theorem k0_off545_inb : ∀ (v2693 : BitVec 32) (k0_hw21 : k0_chk21 v2693), ∀ (r : Fin 2), ∀ a, (k0_off545 v2693 (BitVec.ofNat 32 (16 * r.val))) a + S1x16.size a ≤ S8x2048.size a := fun v2693 k0_hw21 r => k0_hw21.2.2.2.2.2.2.2.2.2.2.2.2.2.2.2.2.2.2.2.2.2.2.1 r
theorem k0_off546_inb : ∀ (v2693 : BitVec 32) (k0_hw21 : k0_chk21 v2693), ∀ (r : Fin 2), ∀ a, (k0_off546 v2693 (BitVec.ofNat 32 (16 * r.val))) a + S1x16.size a ≤ S8x2048.size a := fun v2693 k0_hw21 r => k0_hw21.2.2.2.2.2.2.2.2.2.2.2.2.2.2.2.2.2.2.2.2.2.2.2 r

def k0_off547 (k0_t5 : Fin k0_t5_loop.trips) : Fin 1 → Nat :=
  let c0_i32_116 : BitVec 32 := 0#32
  let c1_i32_118 : BitVec 32 := 1#32
  let arg28 : BitVec 32 := Scf.iv c0_i32_116 c1_i32_118 k0_t5
  let c16_i32_816 : BitVec 32 := 16#32
  let v3100 : BitVec 32 := Scalar.muli arg28 c16_i32_816
  let c5_i32_817 : BitVec 32 := 5#32
  let v3101 : BitVec 32 := Scalar.addi v3100 c5_i32_817
  let c16_i32_818 : BitVec 32 := 16#32
  let v3102 : BitVec 32 := Scalar.muli v3101 c16_i32_818
  let v3103 : Index := Scalar.indexCast v3102
  ![v3103.toNat]
def k0_off548 (v3092 : BitVec 32) (c0_i32_819 : BitVec 32) : Fin 2 → Nat :=
  let c0_i32_820 : BitVec 32 := 0#32
  let v3107 : Index := Scalar.indexCast c0_i32_820
  let c63_i32_809 : BitVec 32 := 63#32
  let v3093 : BitVec 32 := Scalar.andi v3092 c63_i32_809
  let c32_i32_810 : BitVec 32 := 32#32
  let v3094 : BitVec 32 := Scalar.muli v3093 c32_i32_810
  let v3106 : BitVec 32 := Scalar.addi v3094 c0_i32_819
  let v3108 : Index := Scalar.indexCast v3106
  ![0, v3108.toNat]

def k0_off549 (v3092 : BitVec 32) (c0_i32_823 : BitVec 32) : Fin 2 → Nat :=
  let c1_i32_824 : BitVec 32 := 1#32
  let v3117 : Index := Scalar.indexCast c1_i32_824
  let c63_i32_809 : BitVec 32 := 63#32
  let v3093 : BitVec 32 := Scalar.andi v3092 c63_i32_809
  let c32_i32_810 : BitVec 32 := 32#32
  let v3094 : BitVec 32 := Scalar.muli v3093 c32_i32_810
  let v3116 : BitVec 32 := Scalar.addi v3094 c0_i32_823
  let v3118 : Index := Scalar.indexCast v3116
  ![1, v3118.toNat]
def k0_off550 (v3092 : BitVec 32) (c0_i32_827 : BitVec 32) : Fin 2 → Nat :=
  let c2_i32_828 : BitVec 32 := 2#32
  let v3127 : Index := Scalar.indexCast c2_i32_828
  let c63_i32_809 : BitVec 32 := 63#32
  let v3093 : BitVec 32 := Scalar.andi v3092 c63_i32_809
  let c32_i32_810 : BitVec 32 := 32#32
  let v3094 : BitVec 32 := Scalar.muli v3093 c32_i32_810
  let v3126 : BitVec 32 := Scalar.addi v3094 c0_i32_827
  let v3128 : Index := Scalar.indexCast v3126
  ![2, v3128.toNat]
def k0_off551 (v3092 : BitVec 32) (c0_i32_831 : BitVec 32) : Fin 2 → Nat :=
  let c3_i32_832 : BitVec 32 := 3#32
  let v3137 : Index := Scalar.indexCast c3_i32_832
  let c63_i32_809 : BitVec 32 := 63#32
  let v3093 : BitVec 32 := Scalar.andi v3092 c63_i32_809
  let c32_i32_810 : BitVec 32 := 32#32
  let v3094 : BitVec 32 := Scalar.muli v3093 c32_i32_810
  let v3136 : BitVec 32 := Scalar.addi v3094 c0_i32_831
  let v3138 : Index := Scalar.indexCast v3136
  ![3, v3138.toNat]
def k0_off552 (v3092 : BitVec 32) (c0_i32_835 : BitVec 32) : Fin 2 → Nat :=
  let c4_i32_836 : BitVec 32 := 4#32
  let v3147 : Index := Scalar.indexCast c4_i32_836
  let c63_i32_809 : BitVec 32 := 63#32
  let v3093 : BitVec 32 := Scalar.andi v3092 c63_i32_809
  let c32_i32_810 : BitVec 32 := 32#32
  let v3094 : BitVec 32 := Scalar.muli v3093 c32_i32_810
  let v3146 : BitVec 32 := Scalar.addi v3094 c0_i32_835
  let v3148 : Index := Scalar.indexCast v3146
  ![4, v3148.toNat]
def k0_off553 (v3092 : BitVec 32) (c0_i32_839 : BitVec 32) : Fin 2 → Nat :=
  let c5_i32_840 : BitVec 32 := 5#32
  let v3157 : Index := Scalar.indexCast c5_i32_840
  let c63_i32_809 : BitVec 32 := 63#32
  let v3093 : BitVec 32 := Scalar.andi v3092 c63_i32_809
  let c32_i32_810 : BitVec 32 := 32#32
  let v3094 : BitVec 32 := Scalar.muli v3093 c32_i32_810
  let v3156 : BitVec 32 := Scalar.addi v3094 c0_i32_839
  let v3158 : Index := Scalar.indexCast v3156
  ![5, v3158.toNat]
def k0_off554 (v3092 : BitVec 32) (c0_i32_843 : BitVec 32) : Fin 2 → Nat :=
  let c6_i32_844 : BitVec 32 := 6#32
  let v3167 : Index := Scalar.indexCast c6_i32_844
  let c63_i32_809 : BitVec 32 := 63#32
  let v3093 : BitVec 32 := Scalar.andi v3092 c63_i32_809
  let c32_i32_810 : BitVec 32 := 32#32
  let v3094 : BitVec 32 := Scalar.muli v3093 c32_i32_810
  let v3166 : BitVec 32 := Scalar.addi v3094 c0_i32_843
  let v3168 : Index := Scalar.indexCast v3166
  ![6, v3168.toNat]
def k0_off555 (v3092 : BitVec 32) (c0_i32_847 : BitVec 32) : Fin 2 → Nat :=
  let c7_i32_848 : BitVec 32 := 7#32
  let v3177 : Index := Scalar.indexCast c7_i32_848
  let c63_i32_809 : BitVec 32 := 63#32
  let v3093 : BitVec 32 := Scalar.andi v3092 c63_i32_809
  let c32_i32_810 : BitVec 32 := 32#32
  let v3094 : BitVec 32 := Scalar.muli v3093 c32_i32_810
  let v3176 : BitVec 32 := Scalar.addi v3094 c0_i32_847
  let v3178 : Index := Scalar.indexCast v3176
  ![7, v3178.toNat]
def k0_off556 (v3092 : BitVec 32) (c0_i32_851 : BitVec 32) : Fin 2 → Nat :=
  let c0_i32_852 : BitVec 32 := 0#32
  let v3187 : Index := Scalar.indexCast c0_i32_852
  let c6_i32_811 : BitVec 32 := 6#32
  let v3095 : BitVec 32 := Scalar.shrsi v3092 c6_i32_811
  let c63_i32_812 : BitVec 32 := 63#32
  let v3096 : BitVec 32 := Scalar.andi v3095 c63_i32_812
  let c32_i32_813 : BitVec 32 := 32#32
  let v3097 : BitVec 32 := Scalar.muli v3096 c32_i32_813
  let v3186 : BitVec 32 := Scalar.addi v3097 c0_i32_851
  let v3188 : Index := Scalar.indexCast v3186
  ![0, v3188.toNat]
def k0_off557 (v3092 : BitVec 32) (c0_i32_855 : BitVec 32) : Fin 2 → Nat :=
  let c1_i32_856 : BitVec 32 := 1#32
  let v3197 : Index := Scalar.indexCast c1_i32_856
  let c6_i32_811 : BitVec 32 := 6#32
  let v3095 : BitVec 32 := Scalar.shrsi v3092 c6_i32_811
  let c63_i32_812 : BitVec 32 := 63#32
  let v3096 : BitVec 32 := Scalar.andi v3095 c63_i32_812
  let c32_i32_813 : BitVec 32 := 32#32
  let v3097 : BitVec 32 := Scalar.muli v3096 c32_i32_813
  let v3196 : BitVec 32 := Scalar.addi v3097 c0_i32_855
  let v3198 : Index := Scalar.indexCast v3196
  ![1, v3198.toNat]
def k0_off558 (v3092 : BitVec 32) (c0_i32_859 : BitVec 32) : Fin 2 → Nat :=
  let c2_i32_860 : BitVec 32 := 2#32
  let v3207 : Index := Scalar.indexCast c2_i32_860
  let c6_i32_811 : BitVec 32 := 6#32
  let v3095 : BitVec 32 := Scalar.shrsi v3092 c6_i32_811
  let c63_i32_812 : BitVec 32 := 63#32
  let v3096 : BitVec 32 := Scalar.andi v3095 c63_i32_812
  let c32_i32_813 : BitVec 32 := 32#32
  let v3097 : BitVec 32 := Scalar.muli v3096 c32_i32_813
  let v3206 : BitVec 32 := Scalar.addi v3097 c0_i32_859
  let v3208 : Index := Scalar.indexCast v3206
  ![2, v3208.toNat]
def k0_off559 (v3092 : BitVec 32) (c0_i32_863 : BitVec 32) : Fin 2 → Nat :=
  let c3_i32_864 : BitVec 32 := 3#32
  let v3217 : Index := Scalar.indexCast c3_i32_864
  let c6_i32_811 : BitVec 32 := 6#32
  let v3095 : BitVec 32 := Scalar.shrsi v3092 c6_i32_811
  let c63_i32_812 : BitVec 32 := 63#32
  let v3096 : BitVec 32 := Scalar.andi v3095 c63_i32_812
  let c32_i32_813 : BitVec 32 := 32#32
  let v3097 : BitVec 32 := Scalar.muli v3096 c32_i32_813
  let v3216 : BitVec 32 := Scalar.addi v3097 c0_i32_863
  let v3218 : Index := Scalar.indexCast v3216
  ![3, v3218.toNat]
def k0_off560 (v3092 : BitVec 32) (c0_i32_867 : BitVec 32) : Fin 2 → Nat :=
  let c4_i32_868 : BitVec 32 := 4#32
  let v3227 : Index := Scalar.indexCast c4_i32_868
  let c6_i32_811 : BitVec 32 := 6#32
  let v3095 : BitVec 32 := Scalar.shrsi v3092 c6_i32_811
  let c63_i32_812 : BitVec 32 := 63#32
  let v3096 : BitVec 32 := Scalar.andi v3095 c63_i32_812
  let c32_i32_813 : BitVec 32 := 32#32
  let v3097 : BitVec 32 := Scalar.muli v3096 c32_i32_813
  let v3226 : BitVec 32 := Scalar.addi v3097 c0_i32_867
  let v3228 : Index := Scalar.indexCast v3226
  ![4, v3228.toNat]
def k0_off561 (v3092 : BitVec 32) (c0_i32_871 : BitVec 32) : Fin 2 → Nat :=
  let c5_i32_872 : BitVec 32 := 5#32
  let v3237 : Index := Scalar.indexCast c5_i32_872
  let c6_i32_811 : BitVec 32 := 6#32
  let v3095 : BitVec 32 := Scalar.shrsi v3092 c6_i32_811
  let c63_i32_812 : BitVec 32 := 63#32
  let v3096 : BitVec 32 := Scalar.andi v3095 c63_i32_812
  let c32_i32_813 : BitVec 32 := 32#32
  let v3097 : BitVec 32 := Scalar.muli v3096 c32_i32_813
  let v3236 : BitVec 32 := Scalar.addi v3097 c0_i32_871
  let v3238 : Index := Scalar.indexCast v3236
  ![5, v3238.toNat]
def k0_off562 (v3092 : BitVec 32) (c0_i32_875 : BitVec 32) : Fin 2 → Nat :=
  let c6_i32_876 : BitVec 32 := 6#32
  let v3247 : Index := Scalar.indexCast c6_i32_876
  let c6_i32_811 : BitVec 32 := 6#32
  let v3095 : BitVec 32 := Scalar.shrsi v3092 c6_i32_811
  let c63_i32_812 : BitVec 32 := 63#32
  let v3096 : BitVec 32 := Scalar.andi v3095 c63_i32_812
  let c32_i32_813 : BitVec 32 := 32#32
  let v3097 : BitVec 32 := Scalar.muli v3096 c32_i32_813
  let v3246 : BitVec 32 := Scalar.addi v3097 c0_i32_875
  let v3248 : Index := Scalar.indexCast v3246
  ![6, v3248.toNat]
def k0_off563 (v3092 : BitVec 32) (c0_i32_879 : BitVec 32) : Fin 2 → Nat :=
  let c7_i32_880 : BitVec 32 := 7#32
  let v3257 : Index := Scalar.indexCast c7_i32_880
  let c6_i32_811 : BitVec 32 := 6#32
  let v3095 : BitVec 32 := Scalar.shrsi v3092 c6_i32_811
  let c63_i32_812 : BitVec 32 := 63#32
  let v3096 : BitVec 32 := Scalar.andi v3095 c63_i32_812
  let c32_i32_813 : BitVec 32 := 32#32
  let v3097 : BitVec 32 := Scalar.muli v3096 c32_i32_813
  let v3256 : BitVec 32 := Scalar.addi v3097 c0_i32_879
  let v3258 : Index := Scalar.indexCast v3256
  ![7, v3258.toNat]
def k0_off564 (v3092 : BitVec 32) (c0_i32_883 : BitVec 32) : Fin 2 → Nat :=
  let c0_i32_884 : BitVec 32 := 0#32
  let v3299 : Index := Scalar.indexCast c0_i32_884
  let c12_i32_814 : BitVec 32 := 12#32
  let v3098 : BitVec 32 := Scalar.shrsi v3092 c12_i32_814
  let c32_i32_815 : BitVec 32 := 32#32
  let v3099 : BitVec 32 := Scalar.muli v3098 c32_i32_815
  let v3298 : BitVec 32 := Scalar.addi v3099 c0_i32_883
  let v3300 : Index := Scalar.indexCast v3298
  ![0, v3300.toNat]
def k0_off565 (v3092 : BitVec 32) (c0_i32_891 : BitVec 32) : Fin 2 → Nat :=
  let c1_i32_892 : BitVec 32 := 1#32
  let v3323 : Index := Scalar.indexCast c1_i32_892
  let c12_i32_814 : BitVec 32 := 12#32
  let v3098 : BitVec 32 := Scalar.shrsi v3092 c12_i32_814
  let c32_i32_815 : BitVec 32 := 32#32
  let v3099 : BitVec 32 := Scalar.muli v3098 c32_i32_815
  let v3322 : BitVec 32 := Scalar.addi v3099 c0_i32_891
  let v3324 : Index := Scalar.indexCast v3322
  ![1, v3324.toNat]
def k0_off566 (v3092 : BitVec 32) (c0_i32_899 : BitVec 32) : Fin 2 → Nat :=
  let c2_i32_900 : BitVec 32 := 2#32
  let v3347 : Index := Scalar.indexCast c2_i32_900
  let c12_i32_814 : BitVec 32 := 12#32
  let v3098 : BitVec 32 := Scalar.shrsi v3092 c12_i32_814
  let c32_i32_815 : BitVec 32 := 32#32
  let v3099 : BitVec 32 := Scalar.muli v3098 c32_i32_815
  let v3346 : BitVec 32 := Scalar.addi v3099 c0_i32_899
  let v3348 : Index := Scalar.indexCast v3346
  ![2, v3348.toNat]
def k0_off567 (v3092 : BitVec 32) (c0_i32_907 : BitVec 32) : Fin 2 → Nat :=
  let c3_i32_908 : BitVec 32 := 3#32
  let v3371 : Index := Scalar.indexCast c3_i32_908
  let c12_i32_814 : BitVec 32 := 12#32
  let v3098 : BitVec 32 := Scalar.shrsi v3092 c12_i32_814
  let c32_i32_815 : BitVec 32 := 32#32
  let v3099 : BitVec 32 := Scalar.muli v3098 c32_i32_815
  let v3370 : BitVec 32 := Scalar.addi v3099 c0_i32_907
  let v3372 : Index := Scalar.indexCast v3370
  ![3, v3372.toNat]
def k0_off568 (v3092 : BitVec 32) (c0_i32_915 : BitVec 32) : Fin 2 → Nat :=
  let c4_i32_916 : BitVec 32 := 4#32
  let v3395 : Index := Scalar.indexCast c4_i32_916
  let c12_i32_814 : BitVec 32 := 12#32
  let v3098 : BitVec 32 := Scalar.shrsi v3092 c12_i32_814
  let c32_i32_815 : BitVec 32 := 32#32
  let v3099 : BitVec 32 := Scalar.muli v3098 c32_i32_815
  let v3394 : BitVec 32 := Scalar.addi v3099 c0_i32_915
  let v3396 : Index := Scalar.indexCast v3394
  ![4, v3396.toNat]
def k0_off569 (v3092 : BitVec 32) (c0_i32_923 : BitVec 32) : Fin 2 → Nat :=
  let c5_i32_924 : BitVec 32 := 5#32
  let v3419 : Index := Scalar.indexCast c5_i32_924
  let c12_i32_814 : BitVec 32 := 12#32
  let v3098 : BitVec 32 := Scalar.shrsi v3092 c12_i32_814
  let c32_i32_815 : BitVec 32 := 32#32
  let v3099 : BitVec 32 := Scalar.muli v3098 c32_i32_815
  let v3418 : BitVec 32 := Scalar.addi v3099 c0_i32_923
  let v3420 : Index := Scalar.indexCast v3418
  ![5, v3420.toNat]
def k0_off570 (v3092 : BitVec 32) (c0_i32_931 : BitVec 32) : Fin 2 → Nat :=
  let c6_i32_932 : BitVec 32 := 6#32
  let v3443 : Index := Scalar.indexCast c6_i32_932
  let c12_i32_814 : BitVec 32 := 12#32
  let v3098 : BitVec 32 := Scalar.shrsi v3092 c12_i32_814
  let c32_i32_815 : BitVec 32 := 32#32
  let v3099 : BitVec 32 := Scalar.muli v3098 c32_i32_815
  let v3442 : BitVec 32 := Scalar.addi v3099 c0_i32_931
  let v3444 : Index := Scalar.indexCast v3442
  ![6, v3444.toNat]
def k0_off571 (v3092 : BitVec 32) (c0_i32_939 : BitVec 32) : Fin 2 → Nat :=
  let c7_i32_940 : BitVec 32 := 7#32
  let v3467 : Index := Scalar.indexCast c7_i32_940
  let c12_i32_814 : BitVec 32 := 12#32
  let v3098 : BitVec 32 := Scalar.shrsi v3092 c12_i32_814
  let c32_i32_815 : BitVec 32 := 32#32
  let v3099 : BitVec 32 := Scalar.muli v3098 c32_i32_815
  let v3466 : BitVec 32 := Scalar.addi v3099 c0_i32_939
  let v3468 : Index := Scalar.indexCast v3466
  ![7, v3468.toNat]

def k0_chk22 (v3092 : BitVec 32) : Prop :=
  (∀ (r : Fin 2), ∀ a, (k0_off548 v3092 (BitVec.ofNat 32 (16 * r.val))) a + S1x16.size a ≤ S8x2048.size a) ∧
  (∀ (r : Fin 2), ∀ a, (k0_off549 v3092 (BitVec.ofNat 32 (16 * r.val))) a + S1x16.size a ≤ S8x2048.size a) ∧
  (∀ (r : Fin 2), ∀ a, (k0_off550 v3092 (BitVec.ofNat 32 (16 * r.val))) a + S1x16.size a ≤ S8x2048.size a) ∧
  (∀ (r : Fin 2), ∀ a, (k0_off551 v3092 (BitVec.ofNat 32 (16 * r.val))) a + S1x16.size a ≤ S8x2048.size a) ∧
  (∀ (r : Fin 2), ∀ a, (k0_off552 v3092 (BitVec.ofNat 32 (16 * r.val))) a + S1x16.size a ≤ S8x2048.size a) ∧
  (∀ (r : Fin 2), ∀ a, (k0_off553 v3092 (BitVec.ofNat 32 (16 * r.val))) a + S1x16.size a ≤ S8x2048.size a) ∧
  (∀ (r : Fin 2), ∀ a, (k0_off554 v3092 (BitVec.ofNat 32 (16 * r.val))) a + S1x16.size a ≤ S8x2048.size a) ∧
  (∀ (r : Fin 2), ∀ a, (k0_off555 v3092 (BitVec.ofNat 32 (16 * r.val))) a + S1x16.size a ≤ S8x2048.size a) ∧
  (∀ (r : Fin 2), ∀ a, (k0_off556 v3092 (BitVec.ofNat 32 (16 * r.val))) a + S1x16.size a ≤ S8x2048.size a) ∧
  (∀ (r : Fin 2), ∀ a, (k0_off557 v3092 (BitVec.ofNat 32 (16 * r.val))) a + S1x16.size a ≤ S8x2048.size a) ∧
  (∀ (r : Fin 2), ∀ a, (k0_off558 v3092 (BitVec.ofNat 32 (16 * r.val))) a + S1x16.size a ≤ S8x2048.size a) ∧
  (∀ (r : Fin 2), ∀ a, (k0_off559 v3092 (BitVec.ofNat 32 (16 * r.val))) a + S1x16.size a ≤ S8x2048.size a) ∧
  (∀ (r : Fin 2), ∀ a, (k0_off560 v3092 (BitVec.ofNat 32 (16 * r.val))) a + S1x16.size a ≤ S8x2048.size a) ∧
  (∀ (r : Fin 2), ∀ a, (k0_off561 v3092 (BitVec.ofNat 32 (16 * r.val))) a + S1x16.size a ≤ S8x2048.size a) ∧
  (∀ (r : Fin 2), ∀ a, (k0_off562 v3092 (BitVec.ofNat 32 (16 * r.val))) a + S1x16.size a ≤ S8x2048.size a) ∧
  (∀ (r : Fin 2), ∀ a, (k0_off563 v3092 (BitVec.ofNat 32 (16 * r.val))) a + S1x16.size a ≤ S8x2048.size a) ∧
  (∀ (r : Fin 2), ∀ a, (k0_off564 v3092 (BitVec.ofNat 32 (16 * r.val))) a + S1x16.size a ≤ S8x2048.size a) ∧
  (∀ (r : Fin 2), ∀ a, (k0_off565 v3092 (BitVec.ofNat 32 (16 * r.val))) a + S1x16.size a ≤ S8x2048.size a) ∧
  (∀ (r : Fin 2), ∀ a, (k0_off566 v3092 (BitVec.ofNat 32 (16 * r.val))) a + S1x16.size a ≤ S8x2048.size a) ∧
  (∀ (r : Fin 2), ∀ a, (k0_off567 v3092 (BitVec.ofNat 32 (16 * r.val))) a + S1x16.size a ≤ S8x2048.size a) ∧
  (∀ (r : Fin 2), ∀ a, (k0_off568 v3092 (BitVec.ofNat 32 (16 * r.val))) a + S1x16.size a ≤ S8x2048.size a) ∧
  (∀ (r : Fin 2), ∀ a, (k0_off569 v3092 (BitVec.ofNat 32 (16 * r.val))) a + S1x16.size a ≤ S8x2048.size a) ∧
  (∀ (r : Fin 2), ∀ a, (k0_off570 v3092 (BitVec.ofNat 32 (16 * r.val))) a + S1x16.size a ≤ S8x2048.size a) ∧
  (∀ (r : Fin 2), ∀ a, (k0_off571 v3092 (BitVec.ofNat 32 (16 * r.val))) a + S1x16.size a ≤ S8x2048.size a)
theorem k0_off548_inb : ∀ (v3092 : BitVec 32) (k0_hw22 : k0_chk22 v3092), ∀ (r : Fin 2), ∀ a, (k0_off548 v3092 (BitVec.ofNat 32 (16 * r.val))) a + S1x16.size a ≤ S8x2048.size a := fun v3092 k0_hw22 r => k0_hw22.1 r
theorem k0_off549_inb : ∀ (v3092 : BitVec 32) (k0_hw22 : k0_chk22 v3092), ∀ (r : Fin 2), ∀ a, (k0_off549 v3092 (BitVec.ofNat 32 (16 * r.val))) a + S1x16.size a ≤ S8x2048.size a := fun v3092 k0_hw22 r => k0_hw22.2.1 r
theorem k0_off550_inb : ∀ (v3092 : BitVec 32) (k0_hw22 : k0_chk22 v3092), ∀ (r : Fin 2), ∀ a, (k0_off550 v3092 (BitVec.ofNat 32 (16 * r.val))) a + S1x16.size a ≤ S8x2048.size a := fun v3092 k0_hw22 r => k0_hw22.2.2.1 r
theorem k0_off551_inb : ∀ (v3092 : BitVec 32) (k0_hw22 : k0_chk22 v3092), ∀ (r : Fin 2), ∀ a, (k0_off551 v3092 (BitVec.ofNat 32 (16 * r.val))) a + S1x16.size a ≤ S8x2048.size a := fun v3092 k0_hw22 r => k0_hw22.2.2.2.1 r
theorem k0_off552_inb : ∀ (v3092 : BitVec 32) (k0_hw22 : k0_chk22 v3092), ∀ (r : Fin 2), ∀ a, (k0_off552 v3092 (BitVec.ofNat 32 (16 * r.val))) a + S1x16.size a ≤ S8x2048.size a := fun v3092 k0_hw22 r => k0_hw22.2.2.2.2.1 r
theorem k0_off553_inb : ∀ (v3092 : BitVec 32) (k0_hw22 : k0_chk22 v3092), ∀ (r : Fin 2), ∀ a, (k0_off553 v3092 (BitVec.ofNat 32 (16 * r.val))) a + S1x16.size a ≤ S8x2048.size a := fun v3092 k0_hw22 r => k0_hw22.2.2.2.2.2.1 r
theorem k0_off554_inb : ∀ (v3092 : BitVec 32) (k0_hw22 : k0_chk22 v3092), ∀ (r : Fin 2), ∀ a, (k0_off554 v3092 (BitVec.ofNat 32 (16 * r.val))) a + S1x16.size a ≤ S8x2048.size a := fun v3092 k0_hw22 r => k0_hw22.2.2.2.2.2.2.1 r
theorem k0_off555_inb : ∀ (v3092 : BitVec 32) (k0_hw22 : k0_chk22 v3092), ∀ (r : Fin 2), ∀ a, (k0_off555 v3092 (BitVec.ofNat 32 (16 * r.val))) a + S1x16.size a ≤ S8x2048.size a := fun v3092 k0_hw22 r => k0_hw22.2.2.2.2.2.2.2.1 r
theorem k0_off556_inb : ∀ (v3092 : BitVec 32) (k0_hw22 : k0_chk22 v3092), ∀ (r : Fin 2), ∀ a, (k0_off556 v3092 (BitVec.ofNat 32 (16 * r.val))) a + S1x16.size a ≤ S8x2048.size a := fun v3092 k0_hw22 r => k0_hw22.2.2.2.2.2.2.2.2.1 r
theorem k0_off557_inb : ∀ (v3092 : BitVec 32) (k0_hw22 : k0_chk22 v3092), ∀ (r : Fin 2), ∀ a, (k0_off557 v3092 (BitVec.ofNat 32 (16 * r.val))) a + S1x16.size a ≤ S8x2048.size a := fun v3092 k0_hw22 r => k0_hw22.2.2.2.2.2.2.2.2.2.1 r
theorem k0_off558_inb : ∀ (v3092 : BitVec 32) (k0_hw22 : k0_chk22 v3092), ∀ (r : Fin 2), ∀ a, (k0_off558 v3092 (BitVec.ofNat 32 (16 * r.val))) a + S1x16.size a ≤ S8x2048.size a := fun v3092 k0_hw22 r => k0_hw22.2.2.2.2.2.2.2.2.2.2.1 r
theorem k0_off559_inb : ∀ (v3092 : BitVec 32) (k0_hw22 : k0_chk22 v3092), ∀ (r : Fin 2), ∀ a, (k0_off559 v3092 (BitVec.ofNat 32 (16 * r.val))) a + S1x16.size a ≤ S8x2048.size a := fun v3092 k0_hw22 r => k0_hw22.2.2.2.2.2.2.2.2.2.2.2.1 r
theorem k0_off560_inb : ∀ (v3092 : BitVec 32) (k0_hw22 : k0_chk22 v3092), ∀ (r : Fin 2), ∀ a, (k0_off560 v3092 (BitVec.ofNat 32 (16 * r.val))) a + S1x16.size a ≤ S8x2048.size a := fun v3092 k0_hw22 r => k0_hw22.2.2.2.2.2.2.2.2.2.2.2.2.1 r
theorem k0_off561_inb : ∀ (v3092 : BitVec 32) (k0_hw22 : k0_chk22 v3092), ∀ (r : Fin 2), ∀ a, (k0_off561 v3092 (BitVec.ofNat 32 (16 * r.val))) a + S1x16.size a ≤ S8x2048.size a := fun v3092 k0_hw22 r => k0_hw22.2.2.2.2.2.2.2.2.2.2.2.2.2.1 r
theorem k0_off562_inb : ∀ (v3092 : BitVec 32) (k0_hw22 : k0_chk22 v3092), ∀ (r : Fin 2), ∀ a, (k0_off562 v3092 (BitVec.ofNat 32 (16 * r.val))) a + S1x16.size a ≤ S8x2048.size a := fun v3092 k0_hw22 r => k0_hw22.2.2.2.2.2.2.2.2.2.2.2.2.2.2.1 r
theorem k0_off563_inb : ∀ (v3092 : BitVec 32) (k0_hw22 : k0_chk22 v3092), ∀ (r : Fin 2), ∀ a, (k0_off563 v3092 (BitVec.ofNat 32 (16 * r.val))) a + S1x16.size a ≤ S8x2048.size a := fun v3092 k0_hw22 r => k0_hw22.2.2.2.2.2.2.2.2.2.2.2.2.2.2.2.1 r
theorem k0_off564_inb : ∀ (v3092 : BitVec 32) (k0_hw22 : k0_chk22 v3092), ∀ (r : Fin 2), ∀ a, (k0_off564 v3092 (BitVec.ofNat 32 (16 * r.val))) a + S1x16.size a ≤ S8x2048.size a := fun v3092 k0_hw22 r => k0_hw22.2.2.2.2.2.2.2.2.2.2.2.2.2.2.2.2.1 r
theorem k0_off565_inb : ∀ (v3092 : BitVec 32) (k0_hw22 : k0_chk22 v3092), ∀ (r : Fin 2), ∀ a, (k0_off565 v3092 (BitVec.ofNat 32 (16 * r.val))) a + S1x16.size a ≤ S8x2048.size a := fun v3092 k0_hw22 r => k0_hw22.2.2.2.2.2.2.2.2.2.2.2.2.2.2.2.2.2.1 r
theorem k0_off566_inb : ∀ (v3092 : BitVec 32) (k0_hw22 : k0_chk22 v3092), ∀ (r : Fin 2), ∀ a, (k0_off566 v3092 (BitVec.ofNat 32 (16 * r.val))) a + S1x16.size a ≤ S8x2048.size a := fun v3092 k0_hw22 r => k0_hw22.2.2.2.2.2.2.2.2.2.2.2.2.2.2.2.2.2.2.1 r
theorem k0_off567_inb : ∀ (v3092 : BitVec 32) (k0_hw22 : k0_chk22 v3092), ∀ (r : Fin 2), ∀ a, (k0_off567 v3092 (BitVec.ofNat 32 (16 * r.val))) a + S1x16.size a ≤ S8x2048.size a := fun v3092 k0_hw22 r => k0_hw22.2.2.2.2.2.2.2.2.2.2.2.2.2.2.2.2.2.2.2.1 r
theorem k0_off568_inb : ∀ (v3092 : BitVec 32) (k0_hw22 : k0_chk22 v3092), ∀ (r : Fin 2), ∀ a, (k0_off568 v3092 (BitVec.ofNat 32 (16 * r.val))) a + S1x16.size a ≤ S8x2048.size a := fun v3092 k0_hw22 r => k0_hw22.2.2.2.2.2.2.2.2.2.2.2.2.2.2.2.2.2.2.2.2.1 r
theorem k0_off569_inb : ∀ (v3092 : BitVec 32) (k0_hw22 : k0_chk22 v3092), ∀ (r : Fin 2), ∀ a, (k0_off569 v3092 (BitVec.ofNat 32 (16 * r.val))) a + S1x16.size a ≤ S8x2048.size a := fun v3092 k0_hw22 r => k0_hw22.2.2.2.2.2.2.2.2.2.2.2.2.2.2.2.2.2.2.2.2.2.1 r
theorem k0_off570_inb : ∀ (v3092 : BitVec 32) (k0_hw22 : k0_chk22 v3092), ∀ (r : Fin 2), ∀ a, (k0_off570 v3092 (BitVec.ofNat 32 (16 * r.val))) a + S1x16.size a ≤ S8x2048.size a := fun v3092 k0_hw22 r => k0_hw22.2.2.2.2.2.2.2.2.2.2.2.2.2.2.2.2.2.2.2.2.2.2.1 r
theorem k0_off571_inb : ∀ (v3092 : BitVec 32) (k0_hw22 : k0_chk22 v3092), ∀ (r : Fin 2), ∀ a, (k0_off571 v3092 (BitVec.ofNat 32 (16 * r.val))) a + S1x16.size a ≤ S8x2048.size a := fun v3092 k0_hw22 r => k0_hw22.2.2.2.2.2.2.2.2.2.2.2.2.2.2.2.2.2.2.2.2.2.2.2 r

def k0_off572 (k0_t5 : Fin k0_t5_loop.trips) : Fin 1 → Nat :=
  let c0_i32_116 : BitVec 32 := 0#32
  let c1_i32_118 : BitVec 32 := 1#32
  let arg28 : BitVec 32 := Scf.iv c0_i32_116 c1_i32_118 k0_t5
  let c16_i32_954 : BitVec 32 := 16#32
  let v3499 : BitVec 32 := Scalar.muli arg28 c16_i32_954
  let c6_i32_955 : BitVec 32 := 6#32
  let v3500 : BitVec 32 := Scalar.addi v3499 c6_i32_955
  let c16_i32_956 : BitVec 32 := 16#32
  let v3501 : BitVec 32 := Scalar.muli v3500 c16_i32_956
  let v3502 : Index := Scalar.indexCast v3501
  ![v3502.toNat]
def k0_off573 (v3491 : BitVec 32) (c0_i32_957 : BitVec 32) : Fin 2 → Nat :=
  let c0_i32_958 : BitVec 32 := 0#32
  let v3506 : Index := Scalar.indexCast c0_i32_958
  let c63_i32_947 : BitVec 32 := 63#32
  let v3492 : BitVec 32 := Scalar.andi v3491 c63_i32_947
  let c32_i32_948 : BitVec 32 := 32#32
  let v3493 : BitVec 32 := Scalar.muli v3492 c32_i32_948
  let v3505 : BitVec 32 := Scalar.addi v3493 c0_i32_957
  let v3507 : Index := Scalar.indexCast v3505
  ![0, v3507.toNat]

def k0_off574 (v3491 : BitVec 32) (c0_i32_961 : BitVec 32) : Fin 2 → Nat :=
  let c1_i32_962 : BitVec 32 := 1#32
  let v3516 : Index := Scalar.indexCast c1_i32_962
  let c63_i32_947 : BitVec 32 := 63#32
  let v3492 : BitVec 32 := Scalar.andi v3491 c63_i32_947
  let c32_i32_948 : BitVec 32 := 32#32
  let v3493 : BitVec 32 := Scalar.muli v3492 c32_i32_948
  let v3515 : BitVec 32 := Scalar.addi v3493 c0_i32_961
  let v3517 : Index := Scalar.indexCast v3515
  ![1, v3517.toNat]
def k0_off575 (v3491 : BitVec 32) (c0_i32_965 : BitVec 32) : Fin 2 → Nat :=
  let c2_i32_966 : BitVec 32 := 2#32
  let v3526 : Index := Scalar.indexCast c2_i32_966
  let c63_i32_947 : BitVec 32 := 63#32
  let v3492 : BitVec 32 := Scalar.andi v3491 c63_i32_947
  let c32_i32_948 : BitVec 32 := 32#32
  let v3493 : BitVec 32 := Scalar.muli v3492 c32_i32_948
  let v3525 : BitVec 32 := Scalar.addi v3493 c0_i32_965
  let v3527 : Index := Scalar.indexCast v3525
  ![2, v3527.toNat]
def k0_off576 (v3491 : BitVec 32) (c0_i32_969 : BitVec 32) : Fin 2 → Nat :=
  let c3_i32_970 : BitVec 32 := 3#32
  let v3536 : Index := Scalar.indexCast c3_i32_970
  let c63_i32_947 : BitVec 32 := 63#32
  let v3492 : BitVec 32 := Scalar.andi v3491 c63_i32_947
  let c32_i32_948 : BitVec 32 := 32#32
  let v3493 : BitVec 32 := Scalar.muli v3492 c32_i32_948
  let v3535 : BitVec 32 := Scalar.addi v3493 c0_i32_969
  let v3537 : Index := Scalar.indexCast v3535
  ![3, v3537.toNat]
def k0_off577 (v3491 : BitVec 32) (c0_i32_973 : BitVec 32) : Fin 2 → Nat :=
  let c4_i32_974 : BitVec 32 := 4#32
  let v3546 : Index := Scalar.indexCast c4_i32_974
  let c63_i32_947 : BitVec 32 := 63#32
  let v3492 : BitVec 32 := Scalar.andi v3491 c63_i32_947
  let c32_i32_948 : BitVec 32 := 32#32
  let v3493 : BitVec 32 := Scalar.muli v3492 c32_i32_948
  let v3545 : BitVec 32 := Scalar.addi v3493 c0_i32_973
  let v3547 : Index := Scalar.indexCast v3545
  ![4, v3547.toNat]
def k0_off578 (v3491 : BitVec 32) (c0_i32_977 : BitVec 32) : Fin 2 → Nat :=
  let c5_i32_978 : BitVec 32 := 5#32
  let v3556 : Index := Scalar.indexCast c5_i32_978
  let c63_i32_947 : BitVec 32 := 63#32
  let v3492 : BitVec 32 := Scalar.andi v3491 c63_i32_947
  let c32_i32_948 : BitVec 32 := 32#32
  let v3493 : BitVec 32 := Scalar.muli v3492 c32_i32_948
  let v3555 : BitVec 32 := Scalar.addi v3493 c0_i32_977
  let v3557 : Index := Scalar.indexCast v3555
  ![5, v3557.toNat]
def k0_off579 (v3491 : BitVec 32) (c0_i32_981 : BitVec 32) : Fin 2 → Nat :=
  let c6_i32_982 : BitVec 32 := 6#32
  let v3566 : Index := Scalar.indexCast c6_i32_982
  let c63_i32_947 : BitVec 32 := 63#32
  let v3492 : BitVec 32 := Scalar.andi v3491 c63_i32_947
  let c32_i32_948 : BitVec 32 := 32#32
  let v3493 : BitVec 32 := Scalar.muli v3492 c32_i32_948
  let v3565 : BitVec 32 := Scalar.addi v3493 c0_i32_981
  let v3567 : Index := Scalar.indexCast v3565
  ![6, v3567.toNat]
def k0_off580 (v3491 : BitVec 32) (c0_i32_985 : BitVec 32) : Fin 2 → Nat :=
  let c7_i32_986 : BitVec 32 := 7#32
  let v3576 : Index := Scalar.indexCast c7_i32_986
  let c63_i32_947 : BitVec 32 := 63#32
  let v3492 : BitVec 32 := Scalar.andi v3491 c63_i32_947
  let c32_i32_948 : BitVec 32 := 32#32
  let v3493 : BitVec 32 := Scalar.muli v3492 c32_i32_948
  let v3575 : BitVec 32 := Scalar.addi v3493 c0_i32_985
  let v3577 : Index := Scalar.indexCast v3575
  ![7, v3577.toNat]
def k0_off581 (v3491 : BitVec 32) (c0_i32_989 : BitVec 32) : Fin 2 → Nat :=
  let c0_i32_990 : BitVec 32 := 0#32
  let v3586 : Index := Scalar.indexCast c0_i32_990
  let c6_i32_949 : BitVec 32 := 6#32
  let v3494 : BitVec 32 := Scalar.shrsi v3491 c6_i32_949
  let c63_i32_950 : BitVec 32 := 63#32
  let v3495 : BitVec 32 := Scalar.andi v3494 c63_i32_950
  let c32_i32_951 : BitVec 32 := 32#32
  let v3496 : BitVec 32 := Scalar.muli v3495 c32_i32_951
  let v3585 : BitVec 32 := Scalar.addi v3496 c0_i32_989
  let v3587 : Index := Scalar.indexCast v3585
  ![0, v3587.toNat]
def k0_off582 (v3491 : BitVec 32) (c0_i32_993 : BitVec 32) : Fin 2 → Nat :=
  let c1_i32_994 : BitVec 32 := 1#32
  let v3596 : Index := Scalar.indexCast c1_i32_994
  let c6_i32_949 : BitVec 32 := 6#32
  let v3494 : BitVec 32 := Scalar.shrsi v3491 c6_i32_949
  let c63_i32_950 : BitVec 32 := 63#32
  let v3495 : BitVec 32 := Scalar.andi v3494 c63_i32_950
  let c32_i32_951 : BitVec 32 := 32#32
  let v3496 : BitVec 32 := Scalar.muli v3495 c32_i32_951
  let v3595 : BitVec 32 := Scalar.addi v3496 c0_i32_993
  let v3597 : Index := Scalar.indexCast v3595
  ![1, v3597.toNat]
def k0_off583 (v3491 : BitVec 32) (c0_i32_997 : BitVec 32) : Fin 2 → Nat :=
  let c2_i32_998 : BitVec 32 := 2#32
  let v3606 : Index := Scalar.indexCast c2_i32_998
  let c6_i32_949 : BitVec 32 := 6#32
  let v3494 : BitVec 32 := Scalar.shrsi v3491 c6_i32_949
  let c63_i32_950 : BitVec 32 := 63#32
  let v3495 : BitVec 32 := Scalar.andi v3494 c63_i32_950
  let c32_i32_951 : BitVec 32 := 32#32
  let v3496 : BitVec 32 := Scalar.muli v3495 c32_i32_951
  let v3605 : BitVec 32 := Scalar.addi v3496 c0_i32_997
  let v3607 : Index := Scalar.indexCast v3605
  ![2, v3607.toNat]
def k0_off584 (v3491 : BitVec 32) (c0_i32_1001 : BitVec 32) : Fin 2 → Nat :=
  let c3_i32_1002 : BitVec 32 := 3#32
  let v3616 : Index := Scalar.indexCast c3_i32_1002
  let c6_i32_949 : BitVec 32 := 6#32
  let v3494 : BitVec 32 := Scalar.shrsi v3491 c6_i32_949
  let c63_i32_950 : BitVec 32 := 63#32
  let v3495 : BitVec 32 := Scalar.andi v3494 c63_i32_950
  let c32_i32_951 : BitVec 32 := 32#32
  let v3496 : BitVec 32 := Scalar.muli v3495 c32_i32_951
  let v3615 : BitVec 32 := Scalar.addi v3496 c0_i32_1001
  let v3617 : Index := Scalar.indexCast v3615
  ![3, v3617.toNat]
def k0_off585 (v3491 : BitVec 32) (c0_i32_1005 : BitVec 32) : Fin 2 → Nat :=
  let c4_i32_1006 : BitVec 32 := 4#32
  let v3626 : Index := Scalar.indexCast c4_i32_1006
  let c6_i32_949 : BitVec 32 := 6#32
  let v3494 : BitVec 32 := Scalar.shrsi v3491 c6_i32_949
  let c63_i32_950 : BitVec 32 := 63#32
  let v3495 : BitVec 32 := Scalar.andi v3494 c63_i32_950
  let c32_i32_951 : BitVec 32 := 32#32
  let v3496 : BitVec 32 := Scalar.muli v3495 c32_i32_951
  let v3625 : BitVec 32 := Scalar.addi v3496 c0_i32_1005
  let v3627 : Index := Scalar.indexCast v3625
  ![4, v3627.toNat]
def k0_off586 (v3491 : BitVec 32) (c0_i32_1009 : BitVec 32) : Fin 2 → Nat :=
  let c5_i32_1010 : BitVec 32 := 5#32
  let v3636 : Index := Scalar.indexCast c5_i32_1010
  let c6_i32_949 : BitVec 32 := 6#32
  let v3494 : BitVec 32 := Scalar.shrsi v3491 c6_i32_949
  let c63_i32_950 : BitVec 32 := 63#32
  let v3495 : BitVec 32 := Scalar.andi v3494 c63_i32_950
  let c32_i32_951 : BitVec 32 := 32#32
  let v3496 : BitVec 32 := Scalar.muli v3495 c32_i32_951
  let v3635 : BitVec 32 := Scalar.addi v3496 c0_i32_1009
  let v3637 : Index := Scalar.indexCast v3635
  ![5, v3637.toNat]
def k0_off587 (v3491 : BitVec 32) (c0_i32_1013 : BitVec 32) : Fin 2 → Nat :=
  let c6_i32_1014 : BitVec 32 := 6#32
  let v3646 : Index := Scalar.indexCast c6_i32_1014
  let c6_i32_949 : BitVec 32 := 6#32
  let v3494 : BitVec 32 := Scalar.shrsi v3491 c6_i32_949
  let c63_i32_950 : BitVec 32 := 63#32
  let v3495 : BitVec 32 := Scalar.andi v3494 c63_i32_950
  let c32_i32_951 : BitVec 32 := 32#32
  let v3496 : BitVec 32 := Scalar.muli v3495 c32_i32_951
  let v3645 : BitVec 32 := Scalar.addi v3496 c0_i32_1013
  let v3647 : Index := Scalar.indexCast v3645
  ![6, v3647.toNat]
def k0_off588 (v3491 : BitVec 32) (c0_i32_1017 : BitVec 32) : Fin 2 → Nat :=
  let c7_i32_1018 : BitVec 32 := 7#32
  let v3656 : Index := Scalar.indexCast c7_i32_1018
  let c6_i32_949 : BitVec 32 := 6#32
  let v3494 : BitVec 32 := Scalar.shrsi v3491 c6_i32_949
  let c63_i32_950 : BitVec 32 := 63#32
  let v3495 : BitVec 32 := Scalar.andi v3494 c63_i32_950
  let c32_i32_951 : BitVec 32 := 32#32
  let v3496 : BitVec 32 := Scalar.muli v3495 c32_i32_951
  let v3655 : BitVec 32 := Scalar.addi v3496 c0_i32_1017
  let v3657 : Index := Scalar.indexCast v3655
  ![7, v3657.toNat]
def k0_off589 (v3491 : BitVec 32) (c0_i32_1021 : BitVec 32) : Fin 2 → Nat :=
  let c0_i32_1022 : BitVec 32 := 0#32
  let v3698 : Index := Scalar.indexCast c0_i32_1022
  let c12_i32_952 : BitVec 32 := 12#32
  let v3497 : BitVec 32 := Scalar.shrsi v3491 c12_i32_952
  let c32_i32_953 : BitVec 32 := 32#32
  let v3498 : BitVec 32 := Scalar.muli v3497 c32_i32_953
  let v3697 : BitVec 32 := Scalar.addi v3498 c0_i32_1021
  let v3699 : Index := Scalar.indexCast v3697
  ![0, v3699.toNat]
def k0_off590 (v3491 : BitVec 32) (c0_i32_1029 : BitVec 32) : Fin 2 → Nat :=
  let c1_i32_1030 : BitVec 32 := 1#32
  let v3722 : Index := Scalar.indexCast c1_i32_1030
  let c12_i32_952 : BitVec 32 := 12#32
  let v3497 : BitVec 32 := Scalar.shrsi v3491 c12_i32_952
  let c32_i32_953 : BitVec 32 := 32#32
  let v3498 : BitVec 32 := Scalar.muli v3497 c32_i32_953
  let v3721 : BitVec 32 := Scalar.addi v3498 c0_i32_1029
  let v3723 : Index := Scalar.indexCast v3721
  ![1, v3723.toNat]
def k0_off591 (v3491 : BitVec 32) (c0_i32_1037 : BitVec 32) : Fin 2 → Nat :=
  let c2_i32_1038 : BitVec 32 := 2#32
  let v3746 : Index := Scalar.indexCast c2_i32_1038
  let c12_i32_952 : BitVec 32 := 12#32
  let v3497 : BitVec 32 := Scalar.shrsi v3491 c12_i32_952
  let c32_i32_953 : BitVec 32 := 32#32
  let v3498 : BitVec 32 := Scalar.muli v3497 c32_i32_953
  let v3745 : BitVec 32 := Scalar.addi v3498 c0_i32_1037
  let v3747 : Index := Scalar.indexCast v3745
  ![2, v3747.toNat]
def k0_off592 (v3491 : BitVec 32) (c0_i32_1045 : BitVec 32) : Fin 2 → Nat :=
  let c3_i32_1046 : BitVec 32 := 3#32
  let v3770 : Index := Scalar.indexCast c3_i32_1046
  let c12_i32_952 : BitVec 32 := 12#32
  let v3497 : BitVec 32 := Scalar.shrsi v3491 c12_i32_952
  let c32_i32_953 : BitVec 32 := 32#32
  let v3498 : BitVec 32 := Scalar.muli v3497 c32_i32_953
  let v3769 : BitVec 32 := Scalar.addi v3498 c0_i32_1045
  let v3771 : Index := Scalar.indexCast v3769
  ![3, v3771.toNat]
def k0_off593 (v3491 : BitVec 32) (c0_i32_1053 : BitVec 32) : Fin 2 → Nat :=
  let c4_i32_1054 : BitVec 32 := 4#32
  let v3794 : Index := Scalar.indexCast c4_i32_1054
  let c12_i32_952 : BitVec 32 := 12#32
  let v3497 : BitVec 32 := Scalar.shrsi v3491 c12_i32_952
  let c32_i32_953 : BitVec 32 := 32#32
  let v3498 : BitVec 32 := Scalar.muli v3497 c32_i32_953
  let v3793 : BitVec 32 := Scalar.addi v3498 c0_i32_1053
  let v3795 : Index := Scalar.indexCast v3793
  ![4, v3795.toNat]
def k0_off594 (v3491 : BitVec 32) (c0_i32_1061 : BitVec 32) : Fin 2 → Nat :=
  let c5_i32_1062 : BitVec 32 := 5#32
  let v3818 : Index := Scalar.indexCast c5_i32_1062
  let c12_i32_952 : BitVec 32 := 12#32
  let v3497 : BitVec 32 := Scalar.shrsi v3491 c12_i32_952
  let c32_i32_953 : BitVec 32 := 32#32
  let v3498 : BitVec 32 := Scalar.muli v3497 c32_i32_953
  let v3817 : BitVec 32 := Scalar.addi v3498 c0_i32_1061
  let v3819 : Index := Scalar.indexCast v3817
  ![5, v3819.toNat]
def k0_off595 (v3491 : BitVec 32) (c0_i32_1069 : BitVec 32) : Fin 2 → Nat :=
  let c6_i32_1070 : BitVec 32 := 6#32
  let v3842 : Index := Scalar.indexCast c6_i32_1070
  let c12_i32_952 : BitVec 32 := 12#32
  let v3497 : BitVec 32 := Scalar.shrsi v3491 c12_i32_952
  let c32_i32_953 : BitVec 32 := 32#32
  let v3498 : BitVec 32 := Scalar.muli v3497 c32_i32_953
  let v3841 : BitVec 32 := Scalar.addi v3498 c0_i32_1069
  let v3843 : Index := Scalar.indexCast v3841
  ![6, v3843.toNat]
def k0_off596 (v3491 : BitVec 32) (c0_i32_1077 : BitVec 32) : Fin 2 → Nat :=
  let c7_i32_1078 : BitVec 32 := 7#32
  let v3866 : Index := Scalar.indexCast c7_i32_1078
  let c12_i32_952 : BitVec 32 := 12#32
  let v3497 : BitVec 32 := Scalar.shrsi v3491 c12_i32_952
  let c32_i32_953 : BitVec 32 := 32#32
  let v3498 : BitVec 32 := Scalar.muli v3497 c32_i32_953
  let v3865 : BitVec 32 := Scalar.addi v3498 c0_i32_1077
  let v3867 : Index := Scalar.indexCast v3865
  ![7, v3867.toNat]

def k0_chk23 (v3491 : BitVec 32) : Prop :=
  (∀ (r : Fin 2), ∀ a, (k0_off573 v3491 (BitVec.ofNat 32 (16 * r.val))) a + S1x16.size a ≤ S8x2048.size a) ∧
  (∀ (r : Fin 2), ∀ a, (k0_off574 v3491 (BitVec.ofNat 32 (16 * r.val))) a + S1x16.size a ≤ S8x2048.size a) ∧
  (∀ (r : Fin 2), ∀ a, (k0_off575 v3491 (BitVec.ofNat 32 (16 * r.val))) a + S1x16.size a ≤ S8x2048.size a) ∧
  (∀ (r : Fin 2), ∀ a, (k0_off576 v3491 (BitVec.ofNat 32 (16 * r.val))) a + S1x16.size a ≤ S8x2048.size a) ∧
  (∀ (r : Fin 2), ∀ a, (k0_off577 v3491 (BitVec.ofNat 32 (16 * r.val))) a + S1x16.size a ≤ S8x2048.size a) ∧
  (∀ (r : Fin 2), ∀ a, (k0_off578 v3491 (BitVec.ofNat 32 (16 * r.val))) a + S1x16.size a ≤ S8x2048.size a) ∧
  (∀ (r : Fin 2), ∀ a, (k0_off579 v3491 (BitVec.ofNat 32 (16 * r.val))) a + S1x16.size a ≤ S8x2048.size a) ∧
  (∀ (r : Fin 2), ∀ a, (k0_off580 v3491 (BitVec.ofNat 32 (16 * r.val))) a + S1x16.size a ≤ S8x2048.size a) ∧
  (∀ (r : Fin 2), ∀ a, (k0_off581 v3491 (BitVec.ofNat 32 (16 * r.val))) a + S1x16.size a ≤ S8x2048.size a) ∧
  (∀ (r : Fin 2), ∀ a, (k0_off582 v3491 (BitVec.ofNat 32 (16 * r.val))) a + S1x16.size a ≤ S8x2048.size a) ∧
  (∀ (r : Fin 2), ∀ a, (k0_off583 v3491 (BitVec.ofNat 32 (16 * r.val))) a + S1x16.size a ≤ S8x2048.size a) ∧
  (∀ (r : Fin 2), ∀ a, (k0_off584 v3491 (BitVec.ofNat 32 (16 * r.val))) a + S1x16.size a ≤ S8x2048.size a) ∧
  (∀ (r : Fin 2), ∀ a, (k0_off585 v3491 (BitVec.ofNat 32 (16 * r.val))) a + S1x16.size a ≤ S8x2048.size a) ∧
  (∀ (r : Fin 2), ∀ a, (k0_off586 v3491 (BitVec.ofNat 32 (16 * r.val))) a + S1x16.size a ≤ S8x2048.size a) ∧
  (∀ (r : Fin 2), ∀ a, (k0_off587 v3491 (BitVec.ofNat 32 (16 * r.val))) a + S1x16.size a ≤ S8x2048.size a) ∧
  (∀ (r : Fin 2), ∀ a, (k0_off588 v3491 (BitVec.ofNat 32 (16 * r.val))) a + S1x16.size a ≤ S8x2048.size a) ∧
  (∀ (r : Fin 2), ∀ a, (k0_off589 v3491 (BitVec.ofNat 32 (16 * r.val))) a + S1x16.size a ≤ S8x2048.size a) ∧
  (∀ (r : Fin 2), ∀ a, (k0_off590 v3491 (BitVec.ofNat 32 (16 * r.val))) a + S1x16.size a ≤ S8x2048.size a) ∧
  (∀ (r : Fin 2), ∀ a, (k0_off591 v3491 (BitVec.ofNat 32 (16 * r.val))) a + S1x16.size a ≤ S8x2048.size a) ∧
  (∀ (r : Fin 2), ∀ a, (k0_off592 v3491 (BitVec.ofNat 32 (16 * r.val))) a + S1x16.size a ≤ S8x2048.size a) ∧
  (∀ (r : Fin 2), ∀ a, (k0_off593 v3491 (BitVec.ofNat 32 (16 * r.val))) a + S1x16.size a ≤ S8x2048.size a) ∧
  (∀ (r : Fin 2), ∀ a, (k0_off594 v3491 (BitVec.ofNat 32 (16 * r.val))) a + S1x16.size a ≤ S8x2048.size a) ∧
  (∀ (r : Fin 2), ∀ a, (k0_off595 v3491 (BitVec.ofNat 32 (16 * r.val))) a + S1x16.size a ≤ S8x2048.size a) ∧
  (∀ (r : Fin 2), ∀ a, (k0_off596 v3491 (BitVec.ofNat 32 (16 * r.val))) a + S1x16.size a ≤ S8x2048.size a)
theorem k0_off573_inb : ∀ (v3491 : BitVec 32) (k0_hw23 : k0_chk23 v3491), ∀ (r : Fin 2), ∀ a, (k0_off573 v3491 (BitVec.ofNat 32 (16 * r.val))) a + S1x16.size a ≤ S8x2048.size a := fun v3491 k0_hw23 r => k0_hw23.1 r
theorem k0_off574_inb : ∀ (v3491 : BitVec 32) (k0_hw23 : k0_chk23 v3491), ∀ (r : Fin 2), ∀ a, (k0_off574 v3491 (BitVec.ofNat 32 (16 * r.val))) a + S1x16.size a ≤ S8x2048.size a := fun v3491 k0_hw23 r => k0_hw23.2.1 r
theorem k0_off575_inb : ∀ (v3491 : BitVec 32) (k0_hw23 : k0_chk23 v3491), ∀ (r : Fin 2), ∀ a, (k0_off575 v3491 (BitVec.ofNat 32 (16 * r.val))) a + S1x16.size a ≤ S8x2048.size a := fun v3491 k0_hw23 r => k0_hw23.2.2.1 r
theorem k0_off576_inb : ∀ (v3491 : BitVec 32) (k0_hw23 : k0_chk23 v3491), ∀ (r : Fin 2), ∀ a, (k0_off576 v3491 (BitVec.ofNat 32 (16 * r.val))) a + S1x16.size a ≤ S8x2048.size a := fun v3491 k0_hw23 r => k0_hw23.2.2.2.1 r
theorem k0_off577_inb : ∀ (v3491 : BitVec 32) (k0_hw23 : k0_chk23 v3491), ∀ (r : Fin 2), ∀ a, (k0_off577 v3491 (BitVec.ofNat 32 (16 * r.val))) a + S1x16.size a ≤ S8x2048.size a := fun v3491 k0_hw23 r => k0_hw23.2.2.2.2.1 r
theorem k0_off578_inb : ∀ (v3491 : BitVec 32) (k0_hw23 : k0_chk23 v3491), ∀ (r : Fin 2), ∀ a, (k0_off578 v3491 (BitVec.ofNat 32 (16 * r.val))) a + S1x16.size a ≤ S8x2048.size a := fun v3491 k0_hw23 r => k0_hw23.2.2.2.2.2.1 r
theorem k0_off579_inb : ∀ (v3491 : BitVec 32) (k0_hw23 : k0_chk23 v3491), ∀ (r : Fin 2), ∀ a, (k0_off579 v3491 (BitVec.ofNat 32 (16 * r.val))) a + S1x16.size a ≤ S8x2048.size a := fun v3491 k0_hw23 r => k0_hw23.2.2.2.2.2.2.1 r
theorem k0_off580_inb : ∀ (v3491 : BitVec 32) (k0_hw23 : k0_chk23 v3491), ∀ (r : Fin 2), ∀ a, (k0_off580 v3491 (BitVec.ofNat 32 (16 * r.val))) a + S1x16.size a ≤ S8x2048.size a := fun v3491 k0_hw23 r => k0_hw23.2.2.2.2.2.2.2.1 r
theorem k0_off581_inb : ∀ (v3491 : BitVec 32) (k0_hw23 : k0_chk23 v3491), ∀ (r : Fin 2), ∀ a, (k0_off581 v3491 (BitVec.ofNat 32 (16 * r.val))) a + S1x16.size a ≤ S8x2048.size a := fun v3491 k0_hw23 r => k0_hw23.2.2.2.2.2.2.2.2.1 r
theorem k0_off582_inb : ∀ (v3491 : BitVec 32) (k0_hw23 : k0_chk23 v3491), ∀ (r : Fin 2), ∀ a, (k0_off582 v3491 (BitVec.ofNat 32 (16 * r.val))) a + S1x16.size a ≤ S8x2048.size a := fun v3491 k0_hw23 r => k0_hw23.2.2.2.2.2.2.2.2.2.1 r
theorem k0_off583_inb : ∀ (v3491 : BitVec 32) (k0_hw23 : k0_chk23 v3491), ∀ (r : Fin 2), ∀ a, (k0_off583 v3491 (BitVec.ofNat 32 (16 * r.val))) a + S1x16.size a ≤ S8x2048.size a := fun v3491 k0_hw23 r => k0_hw23.2.2.2.2.2.2.2.2.2.2.1 r
theorem k0_off584_inb : ∀ (v3491 : BitVec 32) (k0_hw23 : k0_chk23 v3491), ∀ (r : Fin 2), ∀ a, (k0_off584 v3491 (BitVec.ofNat 32 (16 * r.val))) a + S1x16.size a ≤ S8x2048.size a := fun v3491 k0_hw23 r => k0_hw23.2.2.2.2.2.2.2.2.2.2.2.1 r
theorem k0_off585_inb : ∀ (v3491 : BitVec 32) (k0_hw23 : k0_chk23 v3491), ∀ (r : Fin 2), ∀ a, (k0_off585 v3491 (BitVec.ofNat 32 (16 * r.val))) a + S1x16.size a ≤ S8x2048.size a := fun v3491 k0_hw23 r => k0_hw23.2.2.2.2.2.2.2.2.2.2.2.2.1 r
theorem k0_off586_inb : ∀ (v3491 : BitVec 32) (k0_hw23 : k0_chk23 v3491), ∀ (r : Fin 2), ∀ a, (k0_off586 v3491 (BitVec.ofNat 32 (16 * r.val))) a + S1x16.size a ≤ S8x2048.size a := fun v3491 k0_hw23 r => k0_hw23.2.2.2.2.2.2.2.2.2.2.2.2.2.1 r
theorem k0_off587_inb : ∀ (v3491 : BitVec 32) (k0_hw23 : k0_chk23 v3491), ∀ (r : Fin 2), ∀ a, (k0_off587 v3491 (BitVec.ofNat 32 (16 * r.val))) a + S1x16.size a ≤ S8x2048.size a := fun v3491 k0_hw23 r => k0_hw23.2.2.2.2.2.2.2.2.2.2.2.2.2.2.1 r
theorem k0_off588_inb : ∀ (v3491 : BitVec 32) (k0_hw23 : k0_chk23 v3491), ∀ (r : Fin 2), ∀ a, (k0_off588 v3491 (BitVec.ofNat 32 (16 * r.val))) a + S1x16.size a ≤ S8x2048.size a := fun v3491 k0_hw23 r => k0_hw23.2.2.2.2.2.2.2.2.2.2.2.2.2.2.2.1 r
theorem k0_off589_inb : ∀ (v3491 : BitVec 32) (k0_hw23 : k0_chk23 v3491), ∀ (r : Fin 2), ∀ a, (k0_off589 v3491 (BitVec.ofNat 32 (16 * r.val))) a + S1x16.size a ≤ S8x2048.size a := fun v3491 k0_hw23 r => k0_hw23.2.2.2.2.2.2.2.2.2.2.2.2.2.2.2.2.1 r
theorem k0_off590_inb : ∀ (v3491 : BitVec 32) (k0_hw23 : k0_chk23 v3491), ∀ (r : Fin 2), ∀ a, (k0_off590 v3491 (BitVec.ofNat 32 (16 * r.val))) a + S1x16.size a ≤ S8x2048.size a := fun v3491 k0_hw23 r => k0_hw23.2.2.2.2.2.2.2.2.2.2.2.2.2.2.2.2.2.1 r
theorem k0_off591_inb : ∀ (v3491 : BitVec 32) (k0_hw23 : k0_chk23 v3491), ∀ (r : Fin 2), ∀ a, (k0_off591 v3491 (BitVec.ofNat 32 (16 * r.val))) a + S1x16.size a ≤ S8x2048.size a := fun v3491 k0_hw23 r => k0_hw23.2.2.2.2.2.2.2.2.2.2.2.2.2.2.2.2.2.2.1 r
theorem k0_off592_inb : ∀ (v3491 : BitVec 32) (k0_hw23 : k0_chk23 v3491), ∀ (r : Fin 2), ∀ a, (k0_off592 v3491 (BitVec.ofNat 32 (16 * r.val))) a + S1x16.size a ≤ S8x2048.size a := fun v3491 k0_hw23 r => k0_hw23.2.2.2.2.2.2.2.2.2.2.2.2.2.2.2.2.2.2.2.1 r
theorem k0_off593_inb : ∀ (v3491 : BitVec 32) (k0_hw23 : k0_chk23 v3491), ∀ (r : Fin 2), ∀ a, (k0_off593 v3491 (BitVec.ofNat 32 (16 * r.val))) a + S1x16.size a ≤ S8x2048.size a := fun v3491 k0_hw23 r => k0_hw23.2.2.2.2.2.2.2.2.2.2.2.2.2.2.2.2.2.2.2.2.1 r
theorem k0_off594_inb : ∀ (v3491 : BitVec 32) (k0_hw23 : k0_chk23 v3491), ∀ (r : Fin 2), ∀ a, (k0_off594 v3491 (BitVec.ofNat 32 (16 * r.val))) a + S1x16.size a ≤ S8x2048.size a := fun v3491 k0_hw23 r => k0_hw23.2.2.2.2.2.2.2.2.2.2.2.2.2.2.2.2.2.2.2.2.2.1 r
theorem k0_off595_inb : ∀ (v3491 : BitVec 32) (k0_hw23 : k0_chk23 v3491), ∀ (r : Fin 2), ∀ a, (k0_off595 v3491 (BitVec.ofNat 32 (16 * r.val))) a + S1x16.size a ≤ S8x2048.size a := fun v3491 k0_hw23 r => k0_hw23.2.2.2.2.2.2.2.2.2.2.2.2.2.2.2.2.2.2.2.2.2.2.1 r
theorem k0_off596_inb : ∀ (v3491 : BitVec 32) (k0_hw23 : k0_chk23 v3491), ∀ (r : Fin 2), ∀ a, (k0_off596 v3491 (BitVec.ofNat 32 (16 * r.val))) a + S1x16.size a ≤ S8x2048.size a := fun v3491 k0_hw23 r => k0_hw23.2.2.2.2.2.2.2.2.2.2.2.2.2.2.2.2.2.2.2.2.2.2.2 r

def k0_off597 (k0_t5 : Fin k0_t5_loop.trips) : Fin 1 → Nat :=
  let c0_i32_116 : BitVec 32 := 0#32
  let c1_i32_118 : BitVec 32 := 1#32
  let arg28 : BitVec 32 := Scf.iv c0_i32_116 c1_i32_118 k0_t5
  let c16_i32_1092 : BitVec 32 := 16#32
  let v3898 : BitVec 32 := Scalar.muli arg28 c16_i32_1092
  let c7_i32_1093 : BitVec 32 := 7#32
  let v3899 : BitVec 32 := Scalar.addi v3898 c7_i32_1093
  let c16_i32_1094 : BitVec 32 := 16#32
  let v3900 : BitVec 32 := Scalar.muli v3899 c16_i32_1094
  let v3901 : Index := Scalar.indexCast v3900
  ![v3901.toNat]
def k0_off598 (v3890 : BitVec 32) (c0_i32_1095 : BitVec 32) : Fin 2 → Nat :=
  let c0_i32_1096 : BitVec 32 := 0#32
  let v3905 : Index := Scalar.indexCast c0_i32_1096
  let c63_i32_1085 : BitVec 32 := 63#32
  let v3891 : BitVec 32 := Scalar.andi v3890 c63_i32_1085
  let c32_i32_1086 : BitVec 32 := 32#32
  let v3892 : BitVec 32 := Scalar.muli v3891 c32_i32_1086
  let v3904 : BitVec 32 := Scalar.addi v3892 c0_i32_1095
  let v3906 : Index := Scalar.indexCast v3904
  ![0, v3906.toNat]

def k0_off599 (v3890 : BitVec 32) (c0_i32_1099 : BitVec 32) : Fin 2 → Nat :=
  let c1_i32_1100 : BitVec 32 := 1#32
  let v3915 : Index := Scalar.indexCast c1_i32_1100
  let c63_i32_1085 : BitVec 32 := 63#32
  let v3891 : BitVec 32 := Scalar.andi v3890 c63_i32_1085
  let c32_i32_1086 : BitVec 32 := 32#32
  let v3892 : BitVec 32 := Scalar.muli v3891 c32_i32_1086
  let v3914 : BitVec 32 := Scalar.addi v3892 c0_i32_1099
  let v3916 : Index := Scalar.indexCast v3914
  ![1, v3916.toNat]
def k0_off600 (v3890 : BitVec 32) (c0_i32_1103 : BitVec 32) : Fin 2 → Nat :=
  let c2_i32_1104 : BitVec 32 := 2#32
  let v3925 : Index := Scalar.indexCast c2_i32_1104
  let c63_i32_1085 : BitVec 32 := 63#32
  let v3891 : BitVec 32 := Scalar.andi v3890 c63_i32_1085
  let c32_i32_1086 : BitVec 32 := 32#32
  let v3892 : BitVec 32 := Scalar.muli v3891 c32_i32_1086
  let v3924 : BitVec 32 := Scalar.addi v3892 c0_i32_1103
  let v3926 : Index := Scalar.indexCast v3924
  ![2, v3926.toNat]
def k0_off601 (v3890 : BitVec 32) (c0_i32_1107 : BitVec 32) : Fin 2 → Nat :=
  let c3_i32_1108 : BitVec 32 := 3#32
  let v3935 : Index := Scalar.indexCast c3_i32_1108
  let c63_i32_1085 : BitVec 32 := 63#32
  let v3891 : BitVec 32 := Scalar.andi v3890 c63_i32_1085
  let c32_i32_1086 : BitVec 32 := 32#32
  let v3892 : BitVec 32 := Scalar.muli v3891 c32_i32_1086
  let v3934 : BitVec 32 := Scalar.addi v3892 c0_i32_1107
  let v3936 : Index := Scalar.indexCast v3934
  ![3, v3936.toNat]
def k0_off602 (v3890 : BitVec 32) (c0_i32_1111 : BitVec 32) : Fin 2 → Nat :=
  let c4_i32_1112 : BitVec 32 := 4#32
  let v3945 : Index := Scalar.indexCast c4_i32_1112
  let c63_i32_1085 : BitVec 32 := 63#32
  let v3891 : BitVec 32 := Scalar.andi v3890 c63_i32_1085
  let c32_i32_1086 : BitVec 32 := 32#32
  let v3892 : BitVec 32 := Scalar.muli v3891 c32_i32_1086
  let v3944 : BitVec 32 := Scalar.addi v3892 c0_i32_1111
  let v3946 : Index := Scalar.indexCast v3944
  ![4, v3946.toNat]
def k0_off603 (v3890 : BitVec 32) (c0_i32_1115 : BitVec 32) : Fin 2 → Nat :=
  let c5_i32_1116 : BitVec 32 := 5#32
  let v3955 : Index := Scalar.indexCast c5_i32_1116
  let c63_i32_1085 : BitVec 32 := 63#32
  let v3891 : BitVec 32 := Scalar.andi v3890 c63_i32_1085
  let c32_i32_1086 : BitVec 32 := 32#32
  let v3892 : BitVec 32 := Scalar.muli v3891 c32_i32_1086
  let v3954 : BitVec 32 := Scalar.addi v3892 c0_i32_1115
  let v3956 : Index := Scalar.indexCast v3954
  ![5, v3956.toNat]
def k0_off604 (v3890 : BitVec 32) (c0_i32_1119 : BitVec 32) : Fin 2 → Nat :=
  let c6_i32_1120 : BitVec 32 := 6#32
  let v3965 : Index := Scalar.indexCast c6_i32_1120
  let c63_i32_1085 : BitVec 32 := 63#32
  let v3891 : BitVec 32 := Scalar.andi v3890 c63_i32_1085
  let c32_i32_1086 : BitVec 32 := 32#32
  let v3892 : BitVec 32 := Scalar.muli v3891 c32_i32_1086
  let v3964 : BitVec 32 := Scalar.addi v3892 c0_i32_1119
  let v3966 : Index := Scalar.indexCast v3964
  ![6, v3966.toNat]
def k0_off605 (v3890 : BitVec 32) (c0_i32_1123 : BitVec 32) : Fin 2 → Nat :=
  let c7_i32_1124 : BitVec 32 := 7#32
  let v3975 : Index := Scalar.indexCast c7_i32_1124
  let c63_i32_1085 : BitVec 32 := 63#32
  let v3891 : BitVec 32 := Scalar.andi v3890 c63_i32_1085
  let c32_i32_1086 : BitVec 32 := 32#32
  let v3892 : BitVec 32 := Scalar.muli v3891 c32_i32_1086
  let v3974 : BitVec 32 := Scalar.addi v3892 c0_i32_1123
  let v3976 : Index := Scalar.indexCast v3974
  ![7, v3976.toNat]
def k0_off606 (v3890 : BitVec 32) (c0_i32_1127 : BitVec 32) : Fin 2 → Nat :=
  let c0_i32_1128 : BitVec 32 := 0#32
  let v3985 : Index := Scalar.indexCast c0_i32_1128
  let c6_i32_1087 : BitVec 32 := 6#32
  let v3893 : BitVec 32 := Scalar.shrsi v3890 c6_i32_1087
  let c63_i32_1088 : BitVec 32 := 63#32
  let v3894 : BitVec 32 := Scalar.andi v3893 c63_i32_1088
  let c32_i32_1089 : BitVec 32 := 32#32
  let v3895 : BitVec 32 := Scalar.muli v3894 c32_i32_1089
  let v3984 : BitVec 32 := Scalar.addi v3895 c0_i32_1127
  let v3986 : Index := Scalar.indexCast v3984
  ![0, v3986.toNat]
def k0_off607 (v3890 : BitVec 32) (c0_i32_1131 : BitVec 32) : Fin 2 → Nat :=
  let c1_i32_1132 : BitVec 32 := 1#32
  let v3995 : Index := Scalar.indexCast c1_i32_1132
  let c6_i32_1087 : BitVec 32 := 6#32
  let v3893 : BitVec 32 := Scalar.shrsi v3890 c6_i32_1087
  let c63_i32_1088 : BitVec 32 := 63#32
  let v3894 : BitVec 32 := Scalar.andi v3893 c63_i32_1088
  let c32_i32_1089 : BitVec 32 := 32#32
  let v3895 : BitVec 32 := Scalar.muli v3894 c32_i32_1089
  let v3994 : BitVec 32 := Scalar.addi v3895 c0_i32_1131
  let v3996 : Index := Scalar.indexCast v3994
  ![1, v3996.toNat]
def k0_off608 (v3890 : BitVec 32) (c0_i32_1135 : BitVec 32) : Fin 2 → Nat :=
  let c2_i32_1136 : BitVec 32 := 2#32
  let v4005 : Index := Scalar.indexCast c2_i32_1136
  let c6_i32_1087 : BitVec 32 := 6#32
  let v3893 : BitVec 32 := Scalar.shrsi v3890 c6_i32_1087
  let c63_i32_1088 : BitVec 32 := 63#32
  let v3894 : BitVec 32 := Scalar.andi v3893 c63_i32_1088
  let c32_i32_1089 : BitVec 32 := 32#32
  let v3895 : BitVec 32 := Scalar.muli v3894 c32_i32_1089
  let v4004 : BitVec 32 := Scalar.addi v3895 c0_i32_1135
  let v4006 : Index := Scalar.indexCast v4004
  ![2, v4006.toNat]
def k0_off609 (v3890 : BitVec 32) (c0_i32_1139 : BitVec 32) : Fin 2 → Nat :=
  let c3_i32_1140 : BitVec 32 := 3#32
  let v4015 : Index := Scalar.indexCast c3_i32_1140
  let c6_i32_1087 : BitVec 32 := 6#32
  let v3893 : BitVec 32 := Scalar.shrsi v3890 c6_i32_1087
  let c63_i32_1088 : BitVec 32 := 63#32
  let v3894 : BitVec 32 := Scalar.andi v3893 c63_i32_1088
  let c32_i32_1089 : BitVec 32 := 32#32
  let v3895 : BitVec 32 := Scalar.muli v3894 c32_i32_1089
  let v4014 : BitVec 32 := Scalar.addi v3895 c0_i32_1139
  let v4016 : Index := Scalar.indexCast v4014
  ![3, v4016.toNat]
def k0_off610 (v3890 : BitVec 32) (c0_i32_1143 : BitVec 32) : Fin 2 → Nat :=
  let c4_i32_1144 : BitVec 32 := 4#32
  let v4025 : Index := Scalar.indexCast c4_i32_1144
  let c6_i32_1087 : BitVec 32 := 6#32
  let v3893 : BitVec 32 := Scalar.shrsi v3890 c6_i32_1087
  let c63_i32_1088 : BitVec 32 := 63#32
  let v3894 : BitVec 32 := Scalar.andi v3893 c63_i32_1088
  let c32_i32_1089 : BitVec 32 := 32#32
  let v3895 : BitVec 32 := Scalar.muli v3894 c32_i32_1089
  let v4024 : BitVec 32 := Scalar.addi v3895 c0_i32_1143
  let v4026 : Index := Scalar.indexCast v4024
  ![4, v4026.toNat]
def k0_off611 (v3890 : BitVec 32) (c0_i32_1147 : BitVec 32) : Fin 2 → Nat :=
  let c5_i32_1148 : BitVec 32 := 5#32
  let v4035 : Index := Scalar.indexCast c5_i32_1148
  let c6_i32_1087 : BitVec 32 := 6#32
  let v3893 : BitVec 32 := Scalar.shrsi v3890 c6_i32_1087
  let c63_i32_1088 : BitVec 32 := 63#32
  let v3894 : BitVec 32 := Scalar.andi v3893 c63_i32_1088
  let c32_i32_1089 : BitVec 32 := 32#32
  let v3895 : BitVec 32 := Scalar.muli v3894 c32_i32_1089
  let v4034 : BitVec 32 := Scalar.addi v3895 c0_i32_1147
  let v4036 : Index := Scalar.indexCast v4034
  ![5, v4036.toNat]
def k0_off612 (v3890 : BitVec 32) (c0_i32_1151 : BitVec 32) : Fin 2 → Nat :=
  let c6_i32_1152 : BitVec 32 := 6#32
  let v4045 : Index := Scalar.indexCast c6_i32_1152
  let c6_i32_1087 : BitVec 32 := 6#32
  let v3893 : BitVec 32 := Scalar.shrsi v3890 c6_i32_1087
  let c63_i32_1088 : BitVec 32 := 63#32
  let v3894 : BitVec 32 := Scalar.andi v3893 c63_i32_1088
  let c32_i32_1089 : BitVec 32 := 32#32
  let v3895 : BitVec 32 := Scalar.muli v3894 c32_i32_1089
  let v4044 : BitVec 32 := Scalar.addi v3895 c0_i32_1151
  let v4046 : Index := Scalar.indexCast v4044
  ![6, v4046.toNat]
def k0_off613 (v3890 : BitVec 32) (c0_i32_1155 : BitVec 32) : Fin 2 → Nat :=
  let c7_i32_1156 : BitVec 32 := 7#32
  let v4055 : Index := Scalar.indexCast c7_i32_1156
  let c6_i32_1087 : BitVec 32 := 6#32
  let v3893 : BitVec 32 := Scalar.shrsi v3890 c6_i32_1087
  let c63_i32_1088 : BitVec 32 := 63#32
  let v3894 : BitVec 32 := Scalar.andi v3893 c63_i32_1088
  let c32_i32_1089 : BitVec 32 := 32#32
  let v3895 : BitVec 32 := Scalar.muli v3894 c32_i32_1089
  let v4054 : BitVec 32 := Scalar.addi v3895 c0_i32_1155
  let v4056 : Index := Scalar.indexCast v4054
  ![7, v4056.toNat]
def k0_off614 (v3890 : BitVec 32) (c0_i32_1159 : BitVec 32) : Fin 2 → Nat :=
  let c0_i32_1160 : BitVec 32 := 0#32
  let v4097 : Index := Scalar.indexCast c0_i32_1160
  let c12_i32_1090 : BitVec 32 := 12#32
  let v3896 : BitVec 32 := Scalar.shrsi v3890 c12_i32_1090
  let c32_i32_1091 : BitVec 32 := 32#32
  let v3897 : BitVec 32 := Scalar.muli v3896 c32_i32_1091
  let v4096 : BitVec 32 := Scalar.addi v3897 c0_i32_1159
  let v4098 : Index := Scalar.indexCast v4096
  ![0, v4098.toNat]
def k0_off615 (v3890 : BitVec 32) (c0_i32_1167 : BitVec 32) : Fin 2 → Nat :=
  let c1_i32_1168 : BitVec 32 := 1#32
  let v4121 : Index := Scalar.indexCast c1_i32_1168
  let c12_i32_1090 : BitVec 32 := 12#32
  let v3896 : BitVec 32 := Scalar.shrsi v3890 c12_i32_1090
  let c32_i32_1091 : BitVec 32 := 32#32
  let v3897 : BitVec 32 := Scalar.muli v3896 c32_i32_1091
  let v4120 : BitVec 32 := Scalar.addi v3897 c0_i32_1167
  let v4122 : Index := Scalar.indexCast v4120
  ![1, v4122.toNat]
def k0_off616 (v3890 : BitVec 32) (c0_i32_1175 : BitVec 32) : Fin 2 → Nat :=
  let c2_i32_1176 : BitVec 32 := 2#32
  let v4145 : Index := Scalar.indexCast c2_i32_1176
  let c12_i32_1090 : BitVec 32 := 12#32
  let v3896 : BitVec 32 := Scalar.shrsi v3890 c12_i32_1090
  let c32_i32_1091 : BitVec 32 := 32#32
  let v3897 : BitVec 32 := Scalar.muli v3896 c32_i32_1091
  let v4144 : BitVec 32 := Scalar.addi v3897 c0_i32_1175
  let v4146 : Index := Scalar.indexCast v4144
  ![2, v4146.toNat]
def k0_off617 (v3890 : BitVec 32) (c0_i32_1183 : BitVec 32) : Fin 2 → Nat :=
  let c3_i32_1184 : BitVec 32 := 3#32
  let v4169 : Index := Scalar.indexCast c3_i32_1184
  let c12_i32_1090 : BitVec 32 := 12#32
  let v3896 : BitVec 32 := Scalar.shrsi v3890 c12_i32_1090
  let c32_i32_1091 : BitVec 32 := 32#32
  let v3897 : BitVec 32 := Scalar.muli v3896 c32_i32_1091
  let v4168 : BitVec 32 := Scalar.addi v3897 c0_i32_1183
  let v4170 : Index := Scalar.indexCast v4168
  ![3, v4170.toNat]
def k0_off618 (v3890 : BitVec 32) (c0_i32_1191 : BitVec 32) : Fin 2 → Nat :=
  let c4_i32_1192 : BitVec 32 := 4#32
  let v4193 : Index := Scalar.indexCast c4_i32_1192
  let c12_i32_1090 : BitVec 32 := 12#32
  let v3896 : BitVec 32 := Scalar.shrsi v3890 c12_i32_1090
  let c32_i32_1091 : BitVec 32 := 32#32
  let v3897 : BitVec 32 := Scalar.muli v3896 c32_i32_1091
  let v4192 : BitVec 32 := Scalar.addi v3897 c0_i32_1191
  let v4194 : Index := Scalar.indexCast v4192
  ![4, v4194.toNat]
def k0_off619 (v3890 : BitVec 32) (c0_i32_1199 : BitVec 32) : Fin 2 → Nat :=
  let c5_i32_1200 : BitVec 32 := 5#32
  let v4217 : Index := Scalar.indexCast c5_i32_1200
  let c12_i32_1090 : BitVec 32 := 12#32
  let v3896 : BitVec 32 := Scalar.shrsi v3890 c12_i32_1090
  let c32_i32_1091 : BitVec 32 := 32#32
  let v3897 : BitVec 32 := Scalar.muli v3896 c32_i32_1091
  let v4216 : BitVec 32 := Scalar.addi v3897 c0_i32_1199
  let v4218 : Index := Scalar.indexCast v4216
  ![5, v4218.toNat]
def k0_off620 (v3890 : BitVec 32) (c0_i32_1207 : BitVec 32) : Fin 2 → Nat :=
  let c6_i32_1208 : BitVec 32 := 6#32
  let v4241 : Index := Scalar.indexCast c6_i32_1208
  let c12_i32_1090 : BitVec 32 := 12#32
  let v3896 : BitVec 32 := Scalar.shrsi v3890 c12_i32_1090
  let c32_i32_1091 : BitVec 32 := 32#32
  let v3897 : BitVec 32 := Scalar.muli v3896 c32_i32_1091
  let v4240 : BitVec 32 := Scalar.addi v3897 c0_i32_1207
  let v4242 : Index := Scalar.indexCast v4240
  ![6, v4242.toNat]
def k0_off621 (v3890 : BitVec 32) (c0_i32_1215 : BitVec 32) : Fin 2 → Nat :=
  let c7_i32_1216 : BitVec 32 := 7#32
  let v4265 : Index := Scalar.indexCast c7_i32_1216
  let c12_i32_1090 : BitVec 32 := 12#32
  let v3896 : BitVec 32 := Scalar.shrsi v3890 c12_i32_1090
  let c32_i32_1091 : BitVec 32 := 32#32
  let v3897 : BitVec 32 := Scalar.muli v3896 c32_i32_1091
  let v4264 : BitVec 32 := Scalar.addi v3897 c0_i32_1215
  let v4266 : Index := Scalar.indexCast v4264
  ![7, v4266.toNat]

def k0_chk24 (v3890 : BitVec 32) : Prop :=
  (∀ (r : Fin 2), ∀ a, (k0_off598 v3890 (BitVec.ofNat 32 (16 * r.val))) a + S1x16.size a ≤ S8x2048.size a) ∧
  (∀ (r : Fin 2), ∀ a, (k0_off599 v3890 (BitVec.ofNat 32 (16 * r.val))) a + S1x16.size a ≤ S8x2048.size a) ∧
  (∀ (r : Fin 2), ∀ a, (k0_off600 v3890 (BitVec.ofNat 32 (16 * r.val))) a + S1x16.size a ≤ S8x2048.size a) ∧
  (∀ (r : Fin 2), ∀ a, (k0_off601 v3890 (BitVec.ofNat 32 (16 * r.val))) a + S1x16.size a ≤ S8x2048.size a) ∧
  (∀ (r : Fin 2), ∀ a, (k0_off602 v3890 (BitVec.ofNat 32 (16 * r.val))) a + S1x16.size a ≤ S8x2048.size a) ∧
  (∀ (r : Fin 2), ∀ a, (k0_off603 v3890 (BitVec.ofNat 32 (16 * r.val))) a + S1x16.size a ≤ S8x2048.size a) ∧
  (∀ (r : Fin 2), ∀ a, (k0_off604 v3890 (BitVec.ofNat 32 (16 * r.val))) a + S1x16.size a ≤ S8x2048.size a) ∧
  (∀ (r : Fin 2), ∀ a, (k0_off605 v3890 (BitVec.ofNat 32 (16 * r.val))) a + S1x16.size a ≤ S8x2048.size a) ∧
  (∀ (r : Fin 2), ∀ a, (k0_off606 v3890 (BitVec.ofNat 32 (16 * r.val))) a + S1x16.size a ≤ S8x2048.size a) ∧
  (∀ (r : Fin 2), ∀ a, (k0_off607 v3890 (BitVec.ofNat 32 (16 * r.val))) a + S1x16.size a ≤ S8x2048.size a) ∧
  (∀ (r : Fin 2), ∀ a, (k0_off608 v3890 (BitVec.ofNat 32 (16 * r.val))) a + S1x16.size a ≤ S8x2048.size a) ∧
  (∀ (r : Fin 2), ∀ a, (k0_off609 v3890 (BitVec.ofNat 32 (16 * r.val))) a + S1x16.size a ≤ S8x2048.size a) ∧
  (∀ (r : Fin 2), ∀ a, (k0_off610 v3890 (BitVec.ofNat 32 (16 * r.val))) a + S1x16.size a ≤ S8x2048.size a) ∧
  (∀ (r : Fin 2), ∀ a, (k0_off611 v3890 (BitVec.ofNat 32 (16 * r.val))) a + S1x16.size a ≤ S8x2048.size a) ∧
  (∀ (r : Fin 2), ∀ a, (k0_off612 v3890 (BitVec.ofNat 32 (16 * r.val))) a + S1x16.size a ≤ S8x2048.size a) ∧
  (∀ (r : Fin 2), ∀ a, (k0_off613 v3890 (BitVec.ofNat 32 (16 * r.val))) a + S1x16.size a ≤ S8x2048.size a) ∧
  (∀ (r : Fin 2), ∀ a, (k0_off614 v3890 (BitVec.ofNat 32 (16 * r.val))) a + S1x16.size a ≤ S8x2048.size a) ∧
  (∀ (r : Fin 2), ∀ a, (k0_off615 v3890 (BitVec.ofNat 32 (16 * r.val))) a + S1x16.size a ≤ S8x2048.size a) ∧
  (∀ (r : Fin 2), ∀ a, (k0_off616 v3890 (BitVec.ofNat 32 (16 * r.val))) a + S1x16.size a ≤ S8x2048.size a) ∧
  (∀ (r : Fin 2), ∀ a, (k0_off617 v3890 (BitVec.ofNat 32 (16 * r.val))) a + S1x16.size a ≤ S8x2048.size a) ∧
  (∀ (r : Fin 2), ∀ a, (k0_off618 v3890 (BitVec.ofNat 32 (16 * r.val))) a + S1x16.size a ≤ S8x2048.size a) ∧
  (∀ (r : Fin 2), ∀ a, (k0_off619 v3890 (BitVec.ofNat 32 (16 * r.val))) a + S1x16.size a ≤ S8x2048.size a) ∧
  (∀ (r : Fin 2), ∀ a, (k0_off620 v3890 (BitVec.ofNat 32 (16 * r.val))) a + S1x16.size a ≤ S8x2048.size a) ∧
  (∀ (r : Fin 2), ∀ a, (k0_off621 v3890 (BitVec.ofNat 32 (16 * r.val))) a + S1x16.size a ≤ S8x2048.size a)
theorem k0_off598_inb : ∀ (v3890 : BitVec 32) (k0_hw24 : k0_chk24 v3890), ∀ (r : Fin 2), ∀ a, (k0_off598 v3890 (BitVec.ofNat 32 (16 * r.val))) a + S1x16.size a ≤ S8x2048.size a := fun v3890 k0_hw24 r => k0_hw24.1 r
theorem k0_off599_inb : ∀ (v3890 : BitVec 32) (k0_hw24 : k0_chk24 v3890), ∀ (r : Fin 2), ∀ a, (k0_off599 v3890 (BitVec.ofNat 32 (16 * r.val))) a + S1x16.size a ≤ S8x2048.size a := fun v3890 k0_hw24 r => k0_hw24.2.1 r
theorem k0_off600_inb : ∀ (v3890 : BitVec 32) (k0_hw24 : k0_chk24 v3890), ∀ (r : Fin 2), ∀ a, (k0_off600 v3890 (BitVec.ofNat 32 (16 * r.val))) a + S1x16.size a ≤ S8x2048.size a := fun v3890 k0_hw24 r => k0_hw24.2.2.1 r
theorem k0_off601_inb : ∀ (v3890 : BitVec 32) (k0_hw24 : k0_chk24 v3890), ∀ (r : Fin 2), ∀ a, (k0_off601 v3890 (BitVec.ofNat 32 (16 * r.val))) a + S1x16.size a ≤ S8x2048.size a := fun v3890 k0_hw24 r => k0_hw24.2.2.2.1 r
theorem k0_off602_inb : ∀ (v3890 : BitVec 32) (k0_hw24 : k0_chk24 v3890), ∀ (r : Fin 2), ∀ a, (k0_off602 v3890 (BitVec.ofNat 32 (16 * r.val))) a + S1x16.size a ≤ S8x2048.size a := fun v3890 k0_hw24 r => k0_hw24.2.2.2.2.1 r
theorem k0_off603_inb : ∀ (v3890 : BitVec 32) (k0_hw24 : k0_chk24 v3890), ∀ (r : Fin 2), ∀ a, (k0_off603 v3890 (BitVec.ofNat 32 (16 * r.val))) a + S1x16.size a ≤ S8x2048.size a := fun v3890 k0_hw24 r => k0_hw24.2.2.2.2.2.1 r
theorem k0_off604_inb : ∀ (v3890 : BitVec 32) (k0_hw24 : k0_chk24 v3890), ∀ (r : Fin 2), ∀ a, (k0_off604 v3890 (BitVec.ofNat 32 (16 * r.val))) a + S1x16.size a ≤ S8x2048.size a := fun v3890 k0_hw24 r => k0_hw24.2.2.2.2.2.2.1 r
theorem k0_off605_inb : ∀ (v3890 : BitVec 32) (k0_hw24 : k0_chk24 v3890), ∀ (r : Fin 2), ∀ a, (k0_off605 v3890 (BitVec.ofNat 32 (16 * r.val))) a + S1x16.size a ≤ S8x2048.size a := fun v3890 k0_hw24 r => k0_hw24.2.2.2.2.2.2.2.1 r
theorem k0_off606_inb : ∀ (v3890 : BitVec 32) (k0_hw24 : k0_chk24 v3890), ∀ (r : Fin 2), ∀ a, (k0_off606 v3890 (BitVec.ofNat 32 (16 * r.val))) a + S1x16.size a ≤ S8x2048.size a := fun v3890 k0_hw24 r => k0_hw24.2.2.2.2.2.2.2.2.1 r
theorem k0_off607_inb : ∀ (v3890 : BitVec 32) (k0_hw24 : k0_chk24 v3890), ∀ (r : Fin 2), ∀ a, (k0_off607 v3890 (BitVec.ofNat 32 (16 * r.val))) a + S1x16.size a ≤ S8x2048.size a := fun v3890 k0_hw24 r => k0_hw24.2.2.2.2.2.2.2.2.2.1 r
theorem k0_off608_inb : ∀ (v3890 : BitVec 32) (k0_hw24 : k0_chk24 v3890), ∀ (r : Fin 2), ∀ a, (k0_off608 v3890 (BitVec.ofNat 32 (16 * r.val))) a + S1x16.size a ≤ S8x2048.size a := fun v3890 k0_hw24 r => k0_hw24.2.2.2.2.2.2.2.2.2.2.1 r
theorem k0_off609_inb : ∀ (v3890 : BitVec 32) (k0_hw24 : k0_chk24 v3890), ∀ (r : Fin 2), ∀ a, (k0_off609 v3890 (BitVec.ofNat 32 (16 * r.val))) a + S1x16.size a ≤ S8x2048.size a := fun v3890 k0_hw24 r => k0_hw24.2.2.2.2.2.2.2.2.2.2.2.1 r
theorem k0_off610_inb : ∀ (v3890 : BitVec 32) (k0_hw24 : k0_chk24 v3890), ∀ (r : Fin 2), ∀ a, (k0_off610 v3890 (BitVec.ofNat 32 (16 * r.val))) a + S1x16.size a ≤ S8x2048.size a := fun v3890 k0_hw24 r => k0_hw24.2.2.2.2.2.2.2.2.2.2.2.2.1 r
theorem k0_off611_inb : ∀ (v3890 : BitVec 32) (k0_hw24 : k0_chk24 v3890), ∀ (r : Fin 2), ∀ a, (k0_off611 v3890 (BitVec.ofNat 32 (16 * r.val))) a + S1x16.size a ≤ S8x2048.size a := fun v3890 k0_hw24 r => k0_hw24.2.2.2.2.2.2.2.2.2.2.2.2.2.1 r
theorem k0_off612_inb : ∀ (v3890 : BitVec 32) (k0_hw24 : k0_chk24 v3890), ∀ (r : Fin 2), ∀ a, (k0_off612 v3890 (BitVec.ofNat 32 (16 * r.val))) a + S1x16.size a ≤ S8x2048.size a := fun v3890 k0_hw24 r => k0_hw24.2.2.2.2.2.2.2.2.2.2.2.2.2.2.1 r
theorem k0_off613_inb : ∀ (v3890 : BitVec 32) (k0_hw24 : k0_chk24 v3890), ∀ (r : Fin 2), ∀ a, (k0_off613 v3890 (BitVec.ofNat 32 (16 * r.val))) a + S1x16.size a ≤ S8x2048.size a := fun v3890 k0_hw24 r => k0_hw24.2.2.2.2.2.2.2.2.2.2.2.2.2.2.2.1 r
theorem k0_off614_inb : ∀ (v3890 : BitVec 32) (k0_hw24 : k0_chk24 v3890), ∀ (r : Fin 2), ∀ a, (k0_off614 v3890 (BitVec.ofNat 32 (16 * r.val))) a + S1x16.size a ≤ S8x2048.size a := fun v3890 k0_hw24 r => k0_hw24.2.2.2.2.2.2.2.2.2.2.2.2.2.2.2.2.1 r
theorem k0_off615_inb : ∀ (v3890 : BitVec 32) (k0_hw24 : k0_chk24 v3890), ∀ (r : Fin 2), ∀ a, (k0_off615 v3890 (BitVec.ofNat 32 (16 * r.val))) a + S1x16.size a ≤ S8x2048.size a := fun v3890 k0_hw24 r => k0_hw24.2.2.2.2.2.2.2.2.2.2.2.2.2.2.2.2.2.1 r
theorem k0_off616_inb : ∀ (v3890 : BitVec 32) (k0_hw24 : k0_chk24 v3890), ∀ (r : Fin 2), ∀ a, (k0_off616 v3890 (BitVec.ofNat 32 (16 * r.val))) a + S1x16.size a ≤ S8x2048.size a := fun v3890 k0_hw24 r => k0_hw24.2.2.2.2.2.2.2.2.2.2.2.2.2.2.2.2.2.2.1 r
theorem k0_off617_inb : ∀ (v3890 : BitVec 32) (k0_hw24 : k0_chk24 v3890), ∀ (r : Fin 2), ∀ a, (k0_off617 v3890 (BitVec.ofNat 32 (16 * r.val))) a + S1x16.size a ≤ S8x2048.size a := fun v3890 k0_hw24 r => k0_hw24.2.2.2.2.2.2.2.2.2.2.2.2.2.2.2.2.2.2.2.1 r
theorem k0_off618_inb : ∀ (v3890 : BitVec 32) (k0_hw24 : k0_chk24 v3890), ∀ (r : Fin 2), ∀ a, (k0_off618 v3890 (BitVec.ofNat 32 (16 * r.val))) a + S1x16.size a ≤ S8x2048.size a := fun v3890 k0_hw24 r => k0_hw24.2.2.2.2.2.2.2.2.2.2.2.2.2.2.2.2.2.2.2.2.1 r
theorem k0_off619_inb : ∀ (v3890 : BitVec 32) (k0_hw24 : k0_chk24 v3890), ∀ (r : Fin 2), ∀ a, (k0_off619 v3890 (BitVec.ofNat 32 (16 * r.val))) a + S1x16.size a ≤ S8x2048.size a := fun v3890 k0_hw24 r => k0_hw24.2.2.2.2.2.2.2.2.2.2.2.2.2.2.2.2.2.2.2.2.2.1 r
theorem k0_off620_inb : ∀ (v3890 : BitVec 32) (k0_hw24 : k0_chk24 v3890), ∀ (r : Fin 2), ∀ a, (k0_off620 v3890 (BitVec.ofNat 32 (16 * r.val))) a + S1x16.size a ≤ S8x2048.size a := fun v3890 k0_hw24 r => k0_hw24.2.2.2.2.2.2.2.2.2.2.2.2.2.2.2.2.2.2.2.2.2.2.1 r
theorem k0_off621_inb : ∀ (v3890 : BitVec 32) (k0_hw24 : k0_chk24 v3890), ∀ (r : Fin 2), ∀ a, (k0_off621 v3890 (BitVec.ofNat 32 (16 * r.val))) a + S1x16.size a ≤ S8x2048.size a := fun v3890 k0_hw24 r => k0_hw24.2.2.2.2.2.2.2.2.2.2.2.2.2.2.2.2.2.2.2.2.2.2.2 r

def k0_off622 (k0_t5 : Fin k0_t5_loop.trips) : Fin 1 → Nat :=
  let c0_i32_116 : BitVec 32 := 0#32
  let c1_i32_118 : BitVec 32 := 1#32
  let arg28 : BitVec 32 := Scf.iv c0_i32_116 c1_i32_118 k0_t5
  let c16_i32_1230 : BitVec 32 := 16#32
  let v4297 : BitVec 32 := Scalar.muli arg28 c16_i32_1230
  let c8_i32_1231 : BitVec 32 := 8#32
  let v4298 : BitVec 32 := Scalar.addi v4297 c8_i32_1231
  let c16_i32_1232 : BitVec 32 := 16#32
  let v4299 : BitVec 32 := Scalar.muli v4298 c16_i32_1232
  let v4300 : Index := Scalar.indexCast v4299
  ![v4300.toNat]
def k0_off623 (v4289 : BitVec 32) (c0_i32_1233 : BitVec 32) : Fin 2 → Nat :=
  let c0_i32_1234 : BitVec 32 := 0#32
  let v4304 : Index := Scalar.indexCast c0_i32_1234
  let c63_i32_1223 : BitVec 32 := 63#32
  let v4290 : BitVec 32 := Scalar.andi v4289 c63_i32_1223
  let c32_i32_1224 : BitVec 32 := 32#32
  let v4291 : BitVec 32 := Scalar.muli v4290 c32_i32_1224
  let v4303 : BitVec 32 := Scalar.addi v4291 c0_i32_1233
  let v4305 : Index := Scalar.indexCast v4303
  ![0, v4305.toNat]

def k0_off624 (v4289 : BitVec 32) (c0_i32_1237 : BitVec 32) : Fin 2 → Nat :=
  let c1_i32_1238 : BitVec 32 := 1#32
  let v4314 : Index := Scalar.indexCast c1_i32_1238
  let c63_i32_1223 : BitVec 32 := 63#32
  let v4290 : BitVec 32 := Scalar.andi v4289 c63_i32_1223
  let c32_i32_1224 : BitVec 32 := 32#32
  let v4291 : BitVec 32 := Scalar.muli v4290 c32_i32_1224
  let v4313 : BitVec 32 := Scalar.addi v4291 c0_i32_1237
  let v4315 : Index := Scalar.indexCast v4313
  ![1, v4315.toNat]
def k0_off625 (v4289 : BitVec 32) (c0_i32_1241 : BitVec 32) : Fin 2 → Nat :=
  let c2_i32_1242 : BitVec 32 := 2#32
  let v4324 : Index := Scalar.indexCast c2_i32_1242
  let c63_i32_1223 : BitVec 32 := 63#32
  let v4290 : BitVec 32 := Scalar.andi v4289 c63_i32_1223
  let c32_i32_1224 : BitVec 32 := 32#32
  let v4291 : BitVec 32 := Scalar.muli v4290 c32_i32_1224
  let v4323 : BitVec 32 := Scalar.addi v4291 c0_i32_1241
  let v4325 : Index := Scalar.indexCast v4323
  ![2, v4325.toNat]
def k0_off626 (v4289 : BitVec 32) (c0_i32_1245 : BitVec 32) : Fin 2 → Nat :=
  let c3_i32_1246 : BitVec 32 := 3#32
  let v4334 : Index := Scalar.indexCast c3_i32_1246
  let c63_i32_1223 : BitVec 32 := 63#32
  let v4290 : BitVec 32 := Scalar.andi v4289 c63_i32_1223
  let c32_i32_1224 : BitVec 32 := 32#32
  let v4291 : BitVec 32 := Scalar.muli v4290 c32_i32_1224
  let v4333 : BitVec 32 := Scalar.addi v4291 c0_i32_1245
  let v4335 : Index := Scalar.indexCast v4333
  ![3, v4335.toNat]
def k0_off627 (v4289 : BitVec 32) (c0_i32_1249 : BitVec 32) : Fin 2 → Nat :=
  let c4_i32_1250 : BitVec 32 := 4#32
  let v4344 : Index := Scalar.indexCast c4_i32_1250
  let c63_i32_1223 : BitVec 32 := 63#32
  let v4290 : BitVec 32 := Scalar.andi v4289 c63_i32_1223
  let c32_i32_1224 : BitVec 32 := 32#32
  let v4291 : BitVec 32 := Scalar.muli v4290 c32_i32_1224
  let v4343 : BitVec 32 := Scalar.addi v4291 c0_i32_1249
  let v4345 : Index := Scalar.indexCast v4343
  ![4, v4345.toNat]
def k0_off628 (v4289 : BitVec 32) (c0_i32_1253 : BitVec 32) : Fin 2 → Nat :=
  let c5_i32_1254 : BitVec 32 := 5#32
  let v4354 : Index := Scalar.indexCast c5_i32_1254
  let c63_i32_1223 : BitVec 32 := 63#32
  let v4290 : BitVec 32 := Scalar.andi v4289 c63_i32_1223
  let c32_i32_1224 : BitVec 32 := 32#32
  let v4291 : BitVec 32 := Scalar.muli v4290 c32_i32_1224
  let v4353 : BitVec 32 := Scalar.addi v4291 c0_i32_1253
  let v4355 : Index := Scalar.indexCast v4353
  ![5, v4355.toNat]
def k0_off629 (v4289 : BitVec 32) (c0_i32_1257 : BitVec 32) : Fin 2 → Nat :=
  let c6_i32_1258 : BitVec 32 := 6#32
  let v4364 : Index := Scalar.indexCast c6_i32_1258
  let c63_i32_1223 : BitVec 32 := 63#32
  let v4290 : BitVec 32 := Scalar.andi v4289 c63_i32_1223
  let c32_i32_1224 : BitVec 32 := 32#32
  let v4291 : BitVec 32 := Scalar.muli v4290 c32_i32_1224
  let v4363 : BitVec 32 := Scalar.addi v4291 c0_i32_1257
  let v4365 : Index := Scalar.indexCast v4363
  ![6, v4365.toNat]
def k0_off630 (v4289 : BitVec 32) (c0_i32_1261 : BitVec 32) : Fin 2 → Nat :=
  let c7_i32_1262 : BitVec 32 := 7#32
  let v4374 : Index := Scalar.indexCast c7_i32_1262
  let c63_i32_1223 : BitVec 32 := 63#32
  let v4290 : BitVec 32 := Scalar.andi v4289 c63_i32_1223
  let c32_i32_1224 : BitVec 32 := 32#32
  let v4291 : BitVec 32 := Scalar.muli v4290 c32_i32_1224
  let v4373 : BitVec 32 := Scalar.addi v4291 c0_i32_1261
  let v4375 : Index := Scalar.indexCast v4373
  ![7, v4375.toNat]
def k0_off631 (v4289 : BitVec 32) (c0_i32_1265 : BitVec 32) : Fin 2 → Nat :=
  let c0_i32_1266 : BitVec 32 := 0#32
  let v4384 : Index := Scalar.indexCast c0_i32_1266
  let c6_i32_1225 : BitVec 32 := 6#32
  let v4292 : BitVec 32 := Scalar.shrsi v4289 c6_i32_1225
  let c63_i32_1226 : BitVec 32 := 63#32
  let v4293 : BitVec 32 := Scalar.andi v4292 c63_i32_1226
  let c32_i32_1227 : BitVec 32 := 32#32
  let v4294 : BitVec 32 := Scalar.muli v4293 c32_i32_1227
  let v4383 : BitVec 32 := Scalar.addi v4294 c0_i32_1265
  let v4385 : Index := Scalar.indexCast v4383
  ![0, v4385.toNat]
def k0_off632 (v4289 : BitVec 32) (c0_i32_1269 : BitVec 32) : Fin 2 → Nat :=
  let c1_i32_1270 : BitVec 32 := 1#32
  let v4394 : Index := Scalar.indexCast c1_i32_1270
  let c6_i32_1225 : BitVec 32 := 6#32
  let v4292 : BitVec 32 := Scalar.shrsi v4289 c6_i32_1225
  let c63_i32_1226 : BitVec 32 := 63#32
  let v4293 : BitVec 32 := Scalar.andi v4292 c63_i32_1226
  let c32_i32_1227 : BitVec 32 := 32#32
  let v4294 : BitVec 32 := Scalar.muli v4293 c32_i32_1227
  let v4393 : BitVec 32 := Scalar.addi v4294 c0_i32_1269
  let v4395 : Index := Scalar.indexCast v4393
  ![1, v4395.toNat]
def k0_off633 (v4289 : BitVec 32) (c0_i32_1273 : BitVec 32) : Fin 2 → Nat :=
  let c2_i32_1274 : BitVec 32 := 2#32
  let v4404 : Index := Scalar.indexCast c2_i32_1274
  let c6_i32_1225 : BitVec 32 := 6#32
  let v4292 : BitVec 32 := Scalar.shrsi v4289 c6_i32_1225
  let c63_i32_1226 : BitVec 32 := 63#32
  let v4293 : BitVec 32 := Scalar.andi v4292 c63_i32_1226
  let c32_i32_1227 : BitVec 32 := 32#32
  let v4294 : BitVec 32 := Scalar.muli v4293 c32_i32_1227
  let v4403 : BitVec 32 := Scalar.addi v4294 c0_i32_1273
  let v4405 : Index := Scalar.indexCast v4403
  ![2, v4405.toNat]
def k0_off634 (v4289 : BitVec 32) (c0_i32_1277 : BitVec 32) : Fin 2 → Nat :=
  let c3_i32_1278 : BitVec 32 := 3#32
  let v4414 : Index := Scalar.indexCast c3_i32_1278
  let c6_i32_1225 : BitVec 32 := 6#32
  let v4292 : BitVec 32 := Scalar.shrsi v4289 c6_i32_1225
  let c63_i32_1226 : BitVec 32 := 63#32
  let v4293 : BitVec 32 := Scalar.andi v4292 c63_i32_1226
  let c32_i32_1227 : BitVec 32 := 32#32
  let v4294 : BitVec 32 := Scalar.muli v4293 c32_i32_1227
  let v4413 : BitVec 32 := Scalar.addi v4294 c0_i32_1277
  let v4415 : Index := Scalar.indexCast v4413
  ![3, v4415.toNat]
def k0_off635 (v4289 : BitVec 32) (c0_i32_1281 : BitVec 32) : Fin 2 → Nat :=
  let c4_i32_1282 : BitVec 32 := 4#32
  let v4424 : Index := Scalar.indexCast c4_i32_1282
  let c6_i32_1225 : BitVec 32 := 6#32
  let v4292 : BitVec 32 := Scalar.shrsi v4289 c6_i32_1225
  let c63_i32_1226 : BitVec 32 := 63#32
  let v4293 : BitVec 32 := Scalar.andi v4292 c63_i32_1226
  let c32_i32_1227 : BitVec 32 := 32#32
  let v4294 : BitVec 32 := Scalar.muli v4293 c32_i32_1227
  let v4423 : BitVec 32 := Scalar.addi v4294 c0_i32_1281
  let v4425 : Index := Scalar.indexCast v4423
  ![4, v4425.toNat]
def k0_off636 (v4289 : BitVec 32) (c0_i32_1285 : BitVec 32) : Fin 2 → Nat :=
  let c5_i32_1286 : BitVec 32 := 5#32
  let v4434 : Index := Scalar.indexCast c5_i32_1286
  let c6_i32_1225 : BitVec 32 := 6#32
  let v4292 : BitVec 32 := Scalar.shrsi v4289 c6_i32_1225
  let c63_i32_1226 : BitVec 32 := 63#32
  let v4293 : BitVec 32 := Scalar.andi v4292 c63_i32_1226
  let c32_i32_1227 : BitVec 32 := 32#32
  let v4294 : BitVec 32 := Scalar.muli v4293 c32_i32_1227
  let v4433 : BitVec 32 := Scalar.addi v4294 c0_i32_1285
  let v4435 : Index := Scalar.indexCast v4433
  ![5, v4435.toNat]
def k0_off637 (v4289 : BitVec 32) (c0_i32_1289 : BitVec 32) : Fin 2 → Nat :=
  let c6_i32_1290 : BitVec 32 := 6#32
  let v4444 : Index := Scalar.indexCast c6_i32_1290
  let c6_i32_1225 : BitVec 32 := 6#32
  let v4292 : BitVec 32 := Scalar.shrsi v4289 c6_i32_1225
  let c63_i32_1226 : BitVec 32 := 63#32
  let v4293 : BitVec 32 := Scalar.andi v4292 c63_i32_1226
  let c32_i32_1227 : BitVec 32 := 32#32
  let v4294 : BitVec 32 := Scalar.muli v4293 c32_i32_1227
  let v4443 : BitVec 32 := Scalar.addi v4294 c0_i32_1289
  let v4445 : Index := Scalar.indexCast v4443
  ![6, v4445.toNat]
def k0_off638 (v4289 : BitVec 32) (c0_i32_1293 : BitVec 32) : Fin 2 → Nat :=
  let c7_i32_1294 : BitVec 32 := 7#32
  let v4454 : Index := Scalar.indexCast c7_i32_1294
  let c6_i32_1225 : BitVec 32 := 6#32
  let v4292 : BitVec 32 := Scalar.shrsi v4289 c6_i32_1225
  let c63_i32_1226 : BitVec 32 := 63#32
  let v4293 : BitVec 32 := Scalar.andi v4292 c63_i32_1226
  let c32_i32_1227 : BitVec 32 := 32#32
  let v4294 : BitVec 32 := Scalar.muli v4293 c32_i32_1227
  let v4453 : BitVec 32 := Scalar.addi v4294 c0_i32_1293
  let v4455 : Index := Scalar.indexCast v4453
  ![7, v4455.toNat]
def k0_off639 (v4289 : BitVec 32) (c0_i32_1297 : BitVec 32) : Fin 2 → Nat :=
  let c0_i32_1298 : BitVec 32 := 0#32
  let v4496 : Index := Scalar.indexCast c0_i32_1298
  let c12_i32_1228 : BitVec 32 := 12#32
  let v4295 : BitVec 32 := Scalar.shrsi v4289 c12_i32_1228
  let c32_i32_1229 : BitVec 32 := 32#32
  let v4296 : BitVec 32 := Scalar.muli v4295 c32_i32_1229
  let v4495 : BitVec 32 := Scalar.addi v4296 c0_i32_1297
  let v4497 : Index := Scalar.indexCast v4495
  ![0, v4497.toNat]
def k0_off640 (v4289 : BitVec 32) (c0_i32_1305 : BitVec 32) : Fin 2 → Nat :=
  let c1_i32_1306 : BitVec 32 := 1#32
  let v4520 : Index := Scalar.indexCast c1_i32_1306
  let c12_i32_1228 : BitVec 32 := 12#32
  let v4295 : BitVec 32 := Scalar.shrsi v4289 c12_i32_1228
  let c32_i32_1229 : BitVec 32 := 32#32
  let v4296 : BitVec 32 := Scalar.muli v4295 c32_i32_1229
  let v4519 : BitVec 32 := Scalar.addi v4296 c0_i32_1305
  let v4521 : Index := Scalar.indexCast v4519
  ![1, v4521.toNat]
def k0_off641 (v4289 : BitVec 32) (c0_i32_1313 : BitVec 32) : Fin 2 → Nat :=
  let c2_i32_1314 : BitVec 32 := 2#32
  let v4544 : Index := Scalar.indexCast c2_i32_1314
  let c12_i32_1228 : BitVec 32 := 12#32
  let v4295 : BitVec 32 := Scalar.shrsi v4289 c12_i32_1228
  let c32_i32_1229 : BitVec 32 := 32#32
  let v4296 : BitVec 32 := Scalar.muli v4295 c32_i32_1229
  let v4543 : BitVec 32 := Scalar.addi v4296 c0_i32_1313
  let v4545 : Index := Scalar.indexCast v4543
  ![2, v4545.toNat]
def k0_off642 (v4289 : BitVec 32) (c0_i32_1321 : BitVec 32) : Fin 2 → Nat :=
  let c3_i32_1322 : BitVec 32 := 3#32
  let v4568 : Index := Scalar.indexCast c3_i32_1322
  let c12_i32_1228 : BitVec 32 := 12#32
  let v4295 : BitVec 32 := Scalar.shrsi v4289 c12_i32_1228
  let c32_i32_1229 : BitVec 32 := 32#32
  let v4296 : BitVec 32 := Scalar.muli v4295 c32_i32_1229
  let v4567 : BitVec 32 := Scalar.addi v4296 c0_i32_1321
  let v4569 : Index := Scalar.indexCast v4567
  ![3, v4569.toNat]
def k0_off643 (v4289 : BitVec 32) (c0_i32_1329 : BitVec 32) : Fin 2 → Nat :=
  let c4_i32_1330 : BitVec 32 := 4#32
  let v4592 : Index := Scalar.indexCast c4_i32_1330
  let c12_i32_1228 : BitVec 32 := 12#32
  let v4295 : BitVec 32 := Scalar.shrsi v4289 c12_i32_1228
  let c32_i32_1229 : BitVec 32 := 32#32
  let v4296 : BitVec 32 := Scalar.muli v4295 c32_i32_1229
  let v4591 : BitVec 32 := Scalar.addi v4296 c0_i32_1329
  let v4593 : Index := Scalar.indexCast v4591
  ![4, v4593.toNat]
def k0_off644 (v4289 : BitVec 32) (c0_i32_1337 : BitVec 32) : Fin 2 → Nat :=
  let c5_i32_1338 : BitVec 32 := 5#32
  let v4616 : Index := Scalar.indexCast c5_i32_1338
  let c12_i32_1228 : BitVec 32 := 12#32
  let v4295 : BitVec 32 := Scalar.shrsi v4289 c12_i32_1228
  let c32_i32_1229 : BitVec 32 := 32#32
  let v4296 : BitVec 32 := Scalar.muli v4295 c32_i32_1229
  let v4615 : BitVec 32 := Scalar.addi v4296 c0_i32_1337
  let v4617 : Index := Scalar.indexCast v4615
  ![5, v4617.toNat]
def k0_off645 (v4289 : BitVec 32) (c0_i32_1345 : BitVec 32) : Fin 2 → Nat :=
  let c6_i32_1346 : BitVec 32 := 6#32
  let v4640 : Index := Scalar.indexCast c6_i32_1346
  let c12_i32_1228 : BitVec 32 := 12#32
  let v4295 : BitVec 32 := Scalar.shrsi v4289 c12_i32_1228
  let c32_i32_1229 : BitVec 32 := 32#32
  let v4296 : BitVec 32 := Scalar.muli v4295 c32_i32_1229
  let v4639 : BitVec 32 := Scalar.addi v4296 c0_i32_1345
  let v4641 : Index := Scalar.indexCast v4639
  ![6, v4641.toNat]
def k0_off646 (v4289 : BitVec 32) (c0_i32_1353 : BitVec 32) : Fin 2 → Nat :=
  let c7_i32_1354 : BitVec 32 := 7#32
  let v4664 : Index := Scalar.indexCast c7_i32_1354
  let c12_i32_1228 : BitVec 32 := 12#32
  let v4295 : BitVec 32 := Scalar.shrsi v4289 c12_i32_1228
  let c32_i32_1229 : BitVec 32 := 32#32
  let v4296 : BitVec 32 := Scalar.muli v4295 c32_i32_1229
  let v4663 : BitVec 32 := Scalar.addi v4296 c0_i32_1353
  let v4665 : Index := Scalar.indexCast v4663
  ![7, v4665.toNat]

def k0_chk25 (v4289 : BitVec 32) : Prop :=
  (∀ (r : Fin 2), ∀ a, (k0_off623 v4289 (BitVec.ofNat 32 (16 * r.val))) a + S1x16.size a ≤ S8x2048.size a) ∧
  (∀ (r : Fin 2), ∀ a, (k0_off624 v4289 (BitVec.ofNat 32 (16 * r.val))) a + S1x16.size a ≤ S8x2048.size a) ∧
  (∀ (r : Fin 2), ∀ a, (k0_off625 v4289 (BitVec.ofNat 32 (16 * r.val))) a + S1x16.size a ≤ S8x2048.size a) ∧
  (∀ (r : Fin 2), ∀ a, (k0_off626 v4289 (BitVec.ofNat 32 (16 * r.val))) a + S1x16.size a ≤ S8x2048.size a) ∧
  (∀ (r : Fin 2), ∀ a, (k0_off627 v4289 (BitVec.ofNat 32 (16 * r.val))) a + S1x16.size a ≤ S8x2048.size a) ∧
  (∀ (r : Fin 2), ∀ a, (k0_off628 v4289 (BitVec.ofNat 32 (16 * r.val))) a + S1x16.size a ≤ S8x2048.size a) ∧
  (∀ (r : Fin 2), ∀ a, (k0_off629 v4289 (BitVec.ofNat 32 (16 * r.val))) a + S1x16.size a ≤ S8x2048.size a) ∧
  (∀ (r : Fin 2), ∀ a, (k0_off630 v4289 (BitVec.ofNat 32 (16 * r.val))) a + S1x16.size a ≤ S8x2048.size a) ∧
  (∀ (r : Fin 2), ∀ a, (k0_off631 v4289 (BitVec.ofNat 32 (16 * r.val))) a + S1x16.size a ≤ S8x2048.size a) ∧
  (∀ (r : Fin 2), ∀ a, (k0_off632 v4289 (BitVec.ofNat 32 (16 * r.val))) a + S1x16.size a ≤ S8x2048.size a) ∧
  (∀ (r : Fin 2), ∀ a, (k0_off633 v4289 (BitVec.ofNat 32 (16 * r.val))) a + S1x16.size a ≤ S8x2048.size a) ∧
  (∀ (r : Fin 2), ∀ a, (k0_off634 v4289 (BitVec.ofNat 32 (16 * r.val))) a + S1x16.size a ≤ S8x2048.size a) ∧
  (∀ (r : Fin 2), ∀ a, (k0_off635 v4289 (BitVec.ofNat 32 (16 * r.val))) a + S1x16.size a ≤ S8x2048.size a) ∧
  (∀ (r : Fin 2), ∀ a, (k0_off636 v4289 (BitVec.ofNat 32 (16 * r.val))) a + S1x16.size a ≤ S8x2048.size a) ∧
  (∀ (r : Fin 2), ∀ a, (k0_off637 v4289 (BitVec.ofNat 32 (16 * r.val))) a + S1x16.size a ≤ S8x2048.size a) ∧
  (∀ (r : Fin 2), ∀ a, (k0_off638 v4289 (BitVec.ofNat 32 (16 * r.val))) a + S1x16.size a ≤ S8x2048.size a) ∧
  (∀ (r : Fin 2), ∀ a, (k0_off639 v4289 (BitVec.ofNat 32 (16 * r.val))) a + S1x16.size a ≤ S8x2048.size a) ∧
  (∀ (r : Fin 2), ∀ a, (k0_off640 v4289 (BitVec.ofNat 32 (16 * r.val))) a + S1x16.size a ≤ S8x2048.size a) ∧
  (∀ (r : Fin 2), ∀ a, (k0_off641 v4289 (BitVec.ofNat 32 (16 * r.val))) a + S1x16.size a ≤ S8x2048.size a) ∧
  (∀ (r : Fin 2), ∀ a, (k0_off642 v4289 (BitVec.ofNat 32 (16 * r.val))) a + S1x16.size a ≤ S8x2048.size a) ∧
  (∀ (r : Fin 2), ∀ a, (k0_off643 v4289 (BitVec.ofNat 32 (16 * r.val))) a + S1x16.size a ≤ S8x2048.size a) ∧
  (∀ (r : Fin 2), ∀ a, (k0_off644 v4289 (BitVec.ofNat 32 (16 * r.val))) a + S1x16.size a ≤ S8x2048.size a) ∧
  (∀ (r : Fin 2), ∀ a, (k0_off645 v4289 (BitVec.ofNat 32 (16 * r.val))) a + S1x16.size a ≤ S8x2048.size a) ∧
  (∀ (r : Fin 2), ∀ a, (k0_off646 v4289 (BitVec.ofNat 32 (16 * r.val))) a + S1x16.size a ≤ S8x2048.size a)
theorem k0_off623_inb : ∀ (v4289 : BitVec 32) (k0_hw25 : k0_chk25 v4289), ∀ (r : Fin 2), ∀ a, (k0_off623 v4289 (BitVec.ofNat 32 (16 * r.val))) a + S1x16.size a ≤ S8x2048.size a := fun v4289 k0_hw25 r => k0_hw25.1 r
theorem k0_off624_inb : ∀ (v4289 : BitVec 32) (k0_hw25 : k0_chk25 v4289), ∀ (r : Fin 2), ∀ a, (k0_off624 v4289 (BitVec.ofNat 32 (16 * r.val))) a + S1x16.size a ≤ S8x2048.size a := fun v4289 k0_hw25 r => k0_hw25.2.1 r
theorem k0_off625_inb : ∀ (v4289 : BitVec 32) (k0_hw25 : k0_chk25 v4289), ∀ (r : Fin 2), ∀ a, (k0_off625 v4289 (BitVec.ofNat 32 (16 * r.val))) a + S1x16.size a ≤ S8x2048.size a := fun v4289 k0_hw25 r => k0_hw25.2.2.1 r
theorem k0_off626_inb : ∀ (v4289 : BitVec 32) (k0_hw25 : k0_chk25 v4289), ∀ (r : Fin 2), ∀ a, (k0_off626 v4289 (BitVec.ofNat 32 (16 * r.val))) a + S1x16.size a ≤ S8x2048.size a := fun v4289 k0_hw25 r => k0_hw25.2.2.2.1 r
theorem k0_off627_inb : ∀ (v4289 : BitVec 32) (k0_hw25 : k0_chk25 v4289), ∀ (r : Fin 2), ∀ a, (k0_off627 v4289 (BitVec.ofNat 32 (16 * r.val))) a + S1x16.size a ≤ S8x2048.size a := fun v4289 k0_hw25 r => k0_hw25.2.2.2.2.1 r
theorem k0_off628_inb : ∀ (v4289 : BitVec 32) (k0_hw25 : k0_chk25 v4289), ∀ (r : Fin 2), ∀ a, (k0_off628 v4289 (BitVec.ofNat 32 (16 * r.val))) a + S1x16.size a ≤ S8x2048.size a := fun v4289 k0_hw25 r => k0_hw25.2.2.2.2.2.1 r
theorem k0_off629_inb : ∀ (v4289 : BitVec 32) (k0_hw25 : k0_chk25 v4289), ∀ (r : Fin 2), ∀ a, (k0_off629 v4289 (BitVec.ofNat 32 (16 * r.val))) a + S1x16.size a ≤ S8x2048.size a := fun v4289 k0_hw25 r => k0_hw25.2.2.2.2.2.2.1 r
theorem k0_off630_inb : ∀ (v4289 : BitVec 32) (k0_hw25 : k0_chk25 v4289), ∀ (r : Fin 2), ∀ a, (k0_off630 v4289 (BitVec.ofNat 32 (16 * r.val))) a + S1x16.size a ≤ S8x2048.size a := fun v4289 k0_hw25 r => k0_hw25.2.2.2.2.2.2.2.1 r
theorem k0_off631_inb : ∀ (v4289 : BitVec 32) (k0_hw25 : k0_chk25 v4289), ∀ (r : Fin 2), ∀ a, (k0_off631 v4289 (BitVec.ofNat 32 (16 * r.val))) a + S1x16.size a ≤ S8x2048.size a := fun v4289 k0_hw25 r => k0_hw25.2.2.2.2.2.2.2.2.1 r
theorem k0_off632_inb : ∀ (v4289 : BitVec 32) (k0_hw25 : k0_chk25 v4289), ∀ (r : Fin 2), ∀ a, (k0_off632 v4289 (BitVec.ofNat 32 (16 * r.val))) a + S1x16.size a ≤ S8x2048.size a := fun v4289 k0_hw25 r => k0_hw25.2.2.2.2.2.2.2.2.2.1 r
theorem k0_off633_inb : ∀ (v4289 : BitVec 32) (k0_hw25 : k0_chk25 v4289), ∀ (r : Fin 2), ∀ a, (k0_off633 v4289 (BitVec.ofNat 32 (16 * r.val))) a + S1x16.size a ≤ S8x2048.size a := fun v4289 k0_hw25 r => k0_hw25.2.2.2.2.2.2.2.2.2.2.1 r
theorem k0_off634_inb : ∀ (v4289 : BitVec 32) (k0_hw25 : k0_chk25 v4289), ∀ (r : Fin 2), ∀ a, (k0_off634 v4289 (BitVec.ofNat 32 (16 * r.val))) a + S1x16.size a ≤ S8x2048.size a := fun v4289 k0_hw25 r => k0_hw25.2.2.2.2.2.2.2.2.2.2.2.1 r
theorem k0_off635_inb : ∀ (v4289 : BitVec 32) (k0_hw25 : k0_chk25 v4289), ∀ (r : Fin 2), ∀ a, (k0_off635 v4289 (BitVec.ofNat 32 (16 * r.val))) a + S1x16.size a ≤ S8x2048.size a := fun v4289 k0_hw25 r => k0_hw25.2.2.2.2.2.2.2.2.2.2.2.2.1 r
theorem k0_off636_inb : ∀ (v4289 : BitVec 32) (k0_hw25 : k0_chk25 v4289), ∀ (r : Fin 2), ∀ a, (k0_off636 v4289 (BitVec.ofNat 32 (16 * r.val))) a + S1x16.size a ≤ S8x2048.size a := fun v4289 k0_hw25 r => k0_hw25.2.2.2.2.2.2.2.2.2.2.2.2.2.1 r
theorem k0_off637_inb : ∀ (v4289 : BitVec 32) (k0_hw25 : k0_chk25 v4289), ∀ (r : Fin 2), ∀ a, (k0_off637 v4289 (BitVec.ofNat 32 (16 * r.val))) a + S1x16.size a ≤ S8x2048.size a := fun v4289 k0_hw25 r => k0_hw25.2.2.2.2.2.2.2.2.2.2.2.2.2.2.1 r
theorem k0_off638_inb : ∀ (v4289 : BitVec 32) (k0_hw25 : k0_chk25 v4289), ∀ (r : Fin 2), ∀ a, (k0_off638 v4289 (BitVec.ofNat 32 (16 * r.val))) a + S1x16.size a ≤ S8x2048.size a := fun v4289 k0_hw25 r => k0_hw25.2.2.2.2.2.2.2.2.2.2.2.2.2.2.2.1 r
theorem k0_off639_inb : ∀ (v4289 : BitVec 32) (k0_hw25 : k0_chk25 v4289), ∀ (r : Fin 2), ∀ a, (k0_off639 v4289 (BitVec.ofNat 32 (16 * r.val))) a + S1x16.size a ≤ S8x2048.size a := fun v4289 k0_hw25 r => k0_hw25.2.2.2.2.2.2.2.2.2.2.2.2.2.2.2.2.1 r
theorem k0_off640_inb : ∀ (v4289 : BitVec 32) (k0_hw25 : k0_chk25 v4289), ∀ (r : Fin 2), ∀ a, (k0_off640 v4289 (BitVec.ofNat 32 (16 * r.val))) a + S1x16.size a ≤ S8x2048.size a := fun v4289 k0_hw25 r => k0_hw25.2.2.2.2.2.2.2.2.2.2.2.2.2.2.2.2.2.1 r
theorem k0_off641_inb : ∀ (v4289 : BitVec 32) (k0_hw25 : k0_chk25 v4289), ∀ (r : Fin 2), ∀ a, (k0_off641 v4289 (BitVec.ofNat 32 (16 * r.val))) a + S1x16.size a ≤ S8x2048.size a := fun v4289 k0_hw25 r => k0_hw25.2.2.2.2.2.2.2.2.2.2.2.2.2.2.2.2.2.2.1 r
theorem k0_off642_inb : ∀ (v4289 : BitVec 32) (k0_hw25 : k0_chk25 v4289), ∀ (r : Fin 2), ∀ a, (k0_off642 v4289 (BitVec.ofNat 32 (16 * r.val))) a + S1x16.size a ≤ S8x2048.size a := fun v4289 k0_hw25 r => k0_hw25.2.2.2.2.2.2.2.2.2.2.2.2.2.2.2.2.2.2.2.1 r
theorem k0_off643_inb : ∀ (v4289 : BitVec 32) (k0_hw25 : k0_chk25 v4289), ∀ (r : Fin 2), ∀ a, (k0_off643 v4289 (BitVec.ofNat 32 (16 * r.val))) a + S1x16.size a ≤ S8x2048.size a := fun v4289 k0_hw25 r => k0_hw25.2.2.2.2.2.2.2.2.2.2.2.2.2.2.2.2.2.2.2.2.1 r
theorem k0_off644_inb : ∀ (v4289 : BitVec 32) (k0_hw25 : k0_chk25 v4289), ∀ (r : Fin 2), ∀ a, (k0_off644 v4289 (BitVec.ofNat 32 (16 * r.val))) a + S1x16.size a ≤ S8x2048.size a := fun v4289 k0_hw25 r => k0_hw25.2.2.2.2.2.2.2.2.2.2.2.2.2.2.2.2.2.2.2.2.2.1 r
theorem k0_off645_inb : ∀ (v4289 : BitVec 32) (k0_hw25 : k0_chk25 v4289), ∀ (r : Fin 2), ∀ a, (k0_off645 v4289 (BitVec.ofNat 32 (16 * r.val))) a + S1x16.size a ≤ S8x2048.size a := fun v4289 k0_hw25 r => k0_hw25.2.2.2.2.2.2.2.2.2.2.2.2.2.2.2.2.2.2.2.2.2.2.1 r
theorem k0_off646_inb : ∀ (v4289 : BitVec 32) (k0_hw25 : k0_chk25 v4289), ∀ (r : Fin 2), ∀ a, (k0_off646 v4289 (BitVec.ofNat 32 (16 * r.val))) a + S1x16.size a ≤ S8x2048.size a := fun v4289 k0_hw25 r => k0_hw25.2.2.2.2.2.2.2.2.2.2.2.2.2.2.2.2.2.2.2.2.2.2.2 r

def k0_off647 (k0_t5 : Fin k0_t5_loop.trips) : Fin 1 → Nat :=
  let c0_i32_116 : BitVec 32 := 0#32
  let c1_i32_118 : BitVec 32 := 1#32
  let arg28 : BitVec 32 := Scf.iv c0_i32_116 c1_i32_118 k0_t5
  let c16_i32_1368 : BitVec 32 := 16#32
  let v4696 : BitVec 32 := Scalar.muli arg28 c16_i32_1368
  let c9_i32 : BitVec 32 := 9#32
  let v4697 : BitVec 32 := Scalar.addi v4696 c9_i32
  let c16_i32_1369 : BitVec 32 := 16#32
  let v4698 : BitVec 32 := Scalar.muli v4697 c16_i32_1369
  let v4699 : Index := Scalar.indexCast v4698
  ![v4699.toNat]
def k0_off648 (v4688 : BitVec 32) (c0_i32_1370 : BitVec 32) : Fin 2 → Nat :=
  let c0_i32_1371 : BitVec 32 := 0#32
  let v4703 : Index := Scalar.indexCast c0_i32_1371
  let c63_i32_1361 : BitVec 32 := 63#32
  let v4689 : BitVec 32 := Scalar.andi v4688 c63_i32_1361
  let c32_i32_1362 : BitVec 32 := 32#32
  let v4690 : BitVec 32 := Scalar.muli v4689 c32_i32_1362
  let v4702 : BitVec 32 := Scalar.addi v4690 c0_i32_1370
  let v4704 : Index := Scalar.indexCast v4702
  ![0, v4704.toNat]

def k0_off649 (v4688 : BitVec 32) (c0_i32_1374 : BitVec 32) : Fin 2 → Nat :=
  let c1_i32_1375 : BitVec 32 := 1#32
  let v4713 : Index := Scalar.indexCast c1_i32_1375
  let c63_i32_1361 : BitVec 32 := 63#32
  let v4689 : BitVec 32 := Scalar.andi v4688 c63_i32_1361
  let c32_i32_1362 : BitVec 32 := 32#32
  let v4690 : BitVec 32 := Scalar.muli v4689 c32_i32_1362
  let v4712 : BitVec 32 := Scalar.addi v4690 c0_i32_1374
  let v4714 : Index := Scalar.indexCast v4712
  ![1, v4714.toNat]
def k0_off650 (v4688 : BitVec 32) (c0_i32_1378 : BitVec 32) : Fin 2 → Nat :=
  let c2_i32_1379 : BitVec 32 := 2#32
  let v4723 : Index := Scalar.indexCast c2_i32_1379
  let c63_i32_1361 : BitVec 32 := 63#32
  let v4689 : BitVec 32 := Scalar.andi v4688 c63_i32_1361
  let c32_i32_1362 : BitVec 32 := 32#32
  let v4690 : BitVec 32 := Scalar.muli v4689 c32_i32_1362
  let v4722 : BitVec 32 := Scalar.addi v4690 c0_i32_1378
  let v4724 : Index := Scalar.indexCast v4722
  ![2, v4724.toNat]
def k0_off651 (v4688 : BitVec 32) (c0_i32_1382 : BitVec 32) : Fin 2 → Nat :=
  let c3_i32_1383 : BitVec 32 := 3#32
  let v4733 : Index := Scalar.indexCast c3_i32_1383
  let c63_i32_1361 : BitVec 32 := 63#32
  let v4689 : BitVec 32 := Scalar.andi v4688 c63_i32_1361
  let c32_i32_1362 : BitVec 32 := 32#32
  let v4690 : BitVec 32 := Scalar.muli v4689 c32_i32_1362
  let v4732 : BitVec 32 := Scalar.addi v4690 c0_i32_1382
  let v4734 : Index := Scalar.indexCast v4732
  ![3, v4734.toNat]
def k0_off652 (v4688 : BitVec 32) (c0_i32_1386 : BitVec 32) : Fin 2 → Nat :=
  let c4_i32_1387 : BitVec 32 := 4#32
  let v4743 : Index := Scalar.indexCast c4_i32_1387
  let c63_i32_1361 : BitVec 32 := 63#32
  let v4689 : BitVec 32 := Scalar.andi v4688 c63_i32_1361
  let c32_i32_1362 : BitVec 32 := 32#32
  let v4690 : BitVec 32 := Scalar.muli v4689 c32_i32_1362
  let v4742 : BitVec 32 := Scalar.addi v4690 c0_i32_1386
  let v4744 : Index := Scalar.indexCast v4742
  ![4, v4744.toNat]
def k0_off653 (v4688 : BitVec 32) (c0_i32_1390 : BitVec 32) : Fin 2 → Nat :=
  let c5_i32_1391 : BitVec 32 := 5#32
  let v4753 : Index := Scalar.indexCast c5_i32_1391
  let c63_i32_1361 : BitVec 32 := 63#32
  let v4689 : BitVec 32 := Scalar.andi v4688 c63_i32_1361
  let c32_i32_1362 : BitVec 32 := 32#32
  let v4690 : BitVec 32 := Scalar.muli v4689 c32_i32_1362
  let v4752 : BitVec 32 := Scalar.addi v4690 c0_i32_1390
  let v4754 : Index := Scalar.indexCast v4752
  ![5, v4754.toNat]
def k0_off654 (v4688 : BitVec 32) (c0_i32_1394 : BitVec 32) : Fin 2 → Nat :=
  let c6_i32_1395 : BitVec 32 := 6#32
  let v4763 : Index := Scalar.indexCast c6_i32_1395
  let c63_i32_1361 : BitVec 32 := 63#32
  let v4689 : BitVec 32 := Scalar.andi v4688 c63_i32_1361
  let c32_i32_1362 : BitVec 32 := 32#32
  let v4690 : BitVec 32 := Scalar.muli v4689 c32_i32_1362
  let v4762 : BitVec 32 := Scalar.addi v4690 c0_i32_1394
  let v4764 : Index := Scalar.indexCast v4762
  ![6, v4764.toNat]
def k0_off655 (v4688 : BitVec 32) (c0_i32_1398 : BitVec 32) : Fin 2 → Nat :=
  let c7_i32_1399 : BitVec 32 := 7#32
  let v4773 : Index := Scalar.indexCast c7_i32_1399
  let c63_i32_1361 : BitVec 32 := 63#32
  let v4689 : BitVec 32 := Scalar.andi v4688 c63_i32_1361
  let c32_i32_1362 : BitVec 32 := 32#32
  let v4690 : BitVec 32 := Scalar.muli v4689 c32_i32_1362
  let v4772 : BitVec 32 := Scalar.addi v4690 c0_i32_1398
  let v4774 : Index := Scalar.indexCast v4772
  ![7, v4774.toNat]
def k0_off656 (v4688 : BitVec 32) (c0_i32_1402 : BitVec 32) : Fin 2 → Nat :=
  let c0_i32_1403 : BitVec 32 := 0#32
  let v4783 : Index := Scalar.indexCast c0_i32_1403
  let c6_i32_1363 : BitVec 32 := 6#32
  let v4691 : BitVec 32 := Scalar.shrsi v4688 c6_i32_1363
  let c63_i32_1364 : BitVec 32 := 63#32
  let v4692 : BitVec 32 := Scalar.andi v4691 c63_i32_1364
  let c32_i32_1365 : BitVec 32 := 32#32
  let v4693 : BitVec 32 := Scalar.muli v4692 c32_i32_1365
  let v4782 : BitVec 32 := Scalar.addi v4693 c0_i32_1402
  let v4784 : Index := Scalar.indexCast v4782
  ![0, v4784.toNat]
def k0_off657 (v4688 : BitVec 32) (c0_i32_1406 : BitVec 32) : Fin 2 → Nat :=
  let c1_i32_1407 : BitVec 32 := 1#32
  let v4793 : Index := Scalar.indexCast c1_i32_1407
  let c6_i32_1363 : BitVec 32 := 6#32
  let v4691 : BitVec 32 := Scalar.shrsi v4688 c6_i32_1363
  let c63_i32_1364 : BitVec 32 := 63#32
  let v4692 : BitVec 32 := Scalar.andi v4691 c63_i32_1364
  let c32_i32_1365 : BitVec 32 := 32#32
  let v4693 : BitVec 32 := Scalar.muli v4692 c32_i32_1365
  let v4792 : BitVec 32 := Scalar.addi v4693 c0_i32_1406
  let v4794 : Index := Scalar.indexCast v4792
  ![1, v4794.toNat]
def k0_off658 (v4688 : BitVec 32) (c0_i32_1410 : BitVec 32) : Fin 2 → Nat :=
  let c2_i32_1411 : BitVec 32 := 2#32
  let v4803 : Index := Scalar.indexCast c2_i32_1411
  let c6_i32_1363 : BitVec 32 := 6#32
  let v4691 : BitVec 32 := Scalar.shrsi v4688 c6_i32_1363
  let c63_i32_1364 : BitVec 32 := 63#32
  let v4692 : BitVec 32 := Scalar.andi v4691 c63_i32_1364
  let c32_i32_1365 : BitVec 32 := 32#32
  let v4693 : BitVec 32 := Scalar.muli v4692 c32_i32_1365
  let v4802 : BitVec 32 := Scalar.addi v4693 c0_i32_1410
  let v4804 : Index := Scalar.indexCast v4802
  ![2, v4804.toNat]
def k0_off659 (v4688 : BitVec 32) (c0_i32_1414 : BitVec 32) : Fin 2 → Nat :=
  let c3_i32_1415 : BitVec 32 := 3#32
  let v4813 : Index := Scalar.indexCast c3_i32_1415
  let c6_i32_1363 : BitVec 32 := 6#32
  let v4691 : BitVec 32 := Scalar.shrsi v4688 c6_i32_1363
  let c63_i32_1364 : BitVec 32 := 63#32
  let v4692 : BitVec 32 := Scalar.andi v4691 c63_i32_1364
  let c32_i32_1365 : BitVec 32 := 32#32
  let v4693 : BitVec 32 := Scalar.muli v4692 c32_i32_1365
  let v4812 : BitVec 32 := Scalar.addi v4693 c0_i32_1414
  let v4814 : Index := Scalar.indexCast v4812
  ![3, v4814.toNat]
def k0_off660 (v4688 : BitVec 32) (c0_i32_1418 : BitVec 32) : Fin 2 → Nat :=
  let c4_i32_1419 : BitVec 32 := 4#32
  let v4823 : Index := Scalar.indexCast c4_i32_1419
  let c6_i32_1363 : BitVec 32 := 6#32
  let v4691 : BitVec 32 := Scalar.shrsi v4688 c6_i32_1363
  let c63_i32_1364 : BitVec 32 := 63#32
  let v4692 : BitVec 32 := Scalar.andi v4691 c63_i32_1364
  let c32_i32_1365 : BitVec 32 := 32#32
  let v4693 : BitVec 32 := Scalar.muli v4692 c32_i32_1365
  let v4822 : BitVec 32 := Scalar.addi v4693 c0_i32_1418
  let v4824 : Index := Scalar.indexCast v4822
  ![4, v4824.toNat]
def k0_off661 (v4688 : BitVec 32) (c0_i32_1422 : BitVec 32) : Fin 2 → Nat :=
  let c5_i32_1423 : BitVec 32 := 5#32
  let v4833 : Index := Scalar.indexCast c5_i32_1423
  let c6_i32_1363 : BitVec 32 := 6#32
  let v4691 : BitVec 32 := Scalar.shrsi v4688 c6_i32_1363
  let c63_i32_1364 : BitVec 32 := 63#32
  let v4692 : BitVec 32 := Scalar.andi v4691 c63_i32_1364
  let c32_i32_1365 : BitVec 32 := 32#32
  let v4693 : BitVec 32 := Scalar.muli v4692 c32_i32_1365
  let v4832 : BitVec 32 := Scalar.addi v4693 c0_i32_1422
  let v4834 : Index := Scalar.indexCast v4832
  ![5, v4834.toNat]
def k0_off662 (v4688 : BitVec 32) (c0_i32_1426 : BitVec 32) : Fin 2 → Nat :=
  let c6_i32_1427 : BitVec 32 := 6#32
  let v4843 : Index := Scalar.indexCast c6_i32_1427
  let c6_i32_1363 : BitVec 32 := 6#32
  let v4691 : BitVec 32 := Scalar.shrsi v4688 c6_i32_1363
  let c63_i32_1364 : BitVec 32 := 63#32
  let v4692 : BitVec 32 := Scalar.andi v4691 c63_i32_1364
  let c32_i32_1365 : BitVec 32 := 32#32
  let v4693 : BitVec 32 := Scalar.muli v4692 c32_i32_1365
  let v4842 : BitVec 32 := Scalar.addi v4693 c0_i32_1426
  let v4844 : Index := Scalar.indexCast v4842
  ![6, v4844.toNat]
def k0_off663 (v4688 : BitVec 32) (c0_i32_1430 : BitVec 32) : Fin 2 → Nat :=
  let c7_i32_1431 : BitVec 32 := 7#32
  let v4853 : Index := Scalar.indexCast c7_i32_1431
  let c6_i32_1363 : BitVec 32 := 6#32
  let v4691 : BitVec 32 := Scalar.shrsi v4688 c6_i32_1363
  let c63_i32_1364 : BitVec 32 := 63#32
  let v4692 : BitVec 32 := Scalar.andi v4691 c63_i32_1364
  let c32_i32_1365 : BitVec 32 := 32#32
  let v4693 : BitVec 32 := Scalar.muli v4692 c32_i32_1365
  let v4852 : BitVec 32 := Scalar.addi v4693 c0_i32_1430
  let v4854 : Index := Scalar.indexCast v4852
  ![7, v4854.toNat]
def k0_off664 (v4688 : BitVec 32) (c0_i32_1434 : BitVec 32) : Fin 2 → Nat :=
  let c0_i32_1435 : BitVec 32 := 0#32
  let v4895 : Index := Scalar.indexCast c0_i32_1435
  let c12_i32_1366 : BitVec 32 := 12#32
  let v4694 : BitVec 32 := Scalar.shrsi v4688 c12_i32_1366
  let c32_i32_1367 : BitVec 32 := 32#32
  let v4695 : BitVec 32 := Scalar.muli v4694 c32_i32_1367
  let v4894 : BitVec 32 := Scalar.addi v4695 c0_i32_1434
  let v4896 : Index := Scalar.indexCast v4894
  ![0, v4896.toNat]
def k0_off665 (v4688 : BitVec 32) (c0_i32_1442 : BitVec 32) : Fin 2 → Nat :=
  let c1_i32_1443 : BitVec 32 := 1#32
  let v4919 : Index := Scalar.indexCast c1_i32_1443
  let c12_i32_1366 : BitVec 32 := 12#32
  let v4694 : BitVec 32 := Scalar.shrsi v4688 c12_i32_1366
  let c32_i32_1367 : BitVec 32 := 32#32
  let v4695 : BitVec 32 := Scalar.muli v4694 c32_i32_1367
  let v4918 : BitVec 32 := Scalar.addi v4695 c0_i32_1442
  let v4920 : Index := Scalar.indexCast v4918
  ![1, v4920.toNat]
def k0_off666 (v4688 : BitVec 32) (c0_i32_1450 : BitVec 32) : Fin 2 → Nat :=
  let c2_i32_1451 : BitVec 32 := 2#32
  let v4943 : Index := Scalar.indexCast c2_i32_1451
  let c12_i32_1366 : BitVec 32 := 12#32
  let v4694 : BitVec 32 := Scalar.shrsi v4688 c12_i32_1366
  let c32_i32_1367 : BitVec 32 := 32#32
  let v4695 : BitVec 32 := Scalar.muli v4694 c32_i32_1367
  let v4942 : BitVec 32 := Scalar.addi v4695 c0_i32_1450
  let v4944 : Index := Scalar.indexCast v4942
  ![2, v4944.toNat]
def k0_off667 (v4688 : BitVec 32) (c0_i32_1458 : BitVec 32) : Fin 2 → Nat :=
  let c3_i32_1459 : BitVec 32 := 3#32
  let v4967 : Index := Scalar.indexCast c3_i32_1459
  let c12_i32_1366 : BitVec 32 := 12#32
  let v4694 : BitVec 32 := Scalar.shrsi v4688 c12_i32_1366
  let c32_i32_1367 : BitVec 32 := 32#32
  let v4695 : BitVec 32 := Scalar.muli v4694 c32_i32_1367
  let v4966 : BitVec 32 := Scalar.addi v4695 c0_i32_1458
  let v4968 : Index := Scalar.indexCast v4966
  ![3, v4968.toNat]
def k0_off668 (v4688 : BitVec 32) (c0_i32_1466 : BitVec 32) : Fin 2 → Nat :=
  let c4_i32_1467 : BitVec 32 := 4#32
  let v4991 : Index := Scalar.indexCast c4_i32_1467
  let c12_i32_1366 : BitVec 32 := 12#32
  let v4694 : BitVec 32 := Scalar.shrsi v4688 c12_i32_1366
  let c32_i32_1367 : BitVec 32 := 32#32
  let v4695 : BitVec 32 := Scalar.muli v4694 c32_i32_1367
  let v4990 : BitVec 32 := Scalar.addi v4695 c0_i32_1466
  let v4992 : Index := Scalar.indexCast v4990
  ![4, v4992.toNat]
def k0_off669 (v4688 : BitVec 32) (c0_i32_1474 : BitVec 32) : Fin 2 → Nat :=
  let c5_i32_1475 : BitVec 32 := 5#32
  let v5015 : Index := Scalar.indexCast c5_i32_1475
  let c12_i32_1366 : BitVec 32 := 12#32
  let v4694 : BitVec 32 := Scalar.shrsi v4688 c12_i32_1366
  let c32_i32_1367 : BitVec 32 := 32#32
  let v4695 : BitVec 32 := Scalar.muli v4694 c32_i32_1367
  let v5014 : BitVec 32 := Scalar.addi v4695 c0_i32_1474
  let v5016 : Index := Scalar.indexCast v5014
  ![5, v5016.toNat]
def k0_off670 (v4688 : BitVec 32) (c0_i32_1482 : BitVec 32) : Fin 2 → Nat :=
  let c6_i32_1483 : BitVec 32 := 6#32
  let v5039 : Index := Scalar.indexCast c6_i32_1483
  let c12_i32_1366 : BitVec 32 := 12#32
  let v4694 : BitVec 32 := Scalar.shrsi v4688 c12_i32_1366
  let c32_i32_1367 : BitVec 32 := 32#32
  let v4695 : BitVec 32 := Scalar.muli v4694 c32_i32_1367
  let v5038 : BitVec 32 := Scalar.addi v4695 c0_i32_1482
  let v5040 : Index := Scalar.indexCast v5038
  ![6, v5040.toNat]
def k0_off671 (v4688 : BitVec 32) (c0_i32_1490 : BitVec 32) : Fin 2 → Nat :=
  let c7_i32_1491 : BitVec 32 := 7#32
  let v5063 : Index := Scalar.indexCast c7_i32_1491
  let c12_i32_1366 : BitVec 32 := 12#32
  let v4694 : BitVec 32 := Scalar.shrsi v4688 c12_i32_1366
  let c32_i32_1367 : BitVec 32 := 32#32
  let v4695 : BitVec 32 := Scalar.muli v4694 c32_i32_1367
  let v5062 : BitVec 32 := Scalar.addi v4695 c0_i32_1490
  let v5064 : Index := Scalar.indexCast v5062
  ![7, v5064.toNat]

def k0_chk26 (v4688 : BitVec 32) : Prop :=
  (∀ (r : Fin 2), ∀ a, (k0_off648 v4688 (BitVec.ofNat 32 (16 * r.val))) a + S1x16.size a ≤ S8x2048.size a) ∧
  (∀ (r : Fin 2), ∀ a, (k0_off649 v4688 (BitVec.ofNat 32 (16 * r.val))) a + S1x16.size a ≤ S8x2048.size a) ∧
  (∀ (r : Fin 2), ∀ a, (k0_off650 v4688 (BitVec.ofNat 32 (16 * r.val))) a + S1x16.size a ≤ S8x2048.size a) ∧
  (∀ (r : Fin 2), ∀ a, (k0_off651 v4688 (BitVec.ofNat 32 (16 * r.val))) a + S1x16.size a ≤ S8x2048.size a) ∧
  (∀ (r : Fin 2), ∀ a, (k0_off652 v4688 (BitVec.ofNat 32 (16 * r.val))) a + S1x16.size a ≤ S8x2048.size a) ∧
  (∀ (r : Fin 2), ∀ a, (k0_off653 v4688 (BitVec.ofNat 32 (16 * r.val))) a + S1x16.size a ≤ S8x2048.size a) ∧
  (∀ (r : Fin 2), ∀ a, (k0_off654 v4688 (BitVec.ofNat 32 (16 * r.val))) a + S1x16.size a ≤ S8x2048.size a) ∧
  (∀ (r : Fin 2), ∀ a, (k0_off655 v4688 (BitVec.ofNat 32 (16 * r.val))) a + S1x16.size a ≤ S8x2048.size a) ∧
  (∀ (r : Fin 2), ∀ a, (k0_off656 v4688 (BitVec.ofNat 32 (16 * r.val))) a + S1x16.size a ≤ S8x2048.size a) ∧
  (∀ (r : Fin 2), ∀ a, (k0_off657 v4688 (BitVec.ofNat 32 (16 * r.val))) a + S1x16.size a ≤ S8x2048.size a) ∧
  (∀ (r : Fin 2), ∀ a, (k0_off658 v4688 (BitVec.ofNat 32 (16 * r.val))) a + S1x16.size a ≤ S8x2048.size a) ∧
  (∀ (r : Fin 2), ∀ a, (k0_off659 v4688 (BitVec.ofNat 32 (16 * r.val))) a + S1x16.size a ≤ S8x2048.size a) ∧
  (∀ (r : Fin 2), ∀ a, (k0_off660 v4688 (BitVec.ofNat 32 (16 * r.val))) a + S1x16.size a ≤ S8x2048.size a) ∧
  (∀ (r : Fin 2), ∀ a, (k0_off661 v4688 (BitVec.ofNat 32 (16 * r.val))) a + S1x16.size a ≤ S8x2048.size a) ∧
  (∀ (r : Fin 2), ∀ a, (k0_off662 v4688 (BitVec.ofNat 32 (16 * r.val))) a + S1x16.size a ≤ S8x2048.size a) ∧
  (∀ (r : Fin 2), ∀ a, (k0_off663 v4688 (BitVec.ofNat 32 (16 * r.val))) a + S1x16.size a ≤ S8x2048.size a) ∧
  (∀ (r : Fin 2), ∀ a, (k0_off664 v4688 (BitVec.ofNat 32 (16 * r.val))) a + S1x16.size a ≤ S8x2048.size a) ∧
  (∀ (r : Fin 2), ∀ a, (k0_off665 v4688 (BitVec.ofNat 32 (16 * r.val))) a + S1x16.size a ≤ S8x2048.size a) ∧
  (∀ (r : Fin 2), ∀ a, (k0_off666 v4688 (BitVec.ofNat 32 (16 * r.val))) a + S1x16.size a ≤ S8x2048.size a) ∧
  (∀ (r : Fin 2), ∀ a, (k0_off667 v4688 (BitVec.ofNat 32 (16 * r.val))) a + S1x16.size a ≤ S8x2048.size a) ∧
  (∀ (r : Fin 2), ∀ a, (k0_off668 v4688 (BitVec.ofNat 32 (16 * r.val))) a + S1x16.size a ≤ S8x2048.size a) ∧
  (∀ (r : Fin 2), ∀ a, (k0_off669 v4688 (BitVec.ofNat 32 (16 * r.val))) a + S1x16.size a ≤ S8x2048.size a) ∧
  (∀ (r : Fin 2), ∀ a, (k0_off670 v4688 (BitVec.ofNat 32 (16 * r.val))) a + S1x16.size a ≤ S8x2048.size a) ∧
  (∀ (r : Fin 2), ∀ a, (k0_off671 v4688 (BitVec.ofNat 32 (16 * r.val))) a + S1x16.size a ≤ S8x2048.size a)
theorem k0_off648_inb : ∀ (v4688 : BitVec 32) (k0_hw26 : k0_chk26 v4688), ∀ (r : Fin 2), ∀ a, (k0_off648 v4688 (BitVec.ofNat 32 (16 * r.val))) a + S1x16.size a ≤ S8x2048.size a := fun v4688 k0_hw26 r => k0_hw26.1 r
theorem k0_off649_inb : ∀ (v4688 : BitVec 32) (k0_hw26 : k0_chk26 v4688), ∀ (r : Fin 2), ∀ a, (k0_off649 v4688 (BitVec.ofNat 32 (16 * r.val))) a + S1x16.size a ≤ S8x2048.size a := fun v4688 k0_hw26 r => k0_hw26.2.1 r
theorem k0_off650_inb : ∀ (v4688 : BitVec 32) (k0_hw26 : k0_chk26 v4688), ∀ (r : Fin 2), ∀ a, (k0_off650 v4688 (BitVec.ofNat 32 (16 * r.val))) a + S1x16.size a ≤ S8x2048.size a := fun v4688 k0_hw26 r => k0_hw26.2.2.1 r
theorem k0_off651_inb : ∀ (v4688 : BitVec 32) (k0_hw26 : k0_chk26 v4688), ∀ (r : Fin 2), ∀ a, (k0_off651 v4688 (BitVec.ofNat 32 (16 * r.val))) a + S1x16.size a ≤ S8x2048.size a := fun v4688 k0_hw26 r => k0_hw26.2.2.2.1 r
theorem k0_off652_inb : ∀ (v4688 : BitVec 32) (k0_hw26 : k0_chk26 v4688), ∀ (r : Fin 2), ∀ a, (k0_off652 v4688 (BitVec.ofNat 32 (16 * r.val))) a + S1x16.size a ≤ S8x2048.size a := fun v4688 k0_hw26 r => k0_hw26.2.2.2.2.1 r
theorem k0_off653_inb : ∀ (v4688 : BitVec 32) (k0_hw26 : k0_chk26 v4688), ∀ (r : Fin 2), ∀ a, (k0_off653 v4688 (BitVec.ofNat 32 (16 * r.val))) a + S1x16.size a ≤ S8x2048.size a := fun v4688 k0_hw26 r => k0_hw26.2.2.2.2.2.1 r
theorem k0_off654_inb : ∀ (v4688 : BitVec 32) (k0_hw26 : k0_chk26 v4688), ∀ (r : Fin 2), ∀ a, (k0_off654 v4688 (BitVec.ofNat 32 (16 * r.val))) a + S1x16.size a ≤ S8x2048.size a := fun v4688 k0_hw26 r => k0_hw26.2.2.2.2.2.2.1 r
theorem k0_off655_inb : ∀ (v4688 : BitVec 32) (k0_hw26 : k0_chk26 v4688), ∀ (r : Fin 2), ∀ a, (k0_off655 v4688 (BitVec.ofNat 32 (16 * r.val))) a + S1x16.size a ≤ S8x2048.size a := fun v4688 k0_hw26 r => k0_hw26.2.2.2.2.2.2.2.1 r
theorem k0_off656_inb : ∀ (v4688 : BitVec 32) (k0_hw26 : k0_chk26 v4688), ∀ (r : Fin 2), ∀ a, (k0_off656 v4688 (BitVec.ofNat 32 (16 * r.val))) a + S1x16.size a ≤ S8x2048.size a := fun v4688 k0_hw26 r => k0_hw26.2.2.2.2.2.2.2.2.1 r
theorem k0_off657_inb : ∀ (v4688 : BitVec 32) (k0_hw26 : k0_chk26 v4688), ∀ (r : Fin 2), ∀ a, (k0_off657 v4688 (BitVec.ofNat 32 (16 * r.val))) a + S1x16.size a ≤ S8x2048.size a := fun v4688 k0_hw26 r => k0_hw26.2.2.2.2.2.2.2.2.2.1 r
theorem k0_off658_inb : ∀ (v4688 : BitVec 32) (k0_hw26 : k0_chk26 v4688), ∀ (r : Fin 2), ∀ a, (k0_off658 v4688 (BitVec.ofNat 32 (16 * r.val))) a + S1x16.size a ≤ S8x2048.size a := fun v4688 k0_hw26 r => k0_hw26.2.2.2.2.2.2.2.2.2.2.1 r
theorem k0_off659_inb : ∀ (v4688 : BitVec 32) (k0_hw26 : k0_chk26 v4688), ∀ (r : Fin 2), ∀ a, (k0_off659 v4688 (BitVec.ofNat 32 (16 * r.val))) a + S1x16.size a ≤ S8x2048.size a := fun v4688 k0_hw26 r => k0_hw26.2.2.2.2.2.2.2.2.2.2.2.1 r
theorem k0_off660_inb : ∀ (v4688 : BitVec 32) (k0_hw26 : k0_chk26 v4688), ∀ (r : Fin 2), ∀ a, (k0_off660 v4688 (BitVec.ofNat 32 (16 * r.val))) a + S1x16.size a ≤ S8x2048.size a := fun v4688 k0_hw26 r => k0_hw26.2.2.2.2.2.2.2.2.2.2.2.2.1 r
theorem k0_off661_inb : ∀ (v4688 : BitVec 32) (k0_hw26 : k0_chk26 v4688), ∀ (r : Fin 2), ∀ a, (k0_off661 v4688 (BitVec.ofNat 32 (16 * r.val))) a + S1x16.size a ≤ S8x2048.size a := fun v4688 k0_hw26 r => k0_hw26.2.2.2.2.2.2.2.2.2.2.2.2.2.1 r
theorem k0_off662_inb : ∀ (v4688 : BitVec 32) (k0_hw26 : k0_chk26 v4688), ∀ (r : Fin 2), ∀ a, (k0_off662 v4688 (BitVec.ofNat 32 (16 * r.val))) a + S1x16.size a ≤ S8x2048.size a := fun v4688 k0_hw26 r => k0_hw26.2.2.2.2.2.2.2.2.2.2.2.2.2.2.1 r
theorem k0_off663_inb : ∀ (v4688 : BitVec 32) (k0_hw26 : k0_chk26 v4688), ∀ (r : Fin 2), ∀ a, (k0_off663 v4688 (BitVec.ofNat 32 (16 * r.val))) a + S1x16.size a ≤ S8x2048.size a := fun v4688 k0_hw26 r => k0_hw26.2.2.2.2.2.2.2.2.2.2.2.2.2.2.2.1 r
theorem k0_off664_inb : ∀ (v4688 : BitVec 32) (k0_hw26 : k0_chk26 v4688), ∀ (r : Fin 2), ∀ a, (k0_off664 v4688 (BitVec.ofNat 32 (16 * r.val))) a + S1x16.size a ≤ S8x2048.size a := fun v4688 k0_hw26 r => k0_hw26.2.2.2.2.2.2.2.2.2.2.2.2.2.2.2.2.1 r
theorem k0_off665_inb : ∀ (v4688 : BitVec 32) (k0_hw26 : k0_chk26 v4688), ∀ (r : Fin 2), ∀ a, (k0_off665 v4688 (BitVec.ofNat 32 (16 * r.val))) a + S1x16.size a ≤ S8x2048.size a := fun v4688 k0_hw26 r => k0_hw26.2.2.2.2.2.2.2.2.2.2.2.2.2.2.2.2.2.1 r
theorem k0_off666_inb : ∀ (v4688 : BitVec 32) (k0_hw26 : k0_chk26 v4688), ∀ (r : Fin 2), ∀ a, (k0_off666 v4688 (BitVec.ofNat 32 (16 * r.val))) a + S1x16.size a ≤ S8x2048.size a := fun v4688 k0_hw26 r => k0_hw26.2.2.2.2.2.2.2.2.2.2.2.2.2.2.2.2.2.2.1 r
theorem k0_off667_inb : ∀ (v4688 : BitVec 32) (k0_hw26 : k0_chk26 v4688), ∀ (r : Fin 2), ∀ a, (k0_off667 v4688 (BitVec.ofNat 32 (16 * r.val))) a + S1x16.size a ≤ S8x2048.size a := fun v4688 k0_hw26 r => k0_hw26.2.2.2.2.2.2.2.2.2.2.2.2.2.2.2.2.2.2.2.1 r
theorem k0_off668_inb : ∀ (v4688 : BitVec 32) (k0_hw26 : k0_chk26 v4688), ∀ (r : Fin 2), ∀ a, (k0_off668 v4688 (BitVec.ofNat 32 (16 * r.val))) a + S1x16.size a ≤ S8x2048.size a := fun v4688 k0_hw26 r => k0_hw26.2.2.2.2.2.2.2.2.2.2.2.2.2.2.2.2.2.2.2.2.1 r
theorem k0_off669_inb : ∀ (v4688 : BitVec 32) (k0_hw26 : k0_chk26 v4688), ∀ (r : Fin 2), ∀ a, (k0_off669 v4688 (BitVec.ofNat 32 (16 * r.val))) a + S1x16.size a ≤ S8x2048.size a := fun v4688 k0_hw26 r => k0_hw26.2.2.2.2.2.2.2.2.2.2.2.2.2.2.2.2.2.2.2.2.2.1 r
theorem k0_off670_inb : ∀ (v4688 : BitVec 32) (k0_hw26 : k0_chk26 v4688), ∀ (r : Fin 2), ∀ a, (k0_off670 v4688 (BitVec.ofNat 32 (16 * r.val))) a + S1x16.size a ≤ S8x2048.size a := fun v4688 k0_hw26 r => k0_hw26.2.2.2.2.2.2.2.2.2.2.2.2.2.2.2.2.2.2.2.2.2.2.1 r
theorem k0_off671_inb : ∀ (v4688 : BitVec 32) (k0_hw26 : k0_chk26 v4688), ∀ (r : Fin 2), ∀ a, (k0_off671 v4688 (BitVec.ofNat 32 (16 * r.val))) a + S1x16.size a ≤ S8x2048.size a := fun v4688 k0_hw26 r => k0_hw26.2.2.2.2.2.2.2.2.2.2.2.2.2.2.2.2.2.2.2.2.2.2.2 r

def k0_off672 (k0_t5 : Fin k0_t5_loop.trips) : Fin 1 → Nat :=
  let c0_i32_116 : BitVec 32 := 0#32
  let c1_i32_118 : BitVec 32 := 1#32
  let arg28 : BitVec 32 := Scf.iv c0_i32_116 c1_i32_118 k0_t5
  let c16_i32_1505 : BitVec 32 := 16#32
  let v5095 : BitVec 32 := Scalar.muli arg28 c16_i32_1505
  let c10_i32 : BitVec 32 := 10#32
  let v5096 : BitVec 32 := Scalar.addi v5095 c10_i32
  let c16_i32_1506 : BitVec 32 := 16#32
  let v5097 : BitVec 32 := Scalar.muli v5096 c16_i32_1506
  let v5098 : Index := Scalar.indexCast v5097
  ![v5098.toNat]
def k0_off673 (v5087 : BitVec 32) (c0_i32_1507 : BitVec 32) : Fin 2 → Nat :=
  let c0_i32_1508 : BitVec 32 := 0#32
  let v5102 : Index := Scalar.indexCast c0_i32_1508
  let c63_i32_1498 : BitVec 32 := 63#32
  let v5088 : BitVec 32 := Scalar.andi v5087 c63_i32_1498
  let c32_i32_1499 : BitVec 32 := 32#32
  let v5089 : BitVec 32 := Scalar.muli v5088 c32_i32_1499
  let v5101 : BitVec 32 := Scalar.addi v5089 c0_i32_1507
  let v5103 : Index := Scalar.indexCast v5101
  ![0, v5103.toNat]

def k0_off674 (v5087 : BitVec 32) (c0_i32_1511 : BitVec 32) : Fin 2 → Nat :=
  let c1_i32_1512 : BitVec 32 := 1#32
  let v5112 : Index := Scalar.indexCast c1_i32_1512
  let c63_i32_1498 : BitVec 32 := 63#32
  let v5088 : BitVec 32 := Scalar.andi v5087 c63_i32_1498
  let c32_i32_1499 : BitVec 32 := 32#32
  let v5089 : BitVec 32 := Scalar.muli v5088 c32_i32_1499
  let v5111 : BitVec 32 := Scalar.addi v5089 c0_i32_1511
  let v5113 : Index := Scalar.indexCast v5111
  ![1, v5113.toNat]
def k0_off675 (v5087 : BitVec 32) (c0_i32_1515 : BitVec 32) : Fin 2 → Nat :=
  let c2_i32_1516 : BitVec 32 := 2#32
  let v5122 : Index := Scalar.indexCast c2_i32_1516
  let c63_i32_1498 : BitVec 32 := 63#32
  let v5088 : BitVec 32 := Scalar.andi v5087 c63_i32_1498
  let c32_i32_1499 : BitVec 32 := 32#32
  let v5089 : BitVec 32 := Scalar.muli v5088 c32_i32_1499
  let v5121 : BitVec 32 := Scalar.addi v5089 c0_i32_1515
  let v5123 : Index := Scalar.indexCast v5121
  ![2, v5123.toNat]
def k0_off676 (v5087 : BitVec 32) (c0_i32_1519 : BitVec 32) : Fin 2 → Nat :=
  let c3_i32_1520 : BitVec 32 := 3#32
  let v5132 : Index := Scalar.indexCast c3_i32_1520
  let c63_i32_1498 : BitVec 32 := 63#32
  let v5088 : BitVec 32 := Scalar.andi v5087 c63_i32_1498
  let c32_i32_1499 : BitVec 32 := 32#32
  let v5089 : BitVec 32 := Scalar.muli v5088 c32_i32_1499
  let v5131 : BitVec 32 := Scalar.addi v5089 c0_i32_1519
  let v5133 : Index := Scalar.indexCast v5131
  ![3, v5133.toNat]
def k0_off677 (v5087 : BitVec 32) (c0_i32_1523 : BitVec 32) : Fin 2 → Nat :=
  let c4_i32_1524 : BitVec 32 := 4#32
  let v5142 : Index := Scalar.indexCast c4_i32_1524
  let c63_i32_1498 : BitVec 32 := 63#32
  let v5088 : BitVec 32 := Scalar.andi v5087 c63_i32_1498
  let c32_i32_1499 : BitVec 32 := 32#32
  let v5089 : BitVec 32 := Scalar.muli v5088 c32_i32_1499
  let v5141 : BitVec 32 := Scalar.addi v5089 c0_i32_1523
  let v5143 : Index := Scalar.indexCast v5141
  ![4, v5143.toNat]
def k0_off678 (v5087 : BitVec 32) (c0_i32_1527 : BitVec 32) : Fin 2 → Nat :=
  let c5_i32_1528 : BitVec 32 := 5#32
  let v5152 : Index := Scalar.indexCast c5_i32_1528
  let c63_i32_1498 : BitVec 32 := 63#32
  let v5088 : BitVec 32 := Scalar.andi v5087 c63_i32_1498
  let c32_i32_1499 : BitVec 32 := 32#32
  let v5089 : BitVec 32 := Scalar.muli v5088 c32_i32_1499
  let v5151 : BitVec 32 := Scalar.addi v5089 c0_i32_1527
  let v5153 : Index := Scalar.indexCast v5151
  ![5, v5153.toNat]
def k0_off679 (v5087 : BitVec 32) (c0_i32_1531 : BitVec 32) : Fin 2 → Nat :=
  let c6_i32_1532 : BitVec 32 := 6#32
  let v5162 : Index := Scalar.indexCast c6_i32_1532
  let c63_i32_1498 : BitVec 32 := 63#32
  let v5088 : BitVec 32 := Scalar.andi v5087 c63_i32_1498
  let c32_i32_1499 : BitVec 32 := 32#32
  let v5089 : BitVec 32 := Scalar.muli v5088 c32_i32_1499
  let v5161 : BitVec 32 := Scalar.addi v5089 c0_i32_1531
  let v5163 : Index := Scalar.indexCast v5161
  ![6, v5163.toNat]
def k0_off680 (v5087 : BitVec 32) (c0_i32_1535 : BitVec 32) : Fin 2 → Nat :=
  let c7_i32_1536 : BitVec 32 := 7#32
  let v5172 : Index := Scalar.indexCast c7_i32_1536
  let c63_i32_1498 : BitVec 32 := 63#32
  let v5088 : BitVec 32 := Scalar.andi v5087 c63_i32_1498
  let c32_i32_1499 : BitVec 32 := 32#32
  let v5089 : BitVec 32 := Scalar.muli v5088 c32_i32_1499
  let v5171 : BitVec 32 := Scalar.addi v5089 c0_i32_1535
  let v5173 : Index := Scalar.indexCast v5171
  ![7, v5173.toNat]
def k0_off681 (v5087 : BitVec 32) (c0_i32_1539 : BitVec 32) : Fin 2 → Nat :=
  let c0_i32_1540 : BitVec 32 := 0#32
  let v5182 : Index := Scalar.indexCast c0_i32_1540
  let c6_i32_1500 : BitVec 32 := 6#32
  let v5090 : BitVec 32 := Scalar.shrsi v5087 c6_i32_1500
  let c63_i32_1501 : BitVec 32 := 63#32
  let v5091 : BitVec 32 := Scalar.andi v5090 c63_i32_1501
  let c32_i32_1502 : BitVec 32 := 32#32
  let v5092 : BitVec 32 := Scalar.muli v5091 c32_i32_1502
  let v5181 : BitVec 32 := Scalar.addi v5092 c0_i32_1539
  let v5183 : Index := Scalar.indexCast v5181
  ![0, v5183.toNat]
def k0_off682 (v5087 : BitVec 32) (c0_i32_1543 : BitVec 32) : Fin 2 → Nat :=
  let c1_i32_1544 : BitVec 32 := 1#32
  let v5192 : Index := Scalar.indexCast c1_i32_1544
  let c6_i32_1500 : BitVec 32 := 6#32
  let v5090 : BitVec 32 := Scalar.shrsi v5087 c6_i32_1500
  let c63_i32_1501 : BitVec 32 := 63#32
  let v5091 : BitVec 32 := Scalar.andi v5090 c63_i32_1501
  let c32_i32_1502 : BitVec 32 := 32#32
  let v5092 : BitVec 32 := Scalar.muli v5091 c32_i32_1502
  let v5191 : BitVec 32 := Scalar.addi v5092 c0_i32_1543
  let v5193 : Index := Scalar.indexCast v5191
  ![1, v5193.toNat]
def k0_off683 (v5087 : BitVec 32) (c0_i32_1547 : BitVec 32) : Fin 2 → Nat :=
  let c2_i32_1548 : BitVec 32 := 2#32
  let v5202 : Index := Scalar.indexCast c2_i32_1548
  let c6_i32_1500 : BitVec 32 := 6#32
  let v5090 : BitVec 32 := Scalar.shrsi v5087 c6_i32_1500
  let c63_i32_1501 : BitVec 32 := 63#32
  let v5091 : BitVec 32 := Scalar.andi v5090 c63_i32_1501
  let c32_i32_1502 : BitVec 32 := 32#32
  let v5092 : BitVec 32 := Scalar.muli v5091 c32_i32_1502
  let v5201 : BitVec 32 := Scalar.addi v5092 c0_i32_1547
  let v5203 : Index := Scalar.indexCast v5201
  ![2, v5203.toNat]
def k0_off684 (v5087 : BitVec 32) (c0_i32_1551 : BitVec 32) : Fin 2 → Nat :=
  let c3_i32_1552 : BitVec 32 := 3#32
  let v5212 : Index := Scalar.indexCast c3_i32_1552
  let c6_i32_1500 : BitVec 32 := 6#32
  let v5090 : BitVec 32 := Scalar.shrsi v5087 c6_i32_1500
  let c63_i32_1501 : BitVec 32 := 63#32
  let v5091 : BitVec 32 := Scalar.andi v5090 c63_i32_1501
  let c32_i32_1502 : BitVec 32 := 32#32
  let v5092 : BitVec 32 := Scalar.muli v5091 c32_i32_1502
  let v5211 : BitVec 32 := Scalar.addi v5092 c0_i32_1551
  let v5213 : Index := Scalar.indexCast v5211
  ![3, v5213.toNat]
def k0_off685 (v5087 : BitVec 32) (c0_i32_1555 : BitVec 32) : Fin 2 → Nat :=
  let c4_i32_1556 : BitVec 32 := 4#32
  let v5222 : Index := Scalar.indexCast c4_i32_1556
  let c6_i32_1500 : BitVec 32 := 6#32
  let v5090 : BitVec 32 := Scalar.shrsi v5087 c6_i32_1500
  let c63_i32_1501 : BitVec 32 := 63#32
  let v5091 : BitVec 32 := Scalar.andi v5090 c63_i32_1501
  let c32_i32_1502 : BitVec 32 := 32#32
  let v5092 : BitVec 32 := Scalar.muli v5091 c32_i32_1502
  let v5221 : BitVec 32 := Scalar.addi v5092 c0_i32_1555
  let v5223 : Index := Scalar.indexCast v5221
  ![4, v5223.toNat]
def k0_off686 (v5087 : BitVec 32) (c0_i32_1559 : BitVec 32) : Fin 2 → Nat :=
  let c5_i32_1560 : BitVec 32 := 5#32
  let v5232 : Index := Scalar.indexCast c5_i32_1560
  let c6_i32_1500 : BitVec 32 := 6#32
  let v5090 : BitVec 32 := Scalar.shrsi v5087 c6_i32_1500
  let c63_i32_1501 : BitVec 32 := 63#32
  let v5091 : BitVec 32 := Scalar.andi v5090 c63_i32_1501
  let c32_i32_1502 : BitVec 32 := 32#32
  let v5092 : BitVec 32 := Scalar.muli v5091 c32_i32_1502
  let v5231 : BitVec 32 := Scalar.addi v5092 c0_i32_1559
  let v5233 : Index := Scalar.indexCast v5231
  ![5, v5233.toNat]
def k0_off687 (v5087 : BitVec 32) (c0_i32_1563 : BitVec 32) : Fin 2 → Nat :=
  let c6_i32_1564 : BitVec 32 := 6#32
  let v5242 : Index := Scalar.indexCast c6_i32_1564
  let c6_i32_1500 : BitVec 32 := 6#32
  let v5090 : BitVec 32 := Scalar.shrsi v5087 c6_i32_1500
  let c63_i32_1501 : BitVec 32 := 63#32
  let v5091 : BitVec 32 := Scalar.andi v5090 c63_i32_1501
  let c32_i32_1502 : BitVec 32 := 32#32
  let v5092 : BitVec 32 := Scalar.muli v5091 c32_i32_1502
  let v5241 : BitVec 32 := Scalar.addi v5092 c0_i32_1563
  let v5243 : Index := Scalar.indexCast v5241
  ![6, v5243.toNat]
def k0_off688 (v5087 : BitVec 32) (c0_i32_1567 : BitVec 32) : Fin 2 → Nat :=
  let c7_i32_1568 : BitVec 32 := 7#32
  let v5252 : Index := Scalar.indexCast c7_i32_1568
  let c6_i32_1500 : BitVec 32 := 6#32
  let v5090 : BitVec 32 := Scalar.shrsi v5087 c6_i32_1500
  let c63_i32_1501 : BitVec 32 := 63#32
  let v5091 : BitVec 32 := Scalar.andi v5090 c63_i32_1501
  let c32_i32_1502 : BitVec 32 := 32#32
  let v5092 : BitVec 32 := Scalar.muli v5091 c32_i32_1502
  let v5251 : BitVec 32 := Scalar.addi v5092 c0_i32_1567
  let v5253 : Index := Scalar.indexCast v5251
  ![7, v5253.toNat]
def k0_off689 (v5087 : BitVec 32) (c0_i32_1571 : BitVec 32) : Fin 2 → Nat :=
  let c0_i32_1572 : BitVec 32 := 0#32
  let v5294 : Index := Scalar.indexCast c0_i32_1572
  let c12_i32_1503 : BitVec 32 := 12#32
  let v5093 : BitVec 32 := Scalar.shrsi v5087 c12_i32_1503
  let c32_i32_1504 : BitVec 32 := 32#32
  let v5094 : BitVec 32 := Scalar.muli v5093 c32_i32_1504
  let v5293 : BitVec 32 := Scalar.addi v5094 c0_i32_1571
  let v5295 : Index := Scalar.indexCast v5293
  ![0, v5295.toNat]
def k0_off690 (v5087 : BitVec 32) (c0_i32_1579 : BitVec 32) : Fin 2 → Nat :=
  let c1_i32_1580 : BitVec 32 := 1#32
  let v5318 : Index := Scalar.indexCast c1_i32_1580
  let c12_i32_1503 : BitVec 32 := 12#32
  let v5093 : BitVec 32 := Scalar.shrsi v5087 c12_i32_1503
  let c32_i32_1504 : BitVec 32 := 32#32
  let v5094 : BitVec 32 := Scalar.muli v5093 c32_i32_1504
  let v5317 : BitVec 32 := Scalar.addi v5094 c0_i32_1579
  let v5319 : Index := Scalar.indexCast v5317
  ![1, v5319.toNat]
def k0_off691 (v5087 : BitVec 32) (c0_i32_1587 : BitVec 32) : Fin 2 → Nat :=
  let c2_i32_1588 : BitVec 32 := 2#32
  let v5342 : Index := Scalar.indexCast c2_i32_1588
  let c12_i32_1503 : BitVec 32 := 12#32
  let v5093 : BitVec 32 := Scalar.shrsi v5087 c12_i32_1503
  let c32_i32_1504 : BitVec 32 := 32#32
  let v5094 : BitVec 32 := Scalar.muli v5093 c32_i32_1504
  let v5341 : BitVec 32 := Scalar.addi v5094 c0_i32_1587
  let v5343 : Index := Scalar.indexCast v5341
  ![2, v5343.toNat]
def k0_off692 (v5087 : BitVec 32) (c0_i32_1595 : BitVec 32) : Fin 2 → Nat :=
  let c3_i32_1596 : BitVec 32 := 3#32
  let v5366 : Index := Scalar.indexCast c3_i32_1596
  let c12_i32_1503 : BitVec 32 := 12#32
  let v5093 : BitVec 32 := Scalar.shrsi v5087 c12_i32_1503
  let c32_i32_1504 : BitVec 32 := 32#32
  let v5094 : BitVec 32 := Scalar.muli v5093 c32_i32_1504
  let v5365 : BitVec 32 := Scalar.addi v5094 c0_i32_1595
  let v5367 : Index := Scalar.indexCast v5365
  ![3, v5367.toNat]
def k0_off693 (v5087 : BitVec 32) (c0_i32_1603 : BitVec 32) : Fin 2 → Nat :=
  let c4_i32_1604 : BitVec 32 := 4#32
  let v5390 : Index := Scalar.indexCast c4_i32_1604
  let c12_i32_1503 : BitVec 32 := 12#32
  let v5093 : BitVec 32 := Scalar.shrsi v5087 c12_i32_1503
  let c32_i32_1504 : BitVec 32 := 32#32
  let v5094 : BitVec 32 := Scalar.muli v5093 c32_i32_1504
  let v5389 : BitVec 32 := Scalar.addi v5094 c0_i32_1603
  let v5391 : Index := Scalar.indexCast v5389
  ![4, v5391.toNat]
def k0_off694 (v5087 : BitVec 32) (c0_i32_1611 : BitVec 32) : Fin 2 → Nat :=
  let c5_i32_1612 : BitVec 32 := 5#32
  let v5414 : Index := Scalar.indexCast c5_i32_1612
  let c12_i32_1503 : BitVec 32 := 12#32
  let v5093 : BitVec 32 := Scalar.shrsi v5087 c12_i32_1503
  let c32_i32_1504 : BitVec 32 := 32#32
  let v5094 : BitVec 32 := Scalar.muli v5093 c32_i32_1504
  let v5413 : BitVec 32 := Scalar.addi v5094 c0_i32_1611
  let v5415 : Index := Scalar.indexCast v5413
  ![5, v5415.toNat]
def k0_off695 (v5087 : BitVec 32) (c0_i32_1619 : BitVec 32) : Fin 2 → Nat :=
  let c6_i32_1620 : BitVec 32 := 6#32
  let v5438 : Index := Scalar.indexCast c6_i32_1620
  let c12_i32_1503 : BitVec 32 := 12#32
  let v5093 : BitVec 32 := Scalar.shrsi v5087 c12_i32_1503
  let c32_i32_1504 : BitVec 32 := 32#32
  let v5094 : BitVec 32 := Scalar.muli v5093 c32_i32_1504
  let v5437 : BitVec 32 := Scalar.addi v5094 c0_i32_1619
  let v5439 : Index := Scalar.indexCast v5437
  ![6, v5439.toNat]
def k0_off696 (v5087 : BitVec 32) (c0_i32_1627 : BitVec 32) : Fin 2 → Nat :=
  let c7_i32_1628 : BitVec 32 := 7#32
  let v5462 : Index := Scalar.indexCast c7_i32_1628
  let c12_i32_1503 : BitVec 32 := 12#32
  let v5093 : BitVec 32 := Scalar.shrsi v5087 c12_i32_1503
  let c32_i32_1504 : BitVec 32 := 32#32
  let v5094 : BitVec 32 := Scalar.muli v5093 c32_i32_1504
  let v5461 : BitVec 32 := Scalar.addi v5094 c0_i32_1627
  let v5463 : Index := Scalar.indexCast v5461
  ![7, v5463.toNat]

def k0_chk27 (v5087 : BitVec 32) : Prop :=
  (∀ (r : Fin 2), ∀ a, (k0_off673 v5087 (BitVec.ofNat 32 (16 * r.val))) a + S1x16.size a ≤ S8x2048.size a) ∧
  (∀ (r : Fin 2), ∀ a, (k0_off674 v5087 (BitVec.ofNat 32 (16 * r.val))) a + S1x16.size a ≤ S8x2048.size a) ∧
  (∀ (r : Fin 2), ∀ a, (k0_off675 v5087 (BitVec.ofNat 32 (16 * r.val))) a + S1x16.size a ≤ S8x2048.size a) ∧
  (∀ (r : Fin 2), ∀ a, (k0_off676 v5087 (BitVec.ofNat 32 (16 * r.val))) a + S1x16.size a ≤ S8x2048.size a) ∧
  (∀ (r : Fin 2), ∀ a, (k0_off677 v5087 (BitVec.ofNat 32 (16 * r.val))) a + S1x16.size a ≤ S8x2048.size a) ∧
  (∀ (r : Fin 2), ∀ a, (k0_off678 v5087 (BitVec.ofNat 32 (16 * r.val))) a + S1x16.size a ≤ S8x2048.size a) ∧
  (∀ (r : Fin 2), ∀ a, (k0_off679 v5087 (BitVec.ofNat 32 (16 * r.val))) a + S1x16.size a ≤ S8x2048.size a) ∧
  (∀ (r : Fin 2), ∀ a, (k0_off680 v5087 (BitVec.ofNat 32 (16 * r.val))) a + S1x16.size a ≤ S8x2048.size a) ∧
  (∀ (r : Fin 2), ∀ a, (k0_off681 v5087 (BitVec.ofNat 32 (16 * r.val))) a + S1x16.size a ≤ S8x2048.size a) ∧
  (∀ (r : Fin 2), ∀ a, (k0_off682 v5087 (BitVec.ofNat 32 (16 * r.val))) a + S1x16.size a ≤ S8x2048.size a) ∧
  (∀ (r : Fin 2), ∀ a, (k0_off683 v5087 (BitVec.ofNat 32 (16 * r.val))) a + S1x16.size a ≤ S8x2048.size a) ∧
  (∀ (r : Fin 2), ∀ a, (k0_off684 v5087 (BitVec.ofNat 32 (16 * r.val))) a + S1x16.size a ≤ S8x2048.size a) ∧
  (∀ (r : Fin 2), ∀ a, (k0_off685 v5087 (BitVec.ofNat 32 (16 * r.val))) a + S1x16.size a ≤ S8x2048.size a) ∧
  (∀ (r : Fin 2), ∀ a, (k0_off686 v5087 (BitVec.ofNat 32 (16 * r.val))) a + S1x16.size a ≤ S8x2048.size a) ∧
  (∀ (r : Fin 2), ∀ a, (k0_off687 v5087 (BitVec.ofNat 32 (16 * r.val))) a + S1x16.size a ≤ S8x2048.size a) ∧
  (∀ (r : Fin 2), ∀ a, (k0_off688 v5087 (BitVec.ofNat 32 (16 * r.val))) a + S1x16.size a ≤ S8x2048.size a) ∧
  (∀ (r : Fin 2), ∀ a, (k0_off689 v5087 (BitVec.ofNat 32 (16 * r.val))) a + S1x16.size a ≤ S8x2048.size a) ∧
  (∀ (r : Fin 2), ∀ a, (k0_off690 v5087 (BitVec.ofNat 32 (16 * r.val))) a + S1x16.size a ≤ S8x2048.size a) ∧
  (∀ (r : Fin 2), ∀ a, (k0_off691 v5087 (BitVec.ofNat 32 (16 * r.val))) a + S1x16.size a ≤ S8x2048.size a) ∧
  (∀ (r : Fin 2), ∀ a, (k0_off692 v5087 (BitVec.ofNat 32 (16 * r.val))) a + S1x16.size a ≤ S8x2048.size a) ∧
  (∀ (r : Fin 2), ∀ a, (k0_off693 v5087 (BitVec.ofNat 32 (16 * r.val))) a + S1x16.size a ≤ S8x2048.size a) ∧
  (∀ (r : Fin 2), ∀ a, (k0_off694 v5087 (BitVec.ofNat 32 (16 * r.val))) a + S1x16.size a ≤ S8x2048.size a) ∧
  (∀ (r : Fin 2), ∀ a, (k0_off695 v5087 (BitVec.ofNat 32 (16 * r.val))) a + S1x16.size a ≤ S8x2048.size a) ∧
  (∀ (r : Fin 2), ∀ a, (k0_off696 v5087 (BitVec.ofNat 32 (16 * r.val))) a + S1x16.size a ≤ S8x2048.size a)
theorem k0_off673_inb : ∀ (v5087 : BitVec 32) (k0_hw27 : k0_chk27 v5087), ∀ (r : Fin 2), ∀ a, (k0_off673 v5087 (BitVec.ofNat 32 (16 * r.val))) a + S1x16.size a ≤ S8x2048.size a := fun v5087 k0_hw27 r => k0_hw27.1 r
theorem k0_off674_inb : ∀ (v5087 : BitVec 32) (k0_hw27 : k0_chk27 v5087), ∀ (r : Fin 2), ∀ a, (k0_off674 v5087 (BitVec.ofNat 32 (16 * r.val))) a + S1x16.size a ≤ S8x2048.size a := fun v5087 k0_hw27 r => k0_hw27.2.1 r
theorem k0_off675_inb : ∀ (v5087 : BitVec 32) (k0_hw27 : k0_chk27 v5087), ∀ (r : Fin 2), ∀ a, (k0_off675 v5087 (BitVec.ofNat 32 (16 * r.val))) a + S1x16.size a ≤ S8x2048.size a := fun v5087 k0_hw27 r => k0_hw27.2.2.1 r
theorem k0_off676_inb : ∀ (v5087 : BitVec 32) (k0_hw27 : k0_chk27 v5087), ∀ (r : Fin 2), ∀ a, (k0_off676 v5087 (BitVec.ofNat 32 (16 * r.val))) a + S1x16.size a ≤ S8x2048.size a := fun v5087 k0_hw27 r => k0_hw27.2.2.2.1 r
theorem k0_off677_inb : ∀ (v5087 : BitVec 32) (k0_hw27 : k0_chk27 v5087), ∀ (r : Fin 2), ∀ a, (k0_off677 v5087 (BitVec.ofNat 32 (16 * r.val))) a + S1x16.size a ≤ S8x2048.size a := fun v5087 k0_hw27 r => k0_hw27.2.2.2.2.1 r
theorem k0_off678_inb : ∀ (v5087 : BitVec 32) (k0_hw27 : k0_chk27 v5087), ∀ (r : Fin 2), ∀ a, (k0_off678 v5087 (BitVec.ofNat 32 (16 * r.val))) a + S1x16.size a ≤ S8x2048.size a := fun v5087 k0_hw27 r => k0_hw27.2.2.2.2.2.1 r
theorem k0_off679_inb : ∀ (v5087 : BitVec 32) (k0_hw27 : k0_chk27 v5087), ∀ (r : Fin 2), ∀ a, (k0_off679 v5087 (BitVec.ofNat 32 (16 * r.val))) a + S1x16.size a ≤ S8x2048.size a := fun v5087 k0_hw27 r => k0_hw27.2.2.2.2.2.2.1 r
theorem k0_off680_inb : ∀ (v5087 : BitVec 32) (k0_hw27 : k0_chk27 v5087), ∀ (r : Fin 2), ∀ a, (k0_off680 v5087 (BitVec.ofNat 32 (16 * r.val))) a + S1x16.size a ≤ S8x2048.size a := fun v5087 k0_hw27 r => k0_hw27.2.2.2.2.2.2.2.1 r
theorem k0_off681_inb : ∀ (v5087 : BitVec 32) (k0_hw27 : k0_chk27 v5087), ∀ (r : Fin 2), ∀ a, (k0_off681 v5087 (BitVec.ofNat 32 (16 * r.val))) a + S1x16.size a ≤ S8x2048.size a := fun v5087 k0_hw27 r => k0_hw27.2.2.2.2.2.2.2.2.1 r
theorem k0_off682_inb : ∀ (v5087 : BitVec 32) (k0_hw27 : k0_chk27 v5087), ∀ (r : Fin 2), ∀ a, (k0_off682 v5087 (BitVec.ofNat 32 (16 * r.val))) a + S1x16.size a ≤ S8x2048.size a := fun v5087 k0_hw27 r => k0_hw27.2.2.2.2.2.2.2.2.2.1 r
theorem k0_off683_inb : ∀ (v5087 : BitVec 32) (k0_hw27 : k0_chk27 v5087), ∀ (r : Fin 2), ∀ a, (k0_off683 v5087 (BitVec.ofNat 32 (16 * r.val))) a + S1x16.size a ≤ S8x2048.size a := fun v5087 k0_hw27 r => k0_hw27.2.2.2.2.2.2.2.2.2.2.1 r
theorem k0_off684_inb : ∀ (v5087 : BitVec 32) (k0_hw27 : k0_chk27 v5087), ∀ (r : Fin 2), ∀ a, (k0_off684 v5087 (BitVec.ofNat 32 (16 * r.val))) a + S1x16.size a ≤ S8x2048.size a := fun v5087 k0_hw27 r => k0_hw27.2.2.2.2.2.2.2.2.2.2.2.1 r
theorem k0_off685_inb : ∀ (v5087 : BitVec 32) (k0_hw27 : k0_chk27 v5087), ∀ (r : Fin 2), ∀ a, (k0_off685 v5087 (BitVec.ofNat 32 (16 * r.val))) a + S1x16.size a ≤ S8x2048.size a := fun v5087 k0_hw27 r => k0_hw27.2.2.2.2.2.2.2.2.2.2.2.2.1 r
theorem k0_off686_inb : ∀ (v5087 : BitVec 32) (k0_hw27 : k0_chk27 v5087), ∀ (r : Fin 2), ∀ a, (k0_off686 v5087 (BitVec.ofNat 32 (16 * r.val))) a + S1x16.size a ≤ S8x2048.size a := fun v5087 k0_hw27 r => k0_hw27.2.2.2.2.2.2.2.2.2.2.2.2.2.1 r
theorem k0_off687_inb : ∀ (v5087 : BitVec 32) (k0_hw27 : k0_chk27 v5087), ∀ (r : Fin 2), ∀ a, (k0_off687 v5087 (BitVec.ofNat 32 (16 * r.val))) a + S1x16.size a ≤ S8x2048.size a := fun v5087 k0_hw27 r => k0_hw27.2.2.2.2.2.2.2.2.2.2.2.2.2.2.1 r
theorem k0_off688_inb : ∀ (v5087 : BitVec 32) (k0_hw27 : k0_chk27 v5087), ∀ (r : Fin 2), ∀ a, (k0_off688 v5087 (BitVec.ofNat 32 (16 * r.val))) a + S1x16.size a ≤ S8x2048.size a := fun v5087 k0_hw27 r => k0_hw27.2.2.2.2.2.2.2.2.2.2.2.2.2.2.2.1 r
theorem k0_off689_inb : ∀ (v5087 : BitVec 32) (k0_hw27 : k0_chk27 v5087), ∀ (r : Fin 2), ∀ a, (k0_off689 v5087 (BitVec.ofNat 32 (16 * r.val))) a + S1x16.size a ≤ S8x2048.size a := fun v5087 k0_hw27 r => k0_hw27.2.2.2.2.2.2.2.2.2.2.2.2.2.2.2.2.1 r
theorem k0_off690_inb : ∀ (v5087 : BitVec 32) (k0_hw27 : k0_chk27 v5087), ∀ (r : Fin 2), ∀ a, (k0_off690 v5087 (BitVec.ofNat 32 (16 * r.val))) a + S1x16.size a ≤ S8x2048.size a := fun v5087 k0_hw27 r => k0_hw27.2.2.2.2.2.2.2.2.2.2.2.2.2.2.2.2.2.1 r
theorem k0_off691_inb : ∀ (v5087 : BitVec 32) (k0_hw27 : k0_chk27 v5087), ∀ (r : Fin 2), ∀ a, (k0_off691 v5087 (BitVec.ofNat 32 (16 * r.val))) a + S1x16.size a ≤ S8x2048.size a := fun v5087 k0_hw27 r => k0_hw27.2.2.2.2.2.2.2.2.2.2.2.2.2.2.2.2.2.2.1 r
theorem k0_off692_inb : ∀ (v5087 : BitVec 32) (k0_hw27 : k0_chk27 v5087), ∀ (r : Fin 2), ∀ a, (k0_off692 v5087 (BitVec.ofNat 32 (16 * r.val))) a + S1x16.size a ≤ S8x2048.size a := fun v5087 k0_hw27 r => k0_hw27.2.2.2.2.2.2.2.2.2.2.2.2.2.2.2.2.2.2.2.1 r
theorem k0_off693_inb : ∀ (v5087 : BitVec 32) (k0_hw27 : k0_chk27 v5087), ∀ (r : Fin 2), ∀ a, (k0_off693 v5087 (BitVec.ofNat 32 (16 * r.val))) a + S1x16.size a ≤ S8x2048.size a := fun v5087 k0_hw27 r => k0_hw27.2.2.2.2.2.2.2.2.2.2.2.2.2.2.2.2.2.2.2.2.1 r
theorem k0_off694_inb : ∀ (v5087 : BitVec 32) (k0_hw27 : k0_chk27 v5087), ∀ (r : Fin 2), ∀ a, (k0_off694 v5087 (BitVec.ofNat 32 (16 * r.val))) a + S1x16.size a ≤ S8x2048.size a := fun v5087 k0_hw27 r => k0_hw27.2.2.2.2.2.2.2.2.2.2.2.2.2.2.2.2.2.2.2.2.2.1 r
theorem k0_off695_inb : ∀ (v5087 : BitVec 32) (k0_hw27 : k0_chk27 v5087), ∀ (r : Fin 2), ∀ a, (k0_off695 v5087 (BitVec.ofNat 32 (16 * r.val))) a + S1x16.size a ≤ S8x2048.size a := fun v5087 k0_hw27 r => k0_hw27.2.2.2.2.2.2.2.2.2.2.2.2.2.2.2.2.2.2.2.2.2.2.1 r
theorem k0_off696_inb : ∀ (v5087 : BitVec 32) (k0_hw27 : k0_chk27 v5087), ∀ (r : Fin 2), ∀ a, (k0_off696 v5087 (BitVec.ofNat 32 (16 * r.val))) a + S1x16.size a ≤ S8x2048.size a := fun v5087 k0_hw27 r => k0_hw27.2.2.2.2.2.2.2.2.2.2.2.2.2.2.2.2.2.2.2.2.2.2.2 r

def k0_off697 (k0_t5 : Fin k0_t5_loop.trips) : Fin 1 → Nat :=
  let c0_i32_116 : BitVec 32 := 0#32
  let c1_i32_118 : BitVec 32 := 1#32
  let arg28 : BitVec 32 := Scf.iv c0_i32_116 c1_i32_118 k0_t5
  let c16_i32_1642 : BitVec 32 := 16#32
  let v5494 : BitVec 32 := Scalar.muli arg28 c16_i32_1642
  let c11_i32 : BitVec 32 := 11#32
  let v5495 : BitVec 32 := Scalar.addi v5494 c11_i32
  let c16_i32_1643 : BitVec 32 := 16#32
  let v5496 : BitVec 32 := Scalar.muli v5495 c16_i32_1643
  let v5497 : Index := Scalar.indexCast v5496
  ![v5497.toNat]
def k0_off698 (v5486 : BitVec 32) (c0_i32_1644 : BitVec 32) : Fin 2 → Nat :=
  let c0_i32_1645 : BitVec 32 := 0#32
  let v5501 : Index := Scalar.indexCast c0_i32_1645
  let c63_i32_1635 : BitVec 32 := 63#32
  let v5487 : BitVec 32 := Scalar.andi v5486 c63_i32_1635
  let c32_i32_1636 : BitVec 32 := 32#32
  let v5488 : BitVec 32 := Scalar.muli v5487 c32_i32_1636
  let v5500 : BitVec 32 := Scalar.addi v5488 c0_i32_1644
  let v5502 : Index := Scalar.indexCast v5500
  ![0, v5502.toNat]

def k0_off699 (v5486 : BitVec 32) (c0_i32_1648 : BitVec 32) : Fin 2 → Nat :=
  let c1_i32_1649 : BitVec 32 := 1#32
  let v5511 : Index := Scalar.indexCast c1_i32_1649
  let c63_i32_1635 : BitVec 32 := 63#32
  let v5487 : BitVec 32 := Scalar.andi v5486 c63_i32_1635
  let c32_i32_1636 : BitVec 32 := 32#32
  let v5488 : BitVec 32 := Scalar.muli v5487 c32_i32_1636
  let v5510 : BitVec 32 := Scalar.addi v5488 c0_i32_1648
  let v5512 : Index := Scalar.indexCast v5510
  ![1, v5512.toNat]
def k0_off700 (v5486 : BitVec 32) (c0_i32_1652 : BitVec 32) : Fin 2 → Nat :=
  let c2_i32_1653 : BitVec 32 := 2#32
  let v5521 : Index := Scalar.indexCast c2_i32_1653
  let c63_i32_1635 : BitVec 32 := 63#32
  let v5487 : BitVec 32 := Scalar.andi v5486 c63_i32_1635
  let c32_i32_1636 : BitVec 32 := 32#32
  let v5488 : BitVec 32 := Scalar.muli v5487 c32_i32_1636
  let v5520 : BitVec 32 := Scalar.addi v5488 c0_i32_1652
  let v5522 : Index := Scalar.indexCast v5520
  ![2, v5522.toNat]
def k0_off701 (v5486 : BitVec 32) (c0_i32_1656 : BitVec 32) : Fin 2 → Nat :=
  let c3_i32_1657 : BitVec 32 := 3#32
  let v5531 : Index := Scalar.indexCast c3_i32_1657
  let c63_i32_1635 : BitVec 32 := 63#32
  let v5487 : BitVec 32 := Scalar.andi v5486 c63_i32_1635
  let c32_i32_1636 : BitVec 32 := 32#32
  let v5488 : BitVec 32 := Scalar.muli v5487 c32_i32_1636
  let v5530 : BitVec 32 := Scalar.addi v5488 c0_i32_1656
  let v5532 : Index := Scalar.indexCast v5530
  ![3, v5532.toNat]
def k0_off702 (v5486 : BitVec 32) (c0_i32_1660 : BitVec 32) : Fin 2 → Nat :=
  let c4_i32_1661 : BitVec 32 := 4#32
  let v5541 : Index := Scalar.indexCast c4_i32_1661
  let c63_i32_1635 : BitVec 32 := 63#32
  let v5487 : BitVec 32 := Scalar.andi v5486 c63_i32_1635
  let c32_i32_1636 : BitVec 32 := 32#32
  let v5488 : BitVec 32 := Scalar.muli v5487 c32_i32_1636
  let v5540 : BitVec 32 := Scalar.addi v5488 c0_i32_1660
  let v5542 : Index := Scalar.indexCast v5540
  ![4, v5542.toNat]
def k0_off703 (v5486 : BitVec 32) (c0_i32_1664 : BitVec 32) : Fin 2 → Nat :=
  let c5_i32_1665 : BitVec 32 := 5#32
  let v5551 : Index := Scalar.indexCast c5_i32_1665
  let c63_i32_1635 : BitVec 32 := 63#32
  let v5487 : BitVec 32 := Scalar.andi v5486 c63_i32_1635
  let c32_i32_1636 : BitVec 32 := 32#32
  let v5488 : BitVec 32 := Scalar.muli v5487 c32_i32_1636
  let v5550 : BitVec 32 := Scalar.addi v5488 c0_i32_1664
  let v5552 : Index := Scalar.indexCast v5550
  ![5, v5552.toNat]
def k0_off704 (v5486 : BitVec 32) (c0_i32_1668 : BitVec 32) : Fin 2 → Nat :=
  let c6_i32_1669 : BitVec 32 := 6#32
  let v5561 : Index := Scalar.indexCast c6_i32_1669
  let c63_i32_1635 : BitVec 32 := 63#32
  let v5487 : BitVec 32 := Scalar.andi v5486 c63_i32_1635
  let c32_i32_1636 : BitVec 32 := 32#32
  let v5488 : BitVec 32 := Scalar.muli v5487 c32_i32_1636
  let v5560 : BitVec 32 := Scalar.addi v5488 c0_i32_1668
  let v5562 : Index := Scalar.indexCast v5560
  ![6, v5562.toNat]
def k0_off705 (v5486 : BitVec 32) (c0_i32_1672 : BitVec 32) : Fin 2 → Nat :=
  let c7_i32_1673 : BitVec 32 := 7#32
  let v5571 : Index := Scalar.indexCast c7_i32_1673
  let c63_i32_1635 : BitVec 32 := 63#32
  let v5487 : BitVec 32 := Scalar.andi v5486 c63_i32_1635
  let c32_i32_1636 : BitVec 32 := 32#32
  let v5488 : BitVec 32 := Scalar.muli v5487 c32_i32_1636
  let v5570 : BitVec 32 := Scalar.addi v5488 c0_i32_1672
  let v5572 : Index := Scalar.indexCast v5570
  ![7, v5572.toNat]
def k0_off706 (v5486 : BitVec 32) (c0_i32_1676 : BitVec 32) : Fin 2 → Nat :=
  let c0_i32_1677 : BitVec 32 := 0#32
  let v5581 : Index := Scalar.indexCast c0_i32_1677
  let c6_i32_1637 : BitVec 32 := 6#32
  let v5489 : BitVec 32 := Scalar.shrsi v5486 c6_i32_1637
  let c63_i32_1638 : BitVec 32 := 63#32
  let v5490 : BitVec 32 := Scalar.andi v5489 c63_i32_1638
  let c32_i32_1639 : BitVec 32 := 32#32
  let v5491 : BitVec 32 := Scalar.muli v5490 c32_i32_1639
  let v5580 : BitVec 32 := Scalar.addi v5491 c0_i32_1676
  let v5582 : Index := Scalar.indexCast v5580
  ![0, v5582.toNat]
def k0_off707 (v5486 : BitVec 32) (c0_i32_1680 : BitVec 32) : Fin 2 → Nat :=
  let c1_i32_1681 : BitVec 32 := 1#32
  let v5591 : Index := Scalar.indexCast c1_i32_1681
  let c6_i32_1637 : BitVec 32 := 6#32
  let v5489 : BitVec 32 := Scalar.shrsi v5486 c6_i32_1637
  let c63_i32_1638 : BitVec 32 := 63#32
  let v5490 : BitVec 32 := Scalar.andi v5489 c63_i32_1638
  let c32_i32_1639 : BitVec 32 := 32#32
  let v5491 : BitVec 32 := Scalar.muli v5490 c32_i32_1639
  let v5590 : BitVec 32 := Scalar.addi v5491 c0_i32_1680
  let v5592 : Index := Scalar.indexCast v5590
  ![1, v5592.toNat]
def k0_off708 (v5486 : BitVec 32) (c0_i32_1684 : BitVec 32) : Fin 2 → Nat :=
  let c2_i32_1685 : BitVec 32 := 2#32
  let v5601 : Index := Scalar.indexCast c2_i32_1685
  let c6_i32_1637 : BitVec 32 := 6#32
  let v5489 : BitVec 32 := Scalar.shrsi v5486 c6_i32_1637
  let c63_i32_1638 : BitVec 32 := 63#32
  let v5490 : BitVec 32 := Scalar.andi v5489 c63_i32_1638
  let c32_i32_1639 : BitVec 32 := 32#32
  let v5491 : BitVec 32 := Scalar.muli v5490 c32_i32_1639
  let v5600 : BitVec 32 := Scalar.addi v5491 c0_i32_1684
  let v5602 : Index := Scalar.indexCast v5600
  ![2, v5602.toNat]
def k0_off709 (v5486 : BitVec 32) (c0_i32_1688 : BitVec 32) : Fin 2 → Nat :=
  let c3_i32_1689 : BitVec 32 := 3#32
  let v5611 : Index := Scalar.indexCast c3_i32_1689
  let c6_i32_1637 : BitVec 32 := 6#32
  let v5489 : BitVec 32 := Scalar.shrsi v5486 c6_i32_1637
  let c63_i32_1638 : BitVec 32 := 63#32
  let v5490 : BitVec 32 := Scalar.andi v5489 c63_i32_1638
  let c32_i32_1639 : BitVec 32 := 32#32
  let v5491 : BitVec 32 := Scalar.muli v5490 c32_i32_1639
  let v5610 : BitVec 32 := Scalar.addi v5491 c0_i32_1688
  let v5612 : Index := Scalar.indexCast v5610
  ![3, v5612.toNat]
def k0_off710 (v5486 : BitVec 32) (c0_i32_1692 : BitVec 32) : Fin 2 → Nat :=
  let c4_i32_1693 : BitVec 32 := 4#32
  let v5621 : Index := Scalar.indexCast c4_i32_1693
  let c6_i32_1637 : BitVec 32 := 6#32
  let v5489 : BitVec 32 := Scalar.shrsi v5486 c6_i32_1637
  let c63_i32_1638 : BitVec 32 := 63#32
  let v5490 : BitVec 32 := Scalar.andi v5489 c63_i32_1638
  let c32_i32_1639 : BitVec 32 := 32#32
  let v5491 : BitVec 32 := Scalar.muli v5490 c32_i32_1639
  let v5620 : BitVec 32 := Scalar.addi v5491 c0_i32_1692
  let v5622 : Index := Scalar.indexCast v5620
  ![4, v5622.toNat]
def k0_off711 (v5486 : BitVec 32) (c0_i32_1696 : BitVec 32) : Fin 2 → Nat :=
  let c5_i32_1697 : BitVec 32 := 5#32
  let v5631 : Index := Scalar.indexCast c5_i32_1697
  let c6_i32_1637 : BitVec 32 := 6#32
  let v5489 : BitVec 32 := Scalar.shrsi v5486 c6_i32_1637
  let c63_i32_1638 : BitVec 32 := 63#32
  let v5490 : BitVec 32 := Scalar.andi v5489 c63_i32_1638
  let c32_i32_1639 : BitVec 32 := 32#32
  let v5491 : BitVec 32 := Scalar.muli v5490 c32_i32_1639
  let v5630 : BitVec 32 := Scalar.addi v5491 c0_i32_1696
  let v5632 : Index := Scalar.indexCast v5630
  ![5, v5632.toNat]
def k0_off712 (v5486 : BitVec 32) (c0_i32_1700 : BitVec 32) : Fin 2 → Nat :=
  let c6_i32_1701 : BitVec 32 := 6#32
  let v5641 : Index := Scalar.indexCast c6_i32_1701
  let c6_i32_1637 : BitVec 32 := 6#32
  let v5489 : BitVec 32 := Scalar.shrsi v5486 c6_i32_1637
  let c63_i32_1638 : BitVec 32 := 63#32
  let v5490 : BitVec 32 := Scalar.andi v5489 c63_i32_1638
  let c32_i32_1639 : BitVec 32 := 32#32
  let v5491 : BitVec 32 := Scalar.muli v5490 c32_i32_1639
  let v5640 : BitVec 32 := Scalar.addi v5491 c0_i32_1700
  let v5642 : Index := Scalar.indexCast v5640
  ![6, v5642.toNat]
def k0_off713 (v5486 : BitVec 32) (c0_i32_1704 : BitVec 32) : Fin 2 → Nat :=
  let c7_i32_1705 : BitVec 32 := 7#32
  let v5651 : Index := Scalar.indexCast c7_i32_1705
  let c6_i32_1637 : BitVec 32 := 6#32
  let v5489 : BitVec 32 := Scalar.shrsi v5486 c6_i32_1637
  let c63_i32_1638 : BitVec 32 := 63#32
  let v5490 : BitVec 32 := Scalar.andi v5489 c63_i32_1638
  let c32_i32_1639 : BitVec 32 := 32#32
  let v5491 : BitVec 32 := Scalar.muli v5490 c32_i32_1639
  let v5650 : BitVec 32 := Scalar.addi v5491 c0_i32_1704
  let v5652 : Index := Scalar.indexCast v5650
  ![7, v5652.toNat]
def k0_off714 (v5486 : BitVec 32) (c0_i32_1708 : BitVec 32) : Fin 2 → Nat :=
  let c0_i32_1709 : BitVec 32 := 0#32
  let v5693 : Index := Scalar.indexCast c0_i32_1709
  let c12_i32_1640 : BitVec 32 := 12#32
  let v5492 : BitVec 32 := Scalar.shrsi v5486 c12_i32_1640
  let c32_i32_1641 : BitVec 32 := 32#32
  let v5493 : BitVec 32 := Scalar.muli v5492 c32_i32_1641
  let v5692 : BitVec 32 := Scalar.addi v5493 c0_i32_1708
  let v5694 : Index := Scalar.indexCast v5692
  ![0, v5694.toNat]
def k0_off715 (v5486 : BitVec 32) (c0_i32_1716 : BitVec 32) : Fin 2 → Nat :=
  let c1_i32_1717 : BitVec 32 := 1#32
  let v5717 : Index := Scalar.indexCast c1_i32_1717
  let c12_i32_1640 : BitVec 32 := 12#32
  let v5492 : BitVec 32 := Scalar.shrsi v5486 c12_i32_1640
  let c32_i32_1641 : BitVec 32 := 32#32
  let v5493 : BitVec 32 := Scalar.muli v5492 c32_i32_1641
  let v5716 : BitVec 32 := Scalar.addi v5493 c0_i32_1716
  let v5718 : Index := Scalar.indexCast v5716
  ![1, v5718.toNat]
def k0_off716 (v5486 : BitVec 32) (c0_i32_1724 : BitVec 32) : Fin 2 → Nat :=
  let c2_i32_1725 : BitVec 32 := 2#32
  let v5741 : Index := Scalar.indexCast c2_i32_1725
  let c12_i32_1640 : BitVec 32 := 12#32
  let v5492 : BitVec 32 := Scalar.shrsi v5486 c12_i32_1640
  let c32_i32_1641 : BitVec 32 := 32#32
  let v5493 : BitVec 32 := Scalar.muli v5492 c32_i32_1641
  let v5740 : BitVec 32 := Scalar.addi v5493 c0_i32_1724
  let v5742 : Index := Scalar.indexCast v5740
  ![2, v5742.toNat]
def k0_off717 (v5486 : BitVec 32) (c0_i32_1732 : BitVec 32) : Fin 2 → Nat :=
  let c3_i32_1733 : BitVec 32 := 3#32
  let v5765 : Index := Scalar.indexCast c3_i32_1733
  let c12_i32_1640 : BitVec 32 := 12#32
  let v5492 : BitVec 32 := Scalar.shrsi v5486 c12_i32_1640
  let c32_i32_1641 : BitVec 32 := 32#32
  let v5493 : BitVec 32 := Scalar.muli v5492 c32_i32_1641
  let v5764 : BitVec 32 := Scalar.addi v5493 c0_i32_1732
  let v5766 : Index := Scalar.indexCast v5764
  ![3, v5766.toNat]
def k0_off718 (v5486 : BitVec 32) (c0_i32_1740 : BitVec 32) : Fin 2 → Nat :=
  let c4_i32_1741 : BitVec 32 := 4#32
  let v5789 : Index := Scalar.indexCast c4_i32_1741
  let c12_i32_1640 : BitVec 32 := 12#32
  let v5492 : BitVec 32 := Scalar.shrsi v5486 c12_i32_1640
  let c32_i32_1641 : BitVec 32 := 32#32
  let v5493 : BitVec 32 := Scalar.muli v5492 c32_i32_1641
  let v5788 : BitVec 32 := Scalar.addi v5493 c0_i32_1740
  let v5790 : Index := Scalar.indexCast v5788
  ![4, v5790.toNat]
def k0_off719 (v5486 : BitVec 32) (c0_i32_1748 : BitVec 32) : Fin 2 → Nat :=
  let c5_i32_1749 : BitVec 32 := 5#32
  let v5813 : Index := Scalar.indexCast c5_i32_1749
  let c12_i32_1640 : BitVec 32 := 12#32
  let v5492 : BitVec 32 := Scalar.shrsi v5486 c12_i32_1640
  let c32_i32_1641 : BitVec 32 := 32#32
  let v5493 : BitVec 32 := Scalar.muli v5492 c32_i32_1641
  let v5812 : BitVec 32 := Scalar.addi v5493 c0_i32_1748
  let v5814 : Index := Scalar.indexCast v5812
  ![5, v5814.toNat]
def k0_off720 (v5486 : BitVec 32) (c0_i32_1756 : BitVec 32) : Fin 2 → Nat :=
  let c6_i32_1757 : BitVec 32 := 6#32
  let v5837 : Index := Scalar.indexCast c6_i32_1757
  let c12_i32_1640 : BitVec 32 := 12#32
  let v5492 : BitVec 32 := Scalar.shrsi v5486 c12_i32_1640
  let c32_i32_1641 : BitVec 32 := 32#32
  let v5493 : BitVec 32 := Scalar.muli v5492 c32_i32_1641
  let v5836 : BitVec 32 := Scalar.addi v5493 c0_i32_1756
  let v5838 : Index := Scalar.indexCast v5836
  ![6, v5838.toNat]
def k0_off721 (v5486 : BitVec 32) (c0_i32_1764 : BitVec 32) : Fin 2 → Nat :=
  let c7_i32_1765 : BitVec 32 := 7#32
  let v5861 : Index := Scalar.indexCast c7_i32_1765
  let c12_i32_1640 : BitVec 32 := 12#32
  let v5492 : BitVec 32 := Scalar.shrsi v5486 c12_i32_1640
  let c32_i32_1641 : BitVec 32 := 32#32
  let v5493 : BitVec 32 := Scalar.muli v5492 c32_i32_1641
  let v5860 : BitVec 32 := Scalar.addi v5493 c0_i32_1764
  let v5862 : Index := Scalar.indexCast v5860
  ![7, v5862.toNat]

def k0_chk28 (v5486 : BitVec 32) : Prop :=
  (∀ (r : Fin 2), ∀ a, (k0_off698 v5486 (BitVec.ofNat 32 (16 * r.val))) a + S1x16.size a ≤ S8x2048.size a) ∧
  (∀ (r : Fin 2), ∀ a, (k0_off699 v5486 (BitVec.ofNat 32 (16 * r.val))) a + S1x16.size a ≤ S8x2048.size a) ∧
  (∀ (r : Fin 2), ∀ a, (k0_off700 v5486 (BitVec.ofNat 32 (16 * r.val))) a + S1x16.size a ≤ S8x2048.size a) ∧
  (∀ (r : Fin 2), ∀ a, (k0_off701 v5486 (BitVec.ofNat 32 (16 * r.val))) a + S1x16.size a ≤ S8x2048.size a) ∧
  (∀ (r : Fin 2), ∀ a, (k0_off702 v5486 (BitVec.ofNat 32 (16 * r.val))) a + S1x16.size a ≤ S8x2048.size a) ∧
  (∀ (r : Fin 2), ∀ a, (k0_off703 v5486 (BitVec.ofNat 32 (16 * r.val))) a + S1x16.size a ≤ S8x2048.size a) ∧
  (∀ (r : Fin 2), ∀ a, (k0_off704 v5486 (BitVec.ofNat 32 (16 * r.val))) a + S1x16.size a ≤ S8x2048.size a) ∧
  (∀ (r : Fin 2), ∀ a, (k0_off705 v5486 (BitVec.ofNat 32 (16 * r.val))) a + S1x16.size a ≤ S8x2048.size a) ∧
  (∀ (r : Fin 2), ∀ a, (k0_off706 v5486 (BitVec.ofNat 32 (16 * r.val))) a + S1x16.size a ≤ S8x2048.size a) ∧
  (∀ (r : Fin 2), ∀ a, (k0_off707 v5486 (BitVec.ofNat 32 (16 * r.val))) a + S1x16.size a ≤ S8x2048.size a) ∧
  (∀ (r : Fin 2), ∀ a, (k0_off708 v5486 (BitVec.ofNat 32 (16 * r.val))) a + S1x16.size a ≤ S8x2048.size a) ∧
  (∀ (r : Fin 2), ∀ a, (k0_off709 v5486 (BitVec.ofNat 32 (16 * r.val))) a + S1x16.size a ≤ S8x2048.size a) ∧
  (∀ (r : Fin 2), ∀ a, (k0_off710 v5486 (BitVec.ofNat 32 (16 * r.val))) a + S1x16.size a ≤ S8x2048.size a) ∧
  (∀ (r : Fin 2), ∀ a, (k0_off711 v5486 (BitVec.ofNat 32 (16 * r.val))) a + S1x16.size a ≤ S8x2048.size a) ∧
  (∀ (r : Fin 2), ∀ a, (k0_off712 v5486 (BitVec.ofNat 32 (16 * r.val))) a + S1x16.size a ≤ S8x2048.size a) ∧
  (∀ (r : Fin 2), ∀ a, (k0_off713 v5486 (BitVec.ofNat 32 (16 * r.val))) a + S1x16.size a ≤ S8x2048.size a) ∧
  (∀ (r : Fin 2), ∀ a, (k0_off714 v5486 (BitVec.ofNat 32 (16 * r.val))) a + S1x16.size a ≤ S8x2048.size a) ∧
  (∀ (r : Fin 2), ∀ a, (k0_off715 v5486 (BitVec.ofNat 32 (16 * r.val))) a + S1x16.size a ≤ S8x2048.size a) ∧
  (∀ (r : Fin 2), ∀ a, (k0_off716 v5486 (BitVec.ofNat 32 (16 * r.val))) a + S1x16.size a ≤ S8x2048.size a) ∧
  (∀ (r : Fin 2), ∀ a, (k0_off717 v5486 (BitVec.ofNat 32 (16 * r.val))) a + S1x16.size a ≤ S8x2048.size a) ∧
  (∀ (r : Fin 2), ∀ a, (k0_off718 v5486 (BitVec.ofNat 32 (16 * r.val))) a + S1x16.size a ≤ S8x2048.size a) ∧
  (∀ (r : Fin 2), ∀ a, (k0_off719 v5486 (BitVec.ofNat 32 (16 * r.val))) a + S1x16.size a ≤ S8x2048.size a) ∧
  (∀ (r : Fin 2), ∀ a, (k0_off720 v5486 (BitVec.ofNat 32 (16 * r.val))) a + S1x16.size a ≤ S8x2048.size a) ∧
  (∀ (r : Fin 2), ∀ a, (k0_off721 v5486 (BitVec.ofNat 32 (16 * r.val))) a + S1x16.size a ≤ S8x2048.size a)
theorem k0_off698_inb : ∀ (v5486 : BitVec 32) (k0_hw28 : k0_chk28 v5486), ∀ (r : Fin 2), ∀ a, (k0_off698 v5486 (BitVec.ofNat 32 (16 * r.val))) a + S1x16.size a ≤ S8x2048.size a := fun v5486 k0_hw28 r => k0_hw28.1 r
theorem k0_off699_inb : ∀ (v5486 : BitVec 32) (k0_hw28 : k0_chk28 v5486), ∀ (r : Fin 2), ∀ a, (k0_off699 v5486 (BitVec.ofNat 32 (16 * r.val))) a + S1x16.size a ≤ S8x2048.size a := fun v5486 k0_hw28 r => k0_hw28.2.1 r
theorem k0_off700_inb : ∀ (v5486 : BitVec 32) (k0_hw28 : k0_chk28 v5486), ∀ (r : Fin 2), ∀ a, (k0_off700 v5486 (BitVec.ofNat 32 (16 * r.val))) a + S1x16.size a ≤ S8x2048.size a := fun v5486 k0_hw28 r => k0_hw28.2.2.1 r
theorem k0_off701_inb : ∀ (v5486 : BitVec 32) (k0_hw28 : k0_chk28 v5486), ∀ (r : Fin 2), ∀ a, (k0_off701 v5486 (BitVec.ofNat 32 (16 * r.val))) a + S1x16.size a ≤ S8x2048.size a := fun v5486 k0_hw28 r => k0_hw28.2.2.2.1 r
theorem k0_off702_inb : ∀ (v5486 : BitVec 32) (k0_hw28 : k0_chk28 v5486), ∀ (r : Fin 2), ∀ a, (k0_off702 v5486 (BitVec.ofNat 32 (16 * r.val))) a + S1x16.size a ≤ S8x2048.size a := fun v5486 k0_hw28 r => k0_hw28.2.2.2.2.1 r
theorem k0_off703_inb : ∀ (v5486 : BitVec 32) (k0_hw28 : k0_chk28 v5486), ∀ (r : Fin 2), ∀ a, (k0_off703 v5486 (BitVec.ofNat 32 (16 * r.val))) a + S1x16.size a ≤ S8x2048.size a := fun v5486 k0_hw28 r => k0_hw28.2.2.2.2.2.1 r
theorem k0_off704_inb : ∀ (v5486 : BitVec 32) (k0_hw28 : k0_chk28 v5486), ∀ (r : Fin 2), ∀ a, (k0_off704 v5486 (BitVec.ofNat 32 (16 * r.val))) a + S1x16.size a ≤ S8x2048.size a := fun v5486 k0_hw28 r => k0_hw28.2.2.2.2.2.2.1 r
theorem k0_off705_inb : ∀ (v5486 : BitVec 32) (k0_hw28 : k0_chk28 v5486), ∀ (r : Fin 2), ∀ a, (k0_off705 v5486 (BitVec.ofNat 32 (16 * r.val))) a + S1x16.size a ≤ S8x2048.size a := fun v5486 k0_hw28 r => k0_hw28.2.2.2.2.2.2.2.1 r
theorem k0_off706_inb : ∀ (v5486 : BitVec 32) (k0_hw28 : k0_chk28 v5486), ∀ (r : Fin 2), ∀ a, (k0_off706 v5486 (BitVec.ofNat 32 (16 * r.val))) a + S1x16.size a ≤ S8x2048.size a := fun v5486 k0_hw28 r => k0_hw28.2.2.2.2.2.2.2.2.1 r
theorem k0_off707_inb : ∀ (v5486 : BitVec 32) (k0_hw28 : k0_chk28 v5486), ∀ (r : Fin 2), ∀ a, (k0_off707 v5486 (BitVec.ofNat 32 (16 * r.val))) a + S1x16.size a ≤ S8x2048.size a := fun v5486 k0_hw28 r => k0_hw28.2.2.2.2.2.2.2.2.2.1 r
theorem k0_off708_inb : ∀ (v5486 : BitVec 32) (k0_hw28 : k0_chk28 v5486), ∀ (r : Fin 2), ∀ a, (k0_off708 v5486 (BitVec.ofNat 32 (16 * r.val))) a + S1x16.size a ≤ S8x2048.size a := fun v5486 k0_hw28 r => k0_hw28.2.2.2.2.2.2.2.2.2.2.1 r
theorem k0_off709_inb : ∀ (v5486 : BitVec 32) (k0_hw28 : k0_chk28 v5486), ∀ (r : Fin 2), ∀ a, (k0_off709 v5486 (BitVec.ofNat 32 (16 * r.val))) a + S1x16.size a ≤ S8x2048.size a := fun v5486 k0_hw28 r => k0_hw28.2.2.2.2.2.2.2.2.2.2.2.1 r
theorem k0_off710_inb : ∀ (v5486 : BitVec 32) (k0_hw28 : k0_chk28 v5486), ∀ (r : Fin 2), ∀ a, (k0_off710 v5486 (BitVec.ofNat 32 (16 * r.val))) a + S1x16.size a ≤ S8x2048.size a := fun v5486 k0_hw28 r => k0_hw28.2.2.2.2.2.2.2.2.2.2.2.2.1 r
theorem k0_off711_inb : ∀ (v5486 : BitVec 32) (k0_hw28 : k0_chk28 v5486), ∀ (r : Fin 2), ∀ a, (k0_off711 v5486 (BitVec.ofNat 32 (16 * r.val))) a + S1x16.size a ≤ S8x2048.size a := fun v5486 k0_hw28 r => k0_hw28.2.2.2.2.2.2.2.2.2.2.2.2.2.1 r
theorem k0_off712_inb : ∀ (v5486 : BitVec 32) (k0_hw28 : k0_chk28 v5486), ∀ (r : Fin 2), ∀ a, (k0_off712 v5486 (BitVec.ofNat 32 (16 * r.val))) a + S1x16.size a ≤ S8x2048.size a := fun v5486 k0_hw28 r => k0_hw28.2.2.2.2.2.2.2.2.2.2.2.2.2.2.1 r
theorem k0_off713_inb : ∀ (v5486 : BitVec 32) (k0_hw28 : k0_chk28 v5486), ∀ (r : Fin 2), ∀ a, (k0_off713 v5486 (BitVec.ofNat 32 (16 * r.val))) a + S1x16.size a ≤ S8x2048.size a := fun v5486 k0_hw28 r => k0_hw28.2.2.2.2.2.2.2.2.2.2.2.2.2.2.2.1 r
theorem k0_off714_inb : ∀ (v5486 : BitVec 32) (k0_hw28 : k0_chk28 v5486), ∀ (r : Fin 2), ∀ a, (k0_off714 v5486 (BitVec.ofNat 32 (16 * r.val))) a + S1x16.size a ≤ S8x2048.size a := fun v5486 k0_hw28 r => k0_hw28.2.2.2.2.2.2.2.2.2.2.2.2.2.2.2.2.1 r
theorem k0_off715_inb : ∀ (v5486 : BitVec 32) (k0_hw28 : k0_chk28 v5486), ∀ (r : Fin 2), ∀ a, (k0_off715 v5486 (BitVec.ofNat 32 (16 * r.val))) a + S1x16.size a ≤ S8x2048.size a := fun v5486 k0_hw28 r => k0_hw28.2.2.2.2.2.2.2.2.2.2.2.2.2.2.2.2.2.1 r
theorem k0_off716_inb : ∀ (v5486 : BitVec 32) (k0_hw28 : k0_chk28 v5486), ∀ (r : Fin 2), ∀ a, (k0_off716 v5486 (BitVec.ofNat 32 (16 * r.val))) a + S1x16.size a ≤ S8x2048.size a := fun v5486 k0_hw28 r => k0_hw28.2.2.2.2.2.2.2.2.2.2.2.2.2.2.2.2.2.2.1 r
theorem k0_off717_inb : ∀ (v5486 : BitVec 32) (k0_hw28 : k0_chk28 v5486), ∀ (r : Fin 2), ∀ a, (k0_off717 v5486 (BitVec.ofNat 32 (16 * r.val))) a + S1x16.size a ≤ S8x2048.size a := fun v5486 k0_hw28 r => k0_hw28.2.2.2.2.2.2.2.2.2.2.2.2.2.2.2.2.2.2.2.1 r
theorem k0_off718_inb : ∀ (v5486 : BitVec 32) (k0_hw28 : k0_chk28 v5486), ∀ (r : Fin 2), ∀ a, (k0_off718 v5486 (BitVec.ofNat 32 (16 * r.val))) a + S1x16.size a ≤ S8x2048.size a := fun v5486 k0_hw28 r => k0_hw28.2.2.2.2.2.2.2.2.2.2.2.2.2.2.2.2.2.2.2.2.1 r
theorem k0_off719_inb : ∀ (v5486 : BitVec 32) (k0_hw28 : k0_chk28 v5486), ∀ (r : Fin 2), ∀ a, (k0_off719 v5486 (BitVec.ofNat 32 (16 * r.val))) a + S1x16.size a ≤ S8x2048.size a := fun v5486 k0_hw28 r => k0_hw28.2.2.2.2.2.2.2.2.2.2.2.2.2.2.2.2.2.2.2.2.2.1 r
theorem k0_off720_inb : ∀ (v5486 : BitVec 32) (k0_hw28 : k0_chk28 v5486), ∀ (r : Fin 2), ∀ a, (k0_off720 v5486 (BitVec.ofNat 32 (16 * r.val))) a + S1x16.size a ≤ S8x2048.size a := fun v5486 k0_hw28 r => k0_hw28.2.2.2.2.2.2.2.2.2.2.2.2.2.2.2.2.2.2.2.2.2.2.1 r
theorem k0_off721_inb : ∀ (v5486 : BitVec 32) (k0_hw28 : k0_chk28 v5486), ∀ (r : Fin 2), ∀ a, (k0_off721 v5486 (BitVec.ofNat 32 (16 * r.val))) a + S1x16.size a ≤ S8x2048.size a := fun v5486 k0_hw28 r => k0_hw28.2.2.2.2.2.2.2.2.2.2.2.2.2.2.2.2.2.2.2.2.2.2.2 r

def k0_off722 (k0_t5 : Fin k0_t5_loop.trips) : Fin 1 → Nat :=
  let c0_i32_116 : BitVec 32 := 0#32
  let c1_i32_118 : BitVec 32 := 1#32
  let arg28 : BitVec 32 := Scf.iv c0_i32_116 c1_i32_118 k0_t5
  let c16_i32_1779 : BitVec 32 := 16#32
  let v5893 : BitVec 32 := Scalar.muli arg28 c16_i32_1779
  let c12_i32_1780 : BitVec 32 := 12#32
  let v5894 : BitVec 32 := Scalar.addi v5893 c12_i32_1780
  let c16_i32_1781 : BitVec 32 := 16#32
  let v5895 : BitVec 32 := Scalar.muli v5894 c16_i32_1781
  let v5896 : Index := Scalar.indexCast v5895
  ![v5896.toNat]
def k0_off723 (v5885 : BitVec 32) (c0_i32_1782 : BitVec 32) : Fin 2 → Nat :=
  let c0_i32_1783 : BitVec 32 := 0#32
  let v5900 : Index := Scalar.indexCast c0_i32_1783
  let c63_i32_1772 : BitVec 32 := 63#32
  let v5886 : BitVec 32 := Scalar.andi v5885 c63_i32_1772
  let c32_i32_1773 : BitVec 32 := 32#32
  let v5887 : BitVec 32 := Scalar.muli v5886 c32_i32_1773
  let v5899 : BitVec 32 := Scalar.addi v5887 c0_i32_1782
  let v5901 : Index := Scalar.indexCast v5899
  ![0, v5901.toNat]

def k0_off724 (v5885 : BitVec 32) (c0_i32_1786 : BitVec 32) : Fin 2 → Nat :=
  let c1_i32_1787 : BitVec 32 := 1#32
  let v5910 : Index := Scalar.indexCast c1_i32_1787
  let c63_i32_1772 : BitVec 32 := 63#32
  let v5886 : BitVec 32 := Scalar.andi v5885 c63_i32_1772
  let c32_i32_1773 : BitVec 32 := 32#32
  let v5887 : BitVec 32 := Scalar.muli v5886 c32_i32_1773
  let v5909 : BitVec 32 := Scalar.addi v5887 c0_i32_1786
  let v5911 : Index := Scalar.indexCast v5909
  ![1, v5911.toNat]
def k0_off725 (v5885 : BitVec 32) (c0_i32_1790 : BitVec 32) : Fin 2 → Nat :=
  let c2_i32_1791 : BitVec 32 := 2#32
  let v5920 : Index := Scalar.indexCast c2_i32_1791
  let c63_i32_1772 : BitVec 32 := 63#32
  let v5886 : BitVec 32 := Scalar.andi v5885 c63_i32_1772
  let c32_i32_1773 : BitVec 32 := 32#32
  let v5887 : BitVec 32 := Scalar.muli v5886 c32_i32_1773
  let v5919 : BitVec 32 := Scalar.addi v5887 c0_i32_1790
  let v5921 : Index := Scalar.indexCast v5919
  ![2, v5921.toNat]
def k0_off726 (v5885 : BitVec 32) (c0_i32_1794 : BitVec 32) : Fin 2 → Nat :=
  let c3_i32_1795 : BitVec 32 := 3#32
  let v5930 : Index := Scalar.indexCast c3_i32_1795
  let c63_i32_1772 : BitVec 32 := 63#32
  let v5886 : BitVec 32 := Scalar.andi v5885 c63_i32_1772
  let c32_i32_1773 : BitVec 32 := 32#32
  let v5887 : BitVec 32 := Scalar.muli v5886 c32_i32_1773
  let v5929 : BitVec 32 := Scalar.addi v5887 c0_i32_1794
  let v5931 : Index := Scalar.indexCast v5929
  ![3, v5931.toNat]
def k0_off727 (v5885 : BitVec 32) (c0_i32_1798 : BitVec 32) : Fin 2 → Nat :=
  let c4_i32_1799 : BitVec 32 := 4#32
  let v5940 : Index := Scalar.indexCast c4_i32_1799
  let c63_i32_1772 : BitVec 32 := 63#32
  let v5886 : BitVec 32 := Scalar.andi v5885 c63_i32_1772
  let c32_i32_1773 : BitVec 32 := 32#32
  let v5887 : BitVec 32 := Scalar.muli v5886 c32_i32_1773
  let v5939 : BitVec 32 := Scalar.addi v5887 c0_i32_1798
  let v5941 : Index := Scalar.indexCast v5939
  ![4, v5941.toNat]
def k0_off728 (v5885 : BitVec 32) (c0_i32_1802 : BitVec 32) : Fin 2 → Nat :=
  let c5_i32_1803 : BitVec 32 := 5#32
  let v5950 : Index := Scalar.indexCast c5_i32_1803
  let c63_i32_1772 : BitVec 32 := 63#32
  let v5886 : BitVec 32 := Scalar.andi v5885 c63_i32_1772
  let c32_i32_1773 : BitVec 32 := 32#32
  let v5887 : BitVec 32 := Scalar.muli v5886 c32_i32_1773
  let v5949 : BitVec 32 := Scalar.addi v5887 c0_i32_1802
  let v5951 : Index := Scalar.indexCast v5949
  ![5, v5951.toNat]
def k0_off729 (v5885 : BitVec 32) (c0_i32_1806 : BitVec 32) : Fin 2 → Nat :=
  let c6_i32_1807 : BitVec 32 := 6#32
  let v5960 : Index := Scalar.indexCast c6_i32_1807
  let c63_i32_1772 : BitVec 32 := 63#32
  let v5886 : BitVec 32 := Scalar.andi v5885 c63_i32_1772
  let c32_i32_1773 : BitVec 32 := 32#32
  let v5887 : BitVec 32 := Scalar.muli v5886 c32_i32_1773
  let v5959 : BitVec 32 := Scalar.addi v5887 c0_i32_1806
  let v5961 : Index := Scalar.indexCast v5959
  ![6, v5961.toNat]
def k0_off730 (v5885 : BitVec 32) (c0_i32_1810 : BitVec 32) : Fin 2 → Nat :=
  let c7_i32_1811 : BitVec 32 := 7#32
  let v5970 : Index := Scalar.indexCast c7_i32_1811
  let c63_i32_1772 : BitVec 32 := 63#32
  let v5886 : BitVec 32 := Scalar.andi v5885 c63_i32_1772
  let c32_i32_1773 : BitVec 32 := 32#32
  let v5887 : BitVec 32 := Scalar.muli v5886 c32_i32_1773
  let v5969 : BitVec 32 := Scalar.addi v5887 c0_i32_1810
  let v5971 : Index := Scalar.indexCast v5969
  ![7, v5971.toNat]
def k0_off731 (v5885 : BitVec 32) (c0_i32_1814 : BitVec 32) : Fin 2 → Nat :=
  let c0_i32_1815 : BitVec 32 := 0#32
  let v5980 : Index := Scalar.indexCast c0_i32_1815
  let c6_i32_1774 : BitVec 32 := 6#32
  let v5888 : BitVec 32 := Scalar.shrsi v5885 c6_i32_1774
  let c63_i32_1775 : BitVec 32 := 63#32
  let v5889 : BitVec 32 := Scalar.andi v5888 c63_i32_1775
  let c32_i32_1776 : BitVec 32 := 32#32
  let v5890 : BitVec 32 := Scalar.muli v5889 c32_i32_1776
  let v5979 : BitVec 32 := Scalar.addi v5890 c0_i32_1814
  let v5981 : Index := Scalar.indexCast v5979
  ![0, v5981.toNat]
def k0_off732 (v5885 : BitVec 32) (c0_i32_1818 : BitVec 32) : Fin 2 → Nat :=
  let c1_i32_1819 : BitVec 32 := 1#32
  let v5990 : Index := Scalar.indexCast c1_i32_1819
  let c6_i32_1774 : BitVec 32 := 6#32
  let v5888 : BitVec 32 := Scalar.shrsi v5885 c6_i32_1774
  let c63_i32_1775 : BitVec 32 := 63#32
  let v5889 : BitVec 32 := Scalar.andi v5888 c63_i32_1775
  let c32_i32_1776 : BitVec 32 := 32#32
  let v5890 : BitVec 32 := Scalar.muli v5889 c32_i32_1776
  let v5989 : BitVec 32 := Scalar.addi v5890 c0_i32_1818
  let v5991 : Index := Scalar.indexCast v5989
  ![1, v5991.toNat]
def k0_off733 (v5885 : BitVec 32) (c0_i32_1822 : BitVec 32) : Fin 2 → Nat :=
  let c2_i32_1823 : BitVec 32 := 2#32
  let v6000 : Index := Scalar.indexCast c2_i32_1823
  let c6_i32_1774 : BitVec 32 := 6#32
  let v5888 : BitVec 32 := Scalar.shrsi v5885 c6_i32_1774
  let c63_i32_1775 : BitVec 32 := 63#32
  let v5889 : BitVec 32 := Scalar.andi v5888 c63_i32_1775
  let c32_i32_1776 : BitVec 32 := 32#32
  let v5890 : BitVec 32 := Scalar.muli v5889 c32_i32_1776
  let v5999 : BitVec 32 := Scalar.addi v5890 c0_i32_1822
  let v6001 : Index := Scalar.indexCast v5999
  ![2, v6001.toNat]
def k0_off734 (v5885 : BitVec 32) (c0_i32_1826 : BitVec 32) : Fin 2 → Nat :=
  let c3_i32_1827 : BitVec 32 := 3#32
  let v6010 : Index := Scalar.indexCast c3_i32_1827
  let c6_i32_1774 : BitVec 32 := 6#32
  let v5888 : BitVec 32 := Scalar.shrsi v5885 c6_i32_1774
  let c63_i32_1775 : BitVec 32 := 63#32
  let v5889 : BitVec 32 := Scalar.andi v5888 c63_i32_1775
  let c32_i32_1776 : BitVec 32 := 32#32
  let v5890 : BitVec 32 := Scalar.muli v5889 c32_i32_1776
  let v6009 : BitVec 32 := Scalar.addi v5890 c0_i32_1826
  let v6011 : Index := Scalar.indexCast v6009
  ![3, v6011.toNat]
def k0_off735 (v5885 : BitVec 32) (c0_i32_1830 : BitVec 32) : Fin 2 → Nat :=
  let c4_i32_1831 : BitVec 32 := 4#32
  let v6020 : Index := Scalar.indexCast c4_i32_1831
  let c6_i32_1774 : BitVec 32 := 6#32
  let v5888 : BitVec 32 := Scalar.shrsi v5885 c6_i32_1774
  let c63_i32_1775 : BitVec 32 := 63#32
  let v5889 : BitVec 32 := Scalar.andi v5888 c63_i32_1775
  let c32_i32_1776 : BitVec 32 := 32#32
  let v5890 : BitVec 32 := Scalar.muli v5889 c32_i32_1776
  let v6019 : BitVec 32 := Scalar.addi v5890 c0_i32_1830
  let v6021 : Index := Scalar.indexCast v6019
  ![4, v6021.toNat]
def k0_off736 (v5885 : BitVec 32) (c0_i32_1834 : BitVec 32) : Fin 2 → Nat :=
  let c5_i32_1835 : BitVec 32 := 5#32
  let v6030 : Index := Scalar.indexCast c5_i32_1835
  let c6_i32_1774 : BitVec 32 := 6#32
  let v5888 : BitVec 32 := Scalar.shrsi v5885 c6_i32_1774
  let c63_i32_1775 : BitVec 32 := 63#32
  let v5889 : BitVec 32 := Scalar.andi v5888 c63_i32_1775
  let c32_i32_1776 : BitVec 32 := 32#32
  let v5890 : BitVec 32 := Scalar.muli v5889 c32_i32_1776
  let v6029 : BitVec 32 := Scalar.addi v5890 c0_i32_1834
  let v6031 : Index := Scalar.indexCast v6029
  ![5, v6031.toNat]
def k0_off737 (v5885 : BitVec 32) (c0_i32_1838 : BitVec 32) : Fin 2 → Nat :=
  let c6_i32_1839 : BitVec 32 := 6#32
  let v6040 : Index := Scalar.indexCast c6_i32_1839
  let c6_i32_1774 : BitVec 32 := 6#32
  let v5888 : BitVec 32 := Scalar.shrsi v5885 c6_i32_1774
  let c63_i32_1775 : BitVec 32 := 63#32
  let v5889 : BitVec 32 := Scalar.andi v5888 c63_i32_1775
  let c32_i32_1776 : BitVec 32 := 32#32
  let v5890 : BitVec 32 := Scalar.muli v5889 c32_i32_1776
  let v6039 : BitVec 32 := Scalar.addi v5890 c0_i32_1838
  let v6041 : Index := Scalar.indexCast v6039
  ![6, v6041.toNat]
def k0_off738 (v5885 : BitVec 32) (c0_i32_1842 : BitVec 32) : Fin 2 → Nat :=
  let c7_i32_1843 : BitVec 32 := 7#32
  let v6050 : Index := Scalar.indexCast c7_i32_1843
  let c6_i32_1774 : BitVec 32 := 6#32
  let v5888 : BitVec 32 := Scalar.shrsi v5885 c6_i32_1774
  let c63_i32_1775 : BitVec 32 := 63#32
  let v5889 : BitVec 32 := Scalar.andi v5888 c63_i32_1775
  let c32_i32_1776 : BitVec 32 := 32#32
  let v5890 : BitVec 32 := Scalar.muli v5889 c32_i32_1776
  let v6049 : BitVec 32 := Scalar.addi v5890 c0_i32_1842
  let v6051 : Index := Scalar.indexCast v6049
  ![7, v6051.toNat]
def k0_off739 (v5885 : BitVec 32) (c0_i32_1846 : BitVec 32) : Fin 2 → Nat :=
  let c0_i32_1847 : BitVec 32 := 0#32
  let v6092 : Index := Scalar.indexCast c0_i32_1847
  let c12_i32_1777 : BitVec 32 := 12#32
  let v5891 : BitVec 32 := Scalar.shrsi v5885 c12_i32_1777
  let c32_i32_1778 : BitVec 32 := 32#32
  let v5892 : BitVec 32 := Scalar.muli v5891 c32_i32_1778
  let v6091 : BitVec 32 := Scalar.addi v5892 c0_i32_1846
  let v6093 : Index := Scalar.indexCast v6091
  ![0, v6093.toNat]
def k0_off740 (v5885 : BitVec 32) (c0_i32_1854 : BitVec 32) : Fin 2 → Nat :=
  let c1_i32_1855 : BitVec 32 := 1#32
  let v6116 : Index := Scalar.indexCast c1_i32_1855
  let c12_i32_1777 : BitVec 32 := 12#32
  let v5891 : BitVec 32 := Scalar.shrsi v5885 c12_i32_1777
  let c32_i32_1778 : BitVec 32 := 32#32
  let v5892 : BitVec 32 := Scalar.muli v5891 c32_i32_1778
  let v6115 : BitVec 32 := Scalar.addi v5892 c0_i32_1854
  let v6117 : Index := Scalar.indexCast v6115
  ![1, v6117.toNat]
def k0_off741 (v5885 : BitVec 32) (c0_i32_1862 : BitVec 32) : Fin 2 → Nat :=
  let c2_i32_1863 : BitVec 32 := 2#32
  let v6140 : Index := Scalar.indexCast c2_i32_1863
  let c12_i32_1777 : BitVec 32 := 12#32
  let v5891 : BitVec 32 := Scalar.shrsi v5885 c12_i32_1777
  let c32_i32_1778 : BitVec 32 := 32#32
  let v5892 : BitVec 32 := Scalar.muli v5891 c32_i32_1778
  let v6139 : BitVec 32 := Scalar.addi v5892 c0_i32_1862
  let v6141 : Index := Scalar.indexCast v6139
  ![2, v6141.toNat]
def k0_off742 (v5885 : BitVec 32) (c0_i32_1870 : BitVec 32) : Fin 2 → Nat :=
  let c3_i32_1871 : BitVec 32 := 3#32
  let v6164 : Index := Scalar.indexCast c3_i32_1871
  let c12_i32_1777 : BitVec 32 := 12#32
  let v5891 : BitVec 32 := Scalar.shrsi v5885 c12_i32_1777
  let c32_i32_1778 : BitVec 32 := 32#32
  let v5892 : BitVec 32 := Scalar.muli v5891 c32_i32_1778
  let v6163 : BitVec 32 := Scalar.addi v5892 c0_i32_1870
  let v6165 : Index := Scalar.indexCast v6163
  ![3, v6165.toNat]
def k0_off743 (v5885 : BitVec 32) (c0_i32_1878 : BitVec 32) : Fin 2 → Nat :=
  let c4_i32_1879 : BitVec 32 := 4#32
  let v6188 : Index := Scalar.indexCast c4_i32_1879
  let c12_i32_1777 : BitVec 32 := 12#32
  let v5891 : BitVec 32 := Scalar.shrsi v5885 c12_i32_1777
  let c32_i32_1778 : BitVec 32 := 32#32
  let v5892 : BitVec 32 := Scalar.muli v5891 c32_i32_1778
  let v6187 : BitVec 32 := Scalar.addi v5892 c0_i32_1878
  let v6189 : Index := Scalar.indexCast v6187
  ![4, v6189.toNat]
def k0_off744 (v5885 : BitVec 32) (c0_i32_1886 : BitVec 32) : Fin 2 → Nat :=
  let c5_i32_1887 : BitVec 32 := 5#32
  let v6212 : Index := Scalar.indexCast c5_i32_1887
  let c12_i32_1777 : BitVec 32 := 12#32
  let v5891 : BitVec 32 := Scalar.shrsi v5885 c12_i32_1777
  let c32_i32_1778 : BitVec 32 := 32#32
  let v5892 : BitVec 32 := Scalar.muli v5891 c32_i32_1778
  let v6211 : BitVec 32 := Scalar.addi v5892 c0_i32_1886
  let v6213 : Index := Scalar.indexCast v6211
  ![5, v6213.toNat]
def k0_off745 (v5885 : BitVec 32) (c0_i32_1894 : BitVec 32) : Fin 2 → Nat :=
  let c6_i32_1895 : BitVec 32 := 6#32
  let v6236 : Index := Scalar.indexCast c6_i32_1895
  let c12_i32_1777 : BitVec 32 := 12#32
  let v5891 : BitVec 32 := Scalar.shrsi v5885 c12_i32_1777
  let c32_i32_1778 : BitVec 32 := 32#32
  let v5892 : BitVec 32 := Scalar.muli v5891 c32_i32_1778
  let v6235 : BitVec 32 := Scalar.addi v5892 c0_i32_1894
  let v6237 : Index := Scalar.indexCast v6235
  ![6, v6237.toNat]
def k0_off746 (v5885 : BitVec 32) (c0_i32_1902 : BitVec 32) : Fin 2 → Nat :=
  let c7_i32_1903 : BitVec 32 := 7#32
  let v6260 : Index := Scalar.indexCast c7_i32_1903
  let c12_i32_1777 : BitVec 32 := 12#32
  let v5891 : BitVec 32 := Scalar.shrsi v5885 c12_i32_1777
  let c32_i32_1778 : BitVec 32 := 32#32
  let v5892 : BitVec 32 := Scalar.muli v5891 c32_i32_1778
  let v6259 : BitVec 32 := Scalar.addi v5892 c0_i32_1902
  let v6261 : Index := Scalar.indexCast v6259
  ![7, v6261.toNat]

def k0_chk29 (v5885 : BitVec 32) : Prop :=
  (∀ (r : Fin 2), ∀ a, (k0_off723 v5885 (BitVec.ofNat 32 (16 * r.val))) a + S1x16.size a ≤ S8x2048.size a) ∧
  (∀ (r : Fin 2), ∀ a, (k0_off724 v5885 (BitVec.ofNat 32 (16 * r.val))) a + S1x16.size a ≤ S8x2048.size a) ∧
  (∀ (r : Fin 2), ∀ a, (k0_off725 v5885 (BitVec.ofNat 32 (16 * r.val))) a + S1x16.size a ≤ S8x2048.size a) ∧
  (∀ (r : Fin 2), ∀ a, (k0_off726 v5885 (BitVec.ofNat 32 (16 * r.val))) a + S1x16.size a ≤ S8x2048.size a) ∧
  (∀ (r : Fin 2), ∀ a, (k0_off727 v5885 (BitVec.ofNat 32 (16 * r.val))) a + S1x16.size a ≤ S8x2048.size a) ∧
  (∀ (r : Fin 2), ∀ a, (k0_off728 v5885 (BitVec.ofNat 32 (16 * r.val))) a + S1x16.size a ≤ S8x2048.size a) ∧
  (∀ (r : Fin 2), ∀ a, (k0_off729 v5885 (BitVec.ofNat 32 (16 * r.val))) a + S1x16.size a ≤ S8x2048.size a) ∧
  (∀ (r : Fin 2), ∀ a, (k0_off730 v5885 (BitVec.ofNat 32 (16 * r.val))) a + S1x16.size a ≤ S8x2048.size a) ∧
  (∀ (r : Fin 2), ∀ a, (k0_off731 v5885 (BitVec.ofNat 32 (16 * r.val))) a + S1x16.size a ≤ S8x2048.size a) ∧
  (∀ (r : Fin 2), ∀ a, (k0_off732 v5885 (BitVec.ofNat 32 (16 * r.val))) a + S1x16.size a ≤ S8x2048.size a) ∧
  (∀ (r : Fin 2), ∀ a, (k0_off733 v5885 (BitVec.ofNat 32 (16 * r.val))) a + S1x16.size a ≤ S8x2048.size a) ∧
  (∀ (r : Fin 2), ∀ a, (k0_off734 v5885 (BitVec.ofNat 32 (16 * r.val))) a + S1x16.size a ≤ S8x2048.size a) ∧
  (∀ (r : Fin 2), ∀ a, (k0_off735 v5885 (BitVec.ofNat 32 (16 * r.val))) a + S1x16.size a ≤ S8x2048.size a) ∧
  (∀ (r : Fin 2), ∀ a, (k0_off736 v5885 (BitVec.ofNat 32 (16 * r.val))) a + S1x16.size a ≤ S8x2048.size a) ∧
  (∀ (r : Fin 2), ∀ a, (k0_off737 v5885 (BitVec.ofNat 32 (16 * r.val))) a + S1x16.size a ≤ S8x2048.size a) ∧
  (∀ (r : Fin 2), ∀ a, (k0_off738 v5885 (BitVec.ofNat 32 (16 * r.val))) a + S1x16.size a ≤ S8x2048.size a) ∧
  (∀ (r : Fin 2), ∀ a, (k0_off739 v5885 (BitVec.ofNat 32 (16 * r.val))) a + S1x16.size a ≤ S8x2048.size a) ∧
  (∀ (r : Fin 2), ∀ a, (k0_off740 v5885 (BitVec.ofNat 32 (16 * r.val))) a + S1x16.size a ≤ S8x2048.size a) ∧
  (∀ (r : Fin 2), ∀ a, (k0_off741 v5885 (BitVec.ofNat 32 (16 * r.val))) a + S1x16.size a ≤ S8x2048.size a) ∧
  (∀ (r : Fin 2), ∀ a, (k0_off742 v5885 (BitVec.ofNat 32 (16 * r.val))) a + S1x16.size a ≤ S8x2048.size a) ∧
  (∀ (r : Fin 2), ∀ a, (k0_off743 v5885 (BitVec.ofNat 32 (16 * r.val))) a + S1x16.size a ≤ S8x2048.size a) ∧
  (∀ (r : Fin 2), ∀ a, (k0_off744 v5885 (BitVec.ofNat 32 (16 * r.val))) a + S1x16.size a ≤ S8x2048.size a) ∧
  (∀ (r : Fin 2), ∀ a, (k0_off745 v5885 (BitVec.ofNat 32 (16 * r.val))) a + S1x16.size a ≤ S8x2048.size a) ∧
  (∀ (r : Fin 2), ∀ a, (k0_off746 v5885 (BitVec.ofNat 32 (16 * r.val))) a + S1x16.size a ≤ S8x2048.size a)
theorem k0_off723_inb : ∀ (v5885 : BitVec 32) (k0_hw29 : k0_chk29 v5885), ∀ (r : Fin 2), ∀ a, (k0_off723 v5885 (BitVec.ofNat 32 (16 * r.val))) a + S1x16.size a ≤ S8x2048.size a := fun v5885 k0_hw29 r => k0_hw29.1 r
theorem k0_off724_inb : ∀ (v5885 : BitVec 32) (k0_hw29 : k0_chk29 v5885), ∀ (r : Fin 2), ∀ a, (k0_off724 v5885 (BitVec.ofNat 32 (16 * r.val))) a + S1x16.size a ≤ S8x2048.size a := fun v5885 k0_hw29 r => k0_hw29.2.1 r
theorem k0_off725_inb : ∀ (v5885 : BitVec 32) (k0_hw29 : k0_chk29 v5885), ∀ (r : Fin 2), ∀ a, (k0_off725 v5885 (BitVec.ofNat 32 (16 * r.val))) a + S1x16.size a ≤ S8x2048.size a := fun v5885 k0_hw29 r => k0_hw29.2.2.1 r
theorem k0_off726_inb : ∀ (v5885 : BitVec 32) (k0_hw29 : k0_chk29 v5885), ∀ (r : Fin 2), ∀ a, (k0_off726 v5885 (BitVec.ofNat 32 (16 * r.val))) a + S1x16.size a ≤ S8x2048.size a := fun v5885 k0_hw29 r => k0_hw29.2.2.2.1 r
theorem k0_off727_inb : ∀ (v5885 : BitVec 32) (k0_hw29 : k0_chk29 v5885), ∀ (r : Fin 2), ∀ a, (k0_off727 v5885 (BitVec.ofNat 32 (16 * r.val))) a + S1x16.size a ≤ S8x2048.size a := fun v5885 k0_hw29 r => k0_hw29.2.2.2.2.1 r
theorem k0_off728_inb : ∀ (v5885 : BitVec 32) (k0_hw29 : k0_chk29 v5885), ∀ (r : Fin 2), ∀ a, (k0_off728 v5885 (BitVec.ofNat 32 (16 * r.val))) a + S1x16.size a ≤ S8x2048.size a := fun v5885 k0_hw29 r => k0_hw29.2.2.2.2.2.1 r
theorem k0_off729_inb : ∀ (v5885 : BitVec 32) (k0_hw29 : k0_chk29 v5885), ∀ (r : Fin 2), ∀ a, (k0_off729 v5885 (BitVec.ofNat 32 (16 * r.val))) a + S1x16.size a ≤ S8x2048.size a := fun v5885 k0_hw29 r => k0_hw29.2.2.2.2.2.2.1 r
theorem k0_off730_inb : ∀ (v5885 : BitVec 32) (k0_hw29 : k0_chk29 v5885), ∀ (r : Fin 2), ∀ a, (k0_off730 v5885 (BitVec.ofNat 32 (16 * r.val))) a + S1x16.size a ≤ S8x2048.size a := fun v5885 k0_hw29 r => k0_hw29.2.2.2.2.2.2.2.1 r
theorem k0_off731_inb : ∀ (v5885 : BitVec 32) (k0_hw29 : k0_chk29 v5885), ∀ (r : Fin 2), ∀ a, (k0_off731 v5885 (BitVec.ofNat 32 (16 * r.val))) a + S1x16.size a ≤ S8x2048.size a := fun v5885 k0_hw29 r => k0_hw29.2.2.2.2.2.2.2.2.1 r
theorem k0_off732_inb : ∀ (v5885 : BitVec 32) (k0_hw29 : k0_chk29 v5885), ∀ (r : Fin 2), ∀ a, (k0_off732 v5885 (BitVec.ofNat 32 (16 * r.val))) a + S1x16.size a ≤ S8x2048.size a := fun v5885 k0_hw29 r => k0_hw29.2.2.2.2.2.2.2.2.2.1 r
theorem k0_off733_inb : ∀ (v5885 : BitVec 32) (k0_hw29 : k0_chk29 v5885), ∀ (r : Fin 2), ∀ a, (k0_off733 v5885 (BitVec.ofNat 32 (16 * r.val))) a + S1x16.size a ≤ S8x2048.size a := fun v5885 k0_hw29 r => k0_hw29.2.2.2.2.2.2.2.2.2.2.1 r
theorem k0_off734_inb : ∀ (v5885 : BitVec 32) (k0_hw29 : k0_chk29 v5885), ∀ (r : Fin 2), ∀ a, (k0_off734 v5885 (BitVec.ofNat 32 (16 * r.val))) a + S1x16.size a ≤ S8x2048.size a := fun v5885 k0_hw29 r => k0_hw29.2.2.2.2.2.2.2.2.2.2.2.1 r
theorem k0_off735_inb : ∀ (v5885 : BitVec 32) (k0_hw29 : k0_chk29 v5885), ∀ (r : Fin 2), ∀ a, (k0_off735 v5885 (BitVec.ofNat 32 (16 * r.val))) a + S1x16.size a ≤ S8x2048.size a := fun v5885 k0_hw29 r => k0_hw29.2.2.2.2.2.2.2.2.2.2.2.2.1 r
theorem k0_off736_inb : ∀ (v5885 : BitVec 32) (k0_hw29 : k0_chk29 v5885), ∀ (r : Fin 2), ∀ a, (k0_off736 v5885 (BitVec.ofNat 32 (16 * r.val))) a + S1x16.size a ≤ S8x2048.size a := fun v5885 k0_hw29 r => k0_hw29.2.2.2.2.2.2.2.2.2.2.2.2.2.1 r
theorem k0_off737_inb : ∀ (v5885 : BitVec 32) (k0_hw29 : k0_chk29 v5885), ∀ (r : Fin 2), ∀ a, (k0_off737 v5885 (BitVec.ofNat 32 (16 * r.val))) a + S1x16.size a ≤ S8x2048.size a := fun v5885 k0_hw29 r => k0_hw29.2.2.2.2.2.2.2.2.2.2.2.2.2.2.1 r
theorem k0_off738_inb : ∀ (v5885 : BitVec 32) (k0_hw29 : k0_chk29 v5885), ∀ (r : Fin 2), ∀ a, (k0_off738 v5885 (BitVec.ofNat 32 (16 * r.val))) a + S1x16.size a ≤ S8x2048.size a := fun v5885 k0_hw29 r => k0_hw29.2.2.2.2.2.2.2.2.2.2.2.2.2.2.2.1 r
theorem k0_off739_inb : ∀ (v5885 : BitVec 32) (k0_hw29 : k0_chk29 v5885), ∀ (r : Fin 2), ∀ a, (k0_off739 v5885 (BitVec.ofNat 32 (16 * r.val))) a + S1x16.size a ≤ S8x2048.size a := fun v5885 k0_hw29 r => k0_hw29.2.2.2.2.2.2.2.2.2.2.2.2.2.2.2.2.1 r
theorem k0_off740_inb : ∀ (v5885 : BitVec 32) (k0_hw29 : k0_chk29 v5885), ∀ (r : Fin 2), ∀ a, (k0_off740 v5885 (BitVec.ofNat 32 (16 * r.val))) a + S1x16.size a ≤ S8x2048.size a := fun v5885 k0_hw29 r => k0_hw29.2.2.2.2.2.2.2.2.2.2.2.2.2.2.2.2.2.1 r
theorem k0_off741_inb : ∀ (v5885 : BitVec 32) (k0_hw29 : k0_chk29 v5885), ∀ (r : Fin 2), ∀ a, (k0_off741 v5885 (BitVec.ofNat 32 (16 * r.val))) a + S1x16.size a ≤ S8x2048.size a := fun v5885 k0_hw29 r => k0_hw29.2.2.2.2.2.2.2.2.2.2.2.2.2.2.2.2.2.2.1 r
theorem k0_off742_inb : ∀ (v5885 : BitVec 32) (k0_hw29 : k0_chk29 v5885), ∀ (r : Fin 2), ∀ a, (k0_off742 v5885 (BitVec.ofNat 32 (16 * r.val))) a + S1x16.size a ≤ S8x2048.size a := fun v5885 k0_hw29 r => k0_hw29.2.2.2.2.2.2.2.2.2.2.2.2.2.2.2.2.2.2.2.1 r
theorem k0_off743_inb : ∀ (v5885 : BitVec 32) (k0_hw29 : k0_chk29 v5885), ∀ (r : Fin 2), ∀ a, (k0_off743 v5885 (BitVec.ofNat 32 (16 * r.val))) a + S1x16.size a ≤ S8x2048.size a := fun v5885 k0_hw29 r => k0_hw29.2.2.2.2.2.2.2.2.2.2.2.2.2.2.2.2.2.2.2.2.1 r
theorem k0_off744_inb : ∀ (v5885 : BitVec 32) (k0_hw29 : k0_chk29 v5885), ∀ (r : Fin 2), ∀ a, (k0_off744 v5885 (BitVec.ofNat 32 (16 * r.val))) a + S1x16.size a ≤ S8x2048.size a := fun v5885 k0_hw29 r => k0_hw29.2.2.2.2.2.2.2.2.2.2.2.2.2.2.2.2.2.2.2.2.2.1 r
theorem k0_off745_inb : ∀ (v5885 : BitVec 32) (k0_hw29 : k0_chk29 v5885), ∀ (r : Fin 2), ∀ a, (k0_off745 v5885 (BitVec.ofNat 32 (16 * r.val))) a + S1x16.size a ≤ S8x2048.size a := fun v5885 k0_hw29 r => k0_hw29.2.2.2.2.2.2.2.2.2.2.2.2.2.2.2.2.2.2.2.2.2.2.1 r
theorem k0_off746_inb : ∀ (v5885 : BitVec 32) (k0_hw29 : k0_chk29 v5885), ∀ (r : Fin 2), ∀ a, (k0_off746 v5885 (BitVec.ofNat 32 (16 * r.val))) a + S1x16.size a ≤ S8x2048.size a := fun v5885 k0_hw29 r => k0_hw29.2.2.2.2.2.2.2.2.2.2.2.2.2.2.2.2.2.2.2.2.2.2.2 r

def k0_off747 (k0_t5 : Fin k0_t5_loop.trips) : Fin 1 → Nat :=
  let c0_i32_116 : BitVec 32 := 0#32
  let c1_i32_118 : BitVec 32 := 1#32
  let arg28 : BitVec 32 := Scf.iv c0_i32_116 c1_i32_118 k0_t5
  let c16_i32_1917 : BitVec 32 := 16#32
  let v6292 : BitVec 32 := Scalar.muli arg28 c16_i32_1917
  let c13_i32 : BitVec 32 := 13#32
  let v6293 : BitVec 32 := Scalar.addi v6292 c13_i32
  let c16_i32_1918 : BitVec 32 := 16#32
  let v6294 : BitVec 32 := Scalar.muli v6293 c16_i32_1918
  let v6295 : Index := Scalar.indexCast v6294
  ![v6295.toNat]
def k0_off748 (v6284 : BitVec 32) (c0_i32_1919 : BitVec 32) : Fin 2 → Nat :=
  let c0_i32_1920 : BitVec 32 := 0#32
  let v6299 : Index := Scalar.indexCast c0_i32_1920
  let c63_i32_1910 : BitVec 32 := 63#32
  let v6285 : BitVec 32 := Scalar.andi v6284 c63_i32_1910
  let c32_i32_1911 : BitVec 32 := 32#32
  let v6286 : BitVec 32 := Scalar.muli v6285 c32_i32_1911
  let v6298 : BitVec 32 := Scalar.addi v6286 c0_i32_1919
  let v6300 : Index := Scalar.indexCast v6298
  ![0, v6300.toNat]

def k0_off749 (v6284 : BitVec 32) (c0_i32_1923 : BitVec 32) : Fin 2 → Nat :=
  let c1_i32_1924 : BitVec 32 := 1#32
  let v6309 : Index := Scalar.indexCast c1_i32_1924
  let c63_i32_1910 : BitVec 32 := 63#32
  let v6285 : BitVec 32 := Scalar.andi v6284 c63_i32_1910
  let c32_i32_1911 : BitVec 32 := 32#32
  let v6286 : BitVec 32 := Scalar.muli v6285 c32_i32_1911
  let v6308 : BitVec 32 := Scalar.addi v6286 c0_i32_1923
  let v6310 : Index := Scalar.indexCast v6308
  ![1, v6310.toNat]
def k0_off750 (v6284 : BitVec 32) (c0_i32_1927 : BitVec 32) : Fin 2 → Nat :=
  let c2_i32_1928 : BitVec 32 := 2#32
  let v6319 : Index := Scalar.indexCast c2_i32_1928
  let c63_i32_1910 : BitVec 32 := 63#32
  let v6285 : BitVec 32 := Scalar.andi v6284 c63_i32_1910
  let c32_i32_1911 : BitVec 32 := 32#32
  let v6286 : BitVec 32 := Scalar.muli v6285 c32_i32_1911
  let v6318 : BitVec 32 := Scalar.addi v6286 c0_i32_1927
  let v6320 : Index := Scalar.indexCast v6318
  ![2, v6320.toNat]
def k0_off751 (v6284 : BitVec 32) (c0_i32_1931 : BitVec 32) : Fin 2 → Nat :=
  let c3_i32_1932 : BitVec 32 := 3#32
  let v6329 : Index := Scalar.indexCast c3_i32_1932
  let c63_i32_1910 : BitVec 32 := 63#32
  let v6285 : BitVec 32 := Scalar.andi v6284 c63_i32_1910
  let c32_i32_1911 : BitVec 32 := 32#32
  let v6286 : BitVec 32 := Scalar.muli v6285 c32_i32_1911
  let v6328 : BitVec 32 := Scalar.addi v6286 c0_i32_1931
  let v6330 : Index := Scalar.indexCast v6328
  ![3, v6330.toNat]
def k0_off752 (v6284 : BitVec 32) (c0_i32_1935 : BitVec 32) : Fin 2 → Nat :=
  let c4_i32_1936 : BitVec 32 := 4#32
  let v6339 : Index := Scalar.indexCast c4_i32_1936
  let c63_i32_1910 : BitVec 32 := 63#32
  let v6285 : BitVec 32 := Scalar.andi v6284 c63_i32_1910
  let c32_i32_1911 : BitVec 32 := 32#32
  let v6286 : BitVec 32 := Scalar.muli v6285 c32_i32_1911
  let v6338 : BitVec 32 := Scalar.addi v6286 c0_i32_1935
  let v6340 : Index := Scalar.indexCast v6338
  ![4, v6340.toNat]
def k0_off753 (v6284 : BitVec 32) (c0_i32_1939 : BitVec 32) : Fin 2 → Nat :=
  let c5_i32_1940 : BitVec 32 := 5#32
  let v6349 : Index := Scalar.indexCast c5_i32_1940
  let c63_i32_1910 : BitVec 32 := 63#32
  let v6285 : BitVec 32 := Scalar.andi v6284 c63_i32_1910
  let c32_i32_1911 : BitVec 32 := 32#32
  let v6286 : BitVec 32 := Scalar.muli v6285 c32_i32_1911
  let v6348 : BitVec 32 := Scalar.addi v6286 c0_i32_1939
  let v6350 : Index := Scalar.indexCast v6348
  ![5, v6350.toNat]
def k0_off754 (v6284 : BitVec 32) (c0_i32_1943 : BitVec 32) : Fin 2 → Nat :=
  let c6_i32_1944 : BitVec 32 := 6#32
  let v6359 : Index := Scalar.indexCast c6_i32_1944
  let c63_i32_1910 : BitVec 32 := 63#32
  let v6285 : BitVec 32 := Scalar.andi v6284 c63_i32_1910
  let c32_i32_1911 : BitVec 32 := 32#32
  let v6286 : BitVec 32 := Scalar.muli v6285 c32_i32_1911
  let v6358 : BitVec 32 := Scalar.addi v6286 c0_i32_1943
  let v6360 : Index := Scalar.indexCast v6358
  ![6, v6360.toNat]
def k0_off755 (v6284 : BitVec 32) (c0_i32_1947 : BitVec 32) : Fin 2 → Nat :=
  let c7_i32_1948 : BitVec 32 := 7#32
  let v6369 : Index := Scalar.indexCast c7_i32_1948
  let c63_i32_1910 : BitVec 32 := 63#32
  let v6285 : BitVec 32 := Scalar.andi v6284 c63_i32_1910
  let c32_i32_1911 : BitVec 32 := 32#32
  let v6286 : BitVec 32 := Scalar.muli v6285 c32_i32_1911
  let v6368 : BitVec 32 := Scalar.addi v6286 c0_i32_1947
  let v6370 : Index := Scalar.indexCast v6368
  ![7, v6370.toNat]
def k0_off756 (v6284 : BitVec 32) (c0_i32_1951 : BitVec 32) : Fin 2 → Nat :=
  let c0_i32_1952 : BitVec 32 := 0#32
  let v6379 : Index := Scalar.indexCast c0_i32_1952
  let c6_i32_1912 : BitVec 32 := 6#32
  let v6287 : BitVec 32 := Scalar.shrsi v6284 c6_i32_1912
  let c63_i32_1913 : BitVec 32 := 63#32
  let v6288 : BitVec 32 := Scalar.andi v6287 c63_i32_1913
  let c32_i32_1914 : BitVec 32 := 32#32
  let v6289 : BitVec 32 := Scalar.muli v6288 c32_i32_1914
  let v6378 : BitVec 32 := Scalar.addi v6289 c0_i32_1951
  let v6380 : Index := Scalar.indexCast v6378
  ![0, v6380.toNat]
def k0_off757 (v6284 : BitVec 32) (c0_i32_1955 : BitVec 32) : Fin 2 → Nat :=
  let c1_i32_1956 : BitVec 32 := 1#32
  let v6389 : Index := Scalar.indexCast c1_i32_1956
  let c6_i32_1912 : BitVec 32 := 6#32
  let v6287 : BitVec 32 := Scalar.shrsi v6284 c6_i32_1912
  let c63_i32_1913 : BitVec 32 := 63#32
  let v6288 : BitVec 32 := Scalar.andi v6287 c63_i32_1913
  let c32_i32_1914 : BitVec 32 := 32#32
  let v6289 : BitVec 32 := Scalar.muli v6288 c32_i32_1914
  let v6388 : BitVec 32 := Scalar.addi v6289 c0_i32_1955
  let v6390 : Index := Scalar.indexCast v6388
  ![1, v6390.toNat]
def k0_off758 (v6284 : BitVec 32) (c0_i32_1959 : BitVec 32) : Fin 2 → Nat :=
  let c2_i32_1960 : BitVec 32 := 2#32
  let v6399 : Index := Scalar.indexCast c2_i32_1960
  let c6_i32_1912 : BitVec 32 := 6#32
  let v6287 : BitVec 32 := Scalar.shrsi v6284 c6_i32_1912
  let c63_i32_1913 : BitVec 32 := 63#32
  let v6288 : BitVec 32 := Scalar.andi v6287 c63_i32_1913
  let c32_i32_1914 : BitVec 32 := 32#32
  let v6289 : BitVec 32 := Scalar.muli v6288 c32_i32_1914
  let v6398 : BitVec 32 := Scalar.addi v6289 c0_i32_1959
  let v6400 : Index := Scalar.indexCast v6398
  ![2, v6400.toNat]
def k0_off759 (v6284 : BitVec 32) (c0_i32_1963 : BitVec 32) : Fin 2 → Nat :=
  let c3_i32_1964 : BitVec 32 := 3#32
  let v6409 : Index := Scalar.indexCast c3_i32_1964
  let c6_i32_1912 : BitVec 32 := 6#32
  let v6287 : BitVec 32 := Scalar.shrsi v6284 c6_i32_1912
  let c63_i32_1913 : BitVec 32 := 63#32
  let v6288 : BitVec 32 := Scalar.andi v6287 c63_i32_1913
  let c32_i32_1914 : BitVec 32 := 32#32
  let v6289 : BitVec 32 := Scalar.muli v6288 c32_i32_1914
  let v6408 : BitVec 32 := Scalar.addi v6289 c0_i32_1963
  let v6410 : Index := Scalar.indexCast v6408
  ![3, v6410.toNat]
def k0_off760 (v6284 : BitVec 32) (c0_i32_1967 : BitVec 32) : Fin 2 → Nat :=
  let c4_i32_1968 : BitVec 32 := 4#32
  let v6419 : Index := Scalar.indexCast c4_i32_1968
  let c6_i32_1912 : BitVec 32 := 6#32
  let v6287 : BitVec 32 := Scalar.shrsi v6284 c6_i32_1912
  let c63_i32_1913 : BitVec 32 := 63#32
  let v6288 : BitVec 32 := Scalar.andi v6287 c63_i32_1913
  let c32_i32_1914 : BitVec 32 := 32#32
  let v6289 : BitVec 32 := Scalar.muli v6288 c32_i32_1914
  let v6418 : BitVec 32 := Scalar.addi v6289 c0_i32_1967
  let v6420 : Index := Scalar.indexCast v6418
  ![4, v6420.toNat]
def k0_off761 (v6284 : BitVec 32) (c0_i32_1971 : BitVec 32) : Fin 2 → Nat :=
  let c5_i32_1972 : BitVec 32 := 5#32
  let v6429 : Index := Scalar.indexCast c5_i32_1972
  let c6_i32_1912 : BitVec 32 := 6#32
  let v6287 : BitVec 32 := Scalar.shrsi v6284 c6_i32_1912
  let c63_i32_1913 : BitVec 32 := 63#32
  let v6288 : BitVec 32 := Scalar.andi v6287 c63_i32_1913
  let c32_i32_1914 : BitVec 32 := 32#32
  let v6289 : BitVec 32 := Scalar.muli v6288 c32_i32_1914
  let v6428 : BitVec 32 := Scalar.addi v6289 c0_i32_1971
  let v6430 : Index := Scalar.indexCast v6428
  ![5, v6430.toNat]
def k0_off762 (v6284 : BitVec 32) (c0_i32_1975 : BitVec 32) : Fin 2 → Nat :=
  let c6_i32_1976 : BitVec 32 := 6#32
  let v6439 : Index := Scalar.indexCast c6_i32_1976
  let c6_i32_1912 : BitVec 32 := 6#32
  let v6287 : BitVec 32 := Scalar.shrsi v6284 c6_i32_1912
  let c63_i32_1913 : BitVec 32 := 63#32
  let v6288 : BitVec 32 := Scalar.andi v6287 c63_i32_1913
  let c32_i32_1914 : BitVec 32 := 32#32
  let v6289 : BitVec 32 := Scalar.muli v6288 c32_i32_1914
  let v6438 : BitVec 32 := Scalar.addi v6289 c0_i32_1975
  let v6440 : Index := Scalar.indexCast v6438
  ![6, v6440.toNat]
def k0_off763 (v6284 : BitVec 32) (c0_i32_1979 : BitVec 32) : Fin 2 → Nat :=
  let c7_i32_1980 : BitVec 32 := 7#32
  let v6449 : Index := Scalar.indexCast c7_i32_1980
  let c6_i32_1912 : BitVec 32 := 6#32
  let v6287 : BitVec 32 := Scalar.shrsi v6284 c6_i32_1912
  let c63_i32_1913 : BitVec 32 := 63#32
  let v6288 : BitVec 32 := Scalar.andi v6287 c63_i32_1913
  let c32_i32_1914 : BitVec 32 := 32#32
  let v6289 : BitVec 32 := Scalar.muli v6288 c32_i32_1914
  let v6448 : BitVec 32 := Scalar.addi v6289 c0_i32_1979
  let v6450 : Index := Scalar.indexCast v6448
  ![7, v6450.toNat]
def k0_off764 (v6284 : BitVec 32) (c0_i32_1983 : BitVec 32) : Fin 2 → Nat :=
  let c0_i32_1984 : BitVec 32 := 0#32
  let v6491 : Index := Scalar.indexCast c0_i32_1984
  let c12_i32_1915 : BitVec 32 := 12#32
  let v6290 : BitVec 32 := Scalar.shrsi v6284 c12_i32_1915
  let c32_i32_1916 : BitVec 32 := 32#32
  let v6291 : BitVec 32 := Scalar.muli v6290 c32_i32_1916
  let v6490 : BitVec 32 := Scalar.addi v6291 c0_i32_1983
  let v6492 : Index := Scalar.indexCast v6490
  ![0, v6492.toNat]
def k0_off765 (v6284 : BitVec 32) (c0_i32_1991 : BitVec 32) : Fin 2 → Nat :=
  let c1_i32_1992 : BitVec 32 := 1#32
  let v6515 : Index := Scalar.indexCast c1_i32_1992
  let c12_i32_1915 : BitVec 32 := 12#32
  let v6290 : BitVec 32 := Scalar.shrsi v6284 c12_i32_1915
  let c32_i32_1916 : BitVec 32 := 32#32
  let v6291 : BitVec 32 := Scalar.muli v6290 c32_i32_1916
  let v6514 : BitVec 32 := Scalar.addi v6291 c0_i32_1991
  let v6516 : Index := Scalar.indexCast v6514
  ![1, v6516.toNat]
def k0_off766 (v6284 : BitVec 32) (c0_i32_1999 : BitVec 32) : Fin 2 → Nat :=
  let c2_i32_2000 : BitVec 32 := 2#32
  let v6539 : Index := Scalar.indexCast c2_i32_2000
  let c12_i32_1915 : BitVec 32 := 12#32
  let v6290 : BitVec 32 := Scalar.shrsi v6284 c12_i32_1915
  let c32_i32_1916 : BitVec 32 := 32#32
  let v6291 : BitVec 32 := Scalar.muli v6290 c32_i32_1916
  let v6538 : BitVec 32 := Scalar.addi v6291 c0_i32_1999
  let v6540 : Index := Scalar.indexCast v6538
  ![2, v6540.toNat]
def k0_off767 (v6284 : BitVec 32) (c0_i32_2007 : BitVec 32) : Fin 2 → Nat :=
  let c3_i32_2008 : BitVec 32 := 3#32
  let v6563 : Index := Scalar.indexCast c3_i32_2008
  let c12_i32_1915 : BitVec 32 := 12#32
  let v6290 : BitVec 32 := Scalar.shrsi v6284 c12_i32_1915
  let c32_i32_1916 : BitVec 32 := 32#32
  let v6291 : BitVec 32 := Scalar.muli v6290 c32_i32_1916
  let v6562 : BitVec 32 := Scalar.addi v6291 c0_i32_2007
  let v6564 : Index := Scalar.indexCast v6562
  ![3, v6564.toNat]
def k0_off768 (v6284 : BitVec 32) (c0_i32_2015 : BitVec 32) : Fin 2 → Nat :=
  let c4_i32_2016 : BitVec 32 := 4#32
  let v6587 : Index := Scalar.indexCast c4_i32_2016
  let c12_i32_1915 : BitVec 32 := 12#32
  let v6290 : BitVec 32 := Scalar.shrsi v6284 c12_i32_1915
  let c32_i32_1916 : BitVec 32 := 32#32
  let v6291 : BitVec 32 := Scalar.muli v6290 c32_i32_1916
  let v6586 : BitVec 32 := Scalar.addi v6291 c0_i32_2015
  let v6588 : Index := Scalar.indexCast v6586
  ![4, v6588.toNat]
def k0_off769 (v6284 : BitVec 32) (c0_i32_2023 : BitVec 32) : Fin 2 → Nat :=
  let c5_i32_2024 : BitVec 32 := 5#32
  let v6611 : Index := Scalar.indexCast c5_i32_2024
  let c12_i32_1915 : BitVec 32 := 12#32
  let v6290 : BitVec 32 := Scalar.shrsi v6284 c12_i32_1915
  let c32_i32_1916 : BitVec 32 := 32#32
  let v6291 : BitVec 32 := Scalar.muli v6290 c32_i32_1916
  let v6610 : BitVec 32 := Scalar.addi v6291 c0_i32_2023
  let v6612 : Index := Scalar.indexCast v6610
  ![5, v6612.toNat]
def k0_off770 (v6284 : BitVec 32) (c0_i32_2031 : BitVec 32) : Fin 2 → Nat :=
  let c6_i32_2032 : BitVec 32 := 6#32
  let v6635 : Index := Scalar.indexCast c6_i32_2032
  let c12_i32_1915 : BitVec 32 := 12#32
  let v6290 : BitVec 32 := Scalar.shrsi v6284 c12_i32_1915
  let c32_i32_1916 : BitVec 32 := 32#32
  let v6291 : BitVec 32 := Scalar.muli v6290 c32_i32_1916
  let v6634 : BitVec 32 := Scalar.addi v6291 c0_i32_2031
  let v6636 : Index := Scalar.indexCast v6634
  ![6, v6636.toNat]
def k0_off771 (v6284 : BitVec 32) (c0_i32_2039 : BitVec 32) : Fin 2 → Nat :=
  let c7_i32_2040 : BitVec 32 := 7#32
  let v6659 : Index := Scalar.indexCast c7_i32_2040
  let c12_i32_1915 : BitVec 32 := 12#32
  let v6290 : BitVec 32 := Scalar.shrsi v6284 c12_i32_1915
  let c32_i32_1916 : BitVec 32 := 32#32
  let v6291 : BitVec 32 := Scalar.muli v6290 c32_i32_1916
  let v6658 : BitVec 32 := Scalar.addi v6291 c0_i32_2039
  let v6660 : Index := Scalar.indexCast v6658
  ![7, v6660.toNat]

def k0_chk30 (v6284 : BitVec 32) : Prop :=
  (∀ (r : Fin 2), ∀ a, (k0_off748 v6284 (BitVec.ofNat 32 (16 * r.val))) a + S1x16.size a ≤ S8x2048.size a) ∧
  (∀ (r : Fin 2), ∀ a, (k0_off749 v6284 (BitVec.ofNat 32 (16 * r.val))) a + S1x16.size a ≤ S8x2048.size a) ∧
  (∀ (r : Fin 2), ∀ a, (k0_off750 v6284 (BitVec.ofNat 32 (16 * r.val))) a + S1x16.size a ≤ S8x2048.size a) ∧
  (∀ (r : Fin 2), ∀ a, (k0_off751 v6284 (BitVec.ofNat 32 (16 * r.val))) a + S1x16.size a ≤ S8x2048.size a) ∧
  (∀ (r : Fin 2), ∀ a, (k0_off752 v6284 (BitVec.ofNat 32 (16 * r.val))) a + S1x16.size a ≤ S8x2048.size a) ∧
  (∀ (r : Fin 2), ∀ a, (k0_off753 v6284 (BitVec.ofNat 32 (16 * r.val))) a + S1x16.size a ≤ S8x2048.size a) ∧
  (∀ (r : Fin 2), ∀ a, (k0_off754 v6284 (BitVec.ofNat 32 (16 * r.val))) a + S1x16.size a ≤ S8x2048.size a) ∧
  (∀ (r : Fin 2), ∀ a, (k0_off755 v6284 (BitVec.ofNat 32 (16 * r.val))) a + S1x16.size a ≤ S8x2048.size a) ∧
  (∀ (r : Fin 2), ∀ a, (k0_off756 v6284 (BitVec.ofNat 32 (16 * r.val))) a + S1x16.size a ≤ S8x2048.size a) ∧
  (∀ (r : Fin 2), ∀ a, (k0_off757 v6284 (BitVec.ofNat 32 (16 * r.val))) a + S1x16.size a ≤ S8x2048.size a) ∧
  (∀ (r : Fin 2), ∀ a, (k0_off758 v6284 (BitVec.ofNat 32 (16 * r.val))) a + S1x16.size a ≤ S8x2048.size a) ∧
  (∀ (r : Fin 2), ∀ a, (k0_off759 v6284 (BitVec.ofNat 32 (16 * r.val))) a + S1x16.size a ≤ S8x2048.size a) ∧
  (∀ (r : Fin 2), ∀ a, (k0_off760 v6284 (BitVec.ofNat 32 (16 * r.val))) a + S1x16.size a ≤ S8x2048.size a) ∧
  (∀ (r : Fin 2), ∀ a, (k0_off761 v6284 (BitVec.ofNat 32 (16 * r.val))) a + S1x16.size a ≤ S8x2048.size a) ∧
  (∀ (r : Fin 2), ∀ a, (k0_off762 v6284 (BitVec.ofNat 32 (16 * r.val))) a + S1x16.size a ≤ S8x2048.size a) ∧
  (∀ (r : Fin 2), ∀ a, (k0_off763 v6284 (BitVec.ofNat 32 (16 * r.val))) a + S1x16.size a ≤ S8x2048.size a) ∧
  (∀ (r : Fin 2), ∀ a, (k0_off764 v6284 (BitVec.ofNat 32 (16 * r.val))) a + S1x16.size a ≤ S8x2048.size a) ∧
  (∀ (r : Fin 2), ∀ a, (k0_off765 v6284 (BitVec.ofNat 32 (16 * r.val))) a + S1x16.size a ≤ S8x2048.size a) ∧
  (∀ (r : Fin 2), ∀ a, (k0_off766 v6284 (BitVec.ofNat 32 (16 * r.val))) a + S1x16.size a ≤ S8x2048.size a) ∧
  (∀ (r : Fin 2), ∀ a, (k0_off767 v6284 (BitVec.ofNat 32 (16 * r.val))) a + S1x16.size a ≤ S8x2048.size a) ∧
  (∀ (r : Fin 2), ∀ a, (k0_off768 v6284 (BitVec.ofNat 32 (16 * r.val))) a + S1x16.size a ≤ S8x2048.size a) ∧
  (∀ (r : Fin 2), ∀ a, (k0_off769 v6284 (BitVec.ofNat 32 (16 * r.val))) a + S1x16.size a ≤ S8x2048.size a) ∧
  (∀ (r : Fin 2), ∀ a, (k0_off770 v6284 (BitVec.ofNat 32 (16 * r.val))) a + S1x16.size a ≤ S8x2048.size a) ∧
  (∀ (r : Fin 2), ∀ a, (k0_off771 v6284 (BitVec.ofNat 32 (16 * r.val))) a + S1x16.size a ≤ S8x2048.size a)
theorem k0_off748_inb : ∀ (v6284 : BitVec 32) (k0_hw30 : k0_chk30 v6284), ∀ (r : Fin 2), ∀ a, (k0_off748 v6284 (BitVec.ofNat 32 (16 * r.val))) a + S1x16.size a ≤ S8x2048.size a := fun v6284 k0_hw30 r => k0_hw30.1 r
theorem k0_off749_inb : ∀ (v6284 : BitVec 32) (k0_hw30 : k0_chk30 v6284), ∀ (r : Fin 2), ∀ a, (k0_off749 v6284 (BitVec.ofNat 32 (16 * r.val))) a + S1x16.size a ≤ S8x2048.size a := fun v6284 k0_hw30 r => k0_hw30.2.1 r
theorem k0_off750_inb : ∀ (v6284 : BitVec 32) (k0_hw30 : k0_chk30 v6284), ∀ (r : Fin 2), ∀ a, (k0_off750 v6284 (BitVec.ofNat 32 (16 * r.val))) a + S1x16.size a ≤ S8x2048.size a := fun v6284 k0_hw30 r => k0_hw30.2.2.1 r
theorem k0_off751_inb : ∀ (v6284 : BitVec 32) (k0_hw30 : k0_chk30 v6284), ∀ (r : Fin 2), ∀ a, (k0_off751 v6284 (BitVec.ofNat 32 (16 * r.val))) a + S1x16.size a ≤ S8x2048.size a := fun v6284 k0_hw30 r => k0_hw30.2.2.2.1 r
theorem k0_off752_inb : ∀ (v6284 : BitVec 32) (k0_hw30 : k0_chk30 v6284), ∀ (r : Fin 2), ∀ a, (k0_off752 v6284 (BitVec.ofNat 32 (16 * r.val))) a + S1x16.size a ≤ S8x2048.size a := fun v6284 k0_hw30 r => k0_hw30.2.2.2.2.1 r
theorem k0_off753_inb : ∀ (v6284 : BitVec 32) (k0_hw30 : k0_chk30 v6284), ∀ (r : Fin 2), ∀ a, (k0_off753 v6284 (BitVec.ofNat 32 (16 * r.val))) a + S1x16.size a ≤ S8x2048.size a := fun v6284 k0_hw30 r => k0_hw30.2.2.2.2.2.1 r
theorem k0_off754_inb : ∀ (v6284 : BitVec 32) (k0_hw30 : k0_chk30 v6284), ∀ (r : Fin 2), ∀ a, (k0_off754 v6284 (BitVec.ofNat 32 (16 * r.val))) a + S1x16.size a ≤ S8x2048.size a := fun v6284 k0_hw30 r => k0_hw30.2.2.2.2.2.2.1 r
theorem k0_off755_inb : ∀ (v6284 : BitVec 32) (k0_hw30 : k0_chk30 v6284), ∀ (r : Fin 2), ∀ a, (k0_off755 v6284 (BitVec.ofNat 32 (16 * r.val))) a + S1x16.size a ≤ S8x2048.size a := fun v6284 k0_hw30 r => k0_hw30.2.2.2.2.2.2.2.1 r
theorem k0_off756_inb : ∀ (v6284 : BitVec 32) (k0_hw30 : k0_chk30 v6284), ∀ (r : Fin 2), ∀ a, (k0_off756 v6284 (BitVec.ofNat 32 (16 * r.val))) a + S1x16.size a ≤ S8x2048.size a := fun v6284 k0_hw30 r => k0_hw30.2.2.2.2.2.2.2.2.1 r
theorem k0_off757_inb : ∀ (v6284 : BitVec 32) (k0_hw30 : k0_chk30 v6284), ∀ (r : Fin 2), ∀ a, (k0_off757 v6284 (BitVec.ofNat 32 (16 * r.val))) a + S1x16.size a ≤ S8x2048.size a := fun v6284 k0_hw30 r => k0_hw30.2.2.2.2.2.2.2.2.2.1 r
theorem k0_off758_inb : ∀ (v6284 : BitVec 32) (k0_hw30 : k0_chk30 v6284), ∀ (r : Fin 2), ∀ a, (k0_off758 v6284 (BitVec.ofNat 32 (16 * r.val))) a + S1x16.size a ≤ S8x2048.size a := fun v6284 k0_hw30 r => k0_hw30.2.2.2.2.2.2.2.2.2.2.1 r
theorem k0_off759_inb : ∀ (v6284 : BitVec 32) (k0_hw30 : k0_chk30 v6284), ∀ (r : Fin 2), ∀ a, (k0_off759 v6284 (BitVec.ofNat 32 (16 * r.val))) a + S1x16.size a ≤ S8x2048.size a := fun v6284 k0_hw30 r => k0_hw30.2.2.2.2.2.2.2.2.2.2.2.1 r
theorem k0_off760_inb : ∀ (v6284 : BitVec 32) (k0_hw30 : k0_chk30 v6284), ∀ (r : Fin 2), ∀ a, (k0_off760 v6284 (BitVec.ofNat 32 (16 * r.val))) a + S1x16.size a ≤ S8x2048.size a := fun v6284 k0_hw30 r => k0_hw30.2.2.2.2.2.2.2.2.2.2.2.2.1 r
theorem k0_off761_inb : ∀ (v6284 : BitVec 32) (k0_hw30 : k0_chk30 v6284), ∀ (r : Fin 2), ∀ a, (k0_off761 v6284 (BitVec.ofNat 32 (16 * r.val))) a + S1x16.size a ≤ S8x2048.size a := fun v6284 k0_hw30 r => k0_hw30.2.2.2.2.2.2.2.2.2.2.2.2.2.1 r
theorem k0_off762_inb : ∀ (v6284 : BitVec 32) (k0_hw30 : k0_chk30 v6284), ∀ (r : Fin 2), ∀ a, (k0_off762 v6284 (BitVec.ofNat 32 (16 * r.val))) a + S1x16.size a ≤ S8x2048.size a := fun v6284 k0_hw30 r => k0_hw30.2.2.2.2.2.2.2.2.2.2.2.2.2.2.1 r
theorem k0_off763_inb : ∀ (v6284 : BitVec 32) (k0_hw30 : k0_chk30 v6284), ∀ (r : Fin 2), ∀ a, (k0_off763 v6284 (BitVec.ofNat 32 (16 * r.val))) a + S1x16.size a ≤ S8x2048.size a := fun v6284 k0_hw30 r => k0_hw30.2.2.2.2.2.2.2.2.2.2.2.2.2.2.2.1 r
theorem k0_off764_inb : ∀ (v6284 : BitVec 32) (k0_hw30 : k0_chk30 v6284), ∀ (r : Fin 2), ∀ a, (k0_off764 v6284 (BitVec.ofNat 32 (16 * r.val))) a + S1x16.size a ≤ S8x2048.size a := fun v6284 k0_hw30 r => k0_hw30.2.2.2.2.2.2.2.2.2.2.2.2.2.2.2.2.1 r
theorem k0_off765_inb : ∀ (v6284 : BitVec 32) (k0_hw30 : k0_chk30 v6284), ∀ (r : Fin 2), ∀ a, (k0_off765 v6284 (BitVec.ofNat 32 (16 * r.val))) a + S1x16.size a ≤ S8x2048.size a := fun v6284 k0_hw30 r => k0_hw30.2.2.2.2.2.2.2.2.2.2.2.2.2.2.2.2.2.1 r
theorem k0_off766_inb : ∀ (v6284 : BitVec 32) (k0_hw30 : k0_chk30 v6284), ∀ (r : Fin 2), ∀ a, (k0_off766 v6284 (BitVec.ofNat 32 (16 * r.val))) a + S1x16.size a ≤ S8x2048.size a := fun v6284 k0_hw30 r => k0_hw30.2.2.2.2.2.2.2.2.2.2.2.2.2.2.2.2.2.2.1 r
theorem k0_off767_inb : ∀ (v6284 : BitVec 32) (k0_hw30 : k0_chk30 v6284), ∀ (r : Fin 2), ∀ a, (k0_off767 v6284 (BitVec.ofNat 32 (16 * r.val))) a + S1x16.size a ≤ S8x2048.size a := fun v6284 k0_hw30 r => k0_hw30.2.2.2.2.2.2.2.2.2.2.2.2.2.2.2.2.2.2.2.1 r
theorem k0_off768_inb : ∀ (v6284 : BitVec 32) (k0_hw30 : k0_chk30 v6284), ∀ (r : Fin 2), ∀ a, (k0_off768 v6284 (BitVec.ofNat 32 (16 * r.val))) a + S1x16.size a ≤ S8x2048.size a := fun v6284 k0_hw30 r => k0_hw30.2.2.2.2.2.2.2.2.2.2.2.2.2.2.2.2.2.2.2.2.1 r
theorem k0_off769_inb : ∀ (v6284 : BitVec 32) (k0_hw30 : k0_chk30 v6284), ∀ (r : Fin 2), ∀ a, (k0_off769 v6284 (BitVec.ofNat 32 (16 * r.val))) a + S1x16.size a ≤ S8x2048.size a := fun v6284 k0_hw30 r => k0_hw30.2.2.2.2.2.2.2.2.2.2.2.2.2.2.2.2.2.2.2.2.2.1 r
theorem k0_off770_inb : ∀ (v6284 : BitVec 32) (k0_hw30 : k0_chk30 v6284), ∀ (r : Fin 2), ∀ a, (k0_off770 v6284 (BitVec.ofNat 32 (16 * r.val))) a + S1x16.size a ≤ S8x2048.size a := fun v6284 k0_hw30 r => k0_hw30.2.2.2.2.2.2.2.2.2.2.2.2.2.2.2.2.2.2.2.2.2.2.1 r
theorem k0_off771_inb : ∀ (v6284 : BitVec 32) (k0_hw30 : k0_chk30 v6284), ∀ (r : Fin 2), ∀ a, (k0_off771 v6284 (BitVec.ofNat 32 (16 * r.val))) a + S1x16.size a ≤ S8x2048.size a := fun v6284 k0_hw30 r => k0_hw30.2.2.2.2.2.2.2.2.2.2.2.2.2.2.2.2.2.2.2.2.2.2.2 r

def k0_off772 (k0_t5 : Fin k0_t5_loop.trips) : Fin 1 → Nat :=
  let c0_i32_116 : BitVec 32 := 0#32
  let c1_i32_118 : BitVec 32 := 1#32
  let arg28 : BitVec 32 := Scf.iv c0_i32_116 c1_i32_118 k0_t5
  let c16_i32_2054 : BitVec 32 := 16#32
  let v6691 : BitVec 32 := Scalar.muli arg28 c16_i32_2054
  let c14_i32_2055 : BitVec 32 := 14#32
  let v6692 : BitVec 32 := Scalar.addi v6691 c14_i32_2055
  let c16_i32_2056 : BitVec 32 := 16#32
  let v6693 : BitVec 32 := Scalar.muli v6692 c16_i32_2056
  let v6694 : Index := Scalar.indexCast v6693
  ![v6694.toNat]
def k0_off773 (v6683 : BitVec 32) (c0_i32_2057 : BitVec 32) : Fin 2 → Nat :=
  let c0_i32_2058 : BitVec 32 := 0#32
  let v6698 : Index := Scalar.indexCast c0_i32_2058
  let c63_i32_2047 : BitVec 32 := 63#32
  let v6684 : BitVec 32 := Scalar.andi v6683 c63_i32_2047
  let c32_i32_2048 : BitVec 32 := 32#32
  let v6685 : BitVec 32 := Scalar.muli v6684 c32_i32_2048
  let v6697 : BitVec 32 := Scalar.addi v6685 c0_i32_2057
  let v6699 : Index := Scalar.indexCast v6697
  ![0, v6699.toNat]

def k0_off774 (v6683 : BitVec 32) (c0_i32_2061 : BitVec 32) : Fin 2 → Nat :=
  let c1_i32_2062 : BitVec 32 := 1#32
  let v6708 : Index := Scalar.indexCast c1_i32_2062
  let c63_i32_2047 : BitVec 32 := 63#32
  let v6684 : BitVec 32 := Scalar.andi v6683 c63_i32_2047
  let c32_i32_2048 : BitVec 32 := 32#32
  let v6685 : BitVec 32 := Scalar.muli v6684 c32_i32_2048
  let v6707 : BitVec 32 := Scalar.addi v6685 c0_i32_2061
  let v6709 : Index := Scalar.indexCast v6707
  ![1, v6709.toNat]
def k0_off775 (v6683 : BitVec 32) (c0_i32_2065 : BitVec 32) : Fin 2 → Nat :=
  let c2_i32_2066 : BitVec 32 := 2#32
  let v6718 : Index := Scalar.indexCast c2_i32_2066
  let c63_i32_2047 : BitVec 32 := 63#32
  let v6684 : BitVec 32 := Scalar.andi v6683 c63_i32_2047
  let c32_i32_2048 : BitVec 32 := 32#32
  let v6685 : BitVec 32 := Scalar.muli v6684 c32_i32_2048
  let v6717 : BitVec 32 := Scalar.addi v6685 c0_i32_2065
  let v6719 : Index := Scalar.indexCast v6717
  ![2, v6719.toNat]
def k0_off776 (v6683 : BitVec 32) (c0_i32_2069 : BitVec 32) : Fin 2 → Nat :=
  let c3_i32_2070 : BitVec 32 := 3#32
  let v6728 : Index := Scalar.indexCast c3_i32_2070
  let c63_i32_2047 : BitVec 32 := 63#32
  let v6684 : BitVec 32 := Scalar.andi v6683 c63_i32_2047
  let c32_i32_2048 : BitVec 32 := 32#32
  let v6685 : BitVec 32 := Scalar.muli v6684 c32_i32_2048
  let v6727 : BitVec 32 := Scalar.addi v6685 c0_i32_2069
  let v6729 : Index := Scalar.indexCast v6727
  ![3, v6729.toNat]
def k0_off777 (v6683 : BitVec 32) (c0_i32_2073 : BitVec 32) : Fin 2 → Nat :=
  let c4_i32_2074 : BitVec 32 := 4#32
  let v6738 : Index := Scalar.indexCast c4_i32_2074
  let c63_i32_2047 : BitVec 32 := 63#32
  let v6684 : BitVec 32 := Scalar.andi v6683 c63_i32_2047
  let c32_i32_2048 : BitVec 32 := 32#32
  let v6685 : BitVec 32 := Scalar.muli v6684 c32_i32_2048
  let v6737 : BitVec 32 := Scalar.addi v6685 c0_i32_2073
  let v6739 : Index := Scalar.indexCast v6737
  ![4, v6739.toNat]
def k0_off778 (v6683 : BitVec 32) (c0_i32_2077 : BitVec 32) : Fin 2 → Nat :=
  let c5_i32_2078 : BitVec 32 := 5#32
  let v6748 : Index := Scalar.indexCast c5_i32_2078
  let c63_i32_2047 : BitVec 32 := 63#32
  let v6684 : BitVec 32 := Scalar.andi v6683 c63_i32_2047
  let c32_i32_2048 : BitVec 32 := 32#32
  let v6685 : BitVec 32 := Scalar.muli v6684 c32_i32_2048
  let v6747 : BitVec 32 := Scalar.addi v6685 c0_i32_2077
  let v6749 : Index := Scalar.indexCast v6747
  ![5, v6749.toNat]
def k0_off779 (v6683 : BitVec 32) (c0_i32_2081 : BitVec 32) : Fin 2 → Nat :=
  let c6_i32_2082 : BitVec 32 := 6#32
  let v6758 : Index := Scalar.indexCast c6_i32_2082
  let c63_i32_2047 : BitVec 32 := 63#32
  let v6684 : BitVec 32 := Scalar.andi v6683 c63_i32_2047
  let c32_i32_2048 : BitVec 32 := 32#32
  let v6685 : BitVec 32 := Scalar.muli v6684 c32_i32_2048
  let v6757 : BitVec 32 := Scalar.addi v6685 c0_i32_2081
  let v6759 : Index := Scalar.indexCast v6757
  ![6, v6759.toNat]
def k0_off780 (v6683 : BitVec 32) (c0_i32_2085 : BitVec 32) : Fin 2 → Nat :=
  let c7_i32_2086 : BitVec 32 := 7#32
  let v6768 : Index := Scalar.indexCast c7_i32_2086
  let c63_i32_2047 : BitVec 32 := 63#32
  let v6684 : BitVec 32 := Scalar.andi v6683 c63_i32_2047
  let c32_i32_2048 : BitVec 32 := 32#32
  let v6685 : BitVec 32 := Scalar.muli v6684 c32_i32_2048
  let v6767 : BitVec 32 := Scalar.addi v6685 c0_i32_2085
  let v6769 : Index := Scalar.indexCast v6767
  ![7, v6769.toNat]
def k0_off781 (v6683 : BitVec 32) (c0_i32_2089 : BitVec 32) : Fin 2 → Nat :=
  let c0_i32_2090 : BitVec 32 := 0#32
  let v6778 : Index := Scalar.indexCast c0_i32_2090
  let c6_i32_2049 : BitVec 32 := 6#32
  let v6686 : BitVec 32 := Scalar.shrsi v6683 c6_i32_2049
  let c63_i32_2050 : BitVec 32 := 63#32
  let v6687 : BitVec 32 := Scalar.andi v6686 c63_i32_2050
  let c32_i32_2051 : BitVec 32 := 32#32
  let v6688 : BitVec 32 := Scalar.muli v6687 c32_i32_2051
  let v6777 : BitVec 32 := Scalar.addi v6688 c0_i32_2089
  let v6779 : Index := Scalar.indexCast v6777
  ![0, v6779.toNat]
def k0_off782 (v6683 : BitVec 32) (c0_i32_2093 : BitVec 32) : Fin 2 → Nat :=
  let c1_i32_2094 : BitVec 32 := 1#32
  let v6788 : Index := Scalar.indexCast c1_i32_2094
  let c6_i32_2049 : BitVec 32 := 6#32
  let v6686 : BitVec 32 := Scalar.shrsi v6683 c6_i32_2049
  let c63_i32_2050 : BitVec 32 := 63#32
  let v6687 : BitVec 32 := Scalar.andi v6686 c63_i32_2050
  let c32_i32_2051 : BitVec 32 := 32#32
  let v6688 : BitVec 32 := Scalar.muli v6687 c32_i32_2051
  let v6787 : BitVec 32 := Scalar.addi v6688 c0_i32_2093
  let v6789 : Index := Scalar.indexCast v6787
  ![1, v6789.toNat]
def k0_off783 (v6683 : BitVec 32) (c0_i32_2097 : BitVec 32) : Fin 2 → Nat :=
  let c2_i32_2098 : BitVec 32 := 2#32
  let v6798 : Index := Scalar.indexCast c2_i32_2098
  let c6_i32_2049 : BitVec 32 := 6#32
  let v6686 : BitVec 32 := Scalar.shrsi v6683 c6_i32_2049
  let c63_i32_2050 : BitVec 32 := 63#32
  let v6687 : BitVec 32 := Scalar.andi v6686 c63_i32_2050
  let c32_i32_2051 : BitVec 32 := 32#32
  let v6688 : BitVec 32 := Scalar.muli v6687 c32_i32_2051
  let v6797 : BitVec 32 := Scalar.addi v6688 c0_i32_2097
  let v6799 : Index := Scalar.indexCast v6797
  ![2, v6799.toNat]
def k0_off784 (v6683 : BitVec 32) (c0_i32_2101 : BitVec 32) : Fin 2 → Nat :=
  let c3_i32_2102 : BitVec 32 := 3#32
  let v6808 : Index := Scalar.indexCast c3_i32_2102
  let c6_i32_2049 : BitVec 32 := 6#32
  let v6686 : BitVec 32 := Scalar.shrsi v6683 c6_i32_2049
  let c63_i32_2050 : BitVec 32 := 63#32
  let v6687 : BitVec 32 := Scalar.andi v6686 c63_i32_2050
  let c32_i32_2051 : BitVec 32 := 32#32
  let v6688 : BitVec 32 := Scalar.muli v6687 c32_i32_2051
  let v6807 : BitVec 32 := Scalar.addi v6688 c0_i32_2101
  let v6809 : Index := Scalar.indexCast v6807
  ![3, v6809.toNat]
def k0_off785 (v6683 : BitVec 32) (c0_i32_2105 : BitVec 32) : Fin 2 → Nat :=
  let c4_i32_2106 : BitVec 32 := 4#32
  let v6818 : Index := Scalar.indexCast c4_i32_2106
  let c6_i32_2049 : BitVec 32 := 6#32
  let v6686 : BitVec 32 := Scalar.shrsi v6683 c6_i32_2049
  let c63_i32_2050 : BitVec 32 := 63#32
  let v6687 : BitVec 32 := Scalar.andi v6686 c63_i32_2050
  let c32_i32_2051 : BitVec 32 := 32#32
  let v6688 : BitVec 32 := Scalar.muli v6687 c32_i32_2051
  let v6817 : BitVec 32 := Scalar.addi v6688 c0_i32_2105
  let v6819 : Index := Scalar.indexCast v6817
  ![4, v6819.toNat]
def k0_off786 (v6683 : BitVec 32) (c0_i32_2109 : BitVec 32) : Fin 2 → Nat :=
  let c5_i32_2110 : BitVec 32 := 5#32
  let v6828 : Index := Scalar.indexCast c5_i32_2110
  let c6_i32_2049 : BitVec 32 := 6#32
  let v6686 : BitVec 32 := Scalar.shrsi v6683 c6_i32_2049
  let c63_i32_2050 : BitVec 32 := 63#32
  let v6687 : BitVec 32 := Scalar.andi v6686 c63_i32_2050
  let c32_i32_2051 : BitVec 32 := 32#32
  let v6688 : BitVec 32 := Scalar.muli v6687 c32_i32_2051
  let v6827 : BitVec 32 := Scalar.addi v6688 c0_i32_2109
  let v6829 : Index := Scalar.indexCast v6827
  ![5, v6829.toNat]
def k0_off787 (v6683 : BitVec 32) (c0_i32_2113 : BitVec 32) : Fin 2 → Nat :=
  let c6_i32_2114 : BitVec 32 := 6#32
  let v6838 : Index := Scalar.indexCast c6_i32_2114
  let c6_i32_2049 : BitVec 32 := 6#32
  let v6686 : BitVec 32 := Scalar.shrsi v6683 c6_i32_2049
  let c63_i32_2050 : BitVec 32 := 63#32
  let v6687 : BitVec 32 := Scalar.andi v6686 c63_i32_2050
  let c32_i32_2051 : BitVec 32 := 32#32
  let v6688 : BitVec 32 := Scalar.muli v6687 c32_i32_2051
  let v6837 : BitVec 32 := Scalar.addi v6688 c0_i32_2113
  let v6839 : Index := Scalar.indexCast v6837
  ![6, v6839.toNat]
def k0_off788 (v6683 : BitVec 32) (c0_i32_2117 : BitVec 32) : Fin 2 → Nat :=
  let c7_i32_2118 : BitVec 32 := 7#32
  let v6848 : Index := Scalar.indexCast c7_i32_2118
  let c6_i32_2049 : BitVec 32 := 6#32
  let v6686 : BitVec 32 := Scalar.shrsi v6683 c6_i32_2049
  let c63_i32_2050 : BitVec 32 := 63#32
  let v6687 : BitVec 32 := Scalar.andi v6686 c63_i32_2050
  let c32_i32_2051 : BitVec 32 := 32#32
  let v6688 : BitVec 32 := Scalar.muli v6687 c32_i32_2051
  let v6847 : BitVec 32 := Scalar.addi v6688 c0_i32_2117
  let v6849 : Index := Scalar.indexCast v6847
  ![7, v6849.toNat]
def k0_off789 (v6683 : BitVec 32) (c0_i32_2121 : BitVec 32) : Fin 2 → Nat :=
  let c0_i32_2122 : BitVec 32 := 0#32
  let v6890 : Index := Scalar.indexCast c0_i32_2122
  let c12_i32_2052 : BitVec 32 := 12#32
  let v6689 : BitVec 32 := Scalar.shrsi v6683 c12_i32_2052
  let c32_i32_2053 : BitVec 32 := 32#32
  let v6690 : BitVec 32 := Scalar.muli v6689 c32_i32_2053
  let v6889 : BitVec 32 := Scalar.addi v6690 c0_i32_2121
  let v6891 : Index := Scalar.indexCast v6889
  ![0, v6891.toNat]
def k0_off790 (v6683 : BitVec 32) (c0_i32_2129 : BitVec 32) : Fin 2 → Nat :=
  let c1_i32_2130 : BitVec 32 := 1#32
  let v6914 : Index := Scalar.indexCast c1_i32_2130
  let c12_i32_2052 : BitVec 32 := 12#32
  let v6689 : BitVec 32 := Scalar.shrsi v6683 c12_i32_2052
  let c32_i32_2053 : BitVec 32 := 32#32
  let v6690 : BitVec 32 := Scalar.muli v6689 c32_i32_2053
  let v6913 : BitVec 32 := Scalar.addi v6690 c0_i32_2129
  let v6915 : Index := Scalar.indexCast v6913
  ![1, v6915.toNat]
def k0_off791 (v6683 : BitVec 32) (c0_i32_2137 : BitVec 32) : Fin 2 → Nat :=
  let c2_i32_2138 : BitVec 32 := 2#32
  let v6938 : Index := Scalar.indexCast c2_i32_2138
  let c12_i32_2052 : BitVec 32 := 12#32
  let v6689 : BitVec 32 := Scalar.shrsi v6683 c12_i32_2052
  let c32_i32_2053 : BitVec 32 := 32#32
  let v6690 : BitVec 32 := Scalar.muli v6689 c32_i32_2053
  let v6937 : BitVec 32 := Scalar.addi v6690 c0_i32_2137
  let v6939 : Index := Scalar.indexCast v6937
  ![2, v6939.toNat]
def k0_off792 (v6683 : BitVec 32) (c0_i32_2145 : BitVec 32) : Fin 2 → Nat :=
  let c3_i32_2146 : BitVec 32 := 3#32
  let v6962 : Index := Scalar.indexCast c3_i32_2146
  let c12_i32_2052 : BitVec 32 := 12#32
  let v6689 : BitVec 32 := Scalar.shrsi v6683 c12_i32_2052
  let c32_i32_2053 : BitVec 32 := 32#32
  let v6690 : BitVec 32 := Scalar.muli v6689 c32_i32_2053
  let v6961 : BitVec 32 := Scalar.addi v6690 c0_i32_2145
  let v6963 : Index := Scalar.indexCast v6961
  ![3, v6963.toNat]
def k0_off793 (v6683 : BitVec 32) (c0_i32_2153 : BitVec 32) : Fin 2 → Nat :=
  let c4_i32_2154 : BitVec 32 := 4#32
  let v6986 : Index := Scalar.indexCast c4_i32_2154
  let c12_i32_2052 : BitVec 32 := 12#32
  let v6689 : BitVec 32 := Scalar.shrsi v6683 c12_i32_2052
  let c32_i32_2053 : BitVec 32 := 32#32
  let v6690 : BitVec 32 := Scalar.muli v6689 c32_i32_2053
  let v6985 : BitVec 32 := Scalar.addi v6690 c0_i32_2153
  let v6987 : Index := Scalar.indexCast v6985
  ![4, v6987.toNat]
def k0_off794 (v6683 : BitVec 32) (c0_i32_2161 : BitVec 32) : Fin 2 → Nat :=
  let c5_i32_2162 : BitVec 32 := 5#32
  let v7010 : Index := Scalar.indexCast c5_i32_2162
  let c12_i32_2052 : BitVec 32 := 12#32
  let v6689 : BitVec 32 := Scalar.shrsi v6683 c12_i32_2052
  let c32_i32_2053 : BitVec 32 := 32#32
  let v6690 : BitVec 32 := Scalar.muli v6689 c32_i32_2053
  let v7009 : BitVec 32 := Scalar.addi v6690 c0_i32_2161
  let v7011 : Index := Scalar.indexCast v7009
  ![5, v7011.toNat]
def k0_off795 (v6683 : BitVec 32) (c0_i32_2169 : BitVec 32) : Fin 2 → Nat :=
  let c6_i32_2170 : BitVec 32 := 6#32
  let v7034 : Index := Scalar.indexCast c6_i32_2170
  let c12_i32_2052 : BitVec 32 := 12#32
  let v6689 : BitVec 32 := Scalar.shrsi v6683 c12_i32_2052
  let c32_i32_2053 : BitVec 32 := 32#32
  let v6690 : BitVec 32 := Scalar.muli v6689 c32_i32_2053
  let v7033 : BitVec 32 := Scalar.addi v6690 c0_i32_2169
  let v7035 : Index := Scalar.indexCast v7033
  ![6, v7035.toNat]
def k0_off796 (v6683 : BitVec 32) (c0_i32_2177 : BitVec 32) : Fin 2 → Nat :=
  let c7_i32_2178 : BitVec 32 := 7#32
  let v7058 : Index := Scalar.indexCast c7_i32_2178
  let c12_i32_2052 : BitVec 32 := 12#32
  let v6689 : BitVec 32 := Scalar.shrsi v6683 c12_i32_2052
  let c32_i32_2053 : BitVec 32 := 32#32
  let v6690 : BitVec 32 := Scalar.muli v6689 c32_i32_2053
  let v7057 : BitVec 32 := Scalar.addi v6690 c0_i32_2177
  let v7059 : Index := Scalar.indexCast v7057
  ![7, v7059.toNat]

def k0_chk31 (v6683 : BitVec 32) : Prop :=
  (∀ (r : Fin 2), ∀ a, (k0_off773 v6683 (BitVec.ofNat 32 (16 * r.val))) a + S1x16.size a ≤ S8x2048.size a) ∧
  (∀ (r : Fin 2), ∀ a, (k0_off774 v6683 (BitVec.ofNat 32 (16 * r.val))) a + S1x16.size a ≤ S8x2048.size a) ∧
  (∀ (r : Fin 2), ∀ a, (k0_off775 v6683 (BitVec.ofNat 32 (16 * r.val))) a + S1x16.size a ≤ S8x2048.size a) ∧
  (∀ (r : Fin 2), ∀ a, (k0_off776 v6683 (BitVec.ofNat 32 (16 * r.val))) a + S1x16.size a ≤ S8x2048.size a) ∧
  (∀ (r : Fin 2), ∀ a, (k0_off777 v6683 (BitVec.ofNat 32 (16 * r.val))) a + S1x16.size a ≤ S8x2048.size a) ∧
  (∀ (r : Fin 2), ∀ a, (k0_off778 v6683 (BitVec.ofNat 32 (16 * r.val))) a + S1x16.size a ≤ S8x2048.size a) ∧
  (∀ (r : Fin 2), ∀ a, (k0_off779 v6683 (BitVec.ofNat 32 (16 * r.val))) a + S1x16.size a ≤ S8x2048.size a) ∧
  (∀ (r : Fin 2), ∀ a, (k0_off780 v6683 (BitVec.ofNat 32 (16 * r.val))) a + S1x16.size a ≤ S8x2048.size a) ∧
  (∀ (r : Fin 2), ∀ a, (k0_off781 v6683 (BitVec.ofNat 32 (16 * r.val))) a + S1x16.size a ≤ S8x2048.size a) ∧
  (∀ (r : Fin 2), ∀ a, (k0_off782 v6683 (BitVec.ofNat 32 (16 * r.val))) a + S1x16.size a ≤ S8x2048.size a) ∧
  (∀ (r : Fin 2), ∀ a, (k0_off783 v6683 (BitVec.ofNat 32 (16 * r.val))) a + S1x16.size a ≤ S8x2048.size a) ∧
  (∀ (r : Fin 2), ∀ a, (k0_off784 v6683 (BitVec.ofNat 32 (16 * r.val))) a + S1x16.size a ≤ S8x2048.size a) ∧
  (∀ (r : Fin 2), ∀ a, (k0_off785 v6683 (BitVec.ofNat 32 (16 * r.val))) a + S1x16.size a ≤ S8x2048.size a) ∧
  (∀ (r : Fin 2), ∀ a, (k0_off786 v6683 (BitVec.ofNat 32 (16 * r.val))) a + S1x16.size a ≤ S8x2048.size a) ∧
  (∀ (r : Fin 2), ∀ a, (k0_off787 v6683 (BitVec.ofNat 32 (16 * r.val))) a + S1x16.size a ≤ S8x2048.size a) ∧
  (∀ (r : Fin 2), ∀ a, (k0_off788 v6683 (BitVec.ofNat 32 (16 * r.val))) a + S1x16.size a ≤ S8x2048.size a) ∧
  (∀ (r : Fin 2), ∀ a, (k0_off789 v6683 (BitVec.ofNat 32 (16 * r.val))) a + S1x16.size a ≤ S8x2048.size a) ∧
  (∀ (r : Fin 2), ∀ a, (k0_off790 v6683 (BitVec.ofNat 32 (16 * r.val))) a + S1x16.size a ≤ S8x2048.size a) ∧
  (∀ (r : Fin 2), ∀ a, (k0_off791 v6683 (BitVec.ofNat 32 (16 * r.val))) a + S1x16.size a ≤ S8x2048.size a) ∧
  (∀ (r : Fin 2), ∀ a, (k0_off792 v6683 (BitVec.ofNat 32 (16 * r.val))) a + S1x16.size a ≤ S8x2048.size a) ∧
  (∀ (r : Fin 2), ∀ a, (k0_off793 v6683 (BitVec.ofNat 32 (16 * r.val))) a + S1x16.size a ≤ S8x2048.size a) ∧
  (∀ (r : Fin 2), ∀ a, (k0_off794 v6683 (BitVec.ofNat 32 (16 * r.val))) a + S1x16.size a ≤ S8x2048.size a) ∧
  (∀ (r : Fin 2), ∀ a, (k0_off795 v6683 (BitVec.ofNat 32 (16 * r.val))) a + S1x16.size a ≤ S8x2048.size a) ∧
  (∀ (r : Fin 2), ∀ a, (k0_off796 v6683 (BitVec.ofNat 32 (16 * r.val))) a + S1x16.size a ≤ S8x2048.size a)
theorem k0_off773_inb : ∀ (v6683 : BitVec 32) (k0_hw31 : k0_chk31 v6683), ∀ (r : Fin 2), ∀ a, (k0_off773 v6683 (BitVec.ofNat 32 (16 * r.val))) a + S1x16.size a ≤ S8x2048.size a := fun v6683 k0_hw31 r => k0_hw31.1 r
theorem k0_off774_inb : ∀ (v6683 : BitVec 32) (k0_hw31 : k0_chk31 v6683), ∀ (r : Fin 2), ∀ a, (k0_off774 v6683 (BitVec.ofNat 32 (16 * r.val))) a + S1x16.size a ≤ S8x2048.size a := fun v6683 k0_hw31 r => k0_hw31.2.1 r
theorem k0_off775_inb : ∀ (v6683 : BitVec 32) (k0_hw31 : k0_chk31 v6683), ∀ (r : Fin 2), ∀ a, (k0_off775 v6683 (BitVec.ofNat 32 (16 * r.val))) a + S1x16.size a ≤ S8x2048.size a := fun v6683 k0_hw31 r => k0_hw31.2.2.1 r
theorem k0_off776_inb : ∀ (v6683 : BitVec 32) (k0_hw31 : k0_chk31 v6683), ∀ (r : Fin 2), ∀ a, (k0_off776 v6683 (BitVec.ofNat 32 (16 * r.val))) a + S1x16.size a ≤ S8x2048.size a := fun v6683 k0_hw31 r => k0_hw31.2.2.2.1 r
theorem k0_off777_inb : ∀ (v6683 : BitVec 32) (k0_hw31 : k0_chk31 v6683), ∀ (r : Fin 2), ∀ a, (k0_off777 v6683 (BitVec.ofNat 32 (16 * r.val))) a + S1x16.size a ≤ S8x2048.size a := fun v6683 k0_hw31 r => k0_hw31.2.2.2.2.1 r
theorem k0_off778_inb : ∀ (v6683 : BitVec 32) (k0_hw31 : k0_chk31 v6683), ∀ (r : Fin 2), ∀ a, (k0_off778 v6683 (BitVec.ofNat 32 (16 * r.val))) a + S1x16.size a ≤ S8x2048.size a := fun v6683 k0_hw31 r => k0_hw31.2.2.2.2.2.1 r
theorem k0_off779_inb : ∀ (v6683 : BitVec 32) (k0_hw31 : k0_chk31 v6683), ∀ (r : Fin 2), ∀ a, (k0_off779 v6683 (BitVec.ofNat 32 (16 * r.val))) a + S1x16.size a ≤ S8x2048.size a := fun v6683 k0_hw31 r => k0_hw31.2.2.2.2.2.2.1 r
theorem k0_off780_inb : ∀ (v6683 : BitVec 32) (k0_hw31 : k0_chk31 v6683), ∀ (r : Fin 2), ∀ a, (k0_off780 v6683 (BitVec.ofNat 32 (16 * r.val))) a + S1x16.size a ≤ S8x2048.size a := fun v6683 k0_hw31 r => k0_hw31.2.2.2.2.2.2.2.1 r
theorem k0_off781_inb : ∀ (v6683 : BitVec 32) (k0_hw31 : k0_chk31 v6683), ∀ (r : Fin 2), ∀ a, (k0_off781 v6683 (BitVec.ofNat 32 (16 * r.val))) a + S1x16.size a ≤ S8x2048.size a := fun v6683 k0_hw31 r => k0_hw31.2.2.2.2.2.2.2.2.1 r
theorem k0_off782_inb : ∀ (v6683 : BitVec 32) (k0_hw31 : k0_chk31 v6683), ∀ (r : Fin 2), ∀ a, (k0_off782 v6683 (BitVec.ofNat 32 (16 * r.val))) a + S1x16.size a ≤ S8x2048.size a := fun v6683 k0_hw31 r => k0_hw31.2.2.2.2.2.2.2.2.2.1 r
theorem k0_off783_inb : ∀ (v6683 : BitVec 32) (k0_hw31 : k0_chk31 v6683), ∀ (r : Fin 2), ∀ a, (k0_off783 v6683 (BitVec.ofNat 32 (16 * r.val))) a + S1x16.size a ≤ S8x2048.size a := fun v6683 k0_hw31 r => k0_hw31.2.2.2.2.2.2.2.2.2.2.1 r
theorem k0_off784_inb : ∀ (v6683 : BitVec 32) (k0_hw31 : k0_chk31 v6683), ∀ (r : Fin 2), ∀ a, (k0_off784 v6683 (BitVec.ofNat 32 (16 * r.val))) a + S1x16.size a ≤ S8x2048.size a := fun v6683 k0_hw31 r => k0_hw31.2.2.2.2.2.2.2.2.2.2.2.1 r
theorem k0_off785_inb : ∀ (v6683 : BitVec 32) (k0_hw31 : k0_chk31 v6683), ∀ (r : Fin 2), ∀ a, (k0_off785 v6683 (BitVec.ofNat 32 (16 * r.val))) a + S1x16.size a ≤ S8x2048.size a := fun v6683 k0_hw31 r => k0_hw31.2.2.2.2.2.2.2.2.2.2.2.2.1 r
theorem k0_off786_inb : ∀ (v6683 : BitVec 32) (k0_hw31 : k0_chk31 v6683), ∀ (r : Fin 2), ∀ a, (k0_off786 v6683 (BitVec.ofNat 32 (16 * r.val))) a + S1x16.size a ≤ S8x2048.size a := fun v6683 k0_hw31 r => k0_hw31.2.2.2.2.2.2.2.2.2.2.2.2.2.1 r
theorem k0_off787_inb : ∀ (v6683 : BitVec 32) (k0_hw31 : k0_chk31 v6683), ∀ (r : Fin 2), ∀ a, (k0_off787 v6683 (BitVec.ofNat 32 (16 * r.val))) a + S1x16.size a ≤ S8x2048.size a := fun v6683 k0_hw31 r => k0_hw31.2.2.2.2.2.2.2.2.2.2.2.2.2.2.1 r
theorem k0_off788_inb : ∀ (v6683 : BitVec 32) (k0_hw31 : k0_chk31 v6683), ∀ (r : Fin 2), ∀ a, (k0_off788 v6683 (BitVec.ofNat 32 (16 * r.val))) a + S1x16.size a ≤ S8x2048.size a := fun v6683 k0_hw31 r => k0_hw31.2.2.2.2.2.2.2.2.2.2.2.2.2.2.2.1 r
theorem k0_off789_inb : ∀ (v6683 : BitVec 32) (k0_hw31 : k0_chk31 v6683), ∀ (r : Fin 2), ∀ a, (k0_off789 v6683 (BitVec.ofNat 32 (16 * r.val))) a + S1x16.size a ≤ S8x2048.size a := fun v6683 k0_hw31 r => k0_hw31.2.2.2.2.2.2.2.2.2.2.2.2.2.2.2.2.1 r
theorem k0_off790_inb : ∀ (v6683 : BitVec 32) (k0_hw31 : k0_chk31 v6683), ∀ (r : Fin 2), ∀ a, (k0_off790 v6683 (BitVec.ofNat 32 (16 * r.val))) a + S1x16.size a ≤ S8x2048.size a := fun v6683 k0_hw31 r => k0_hw31.2.2.2.2.2.2.2.2.2.2.2.2.2.2.2.2.2.1 r
theorem k0_off791_inb : ∀ (v6683 : BitVec 32) (k0_hw31 : k0_chk31 v6683), ∀ (r : Fin 2), ∀ a, (k0_off791 v6683 (BitVec.ofNat 32 (16 * r.val))) a + S1x16.size a ≤ S8x2048.size a := fun v6683 k0_hw31 r => k0_hw31.2.2.2.2.2.2.2.2.2.2.2.2.2.2.2.2.2.2.1 r
theorem k0_off792_inb : ∀ (v6683 : BitVec 32) (k0_hw31 : k0_chk31 v6683), ∀ (r : Fin 2), ∀ a, (k0_off792 v6683 (BitVec.ofNat 32 (16 * r.val))) a + S1x16.size a ≤ S8x2048.size a := fun v6683 k0_hw31 r => k0_hw31.2.2.2.2.2.2.2.2.2.2.2.2.2.2.2.2.2.2.2.1 r
theorem k0_off793_inb : ∀ (v6683 : BitVec 32) (k0_hw31 : k0_chk31 v6683), ∀ (r : Fin 2), ∀ a, (k0_off793 v6683 (BitVec.ofNat 32 (16 * r.val))) a + S1x16.size a ≤ S8x2048.size a := fun v6683 k0_hw31 r => k0_hw31.2.2.2.2.2.2.2.2.2.2.2.2.2.2.2.2.2.2.2.2.1 r
theorem k0_off794_inb : ∀ (v6683 : BitVec 32) (k0_hw31 : k0_chk31 v6683), ∀ (r : Fin 2), ∀ a, (k0_off794 v6683 (BitVec.ofNat 32 (16 * r.val))) a + S1x16.size a ≤ S8x2048.size a := fun v6683 k0_hw31 r => k0_hw31.2.2.2.2.2.2.2.2.2.2.2.2.2.2.2.2.2.2.2.2.2.1 r
theorem k0_off795_inb : ∀ (v6683 : BitVec 32) (k0_hw31 : k0_chk31 v6683), ∀ (r : Fin 2), ∀ a, (k0_off795 v6683 (BitVec.ofNat 32 (16 * r.val))) a + S1x16.size a ≤ S8x2048.size a := fun v6683 k0_hw31 r => k0_hw31.2.2.2.2.2.2.2.2.2.2.2.2.2.2.2.2.2.2.2.2.2.2.1 r
theorem k0_off796_inb : ∀ (v6683 : BitVec 32) (k0_hw31 : k0_chk31 v6683), ∀ (r : Fin 2), ∀ a, (k0_off796 v6683 (BitVec.ofNat 32 (16 * r.val))) a + S1x16.size a ≤ S8x2048.size a := fun v6683 k0_hw31 r => k0_hw31.2.2.2.2.2.2.2.2.2.2.2.2.2.2.2.2.2.2.2.2.2.2.2 r

def k0_off797 (k0_t5 : Fin k0_t5_loop.trips) : Fin 1 → Nat :=
  let c0_i32_116 : BitVec 32 := 0#32
  let c1_i32_118 : BitVec 32 := 1#32
  let arg28 : BitVec 32 := Scf.iv c0_i32_116 c1_i32_118 k0_t5
  let c16_i32_2192 : BitVec 32 := 16#32
  let v7090 : BitVec 32 := Scalar.muli arg28 c16_i32_2192
  let c15_i32 : BitVec 32 := 15#32
  let v7091 : BitVec 32 := Scalar.addi v7090 c15_i32
  let c16_i32_2193 : BitVec 32 := 16#32
  let v7092 : BitVec 32 := Scalar.muli v7091 c16_i32_2193
  let v7093 : Index := Scalar.indexCast v7092
  ![v7093.toNat]
def k0_off798 (v7082 : BitVec 32) (c0_i32_2194 : BitVec 32) : Fin 2 → Nat :=
  let c0_i32_2195 : BitVec 32 := 0#32
  let v7097 : Index := Scalar.indexCast c0_i32_2195
  let c63_i32_2185 : BitVec 32 := 63#32
  let v7083 : BitVec 32 := Scalar.andi v7082 c63_i32_2185
  let c32_i32_2186 : BitVec 32 := 32#32
  let v7084 : BitVec 32 := Scalar.muli v7083 c32_i32_2186
  let v7096 : BitVec 32 := Scalar.addi v7084 c0_i32_2194
  let v7098 : Index := Scalar.indexCast v7096
  ![0, v7098.toNat]

def k0_off799 (v7082 : BitVec 32) (c0_i32_2198 : BitVec 32) : Fin 2 → Nat :=
  let c1_i32_2199 : BitVec 32 := 1#32
  let v7107 : Index := Scalar.indexCast c1_i32_2199
  let c63_i32_2185 : BitVec 32 := 63#32
  let v7083 : BitVec 32 := Scalar.andi v7082 c63_i32_2185
  let c32_i32_2186 : BitVec 32 := 32#32
  let v7084 : BitVec 32 := Scalar.muli v7083 c32_i32_2186
  let v7106 : BitVec 32 := Scalar.addi v7084 c0_i32_2198
  let v7108 : Index := Scalar.indexCast v7106
  ![1, v7108.toNat]
def k0_off800 (v7082 : BitVec 32) (c0_i32_2202 : BitVec 32) : Fin 2 → Nat :=
  let c2_i32_2203 : BitVec 32 := 2#32
  let v7117 : Index := Scalar.indexCast c2_i32_2203
  let c63_i32_2185 : BitVec 32 := 63#32
  let v7083 : BitVec 32 := Scalar.andi v7082 c63_i32_2185
  let c32_i32_2186 : BitVec 32 := 32#32
  let v7084 : BitVec 32 := Scalar.muli v7083 c32_i32_2186
  let v7116 : BitVec 32 := Scalar.addi v7084 c0_i32_2202
  let v7118 : Index := Scalar.indexCast v7116
  ![2, v7118.toNat]
def k0_off801 (v7082 : BitVec 32) (c0_i32_2206 : BitVec 32) : Fin 2 → Nat :=
  let c3_i32_2207 : BitVec 32 := 3#32
  let v7127 : Index := Scalar.indexCast c3_i32_2207
  let c63_i32_2185 : BitVec 32 := 63#32
  let v7083 : BitVec 32 := Scalar.andi v7082 c63_i32_2185
  let c32_i32_2186 : BitVec 32 := 32#32
  let v7084 : BitVec 32 := Scalar.muli v7083 c32_i32_2186
  let v7126 : BitVec 32 := Scalar.addi v7084 c0_i32_2206
  let v7128 : Index := Scalar.indexCast v7126
  ![3, v7128.toNat]
def k0_off802 (v7082 : BitVec 32) (c0_i32_2210 : BitVec 32) : Fin 2 → Nat :=
  let c4_i32_2211 : BitVec 32 := 4#32
  let v7137 : Index := Scalar.indexCast c4_i32_2211
  let c63_i32_2185 : BitVec 32 := 63#32
  let v7083 : BitVec 32 := Scalar.andi v7082 c63_i32_2185
  let c32_i32_2186 : BitVec 32 := 32#32
  let v7084 : BitVec 32 := Scalar.muli v7083 c32_i32_2186
  let v7136 : BitVec 32 := Scalar.addi v7084 c0_i32_2210
  let v7138 : Index := Scalar.indexCast v7136
  ![4, v7138.toNat]
def k0_off803 (v7082 : BitVec 32) (c0_i32_2214 : BitVec 32) : Fin 2 → Nat :=
  let c5_i32_2215 : BitVec 32 := 5#32
  let v7147 : Index := Scalar.indexCast c5_i32_2215
  let c63_i32_2185 : BitVec 32 := 63#32
  let v7083 : BitVec 32 := Scalar.andi v7082 c63_i32_2185
  let c32_i32_2186 : BitVec 32 := 32#32
  let v7084 : BitVec 32 := Scalar.muli v7083 c32_i32_2186
  let v7146 : BitVec 32 := Scalar.addi v7084 c0_i32_2214
  let v7148 : Index := Scalar.indexCast v7146
  ![5, v7148.toNat]
def k0_off804 (v7082 : BitVec 32) (c0_i32_2218 : BitVec 32) : Fin 2 → Nat :=
  let c6_i32_2219 : BitVec 32 := 6#32
  let v7157 : Index := Scalar.indexCast c6_i32_2219
  let c63_i32_2185 : BitVec 32 := 63#32
  let v7083 : BitVec 32 := Scalar.andi v7082 c63_i32_2185
  let c32_i32_2186 : BitVec 32 := 32#32
  let v7084 : BitVec 32 := Scalar.muli v7083 c32_i32_2186
  let v7156 : BitVec 32 := Scalar.addi v7084 c0_i32_2218
  let v7158 : Index := Scalar.indexCast v7156
  ![6, v7158.toNat]
def k0_off805 (v7082 : BitVec 32) (c0_i32_2222 : BitVec 32) : Fin 2 → Nat :=
  let c7_i32_2223 : BitVec 32 := 7#32
  let v7167 : Index := Scalar.indexCast c7_i32_2223
  let c63_i32_2185 : BitVec 32 := 63#32
  let v7083 : BitVec 32 := Scalar.andi v7082 c63_i32_2185
  let c32_i32_2186 : BitVec 32 := 32#32
  let v7084 : BitVec 32 := Scalar.muli v7083 c32_i32_2186
  let v7166 : BitVec 32 := Scalar.addi v7084 c0_i32_2222
  let v7168 : Index := Scalar.indexCast v7166
  ![7, v7168.toNat]
def k0_off806 (v7082 : BitVec 32) (c0_i32_2226 : BitVec 32) : Fin 2 → Nat :=
  let c0_i32_2227 : BitVec 32 := 0#32
  let v7177 : Index := Scalar.indexCast c0_i32_2227
  let c6_i32_2187 : BitVec 32 := 6#32
  let v7085 : BitVec 32 := Scalar.shrsi v7082 c6_i32_2187
  let c63_i32_2188 : BitVec 32 := 63#32
  let v7086 : BitVec 32 := Scalar.andi v7085 c63_i32_2188
  let c32_i32_2189 : BitVec 32 := 32#32
  let v7087 : BitVec 32 := Scalar.muli v7086 c32_i32_2189
  let v7176 : BitVec 32 := Scalar.addi v7087 c0_i32_2226
  let v7178 : Index := Scalar.indexCast v7176
  ![0, v7178.toNat]
def k0_off807 (v7082 : BitVec 32) (c0_i32_2230 : BitVec 32) : Fin 2 → Nat :=
  let c1_i32_2231 : BitVec 32 := 1#32
  let v7187 : Index := Scalar.indexCast c1_i32_2231
  let c6_i32_2187 : BitVec 32 := 6#32
  let v7085 : BitVec 32 := Scalar.shrsi v7082 c6_i32_2187
  let c63_i32_2188 : BitVec 32 := 63#32
  let v7086 : BitVec 32 := Scalar.andi v7085 c63_i32_2188
  let c32_i32_2189 : BitVec 32 := 32#32
  let v7087 : BitVec 32 := Scalar.muli v7086 c32_i32_2189
  let v7186 : BitVec 32 := Scalar.addi v7087 c0_i32_2230
  let v7188 : Index := Scalar.indexCast v7186
  ![1, v7188.toNat]
def k0_off808 (v7082 : BitVec 32) (c0_i32_2234 : BitVec 32) : Fin 2 → Nat :=
  let c2_i32_2235 : BitVec 32 := 2#32
  let v7197 : Index := Scalar.indexCast c2_i32_2235
  let c6_i32_2187 : BitVec 32 := 6#32
  let v7085 : BitVec 32 := Scalar.shrsi v7082 c6_i32_2187
  let c63_i32_2188 : BitVec 32 := 63#32
  let v7086 : BitVec 32 := Scalar.andi v7085 c63_i32_2188
  let c32_i32_2189 : BitVec 32 := 32#32
  let v7087 : BitVec 32 := Scalar.muli v7086 c32_i32_2189
  let v7196 : BitVec 32 := Scalar.addi v7087 c0_i32_2234
  let v7198 : Index := Scalar.indexCast v7196
  ![2, v7198.toNat]
def k0_off809 (v7082 : BitVec 32) (c0_i32_2238 : BitVec 32) : Fin 2 → Nat :=
  let c3_i32_2239 : BitVec 32 := 3#32
  let v7207 : Index := Scalar.indexCast c3_i32_2239
  let c6_i32_2187 : BitVec 32 := 6#32
  let v7085 : BitVec 32 := Scalar.shrsi v7082 c6_i32_2187
  let c63_i32_2188 : BitVec 32 := 63#32
  let v7086 : BitVec 32 := Scalar.andi v7085 c63_i32_2188
  let c32_i32_2189 : BitVec 32 := 32#32
  let v7087 : BitVec 32 := Scalar.muli v7086 c32_i32_2189
  let v7206 : BitVec 32 := Scalar.addi v7087 c0_i32_2238
  let v7208 : Index := Scalar.indexCast v7206
  ![3, v7208.toNat]
def k0_off810 (v7082 : BitVec 32) (c0_i32_2242 : BitVec 32) : Fin 2 → Nat :=
  let c4_i32_2243 : BitVec 32 := 4#32
  let v7217 : Index := Scalar.indexCast c4_i32_2243
  let c6_i32_2187 : BitVec 32 := 6#32
  let v7085 : BitVec 32 := Scalar.shrsi v7082 c6_i32_2187
  let c63_i32_2188 : BitVec 32 := 63#32
  let v7086 : BitVec 32 := Scalar.andi v7085 c63_i32_2188
  let c32_i32_2189 : BitVec 32 := 32#32
  let v7087 : BitVec 32 := Scalar.muli v7086 c32_i32_2189
  let v7216 : BitVec 32 := Scalar.addi v7087 c0_i32_2242
  let v7218 : Index := Scalar.indexCast v7216
  ![4, v7218.toNat]
def k0_off811 (v7082 : BitVec 32) (c0_i32_2246 : BitVec 32) : Fin 2 → Nat :=
  let c5_i32_2247 : BitVec 32 := 5#32
  let v7227 : Index := Scalar.indexCast c5_i32_2247
  let c6_i32_2187 : BitVec 32 := 6#32
  let v7085 : BitVec 32 := Scalar.shrsi v7082 c6_i32_2187
  let c63_i32_2188 : BitVec 32 := 63#32
  let v7086 : BitVec 32 := Scalar.andi v7085 c63_i32_2188
  let c32_i32_2189 : BitVec 32 := 32#32
  let v7087 : BitVec 32 := Scalar.muli v7086 c32_i32_2189
  let v7226 : BitVec 32 := Scalar.addi v7087 c0_i32_2246
  let v7228 : Index := Scalar.indexCast v7226
  ![5, v7228.toNat]
def k0_off812 (v7082 : BitVec 32) (c0_i32_2250 : BitVec 32) : Fin 2 → Nat :=
  let c6_i32_2251 : BitVec 32 := 6#32
  let v7237 : Index := Scalar.indexCast c6_i32_2251
  let c6_i32_2187 : BitVec 32 := 6#32
  let v7085 : BitVec 32 := Scalar.shrsi v7082 c6_i32_2187
  let c63_i32_2188 : BitVec 32 := 63#32
  let v7086 : BitVec 32 := Scalar.andi v7085 c63_i32_2188
  let c32_i32_2189 : BitVec 32 := 32#32
  let v7087 : BitVec 32 := Scalar.muli v7086 c32_i32_2189
  let v7236 : BitVec 32 := Scalar.addi v7087 c0_i32_2250
  let v7238 : Index := Scalar.indexCast v7236
  ![6, v7238.toNat]
def k0_off813 (v7082 : BitVec 32) (c0_i32_2254 : BitVec 32) : Fin 2 → Nat :=
  let c7_i32_2255 : BitVec 32 := 7#32
  let v7247 : Index := Scalar.indexCast c7_i32_2255
  let c6_i32_2187 : BitVec 32 := 6#32
  let v7085 : BitVec 32 := Scalar.shrsi v7082 c6_i32_2187
  let c63_i32_2188 : BitVec 32 := 63#32
  let v7086 : BitVec 32 := Scalar.andi v7085 c63_i32_2188
  let c32_i32_2189 : BitVec 32 := 32#32
  let v7087 : BitVec 32 := Scalar.muli v7086 c32_i32_2189
  let v7246 : BitVec 32 := Scalar.addi v7087 c0_i32_2254
  let v7248 : Index := Scalar.indexCast v7246
  ![7, v7248.toNat]
def k0_off814 (v7082 : BitVec 32) (c0_i32_2258 : BitVec 32) : Fin 2 → Nat :=
  let c0_i32_2259 : BitVec 32 := 0#32
  let v7289 : Index := Scalar.indexCast c0_i32_2259
  let c12_i32_2190 : BitVec 32 := 12#32
  let v7088 : BitVec 32 := Scalar.shrsi v7082 c12_i32_2190
  let c32_i32_2191 : BitVec 32 := 32#32
  let v7089 : BitVec 32 := Scalar.muli v7088 c32_i32_2191
  let v7288 : BitVec 32 := Scalar.addi v7089 c0_i32_2258
  let v7290 : Index := Scalar.indexCast v7288
  ![0, v7290.toNat]
def k0_off815 (v7082 : BitVec 32) (c0_i32_2266 : BitVec 32) : Fin 2 → Nat :=
  let c1_i32_2267 : BitVec 32 := 1#32
  let v7313 : Index := Scalar.indexCast c1_i32_2267
  let c12_i32_2190 : BitVec 32 := 12#32
  let v7088 : BitVec 32 := Scalar.shrsi v7082 c12_i32_2190
  let c32_i32_2191 : BitVec 32 := 32#32
  let v7089 : BitVec 32 := Scalar.muli v7088 c32_i32_2191
  let v7312 : BitVec 32 := Scalar.addi v7089 c0_i32_2266
  let v7314 : Index := Scalar.indexCast v7312
  ![1, v7314.toNat]
def k0_off816 (v7082 : BitVec 32) (c0_i32_2274 : BitVec 32) : Fin 2 → Nat :=
  let c2_i32_2275 : BitVec 32 := 2#32
  let v7337 : Index := Scalar.indexCast c2_i32_2275
  let c12_i32_2190 : BitVec 32 := 12#32
  let v7088 : BitVec 32 := Scalar.shrsi v7082 c12_i32_2190
  let c32_i32_2191 : BitVec 32 := 32#32
  let v7089 : BitVec 32 := Scalar.muli v7088 c32_i32_2191
  let v7336 : BitVec 32 := Scalar.addi v7089 c0_i32_2274
  let v7338 : Index := Scalar.indexCast v7336
  ![2, v7338.toNat]
def k0_off817 (v7082 : BitVec 32) (c0_i32_2282 : BitVec 32) : Fin 2 → Nat :=
  let c3_i32_2283 : BitVec 32 := 3#32
  let v7361 : Index := Scalar.indexCast c3_i32_2283
  let c12_i32_2190 : BitVec 32 := 12#32
  let v7088 : BitVec 32 := Scalar.shrsi v7082 c12_i32_2190
  let c32_i32_2191 : BitVec 32 := 32#32
  let v7089 : BitVec 32 := Scalar.muli v7088 c32_i32_2191
  let v7360 : BitVec 32 := Scalar.addi v7089 c0_i32_2282
  let v7362 : Index := Scalar.indexCast v7360
  ![3, v7362.toNat]
def k0_off818 (v7082 : BitVec 32) (c0_i32_2290 : BitVec 32) : Fin 2 → Nat :=
  let c4_i32_2291 : BitVec 32 := 4#32
  let v7385 : Index := Scalar.indexCast c4_i32_2291
  let c12_i32_2190 : BitVec 32 := 12#32
  let v7088 : BitVec 32 := Scalar.shrsi v7082 c12_i32_2190
  let c32_i32_2191 : BitVec 32 := 32#32
  let v7089 : BitVec 32 := Scalar.muli v7088 c32_i32_2191
  let v7384 : BitVec 32 := Scalar.addi v7089 c0_i32_2290
  let v7386 : Index := Scalar.indexCast v7384
  ![4, v7386.toNat]
def k0_off819 (v7082 : BitVec 32) (c0_i32_2298 : BitVec 32) : Fin 2 → Nat :=
  let c5_i32_2299 : BitVec 32 := 5#32
  let v7409 : Index := Scalar.indexCast c5_i32_2299
  let c12_i32_2190 : BitVec 32 := 12#32
  let v7088 : BitVec 32 := Scalar.shrsi v7082 c12_i32_2190
  let c32_i32_2191 : BitVec 32 := 32#32
  let v7089 : BitVec 32 := Scalar.muli v7088 c32_i32_2191
  let v7408 : BitVec 32 := Scalar.addi v7089 c0_i32_2298
  let v7410 : Index := Scalar.indexCast v7408
  ![5, v7410.toNat]
def k0_off820 (v7082 : BitVec 32) (c0_i32_2306 : BitVec 32) : Fin 2 → Nat :=
  let c6_i32_2307 : BitVec 32 := 6#32
  let v7433 : Index := Scalar.indexCast c6_i32_2307
  let c12_i32_2190 : BitVec 32 := 12#32
  let v7088 : BitVec 32 := Scalar.shrsi v7082 c12_i32_2190
  let c32_i32_2191 : BitVec 32 := 32#32
  let v7089 : BitVec 32 := Scalar.muli v7088 c32_i32_2191
  let v7432 : BitVec 32 := Scalar.addi v7089 c0_i32_2306
  let v7434 : Index := Scalar.indexCast v7432
  ![6, v7434.toNat]
def k0_off821 (v7082 : BitVec 32) (c0_i32_2314 : BitVec 32) : Fin 2 → Nat :=
  let c7_i32_2315 : BitVec 32 := 7#32
  let v7457 : Index := Scalar.indexCast c7_i32_2315
  let c12_i32_2190 : BitVec 32 := 12#32
  let v7088 : BitVec 32 := Scalar.shrsi v7082 c12_i32_2190
  let c32_i32_2191 : BitVec 32 := 32#32
  let v7089 : BitVec 32 := Scalar.muli v7088 c32_i32_2191
  let v7456 : BitVec 32 := Scalar.addi v7089 c0_i32_2314
  let v7458 : Index := Scalar.indexCast v7456
  ![7, v7458.toNat]

def k0_chk32 (v7082 : BitVec 32) : Prop :=
  (∀ (r : Fin 2), ∀ a, (k0_off798 v7082 (BitVec.ofNat 32 (16 * r.val))) a + S1x16.size a ≤ S8x2048.size a) ∧
  (∀ (r : Fin 2), ∀ a, (k0_off799 v7082 (BitVec.ofNat 32 (16 * r.val))) a + S1x16.size a ≤ S8x2048.size a) ∧
  (∀ (r : Fin 2), ∀ a, (k0_off800 v7082 (BitVec.ofNat 32 (16 * r.val))) a + S1x16.size a ≤ S8x2048.size a) ∧
  (∀ (r : Fin 2), ∀ a, (k0_off801 v7082 (BitVec.ofNat 32 (16 * r.val))) a + S1x16.size a ≤ S8x2048.size a) ∧
  (∀ (r : Fin 2), ∀ a, (k0_off802 v7082 (BitVec.ofNat 32 (16 * r.val))) a + S1x16.size a ≤ S8x2048.size a) ∧
  (∀ (r : Fin 2), ∀ a, (k0_off803 v7082 (BitVec.ofNat 32 (16 * r.val))) a + S1x16.size a ≤ S8x2048.size a) ∧
  (∀ (r : Fin 2), ∀ a, (k0_off804 v7082 (BitVec.ofNat 32 (16 * r.val))) a + S1x16.size a ≤ S8x2048.size a) ∧
  (∀ (r : Fin 2), ∀ a, (k0_off805 v7082 (BitVec.ofNat 32 (16 * r.val))) a + S1x16.size a ≤ S8x2048.size a) ∧
  (∀ (r : Fin 2), ∀ a, (k0_off806 v7082 (BitVec.ofNat 32 (16 * r.val))) a + S1x16.size a ≤ S8x2048.size a) ∧
  (∀ (r : Fin 2), ∀ a, (k0_off807 v7082 (BitVec.ofNat 32 (16 * r.val))) a + S1x16.size a ≤ S8x2048.size a) ∧
  (∀ (r : Fin 2), ∀ a, (k0_off808 v7082 (BitVec.ofNat 32 (16 * r.val))) a + S1x16.size a ≤ S8x2048.size a) ∧
  (∀ (r : Fin 2), ∀ a, (k0_off809 v7082 (BitVec.ofNat 32 (16 * r.val))) a + S1x16.size a ≤ S8x2048.size a) ∧
  (∀ (r : Fin 2), ∀ a, (k0_off810 v7082 (BitVec.ofNat 32 (16 * r.val))) a + S1x16.size a ≤ S8x2048.size a) ∧
  (∀ (r : Fin 2), ∀ a, (k0_off811 v7082 (BitVec.ofNat 32 (16 * r.val))) a + S1x16.size a ≤ S8x2048.size a) ∧
  (∀ (r : Fin 2), ∀ a, (k0_off812 v7082 (BitVec.ofNat 32 (16 * r.val))) a + S1x16.size a ≤ S8x2048.size a) ∧
  (∀ (r : Fin 2), ∀ a, (k0_off813 v7082 (BitVec.ofNat 32 (16 * r.val))) a + S1x16.size a ≤ S8x2048.size a) ∧
  (∀ (r : Fin 2), ∀ a, (k0_off814 v7082 (BitVec.ofNat 32 (16 * r.val))) a + S1x16.size a ≤ S8x2048.size a) ∧
  (∀ (r : Fin 2), ∀ a, (k0_off815 v7082 (BitVec.ofNat 32 (16 * r.val))) a + S1x16.size a ≤ S8x2048.size a) ∧
  (∀ (r : Fin 2), ∀ a, (k0_off816 v7082 (BitVec.ofNat 32 (16 * r.val))) a + S1x16.size a ≤ S8x2048.size a) ∧
  (∀ (r : Fin 2), ∀ a, (k0_off817 v7082 (BitVec.ofNat 32 (16 * r.val))) a + S1x16.size a ≤ S8x2048.size a) ∧
  (∀ (r : Fin 2), ∀ a, (k0_off818 v7082 (BitVec.ofNat 32 (16 * r.val))) a + S1x16.size a ≤ S8x2048.size a) ∧
  (∀ (r : Fin 2), ∀ a, (k0_off819 v7082 (BitVec.ofNat 32 (16 * r.val))) a + S1x16.size a ≤ S8x2048.size a) ∧
  (∀ (r : Fin 2), ∀ a, (k0_off820 v7082 (BitVec.ofNat 32 (16 * r.val))) a + S1x16.size a ≤ S8x2048.size a) ∧
  (∀ (r : Fin 2), ∀ a, (k0_off821 v7082 (BitVec.ofNat 32 (16 * r.val))) a + S1x16.size a ≤ S8x2048.size a)
theorem k0_off798_inb : ∀ (v7082 : BitVec 32) (k0_hw32 : k0_chk32 v7082), ∀ (r : Fin 2), ∀ a, (k0_off798 v7082 (BitVec.ofNat 32 (16 * r.val))) a + S1x16.size a ≤ S8x2048.size a := fun v7082 k0_hw32 r => k0_hw32.1 r
theorem k0_off799_inb : ∀ (v7082 : BitVec 32) (k0_hw32 : k0_chk32 v7082), ∀ (r : Fin 2), ∀ a, (k0_off799 v7082 (BitVec.ofNat 32 (16 * r.val))) a + S1x16.size a ≤ S8x2048.size a := fun v7082 k0_hw32 r => k0_hw32.2.1 r
theorem k0_off800_inb : ∀ (v7082 : BitVec 32) (k0_hw32 : k0_chk32 v7082), ∀ (r : Fin 2), ∀ a, (k0_off800 v7082 (BitVec.ofNat 32 (16 * r.val))) a + S1x16.size a ≤ S8x2048.size a := fun v7082 k0_hw32 r => k0_hw32.2.2.1 r
theorem k0_off801_inb : ∀ (v7082 : BitVec 32) (k0_hw32 : k0_chk32 v7082), ∀ (r : Fin 2), ∀ a, (k0_off801 v7082 (BitVec.ofNat 32 (16 * r.val))) a + S1x16.size a ≤ S8x2048.size a := fun v7082 k0_hw32 r => k0_hw32.2.2.2.1 r
theorem k0_off802_inb : ∀ (v7082 : BitVec 32) (k0_hw32 : k0_chk32 v7082), ∀ (r : Fin 2), ∀ a, (k0_off802 v7082 (BitVec.ofNat 32 (16 * r.val))) a + S1x16.size a ≤ S8x2048.size a := fun v7082 k0_hw32 r => k0_hw32.2.2.2.2.1 r
theorem k0_off803_inb : ∀ (v7082 : BitVec 32) (k0_hw32 : k0_chk32 v7082), ∀ (r : Fin 2), ∀ a, (k0_off803 v7082 (BitVec.ofNat 32 (16 * r.val))) a + S1x16.size a ≤ S8x2048.size a := fun v7082 k0_hw32 r => k0_hw32.2.2.2.2.2.1 r
theorem k0_off804_inb : ∀ (v7082 : BitVec 32) (k0_hw32 : k0_chk32 v7082), ∀ (r : Fin 2), ∀ a, (k0_off804 v7082 (BitVec.ofNat 32 (16 * r.val))) a + S1x16.size a ≤ S8x2048.size a := fun v7082 k0_hw32 r => k0_hw32.2.2.2.2.2.2.1 r
theorem k0_off805_inb : ∀ (v7082 : BitVec 32) (k0_hw32 : k0_chk32 v7082), ∀ (r : Fin 2), ∀ a, (k0_off805 v7082 (BitVec.ofNat 32 (16 * r.val))) a + S1x16.size a ≤ S8x2048.size a := fun v7082 k0_hw32 r => k0_hw32.2.2.2.2.2.2.2.1 r
theorem k0_off806_inb : ∀ (v7082 : BitVec 32) (k0_hw32 : k0_chk32 v7082), ∀ (r : Fin 2), ∀ a, (k0_off806 v7082 (BitVec.ofNat 32 (16 * r.val))) a + S1x16.size a ≤ S8x2048.size a := fun v7082 k0_hw32 r => k0_hw32.2.2.2.2.2.2.2.2.1 r
theorem k0_off807_inb : ∀ (v7082 : BitVec 32) (k0_hw32 : k0_chk32 v7082), ∀ (r : Fin 2), ∀ a, (k0_off807 v7082 (BitVec.ofNat 32 (16 * r.val))) a + S1x16.size a ≤ S8x2048.size a := fun v7082 k0_hw32 r => k0_hw32.2.2.2.2.2.2.2.2.2.1 r
theorem k0_off808_inb : ∀ (v7082 : BitVec 32) (k0_hw32 : k0_chk32 v7082), ∀ (r : Fin 2), ∀ a, (k0_off808 v7082 (BitVec.ofNat 32 (16 * r.val))) a + S1x16.size a ≤ S8x2048.size a := fun v7082 k0_hw32 r => k0_hw32.2.2.2.2.2.2.2.2.2.2.1 r
theorem k0_off809_inb : ∀ (v7082 : BitVec 32) (k0_hw32 : k0_chk32 v7082), ∀ (r : Fin 2), ∀ a, (k0_off809 v7082 (BitVec.ofNat 32 (16 * r.val))) a + S1x16.size a ≤ S8x2048.size a := fun v7082 k0_hw32 r => k0_hw32.2.2.2.2.2.2.2.2.2.2.2.1 r
theorem k0_off810_inb : ∀ (v7082 : BitVec 32) (k0_hw32 : k0_chk32 v7082), ∀ (r : Fin 2), ∀ a, (k0_off810 v7082 (BitVec.ofNat 32 (16 * r.val))) a + S1x16.size a ≤ S8x2048.size a := fun v7082 k0_hw32 r => k0_hw32.2.2.2.2.2.2.2.2.2.2.2.2.1 r
theorem k0_off811_inb : ∀ (v7082 : BitVec 32) (k0_hw32 : k0_chk32 v7082), ∀ (r : Fin 2), ∀ a, (k0_off811 v7082 (BitVec.ofNat 32 (16 * r.val))) a + S1x16.size a ≤ S8x2048.size a := fun v7082 k0_hw32 r => k0_hw32.2.2.2.2.2.2.2.2.2.2.2.2.2.1 r
theorem k0_off812_inb : ∀ (v7082 : BitVec 32) (k0_hw32 : k0_chk32 v7082), ∀ (r : Fin 2), ∀ a, (k0_off812 v7082 (BitVec.ofNat 32 (16 * r.val))) a + S1x16.size a ≤ S8x2048.size a := fun v7082 k0_hw32 r => k0_hw32.2.2.2.2.2.2.2.2.2.2.2.2.2.2.1 r
theorem k0_off813_inb : ∀ (v7082 : BitVec 32) (k0_hw32 : k0_chk32 v7082), ∀ (r : Fin 2), ∀ a, (k0_off813 v7082 (BitVec.ofNat 32 (16 * r.val))) a + S1x16.size a ≤ S8x2048.size a := fun v7082 k0_hw32 r => k0_hw32.2.2.2.2.2.2.2.2.2.2.2.2.2.2.2.1 r
theorem k0_off814_inb : ∀ (v7082 : BitVec 32) (k0_hw32 : k0_chk32 v7082), ∀ (r : Fin 2), ∀ a, (k0_off814 v7082 (BitVec.ofNat 32 (16 * r.val))) a + S1x16.size a ≤ S8x2048.size a := fun v7082 k0_hw32 r => k0_hw32.2.2.2.2.2.2.2.2.2.2.2.2.2.2.2.2.1 r
theorem k0_off815_inb : ∀ (v7082 : BitVec 32) (k0_hw32 : k0_chk32 v7082), ∀ (r : Fin 2), ∀ a, (k0_off815 v7082 (BitVec.ofNat 32 (16 * r.val))) a + S1x16.size a ≤ S8x2048.size a := fun v7082 k0_hw32 r => k0_hw32.2.2.2.2.2.2.2.2.2.2.2.2.2.2.2.2.2.1 r
theorem k0_off816_inb : ∀ (v7082 : BitVec 32) (k0_hw32 : k0_chk32 v7082), ∀ (r : Fin 2), ∀ a, (k0_off816 v7082 (BitVec.ofNat 32 (16 * r.val))) a + S1x16.size a ≤ S8x2048.size a := fun v7082 k0_hw32 r => k0_hw32.2.2.2.2.2.2.2.2.2.2.2.2.2.2.2.2.2.2.1 r
theorem k0_off817_inb : ∀ (v7082 : BitVec 32) (k0_hw32 : k0_chk32 v7082), ∀ (r : Fin 2), ∀ a, (k0_off817 v7082 (BitVec.ofNat 32 (16 * r.val))) a + S1x16.size a ≤ S8x2048.size a := fun v7082 k0_hw32 r => k0_hw32.2.2.2.2.2.2.2.2.2.2.2.2.2.2.2.2.2.2.2.1 r
theorem k0_off818_inb : ∀ (v7082 : BitVec 32) (k0_hw32 : k0_chk32 v7082), ∀ (r : Fin 2), ∀ a, (k0_off818 v7082 (BitVec.ofNat 32 (16 * r.val))) a + S1x16.size a ≤ S8x2048.size a := fun v7082 k0_hw32 r => k0_hw32.2.2.2.2.2.2.2.2.2.2.2.2.2.2.2.2.2.2.2.2.1 r
theorem k0_off819_inb : ∀ (v7082 : BitVec 32) (k0_hw32 : k0_chk32 v7082), ∀ (r : Fin 2), ∀ a, (k0_off819 v7082 (BitVec.ofNat 32 (16 * r.val))) a + S1x16.size a ≤ S8x2048.size a := fun v7082 k0_hw32 r => k0_hw32.2.2.2.2.2.2.2.2.2.2.2.2.2.2.2.2.2.2.2.2.2.1 r
theorem k0_off820_inb : ∀ (v7082 : BitVec 32) (k0_hw32 : k0_chk32 v7082), ∀ (r : Fin 2), ∀ a, (k0_off820 v7082 (BitVec.ofNat 32 (16 * r.val))) a + S1x16.size a ≤ S8x2048.size a := fun v7082 k0_hw32 r => k0_hw32.2.2.2.2.2.2.2.2.2.2.2.2.2.2.2.2.2.2.2.2.2.2.1 r
theorem k0_off821_inb : ∀ (v7082 : BitVec 32) (k0_hw32 : k0_chk32 v7082), ∀ (r : Fin 2), ∀ a, (k0_off821 v7082 (BitVec.ofNat 32 (16 * r.val))) a + S1x16.size a ≤ S8x2048.size a := fun v7082 k0_hw32 r => k0_hw32.2.2.2.2.2.2.2.2.2.2.2.2.2.2.2.2.2.2.2.2.2.2.2 r

def k0_cond4 (k0_t1 : Fin k0_t1_loop.trips) : BitVec 1 :=
  let c0_i32_63 : BitVec 32 := 0#32
  let c1_i32 : BitVec 32 := 1#32
  let arg26 : BitVec 32 := Scf.iv c0_i32_63 c1_i32 k0_t1
  let c14_i32_123 : BitVec 32 := 14#32
  let v1089 : BitVec 1 := Scalar.cmpi .sle arg26 c14_i32_123
  let v1090 : BitVec 32 := Scalar.extui v1089
  let c0_i32_124 : BitVec 32 := 0#32
  let v1091 : BitVec 1 := Scalar.cmpi .ne v1090 c0_i32_124
  v1091

def k0_off822 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2_i32_98 : BitVec 32 := 2#32
  let c0_i32_63 : BitVec 32 := 0#32
  let c1_i32 : BitVec 32 := 1#32
  let arg26 : BitVec 32 := Scf.iv c0_i32_63 c1_i32 k0_t1
  let v1072 : BitVec 32 := Scalar.muli c2_i32_98 arg26
  let c1_i32_99 : BitVec 32 := 1#32
  let v1073 : BitVec 32 := Scalar.addi v1072 c1_i32_99
  let c2_i32_126 : BitVec 32 := 2#32
  let v1092 : BitVec 32 := Scalar.addi v1073 c2_i32_126
  let c8_i32_127 : BitVec 32 := 8#32
  let v1093 : BitVec 32 := Scalar.muli v1092 c8_i32_127
  let v1094 : BitVec 32 := Scalar.addi v2 v1093
  let c0_i32_128 : BitVec 32 := 0#32
  ![v1094.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x64x32 : Shape := ⟨3, ![8192, 64, 32]⟩
abbrev S128 : Shape := ⟨1, ![128]⟩
abbrev S_ : Shape := ⟨0, ![]⟩
abbrev S128x1 : Shape := ⟨2, ![128, 1]⟩
abbrev S8192x128x32 : Shape := ⟨3, ![8192, 128, 32]⟩
abbrev S1x128x1 : Shape := ⟨3, ![1, 128, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x64x32, .f32⟩
  | .hbm, ⟨1, _⟩ => ⟨S8192x64x32, .f32⟩
  | .hbm, ⟨2, _⟩ => ⟨S128, .f32⟩
  | .hbm, ⟨3, _⟩ => ⟨S128, .i32⟩
  | .hbm, ⟨4, _⟩ => ⟨S128, .i32⟩
  | .hbm, ⟨5, _⟩ => ⟨S128, .i32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S128x1, .i32⟩
  | .hbm, ⟨14, _⟩ => ⟨S8192x128x32, .f32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S128x1, .i32⟩
  | .hbm, ⟨23, _⟩ => ⟨S8192x128x32, .f32⟩
  | .hbm, ⟨24, _⟩ => ⟨S1x128x1, .f32⟩
  | .hbm, ⟨25, _⟩ => ⟨S8192x128x32, .f32⟩
  | .hbm, ⟨26, _⟩ => ⟨S8192x128x32, .f32⟩
  | .hbm, ⟨27, _⟩ => ⟨S8192x128x32, .f32⟩
  | .hbm, ⟨28, _⟩ => ⟨S_, .f32⟩
  | .hbm, ⟨29, _⟩ => ⟨S8192x64x32, .f32⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S128, .i32⟩
  | .hbm, ⟨37, _⟩ => ⟨S128x1, .i32⟩
  | .hbm, ⟨38, _⟩ => ⟨S8192x64x32, .f32⟩
  | _, _ => ⟨S8192x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Proof.Lane.lean ====
/-
  The kernel's inner program, restated with its structure visible. A group trip reads sixteen packed path words and runs
  one lane per word; a lane checks its word, reads its scale vector, sixteen blocks of `x`, sixteen of `y`, and adds the
  sixteen products into the output chunk. The printed program is the same operations in windows of sixty statements.
-/
module

public import proofs.«01_k».proof.Proof.Gen.KernelIdeal
public import Idealize.ShloMosaic.Lib.Scf

@[expose] public section

noncomputable section

namespace Cert.Proof.Body

open Cert.KernelIdeal Cert.KernelIdeal.Gen
open Idealize.ShloMosaic Idealize.SL.Sem

variable {F : FTy → Type} [FloatOps F]

/-- The programs of one vector subcore. -/
abbrev TileProg (F : FTy → Type) (c : Fin τ.nSC) (s : Fin τ.nSub) (α : Type) : Type 1 :=
  Prog (TpuEff nD τ sig (Elt F) Λ₀ (.scVector c s)) α

/-! ## Where a lane reads and writes -/

/-- The start of the block of `x` a packed word names, -/
def wordX (v : BitVec 32) : BitVec 32 := Scalar.muli (Scalar.andi v 63#32) 32#32
/-- of the block of `y`, -/
def wordY (v : BitVec 32) : BitVec 32 := Scalar.muli (Scalar.andi (Scalar.shrsi v 6#32) 63#32) 32#32
/-- and of the block of the output. -/
def wordO (v : BitVec 32) : BitVec 32 := Scalar.muli (Scalar.shrsi v 12#32) 32#32

/-- Row `s`, column `b + 16 h`. -/
def colOff (b : BitVec 32) (s h : ℕ) : Fin 2 → ℕ := ![s, (Scalar.indexCast (Scalar.addi b (BitVec.ofNat 32 (16 * h)))).toNat]

/-- The two half blocks at `b` are inside a row. -/
def InRow (b : BitVec 32) : Prop := ∀ h < 2, (Scalar.addi b (BitVec.ofNat 32 (16 * h))).toNat + 16 ≤ 2048

/-- A packed word's three blocks are inside a row. -/
structure LaneOk (v : BitVec 32) : Prop where
  x : InRow (wordX v)
  y : InRow (wordY v)
  o : InRow (wordO v)

/-- One half block of one row of the chunk. -/
structure Half where
  s : ℕ
  h : ℕ
  hs : s < 8
  hh : h < 2

/-- The sixteen half blocks of a chunk's eight rows, in the order the kernel takes them. -/
def halves : List Half :=
  [⟨0, 0, by decide, by decide⟩, ⟨0, 1, by decide, by decide⟩, ⟨1, 0, by decide, by decide⟩, ⟨1, 1, by decide, by decide⟩,
    ⟨2, 0, by decide, by decide⟩, ⟨2, 1, by decide, by decide⟩, ⟨3, 0, by decide, by decide⟩, ⟨3, 1, by decide, by decide⟩,
    ⟨4, 0, by decide, by decide⟩, ⟨4, 1, by decide, by decide⟩, ⟨5, 0, by decide, by decide⟩, ⟨5, 1, by decide, by decide⟩,
    ⟨6, 0, by decide, by decide⟩, ⟨6, 1, by decide, by decide⟩, ⟨7, 0, by decide, by decide⟩, ⟨7, 1, by decide, by decide⟩]

theorem colOff_inb {b : BitVec 32} (hb : InRow b) (j : Half) : ∀ a, colOff b j.s j.h a + S1x16.size a ≤ S8x2048.size a := by
  intro a
  match a with
  | 0 => exact j.hs
  | 1 => exact hb j.h j.hh

/-- The rectangle of a half block. -/
abbrev colRect (b : BitVec 32) (hb : InRow b) (j : Half) : Rect S8x2048 :=
  Rect.unit (s := S8x2048) (colOff b j.s j.h) S1x16.size (colOff_inb hb j)

section Programs

variable {c : Fin τ.nSC} {s : Fin τ.nSub} {α : Type}

/-- Read the half blocks `js` at `b`, in order, then run `k` on what was read. -/
def readHalves (m : Memref sig .scVector .vmem S8x2048 .f32) (b : BitVec 32) (hb : InRow b) :
    List Half → (List (FVec F S16 .f32) → TileProg F c s α) → TileProg F c s α
  | [], k => k []
  | j :: js, k => .op (.load (p := .scVector c s) m (colRect b hb j).toLoadRect (View.loadsAt_vmem h_S1x16)) fun v =>
      readHalves m b hb js fun vs => k (shapeCast S16 v shapeCasts_S1x16_S16 :: vs)

/-- Add the products of `xs`, `ys` and `sc` into the half blocks `js` at `b`, in order, then run `k`. -/
def addHalves (m : Memref sig .scVector .vmem S8x2048 .f32) (b : BitVec 32) (hb : InRow b) (sc : FVec F S16 .f32) (k : TileProg F c s α) :
    List Half → List (FVec F S16 .f32) → List (FVec F S16 .f32) → TileProg F c s α
  | j :: js, x :: xs, y :: ys =>
      .op (.load (p := .scVector c s) m (colRect b hb j).toLoadRect (View.loadsAt_vmem h_S1x16)) fun v =>
      .op (.load (p := .scVector c s) m (colRect b hb j).toLoadRect (View.loadsAt_vmem h_S1x16)) fun _ =>
      .op (.store (p := .scVector c s) m (colRect b hb j)
        (shapeCast S1x16 (addf (shapeCast S16 v shapeCasts_S1x16_S16) (mulf (mulf x y) sc)) shapeCasts_S16_S1x16)
        Finset.univ (View.stores_vmem_bits_univ h_S1x16 rfl) (.inl rfl)) fun _ =>
      addHalves m b hb sc k js xs ys
  | _, _, _ => k

/-- Where lane `t` of group `g` finds its scale vector. -/
def scaleOff (g : BitVec 32) (t : BitVec 32) : Fin 1 → ℕ :=
  ![(Scalar.indexCast (Scalar.muli (Scalar.addi (Scalar.muli g 16#32) t) 16#32)).toNat]

/-- One lane: check the word, read, and add into the output chunk. -/
def lane (sv : Memref sig .scVector .vmem S2048 .f32) (xm ym om : Memref sig .scVector .vmem S8x2048 .f32)
    (g t : BitVec 32) (hg : ∀ a, scaleOff g t a + S16.size a ≤ S2048.size a) (v : BitVec 32)
    (P : Prop) (d : Decidable P) (hP : P → LaneOk v) (k : TileProg F c s α) : TileProg F c s α :=
  .op (.assume P d) fun h =>
  .op (.load (p := .scVector c s) sv (Rect.unit (s := S2048) (scaleOff g t) S16.size hg).toLoadRect (View.loadsAt_vmem h_S16)) fun sc =>
  readHalves xm (wordX v) (hP h.down).x halves fun xs =>
  readHalves ym (wordY v) (hP h.down).y halves fun ys =>
  addHalves om (wordO v) (hP h.down).o (shapeCast S16 sc shapeCasts_S16_S16) k halves xs ys

theorem laneOk_of_chk (v : BitVec 32) (h : k0_chk1 v) : LaneOk v := by
  refine ⟨fun a ha => ?_, fun a ha => ?_, fun a ha => ?_⟩
  · exact k0_off12_inb v h ⟨a, ha⟩ 1
  · exact k0_off20_inb v h ⟨a, ha⟩ 1
  · exact k0_off28_inb v h ⟨a, ha⟩ 1

/-- One lane of a group. -/
structure LaneIx where
  t : ℕ
  ht : t < 16
  slices : S16.Slices ![t] S1

/-- The sixteen lanes of a group. -/
def laneIxs : List LaneIx :=
  [⟨0, by decide, by decide⟩, ⟨1, by decide, by decide⟩, ⟨2, by decide, by decide⟩, ⟨3, by decide, by decide⟩,
    ⟨4, by decide, by decide⟩, ⟨5, by decide, by decide⟩, ⟨6, by decide, by decide⟩, ⟨7, by decide, by decide⟩,
    ⟨8, by decide, by decide⟩, ⟨9, by decide, by decide⟩, ⟨10, by decide, by decide⟩, ⟨11, by decide, by decide⟩,
    ⟨12, by decide, by decide⟩, ⟨13, by decide, by decide⟩, ⟨14, by decide, by decide⟩, ⟨15, by decide, by decide⟩]

/-- Element `t` of sixteen. -/
abbrev pick {β : Type} (v : S16.Idx → β) (l : LaneIx) : β :=
  extractAt ![0] (extractStridedSlice S1 ![l.t] v l.slices) inpos_S1_p0

theorem scaleOff_inb (g : ℕ) (hg : g < 8) (t : ℕ) (ht : t < 16) :
    ∀ a, scaleOff (Scf.iv 0#32 1#32 g) (BitVec.ofNat 32 t) a + S16.size a ≤ S2048.size a := by
  have h : ∀ (g : Fin 8) (t : Fin 16), ∀ a, scaleOff (Scf.iv 0#32 1#32 g.val) (BitVec.ofNat 32 t.val) a + S16.size a ≤ S2048.size a := by
    decide +kernel
  exact h ⟨g, hg⟩ ⟨t, ht⟩

/-- The lanes `ls` of group `g`, in order, then `k`. -/
def lanes (sv : Memref sig .scVector .vmem S2048 .f32) (xm ym om : Memref sig .scVector .vmem S8x2048 .f32)
    (g : ℕ) (hg : g < 8) (pv : IVec S16 32) (k : TileProg F c s α) : List LaneIx → TileProg F c s α
  | [] => k
  | l :: ls => lane sv xm ym om (Scf.iv 0#32 1#32 g) (BitVec.ofNat 32 l.t) (scaleOff_inb g hg l.t l.ht) (pick pv l)
      (k0_chk1 (pick pv l)) (k0_chk1.dec (pick pv l)) (laneOk_of_chk _) (lanes sv xm ym om g hg pv k ls)

/-- Where group `g` finds its packed words. -/
def wordsOff (g : BitVec 32) : Fin 1 → ℕ := ![(Scalar.indexCast (Scalar.muli g 16#32)).toNat]

theorem wordsOff_inb (g : ℕ) (hg : g < 8) : ∀ a, wordsOff (Scf.iv 0#32 1#32 g) a + S16.size a ≤ S128.size a := by
  have h : ∀ (g : Fin 8), ∀ a, wordsOff (Scf.iv 0#32 1#32 g.val) a + S16.size a ≤ S128.size a := by decide +kernel
  exact h ⟨g, hg⟩

/-- One trip of the group loop. -/
def group (wm : Memref sig .scVector .vmem S128 .i32) (sv : Memref sig .scVector .vmem S2048 .f32)
    (xm ym om : Memref sig .scVector .vmem S8x2048 .f32) (g : ℕ) (hg : g < 8) : TileProg F c s (BitVec 32) :=
  .op (.load (p := .scVector c s) wm (Rect.unit (s := S128) (wordsOff (Scf.iv 0#32 1#32 g)) S16.size (wordsOff_inb g hg)).toLoadRect (View.loadsAt_vmem h_S16)) fun pv =>
  lanes sv xm ym om g hg (shapeCast S16 pv shapeCasts_S16_S16) (.ret 0#32) laneIxs

/-! ## Clearing a chunk -/

/-- Row `s`, columns `16 z` on. -/
def zeroOff (z : BitVec 32) (s : ℕ) : Fin 2 → ℕ := ![s, (Scalar.indexCast (Scalar.muli z 16#32)).toNat]

theorem zeroOff_inb (z : ℕ) (hz : z < 128) (s : ℕ) (hs : s < 8) :
    ∀ a, zeroOff (Scf.iv 0#32 1#32 z) s a + S1x16.size a ≤ S8x2048.size a := by
  have h : ∀ (z : Fin 128) (s : Fin 8), ∀ a, zeroOff (Scf.iv 0#32 1#32 z.val) s.val a + S1x16.size a ≤ S8x2048.size a := by decide +kernel
  exact h ⟨z, hz⟩ ⟨s, hs⟩

/-- Clear columns `16 z` on of the rows `rs`, in order. -/
def zeroRows (om : Memref sig .scVector .vmem S8x2048 .f32) (zv : FVec F S16 .f32) (z : ℕ) (hz : z < 128) :
    List {s : ℕ // s < 8} → TileProg F c s (BitVec 32)
  | [] => .ret 0#32
  | r :: rs =>
      .op (.load (p := .scVector c s) om (Rect.unit (s := S8x2048) (zeroOff (Scf.iv 0#32 1#32 z) r.1) S1x16.size (zeroOff_inb z hz r.1 r.2)).toLoadRect (View.loadsAt_vmem h_S1x16)) fun _ =>
      .op (.store (p := .scVector c s) om (Rect.unit (s := S8x2048) (zeroOff (Scf.iv 0#32 1#32 z) r.1) S1x16.size (zeroOff_inb z hz r.1 r.2))
        (shapeCast S1x16 zv shapeCasts_S16_S1x16) Finset.univ (View.stores_vmem_bits_univ h_S1x16 rfl) (.inl rfl)) fun _ =>
      zeroRows om zv z hz rs

/-- The eight rows of a chunk. -/
def rows : List {s : ℕ // s < 8} :=
  [⟨0, by decide⟩, ⟨1, by decide⟩, ⟨2, by decide⟩, ⟨3, by decide⟩, ⟨4, by decide⟩, ⟨5, by decide⟩, ⟨6, by decide⟩, ⟨7, by decide⟩]

/-! ## The packed words and the spread scales -/

theorem inb128 (g : ℕ) (hg : g < 8) : ∀ a, (![16 * g] : Fin 1 → ℕ) a + S16.size a ≤ S128.size a := by
  intro a; match a with | 0 => show 16 * g + 16 ≤ 128; omega

theorem inb2048 (g : ℕ) (hg : g < 8) (t : ℕ) (ht : t < 16) : ∀ a, (![256 * g + 16 * t] : Fin 1 → ℕ) a + S16.size a ≤ S2048.size a := by
  intro a; match a with | 0 => show 256 * g + 16 * t + 16 ≤ 2048; omega

/-- Spread the scales of lanes `ls` of group `g`, in order, then `k`. -/
def spread (sv : Memref sig .scVector .vmem S2048 .f32) (zv sc : FVec F S16 .f32) (g : ℕ) (hg : g < 8) (k : TileProg F c s α) :
    List LaneIx → TileProg F c s α
  | [] => k
  | l :: ls =>
      .op (.load (p := .scVector c s) sv (Rect.unit (s := S2048) ![256 * g + 16 * l.t] S16.size (inb2048 g hg l.t l.ht)).toLoadRect (View.loadsAt_vmem h_S16)) fun _ =>
      .op (.store (p := .scVector c s) sv (Rect.unit (s := S2048) ![256 * g + 16 * l.t] S16.size (inb2048 g hg l.t l.ht))
        (shapeCast S16 (addf zv (broadcast S16 (pick sc l))) shapeCasts_S16_S16) Finset.univ (View.stores_vmem_bits_univ h_S16 rfl) (.inl rfl)) fun _ =>
      spread sv zv sc g hg k ls

/-- The packed word of three index words. -/
def packed (a b o : IVec S16 32) : IVec S16 32 :=
  addi (addi a (muli b (broadcast S16 64#32))) (muli o (broadcast S16 4096#32))

/-- One group's packed words and spread scales, then `k`. -/
def prepGroup (am bm cm : Memref sig .scVector .vmem S128 .i32) (fm : Memref sig .scVector .vmem S128 .f32) (sv : Memref sig .scVector .vmem S2048 .f32)
    (zv : FVec F S16 .f32) (g : ℕ) (hg : g < 8) (k : TileProg F c s α) : TileProg F c s α :=
  .op (.load (p := .scVector c s) am (Rect.unit (s := S128) ![16 * g] S16.size (inb128 g hg)).toLoadRect (View.loadsAt_vmem h_S16)) fun a =>
  .op (.load (p := .scVector c s) bm (Rect.unit (s := S128) ![16 * g] S16.size (inb128 g hg)).toLoadRect (View.loadsAt_vmem h_S16)) fun b =>
  .op (.load (p := .scVector c s) cm (Rect.unit (s := S128) ![16 * g] S16.size (inb128 g hg)).toLoadRect (View.loadsAt_vmem h_S16)) fun o =>
  .op (.load (p := .scVector c s) am (Rect.unit (s := S128) ![16 * g] S16.size (inb128 g hg)).toLoadRect (View.loadsAt_vmem h_S16)) fun _ =>
  .op (.store (p := .scVector c s) am (Rect.unit (s := S128) ![16 * g] S16.size (inb128 g hg))
    (shapeCast S16 (packed (shapeCast S16 a shapeCasts_S16_S16) (shapeCast S16 b shapeCasts_S16_S16) (shapeCast S16 o shapeCasts_S16_S16)) shapeCasts_S16_S16)
    Finset.univ (View.stores_vmem_bits_univ h_S16 rfl) (.inl rfl)) fun _ =>
  .op (.load (p := .scVector c s) fm (Rect.unit (s := S128) ![16 * g] S16.size (inb128 g hg)).toLoadRect (View.loadsAt_vmem h_S16)) fun f =>
  spread sv zv (shapeCast S16 f shapeCasts_S16_S16) g hg k laneIxs

/-- The groups `gs`, in order, then `k`. -/
def prep (am bm cm : Memref sig .scVector .vmem S128 .i32) (fm : Memref sig .scVector .vmem S128 .f32) (sv : Memref sig .scVector .vmem S2048 .f32)
    (zv : FVec F S16 .f32) (k : TileProg F c s α) : List {g : ℕ // g < 8} → TileProg F c s α
  | [] => k
  | g :: gs => prepGroup am bm cm fm sv zv g.1 g.2 (prep am bm cm fm sv zv k gs)

end Programs

/-! ## The whole body -/

abbrev xV : Memref sig .scVector .hbm S8192x2048 .f32 := Memref.whole main_v0_scv
abbrev yV : Memref sig .scVector .hbm S8192x2048 .f32 := Memref.whole main_v1_scv
abbrev scaleV : Memref sig .scVector .hbm S128 .f32 := Memref.whole main_arg2_scv
abbrev i1V : Memref sig .scVector .hbm S128 .i32 := Memref.whole main_arg3_scv
abbrev i2V : Memref sig .scVector .hbm S128 .i32 := Memref.whole main_arg4_scv
abbrev ioV : Memref sig .scVector .hbm S128 .i32 := Memref.whole main_arg5_scv
abbrev outV : Memref sig .scVector .hbm S8192x2048 .f32 := Memref.whole main_v2_scv
abbrev wM : Memref sig .scVector .vmem S128 .i32 := Memref.whole cc0_scratch0
abbrev bM : Memref sig .scVector .vmem S128 .i32 := Memref.whole cc0_scratch1
abbrev oM : Memref sig .scVector .vmem S128 .i32 := Memref.whole cc0_scratch2
abbrev fM : Memref sig .scVector .vmem S128 .f32 := Memref.whole cc0_scratch3
abbrev sM : Memref sig .scVector .vmem S2048 .f32 := Memref.whole cc0_scratch4
abbrev x0M : Memref sig .scVector .vmem S8x2048 .f32 := Memref.whole cc0_scratch5
abbrev x1M : Memref sig .scVector .vmem S8x2048 .f32 := Memref.whole cc0_scratch6
abbrev y0M : Memref sig .scVector .vmem S8x2048 .f32 := Memref.whole cc0_scratch7
abbrev y1M : Memref sig .scVector .vmem S8x2048 .f32 := Memref.whole cc0_scratch8
abbrev o0M : Memref sig .scVector .vmem S8x2048 .f32 := Memref.whole cc0_scratch9
abbrev o1M : Memref sig .scVector .vmem S8x2048 .f32 := Memref.whole cc0_scratch10

/-- The vector of sixteen zeros the kernel starts from. -/
def zeros : FVec F S16 .f32 := broadcast S16 (Scalar.ofBits .f32 0x00000000#32)

abbrev zLoop : Scf.Loop 32 := ⟨0#32, 128#32, 1#32⟩
abbrev gLoop : Scf.Loop 32 := ⟨0#32, 8#32, 1#32⟩
theorem zLoop_ok : zLoop.OK := by decide
theorem gLoop_ok : gLoop.OK := by decide

/-- Eight rows of a big array at an offset. -/
abbrev slab (m : Memref sig .scVector .hbm S8192x2048 .f32) (o : Fin 2 → ℕ) (h : ∀ a, o a + S8x2048.size a ≤ S8192x2048.size a) :
    Memref sig .scVector .hbm S8x2048 .f32 := m.slice (Rect.unit (s := S8192x2048) o S8x2048.size h) (fun _ => rfl)

section Whole

variable {c : Fin τ.nSC} {s : Fin τ.nSub}

/-- Copy a whole small array in and wait for it. -/
def fetch {e : EltTy} (src : Memref sig .scVector .hbm S128 e) (hs : src.IsWhole) (dst : Memref sig .scVector .vmem S128 e) (hd : dst.IsWhole)
    (sem : DmaSems sig S_) : TileProg F c s PUnit := do
  Prog.lift (.enqueueDma (p := .scVector c s) src (.here dst) (.dma sem.sem) hs.wordExact hd.wordExact ⟨Or.inl rfl, trivial⟩)
  Prog.lift (.waitDma2 (p := .scVector c s) sem.sem src dst hs.wordExact hd.wordExact)

/-- Start copying eight rows in. -/
abbrev startIn (m : Memref sig .scVector .hbm S8192x2048 .f32) (o : Fin 2 → ℕ) (h : ∀ a, o a + S8x2048.size a ≤ S8192x2048.size a)
    (dst : Memref sig .scVector .vmem S8x2048 .f32) (hd : dst.IsWhole) (sem : DmaSems sig S_) : TileProg F c s PUnit :=
  Prog.lift (.enqueueDma (p := .scVector c s) (slab m o h) (.here dst) (.dma sem.sem) (View.wordExact_bits rfl) hd.wordExact ⟨Or.inl rfl, trivial⟩)

/-- Wait for eight rows to be in. -/
abbrev awaitIn (m : Memref sig .scVector .hbm S8192x2048 .f32) (dst : Memref sig .scVector .vmem S8x2048 .f32) (hd : dst.IsWhole) (sem : DmaSems sig S_) :
    TileProg F c s PUnit :=
  Prog.lift (.waitDma2 (p := .scVector c s) sem.sem (slab m ![0, 0] inb_S8192x2048_S8x2048_0_0) dst (View.wordExact_bits rfl) hd.wordExact)

/-- Start copying eight rows out. -/
abbrev startOut (o : Fin 2 → ℕ) (h : ∀ a, o a + S8x2048.size a ≤ S8192x2048.size a)
    (src : Memref sig .scVector .vmem S8x2048 .f32) (hs : src.IsWhole) (sem : DmaSems sig S_) : TileProg F c s PUnit :=
  Prog.lift (.enqueueDma (p := .scVector c s) src (.here (slab outV o h)) (.dma sem.sem) hs.wordExact (View.wordExact_bits rfl) ⟨Or.inl rfl, trivial⟩)

/-- Wait for eight rows to be out. -/
abbrev awaitOut (src : Memref sig .scVector .vmem S8x2048 .f32) (hs : src.IsWhole) (sem : DmaSems sig S_) : TileProg F c s PUnit :=
  Prog.lift (.waitDma2 (p := .scVector c s) sem.sem src (slab outV ![0, 0] inb_S8192x2048_S8x2048_0_0) hs.wordExact (View.wordExact_bits rfl))

/-- One chunk: wait for its rows, clear, add every path, send out, start the chunk after next. -/
def chunk (xm : Memref sig .scVector .vmem S8x2048 .f32) (hx : xm.IsWhole) (ym : Memref sig .scVector .vmem S8x2048 .f32) (hy : ym.IsWhole)
    (om : Memref sig .scVector .vmem S8x2048 .f32) (ho : om.IsWhole) (sx sy so : DmaSems sig S_)
    (later : BitVec 1) (o : Fin 2 → ℕ) (h : ∀ a, o a + S8x2048.size a ≤ S8192x2048.size a)
    (more : BitVec 1) (n : Fin 2 → ℕ) (hn : more = 1#1 → ∀ a, n a + S8x2048.size a ≤ S8192x2048.size a) {α : Type} (r : α) : TileProg F c s α := do
  awaitIn xV xm hx sx
  awaitIn yV ym hy sy
  if later = 1#1 then do
    awaitOut om ho so
    pure ⟨⟩
  else do
    pure ⟨⟩
  let _ ← Scf.Loop.for zLoop zLoop_ok 0#32 fun z _ => zeroRows om zeros z.1 z.2 rows
  let _ ← Scf.Loop.for gLoop gLoop_ok 0#32 fun g _ => group wM sM xm ym om g.1 g.2
  startOut o h om ho so
  if hm : more = 1#1 then do
    startIn xV n (hn hm) xm hx sx
    startIn yV n (hn hm) ym hy sy
    pure ⟨⟩
  else do
    pure ⟨⟩
  pure r

end Whole

/-- The trip with counter `k` is not the first. -/
def later (k : BitVec 32) : BitVec 1 := Scalar.cmpi .ne (Scalar.extui (Scalar.cmpi .sge k 1#32) : BitVec 32) 0#32

/-- The eight groups. -/
def groups : List {g : ℕ // g < 8} :=
  [⟨0, by decide⟩, ⟨1, by decide⟩, ⟨2, by decide⟩, ⟨3, by decide⟩, ⟨4, by decide⟩, ⟨5, by decide⟩, ⟨6, by decide⟩, ⟨7, by decide⟩]

/-- From the first copies of rows on. -/
def pipelined (i : grid0.Coords) : TileProg F ((i 0).castLE hcore0) ((i 1).castLE hsub0) PUnit := do
  startIn xV (k0_off1 i 0#32) (k0_off1_inb i 0) x0M (Memref.isWhole_whole _) cc0_scratch11
  startIn yV (k0_off1 i 0#32) (k0_off1_inb i 0) y0M (Memref.isWhole_whole _) cc0_scratch13
  startIn xV (k0_off1 i 8#32) (k0_off1_inb i 1) x1M (Memref.isWhole_whole _) cc0_scratch12
  startIn yV (k0_off1 i 8#32) (k0_off1_inb i 1) y1M (Memref.isWhole_whole _) cc0_scratch14
  let _ ← Scf.Loop.for k0_t1_loop k0_t1_ok 0#32 fun k _ => do
    let x ← chunk x0M (Memref.isWhole_whole _) y0M (Memref.isWhole_whole _) o0M (Memref.isWhole_whole _) cc0_scratch11 cc0_scratch13 cc0_scratch15
      (later (Scf.iv 0#32 1#32 k.1)) (k0_off411 i k 0#32) (k0_off411_inb i k 0) (k0_cond2 k) (k0_off412 i k) (k0_off412_inb i k)
      (⟨Scf.iv 0#32 1#32 k.1, Scalar.addi (Scalar.muli 2#32 (Scf.iv 0#32 1#32 k.1)) 1#32⟩ : Σ' (_ : BitVec 32), BitVec 32)
    chunk x1M (Memref.isWhole_whole _) y1M (Memref.isWhole_whole _) o1M (Memref.isWhole_whole _) cc0_scratch12 cc0_scratch14 cc0_scratch16
      (later x.1) (k0_off411 i k 1#32) (k0_off411_inb i k 1) (k0_cond4 k) (k0_off822 i k) (k0_off822_inb i k) 0#32
  awaitOut o0M (Memref.isWhole_whole _) cc0_scratch15
  awaitOut o1M (Memref.isWhole_whole _) cc0_scratch16
  pure ⟨⟩

/-- The whole body. -/
def body (i : grid0.Coords) : TileProg F ((i 0).castLE hcore0) ((i 1).castLE hsub0) PUnit := do
  fetch i1V (Memref.isWhole_whole _) wM (Memref.isWhole_whole _) cc0_scoped0
  fetch i2V (Memref.isWhole_whole _) bM (Memref.isWhole_whole _) cc0_scoped1
  fetch ioV (Memref.isWhole_whole _) oM (Memref.isWhole_whole _) cc0_scoped2
  fetch scaleV (Memref.isWhole_whole _) fM (Memref.isWhole_whole _) cc0_scoped3
  prep wM bM oM fM sM zeros (pipelined i) groups

set_option maxRecDepth 100000 in
set_option maxHeartbeats 0 in
theorem body_eq (i : grid0.Coords) :
    cc0__sc_body (F := F) i xV (Memref.isWhole_whole _) yV (Memref.isWhole_whole _) scaleV (Memref.isWhole_whole _) i1V (Memref.isWhole_whole _)
      i2V (Memref.isWhole_whole _) ioV (Memref.isWhole_whole _) outV (Memref.isWhole_whole _) wM (Memref.isWhole_whole _) bM (Memref.isWhole_whole _)
      oM (Memref.isWhole_whole _) fM (Memref.isWhole_whole _) sM (Memref.isWhole_whole _) x0M (Memref.isWhole_whole _) x1M (Memref.isWhole_whole _)
      y0M (Memref.isWhole_whole _) y1M (Memref.isWhole_whole _) o0M (Memref.isWhole_whole _) o1M (Memref.isWhole_whole _)
      cc0_scratch11 cc0_scratch12 cc0_scratch13 cc0_scratch14 cc0_scratch15 cc0_scratch16 cc0_scoped0 cc0_scoped1 cc0_scoped2 cc0_scoped3
      = body i := rfl

end Cert.Proof.Body
-- ==== Proof.Steps.lean ====
/-
  What the pieces of the inner program do to the buffers they touch. A buffer is held at what it reads (`Holds`), so a
  read hands on a function of the held one and a store moves it to another; the lists of half blocks, lanes and groups
  are gone through by induction.
-/
module

public import proofs.«01_k».proof.Proof.Lane
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Body

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The launch's labels and ghost state -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

section Steps

variable (d : Dev nD) (c : Fin τ.nSC) (s : Fin τ.nSub)

/-- A tile's program, run on tile `s` of SparseCore `c`. -/
abbrev WP {α : Type} (p : TileProg F c s α) (Q : α → sProp 𝕄) : sProp 𝕄 :=
  wp frame (wpE (defs₀ (F := F)) 𝒱₀ (V d c s) none) Set.univ p Q

/-- The whole buffer under `m`, at what `m` reads. -/
def Holds {sp : Space} {sh : Shape} {e : EltTy} (m : Memref sig .scVector sp sh e) (x : sh.Idx → Elt F e) : sProp 𝕄 :=
  iprop(∃ f : Buf (Elt F) (m.view.loc (V d c s)), ⌜m.view.read (Elt F) f = x⌝ ∗ m.view.loc (V d c s) ↦{fullShare} f)

variable {d c s} {α : Type}

theorem wp_read {sh : Shape} {e : EltTy} {m : Memref sig .scVector .vmem sh e} (x : sh.Idx → Elt F e) {r : Rect sh}
    {hl : m.view.LoadsAt r.toLoadRect} {k : (r.shape.Idx → Elt F e) → TileProg F c s α} {Q : α → sProp 𝕄} :
    iprop(Holds d c s m x ∗ (Holds d c s m x -∗ WP d c s (k fun j => x (r.emb j)) Q))
      ⊢ WP d c s (.op (.load (p := .scVector c s) m r.toLoadRect hl) k) Q := by
  unfold Holds
  iintro ⟨⟨%f, %hf, Hf⟩, Hk⟩
  iapply (wp_load_rect 𝒱₀ (V d c s) none Set.univ (m := m) (r := r) (Finset.subset_univ _)) $$ Hf
  iintro Hf
  have e : (m.access r).read (Elt F) f = fun j => x (r.emb j) := by subst hf; rfl
  rw [e]
  iapply Hk
  iexists f
  isplitr; · ipureintro; exact hf
  iexact Hf

theorem wp_put {sh : Shape} {e : EltTy} {m : Memref sig .scVector .vmem sh e} (x x' : sh.Idx → Elt F e) {r : Rect sh}
    {w : r.shape.Idx → Elt F e} (hin : ∀ j, x' (r.emb j) = w j) (hout : ∀ y, y ∉ r.set → x' y = x y)
    {hx : (m.access r).Stores Finset.univ} {hm : Finset.univ = Finset.univ ∨ ∀ a, r.stride a = 1}
    {k : PUnit → TileProg F c s α} {Q : α → sProp 𝕄} :
    iprop(Holds d c s m x ∗ (Holds d c s m x' -∗ WP d c s (k ⟨⟩) Q))
      ⊢ WP d c s (.op (.store (p := .scVector c s) m r w Finset.univ hx hm) k) Q := by
  unfold Holds
  iintro ⟨⟨%f, %hf, Hf⟩, Hk⟩
  iapply (wp_store_writes₀ 𝒱₀ (V d c s) none Set.univ (m := m) (r := r) (w := w) (Finset.subset_univ _)) $$ Hf
  iintro Hf
  iapply Hk
  iexists _
  isplitr
  swap; · iexact Hf
  ipureintro
  funext y
  by_cases hy : y ∈ r.set
  · obtain ⟨j, rfl⟩ : ∃ j, r.emb j = y := by
      rw [← Rect.map_emb_univ] at hy
      obtain ⟨j, -, h⟩ := Finset.mem_map.mp hy
      exact ⟨j, h⟩
    rw [View.read_writes_cons_emb, hin]
  · rw [View.read_writes_cons_miss _ _ _ _ _ hy, View.writes_nil, hout _ hy, hf]

/-! ## Half blocks -/

/-- Where element `l` of a half block is. -/
def colIx (b : BitVec 32) (hb : InRow b) (j : Half) (l : S16.Idx) : S8x2048.Idx :=
  (colRect b hb j).emb (Fin.cons ⟨0, Nat.one_pos⟩ l : S1x16.Idx)

/-- A half block of `X`. -/
def halfOf (X : S8x2048.Idx → F .f32) (b : BitVec 32) (hb : InRow b) (j : Half) : FVec F S16 .f32 := fun l => X (colIx b hb j l)

theorem cast_row {β : Type} (v : S1x16.Idx → β) (l : S16.Idx) :
    shapeCast S16 v shapeCasts_S1x16_S16 l = v (Fin.cons ⟨0, Nat.one_pos⟩ l : S1x16.Idx) :=
  congrArg v (Shape.reshapeEquiv_cons_one (d := ![16]) shapeCasts_S1x16_S16 l)

/-- The place in a half block of a place in its one row. -/
def inRow (i : S1x16.Idx) : S16.Idx := fun | 0 => i 1

theorem row_eta (i : S1x16.Idx) : (Fin.cons ⟨0, Nat.one_pos⟩ (inRow i) : S1x16.Idx) = i := by
  funext a
  match a with
  | 0 => exact (Subsingleton.elim (α := Fin 1) _ _)
  | 1 => rfl

theorem cast_back {β : Type} (v : S16.Idx → β) (l : S16.Idx) :
    shapeCast S1x16 v shapeCasts_S16_S1x16 (Fin.cons ⟨0, Nat.one_pos⟩ l : S1x16.Idx) = v l := by
  refine congrArg v ?_
  rw [← Shape.reshapeEquiv_cons_one (d := ![16]) shapeCasts_S1x16_S16 l, Shape.reshapeEquiv_reshapeEquiv, Shape.reshapeEquiv_self]

theorem wp_readHalves {m : Memref sig .scVector .vmem S8x2048 .f32} {b : BitVec 32} {hb : InRow b} {X : S8x2048.Idx → F .f32} {Q : α → sProp 𝕄} :
    ∀ (js : List Half) (k : List (FVec F S16 .f32) → TileProg F c s α),
    iprop(Holds d c s m X ∗ (Holds d c s m X -∗ WP d c s (k (js.map (halfOf X b hb))) Q)) ⊢ WP d c s (readHalves m b hb js k) Q
  | [], k => by
    iintro ⟨H, Hk⟩
    iapply Hk; iexact H
  | j :: js, k => by
    refine .trans ?_ (wp_read X)
    iintro ⟨H, Hk⟩
    isplitl [H]; · iexact H
    iintro H
    iapply (wp_readHalves js fun vs => k (shapeCast S16 (fun i => X ((colRect b hb j).emb i)) shapeCasts_S1x16_S16 :: vs))
    isplitl [H]; · iexact H
    have e : shapeCast S16 (fun i => X ((colRect b hb j).emb i)) shapeCasts_S1x16_S16 = halfOf X b hb j := funext fun l => cast_row _ l
    rw [e]
    iexact Hk

/-- Whether `y` is in half block `j`. -/
def InHalf (b : BitVec 32) (hb : InRow b) (j : Half) (y : S8x2048.Idx) : Prop := y ∈ (colRect b hb j).set

open Classical in
/-- Add `P` on the half blocks `js`. -/
def addOn (b : BitVec 32) (hb : InRow b) (js : List Half) (P x : S8x2048.Idx → F .f32) : S8x2048.Idx → F .f32 :=
  fun y => if ∃ j ∈ js, InHalf b hb j y then FloatOps.addf (x y) (P y) else x y

theorem inHalf_iff {b : BitVec 32} {hb : InRow b} {j : Half} {y : S8x2048.Idx} :
    InHalf b hb j y ↔ (y 0).val = j.s ∧ (Scalar.addi b (BitVec.ofNat 32 (16 * j.h))).toNat ≤ (y 1).val
      ∧ (y 1).val < (Scalar.addi b (BitVec.ofNat 32 (16 * j.h))).toNat + 16 := by
  unfold InHalf
  rw [Rect.mem_set_unit]
  constructor
  · intro h
    have h0 : j.s ≤ (y 0).val ∧ (y 0).val < j.s + 1 := h 0
    have h1 : _ ≤ (y 1).val ∧ (y 1).val < _ + 16 := h 1
    exact ⟨by omega, h1⟩
  · rintro ⟨h0, h1⟩ a
    match a with
    | 0 => exact (show j.s ≤ (y 0).val ∧ (y 0).val < j.s + 1 by omega)
    | 1 => exact h1

theorem emb_mem_set {sh : Shape} (r : Rect sh) (i : r.shape.Idx) : r.emb i ∈ r.set := by
  rw [← Rect.map_emb_univ]; exact Finset.mem_map_of_mem _ (Finset.mem_univ _)

theorem wp_addHalves {m : Memref sig .scVector .vmem S8x2048 .f32} {b : BitVec 32} {hb : InRow b} {P : S8x2048.Idx → F .f32} {sc : FVec F S16 .f32}
    {gx gy : Half → FVec F S16 .f32} (hP : ∀ j l, FloatOps.mulf (FloatOps.mulf (gx j l) (gy j l)) (sc l) = P (colIx b hb j l))
    {k : TileProg F c s α} {Q : α → sProp 𝕄} :
    ∀ (js : List Half) (_ : js.Pairwise fun i j => ∀ y, InHalf b hb i y → ¬ InHalf b hb j y) (x : S8x2048.Idx → F .f32),
    iprop(Holds d c s m x ∗ (Holds d c s m (addOn b hb js P x) -∗ WP d c s k Q))
      ⊢ WP d c s (addHalves m b hb sc k js (js.map gx) (js.map gy)) Q
  | [], _, x => by
    have e : addOn b hb [] P x = x := funext fun y => if_neg (by simp)
    rw [e]
    iintro ⟨H, Hk⟩
    iapply Hk; iexact H
  | j :: js, hd, x => by
    obtain ⟨hj, hd⟩ := List.pairwise_cons.mp hd
    refine .trans ?_ (wp_read x)
    iintro ⟨H, Hk⟩
    isplitl [H]; · iexact H
    iintro H
    iapply (wp_read x)
    isplitl [H]; · iexact H
    iintro H
    iapply (wp_put x (addOn b hb [j] P x) ?_ ?_)
    · intro i
      obtain ⟨l, rfl⟩ : ∃ l : S16.Idx, (Fin.cons ⟨0, Nat.one_pos⟩ l : S1x16.Idx) = i := ⟨inRow i, row_eta i⟩
      refine Eq.trans ?_ (cast_back _ l).symm
      unfold addOn
      rw [if_pos ⟨j, List.mem_singleton.mpr rfl, emb_mem_set _ _⟩]
      show FloatOps.addf _ _ = FloatOps.addf (shapeCast S16 _ shapeCasts_S1x16_S16 l) (FloatOps.mulf (FloatOps.mulf (gx j l) (gy j l)) (sc l))
      rw [hP, cast_row]
      rfl
    · intro y hy
      exact if_neg fun ⟨i, hi, h⟩ => hy (List.mem_singleton.mp hi ▸ h)
    isplitl [H]; · iexact H
    iintro H
    iapply (wp_addHalves hP js hd (addOn b hb [j] P x))
    isplitl [H]; · iexact H
    have e : addOn b hb js P (addOn b hb [j] P x) = addOn b hb (j :: js) P x := by
      funext y
      unfold addOn
      by_cases h1 : InHalf b hb j y
      · have h2 : ¬ ∃ i ∈ js, InHalf b hb i y := fun ⟨i, hi, h⟩ => hj i hi y h1 h
        rw [if_neg h2]
        simp [h1]
      · by_cases h2 : ∃ i ∈ js, InHalf b hb i y
        · rw [if_pos h2]; simp [h1, h2]
        · rw [if_neg h2]; simp [h1, h2]
    rw [e]
    iexact Hk

end Steps

end Cert.Proof.Body
-- ==== Proof.Words.lean ====
/-
  A packed path word: what it decodes to, that the kernel's check of it passes, and what one lane adds.
-/
module

public import proofs.«01_k».proof.Proof.Lane

@[expose] public section

noncomputable section

namespace Cert.Proof.Body

open Cert.KernelIdeal Cert.KernelIdeal.Gen
open Idealize.ShloMosaic

/-- The word of path `(a, b, o)`: it decodes to the starts of blocks `a` of `x`, `b` of `y` and `o` of the output. -/
structure WordIs (v : BitVec 32) (a b o : Fin 64) : Prop where
  x : (wordX v).toNat = 32 * a.val
  y : (wordY v).toNat = 32 * b.val
  o : (wordO v).toNat = 32 * o.val

theorem colAdd {w : BitVec 32} {n : Fin 64} (hw : w.toNat = 32 * n.val) {h : ℕ} (hh : h < 2) :
    (Scalar.addi w (BitVec.ofNat 32 (16 * h))).toNat = 32 * n.val + 16 * h := by
  have hn := n.isLt
  show (w + BitVec.ofNat 32 (16 * h)).toNat = _
  rw [BitVec.toNat_add, BitVec.toNat_ofNat, hw]
  omega

theorem inRow_of {w : BitVec 32} {n : Fin 64} (hw : w.toNat = 32 * n.val) : InRow w := by
  intro h hh
  have hn := n.isLt
  rw [colAdd hw hh]
  omega

theorem WordIs.chk {v : BitVec 32} {a b o : Fin 64} (w : WordIs v a b o) : k0_chk1 v := by
  have hx := inRow_of w.x
  have hy := inRow_of w.y
  have ho := inRow_of w.o
  refine ⟨fun r => colOff_inb hx ⟨0, r.1, by decide, r.2⟩, fun r => colOff_inb hx ⟨1, r.1, by decide, r.2⟩,
    fun r => colOff_inb hx ⟨2, r.1, by decide, r.2⟩, fun r => colOff_inb hx ⟨3, r.1, by decide, r.2⟩,
    fun r => colOff_inb hx ⟨4, r.1, by decide, r.2⟩, fun r => colOff_inb hx ⟨5, r.1, by decide, r.2⟩,
    fun r => colOff_inb hx ⟨6, r.1, by decide, r.2⟩, fun r => colOff_inb hx ⟨7, r.1, by decide, r.2⟩,
    fun r => colOff_inb hy ⟨0, r.1, by decide, r.2⟩, fun r => colOff_inb hy ⟨1, r.1, by decide, r.2⟩,
    fun r => colOff_inb hy ⟨2, r.1, by decide, r.2⟩, fun r => colOff_inb hy ⟨3, r.1, by decide, r.2⟩,
    fun r => colOff_inb hy ⟨4, r.1, by decide, r.2⟩, fun r => colOff_inb hy ⟨5, r.1, by decide, r.2⟩,
    fun r => colOff_inb hy ⟨6, r.1, by decide, r.2⟩, fun r => colOff_inb hy ⟨7, r.1, by decide, r.2⟩,
    fun r => colOff_inb ho ⟨0, r.1, by decide, r.2⟩, fun r => colOff_inb ho ⟨1, r.1, by decide, r.2⟩,
    fun r => colOff_inb ho ⟨2, r.1, by decide, r.2⟩, fun r => colOff_inb ho ⟨3, r.1, by decide, r.2⟩,
    fun r => colOff_inb ho ⟨4, r.1, by decide, r.2⟩, fun r => colOff_inb ho ⟨5, r.1, by decide, r.2⟩,
    fun r => colOff_inb ho ⟨6, r.1, by decide, r.2⟩, fun r => colOff_inb ho ⟨7, r.1, by decide, r.2⟩⟩

/-- The low six bits of a word, as a block number. -/
theorem low_toNat {u : BitVec 32} {n : Fin 64} (hu : u.toNat % 64 = n.val) : (Scalar.muli (Scalar.andi u 63#32) 32#32).toNat = 32 * n.val := by
  have hn := n.isLt
  show ((u &&& 63#32) * 32#32).toNat = _
  rw [BitVec.toNat_mul, BitVec.toNat_and]
  have e : u.toNat &&& (63#32 : BitVec 32).toNat = u.toNat % 64 := Nat.and_two_pow_sub_one_eq_mod u.toNat 6
  rw [e, hu]
  show n.val * 32 % 2 ^ 32 = _
  omega

/-- A right shift of a small word. -/
theorem shift_toNat {v : BitVec 32} (hv : v.toNat < 2 ^ 31) {n : ℕ} (hn : n < 32) : (Scalar.shrsi v (BitVec.ofNat 32 n)).toNat = v.toNat / 2 ^ n := by
  have hm : v.msb = false := by rw [BitVec.msb_eq_decide]; simpa using hv
  have e : (BitVec.ofNat 32 n).toNat = n := by rw [BitVec.toNat_ofNat]; omega
  show (IntOp.shrsi .scalar v (BitVec.ofNat 32 n)).toNat = _
  unfold IntOp.shrsi
  rw [if_pos (by omega), BitVec.sshiftRight', e, BitVec.sshiftRight_eq_of_msb_false hm, BitVec.toNat_ushiftRight, Nat.shiftRight_eq_div_pow]

theorem wordIs_of_toNat {v : BitVec 32} {a b o : Fin 64} (h : v.toNat = a.val + b.val * 64 + o.val * 4096) : WordIs v a b o := by
  have ha := a.isLt
  have hb := b.isLt
  have ho := o.isLt
  have hv : v.toNat < 2 ^ 31 := by omega
  refine ⟨low_toNat (by omega), low_toNat (u := Scalar.shrsi v 6#32) ?_, ?_⟩
  · rw [show (6#32 : BitVec 32) = BitVec.ofNat 32 6 from rfl, shift_toNat hv (by decide)]; omega
  · show (Scalar.shrsi v 12#32 * 32#32).toNat = _
    rw [BitVec.toNat_mul, show (12#32 : BitVec 32) = BitVec.ofNat 32 12 from rfl, shift_toNat hv (by decide)]
    show v.toNat / 2 ^ 12 * 32 % 2 ^ 32 = _
    omega

/-- The packed word of three block numbers. -/
theorem wordIs_pack {a b o : BitVec 32} {na nb no : Fin 64} (ha : a.toNat = na.val) (hb : b.toNat = nb.val) (ho : o.toNat = no.val) :
    WordIs (IntOp.addi (IntOp.addi a (IntOp.muli b 64#32)) (IntOp.muli o 4096#32)) na nb no := by
  apply wordIs_of_toNat
  have := na.isLt
  have := nb.isLt
  have := no.isLt
  show (a + b * 64#32 + o * 4096#32).toNat = _
  rw [BitVec.toNat_add, BitVec.toNat_add, BitVec.toNat_mul, BitVec.toNat_mul, ha, hb, ho]
  show ((na.val + nb.val * 64 % 2 ^ 32) % 2 ^ 32 + no.val * 4096 % 2 ^ 32) % 2 ^ 32 = _
  omega

/-! ## What a lane adds -/

/-- The place of `y`'s element of its block in block `a` of the same row. -/
def blockAt (y : S8x2048.Idx) (a : Fin 64) : S8x2048.Idx :=
  Shape.pair (d := ![8, 2048]) (y 0) ⟨32 * a.val + (y 1).val % 32, show _ < 2048 by have := a.isLt; omega⟩

variable {F : FTy → Type} [FloatOps F]

/-- The scaled product of block `a` of `X` and block `b` of `Y`. -/
def prodAt (a b : Fin 64) (sc : F .f32) (X Y : S8x2048.Idx → F .f32) : S8x2048.Idx → F .f32 :=
  fun y => FloatOps.mulf (FloatOps.mulf (X (blockAt y a)) (Y (blockAt y b))) sc

/-- What one path adds into block `o`. -/
def laneStep (a b o : Fin 64) (sc : F .f32) (X Y x : S8x2048.Idx → F .f32) : S8x2048.Idx → F .f32 :=
  fun y => if (y 1).val / 32 = o.val then FloatOps.addf (x y) (prodAt a b sc X Y y) else x y

/-- The number zero, as the kernel writes it. -/
abbrev zero : F .f32 := Scalar.ofBits .f32 0x00000000#32

/-- What the first `n` paths leave. -/
def accum (A B O : ℕ → Fin 64) (sc : ℕ → F .f32) (X Y : S8x2048.Idx → F .f32) : ℕ → S8x2048.Idx → F .f32
  | 0 => fun _ => zero
  | n + 1 => laneStep (A n) (B n) (O n) (sc n) X Y (accum A B O sc X Y n)

end Cert.Proof.Body
-- ==== Proof.Lanes.lean ====
/-
  A lane, a group of sixteen lanes, clearing a chunk, and the packing of the words and spreading of the scales: what each
  leaves in the buffers.
-/
module

public import proofs.«01_k».proof.Proof.Steps
public import proofs.«01_k».proof.Proof.Words
public import Idealize.ShloMosaic.Lib.Pointwise.Reshape

@[expose] public section

noncomputable section

namespace Cert.Proof.Body

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable {d : Dev nD} {c : Fin τ.nSC} {s : Fin τ.nSub} {α : Type}

theorem cast16 {β : Type} (x : S16.Idx → β) : shapeCast S16 x shapeCasts_S16_S16 = x := shapeCast_id x _

theorem WP_ret {a : α} {Q : α → sProp 𝕄} : Q a ⊢ WP d c s (.ret a) Q := by
  unfold WP
  rw [wp_ret]
  iintro H
  imodintro
  iexact H

/-! ## One lane -/

theorem halves_pairwise : halves.Pairwise fun i j => i.s ≠ j.s ∨ i.h ≠ j.h := by decide

theorem halves_mem : ∀ s : Fin 8, ∀ h : Fin 2, ∃ j ∈ halves, j.s = s.val ∧ j.h = h.val := by decide

theorem colIx_zero {b : BitVec 32} {hb : InRow b} {j : Half} {l : S16.Idx} : (colIx b hb j l 0).val = j.s := by
  show _ + 1 * 0 = _
  exact Nat.add_zero _

theorem colIx_one {b : BitVec 32} {hb : InRow b} {j : Half} {l : S16.Idx} {n : Fin 64} (h : b.toNat = 32 * n.val) :
    (colIx b hb j l 1).val = 32 * n.val + 16 * j.h + (l 0).val := by
  show (Scalar.addi b (BitVec.ofNat 32 (16 * j.h))).toNat + 1 * (l 0).val = _
  rw [colAdd h j.hh, Nat.one_mul]

theorem blockAt_colIx {bo bx : BitVec 32} {ho : InRow bo} {hx : InRow bx} {j : Half} {l : S16.Idx} {n a : Fin 64}
    (eo : bo.toNat = 32 * n.val) (ex : bx.toNat = 32 * a.val) : blockAt (colIx bo ho j l) a = colIx bx hx j l := by
  have hl : (l 0).val < 16 := (l 0).isLt
  have hj := j.hh
  funext i
  apply Fin.ext
  match i with
  | 0 => exact (colIx_zero (hb := ho)).trans (colIx_zero (hb := hx)).symm
  | 1 =>
    show 32 * a.val + (colIx bo ho j l 1).val % 32 = (colIx bx hx j l 1).val
    rw [colIx_one eo, colIx_one ex]
    omega

theorem addOn_halves {bo : BitVec 32} {ho : InRow bo} {n : Fin 64} (eo : bo.toNat = 32 * n.val) {a b : Fin 64} {sc : F .f32}
    {X Y x : S8x2048.Idx → F .f32} : addOn bo ho halves (prodAt a b sc X Y) x = laneStep a b n sc X Y x := by
  funext y
  unfold addOn laneStep
  have hy : (y 1).val < 2048 := (y 1).isLt
  have e : (∃ j ∈ halves, InHalf bo ho j y) ↔ (y 1).val / 32 = n.val := by
    constructor
    · rintro ⟨j, -, h⟩
      obtain ⟨-, h1, h2⟩ := inHalf_iff.mp h
      rw [colAdd eo j.hh] at h1 h2
      have := j.hh
      omega
    · intro h
      obtain ⟨j, hj, hs, hh⟩ := halves_mem (y 0) ⟨(y 1).val % 32 / 16, by omega⟩
      refine ⟨j, hj, inHalf_iff.mpr ⟨hs.symm, ?_⟩⟩
      rw [colAdd eo j.hh, hh]
      simp only
      omega
  by_cases h : (y 1).val / 32 = n.val
  · rw [if_pos h, if_pos (e.mpr h)]
  · rw [if_neg h, if_neg (mt e.mp h)]

section Lane

variable {sv : Memref sig .scVector .vmem S2048 .f32} {xm ym om : Memref sig .scVector .vmem S8x2048 .f32}
variable {S : S2048.Idx → F .f32} {X Y : S8x2048.Idx → F .f32}

/-- What a lane reads and does not change. -/
abbrev LaneIn (sv : Memref sig .scVector .vmem S2048 .f32) (xm ym : Memref sig .scVector .vmem S8x2048 .f32)
    (S : S2048.Idx → F .f32) (X Y : S8x2048.Idx → F .f32) (d : Dev nD) (c : Fin τ.nSC) (s : Fin τ.nSub) : sProp 𝕄 :=
  iprop(Holds d c s sv S ∗ Holds d c s xm X ∗ Holds d c s ym Y)

theorem wp_lane {g t : BitVec 32} {hg : ∀ a, scaleOff g t a + S16.size a ≤ S2048.size a} {v : BitVec 32} {P : Prop} {dP : Decidable P} {hP : P → LaneOk v}
    {a b o : Fin 64} (w : WordIs v a b o) (h : P) (sc : F .f32) (hS : ∀ l : S16.Idx, S ((Rect.unit (s := S2048) (scaleOff g t) S16.size hg).emb l) = sc)
    (x : S8x2048.Idx → F .f32) {k : TileProg F c s α} {Q : α → sProp 𝕄} :
    iprop(LaneIn sv xm ym S X Y d c s ∗ Holds d c s om x ∗ (LaneIn sv xm ym S X Y d c s ∗ Holds d c s om (laneStep a b o sc X Y x) -∗ WP d c s k Q))
      ⊢ WP d c s (lane sv xm ym om g t hg v P dP hP k) Q := by
  refine .trans ?_ (wp_assume 𝒱₀ (V d c s) none Set.univ h)
  iintro ⟨⟨Hs, Hx, Hy⟩, Ho, Hk⟩
  iapply (wp_read S)
  isplitl [Hs]; · iexact Hs
  iintro Hs
  iapply wp_readHalves
  isplitl [Hx]; · iexact Hx
  iintro Hx
  iapply wp_readHalves
  isplitl [Hy]; · iexact Hy
  iintro Hy
  iapply (wp_addHalves (P := prodAt a b sc X Y) ?_ halves ?_ x)
  · intro j l
    unfold prodAt halfOf
    rw [blockAt_colIx (hx := (hP h).x) w.o w.x, blockAt_colIx (hx := (hP h).y) w.o w.y]
    refine congrArg _ ?_
    exact (congrFun (cast16 fun j => S ((Rect.unit (s := S2048) (scaleOff g t) S16.size hg).emb j)) l).trans (hS l)
  · refine halves_pairwise.imp fun {i j} hij y hi hj => ?_
    obtain ⟨hi0, hi1, hi2⟩ := inHalf_iff.mp hi
    obtain ⟨hj0, hj1, hj2⟩ := inHalf_iff.mp hj
    rw [colAdd w.o i.hh] at hi1 hi2
    rw [colAdd w.o j.hh] at hj1 hj2
    omega
  isplitl [Ho]; · iexact Ho
  rw [addOn_halves w.o]
  iintro Ho
  iapply Hk
  isplitl [Hs Hx Hy]
  · isplitl [Hs]; · iexact Hs
    isplitl [Hx] <;> iassumption
  iexact Ho

variable {A B O : ℕ → Fin 64} {sc : ℕ → F .f32}

theorem scaleOff_val (g : ℕ) (hg : g < 8) (t : ℕ) (ht : t < 16) : scaleOff (Scf.iv 0#32 1#32 g) (BitVec.ofNat 32 t) 0 = 16 * (16 * g + t) := by
  have h : ∀ (g : Fin 8) (t : Fin 16), scaleOff (Scf.iv 0#32 1#32 g.val) (BitVec.ofNat 32 t.val) 0 = 16 * (16 * g.val + t.val) := by
    decide +kernel
  exact h ⟨g, hg⟩ ⟨t, ht⟩

theorem wp_lanes (hS : ∀ y, S y = sc ((y 0).val / 16)) {g : ℕ} {hg : g < 8} {pv : IVec S16 32}
    (hw : ∀ l : LaneIx, WordIs (pick pv l) (A (16 * g + l.t)) (B (16 * g + l.t)) (O (16 * g + l.t))) {k : TileProg F c s α} {Q : α → sProp 𝕄} :
    ∀ (ls : List LaneIx) (x : S8x2048.Idx → F .f32),
    iprop(LaneIn sv xm ym S X Y d c s ∗ Holds d c s om x ∗ (LaneIn sv xm ym S X Y d c s
        ∗ Holds d c s om (ls.foldl (fun x l => laneStep (A (16 * g + l.t)) (B (16 * g + l.t)) (O (16 * g + l.t)) (sc (16 * g + l.t)) X Y x) x) -∗ WP d c s k Q))
      ⊢ WP d c s (lanes sv xm ym om g hg pv k ls) Q
  | [], x => by
    iintro ⟨H, Ho, Hk⟩
    iapply Hk
    isplitl [H]; · iexact H
    iexact Ho
  | l :: ls, x => by
    refine .trans ?_ (wp_lane (S := S) (X := X) (Y := Y) (hw l) (hw l).chk (sc (16 * g + l.t)) ?_ x)
    · iintro ⟨H, Ho, Hk⟩
      isplitl [H]; · iexact H
      isplitl [Ho]; · iexact Ho
      iintro ⟨H, Ho⟩
      iapply (wp_lanes hS hw ls)
      isplitl [H]; · iexact H
      isplitl [Ho]; · iexact Ho
      iexact Hk
    · intro i
      rw [hS]
      have hi : (i 0).val < 16 := (i 0).isLt
      congr 1
      show (scaleOff (Scf.iv 0#32 1#32 g) (BitVec.ofNat 32 l.t) 0 + 1 * (i 0).val) / 16 = _
      rw [scaleOff_val g hg l.t l.ht]
      omega

variable {wm : Memref sig .scVector .vmem S128 .i32} {W : S128.Idx → BitVec 32}

theorem wordsOff_val (g : ℕ) (hg : g < 8) : wordsOff (Scf.iv 0#32 1#32 g) 0 = 16 * g := by
  have h : ∀ g : Fin 8, wordsOff (Scf.iv 0#32 1#32 g.val) 0 = 16 * g.val := by decide +kernel
  exact h ⟨g, hg⟩

theorem wp_group (hS : ∀ y, S y = sc ((y 0).val / 16)) (hW : ∀ y, WordIs (W y) (A (y 0).val) (B (y 0).val) (O (y 0).val))
    {g : ℕ} {hg : g < 8} {Q : BitVec 32 → sProp 𝕄} :
    iprop(Holds d c s wm W ∗ LaneIn sv xm ym S X Y d c s ∗ Holds d c s om (accum A B O sc X Y (16 * g))
        ∗ (∀ z, Holds d c s wm W ∗ LaneIn sv xm ym S X Y d c s ∗ Holds d c s om (accum A B O sc X Y (16 * (g + 1))) -∗ Q z))
      ⊢ WP d c s (group wm sv xm ym om g hg) Q := by
  refine .trans ?_ (wp_read W)
  iintro ⟨Hw, H, Ho, Hk⟩
  isplitl [Hw]; · iexact Hw
  iintro Hw
  iapply (wp_lanes (A := A) (B := B) (O := O) hS ?_ laneIxs (accum A B O sc X Y (16 * g)))
  · intro l
    refine (congrArg (fun v => WordIs (pick v l) _ _ _) (cast16 _)).mpr ?_
    have e := hW ((Rect.unit (s := S128) (wordsOff (Scf.iv 0#32 1#32 g)) S16.size (wordsOff_inb g hg)).emb fun | 0 => ⟨l.t, l.ht⟩)
    have e0 : ((Rect.unit (s := S128) (wordsOff (Scf.iv 0#32 1#32 g)) S16.size (wordsOff_inb g hg)).emb (fun | 0 => ⟨l.t, l.ht⟩) 0).val = 16 * g + l.t := by
      show wordsOff (Scf.iv 0#32 1#32 g) 0 + 1 * l.t = _
      rw [wordsOff_val g hg, Nat.one_mul]
    rw [e0] at e
    convert e using 1
    refine congrArg W (congrArg _ (funext fun a => ?_))
    match a with
    | 0 => exact Fin.ext (Nat.add_zero _)
  isplitl [H]; · iexact H
  isplitl [Ho]; · iexact Ho
  iintro ⟨H, Ho⟩
  iapply WP_ret
  iapply Hk
  isplitl [Hw]; · iexact Hw
  isplitl [H]; · iexact H
  iexact Ho

theorem wp_groups (hS : ∀ y, S y = sc ((y 0).val / 16)) (hW : ∀ y, WordIs (W y) (A (y 0).val) (B (y 0).val) (O (y 0).val))
    {Q : BitVec 32 → sProp 𝕄} :
    iprop(Holds d c s wm W ∗ LaneIn sv xm ym S X Y d c s ∗ Holds d c s om (fun _ => zero)
        ∗ (∀ z, Holds d c s wm W ∗ LaneIn sv xm ym S X Y d c s ∗ Holds d c s om (accum A B O sc X Y 128) -∗ Q z))
      ⊢ WP d c s (Scf.Loop.for gLoop gLoop_ok 0#32 fun g _ => group wm sv xm ym om g.1 g.2) Q := by
  refine .trans ?_ (Scf.wp_for _ _ _ _ _ _ gLoop_ok _ _
    (fun g _ => iprop(Holds d c s wm W ∗ LaneIn sv xm ym S X Y d c s ∗ Holds d c s om (accum A B O sc X Y (16 * g)))) ?_)
  · iintro ⟨Hw, H, Ho, Hk⟩
    isplitl [Hw H Ho]
    · isplitl [Hw]; · iexact Hw
      isplitl [H]; · iexact H
      iexact Ho
    iexact Hk
  · intro g _
    refine .trans ?_ (wp_group (X := X) (Y := Y) hS hW)
    iintro ⟨Hw, H, Ho⟩
    isplitl [Hw]; · iexact Hw
    isplitl [H]; · iexact H
    isplitl [Ho]; · iexact Ho
    iintro %z H
    iexact H

end Lane

/-! ## Overwriting -/

section Over

variable {β ι κ : Type}

open Classical in
/-- `x`, with `v` where one of `is` says so. -/
def over (p : ι → κ → Prop) (v : κ → β) (is : List ι) (x : κ → β) : κ → β := fun y => if ∃ i ∈ is, p i y then v y else x y

theorem over_nil {p : ι → κ → Prop} {v x : κ → β} : over p v [] x = x := funext fun _ => if_neg (by simp)

theorem over_cons {p : ι → κ → Prop} {v x : κ → β} {i : ι} {is : List ι} : over p v is (over p v [i] x) = over p v (i :: is) x := by
  funext y
  unfold over
  by_cases h1 : p i y <;> by_cases h2 : ∃ j ∈ is, p j y <;> simp [h1, h2]

theorem over_hit {p : ι → κ → Prop} {v x : κ → β} {i : ι} {is : List ι} (hi : i ∈ is) {y : κ} (h : p i y) : over p v is x y = v y :=
  if_pos ⟨i, hi, h⟩

theorem over_miss {p : ι → κ → Prop} {v x : κ → β} {is : List ι} {y : κ} (h : ∀ i ∈ is, ¬ p i y) : over p v is x y = x y :=
  if_neg fun ⟨i, hi, e⟩ => h i hi e

end Over

/-! ## Clearing -/

/-- `y` is in row `r`, in columns `16 z` on. -/
def InStrip (z : ℕ) (r : {s : ℕ // s < 8}) (y : S8x2048.Idx) : Prop := (y 0).val = r.1 ∧ (y 1).val / 16 = z

theorem zeroOff_val (z : ℕ) (hz : z < 128) (r : ℕ) : zeroOff (Scf.iv 0#32 1#32 z) r 1 = 16 * z := by
  have h : ∀ z : Fin 128, (Scalar.indexCast (Scalar.muli (Scf.iv 0#32 1#32 z.val) 16#32)).toNat = 16 * z.val := by decide +kernel
  exact h ⟨z, hz⟩

theorem inStrip_iff {z : ℕ} {hz : z < 128} {r : {s : ℕ // s < 8}} {y : S8x2048.Idx} :
    y ∈ (Rect.unit (s := S8x2048) (zeroOff (Scf.iv 0#32 1#32 z) r.1) S1x16.size (zeroOff_inb z hz r.1 r.2)).set ↔ InStrip z r y := by
  rw [Rect.mem_set_unit]
  have e := zeroOff_val z hz r.1
  constructor
  · intro h
    have h0 : r.1 ≤ (y 0).val ∧ (y 0).val < r.1 + 1 := h 0
    have h1 : zeroOff (Scf.iv 0#32 1#32 z) r.1 1 ≤ (y 1).val ∧ (y 1).val < zeroOff (Scf.iv 0#32 1#32 z) r.1 1 + 16 := h 1
    rw [e] at h1
    exact ⟨by omega, by omega⟩
  · rintro ⟨h0, h1⟩ a
    match a with
    | 0 => exact (show r.1 ≤ (y 0).val ∧ (y 0).val < r.1 + 1 by omega)
    | 1 =>
      show zeroOff (Scf.iv 0#32 1#32 z) r.1 1 ≤ (y 1).val ∧ (y 1).val < zeroOff (Scf.iv 0#32 1#32 z) r.1 1 + 16
      rw [e]; omega

theorem wp_zeroRows {om : Memref sig .scVector .vmem S8x2048 .f32} {z : ℕ} {hz : z < 128} {Q : BitVec 32 → sProp 𝕄} :
    ∀ (rs : List {s : ℕ // s < 8}) (x : S8x2048.Idx → F .f32),
    iprop(Holds d c s om x ∗ (∀ u, Holds d c s om (over (InStrip z) (fun _ => zero) rs x) -∗ Q u)) ⊢ WP d c s (zeroRows om zeros z hz rs) Q
  | [], x => by
    rw [over_nil]
    iintro ⟨H, Hk⟩
    iapply WP_ret
    iapply Hk; iexact H
  | r :: rs, x => by
    refine .trans ?_ (wp_read x)
    iintro ⟨H, Hk⟩
    isplitl [H]; · iexact H
    iintro H
    iapply (wp_put x (over (InStrip z) (fun _ => zero) [r] x) ?_ ?_)
    · intro i
      rw [over_hit (List.mem_singleton.mpr rfl) ((inStrip_iff (hz := hz)).mp (emb_mem_set _ _))]
      rfl
    · intro y hy
      exact over_miss fun i hi h => hy ((inStrip_iff (hz := hz)).mpr (List.mem_singleton.mp hi ▸ h))
    isplitl [H]; · iexact H
    iintro H
    iapply (wp_zeroRows rs)
    rw [over_cons]
    isplitl [H] <;> iassumption

theorem rows_mem : ∀ r : Fin 8, ⟨r.val, r.isLt⟩ ∈ rows := by decide

theorem wp_clear {om : Memref sig .scVector .vmem S8x2048 .f32} {x : S8x2048.Idx → F .f32} {Q : BitVec 32 → sProp 𝕄} :
    iprop(Holds d c s om x ∗ (∀ u, Holds d c s om (fun _ => zero) -∗ Q u))
      ⊢ WP d c s (Scf.Loop.for zLoop zLoop_ok 0#32 fun z _ => zeroRows om zeros z.1 z.2 rows) Q := by
  refine .trans ?_ (Scf.wp_for _ _ _ _ _ _ zLoop_ok _ _
    (fun z _ => iprop(∃ x : S8x2048.Idx → F .f32, ⌜∀ y, (y 1).val / 16 < z → x y = zero⌝ ∗ Holds d c s om x)) ?_)
  · iintro ⟨H, Hk⟩
    isplitl [H]
    · iexists x
      isplitr; · ipureintro; exact fun y h => absurd h (Nat.not_lt_zero _)
      iexact H
    iintro %u ⟨%x', %hx, H⟩
    have e : x' = fun _ => zero := funext fun y => hx y (by
      have h : (y 1).val < 2048 := (y 1).isLt
      exact (show (y 1).val / 16 < 128 by omega))
    rw [e]
    iapply Hk; iexact H
  · intro z u
    iintro ⟨%x', %hx, H⟩
    iapply (wp_zeroRows rows x')
    isplitl [H]; · iexact H
    iintro %u H
    iexists _
    isplitr
    swap; · iexact H
    ipureintro
    intro y hy
    by_cases h : (y 1).val / 16 = z.val
    · exact over_hit (rows_mem (y 0)) ⟨rfl, h⟩
    · rw [over_miss fun i _ hi => h hi.2]
      exact hx y (by omega)

/-! ## Packing the words and spreading the scales -/

/-- `y` is in the sixteen copies of the scale of lane `l` of group `g`. -/
def InSpread (g : ℕ) (l : LaneIx) (y : S2048.Idx) : Prop := (y 0).val / 16 = 16 * g + l.t

/-- `y` is in group `g`. -/
def InGroup (g : {g : ℕ // g < 8}) (y : S128.Idx) : Prop := (y 0).val / 16 = g.1

/-- `y` is in the copies of the scales of group `g`. -/
def InSpreads (g : {g : ℕ // g < 8}) (y : S2048.Idx) : Prop := (y 0).val / 256 = g.1

theorem mem_unit1 {n k o : ℕ} {inb : ∀ a, (![o] : Fin 1 → ℕ) a + (![k] : Fin 1 → ℕ) a ≤ (⟨1, ![n]⟩ : Shape).size a} {y : (⟨1, ![n]⟩ : Shape).Idx} :
    y ∈ (Rect.unit (s := ⟨1, ![n]⟩) ![o] ![k] inb).set ↔ o ≤ (y 0).val ∧ (y 0).val < o + k := by
  rw [Rect.mem_set_unit]
  constructor
  · exact fun h => h 0
  · intro h a
    match a with
    | 0 => exact h

/-- Place `n` of a vector of 128. -/
abbrev place (n : ℕ) (h : n < 128) : S128.Idx := fun | 0 => ⟨n, h⟩

theorem spread_lt (y : S2048.Idx) : (y 0).val / 16 < 128 := by
  have h : (y 0).val < 2048 := (y 0).isLt
  omega

theorem lane_lt {g : ℕ} (hg : g < 8) (l : LaneIx) : 16 * g + l.t < 128 := by
  have := l.ht
  omega

/-- The scale at a place of the spread array. -/
abbrev spreadOf (f : S128.Idx → F .f32) (y : S2048.Idx) : F .f32 := FloatOps.addf zero (f (place ((y 0).val / 16) (spread_lt y)))

theorem wp_spread {sv : Memref sig .scVector .vmem S2048 .f32} {f : S128.Idx → F .f32} {sc : FVec F S16 .f32} {g : ℕ} {hg : g < 8}
    (hsc : ∀ l : LaneIx, pick sc l = f (place (16 * g + l.t) (lane_lt hg l))) {k : TileProg F c s α} {Q : α → sProp 𝕄} :
    ∀ (ls : List LaneIx) (S : S2048.Idx → F .f32),
    iprop(Holds d c s sv S ∗ (Holds d c s sv (over (InSpread g) (spreadOf f) ls S) -∗ WP d c s k Q)) ⊢ WP d c s (spread sv zeros sc g hg k ls) Q
  | [], S => by
    rw [over_nil]
    iintro ⟨H, Hk⟩
    iapply Hk; iexact H
  | l :: ls, S => by
    refine .trans ?_ (wp_read S)
    iintro ⟨H, Hk⟩
    isplitl [H]; · iexact H
    iintro H
    have hin : ∀ y : S2048.Idx, y ∈ (Rect.unit (s := S2048) ![256 * g + 16 * l.t] S16.size (inb2048 g hg l.t l.ht)).set ↔ InSpread g l y := by
      intro y
      refine mem_unit1.trans ?_
      unfold InSpread
      omega
    iapply (wp_put S (over (InSpread g) (spreadOf f) [l] S) ?_ ?_)
    · intro i
      have hi := (hin _).mp (emb_mem_set _ i)
      rw [over_hit (List.mem_singleton.mpr rfl) hi, shapeCast_id]
      show FloatOps.addf _ _ = FloatOps.addf _ (pick sc l)
      rw [hsc]
      refine congrArg _ (congrArg f (funext fun a => ?_))
      match a with
      | 0 => exact Fin.ext hi
    · intro y hy
      exact over_miss fun i hi h => hy ((hin y).mpr (List.mem_singleton.mp hi ▸ h))
    isplitl [H]; · iexact H
    iintro H
    iapply (wp_spread hsc ls)
    rw [over_cons]
    isplitl [H] <;> iassumption

theorem laneIxs_mem : ∀ t : Fin 16, ∃ l ∈ laneIxs, l.t = t.val := by decide

theorem over_spread {f : S128.Idx → F .f32} {S : S2048.Idx → F .f32} (g : {g : ℕ // g < 8}) :
    over (InSpread g.1) (spreadOf f) laneIxs S = over InSpreads (spreadOf f) [g] S := by
  funext y
  by_cases h : (y 0).val / 256 = g.1
  · obtain ⟨l, hl, e⟩ := laneIxs_mem ⟨(y 0).val / 16 % 16, by omega⟩
    refine (over_hit hl ?_).trans (over_hit (List.mem_singleton.mpr rfl) (show InSpreads g y from h)).symm
    unfold InSpread
    simp only at e
    omega
  · refine (over_miss fun l _ hl => ?_).trans (over_miss fun i hi => List.mem_singleton.mp hi ▸ h).symm
    unfold InSpread at hl
    have := l.ht
    omega

/-- The packed word at a place. -/
abbrev packedAt (a b o : S128.Idx → BitVec 32) (y : S128.Idx) : BitVec 32 :=
  IntOp.addi (IntOp.addi (a y) (IntOp.muli (b y) 64#32)) (IntOp.muli (o y) 4096#32)

section Prep

variable {am bm cm : Memref sig .scVector .vmem S128 .i32} {fm : Memref sig .scVector .vmem S128 .f32} {sv : Memref sig .scVector .vmem S2048 .f32}
variable {a b o : S128.Idx → BitVec 32} {f : S128.Idx → F .f32}

/-- What the preparation reads and does not change. -/
abbrev PrepIn (bm cm : Memref sig .scVector .vmem S128 .i32) (fm : Memref sig .scVector .vmem S128 .f32) (b o : S128.Idx → BitVec 32) (f : S128.Idx → F .f32)
    (d : Dev nD) (c : Fin τ.nSC) (s : Fin τ.nSub) : sProp 𝕄 :=
  iprop(Holds d c s bm b ∗ Holds d c s cm o ∗ Holds d c s fm f)

theorem wp_prep {k : TileProg F c s α} {Q : α → sProp 𝕄} :
    ∀ (gs : List {g : ℕ // g < 8}) (_ : gs.Nodup) (W : S128.Idx → BitVec 32) (_ : ∀ g ∈ gs, ∀ y, InGroup g y → W y = a y) (S : S2048.Idx → F .f32),
    iprop(Holds d c s am W ∗ PrepIn bm cm fm b o f d c s ∗ Holds d c s sv S
        ∗ (Holds d c s am (over InGroup (packedAt a b o) gs W) ∗ PrepIn bm cm fm b o f d c s ∗ Holds d c s sv (over InSpreads (spreadOf f) gs S) -∗ WP d c s k Q))
      ⊢ WP d c s (prep am bm cm fm sv zeros k gs) Q
  | [], _, W, _, S => by
    rw [over_nil, over_nil]
    iintro ⟨Hw, H, Hs, Hk⟩
    iapply Hk
    isplitl [Hw]; · iexact Hw
    isplitl [H] <;> iassumption
  | g :: gs, hn, W, hW, S => by
    obtain ⟨hg, hn⟩ := List.nodup_cons.mp hn
    have hin : ∀ y : S128.Idx, y ∈ (Rect.unit (s := S128) ![16 * g.1] S16.size (inb128 g.1 g.2)).set ↔ InGroup g y := by
      intro y
      refine mem_unit1.trans ?_
      unfold InGroup
      omega
    refine .trans ?_ (wp_read W)
    iintro ⟨Hw, ⟨Hb, Ho, Hf⟩, Hs, Hk⟩
    isplitl [Hw]; · iexact Hw
    iintro Hw
    iapply (wp_read b)
    isplitl [Hb]; · iexact Hb
    iintro Hb
    iapply (wp_read o)
    isplitl [Ho]; · iexact Ho
    iintro Ho
    iapply (wp_read W)
    isplitl [Hw]; · iexact Hw
    iintro Hw
    iapply (wp_put W (over InGroup (packedAt a b o) [g] W) ?_ ?_)
    · intro i
      have hi := (hin _).mp (emb_mem_set _ i)
      rw [over_hit (List.mem_singleton.mpr rfl) hi]
      unfold packed
      simp only [shapeCast_id]
      rw [packedAt, ← hW g List.mem_cons_self _ hi]
      have e (x : S128.Idx → BitVec 32) := (congrFun (cast16 fun j => x ((Rect.unit (s := S128) ![16 * g.1] S16.size (inb128 g.1 g.2)).emb j)) i).symm
      exact congrArg₂ IntOp.addi (congrArg₂ IntOp.addi (e W) (congrArg (IntOp.muli · _) (e b))) (congrArg (IntOp.muli · _) (e o))
    · intro y hy
      exact over_miss fun i hi h => hy ((hin y).mpr (List.mem_singleton.mp hi ▸ h))
    isplitl [Hw]; · iexact Hw
    iintro Hw
    iapply (wp_read f)
    isplitl [Hf]; · iexact Hf
    iintro Hf
    iapply (wp_spread (f := f) ?_ laneIxs S)
    · intro l
      refine (congrArg (pick · l) (cast16 _)).trans (congrArg f (funext fun q => ?_))
      match q with
      | 0 =>
        apply Fin.ext
        show 16 * g.1 + 1 * (l.t + 0) = _
        rw [Nat.add_zero, Nat.one_mul]
    isplitl [Hs]; · iexact Hs
    iintro Hs
    iapply (wp_prep gs hn (over InGroup (packedAt a b o) [g] W) ?_ (over (InSpread g.1) (spreadOf f) laneIxs S))
    · intro g' hg' y hy
      rw [over_miss, hW g' (List.mem_cons_of_mem _ hg') y hy]
      intro i hi h
      have e : g' = g := Subtype.ext (hy.symm.trans ((List.mem_singleton.mp hi ▸ h : InGroup g y)))
      exact hg (e ▸ hg')
    isplitl [Hw]; · iexact Hw
    isplitl [Hb Ho Hf]
    · isplitl [Hb]; · iexact Hb
      isplitl [Ho] <;> iassumption
    isplitl [Hs]; · iexact Hs
    rw [over_spread, over_cons, over_cons]
    iexact Hk

theorem groups_mem : ∀ g : Fin 8, ⟨g.val, g.isLt⟩ ∈ groups := by decide

/-- The whole preparation: every word packed, every scale spread. -/
theorem wp_prepAll {k : TileProg F c s α} {Q : α → sProp 𝕄} {S : S2048.Idx → F .f32} :
    iprop(Holds d c s am a ∗ PrepIn bm cm fm b o f d c s ∗ Holds d c s sv S
        ∗ (Holds d c s am (packedAt a b o) ∗ PrepIn bm cm fm b o f d c s ∗ Holds d c s sv (spreadOf f) -∗ WP d c s k Q))
      ⊢ WP d c s (prep am bm cm fm sv zeros k groups) Q := by
  refine .trans ?_ (wp_prep (a := a) (b := b) (o := o) (f := f) (Q := Q) groups (by decide) a (fun _ _ _ _ => rfl) S)
  have e1 : over InGroup (packedAt a b o) groups a = packedAt a b o := funext fun y => by
    have h : (y 0).val < 128 := (y 0).isLt
    exact over_hit (groups_mem ⟨(y 0).val / 16, by omega⟩) rfl
  have e2 : over InSpreads (spreadOf f) groups S = spreadOf f := funext fun y => by
    have h : (y 0).val < 2048 := (y 0).isLt
    exact over_hit (groups_mem ⟨(y 0).val / 256, by omega⟩) rfl
  rw [e1, e2]

end Prep

end Cert.Proof.Body
-- ==== Proof.Copies.lean ====
/-
  The copies of a tile, started and awaited: a copy in flight is held as what its wait will hand over.
-/
module

public import proofs.«01_k».proof.Proof.Lanes

@[expose] public section

noncomputable section

namespace Cert.Proof.Body

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem numel_chunk : 0 < S8x2048.numel := by decide +kernel

section Copies

variable (d : Dev nD) (c : Fin τ.nSC) (s : Fin τ.nSub)

/-- A cell at zero. -/
abbrev Idle (sem : DmaSems sig S_) : sProp 𝕄 := semVal (V d c s, .dma sem.sem) 0

/-- A copy in flight on `sem`, whose wait takes `n` and hands over `R`. -/
abbrev Flying (sem : DmaSems sig S_) (n : ℕ) (R : sProp 𝕄) : sProp 𝕄 :=
  Transfers.Flight countersEmb (V d c s) (.dma sem.sem) (default : HIx 1) n R

/-- What a tile needs to wait, and what it has waited for. -/
def Tick (O : CellTallies nD τ sig (HIx 1)) (W : Waits sig (HIx 1)) : sProp 𝕄 :=
  iprop(levAts (K (F := F)).L (K (F := F)).lev ∗ ∃ W', ⌜∀ p ∈ W', p ∈ W ∨ p.2 = none⌝ ∗ owes (V d c s) O W')

variable {d c s} {O : CellTallies nD τ sig (HIx 1)} {W : Waits sig (HIx 1)}

theorem flying_frame {sem : DmaSems sig S_} {n : ℕ} {R P : sProp 𝕄} : iprop(Flying d c s sem n R ∗ P) ⊢ Flying d c s sem n iprop(R ∗ P) := by
  unfold Flying Transfers.Flight
  iintro ⟨⟨⟨%C, HC, %hcap, %hpeek⟩, Hcred⟩, HP⟩
  isplitr [Hcred]
  · iexists iprop(C ∗ P)
    isplitl [HC HP]
    · isplitl [HC] <;> iassumption
    isplit
    · ipureintro
      intro k
      refine .trans ?_ (hcap k)
      iintro ⟨⟨HC, HP⟩, Hk⟩
      isplitl [HC]; · iexact HC
      iintro ⟨Hv, HR⟩
      iapply Hk
      isplitl [Hv]; · iexact Hv
      isplitl [HR] <;> iassumption
    · ipureintro
      intro k
      refine .trans ?_ (hpeek k)
      iintro ⟨⟨HC, HP⟩, Hk⟩
      isplitl [HC]; · iexact HC
      iintro HC
      iapply Hk
      isplitl [HC] <;> iassumption
  · iexact Hcred

theorem wp_await (hO : ∀ g, O g none = 0) {sem : DmaSems sig S_} {n : ℕ} {R : sProp 𝕄} {sp sp' : Space} {sh sh' : Shape} {e e' : EltTy}
    {src : Memref sig .scVector sp' sh' e'} {dst : Memref sig .scVector sp sh e} {hs : src.view.WordExact} {hd : dst.view.WordExact}
    (hn : dst.view.dmaCredit = n) {Q : PUnit → sProp 𝕄} :
    iprop(Tick d c s O W ∗ Flying d c s sem n R ∗ (Tick d c s O W ∗ R ∗ Idle d c s sem -∗ Q ⟨⟩))
      ⊢ WP d c s (Prog.lift (.waitDma2 (p := .scVector c s) sem.sem src dst hs hd)) Q := by
  unfold Tick
  iintro ⟨⟨#Hlv, %W', %hW, HO⟩, Hf, Hk⟩
  ihave Hmw := (show levAts (K (F := F)).L (K (F := F)).lev ⊢ Transfers.MayWaits (V d c s) (default : HIx 1) O from
    (K (F := F)).mayWaits_none (thr := V d c s) hO) $$ Hlv
  iapply (Transfers.wp_waitLocalO countersEmb 𝒱₀ (V d c s) none (default : HIx 1) hn) $$ [Hf HO]
  · isplitl [Hf]; · iexact Hf
    isplitl [HO]; · iexact HO
    iapply (Transfers.MayWaits.elim (SemLoc.dma sem.sem)) $$ Hmw
  iintro ⟨HR, Hs, HO⟩
  iapply WP_ret
  iapply Hk
  isplitl [HO]
  · isplitr; · iexact Hlv
    iexists _
    isplitr
    swap; · iexact HO
    ipureintro
    intro p hp
    rcases Finset.mem_insert.mp hp with hp | hp
    · exact .inr (hp ▸ rfl)
    · exact hW p hp
  isplitl [HR] <;> iassumption

theorem wp_startIn {m : Memref sig .scVector .hbm S8192x2048 .f32} {q : PosShare TreeShare} {f : Buf (Elt F) (m.view.loc (V d c s))}
    {o : Fin 2 → ℕ} {h : ∀ a, o a + S8x2048.size a ≤ S8192x2048.size a} {dst : Memref sig .scVector .vmem S8x2048 .f32} {hd : dst.IsWhole}
    (x : S8x2048.Idx → F .f32) (hx : ∀ j, m.view.read (Elt F) f ((Rect.unit (s := S8192x2048) o S8x2048.size h).emb j) = x j)
    {sem : DmaSems sig S_} {Q : PUnit → sProp 𝕄} :
    iprop((m.view.loc (V d c s) ↦{q} f) ∗ (∃ z, Holds d c s dst z) ∗ Idle d c s sem
        ∗ (Flying d c s sem dst.view.dmaCredit iprop(Holds d c s dst x ∗ (m.view.loc (V d c s) ↦{q} f)) -∗ Q ⟨⟩))
      ⊢ WP d c s (startIn m o h dst hd sem) Q := by
  unfold Holds
  iintro ⟨Hm, ⟨%z, %g, -, Hd⟩, Hs, Hk⟩
  ihave Hm' := (pointsTo_split_subset (q := q) (f := f) (S := Finset.univ) (Finset.subset_univ (slab m o h).view.set)).1 $$ Hm
  icases Hm' with ⟨Hm, Hr⟩
  iapply (Transfers.wp_dmaLocal countersEmb 𝒱₀ (V d c s) none (default : HIx 1) dst.view.dmaCredit rfl (View.dmaCredit_pos _ numel_chunk) (Finset.subset_univ _)) $$ [Hm Hd Hs]
  · isplitl [Hm]; · iexact Hm
    isplitl [Hd]; · iexact Hd
    iexact Hs
  iintro Hf
  iapply WP_ret
  iapply Hk
  ihave Hf' := (flying_frame (P := iprop(m.view.loc (V d c s) ↦[Finset.univ \ (slab m o h).view.set]{q} f))) $$ [Hf Hr]
  · isplitl [Hf]; · iexact Hf
    iexact Hr
  iapply (Transfers.Flight_mono countersEmb (V d c s) ?_) $$ Hf'
  iintro ⟨⟨Hd, Hm⟩, Hr⟩
  isplitl [Hd]
  · iexists _
    isplitr
    swap; · iexact Hd
    ipureintro
    rw [View.read_write_univ]
    exact funext hx
  iapply (pointsTo_split_subset (q := q) (f := f) (S := Finset.univ) (Finset.subset_univ (slab m o h).view.set)).2
  isplitl [Hm]; · iexact Hm
  iexact Hr

theorem wp_startOut {o : Fin 2 → ℕ} {h : ∀ a, o a + S8x2048.size a ≤ S8192x2048.size a} {src : Memref sig .scVector .vmem S8x2048 .f32} {hs : src.IsWhole}
    {x : S8x2048.Idx → F .f32} {f : Buf (Elt F) (outV.view.loc (V d c s))} (g : Buf (Elt F) (outV.view.loc (V d c s)))
    (hg : ∀ j, outV.view.read (Elt F) g ((Rect.unit (s := S8192x2048) o S8x2048.size h).emb j) = x j) {n : ℕ} (hn : outV.view.ref.dmaCredit S8x2048 .f32 = n)
    {sem : DmaSems sig S_} {Q : PUnit → sProp 𝕄} :
    iprop((outV.view.loc (V d c s) ↦[(Rect.unit (s := S8192x2048) o S8x2048.size h).set]{fullShare} f) ∗ Holds d c s src x ∗ Idle d c s sem
        ∗ (Flying d c s sem n iprop((outV.view.loc (V d c s) ↦[(Rect.unit (s := S8192x2048) o S8x2048.size h).set]{fullShare} g) ∗ ∃ z, Holds d c s src z) -∗ Q ⟨⟩))
      ⊢ WP d c s (startOut o h src hs sem) Q := by
  subst hn
  unfold Holds
  have hset : (slab outV o h).view.set = (Rect.unit (s := S8192x2048) o S8x2048.size h).set := View.set_slice_whole _ _
  have hsrc : src.view.set = Finset.univ := hs.set_eq_univ
  iintro ⟨Hm, ⟨%z, %hz, Hd⟩, Hs, Hk⟩
  iapply (Transfers.wp_dmaLocal countersEmb 𝒱₀ (V d c s) none (default : HIx 1) (dst := slab outV o h) (q := fullShare) (fs := z)
    (Sd := (Rect.unit (s := S8192x2048) o S8x2048.size h).set) (fd := f) (slab outV o h).view.dmaCredit rfl (View.dmaCredit_pos _ numel_chunk) hset.subset) $$ [Hm Hd Hs]
  · isplitl [Hd]
    · rw [hsrc]; iexact Hd
    isplitl [Hm]; · iexact Hm
    iexact Hs
  iintro Hf
  iapply WP_ret
  iapply Hk
  iapply (Transfers.Flight_mono countersEmb (V d c s) ?_) $$ Hf
  rw [hsrc]
  iintro ⟨Hm, Hd⟩
  isplitl [Hm]
  · iapply (Entails.of_eq (pointsTo_congr ?_)) $$ Hm
    intro i hi
    rw [← Rect.map_emb_univ] at hi
    obtain ⟨j, -, rfl⟩ := Finset.mem_map.mp hi
    exact ((View.write_emb_of_mem (v := (slab outV o h).view) f _ (Finset.mem_univ j)).trans ((congrFun hz j).trans (hg j).symm))
  iexists _
  iexists z
  isplitr; · ipureintro; rfl
  iexact Hd

end Copies

end Cert.Proof.Body
-- ==== Proof.Chunk.lean ====
/-
  One chunk of a tile, and what the outer loop keeps: per slot, the copies of its next chunk in flight, the copy of its last
  chunk in flight, the chunks already out and the chunks to come.
-/
module

public import proofs.«01_k».proof.Proof.Copies

@[expose] public section

noncomputable section

namespace Cert.Proof.Body

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Chunks of the big arrays -/

/-- Chunk `n` of a big array: its rows `8 n` to `8 n + 7`. -/
def chunkOf (G : S8192x2048.Idx → F .f32) (n : ℕ) : S8x2048.Idx → F .f32 :=
  fun j => G (Shape.pair ⟨(8 * n + (j 0).val) % 8192, Nat.mod_lt _ (by decide)⟩ ⟨(j 1).val, (j 1).isLt⟩)

/-- The elements of chunk `n`. -/
def rowSet (n : ℕ) : Finset S8192x2048.Idx := Finset.univ.filter fun y => (y 0).val / 8 = n

theorem rows_lt {n : ℕ} (hn : n < 1024) (j : S8x2048.Idx) : 8 * n + (j 0).val < 8192 := by
  have e : (j 0).val < 8 := (j 0).isLt
  omega

theorem chunk_emb {n : ℕ} (hn : n < 1024) {o : Fin 2 → ℕ} (ho : o = ![8 * n, 0]) {h : ∀ a, o a + S8x2048.size a ≤ S8192x2048.size a} (j : S8x2048.Idx) :
    (Rect.unit (s := S8192x2048) o S8x2048.size h).emb j = (Shape.pair ⟨8 * n + (j 0).val, rows_lt hn j⟩ ⟨(j 1).val, (j 1).isLt⟩ : S8192x2048.Idx) := by
  subst ho
  funext a
  apply Fin.ext
  match a with
  | 0 =>
    show 8 * n + 1 * (j 0).val = 8 * n + (j 0).val
    omega
  | 1 =>
    show 0 + 1 * (j 1).val = (j 1).val
    omega

theorem chunkOf_eq {G : S8192x2048.Idx → F .f32} {n : ℕ} (hn : n < 1024) {o : Fin 2 → ℕ} (ho : o = ![8 * n, 0])
    {h : ∀ a, o a + S8x2048.size a ≤ S8192x2048.size a} (j : S8x2048.Idx) : G ((Rect.unit (s := S8192x2048) o S8x2048.size h).emb j) = chunkOf G n j := by
  rw [chunk_emb hn ho]
  have e : (j 0).val < 8 := (j 0).isLt
  refine congrArg G (congrArg (Shape.pair · _) (Fin.ext ?_))
  exact (Nat.mod_eq_of_lt (rows_lt hn j)).symm

theorem rowSet_eq {n : ℕ} {o : Fin 2 → ℕ} (ho : o = ![8 * n, 0]) {h : ∀ a, o a + S8x2048.size a ≤ S8192x2048.size a} :
    (Rect.unit (s := S8192x2048) o S8x2048.size h).set = rowSet n := by
  subst ho
  ext y
  rw [Rect.mem_set_unit, rowSet, Finset.mem_filter]
  have h1 : (y 1).val < 2048 := (y 1).isLt
  constructor
  · intro e
    have e0 : 8 * n ≤ (y 0).val ∧ (y 0).val < 8 * n + 8 := e 0
    exact ⟨Finset.mem_univ _, by omega⟩
  · rintro ⟨-, e⟩ a
    match a with
    | 0 => exact (show 8 * n ≤ (y 0).val ∧ (y 0).val < 8 * n + 8 by omega)
    | 1 => exact (show 0 ≤ (y 1).val ∧ (y 1).val < 0 + 2048 by omega)

/-- What the kernel computes from: the big arrays, and per path its three blocks and its scale. -/
structure Job (F : FTy → Type) where
  x : S8192x2048.Idx → F .f32
  y : S8192x2048.Idx → F .f32
  a : ℕ → Fin 64
  b : ℕ → Fin 64
  o : ℕ → Fin 64
  sc : ℕ → F .f32

/-- The output of chunk `n`. -/
def Job.chunk (J : Job F) (n : ℕ) : S8x2048.Idx → F .f32 := accum J.a J.b J.o J.sc (chunkOf J.x n) (chunkOf J.y n) 128

/-- The output. -/
def Job.out (J : Job F) : S8192x2048.Idx → F .f32 :=
  fun y => J.chunk ((y 0).val / 8) (Shape.pair ⟨(y 0).val % 8, Nat.mod_lt _ (by decide)⟩ ⟨(y 1).val, (y 1).isLt⟩)

theorem Job.out_emb (J : Job F) {n : ℕ} (hn : n < 1024) {o : Fin 2 → ℕ} (ho : o = ![8 * n, 0])
    {h : ∀ a, o a + S8x2048.size a ≤ S8192x2048.size a} (j : S8x2048.Idx) : J.out ((Rect.unit (s := S8192x2048) o S8x2048.size h).emb j) = J.chunk n j := by
  rw [chunk_emb hn ho]
  have e : (j 0).val < 8 := (j 0).isLt
  unfold Job.out
  refine congrArg₂ J.chunk ?_ (funext fun a => Fin.ext ?_)
  · show (8 * n + (j 0).val) / 8 = n
    omega
  · match a with
    | 0 =>
      show (8 * n + (j 0).val) % 8 = (j 0).val
      omega
    | 1 => rfl

/-! ## The slots -/

section Slots

variable (d : Dev nD) (c : Fin τ.nSC) (s : Fin τ.nSub) (J : Job F) (q : PosShare TreeShare)
variable (n : ℕ → ℕ) (xm ym om : Memref sig .scVector .vmem S8x2048 .f32) (sx sy so : DmaSems sig S_)

abbrev XPts : sProp 𝕄 := xV.view.loc (V d c s) ↦{q} J.x
abbrev YPts : sProp 𝕄 := yV.view.loc (V d c s) ↦{q} J.y
abbrev OPts (k : ℕ) (f : S8192x2048.Idx → F .f32) : sProp 𝕄 := outV.view.loc (V d c s) ↦[rowSet k]{fullShare} f

/-- The credit of a copy out. -/
abbrev outCredit : ℕ := outV.view.ref.dmaCredit S8x2048 .f32

/-- A slot's copies in, before its trip `k`: chunk `n k` of both arrays on its way, or no more. -/
def SlotIn (k : ℕ) : sProp 𝕄 :=
  if k < 16 then
    iprop(Flying d c s sx xm.view.dmaCredit iprop(Holds d c s xm (chunkOf J.x (n k)) ∗ XPts d c s J q)
      ∗ Flying d c s sy ym.view.dmaCredit iprop(Holds d c s ym (chunkOf J.y (n k)) ∗ YPts d c s J q))
  else
    iprop((XPts d c s J q ∗ (∃ z, Holds d c s xm z) ∗ Idle d c s sx) ∗ (YPts d c s J q ∗ (∃ z, Holds d c s ym z) ∗ Idle d c s sy))

/-- A slot's copy out, before its trip `k`: the last trip's chunk on its way. -/
def SlotFly : ℕ → sProp 𝕄
  | 0 => iprop((∃ z, Holds d c s om z) ∗ Idle d c s so)
  | k + 1 => Flying d c s so outCredit iprop(OPts d c s (n k) J.out ∗ ∃ z, Holds d c s om z)

/-- A slot's chunks of the output, before its trip `k`: those out, the one on its way, those to come (at `f₀`). -/
def SlotOut (f₀ : S8192x2048.Idx → F .f32) (k : ℕ) : sProp 𝕄 :=
  iprop(SlotFly d c s J n om so k ∗ bigSep (Finset.range (k - 1)) (fun j => OPts d c s (n j) J.out) ∗ bigSep (Finset.Ico k 16) fun j => OPts d c s (n j) f₀)

variable {d c s J q n xm ym om sx sy so}

theorem bigSep_range_succ (Φ : ℕ → sProp 𝕄) (k : ℕ) : bigSep (Finset.range (k + 1)) Φ = iprop(Φ k ∗ bigSep (Finset.range k) Φ) := by
  rw [Finset.range_add_one, SparseCore.bigSep_insert' Finset.notMem_range_self]

theorem bigSep_Ico_succ (Φ : ℕ → sProp 𝕄) {k m : ℕ} (h : k < m) : bigSep (Finset.Ico k m) Φ = iprop(Φ k ∗ bigSep (Finset.Ico (k + 1) m) Φ) := by
  rw [show Finset.Ico k m = insert k (Finset.Ico (k + 1) m) by ext j; simp only [Finset.mem_insert, Finset.mem_Ico]; omega,
    SparseCore.bigSep_insert' (by simp)]

variable {O : CellTallies nD τ sig (HIx 1)} {W : Waits sig (HIx 1)}
variable {Wd : S128.Idx → BitVec 32} {Sc : S2048.Idx → F .f32}

/-- The packed words and the spread scales. -/
abbrev Paths (Wd : S128.Idx → BitVec 32) (Sc : S2048.Idx → F .f32) (d : Dev nD) (c : Fin τ.nSC) (s : Fin τ.nSub) : sProp 𝕄 :=
  iprop(Holds d c s wM Wd ∗ Holds d c s sM Sc)

theorem WP_bind {α β : Type} {p : TileProg F c s α} {k : α → TileProg F c s β} {Q : β → sProp 𝕄} :
    WP d c s p (fun a => WP d c s (k a) Q) ⊢ WP d c s (p >>= k) Q := Entails.of_eq (wp_bind ..).symm

theorem WP_pure {α : Type} {a : α} {Q : α → sProp 𝕄} : Q a ⊢ WP d c s (pure a) Q := WP_ret

theorem slotFly_succ {k : ℕ} : Flying d c s so outCredit iprop(OPts d c s (n k) J.out ∗ ∃ z, Holds d c s om z) ⊢ SlotFly d c s J n om so (k + 1) :=
  Entails.of_eq rfl

/-- The copy out of the trip before, if there was one, awaited. -/
theorem wp_later (hO : ∀ g, O g none = 0) {ho : om.IsWhole} {l : BitVec 1} {k : ℕ} (hl : l = 1#1 ↔ 1 ≤ k) {α : Type} {p : TileProg F c s α} {Q : α → sProp 𝕄} :
    iprop(Tick d c s O W ∗ SlotFly d c s J n om so k ∗ bigSep (Finset.range (k - 1)) (fun j => OPts d c s (n j) J.out)
        ∗ (Tick d c s O W ∗ (∃ z, Holds d c s om z) ∗ Idle d c s so ∗ bigSep (Finset.range k) (fun j => OPts d c s (n j) J.out) -∗ WP d c s p Q))
      ⊢ WP d c s (if l = 1#1 then awaitOut om ho so >>= fun _ => p else p) Q := by
  cases k with
  | zero =>
    rw [if_neg (by rw [hl]; omega)]
    unfold SlotFly
    iintro ⟨HT, ⟨Hz, Hs⟩, Hb, Hk⟩
    iapply Hk
    isplitl [HT]; · iexact HT
    isplitl [Hz]; · iexact Hz
    isplitl [Hs]; · iexact Hs
    iexact Hb
  | succ k =>
    rw [if_pos (hl.mpr (by omega))]
    unfold SlotFly
    iintro ⟨HT, Hf, Hb, Hk⟩
    iapply WP_bind
    iapply (wp_await hO rfl)
    isplitl [HT]; · iexact HT
    isplitl [Hf]; · iexact Hf
    iintro ⟨HT, ⟨Ho, Hz⟩, Hs⟩
    iapply Hk
    isplitl [HT]; · iexact HT
    isplitl [Hz]; · iexact Hz
    isplitl [Hs]; · iexact Hs
    rw [bigSep_range_succ]
    isplitl [Ho]; · iexact Ho
    iexact Hb

/-- The copies in of the trip after, if there is one, started. -/
theorem wp_more {hx : xm.IsWhole} {hy : ym.IsWhole} {more : BitVec 1} {k : ℕ} (hk : k < 16) (hm : more = 1#1 ↔ k + 1 < 16) (hn : n (k + 1) < 1024 ∨ ¬ k + 1 < 16)
    {o : Fin 2 → ℕ} {h : more = 1#1 → ∀ a, o a + S8x2048.size a ≤ S8192x2048.size a} (ho : o = ![8 * n (k + 1), 0]) {α : Type} {p : TileProg F c s α} {Q : α → sProp 𝕄} :
    iprop((XPts d c s J q ∗ (∃ z, Holds d c s xm z) ∗ Idle d c s sx) ∗ (YPts d c s J q ∗ (∃ z, Holds d c s ym z) ∗ Idle d c s sy)
        ∗ (SlotIn d c s J q n xm ym sx sy (k + 1) -∗ WP d c s p Q))
      ⊢ WP d c s (if hm : more = 1#1 then startIn xV o (h hm) xm hx sx >>= fun _ => startIn yV o (h hm) ym hy sy >>= fun _ => p else p) Q := by
  unfold SlotIn
  by_cases e : k + 1 < 16
  · rw [dif_pos (hm.mpr e), if_pos e]
    have hn := hn.resolve_right (not_not_intro e)
    iintro ⟨⟨Hx, Hxm, Hsx⟩, ⟨Hy, Hym, Hsy⟩, Hk⟩
    iapply WP_bind
    iapply (wp_startIn (m := xV) (q := q) (f := J.x) (chunkOf J.x (n (k + 1))) (fun j => chunkOf_eq (G := J.x) hn ho j))
    isplitl [Hx]; · iexact Hx
    isplitl [Hxm]; · iexact Hxm
    isplitl [Hsx]; · iexact Hsx
    iintro Hfx
    iapply WP_bind
    iapply (wp_startIn (m := yV) (q := q) (f := J.y) (chunkOf J.y (n (k + 1))) (fun j => chunkOf_eq (G := J.y) hn ho j))
    isplitl [Hy]; · iexact Hy
    isplitl [Hym]; · iexact Hym
    isplitl [Hsy]; · iexact Hsy
    iintro Hfy
    iapply Hk
    isplitl [Hfx]; · iexact Hfx
    iexact Hfy
  · rw [dif_neg (mt hm.mp e), if_neg e]
    iintro ⟨Hx, Hy, Hk⟩
    iapply Hk
    isplitl [Hx] <;> iassumption

theorem chunk_eq {hx : xm.IsWhole} {hy : ym.IsWhole} {ho : om.IsWhole} {l more : BitVec 1} {o o' : Fin 2 → ℕ}
    {h : ∀ a, o a + S8x2048.size a ≤ S8192x2048.size a} {h' : more = 1#1 → ∀ a, o' a + S8x2048.size a ≤ S8192x2048.size a} {α : Type} {r : α} :
    (Body.chunk xm hx ym hy om ho sx sy so l o h more o' h' r : TileProg F c s α)
      = awaitIn xV xm hx sx >>= fun _ => awaitIn yV ym hy sy >>= fun _ =>
        let p := Scf.Loop.for zLoop zLoop_ok 0#32 (fun z _ => zeroRows om zeros z.1 z.2 rows) >>= fun _ =>
          Scf.Loop.for gLoop gLoop_ok 0#32 (fun g _ => group wM sM xm ym om g.1 g.2) >>= fun _ =>
          startOut o h om ho so >>= fun _ =>
          if hm : more = 1#1 then startIn xV o' (h' hm) xm hx sx >>= fun _ => startIn yV o' (h' hm) ym hy sy >>= fun _ => pure r else pure r
        if l = 1#1 then awaitOut om ho so >>= fun _ => p else p := rfl

theorem wp_chunk (hO : ∀ g, O g none = 0) (hS : ∀ y, Sc y = J.sc ((y 0).val / 16))
    (hW : ∀ y, WordIs (Wd y) (J.a (y 0).val) (J.b (y 0).val) (J.o (y 0).val))
    {hx : xm.IsWhole} {hy : ym.IsWhole} {ho : om.IsWhole} {f₀ : S8192x2048.Idx → F .f32} {l more : BitVec 1} {k : ℕ} (hk : k < 16)
    (hl : l = 1#1 ↔ 1 ≤ k) (hm : more = 1#1 ↔ k + 1 < 16) (hn : ∀ k < 16, n k < 1024)
    {o o' : Fin 2 → ℕ} {h : ∀ a, o a + S8x2048.size a ≤ S8192x2048.size a} (eo : o = ![8 * n k, 0])
    {h' : more = 1#1 → ∀ a, o' a + S8x2048.size a ≤ S8192x2048.size a} (eo' : o' = ![8 * n (k + 1), 0]) {α : Type} {r : α} {Q : α → sProp 𝕄} :
    iprop(Tick d c s O W ∗ Paths Wd Sc d c s ∗ SlotIn d c s J q n xm ym sx sy k ∗ SlotOut d c s J n om so f₀ k
        ∗ (Tick d c s O W ∗ Paths Wd Sc d c s ∗ SlotIn d c s J q n xm ym sx sy (k + 1) ∗ SlotOut d c s J n om so f₀ (k + 1) -∗ Q r))
      ⊢ WP d c s (Body.chunk xm hx ym hy om ho sx sy so l o h more o' h' r) Q := by
  rw [chunk_eq]
  unfold SlotOut
  rw [show SlotIn d c s J q n xm ym sx sy k = _ from if_pos hk, bigSep_Ico_succ _ hk]
  iintro ⟨HT, ⟨Hw, Hs⟩, ⟨Hfx, Hfy⟩, ⟨Hfly, Hdone, Hnow, Htodo⟩, Hk⟩
  iapply WP_bind
  iapply (wp_await hO rfl)
  isplitl [HT]; · iexact HT
  isplitl [Hfx]; · iexact Hfx
  iintro ⟨HT, ⟨Hxm, Hx⟩, Hsx⟩
  iapply WP_bind
  iapply (wp_await hO rfl)
  isplitl [HT]; · iexact HT
  isplitl [Hfy]; · iexact Hfy
  iintro ⟨HT, ⟨Hym, Hy⟩, Hsy⟩
  iapply (wp_later (J := J) (n := n) hO hl)
  isplitl [HT]; · iexact HT
  isplitl [Hfly]; · iexact Hfly
  isplitl [Hdone]; · iexact Hdone
  iintro ⟨HT, ⟨%z, Hom⟩, Hso, Hdone⟩
  iapply WP_bind
  iapply wp_clear
  isplitl [Hom]; · iexact Hom
  iintro %u Hom
  iapply WP_bind
  iapply (wp_groups (X := chunkOf J.x (n k)) (Y := chunkOf J.y (n k)) hS hW)
  isplitl [Hw]; · iexact Hw
  isplitl [Hs Hxm Hym]
  · isplitl [Hs]; · iexact Hs
    isplitl [Hxm]; · iexact Hxm
    iexact Hym
  isplitl [Hom]; · iexact Hom
  iintro %u' ⟨Hw, ⟨Hs, Hxm, Hym⟩, Hom⟩
  iapply WP_bind
  iapply (wp_startOut (f := f₀) J.out (fun j => J.out_emb (hn k hk) eo j) rfl)
  rw [rowSet_eq eo]
  isplitl [Hnow]; · iexact Hnow
  isplitl [Hom]; · iexact Hom
  isplitl [Hso]; · iexact Hso
  iintro Hfly
  iapply (wp_more (J := J) (q := q) (n := n) hk hm (by by_cases e : k + 1 < 16; · exact .inl (hn _ e)
                                                       exact .inr e) eo')
  isplitl [Hx Hxm Hsx]
  · isplitl [Hx]; · iexact Hx
    isplitl [Hxm]; · iexists _; iexact Hxm
    iexact Hsx
  isplitl [Hy Hym Hsy]
  · isplitl [Hy]; · iexact Hy
    isplitl [Hym]; · iexists _; iexact Hym
    iexact Hsy
  iintro Hin
  iapply WP_pure
  iapply Hk
  isplitl [HT]; · iexact HT
  isplitl [Hw Hs]
  · isplitl [Hw] <;> iassumption
  isplitl [Hin]; · iexact Hin
  isplitl [Hfly]
  · iapply slotFly_succ; iexact Hfly
  isplitl [Hdone]; · iexact Hdone
  iexact Htodo

end Slots

end Cert.Proof.Body
-- ==== Proof.Tile.lean ====
/-
  A tile's whole program.
-/
module

public import proofs.«01_k».proof.Proof.Chunk

@[expose] public section

noncomputable section

namespace Cert.Proof.Body

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The rows of a tile -/

/-- Which tile. -/
abbrev tileNo (i : grid0.Coords) : ℕ := 2 * (i 1).val + (i 0).val

theorem tileNo_lt (i : grid0.Coords) : tileNo i < 32 := by
  have h0 : (i 0).val < 2 := (i 0).isLt
  have h1 : (i 1).val < 16 := (i 1).isLt
  unfold tileNo
  omega

/-- The rows of tile `t`. -/
def tileSet (t : ℕ) : Finset S8192x2048.Idx := Finset.univ.filter fun y => (y 0).val / 256 = t

/-- A tile's chunk in slot `b` of trip `k`. -/
abbrev chunkNo (t b k : ℕ) : ℕ := 32 * t + 2 * k + b

theorem chunkNo_lt {t b k : ℕ} (ht : t < 32) (hb : b < 2) (hk : k < 16) : chunkNo t b k < 1024 := by
  unfold chunkNo
  omega

/-- The rows of a tile's slot. -/
def slotSet (t b : ℕ) : Finset S8192x2048.Idx := Finset.univ.filter fun y => (y 0).val / 256 = t ∧ (y 0).val / 8 % 2 = b

theorem slotSet_subset (t b : ℕ) : slotSet t b ⊆ tileSet t :=
  Finset.monotone_filter_right _ fun _ _ h => h.1

theorem tileSet_sdiff (t : ℕ) : tileSet t \ slotSet t 0 = slotSet t 1 := by
  ext y
  simp only [tileSet, slotSet, Finset.mem_sdiff, Finset.mem_filter, Finset.mem_univ, true_and]
  omega

theorem slotSet_biUnion (t : ℕ) {b : ℕ} (hb : b < 2) : (Finset.range 16).biUnion (fun k => rowSet (chunkNo t b k)) = slotSet t b := by
  ext y
  simp only [rowSet, slotSet, Finset.mem_biUnion, Finset.mem_range, Finset.mem_filter, Finset.mem_univ, true_and, chunkNo]
  constructor
  · rintro ⟨k, hk, h⟩
    omega
  · intro h
    exact ⟨(y 0).val / 8 % 32 / 2, by omega, by omega⟩

section Slots

variable {d : Dev nD} {c : Fin τ.nSC} {s : Fin τ.nSub}

theorem slot_chunks (t : ℕ) {b : ℕ} (hb : b < 2) (f : S8192x2048.Idx → F .f32) :
    (outV.view.loc (V d c s) ↦[slotSet t b]{fullShare} f : sProp 𝕄) = bigSep (Finset.range 16) fun k => OPts d c s (chunkNo t b k) f := by
  rw [← pointsTo_biUnion (Finset.range 16) (ℓ := outV.view.loc (V d c s)) (fun k => rowSet (chunkNo t b k)), slotSet_biUnion t hb]
  intro k _ k' _ hne
  rw [Finset.disjoint_left]
  intro y hy hy'
  have e := (Finset.mem_filter.mp hy).2
  have e' := (Finset.mem_filter.mp hy').2
  unfold chunkNo at e e'
  omega

/-- A tile's rows are its two slots' chunks. -/
theorem tile_chunks (t : ℕ) (f : S8192x2048.Idx → F .f32) :
    (outV.view.loc (V d c s) ↦[tileSet t]{fullShare} f : sProp 𝕄)
      ⊣⊢ iprop((bigSep (Finset.range 16) fun k => OPts d c s (chunkNo t 0 k) f) ∗ bigSep (Finset.range 16) fun k => OPts d c s (chunkNo t 1 k) f) := by
  rw [← slot_chunks t (by decide) f, ← slot_chunks t (by decide) f, ← tileSet_sdiff]
  exact pointsTo_split_subset (slotSet_subset t 0)

variable {O : CellTallies nD τ sig (HIx 1)} {W : Waits sig (HIx 1)}

theorem wp_fetch (hO : ∀ g, O g none = 0) {e : EltTy} {src : Memref sig .scVector .hbm S128 e} {hs : src.IsWhole} {dst : Memref sig .scVector .vmem S128 e}
    {hd : dst.IsWhole} {sem : DmaSems sig S_} {q : PosShare TreeShare} {f : Buf (Elt F) (src.view.loc (V d c s))} (x : S128.Idx → Elt F e)
    (hx : src.view.read (Elt F) f = x) {Q : PUnit → sProp 𝕄} :
    iprop(Tick d c s O W ∗ (src.view.loc (V d c s) ↦{q} f) ∗ (∃ z, Holds d c s dst z) ∗ Idle d c s sem
        ∗ (Tick d c s O W ∗ (src.view.loc (V d c s) ↦{q} f) ∗ Holds d c s dst x ∗ Idle d c s sem -∗ Q ⟨⟩))
      ⊢ WP d c s (fetch src hs dst hd sem) Q := by
  unfold fetch
  iintro ⟨HT, Hm, Hz, Hs, Hk⟩
  iapply WP_bind
  unfold Holds
  icases Hz with ⟨%z, %g, -, Hd⟩
  have hsrc : src.view.set = Finset.univ := hs.set_eq_univ
  iapply (Transfers.wp_dmaLocal countersEmb 𝒱₀ (V d c s) none (default : HIx 1) (q := q) (fs := f) dst.view.dmaCredit rfl
    (View.dmaCredit_pos _ (by decide +kernel)) (Finset.subset_univ _)) $$ [Hm Hd Hs]
  · isplitl [Hm]
    · rw [hsrc]; iexact Hm
    isplitl [Hd]; · iexact Hd
    iexact Hs
  iintro Hf
  iapply WP_ret
  iapply (wp_await hO rfl)
  isplitl [HT]; · iexact HT
  isplitl [Hf]; · iexact Hf
  iintro ⟨HT, ⟨Hd, Hm⟩, Hs⟩
  iapply Hk
  isplitl [HT]; · iexact HT
  isplitl [Hm]
  · rw [hsrc]; iexact Hm
  isplitl [Hd]
  · iexists _
    isplitr
    swap; · iexact Hd
    ipureintro
    rw [View.read_write_univ]
    exact hx
  iexact Hs

/-- After the last trip nothing is on its way in. -/
theorem slotIn_end {J : Job F} {q : PosShare TreeShare} {n : ℕ → ℕ} {xm ym : Memref sig .scVector .vmem S8x2048 .f32} {sx sy : DmaSems sig S_} :
    SlotIn d c s J q n xm ym sx sy 16
      ⊢ iprop((XPts d c s J q ∗ (∃ z, Holds d c s xm z) ∗ Idle d c s sx) ∗ (YPts d c s J q ∗ (∃ z, Holds d c s ym z) ∗ Idle d c s sy)) :=
  Entails.of_eq (if_neg (by decide))

/-- The last copy out of a slot, awaited. -/
theorem wp_slotEnd (hO : ∀ g, O g none = 0) {J : Job F} {n : ℕ → ℕ} {om : Memref sig .scVector .vmem S8x2048 .f32} {ho : om.IsWhole} {so : DmaSems sig S_}
    {f₀ : S8192x2048.Idx → F .f32} {Q : PUnit → sProp 𝕄} :
    iprop(Tick d c s O W ∗ SlotOut d c s J n om so f₀ 16
        ∗ (Tick d c s O W ∗ (∃ z, Holds d c s om z) ∗ Idle d c s so ∗ bigSep (Finset.range 16) (fun j => OPts d c s (n j) J.out) -∗ Q ⟨⟩))
      ⊢ WP d c s (awaitOut om ho so) Q := by
  unfold SlotOut SlotFly
  iintro ⟨HT, ⟨Hf, Hdone, -⟩, Hk⟩
  iapply (wp_await hO rfl)
  isplitl [HT]; · iexact HT
  isplitl [Hf]; · iexact Hf
  iintro ⟨HT, ⟨Ho, Hz⟩, Hs⟩
  iapply Hk
  isplitl [HT]; · iexact HT
  isplitl [Hz]; · iexact Hz
  isplitl [Hs]; · iexact Hs
  iapply (Entails.of_eq (bigSep_range_succ (fun j => OPts d c s (n j) J.out) 15).symm)
  isplitl [Ho]; · iexact Ho
  iexact Hdone

end Slots

theorem t1_trips : k0_t1_loop.trips = 16 := by decide +kernel
theorem later_iff : ∀ k : Fin k0_t1_loop.trips, later (Scf.iv 0#32 1#32 k.1) = 1#1 ↔ 1 ≤ k.1 := by decide +kernel
theorem cond2_iff : ∀ k : Fin k0_t1_loop.trips, k0_cond2 k = 1#1 ↔ k.1 + 1 < 16 := by decide +kernel
theorem cond4_iff : ∀ k : Fin k0_t1_loop.trips, k0_cond4 k = 1#1 ↔ k.1 + 1 < 16 := by decide +kernel

section Tile

variable (d : Dev nD) (i : grid0.Coords)

abbrev cOf (i : grid0.Coords) : Fin τ.nSC := (i 0).castLE hcore0
abbrev sOf (i : grid0.Coords) : Fin τ.nSub := (i 1).castLE hsub0

/-- A big scratch buffer. -/
abbrev Room (m : Memref sig .scVector .vmem S8x2048 .f32) : sProp 𝕄 := iprop(∃ z, Holds (F := F) d (cOf i) (sOf i) m z)

variable (J : Job F) (q : PosShare TreeShare)

/-- What the pipelined part takes and hands back, but for the output. -/
def Gear : sProp 𝕄 :=
  iprop(((XPts d (cOf i) (sOf i) J q.left ∗ Room (F := F) d i x0M ∗ Idle d (cOf i) (sOf i) cc0_scratch11)
      ∗ (YPts d (cOf i) (sOf i) J q.left ∗ Room (F := F) d i y0M ∗ Idle d (cOf i) (sOf i) cc0_scratch13))
    ∗ ((XPts d (cOf i) (sOf i) J q.right ∗ Room (F := F) d i x1M ∗ Idle d (cOf i) (sOf i) cc0_scratch12)
      ∗ (YPts d (cOf i) (sOf i) J q.right ∗ Room (F := F) d i y1M ∗ Idle d (cOf i) (sOf i) cc0_scratch14))
    ∗ (Room (F := F) d i o0M ∗ Idle d (cOf i) (sOf i) cc0_scratch15) ∗ (Room (F := F) d i o1M ∗ Idle d (cOf i) (sOf i) cc0_scratch16))

variable {d i J q} {O : CellTallies nD τ sig (HIx 1)} {W : Waits sig (HIx 1)} {Wd : S128.Idx → BitVec 32} {Sc : S2048.Idx → F .f32}

theorem off411 (k : Fin k0_t1_loop.trips) (b : Fin 2) : k0_off411 i k (BitVec.ofNat 32 b.val) = ![8 * chunkNo (tileNo i) b.val k.val, 0] :=
  (k0_off411_eq i k b).trans (congrArg (fun n : ℕ => (![n, 0] : Fin 2 → ℕ)) (by unfold chunkNo tileNo; omega))

theorem wp_trip (hO : ∀ g, O g none = 0) (hS : ∀ y, Sc y = J.sc ((y 0).val / 16))
    (hW : ∀ y, WordIs (Wd y) (J.a (y 0).val) (J.b (y 0).val) (J.o (y 0).val)) {f₀ : S8192x2048.Idx → F .f32} (k : Fin k0_t1_loop.trips) :
    iprop(Tick d (cOf i) (sOf i) O W ∗ Paths Wd Sc d (cOf i) (sOf i)
        ∗ (SlotIn d (cOf i) (sOf i) J q.left (chunkNo (tileNo i) 0) x0M y0M cc0_scratch11 cc0_scratch13 k.1
          ∗ SlotOut d (cOf i) (sOf i) J (chunkNo (tileNo i) 0) o0M cc0_scratch15 f₀ k.1)
        ∗ (SlotIn d (cOf i) (sOf i) J q.right (chunkNo (tileNo i) 1) x1M y1M cc0_scratch12 cc0_scratch14 k.1
          ∗ SlotOut d (cOf i) (sOf i) J (chunkNo (tileNo i) 1) o1M cc0_scratch16 f₀ k.1))
      ⊢ WP d (cOf i) (sOf i) (do
          let x ← chunk x0M (Memref.isWhole_whole _) y0M (Memref.isWhole_whole _) o0M (Memref.isWhole_whole _) cc0_scratch11 cc0_scratch13 cc0_scratch15
            (later (Scf.iv 0#32 1#32 k.1)) (k0_off411 i k 0#32) (k0_off411_inb i k 0) (k0_cond2 k) (k0_off412 i k) (k0_off412_inb i k)
            (⟨Scf.iv 0#32 1#32 k.1, Scalar.addi (Scalar.muli 2#32 (Scf.iv 0#32 1#32 k.1)) 1#32⟩ : Σ' (_ : BitVec 32), BitVec 32)
          chunk x1M (Memref.isWhole_whole _) y1M (Memref.isWhole_whole _) o1M (Memref.isWhole_whole _) cc0_scratch12 cc0_scratch14 cc0_scratch16
            (later x.1) (k0_off411 i k 1#32) (k0_off411_inb i k 1) (k0_cond4 k) (k0_off822 i k) (k0_off822_inb i k) 0#32)
        fun _ => iprop(Tick d (cOf i) (sOf i) O W ∗ Paths Wd Sc d (cOf i) (sOf i)
          ∗ (SlotIn d (cOf i) (sOf i) J q.left (chunkNo (tileNo i) 0) x0M y0M cc0_scratch11 cc0_scratch13 (k.1 + 1)
            ∗ SlotOut d (cOf i) (sOf i) J (chunkNo (tileNo i) 0) o0M cc0_scratch15 f₀ (k.1 + 1))
          ∗ (SlotIn d (cOf i) (sOf i) J q.right (chunkNo (tileNo i) 1) x1M y1M cc0_scratch12 cc0_scratch14 (k.1 + 1)
            ∗ SlotOut d (cOf i) (sOf i) J (chunkNo (tileNo i) 1) o1M cc0_scratch16 f₀ (k.1 + 1))) := by
  have hk : k.1 < 16 := t1_trips ▸ k.2
  iintro ⟨HT, HP, ⟨Hi0, Ho0⟩, ⟨Hi1, Ho1⟩⟩
  iapply WP_bind
  iapply (wp_chunk (J := J) (n := chunkNo (tileNo i) 0) hO hS hW hk (later_iff k) (cond2_iff k) (fun k hk => chunkNo_lt (tileNo_lt i) (by decide) hk)
    (off411 k 0) ((k0_off412_eq i k).trans (congrArg (fun n : ℕ => (![n, 0] : Fin 2 → ℕ)) (by unfold chunkNo tileNo; omega))))
  isplitl [HT]; · iexact HT
  isplitl [HP]; · iexact HP
  isplitl [Hi0]; · iexact Hi0
  isplitl [Ho0]; · iexact Ho0
  iintro ⟨HT, HP, Hi0, Ho0⟩
  iapply (wp_chunk (J := J) (n := chunkNo (tileNo i) 1) hO hS hW hk (later_iff k) (cond4_iff k) (fun k hk => chunkNo_lt (tileNo_lt i) (by decide) hk)
    (off411 k 1) ((k0_off822_eq i k).trans (congrArg (fun n : ℕ => (![n, 0] : Fin 2 → ℕ)) (by unfold chunkNo tileNo; omega))))
  isplitl [HT]; · iexact HT
  isplitl [HP]; · iexact HP
  isplitl [Hi1]; · iexact Hi1
  isplitl [Ho1]; · iexact Ho1
  iintro ⟨HT, HP, Hi1, Ho1⟩
  isplitl [HT]; · iexact HT
  isplitl [HP]; · iexact HP
  isplitl [Hi0 Ho0]
  · isplitl [Hi0]; · iexact Hi0
    iexact Ho0
  isplitl [Hi1]; · iexact Hi1
  iexact Ho1

/-- The first copies in of a slot. -/
theorem wp_slotStart {d : Dev nD} {c : Fin τ.nSC} {s : Fin τ.nSub} {n : ℕ → ℕ} {xm ym : Memref sig .scVector .vmem S8x2048 .f32} {sx sy : DmaSems sig S_}
    {hx : xm.IsWhole} {hy : ym.IsWhole} (hn : n 0 < 1024) {o : Fin 2 → ℕ} {h : ∀ a, o a + S8x2048.size a ≤ S8192x2048.size a} (ho : o = ![8 * n 0, 0])
    {α : Type} {p : TileProg F c s α} {Q : α → sProp 𝕄} :
    iprop(((XPts d c s J q ∗ (∃ z, Holds d c s xm z) ∗ Idle d c s sx) ∗ (YPts d c s J q ∗ (∃ z, Holds d c s ym z) ∗ Idle d c s sy))
        ∗ (SlotIn d c s J q n xm ym sx sy 0 -∗ WP d c s p Q))
      ⊢ WP d c s (startIn xV o h xm hx sx >>= fun _ => startIn yV o h ym hy sy >>= fun _ => p) Q := by
  unfold SlotIn
  rw [if_pos (by decide)]
  iintro ⟨⟨⟨Hx, Hxm, Hsx⟩, ⟨Hy, Hym, Hsy⟩⟩, Hk⟩
  iapply WP_bind
  iapply (wp_startIn (m := xV) (q := q) (f := J.x) (chunkOf J.x (n 0)) (fun j => chunkOf_eq (G := J.x) hn ho j))
  isplitl [Hx]; · iexact Hx
  isplitl [Hxm]; · iexact Hxm
  isplitl [Hsx]; · iexact Hsx
  iintro Hfx
  iapply WP_bind
  iapply (wp_startIn (m := yV) (q := q) (f := J.y) (chunkOf J.y (n 0)) (fun j => chunkOf_eq (G := J.y) hn ho j))
  isplitl [Hy]; · iexact Hy
  isplitl [Hym]; · iexact Hym
  isplitl [Hsy]; · iexact Hsy
  iintro Hfy
  iapply Hk
  isplitl [Hfx]; · iexact Hfx
  iexact Hfy

theorem wp_pipelined (hO : ∀ g, O g none = 0) (hS : ∀ y, Sc y = J.sc ((y 0).val / 16))
    (hW : ∀ y, WordIs (Wd y) (J.a (y 0).val) (J.b (y 0).val) (J.o (y 0).val)) {f₀ : S8192x2048.Idx → F .f32} {Q : PUnit → sProp 𝕄} :
    iprop(Tick d (cOf i) (sOf i) O W ∗ Paths Wd Sc d (cOf i) (sOf i) ∗ Gear d i J q ∗ (outV.view.loc (V d (cOf i) (sOf i)) ↦[tileSet (tileNo i)]{fullShare} f₀)
        ∗ (Tick d (cOf i) (sOf i) O W ∗ Paths Wd Sc d (cOf i) (sOf i) ∗ Gear d i J q
          ∗ (outV.view.loc (V d (cOf i) (sOf i)) ↦[tileSet (tileNo i)]{fullShare} J.out) -∗ Q ⟨⟩))
      ⊢ WP d (cOf i) (sOf i) (pipelined i) Q := by
  unfold pipelined Gear
  iintro ⟨HT, HP, ⟨H0, H1, ⟨Hz0, Hs0⟩, ⟨Hz1, Hs1⟩⟩, Ho, Hk⟩
  ihave Ho' := (tile_chunks (tileNo i) f₀).1 $$ Ho
  icases Ho' with ⟨Ho0, Ho1⟩
  iapply (wp_slotStart (J := J) (n := chunkNo (tileNo i) 0) (chunkNo_lt (tileNo_lt i) (by decide) (by decide))
    ((k0_off1_eq i 0).trans (congrArg (fun n : ℕ => (![n, 0] : Fin 2 → ℕ)) (by unfold chunkNo tileNo; simp only [Fin.val_zero]; omega))))
  isplitl [H0]; · iexact H0
  iintro Hi0
  iapply (wp_slotStart (J := J) (n := chunkNo (tileNo i) 1) (chunkNo_lt (tileNo_lt i) (by decide) (by decide))
    ((k0_off1_eq i 1).trans (congrArg (fun n : ℕ => (![n, 0] : Fin 2 → ℕ)) (by unfold chunkNo tileNo; simp only [Fin.val_one]; omega))))
  isplitl [H1]; · iexact H1
  iintro Hi1
  iapply WP_bind
  iapply (Scf.wp_for _ _ _ _ _ _ k0_t1_ok _ _
    (fun k _ => iprop(Tick d (cOf i) (sOf i) O W ∗ Paths Wd Sc d (cOf i) (sOf i)
        ∗ (SlotIn d (cOf i) (sOf i) J q.left (chunkNo (tileNo i) 0) x0M y0M cc0_scratch11 cc0_scratch13 k
          ∗ SlotOut d (cOf i) (sOf i) J (chunkNo (tileNo i) 0) o0M cc0_scratch15 f₀ k)
        ∗ (SlotIn d (cOf i) (sOf i) J q.right (chunkNo (tileNo i) 1) x1M y1M cc0_scratch12 cc0_scratch14 k
          ∗ SlotOut d (cOf i) (sOf i) J (chunkNo (tileNo i) 1) o1M cc0_scratch16 f₀ k)))
    (fun k _ => wp_trip hO hS hW k))
  isplitl [HT HP Hi0 Hi1 Ho0 Ho1 Hz0 Hs0 Hz1 Hs1]
  · isplitl [HT]; · iexact HT
    isplitl [HP]; · iexact HP
    unfold SlotOut SlotFly
    isplitl [Hi0 Ho0 Hz0 Hs0]
    · isplitl [Hi0]; · iexact Hi0
      isplitl [Hz0 Hs0]
      · isplitl [Hz0]; · iexact Hz0
        iexact Hs0
      isplitr
      · rw [show Finset.range (0 - 1) = ∅ from rfl, bigSep_empty]; iempintro
      rw [← Finset.range_eq_Ico]
      iexact Ho0
    isplitl [Hi1]; · iexact Hi1
    isplitl [Hz1 Hs1]
    · isplitl [Hz1]; · iexact Hz1
      iexact Hs1
    isplitr
    · rw [show Finset.range (0 - 1) = ∅ from rfl, bigSep_empty]; iempintro
    rw [← Finset.range_eq_Ico]
    iexact Ho1
  iintro %u H
  rw [show Scf.trips k0_t1_loop.lb k0_t1_loop.ub k0_t1_loop.st = 16 from t1_trips]
  icases H with ⟨HT, HP, ⟨Hi0, Ho0⟩, ⟨Hi1, Ho1⟩⟩
  iapply WP_bind
  iapply (wp_slotEnd (J := J) (n := chunkNo (tileNo i) 0) (f₀ := f₀) hO)
  isplitl [HT]; · iexact HT
  isplitl [Ho0]; · iexact Ho0
  iintro ⟨HT, Hz0, Hs0, Ho0⟩
  iapply WP_bind
  iapply (wp_slotEnd (J := J) (n := chunkNo (tileNo i) 1) (f₀ := f₀) hO)
  isplitl [HT]; · iexact HT
  isplitl [Ho1]; · iexact Ho1
  iintro ⟨HT, Hz1, Hs1, Ho1⟩
  iapply WP_pure
  iapply Hk
  isplitl [HT]; · iexact HT
  isplitl [HP]; · iexact HP
  isplitr [Ho0 Ho1]
  · isplitl [Hi0]; · iapply slotIn_end; iexact Hi0
    isplitl [Hi1]; · iapply slotIn_end; iexact Hi1
    isplitl [Hz0 Hs0]
    · isplitl [Hz0]; · iexact Hz0
      iexact Hs0
    isplitl [Hz1]; · iexact Hz1
    iexact Hs1
  iapply (tile_chunks (tileNo i) J.out).2
  isplitl [Ho0]; · iexact Ho0
  iexact Ho1

end Tile

end Cert.Proof.Body
-- ==== Proof.Task.lean ====
/-
  A tile's task: its whole program between the buffers and cells that are its own and the parts of the arrays it is given.
-/
module

public import proofs.«01_k».proof.Proof.Tile

@[expose] public section

noncomputable section

namespace Cert.Proof.Body

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arguments -/

/-- The kernel's arguments as it is called: the two big arrays flattened, the scales, the three index vectors. -/
structure Args (F : FTy → Type) where
  x : S8192x2048.Idx → F .f32
  y : S8192x2048.Idx → F .f32
  scale : S128.Idx → F .f32
  i1 : S128.Idx → BitVec 32
  i2 : S128.Idx → BitVec 32
  io : S128.Idx → BitVec 32

/-- Place `n` of a vector of 128, for any `n`. -/
abbrev wrap (n : ℕ) : S128.Idx := place (n % 128) (Nat.mod_lt _ (by decide))

theorem wrap_eq (y : S128.Idx) : wrap (y 0).val = y := funext fun a => match a with
  | 0 => Fin.ext (Nat.mod_eq_of_lt (y 0).isLt)

/-- The block a word of an index vector names. -/
abbrev blockNo (v : S128.Idx → BitVec 32) (n : ℕ) : Fin 64 := ⟨(v (wrap n)).toNat % 64, Nat.mod_lt _ (by decide)⟩

/-- What the kernel computes from, of its arguments. -/
def Args.job (A : Args F) : Job F where
  x := A.x
  y := A.y
  a := blockNo A.i1
  b := blockNo A.i2
  o := blockNo A.io
  sc n := FloatOps.addf zero (A.scale (wrap n))

/-- Every index names a block. -/
def Args.OK (A : Args F) : Prop := (∀ j, (A.i1 j).toNat < 64) ∧ (∀ j, (A.i2 j).toNat < 64) ∧ ∀ j, (A.io j).toNat < 64

theorem Args.words {A : Args F} (h : A.OK) (y : S128.Idx) :
    WordIs (packedAt A.i1 A.i2 A.io y) (A.job.a (y 0).val) (A.job.b (y 0).val) (A.job.o (y 0).val) := by
  have e {v : S128.Idx → BitVec 32} (hv : ∀ j, (v j).toNat < 64) : (v y).toNat = (blockNo v (y 0).val).val := by
    show _ = (v (wrap (y 0).val)).toNat % 64
    rw [wrap_eq, Nat.mod_eq_of_lt (hv y)]
  exact wordIs_pack (e h.1) (e h.2.1) (e h.2.2)

theorem Args.scales (A : Args F) (y : S2048.Idx) : spreadOf A.scale y = A.job.sc ((y 0).val / 16) := by
  refine congrArg (FloatOps.addf zero) (congrArg A.scale (funext fun a => ?_))
  match a with
  | 0 => exact Fin.ext (Nat.mod_eq_of_lt (spread_lt y)).symm

section Task

variable (d : Dev nD) (i : grid0.Coords) (A : Args F) (q : PosShare TreeShare)

/-- A tile's shares of the small arrays, -/
def Small : sProp 𝕄 :=
  iprop((i1V.view.loc (V d (cOf i) (sOf i)) ↦{q} A.i1) ∗ (i2V.view.loc (V d (cOf i) (sOf i)) ↦{q} A.i2)
    ∗ (ioV.view.loc (V d (cOf i) (sOf i)) ↦{q} A.io) ∗ (scaleV.view.loc (V d (cOf i) (sOf i)) ↦{q} A.scale))

/-- and what it takes them in with. -/
def Desk : sProp 𝕄 :=
  iprop(((∃ z, Holds (F := F) d (cOf i) (sOf i) wM z) ∗ Idle d (cOf i) (sOf i) cc0_scoped0)
    ∗ ((∃ z, Holds (F := F) d (cOf i) (sOf i) bM z) ∗ Idle d (cOf i) (sOf i) cc0_scoped1)
    ∗ ((∃ z, Holds (F := F) d (cOf i) (sOf i) oM z) ∗ Idle d (cOf i) (sOf i) cc0_scoped2)
    ∗ ((∃ z, Holds (F := F) d (cOf i) (sOf i) fM z) ∗ Idle d (cOf i) (sOf i) cc0_scoped3)
    ∗ ∃ z, Holds (F := F) d (cOf i) (sOf i) sM z)

variable {d i A q} {O : CellTallies nD τ sig (HIx 1)} {W : Waits sig (HIx 1)}

theorem wp_body (hO : ∀ g, O g none = 0) (hA : A.OK) {f₀ : S8192x2048.Idx → F .f32} {Q : PUnit → sProp 𝕄} :
    iprop(Tick d (cOf i) (sOf i) O W ∗ Small d i A q ∗ Desk (F := F) d i ∗ Gear d i A.job q ∗ (outV.view.loc (V d (cOf i) (sOf i)) ↦[tileSet (tileNo i)]{fullShare} f₀)
        ∗ (Tick d (cOf i) (sOf i) O W ∗ Small d i A q ∗ Desk (F := F) d i ∗ Gear d i A.job q
          ∗ (outV.view.loc (V d (cOf i) (sOf i)) ↦[tileSet (tileNo i)]{fullShare} A.job.out) -∗ Q ⟨⟩))
      ⊢ WP d (cOf i) (sOf i) (body i) Q := by
  unfold body Small Desk
  iintro ⟨HT, ⟨H1, H2, H3, H4⟩, ⟨⟨Hw, Hs0⟩, ⟨Hb, Hs1⟩, ⟨Ho, Hs2⟩, ⟨Hf, Hs3⟩, %z, Hsp⟩, HG, Hout, Hk⟩
  iapply WP_bind
  iapply (wp_fetch hO A.i1 rfl)
  isplitl [HT]; · iexact HT
  isplitl [H1]; · iexact H1
  isplitl [Hw]; · iexact Hw
  isplitl [Hs0]; · iexact Hs0
  iintro ⟨HT, H1, Hw, Hs0⟩
  iapply WP_bind
  iapply (wp_fetch hO A.i2 rfl)
  isplitl [HT]; · iexact HT
  isplitl [H2]; · iexact H2
  isplitl [Hb]; · iexact Hb
  isplitl [Hs1]; · iexact Hs1
  iintro ⟨HT, H2, Hb, Hs1⟩
  iapply WP_bind
  iapply (wp_fetch hO A.io rfl)
  isplitl [HT]; · iexact HT
  isplitl [H3]; · iexact H3
  isplitl [Ho]; · iexact Ho
  isplitl [Hs2]; · iexact Hs2
  iintro ⟨HT, H3, Ho, Hs2⟩
  iapply WP_bind
  iapply (wp_fetch hO A.scale rfl)
  isplitl [HT]; · iexact HT
  isplitl [H4]; · iexact H4
  isplitl [Hf]; · iexact Hf
  isplitl [Hs3]; · iexact Hs3
  iintro ⟨HT, H4, Hf, Hs3⟩
  iapply (wp_prepAll (a := A.i1) (b := A.i2) (o := A.io) (f := A.scale))
  isplitl [Hw]; · iexact Hw
  isplitl [Hb Ho Hf]
  · isplitl [Hb]; · iexact Hb
    isplitl [Ho]; · iexact Ho
    iexact Hf
  isplitl [Hsp]; · iexact Hsp
  iintro ⟨Hw, ⟨Hb, Ho, Hf⟩, Hsp⟩
  iapply (wp_pipelined (J := A.job) (q := q) (f₀ := f₀) hO A.scales (Args.words hA))
  isplitl [HT]; · iexact HT
  isplitl [Hw Hsp]
  · isplitl [Hw]; · iexact Hw
    iexact Hsp
  isplitl [HG]; · iexact HG
  isplitl [Hout]; · iexact Hout
  iintro ⟨HT, ⟨Hw, Hsp⟩, HG, Hout⟩
  iapply Hk
  isplitl [HT]; · iexact HT
  isplitl [H1 H2 H3 H4]
  · isplitl [H1]; · iexact H1
    isplitl [H2]; · iexact H2
    isplitl [H3]; · iexact H3
    iexact H4
  isplitr [HG Hout]
  · isplitl [Hw Hs0]
    · isplitl [Hw]; · iexists _; iexact Hw
      iexact Hs0
    isplitl [Hb Hs1]
    · isplitl [Hb]; · iexists _; iexact Hb
      iexact Hs1
    isplitl [Ho Hs2]
    · isplitl [Ho]; · iexists _; iexact Ho
      iexact Hs2
    isplitl [Hf Hs3]
    · isplitl [Hf]; · iexists _; iexact Hf
      iexact Hs3
    iexists _; iexact Hsp
  isplitl [HG]; · iexact HG
  iexact Hout

/-! ## The tile's own buffers and cells -/

/-- A separating product over a set, some members of it named first. -/
theorem bigSep_list {I ι : Type} [DecidableEq I] {Φ : I → sProp 𝕄} (g : ι → I) :
    ∀ (l : List ι) (t : Finset I), (l.map g).Nodup → (∀ i ∈ l, g i ∈ t) →
      ∃ r : Finset I, bigSep t Φ = l.foldr (fun i P => iprop(Φ (g i) ∗ P)) (bigSep r Φ)
  | [], t, _, _ => ⟨t, rfl⟩
  | i :: l, t, hn, ht => by
    obtain ⟨hi, hn⟩ := List.nodup_cons.mp hn
    obtain ⟨r, hr⟩ := bigSep_list g l (t.erase (g i)) hn fun j hj =>
      Finset.mem_erase.mpr ⟨fun e => hi (e ▸ List.mem_map_of_mem hj), ht j (List.mem_cons_of_mem _ hj)⟩
    exact ⟨r, by rw [SparseCore.bigSep_erase' (ht i List.mem_cons_self), hr]; rfl⟩

/-- The cells of a tile that the program names. -/
abbrev sems : List (DmaSems sig S_) :=
  [cc0_scoped0, cc0_scoped1, cc0_scoped2, cc0_scoped3, cc0_scratch11, cc0_scratch12, cc0_scratch13, cc0_scratch14, cc0_scratch15, cc0_scratch16]

/-- The buffers of a tile. -/
abbrev bufs : List (Ref sig .scVector) :=
  [cc0_scratch0, cc0_scratch1, cc0_scratch2, cc0_scratch3, cc0_scratch4, cc0_scratch5, cc0_scratch6, cc0_scratch7, cc0_scratch8, cc0_scratch9, cc0_scratch10]

theorem sems_split (c : Fin τ.nSC) (s : Fin τ.nSub) :
    ∃ r, (ownSems0 (V d c s) : sProp 𝕄) = sems.foldr (fun m P => iprop(Idle d c s m ∗ P)) (bigSep r fun g => semVal g 0) := by
  refine bigSep_list (fun m : DmaSems sig S_ => ((V d c s, .dma m.sem) : GSem nD τ sig)) sems (ownCells (V d c s)) ?_ ?_
  · have h : (sems.map fun m => (SemLoc.dma m.sem : SemLoc sig)).Nodup := by decide
    have h' := h.map (f := fun m => ((V d c s, m) : GSem nD τ sig)) fun _ _ e => (Prod.mk.inj e).2
    rwa [List.map_map] at h'
  · have h : ∀ m ∈ sems, (SemLoc.dma m.sem : SemLoc sig).isScoped .scVector = true := by decide
    exact fun m hm => mem_ownCells.mpr ⟨rfl, h m hm⟩

theorem bufs_split (c : Fin τ.nSC) (s : Fin τ.nSub) :
    ∃ r : Finset (DevRef τ sig), (ownBufs (V d c s) : sProp 𝕄)
      = bufs.foldr (fun b P => iprop((∃ f, (V d c s).loc b ↦{fullShare} f) ∗ P)) (bigSep r fun b => iprop(∃ f, ((d, b) : Loc nD τ sig) ↦{fullShare} f)) := by
  refine bigSep_list (fun b : Ref sig .scVector => (Proc.scVector c s).devRef b) bufs (ownRefs (.scVector c s)) ?_ ?_
  · exact (show bufs.Nodup by decide).map (Proc.devRef_injective (Proc.scVector c s))
  · have h : ∀ b ∈ bufs, b.isScoped = true := by decide
    intro b hb
    refine SparseCore.Cfg.mem_ownRefs_of_owner ?_
    fin_cases hb <;> rfl

theorem room_in {b : Ref sig .scVector} {c : Fin τ.nSC} {s : Fin τ.nSub} :
    iprop(∃ f, (V d c s).loc b ↦{fullShare} f) ⊢ (iprop(∃ z, Holds (F := F) d c s (Memref.whole b) z) : sProp 𝕄) := by
  unfold Holds
  iintro ⟨%f, H⟩
  iexists _
  iexists f
  isplitr
  · ipureintro; rfl
  iexact H

theorem room_out {b : Ref sig .scVector} {c : Fin τ.nSC} {s : Fin τ.nSub} :
    iprop(∃ z, Holds (F := F) d c s (Memref.whole b) z) ⊢ (iprop(∃ f, (V d c s).loc b ↦{fullShare} f) : sProp 𝕄) := by
  unfold Holds
  iintro ⟨%z, %f, -, H⟩
  iexists f
  iexact H

theorem room {b : Ref sig .scVector} {c : Fin τ.nSC} {s : Fin τ.nSub} :
    (iprop(∃ f, (V d c s).loc b ↦{fullShare} f) : sProp 𝕄) = iprop(∃ z, Holds (F := F) d c s (Memref.whole b) z) :=
  Entails.antisymm room_in room_out

variable (d i A q)

/-- What a tile is given, and gives back with `f` the output. -/
def Hand (f : S8192x2048.Idx → F .f32) : sProp 𝕄 :=
  iprop((xV.view.loc (V d (cOf i) (sOf i)) ↦{q} A.x) ∗ (yV.view.loc (V d (cOf i) (sOf i)) ↦{q} A.y) ∗ Small d i A q
    ∗ (outV.view.loc (V d (cOf i) (sOf i)) ↦[tileSet (tileNo i)]{fullShare} f))

variable {d i A q}

/-- The rest of a tile's buffers and cells are left alone. -/
theorem gear_split : ∃ R : sProp 𝕄, ∀ J : Job F,
    iprop((XPts d (cOf i) (sOf i) J q ∗ YPts d (cOf i) (sOf i) J q) ∗ ownBufs (V d (cOf i) (sOf i)) ∗ ownSems0 (V d (cOf i) (sOf i)))
      ⊣⊢ iprop(Desk (F := F) d i ∗ Gear d i J q ∗ R) := by
  obtain ⟨rs, hs⟩ := sems_split (F := F) (d := d) (cOf i) (sOf i)
  obtain ⟨rb, hb⟩ := bufs_split (F := F) (d := d) (cOf i) (sOf i)
  refine ⟨iprop(bigSep rs (fun g => semVal g 0) ∗ bigSep rb fun b => iprop(∃ f, ((d, b) : Loc nD τ sig) ↦{fullShare} f)), fun J => ?_⟩
  rw [hs, hb]
  simp only [List.foldr, room]
  unfold XPts YPts Desk Gear
  have ex := pointsTo_share (ℓ := xV.view.loc (V d (cOf i) (sOf i))) (I := Finset.univ) (f := J.x) (PosShare.mem_left_op_right q) (Val := Elt F) (Ix := HIx 1) (Name := ℕ) (U := UU) (Lvl := ℕ)
  have ey := pointsTo_share (ℓ := yV.view.loc (V d (cOf i) (sOf i))) (I := Finset.univ) (f := J.y) (PosShare.mem_left_op_right q) (Val := Elt F) (Ix := HIx 1) (Name := ℕ) (U := UU) (Lvl := ℕ)
  rw [Entails.antisymm ex.1 ex.2, Entails.antisymm ey.1 ey.2]
  constructor
  · iintro ⟨⟨⟨Hxl, Hxr⟩, ⟨Hyl, Hyr⟩⟩, ⟨H0, H1, H2, H3, H4, H5, H6, H7, H8, H9, H10, Hrb⟩, ⟨G0, G1, G2, G3, G11, G12, G13, G14, G15, G16, Hrs⟩⟩
    isplitl [H0 H1 H2 H3 H4 G0 G1 G2 G3]
    · isplitl [H0 G0]; · isplitl [H0] <;> iassumption
      isplitl [H1 G1]; · isplitl [H1] <;> iassumption
      isplitl [H2 G2]; · isplitl [H2] <;> iassumption
      isplitl [H3 G3]; · isplitl [H3] <;> iassumption
      iexact H4
    isplitr [Hrb Hrs]
    · isplitl [Hxl H5 G11 Hyl H7 G13]
      · isplitl [Hxl H5 G11]
        · isplitl [Hxl]; · iexact Hxl
          isplitl [H5] <;> iassumption
        isplitl [Hyl]; · iexact Hyl
        isplitl [H7] <;> iassumption
      isplitl [Hxr H6 G12 Hyr H8 G14]
      · isplitl [Hxr H6 G12]
        · isplitl [Hxr]; · iexact Hxr
          isplitl [H6] <;> iassumption
        isplitl [Hyr]; · iexact Hyr
        isplitl [H8] <;> iassumption
      isplitl [H9 G15]; · isplitl [H9] <;> iassumption
      isplitl [H10] <;> iassumption
    isplitl [Hrs] <;> iassumption
  · iintro ⟨⟨⟨H0, G0⟩, ⟨H1, G1⟩, ⟨H2, G2⟩, ⟨H3, G3⟩, H4⟩, ⟨⟨⟨Hxl, H5, G11⟩, ⟨Hyl, H7, G13⟩⟩, ⟨⟨Hxr, H6, G12⟩, ⟨Hyr, H8, G14⟩⟩, ⟨H9, G15⟩, ⟨H10, G16⟩⟩, ⟨Hrs, Hrb⟩⟩
    isplitl [Hxl Hxr Hyl Hyr]
    · isplitl [Hxl Hxr]; · isplitl [Hxl] <;> iassumption
      isplitl [Hyl] <;> iassumption
    isplitl [H0 H1 H2 H3 H4 H5 H6 H7 H8 H9 H10 Hrb]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact Hrb
    isplitl [G0]; · iexact G0
    isplitl [G1]; · iexact G1
    isplitl [G2]; · iexact G2
    isplitl [G3]; · iexact G3
    isplitl [G11]; · iexact G11
    isplitl [G12]; · iexact G12
    isplitl [G13]; · iexact G13
    isplitl [G14]; · iexact G14
    isplitl [G15]; · iexact G15
    isplitl [G16]; · iexact G16
    iexact Hrs

/-- A tile's task. -/
theorem wp_task (hF : (K (F := F)).Facts) (hO : ∀ g, O g none = 0) (hA : A.OK) {f₀ : S8192x2048.Idx → F .f32} :
    iprop(levAts (K (F := F)).L (K (F := F)).lev ∗ emp ∗ Hand d i A q f₀
        ∗ scopedBufs (V d (cOf i) (sOf i)) ∗ scopedSems0 (V d (cOf i) (sOf i)) ∗ owes (V d (cOf i) (sOf i)) O W)
      ⊢ WP d (cOf i) (sOf i) (body i) fun _ => iprop(Hand d i A q A.job.out
        ∗ scopedBufs (V d (cOf i) (sOf i)) ∗ scopedSems0 (V d (cOf i) (sOf i)) ∗ ∃ W', ⌜∀ p ∈ W', p ∈ W ∨ p.2 = none⌝ ∗ owes (V d (cOf i) (sOf i)) O W') := by
  rw [(K (F := F)).scopedBufs_V hF d (cOf i) (sOf i), SparseCore.Cfg.scopedSems0_V (Val := Elt F) d (cOf i) (sOf i)]
  obtain ⟨R, hR⟩ := gear_split (F := F) (d := d) (i := i) (q := q)
  unfold Hand
  iintro ⟨Hlv, -, ⟨Hx, Hy, Hsm, Hout⟩, Hb, Hs, HO⟩
  ihave H := (hR A.job).1 $$ [Hx Hy Hb Hs]
  · isplitl [Hx Hy]
    · isplitl [Hx]; · iexact Hx
      iexact Hy
    isplitl [Hb]; · iexact Hb
    iexact Hs
  icases H with ⟨Hdesk, HG, HR⟩
  iapply (wp_body (O := O) (W := W) hO hA (f₀ := f₀) (q := q))
  isplitl [Hlv HO]
  · unfold Tick
    isplitl [Hlv]; · iexact Hlv
    iexists W
    isplitr; · ipureintro; exact fun p hp => .inl hp
    iexact HO
  isplitl [Hsm]; · iexact Hsm
  isplitl [Hdesk]; · iexact Hdesk
  isplitl [HG]; · iexact HG
  isplitl [Hout]; · iexact Hout
  iintro ⟨HT, Hsm, Hdesk, HG, Hout⟩
  ihave H := (hR A.job).2 $$ [Hdesk HG HR]
  · isplitl [Hdesk]; · iexact Hdesk
    isplitl [HG]; · iexact HG
    iexact HR
  icases H with ⟨⟨Hx, Hy⟩, Hb, Hs⟩
  isplitl [Hx Hy Hsm Hout]
  · isplitl [Hx]; · iexact Hx
    isplitl [Hy]; · iexact Hy
    isplitl [Hsm]; · iexact Hsm
    iexact Hout
  isplitl [Hb]; · iexact Hb
  isplitl [Hs]; · iexact Hs
  unfold Tick
  icases HT with ⟨-, HT⟩
  iexact HT

end Task

end Cert.Proof.Body
-- ==== Proof.Launch.lean ====
/-
  The program's launch: the one call deals each of its 32 tiles a share of the inputs and its rows of the output, takes
  them back, and what @main does around it reshapes the arrays.
-/
module

public import proofs.«01_k».proof.Proof.Task

@[expose] public section

noncomputable section

namespace Cert.Proof.Body

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays dealt to the tiles -/

/-- A share falls into `n + 1` shares, for every array at once. -/
theorem exists_shares (n : ℕ) : ∀ q : PosShare TreeShare, ∃ p : ℕ → PosShare TreeShare, ∀ (ℓ : Loc nD τ sig) (f : Buf (Elt F) ℓ),
    (ℓ ↦{q} f : sProp 𝕄) = bigSep (Finset.range (n + 1)) fun t => ℓ ↦{p t} f := by
  induction n with
  | zero => exact fun q => ⟨fun _ => q, fun ℓ f => (bigSep_singleton (i := 0) (Φ := fun _ : ℕ => (ℓ ↦{q} f : sProp 𝕄))).symm⟩
  | succ n ih =>
    intro q
    obtain ⟨p, hp⟩ := ih q.right
    refine ⟨fun t => if t = n + 1 then q.left else p t, fun ℓ f => ?_⟩
    have e : (bigSep (Finset.range (n + 1)) fun t => (ℓ ↦{if t = n + 1 then q.left else p t} f : sProp 𝕄)) = bigSep (Finset.range (n + 1)) fun t => ℓ ↦{p t} f :=
      bigSep_congr fun t ht => by rw [if_neg (Finset.mem_range.mp ht).ne]
    rw [bigSep_range_succ]
    refine .trans ?_ (congr (congrArg BI.sep (congrArg (fun p => (ℓ ↦{p} f : sProp 𝕄)) (if_pos rfl).symm)) e.symm)
    rw [← hp]
    have h := pointsTo_share (ℓ := ℓ) (I := Finset.univ) (f := f) (PosShare.mem_left_op_right q) (Val := Elt F) (Ix := HIx 1) (Name := ℕ) (U := UU) (Lvl := ℕ)
    exact Entails.antisymm h.1 h.2

/-- Tile `t`'s share of each array it reads. -/
def pieces : ℕ → PosShare TreeShare := (exists_shares (F := F) 31 fullShare).choose

theorem pieces_eq (ℓ : Loc nD τ sig) (f : Buf (Elt F) ℓ) :
    (ℓ ↦{fullShare} f : sProp 𝕄) = bigSep (Finset.range 32) fun t => ℓ ↦{pieces (F := F) t} f :=
  (exists_shares (F := F) 31 fullShare).choose_spec ℓ f

section Deal

variable (d : Dev nD) (A : Args F)

abbrev tc (b : Ref sig .tc) : Loc nD τ sig := (SparseCore.T d).loc b

/-- Tile `t`'s part, with `f` the output. -/
def Part (t : ℕ) (f : S8192x2048.Idx → F .f32) : sProp 𝕄 :=
  iprop((tc d main_v0 ↦{pieces (F := F) t} A.x) ∗ (tc d main_v1 ↦{pieces (F := F) t} A.y)
    ∗ ((tc d main_arg3 ↦{pieces (F := F) t} A.i1) ∗ (tc d main_arg4 ↦{pieces (F := F) t} A.i2)
      ∗ (tc d main_arg5 ↦{pieces (F := F) t} A.io) ∗ (tc d main_arg2 ↦{pieces (F := F) t} A.scale))
    ∗ (tc d main_v2 ↦[tileSet t]{fullShare} f))

/-- All of it. -/
def Whole (f : S8192x2048.Idx → F .f32) : sProp 𝕄 :=
  iprop((tc d main_v0 ↦{fullShare} A.x) ∗ (tc d main_v1 ↦{fullShare} A.y)
    ∗ ((tc d main_arg3 ↦{fullShare} A.i1) ∗ (tc d main_arg4 ↦{fullShare} A.i2)
      ∗ (tc d main_arg5 ↦{fullShare} A.io) ∗ (tc d main_arg2 ↦{fullShare} A.scale))
    ∗ (tc d main_v2 ↦{fullShare} f))

theorem out_parts (f : Buf (Elt F) (tc d main_v2)) :
    (tc d main_v2 ↦{fullShare} f : sProp 𝕄) = bigSep (Finset.range 32) fun t => tc d main_v2 ↦[tileSet t]{fullShare} f := by
  have hd : ∀ t ∈ Finset.range 32, ∀ t' ∈ Finset.range 32, t ≠ t' → Disjoint (tileSet t) (tileSet t') := fun t _ t' _ h =>
    Finset.disjoint_left.mpr fun y hy hy' => h ((Finset.mem_filter.mp hy).2.symm.trans (Finset.mem_filter.mp hy').2)
  have hc : (Finset.range 32).biUnion tileSet = Finset.univ := Finset.eq_univ_iff_forall.mpr fun y => by
    have h : (y 0).val < 8192 := (y 0).isLt
    exact Finset.mem_biUnion.mpr ⟨(y 0).val / 256, Finset.mem_range.mpr (by omega), Finset.mem_filter.mpr ⟨Finset.mem_univ _, rfl⟩⟩
  have e := pointsTo_biUnion (ℓ := tc d main_v2) (q := fullShare) (f := f) (Val := Elt F) (Ix := HIx 1) (Name := ℕ) (U := UU) (Lvl := ℕ) (Finset.range 32) tileSet hd
  rw [hc] at e
  exact e

theorem whole_parts (f : S8192x2048.Idx → F .f32) : Whole d A f = bigSep (Finset.range 32) fun t => Part d A t f := by
  unfold Whole Part
  rw [bigSep_sep', bigSep_sep', bigSep_sep', bigSep_sep', bigSep_sep', bigSep_sep', ← pieces_eq, ← pieces_eq, ← pieces_eq, ← pieces_eq, ← pieces_eq,
    ← pieces_eq, ← out_parts]

/-- Over the tiles of the two SparseCores is over the 32 tiles. -/
theorem bigSep_tiles (Φ : ℕ → sProp 𝕄) :
    (bigSep Finset.univ fun c : Fin 2 => bigSep Finset.univ fun s : Fin 16 => Φ (2 * s.val + c.val)) = bigSep (Finset.range 32) Φ := by
  have hi : (Finset.univ : Finset (Fin 2 × Fin 16)).image (fun p => 2 * p.2.val + p.1.val) = Finset.range 32 := by decide
  have hj : Set.InjOn (fun p : Fin 2 × Fin 16 => 2 * p.2.val + p.1.val) (Finset.univ : Finset (Fin 2 × Fin 16)) := by
    rintro ⟨c, s⟩ - ⟨c', s'⟩ - h
    have h : 2 * s.val + c.val = 2 * s'.val + c'.val := h
    have hs : s = s' := Fin.ext (by omega)
    subst hs
    exact Prod.ext (Fin.ext (show c.val = c'.val by omega)) rfl
  rw [← hi, SparseCore.bigSep_image_of_injOn hj, bigSep_univ_prod]

end Deal

variable (m : (ℓ : Loc nD τ sig) → Buf (Elt F) ℓ) (ρ : Dev nD → PrngReg)

/-- What the kernel is called with. -/
def argsOf (d : Dev nD) : Args F where
  x := shapeCast S8192x2048 (m (tc d main_arg0)) shapeCasts_S8192x64x32_S8192x2048
  y := shapeCast S8192x2048 (m (tc d main_arg1)) shapeCasts_S8192x64x32_S8192x2048
  scale := m (tc d main_arg2)
  i1 := m (tc d main_arg3)
  i2 := m (tc d main_arg4)
  io := m (tc d main_arg5)

/-- What the proof asks of the launch memory. -/
def PreOK : Prop := ∀ d : Dev nD, (argsOf m d).OK

/-- What the kernel leaves. -/
abbrev outOf (d : Dev nD) : S8192x2048.Idx → F .f32 := (argsOf m d).job.out

/-- What the call's handshakes carry: a tile's part; a SparseCore's is its tiles'. -/
def P : (K (F := F)).Pay (nD := nD) (Val := Elt F) (Name := ℕ) (U := UU) where
  st := fun q d c => match q with
    | 0 => bigSep Finset.univ fun i : Fin ((K (F := F)).nSub 0) => Part d (argsOf m d) (2 * i.val + c.val) (m (tc d main_v2))
  dn := fun q d c => match q with
    | 0 => bigSep Finset.univ fun i : Fin ((K (F := F)).nSub 0) => Part d (argsOf m d) (2 * i.val + c.val) (outOf m d)
  go := fun q d c i => match q with | 0 => Part d (argsOf m d) (2 * i.val + c.val) (m (tc d main_v2))
  td := fun q d c i => match q with | 0 => Part d (argsOf m d) (2 * i.val + c.val) (outOf m d)
  x := fun _ _ => iprop(emp)

instance Part_storable (d : Dev nD) (A : Args F) (t : ℕ) (f : S8192x2048.Idx → F .f32) : BI.Storable (upEmb : UEmb _ 𝕄) (Part d A t f) := by
  unfold Part
  infer_instance

instance P_storable : (P (F := F) m).IsStorable where
  st q d c := match q with
    | 0 => (inferInstance : BI.Storable (upEmb : UEmb _ 𝕄)
      (bigSep Finset.univ fun i : Fin ((K (F := F)).nSub 0) => Part d (argsOf m d) (2 * i.val + c.val) (m (tc d main_v2))))
  dn q d c := match q with
    | 0 => (inferInstance : BI.Storable (upEmb : UEmb _ 𝕄)
      (bigSep Finset.univ fun i : Fin ((K (F := F)).nSub 0) => Part d (argsOf m d) (2 * i.val + c.val) (outOf m d)))
  go q d c i := match q with | 0 => Part_storable d (argsOf m d) (2 * i.val + c.val) (m (tc d main_v2))
  td q d c i := match q with | 0 => Part_storable d (argsOf m d) (2 * i.val + c.val) (outOf m d)

/-! ## The tiles' obligation -/

def at2 (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => body (at2 c s)) ⟨⟩ c s :=
  Eq.trans (b := SparseCore.onTile hcore0 hsub0 (fun c s => cc0__sc_body (F := F) (at2 c s) xV (Memref.isWhole_whole _) yV (Memref.isWhole_whole _)
      scaleV (Memref.isWhole_whole _) i1V (Memref.isWhole_whole _) i2V (Memref.isWhole_whole _) ioV (Memref.isWhole_whole _) outV (Memref.isWhole_whole _)
      wM (Memref.isWhole_whole _) bM (Memref.isWhole_whole _) oM (Memref.isWhole_whole _) fM (Memref.isWhole_whole _) sM (Memref.isWhole_whole _)
      x0M (Memref.isWhole_whole _) x1M (Memref.isWhole_whole _) y0M (Memref.isWhole_whole _) y1M (Memref.isWhole_whole _) o0M (Memref.isWhole_whole _)
      o1M (Memref.isWhole_whole _) cc0_scratch11 cc0_scratch12 cc0_scratch13 cc0_scratch14 cc0_scratch15 cc0_scratch16
      cc0_scoped0 cc0_scoped1 cc0_scoped2 cc0_scoped3) ⟨⟩ c s) rfl
    (congrArg (fun f => SparseCore.onTile hcore0 hsub0 f ⟨⟩ c s) (funext fun c => funext fun s => body_eq (at2 c s)))

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (wp_task (d := d) (i := at2 ⟨_, hci.1⟩ ⟨_, hci.2⟩) (A := argsOf m d) (q := pieces (F := F) (2 * i.val + c.val)) (O := O) (W := W)
    facts hO (hpre d) (f₀ := m (tc d main_v2))).trans (wp_mono frame _ _ fun _ => obl_post)

theorem vecSplit : (K (F := F)).VecSplit' (P m) 0 := by
  intro d c
  show (bigSep Finset.univ fun i : Fin ((K (F := F)).nSub 0) => Part d (argsOf m d) (2 * i.val + c.val) (m (tc d main_v2))) ⊢ |={Set.univ}=> iprop(
      (bigSep Finset.univ fun i : Fin ((K (F := F)).nSub 0) => Part d (argsOf m d) (2 * i.val + c.val) (m (tc d main_v2)))
      ∗ ((bigSep Finset.univ fun i : Fin ((K (F := F)).nSub 0) => Part d (argsOf m d) (2 * i.val + c.val) (outOf m d))
          -∗ bigSep Finset.univ fun i : Fin ((K (F := F)).nSub 0) => Part d (argsOf m d) (2 * i.val + c.val) (outOf m d)))
  iintro H; imodintro
  isplitl [H]; · iexact H
  iintro H
  iexact H

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

/-- @main's arrays. -/
abbrev arrays : Finset (DevRef τ sig) :=
  {Proc.devRef .tc main_arg0, Proc.devRef .tc main_arg1, Proc.devRef .tc main_arg2, Proc.devRef .tc main_arg3, Proc.devRef .tc main_arg4,
    Proc.devRef .tc main_arg5, Proc.devRef .tc main_v0, Proc.devRef .tc main_v1, Proc.devRef .tc main_v2, Proc.devRef .tc main_v3}

abbrev opX : HloOp τ sig (Elt F) := StableHlo.reshape main_arg0 main_v0 (rfl : (.f32 : EltTy) = .f32) shapeCasts_S8192x64x32_S8192x2048
abbrev opY : HloOp τ sig (Elt F) := StableHlo.reshape main_arg1 main_v1 (rfl : (.f32 : EltTy) = .f32) shapeCasts_S8192x64x32_S8192x2048
abbrev opR : HloOp τ sig (Elt F) := StableHlo.reshape main_v2 main_v3 (rfl : (.f32 : EltTy) = .f32) shapeCasts_S8192x2048_S8192x64x32

/-- The arrays at a valuation, those of the call together. -/
def Arrays (d : Dev nD) (A : Args F) (f : S8192x2048.Idx → F .f32) (x y r : S8192x64x32.Idx → F .f32) : sProp 𝕄 :=
  iprop(Whole d A f ∗ (tc d main_arg0 ↦{fullShare} x) ∗ (tc d main_arg1 ↦{fullShare} y) ∗ (tc d main_v3 ↦{fullShare} r))

/-- The call's arguments at a valuation. -/
abbrev argsAt (W : Valuation τ sig (Elt F)) : Args F where
  x := W (Proc.devRef .tc main_v0)
  y := W (Proc.devRef .tc main_v1)
  scale := W (Proc.devRef .tc main_arg2)
  i1 := W (Proc.devRef .tc main_arg3)
  i2 := W (Proc.devRef .tc main_arg4)
  io := W (Proc.devRef .tc main_arg5)

theorem held_arrays (d : Dev nD) (W : Valuation τ sig (Elt F)) :
    (held (T d) arrays W : sProp 𝕄) ⊣⊢ Arrays d (argsAt W) (W (Proc.devRef .tc main_v2)) (W (Proc.devRef .tc main_arg0)) (W (Proc.devRef .tc main_arg1))
      (W (Proc.devRef .tc main_v3)) := by
  unfold held arrays Arrays Whole
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  constructor
  · iintro ⟨H0, H1, H2, H3, H4, H5, Hv0, Hv1, Hv2, Hv3⟩
    isplitl [H2 H3 H4 H5 Hv0 Hv1 Hv2]
    · isplitl [Hv0]; · iexact Hv0
      isplitl [Hv1]; · iexact Hv1
      isplitl [H2 H3 H4 H5]
      · isplitl [H3]; · iexact H3
        isplitl [H4]; · iexact H4
        isplitl [H5]; · iexact H5
        iexact H2
      iexact Hv2
    isplitl [H0]; · iexact H0
    isplitl [H1]; · iexact H1
    iexact Hv3
  · iintro ⟨⟨Hv0, Hv1, ⟨H3, H4, H5, H2⟩, Hv2⟩, H0, H1, Hv3⟩
    isplitl [H0]; · iexact H0
    isplitl [H1]; · iexact H1
    isplitl [H2]; · iexact H2
    isplitl [H3]; · iexact H3
    isplitl [H4]; · iexact H4
    isplitl [H5]; · iexact H5
    isplitl [Hv0]; · iexact Hv0
    isplitl [Hv1]; · iexact Hv1
    isplitl [Hv2]; · iexact Hv2
    iexact Hv3

theorem unscoped_held (d : Dev nD) : (unscopedBufs d (fun b => m (tc d b)) : sProp 𝕄) = held (T d) arrays fun b => m (d, b) := by
  unfold unscopedBufs held arrays
  rw [show (Finset.univ.filter fun b : Ref sig .tc => ¬ b.isScoped)
      = {main_arg0, main_arg1, main_arg2, main_arg3, main_arg4, main_arg5, main_v0, main_v1, main_v2, main_v3} by decide]
  repeat rw [SparseCore.bigSep_insert' (by decide)]
  rw [bigSep_singleton, bigSep_singleton]

/-- The arrays as the call finds them, and as it leaves them. -/
def V2 (d : Dev nD) : Valuation τ sig (Elt F) := opY.result (opX.result fun b => m (d, b))
def V3 (d : Dev nD) : Valuation τ sig (Elt F) := Function.update (V2 m d) (Proc.devRef .tc main_v2) (outOf m d)

theorem V2_of {b : DevRef τ sig} (h0 : b ≠ Proc.devRef .tc main_v0) (h1 : b ≠ Proc.devRef .tc main_v1) (d : Dev nD) : V2 m d b = m (d, b) := by
  unfold V2
  rw [(opY (F := F)).result_of_not_mem _ (show b ∉ ({Proc.devRef .tc main_v1} : Finset (DevRef τ sig)) from fun h => h1 (Finset.mem_singleton.mp h)),
    (opX (F := F)).result_of_not_mem _ (show b ∉ ({Proc.devRef .tc main_v0} : Finset (DevRef τ sig)) from fun h => h0 (Finset.mem_singleton.mp h))]

theorem V3_of {b : DevRef τ sig} (h : b ≠ Proc.devRef .tc main_v2) (d : Dev nD) : V3 m d b = V2 m d b := Function.update_of_ne h _ _

theorem V3_out (d : Dev nD) : V3 m d (Proc.devRef .tc main_v2) = outOf m d := Function.update_self _ _ _

theorem V2_x (d : Dev nD) : V2 m d (Proc.devRef .tc main_v0) = (argsOf m d).x := by
  unfold V2
  rw [(opY (F := F)).result_of_not_mem _ (show Proc.devRef .tc main_v0 ∉ ({Proc.devRef .tc main_v1} : Finset (DevRef τ sig)) by decide)]
  exact StableHlo.reshape_result main_arg0 main_v0 rfl shapeCasts_S8192x64x32_S8192x2048 _ _ _

theorem V2_y (d : Dev nD) : V2 m d (Proc.devRef .tc main_v1) = (argsOf m d).y := by
  unfold V2
  refine (StableHlo.reshape_result main_arg1 main_v1 rfl shapeCasts_S8192x64x32_S8192x2048 _ _ _).trans ?_
  rw [(opX (F := F)).result_of_not_mem _ (show Proc.devRef .tc main_arg1 ∉ ({Proc.devRef .tc main_v0} : Finset (DevRef τ sig)) by decide)]
  rfl

theorem argsAt_V2 (d : Dev nD) : argsAt (V2 m d) = argsOf m d := by
  unfold argsAt
  rw [V2_x, V2_y, V2_of m (by decide) (by decide), V2_of m (by decide) (by decide), V2_of m (by decide) (by decide), V2_of m (by decide) (by decide)]
  rfl

theorem argsAt_V3 (d : Dev nD) : argsAt (V3 m d) = argsOf m d := by
  rw [← argsAt_V2]
  unfold argsAt
  rw [V3_of m (by decide), V3_of m (by decide), V3_of m (by decide), V3_of m (by decide), V3_of m (by decide), V3_of m (by decide)]

/-- The result. -/
def resultOf (d : Dev nD) : S8192x64x32.Idx → F .f32 := shapeCast S8192x64x32 (outOf m d) shapeCasts_S8192x2048_S8192x64x32

theorem held_call (d : Dev nD) : (held (T d) arrays ((opY (F := F)).result ((opX (F := F)).result fun b => m (d, b))) : sProp 𝕄)
    ⊢ Arrays d (argsOf m d) (m (tc d main_v2)) (m (tc d main_arg0)) (m (tc d main_arg1)) (V2 m d (Proc.devRef .tc main_v3)) := by
  have h := (held_arrays d (V2 m d)).1
  rwa [argsAt_V2, V2_of m (b := Proc.devRef .tc main_v2) (by decide) (by decide), V2_of m (b := Proc.devRef .tc main_arg0) (by decide) (by decide),
    V2_of m (b := Proc.devRef .tc main_arg1) (by decide) (by decide)] at h

theorem call_held (d : Dev nD) :
    Arrays d (argsOf m d) (outOf m d) (m (tc d main_arg0)) (m (tc d main_arg1)) (V2 m d (Proc.devRef .tc main_v3)) ⊢ (held (T d) arrays (V3 m d) : sProp 𝕄) := by
  have h := (held_arrays d (V3 m d)).2
  rwa [argsAt_V3, V3_out, V3_of m (b := Proc.devRef .tc main_arg0) (by decide), V3_of m (b := Proc.devRef .tc main_arg1) (by decide),
    V3_of m (b := Proc.devRef .tc main_v3) (by decide), V2_of m (b := Proc.devRef .tc main_arg0) (by decide) (by decide),
    V2_of m (b := Proc.devRef .tc main_arg1) (by decide) (by decide)] at h

theorem opR_of {b : DevRef τ sig} (h : b ≠ Proc.devRef .tc main_v3) (W : Valuation τ sig (Elt F)) : (opR (F := F)).result W b = W b :=
  (opR (F := F)).result_of_not_mem _ (show b ∉ ({Proc.devRef .tc main_v3} : Finset (DevRef τ sig)) from fun e => h (Finset.mem_singleton.mp e))

theorem held_end (d : Dev nD) : (held (T d) arrays ((opR (F := F)).result (V3 m d)) : sProp 𝕄)
    ⊢ Arrays d (argsOf m d) (outOf m d) (m (tc d main_arg0)) (m (tc d main_arg1)) (resultOf m d) := by
  have h := (held_arrays d ((opR (F := F)).result (V3 m d))).1
  have e : argsAt ((opR (F := F)).result (V3 m d)) = argsOf m d := by
    rw [← argsAt_V3]
    unfold argsAt
    rw [opR_of (by decide), opR_of (by decide), opR_of (by decide), opR_of (by decide), opR_of (by decide), opR_of (by decide)]
  have er : (opR (F := F)).result (V3 m d) (Proc.devRef .tc main_v3) = resultOf m d := by
    refine (StableHlo.reshape_result main_v2 main_v3 rfl shapeCasts_S8192x2048_S8192x64x32 _ _ _).trans ?_
    rw [V3_out]
    rfl
  rwa [e, er, opR_of (by decide), opR_of (by decide), opR_of (by decide), V3_out, V3_of m (b := Proc.devRef .tc main_arg0) (by decide),
    V3_of m (b := Proc.devRef .tc main_arg1) (by decide), V2_of m (b := Proc.devRef .tc main_arg0) (by decide) (by decide),
    V2_of m (b := Proc.devRef .tc main_arg1) (by decide) (by decide)] at h

theorem st_eq (d : Dev nD) : (bigSep Finset.univ fun c : Fin ((K (F := F)).nCore 0) => (P m).st 0 d c) = Whole d (argsOf m d) (m (tc d main_v2)) :=
  (bigSep_tiles fun t => Part d (argsOf m d) t (m (tc d main_v2))).trans (whole_parts _ _ _).symm

theorem dn_eq (d : Dev nD) : (bigSep Finset.univ fun c : Fin ((K (F := F)).nCore 0) => (P m).dn 0 d c) = Whole d (argsOf m d) (outOf m d) :=
  (bigSep_tiles fun t => Part d (argsOf m d) t (outOf m d)).trans (whole_parts _ _ _).symm

theorem hX : (opX (F := F)).bufs ⊆ arrays := show ({Proc.devRef .tc main_arg0, Proc.devRef .tc main_v0} : Finset (DevRef τ sig)) ⊆ arrays by decide
theorem hY : (opY (F := F)).bufs ⊆ arrays := show ({Proc.devRef .tc main_arg1, Proc.devRef .tc main_v1} : Finset (DevRef τ sig)) ⊆ arrays by decide
theorem hR : (opR (F := F)).bufs ⊆ arrays := show ({Proc.devRef .tc main_v2, Proc.devRef .tc main_v3} : Finset (DevRef τ sig)) ⊆ arrays by decide

/-- What @main leaves the claims. -/
abbrev FIN (d : Dev nD) : sProp 𝕄 := Arrays d (argsOf m d) (outOf m d) (m (tc d main_arg0)) (m (tc d main_arg1)) (resultOf m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (T d) none Set.univ (op := opX) (S := arrays) hX (V := fun b => m (d, b))) $$ [Hb Hheld]
  · isplitl [Hb] <;> iassumption
  iintro ⟨Hb, Hheld⟩
  rw [wp_ret]; imodintro
  iapply (wp_hlo_within 𝒱 (T d) none Set.univ (op := opY) (S := arrays) hY (V := (opX (F := F)).result fun b => m (d, b))) $$ [Hb Hheld]
  · isplitl [Hb] <;> iassumption
  iintro ⟨Hb, Hheld⟩
  rw [wp_ret]; imodintro
  ihave Hh := (held_call (F := F) m d) $$ Hheld
  unfold Arrays
  icases Hh with ⟨Hw, H0, H1, Hr⟩
  iapply ((K (F := F)).wp_run (D (F := F)) 𝒱 (EH := EH) (P := P m) κ d 0) $$ [Hst Hw Hb Hts H0 H1 Hr]
  isplitr; · iexact Hctx
  isplitl [Hst]; · iexact Hst
  isplitl [Hw]
  · iapply (Entails.of_eq (st_eq m d).symm); iexact Hw
  iintro ⟨Hst, Hdn⟩
  ihave Hw := (Entails.of_eq (dn_eq m d)) $$ Hdn
  iapply (wp_hlo_within 𝒱 (T d) none Set.univ (op := opR) (S := arrays) hR (V := V3 m d)) $$ [Hb Hw H0 H1 Hr]
  · isplitl [Hb]; · iexact Hb
    iapply (call_held (F := F) m d)
    unfold Arrays
    isplitl [Hw]; · iexact Hw
    isplitl [H0]; · iexact H0
    isplitl [H1]; · iexact H1
    iexact Hr
  iintro ⟨Hb, Hheld⟩
  ihave Hh := (held_end (F := F) m d) $$ Hheld
  rw [wp_ret]; imodintro; imodintro
  isplitl [Hst]; · iexact Hst
  isplitl [Hh]
  · iexact Hh
  isplitl [Hb] <;> iassumption

/-- What the claims read of the final state. -/
def fq (d : Dev nD) (s' : Phys nD τ sig (Elt F)) : Prop :=
  (s'.mem.mem (tc d main_arg0) = m (tc d main_arg0) ∧ s'.mem.mem (tc d main_arg1) = m (tc d main_arg1) ∧ s'.mem.mem (tc d main_arg2) = m (tc d main_arg2)
    ∧ s'.mem.mem (tc d main_arg3) = m (tc d main_arg3) ∧ s'.mem.mem (tc d main_arg4) = m (tc d main_arg4) ∧ s'.mem.mem (tc d main_arg5) = m (tc d main_arg5))
    ∧ s'.mem.mem (tc d main_v3) = resultOf m d

/-- An array held whole is the memory's. -/
theorem agree {ℓ : Loc nD τ sig} {f : Buf (Elt F) ℓ} {s' : Phys nD τ sig (Elt F)} :
    iprop(SI s' ∗ (ℓ ↦{fullShare} f)) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN Arrays Whole
  iintro ⟨⟨⟨-, -, ⟨H3, H4, H5, H2⟩, -⟩, H0, H1, Hr⟩, HSI⟩
  ihave H := agree $$ [HSI H0]; · isplitl [HSI] <;> iassumption
  icases H with ⟨%h0, HSI⟩
  ihave H := agree $$ [HSI H1]; · isplitl [HSI] <;> iassumption
  icases H with ⟨%h1, HSI⟩
  ihave H := agree $$ [HSI H2]; · isplitl [HSI] <;> iassumption
  icases H with ⟨%h2, HSI⟩
  ihave H := agree $$ [HSI H3]; · isplitl [HSI] <;> iassumption
  icases H with ⟨%h3, HSI⟩
  ihave H := agree $$ [HSI H4]; · isplitl [HSI] <;> iassumption
  icases H with ⟨%h4, HSI⟩
  ihave H := agree $$ [HSI H5]; · isplitl [HSI] <;> iassumption
  icases H with ⟨%h5, HSI⟩
  ihave H := agree $$ [HSI Hr]; · isplitl [HSI] <;> iassumption
  icases H with ⟨%hr, HSI⟩
  ipureintro
  exact ⟨⟨h0, h1, h2, h3, h4, h5⟩, hr⟩

/-- The program's run. -/
def QC : PUnit × MemSt nD τ sig (Elt F) → Prop := fun r => (∀ d : Dev nD,
  (r.2.mem (tc d main_arg0) = m (tc d main_arg0) ∧ r.2.mem (tc d main_arg1) = m (tc d main_arg1) ∧ r.2.mem (tc d main_arg2) = m (tc d main_arg2)
    ∧ r.2.mem (tc d main_arg3) = m (tc d main_arg3) ∧ r.2.mem (tc d main_arg4) = m (tc d main_arg4) ∧ r.2.mem (tc d main_arg5) = m (tc d main_arg5))
    ∧ r.2.mem (tc d main_v3) = resultOf m d) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Body
-- ==== Proof.Frames.lean ====
/-
  The kernel's frames: what the precondition says of the index words, and the kernel's runs with its arguments unchanged.
-/
module

public import proofs.«01_k».proof.Defs
public import proofs.«01_k».proof.Proof.Launch
public import proofs.«01_k».proof.Proof.Gen.Kernel
public import proofs.«01_k».proof.Proof.Gen.Pre_in_range
public import Idealize.ShloMosaic.Lib.ReduceAll

@[expose] public section

noncomputable section

namespace Cert.Proof.Frames

open Idealize.ShloMosaic Idealize.SL.Sem
open Cert.Proof.Body

variable {F : FTy → Type} [FloatOps F]

/-- A word that is neither negative nor 64 or more, both read signed, is below 64. -/
theorem word_lt (v : BitVec 32) (e : IntOp.andi (IntOp.cmpi .sge v 0#32) (IntOp.cmpi .slt v 64#32) = 1#1) : v.toNat < 64 := by
  have one (p : Bool) : (BitVec.ofBool p = 1#1) ↔ p = true := by cases p <;> decide
  obtain ⟨e1, e2⟩ := IntOp.andi_eq_one.1 e
  simp only [IntOp.cmpi, one, BitVec.sle_eq_decide, BitVec.slt_eq_decide, decide_eq_true_eq, BitVec.toInt_eq_toNat_cond,
    BitVec.toNat_ofNat, Nat.reducePow, Nat.reduceMod] at e1 e2
  omega

/-- The precondition's three tests over the arrays `i1`, `i2`, `io`: every word is below 64. -/
theorem words_of_pre (x y : FVec F Cert.Pre_in_range.S8192x64x32 .f32) (s : FVec F Cert.Pre_in_range.S128 .f32)
    (i1 i2 io : IVec Cert.Pre_in_range.S128 32) (h : Cert.Pre_in_range.fn (F := F) x y s i1 i2 io = fun _ => 1#1) :
    (∀ j, (i1 j).toNat < 64) ∧ (∀ j, (i2 j).toNat < 64) ∧ ∀ j, (io j).toNat < 64 := by
  have e := congrFun h (Shape.Idx.first Cert.Pre_in_range.Gen.h_S_)
  dsimp only [Cert.Pre_in_range.fn, Cert.Pre_in_range.fn_part1, andi] at e
  obtain ⟨e12, e3⟩ := IntOp.andi_eq_one.1 e
  obtain ⟨e1, e2⟩ := IntOp.andi_eq_one.1 e12
  have : Subsingleton Cert.Pre_in_range.S_.Idx := ⟨fun a b => funext fun i => i.elim0⟩
  exact ⟨fun j => word_lt _ (Host.reduce_andi_all _ _ _ _ _ e1 j), fun j => word_lt _ (Host.reduce_andi_all _ _ _ _ _ e2 j),
    fun j => word_lt _ (Host.reduce_andi_all _ _ _ _ _ e3 j)⟩

theorem ok_of_pre (m : (ℓ : Loc Cert.KernelIdeal.nD Cert.KernelIdeal.τ Cert.KernelIdeal.sig) → Buf (Elt Ideal) ℓ)
    (h : Cert.Pre_KernelIdeal m) : PreOK (F := Ideal) m := fun d => words_of_pre _ _ _ _ _ _ (h d)

theorem frame_ideal : Cert.quiescent_KernelIdeal := fun m g hpre =>
  (θ_run (Cert.KernelIdeal.defs (F := Ideal)) _ _).mono (fun _ h => ⟨fun c => (h.1 c).1, h.2⟩) (run_main (F := Ideal) m g (ok_of_pre m hpre))

set_option maxRecDepth 100000 in
set_option maxHeartbeats 0 in
/-- The two printings of the kernel are one program: over the chip's floats, a run of the second is a run of the first. -/
theorem run_bits (m : (ℓ : Loc Cert.KernelIdeal.nD Cert.KernelIdeal.τ Cert.KernelIdeal.sig) → Buf (Elt Bits) ℓ)
    (g : Dev Cert.KernelIdeal.nD → PrngReg) (Q : PUnit × MemSt Cert.KernelIdeal.nD Cert.KernelIdeal.τ Cert.KernelIdeal.sig (Elt Bits) → Prop)
    (h : θ_run (@Cert.KernelIdeal.defs Bits _ Cert.KernelIdeal.Gen.facts) (@Cert.KernelIdeal.threads Bits _) ⟨m, fun _ => 0, g⟩ Q) :
    θ_run (@Cert.Kernel.defs Bits _ Cert.Kernel.Gen.facts) (@Cert.Kernel.threads Bits _) ⟨m, fun _ => 0, g⟩ Q := h

theorem frame : Cert.quiescent_Kernel := fun m g hpre =>
  (θ_run (Cert.Kernel.defs (F := Bits)) _ _).mono (fun _ h => ⟨fun c => (h.1 c).1, h.2⟩)
    (run_bits m g _ (run_main (F := Bits) m g fun d => words_of_pre _ _ _ _ _ _ (hpre d)))

end Cert.Proof.Frames

end
-- ==== Proof.Reference.lean ====
/-
  The reference: what its operations compute, read at an index.
-/
module

public import proofs.«01_k».proof.Defs
public import proofs.«01_k».proof.Proof.Gen.ReferenceIdeal
public import Idealize.ShloMosaic.Lib.Claim
public import Idealize.ShloMosaic.Lib.Quiescent
public import Idealize.ShloMosaic.Lib.IdealHost
public import Idealize.ShloMosaic.Lib.ValueIdxCore

@[expose] public section

noncomputable section

namespace Cert.Proof.Reference

open Cert.ReferenceIdeal Cert.ReferenceIdeal.Gen
open Idealize.ShloMosaic Idealize.SL.Sem
open Idealize.ShloMosaic.ValueIdx (ix1 ix2 ix3)

/-- An index vector with its negative words moved up by 64, as a column. -/
def column (v : IVec S128 32) : IVec S128x1 32 :=
  broadcastInDim S128x1 ![0] bcast_S128_S128x1_0
    (select (cmpi .slt v (broadcastInDim S128 ![] bcast_S_S128 (constantI S_ 32 0#32)))
      (addi v (broadcastInDim S128 ![] bcast_S_S128 (constantI S_ 32 64#32))) v)

/-- The blocks of `x` that an index vector names. -/
def rows (x : FVec Ideal S8192x64x32 .f32) (v : IVec S128 32) : FVec Ideal S8192x128x32 .f32 :=
  Host.gather gather_S8192x64x32_S128x1_S8192x128x32_02_1_n_n_1_1_8192132 x (column v)

/-- The scaled products. -/
def products (x y : FVec Ideal S8192x64x32 .f32) (s : FVec Ideal S128 .f32) (i1 i2 : IVec S128 32) : FVec Ideal S8192x128x32 .f32 :=
  mulf (mulf (broadcastInDim S8192x128x32 ![0, 1, 2] bcast_S1x128x1_S8192x128x32_0_1_2
    (broadcastInDim S1x128x1 ![1] bcast_S128_S1x128x1_1 s)) (rows x i1)) (rows y i2)

/-- The reference's result. -/
def result (x y : FVec Ideal S8192x64x32 .f32) (s : FVec Ideal S128 .f32) (i1 i2 io : IVec S128 32) : FVec Ideal S8192x64x32 .f32 :=
  Host.scatterAdd scatter_S8192x64x32_S128x1_S8192x128x32_02_1_1_1
    (broadcastInDim S8192x64x32 ![] bcast_S_S8192x64x32 (constant S_ FTy.f32 0#32)) (column io) (products x y s i1 i2)

variable (m : (ℓ : Loc nD τ sig) → Buf (Elt Ideal) ℓ)

/-- The reference's run. -/
theorem run_main (g : Dev nD → PrngReg) :
    θ_run (Cert.ReferenceIdeal.defs (F := Ideal)) (onTc (τ := τ) (Cert.ReferenceIdeal.main (F := Ideal))) ⟨m, fun _ => 0, g⟩
      (fun r => ∀ c : Dev nD,
        r.2.mem ((c.tc : Thread nD τ).loc main_v25) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) := by
  hlo_run
  rfl

theorem frame : Cert.quiescent_ReferenceIdeal := fun m g _ =>
  θ_run_mono (run_main m g) fun r h => ⟨fun c => (h c).2, sem_eq_zero_of_no_sems (by decide) r.2⟩

theorem frame_pre [Cert.Pre_in_range.Facts] : Cert.quiescent_ReferenceIdeal_pre_in_range := fun m g _ => frame m g trivial

/-! ## The values -/

/-- A word below 64 is not negative, and is its own place in the column. -/
theorem column_apply (v : IVec S128 32) (h : ∀ j, (v j).toNat < 64) (y : S128x1.Idx) : column v y = v (ix1 (y 0)) := by
  have hz : IntOp.cmpi .slt (v (ix1 (y 0))) 0#32 = 0#1 := by
    have := h (ix1 (y 0))
    simp only [IntOp.cmpi, BitVec.slt_eq_decide, BitVec.toInt_eq_toNat_cond, BitVec.toNat_ofNat]
    rw [decide_eq_false (by omega)]
    rfl
  have e : (fun a => if h1 : S128.size a = 1 then ⟨0, by omega⟩ else ⟨(y ((![0] : Fin 1 → Fin 2) a)).val, by
      rcases bcast_S128_S128x1_0.2 a with h2 | h2
      · exact absurd h2 h1
      · rw [h2]; exact (y ((![0] : Fin 1 → Fin 2) a)).isLt⟩ : S128.Idx) = ix1 (y 0) := by
    funext a
    match a with | ⟨0, _⟩ => rfl
  show (select _ _ v) _ = _
  unfold broadcastInDim
  rw [e]
  show Scalar.select (IntOp.cmpi .slt (v (ix1 (y 0))) 0#32) _ _ = _
  rw [hz]
  rfl

/-- The block a word names. -/
abbrev blockOf (v : IVec S128 32) (p : Fin 128) : Fin 64 := ⟨(v (ix1 p)).toNat % 64, Nat.mod_lt _ (by decide)⟩

/-- Element `u` moved to block `b`. -/
abbrev within (u : S8192x128x32.Idx) (b : Fin 64) : S8192x64x32.Idx :=
  fun a => match a with | ⟨0, _⟩ => u 0 | ⟨1, _⟩ => b | ⟨2, _⟩ => u 2

/-- The place of path `p`'s word in a column. -/
abbrev inColumn (p : Fin 128) : S128x1.Idx := fun a => match a with | ⟨0, _⟩ => p | ⟨1, _⟩ => ⟨0, Nat.one_pos⟩

theorem axes (a : Fin 3) : a = 0 ∨ a = 1 ∨ a = 2 :=
  match a with
  | ⟨0, _⟩ => Or.inl rfl
  | ⟨1, _⟩ => Or.inr (Or.inl rfl)
  | ⟨2, _⟩ => Or.inr (Or.inr rfl)

theorem column_word (v : IVec S128 32) (h : ∀ j, (v j).toNat < 64) (p : Fin 128) : (column v (inColumn p)).toInt = ((blockOf v p).val : ℤ) := by
  rw [column_apply v h]
  have := h (ix1 p)
  show (v (ix1 p)).toInt = (((v (ix1 p)).toNat % 64 : ℕ) : ℤ)
  rw [BitVec.toInt_eq_toNat_cond, Nat.mod_eq_of_lt this]
  split <;> omega

abbrev take : GatherDims S8192x64x32 S128x1 S8192x128x32 := gather_S8192x64x32_S128x1_S8192x128x32_02_1_n_n_1_1_8192132
abbrev give : ScatterDims S8192x64x32 S128x1 S8192x128x32 := scatter_S8192x64x32_S128x1_S8192x128x32_02_1_1_1

theorem within_ix3 (n : Fin 8192) (p : Fin 128) (c : Fin 32) (b : Fin 64) : within (ix3 n p c) b = ix3 n b c :=
  funext fun a => match a with | ⟨0, _⟩ => rfl | ⟨1, _⟩ => rfl | ⟨2, _⟩ => rfl

theorem rows_apply (x : FVec Ideal S8192x64x32 .f32) (v : IVec S128 32) (h : ∀ j, (v j).toNat < 64) (u : S8192x128x32.Idx) :
    rows x v u = x (within u (blockOf v (u 1))) := by
  unfold rows Host.gather
  refine congrArg x (funext fun a => Fin.ext ?_)
  show GatherDims.start _ u (column v) a + GatherDims.batchCoord _ u a + GatherDims.offCoord _ u a = _
  rw [GatherDims.batchCoord_eq_zero _ _ _ List.not_mem_nil]
  rcases axes a with rfl | rfl | rfl
  · exact (Nat.zero_add _).trans rfl
  · rw [GatherDims.offCoord_eq_zero _ _ _ (fun h => ((GatherDims.mem_sKept _ _).mp h).1 (List.mem_singleton.mpr rfl))]
    unfold GatherDims.start
    rw [dif_pos (show (1 : Fin 3) ∈ GatherDims.startIndexMap take from List.mem_singleton.mpr rfl)]
    have hsi : GatherDims.siIdx take u ⟨List.idxOf (1 : Fin 3) (GatherDims.startIndexMap take),
        List.idxOf_lt_length_iff.2 (List.mem_singleton.mpr rfl)⟩ = inColumn (u 1) := by
      funext b
      match b with
      | ⟨0, _⟩ => rfl
      | ⟨1, _⟩ => rfl
    rw [hsi]
    have hb := (blockOf v (u 1)).isLt
    refine (congrArg (fun z => min (Int.toNat z) (64 - 1) + 0 + 0) (column_word v h (u 1))).trans ?_
    show min (Int.toNat ((blockOf v (u 1)).val : ℤ)) (64 - 1) + 0 + 0 = (blockOf v (u 1)).val
    rw [Int.toNat_natCast]
    omega
  · exact (Nat.zero_add _).trans rfl

theorem products_apply (x y : FVec Ideal S8192x64x32 .f32) (s : FVec Ideal S128 .f32) (i1 i2 : IVec S128 32)
    (h1 : ∀ j, (i1 j).toNat < 64) (h2 : ∀ j, (i2 j).toNat < 64) (u : S8192x128x32.Idx) :
    products x y s i1 i2 u = (s (ix1 (u 1)) * x (within u (blockOf i1 (u 1))) * y (within u (blockOf i2 (u 1))) : EReal) := by
  show (_ * rows x i1 u * rows y i2 u : EReal) = _
  rw [rows_apply x i1 h1, rows_apply y i2 h2]
  refine congrArg (fun z : EReal => z * _ * _) ?_
  unfold broadcastInDim
  refine congrArg s (funext fun a => ?_)
  match a with | ⟨0, _⟩ => rfl

/-- Where an update lands: in its row, in the block its word names, at its own element. -/
theorem lands (v : IVec S128 32) (h : ∀ j, (v j).toNat < 64) (u : S8192x128x32.Idx) :
    ScatterDims.resultIdx? give u (column v) = some (within u (blockOf v (u 1))) := by
  have e (a : Fin 3) : ScatterDims.start give u (column v) a + (ScatterDims.window give u a : ℕ) = ((within u (blockOf v (u 1)) a).val : ℤ) := by
    rcases axes a with rfl | rfl | rfl
    · exact (Int.zero_add _).trans rfl
    · unfold ScatterDims.start
      rw [dif_pos (show (1 : Fin 3) ∈ ScatterDims.scatterDimsToOperandDims give from List.mem_singleton.mpr rfl)]
      have hsi : ScatterDims.siIdx give u ⟨List.idxOf (1 : Fin 3) (ScatterDims.scatterDimsToOperandDims give),
          List.idxOf_lt_length_iff.2 (List.mem_singleton.mpr rfl)⟩ = inColumn (u 1) := by
        funext b
        match b with
        | ⟨0, _⟩ => rfl
        | ⟨1, _⟩ => rfl
      rw [hsi]
      exact (congrArg (fun z : ℤ => z + ((0 : ℕ) : ℤ)) (column_word v h (u 1))).trans (Int.add_zero _)
    · exact (Int.zero_add _).trans rfl
  unfold ScatterDims.resultIdx?
  rw [dif_pos fun a => ⟨(e a).symm ▸ Int.natCast_nonneg _, (e a).symm ▸ Int.ofNat_lt.2 (within u (blockOf v (u 1)) a).isLt⟩]
  exact congrArg some (funext fun a => Fin.ext ((congrArg Int.toNat (e a)).trans (Int.toNat_natCast _)))

/-- The result at an index: the products of the paths whose output block is the index's. -/
theorem result_apply (x y : FVec Ideal S8192x64x32 .f32) (s : FVec Ideal S128 .f32) (i1 i2 io : IVec S128 32)
    (h1 : ∀ j, (i1 j).toNat < 64) (h2 : ∀ j, (i2 j).toNat < 64) (ho : ∀ j, (io j).toNat < 64) (n : Fin 8192) (o : Fin 64) (c : Fin 32) :
    result x y s i1 i2 io (ix3 n o c)
      = (∑ p : Fin 128, if blockOf io p = o then s (ix1 p) * x (ix3 n (blockOf i1 p) c) * y (ix3 n (blockOf i2 p) c) else 0 : EReal) := by
  have hz : (broadcastInDim S8192x64x32 ![] bcast_S_S8192x64x32 (constant S_ FTy.f32 0#32) : FVec Ideal S8192x64x32 .f32) (ix3 n o c) = (0 : EReal) :=
    Ideal.ofBits_zero_f32
  show ((broadcastInDim S8192x64x32 ![] bcast_S_S8192x64x32 (constant S_ FTy.f32 0#32) : FVec Ideal S8192x64x32 .f32) (ix3 n o c)
    + ∑ u ∈ Finset.univ.filter (fun u => ScatterDims.resultIdx? give u (column io) = some (ix3 n o c)), products x y s i1 i2 u : EReal) = _
  rw [hz, zero_add, ← Finset.sum_filter]
  symm
  refine Finset.sum_bij (fun p _ => ix3 n p c) ?_ ?_ ?_ ?_
  · intro p hp
    rw [Finset.mem_filter] at hp ⊢
    exact ⟨Finset.mem_univ _, (lands io ho _).trans (congrArg some ((congrArg (within (ix3 n p c)) hp.2).trans (within_ix3 n p c o)))⟩
  · intro p _ p' _ e
    exact congrFun e 1
  · intro u hu
    rw [Finset.mem_filter, lands io ho u] at hu
    have e := Option.some.inj hu.2
    refine ⟨u 1, Finset.mem_filter.2 ⟨Finset.mem_univ _, congrFun e 1⟩, ?_⟩
    funext a
    match a with
    | ⟨0, _⟩ => exact (congrFun e 0).symm
    | ⟨1, _⟩ => rfl
    | ⟨2, _⟩ => exact (congrFun e 2).symm
  · intro p _
    rw [← within_ix3 n p c, ← within_ix3 n p c]
    exact (products_apply x y s i1 i2 h1 h2 (ix3 n p c)).symm

end Cert.Proof.Reference

end
-- ==== Proof.Value.lean ====
/-
  The value: over the extended reals the kernel's output is the reference's.
-/
module

public import proofs.«01_k».proof.Proof.Frames
public import proofs.«01_k».proof.Proof.Reference
public import Idealize.ShloMosaic.Lib.Pipeline.Value

@[expose] public section

noncomputable section

namespace Cert.Proof.Value

open Cert.KernelIdeal Cert.KernelIdeal.Gen
open Idealize.ShloMosaic Idealize.SL.Sem
open Cert.Proof.Body

/-- What the paths leave, as a sum. -/
theorem accum_eq (A B O : ℕ → Fin 64) (sc : ℕ → Ideal .f32) (X Y : S8x2048.Idx → Ideal .f32) (n : ℕ) (y : S8x2048.Idx) :
    accum A B O sc X Y n y = (∑ p ∈ Finset.range n, if (y 1).val / 32 = (O p).val then X (blockAt y (A p)) * Y (blockAt y (B p)) * sc p else 0 : EReal) := by
  induction n with
  | zero => exact Ideal.ofBits_zero_f32
  | succ n ih =>
    rw [Finset.sum_range_succ, ← ih]
    show (if _ then (_ + _ : EReal) else _) = _
    split
    · rfl
    · exact (add_zero _).symm

/-- The place of element `c` of block `o` in a row of 2048. -/
abbrev flat (n : Fin 8192) (o : Fin 64) (c : Fin 32) : S8192x2048.Idx :=
  ValueIdx.ix2 n ⟨32 * o.val + c.val, by have := o.isLt; have := c.isLt; omega⟩

theorem flat_pos (n : Fin 8192) (o : Fin 64) (c : Fin 32) :
    (S8192x64x32.rowMajor (ValueIdx.ix3 n o c)).val = (S8192x2048.rowMajor (flat n o c)).val := by
  rw [Shape.rowMajor_val_three, Shape.rowMajor_val_two]
  show (n.val * 64 + o.val) * 32 + c.val = n.val * 2048 + (32 * o.val + c.val)
  omega

theorem chunk_at (x : S8192x64x32.Idx → Ideal .f32) (n : Fin 8192) (o : Fin 64) (c : Fin 32) (a : Fin 64) (y : S8x2048.Idx)
    (h0 : (y 0).val = n.val % 8) (h1 : (y 1).val = 32 * o.val + c.val) :
    chunkOf (shapeCast S8192x2048 x shapeCasts_S8192x64x32_S8192x2048) (n.val / 8) (blockAt y a) = x (ValueIdx.ix3 n a c) := by
  refine shapeCast_apply x _ _ (ValueIdx.ix3 n a c) ((flat_pos n a c).trans (congrArg (fun j => (S8192x2048.rowMajor j).val) (funext fun i => Fin.ext ?_)))
  have hn := n.isLt
  have hc := c.isLt
  match i with
  | ⟨0, _⟩ =>
    show n.val = (8 * (n.val / 8) + (y 0).val) % 8192
    omega
  | ⟨1, _⟩ =>
    show 32 * a.val + c.val = 32 * a.val + (y 1).val % 32
    omega

theorem wrap_val (p : Fin 128) : wrap p.val = ValueIdx.ix1 p := funext fun a => match a with
  | ⟨0, _⟩ => Fin.ext (Nat.mod_eq_of_lt p.isLt)

variable (m : (ℓ : Loc nD τ sig) → Buf (Elt Ideal) ℓ)

theorem value (d : Dev nD) (hpre : PreOK (F := Ideal) m) :
    resultOf (F := Ideal) m d = Reference.result (m (tc d main_arg0)) (m (tc d main_arg1)) (m (tc d main_arg2)) (m (tc d main_arg3))
      (m (tc d main_arg4)) (m (tc d main_arg5)) := by
  funext j
  obtain ⟨n, o, c, rfl⟩ : ∃ (n : Fin 8192) (o : Fin 64) (c : Fin 32), j = ValueIdx.ix3 n o c := ⟨j 0, j 1, j 2, ValueIdx.eq_ix3 j⟩
  obtain ⟨h1, h2, h3⟩ := hpre d
  refine Eq.trans ?_ (Reference.result_apply (m (tc d main_arg0)) (m (tc d main_arg1)) (m (tc d main_arg2)) (m (tc d main_arg3))
    (m (tc d main_arg4)) (m (tc d main_arg5)) h1 h2 h3 n o c).symm
  refine (shapeCast_apply (outOf m d) _ _ (flat n o c) (flat_pos n o c).symm).trans ?_
  refine (accum_eq _ _ _ _ _ _ 128 _).trans ?_
  rw [Finset.sum_range]
  refine Finset.sum_congr rfl fun p _ => ?_
  have hc := c.isLt
  have hw (v : S128.Idx → BitVec 32) : blockNo v p.val = Reference.blockOf v p := Fin.ext (congrArg (fun i => (v i).toNat % 64) (wrap_val p))
  have hs : ((argsOf m d).job.sc p.val : EReal) = m (tc d main_arg2) (ValueIdx.ix1 p) := by
    show (Ideal.ofBits .f32 0x00000000#32 + m (tc d main_arg2) (wrap p.val) : EReal) = _
    rw [Ideal.ofBits_zero_f32, zero_add, wrap_val]
  have ho : ((32 * o.val + c.val) / 32 = (Reference.blockOf (m (tc d main_arg5)) p).val) ↔ Reference.blockOf (m (tc d main_arg5)) p = o := by
    rw [Fin.ext_iff]; omega
  refine (if_congr ?_ ?_ rfl)
  · refine Iff.trans ?_ ho
    rw [← hw]
    exact Iff.rfl
  · rw [hs]
    refine (congrArg (fun z : EReal => z * _) (congrArg₂ (fun a b : EReal => a * b)
      (chunk_at (m (tc d main_arg0)) n o c _ _ rfl rfl) (chunk_at (m (tc d main_arg1)) n o c _ _ rfl rfl))).trans ?_
    rw [← hw, ← hw]
    exact (mul_comm _ _).trans (mul_assoc _ _ _).symm

/-- Over the extended reals the kernel computes what the reference computes. -/
theorem algebraic : Cert.algebraic_KernelIdeal_ReferenceIdeal := by
  intro m g m' g' hpre hagree
  refine ⟨fun c => resultOf (F := Ideal) m c, ?_, ?_⟩
  · exact (θ_run (Cert.KernelIdeal.defs (F := Ideal)) _ _).mono (fun _ h c => ⟨(h.1 c).2, (h.1 c).1⟩)
      (run_main (F := Ideal) m g (Frames.ok_of_pre m hpre))
  · refine θ_run_mono (Reference.run_main m' g') fun r h c => ⟨(h c).1.trans ?_, (h c).2⟩
    obtain ⟨e0, e1, e2, e3, e4, e5⟩ := hagree c
    rw [e0, e1, e2, e3, e4, e5]
    exact (value m c (Frames.ok_of_pre m hpre)).symm

end Cert.Proof.Value

end
-- ==== Proof.lean ====
/-
  The proof of `Cert.Claim`: the frames of the kernel in both printings (Proof/Frames.lean) and of the reference
  (Proof/Reference.lean), and the equality of kernel and reference over the extended reals (Proof/Value.lean). No rewrite
  took place between the two printings of the kernel, so what `preserves` asks is true as it stands.
-/
module

public import proofs.«01_k».proof.Defs
public import proofs.«01_k».proof.Proof.Frames
public import proofs.«01_k».proof.Proof.Reference
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    Frames.frame, Frames.frame_ideal, Reference.frame, Reference.frame_pre, trivial, Value.algebraic⟩

end Cert.Proof

end
